-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dense1 (m : (ℓ : Loc Cert.Dense1.nD Cert.Dense1.τ Cert.Dense1.sig) → Buf (Elt Bits) ℓ) : Prop :=
  True

def Pre_Dense1Ideal (m : (ℓ : Loc Cert.Dense1Ideal.nD Cert.Dense1Ideal.τ Cert.Dense1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Dense2 (m : (ℓ : Loc Cert.Dense2.nD Cert.Dense2.τ Cert.Dense2.sig) → Buf (Elt Bits) ℓ) : Prop :=
  True

def Pre_Dense2Ideal (m : (ℓ : Loc Cert.Dense2Ideal.nD Cert.Dense2Ideal.τ Cert.Dense2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dense1 [hDense1 : Cert.Dense1.Facts] : Prop :=
  ∀ (m : (ℓ : Loc Cert.Dense1.nD Cert.Dense1.τ Cert.Dense1.sig) → Buf (Elt Bits) ℓ) (g : Dev Cert.Dense1.nD → PrngReg), Pre_Dense1 m →
    θ_run (Cert.Dense1.defs (F := Bits)) (onTc (τ := Cert.Dense1.τ) (Cert.Dense1.main (F := Bits))) ⟨m, fun _ => 0, g⟩ (fun r => (∀ c : Dev Cert.Dense1.nD,
      r.2.mem ((c.tc : Thread Cert.Dense1.nD Cert.Dense1.τ).loc Cert.Dense1.main_arg0) = m ((c.tc : Thread Cert.Dense1.nD Cert.Dense1.τ).loc Cert.Dense1.main_arg0)
      ∧ r.2.mem ((c.tc : Thread Cert.Dense1.nD Cert.Dense1.τ).loc Cert.Dense1.main_arg1) = m ((c.tc : Thread Cert.Dense1.nD Cert.Dense1.τ).loc Cert.Dense1.main_arg1)
      ∧ r.2.mem ((c.tc : Thread Cert.Dense1.nD Cert.Dense1.τ).loc Cert.Dense1.main_arg2) = m ((c.tc : Thread Cert.Dense1.nD Cert.Dense1.τ).loc Cert.Dense1.main_arg2)
      ∧ r.2.mem ((c.tc : Thread Cert.Dense1.nD Cert.Dense1.τ).loc Cert.Dense1.main_arg3) = m ((c.tc : Thread Cert.Dense1.nD Cert.Dense1.τ).loc Cert.Dense1.main_arg3)
      ∧ r.2.mem ((c.tc : Thread Cert.Dense1.nD Cert.Dense1.τ).loc Cert.Dense1.main_arg4) = m ((c.tc : Thread Cert.Dense1.nD Cert.Dense1.τ).loc Cert.Dense1.main_arg4)
      ∧ r.2.mem ((c.tc : Thread Cert.Dense1.nD Cert.Dense1.τ).loc Cert.Dense1.main_arg5) = m ((c.tc : Thread Cert.Dense1.nD Cert.Dense1.τ).loc Cert.Dense1.main_arg5)
      ∧ r.2.mem ((c.tc : Thread Cert.Dense1.nD Cert.Dense1.τ).loc Cert.Dense1.main_arg6) = m ((c.tc : Thread Cert.Dense1.nD Cert.Dense1.τ).loc Cert.Dense1.main_arg6)
      ∧ r.2.mem ((c.tc : Thread Cert.Dense1.nD Cert.Dense1.τ).loc Cert.Dense1.main_arg7) = m ((c.tc : Thread Cert.Dense1.nD Cert.Dense1.τ).loc Cert.Dense1.main_arg7)
      ∧ r.2.mem ((c.tc : Thread Cert.Dense1.nD Cert.Dense1.τ).loc Cert.Dense1.main_arg8) = m ((c.tc : Thread Cert.Dense1.nD Cert.Dense1.τ).loc Cert.Dense1.main_arg8)
      ∧ r.2.mem ((c.tc : Thread Cert.Dense1.nD Cert.Dense1.τ).loc Cert.Dense1.main_arg9) = m ((c.tc : Thread Cert.Dense1.nD Cert.Dense1.τ).loc Cert.Dense1.main_arg9)
      ∧ r.2.mem ((c.tc : Thread Cert.Dense1.nD Cert.Dense1.τ).loc Cert.Dense1.main_arg10) = m ((c.tc : Thread Cert.Dense1.nD Cert.Dense1.τ).loc Cert.Dense1.main_arg10)
      ∧ r.2.mem ((c.tc : Thread Cert.Dense1.nD Cert.Dense1.τ).loc Cert.Dense1.main_arg11) = m ((c.tc : Thread Cert.Dense1.nD Cert.Dense1.τ).loc Cert.Dense1.main_arg11)
      ∧ r.2.mem ((c.tc : Thread Cert.Dense1.nD Cert.Dense1.τ).loc Cert.Dense1.main_arg12) = m ((c.tc : Thread Cert.Dense1.nD Cert.Dense1.τ).loc Cert.Dense1.main_arg12)
      ∧ r.2.mem ((c.tc : Thread Cert.Dense1.nD Cert.Dense1.τ).loc Cert.Dense1.main_arg13) = m ((c.tc : Thread Cert.Dense1.nD Cert.Dense1.τ).loc Cert.Dense1.main_arg13)
      ∧ r.2.mem ((c.tc : Thread Cert.Dense1.nD Cert.Dense1.τ).loc Cert.Dense1.main_arg14) = m ((c.tc : Thread Cert.Dense1.nD Cert.Dense1.τ).loc Cert.Dense1.main_arg14)
      ∧ r.2.mem ((c.tc : Thread Cert.Dense1.nD Cert.Dense1.τ).loc Cert.Dense1.main_arg15) = m ((c.tc : Thread Cert.Dense1.nD Cert.Dense1.τ).loc Cert.Dense1.main_arg15)
      ∧ r.2.mem ((c.tc : Thread Cert.Dense1.nD Cert.Dense1.τ).loc Cert.Dense1.main_arg16) = m ((c.tc : Thread Cert.Dense1.nD Cert.Dense1.τ).loc Cert.Dense1.main_arg16)
      ∧ r.2.mem ((c.tc : Thread Cert.Dense1.nD Cert.Dense1.τ).loc Cert.Dense1.main_arg17) = m ((c.tc : Thread Cert.Dense1.nD Cert.Dense1.τ).loc Cert.Dense1.main_arg17)
      ∧ r.2.mem ((c.tc : Thread Cert.Dense1.nD Cert.Dense1.τ).loc Cert.Dense1.main_arg18) = m ((c.tc : Thread Cert.Dense1.nD Cert.Dense1.τ).loc Cert.Dense1.main_arg18))
      ∧ r.2.sem = fun _ => 0)

def quiescent_Dense1Ideal [hDense1Ideal : Cert.Dense1Ideal.Facts] : Prop :=
  ∀ (m : (ℓ : Loc Cert.Dense1Ideal.nD Cert.Dense1Ideal.τ Cert.Dense1Ideal.sig) → Buf (Elt Ideal) ℓ) (g : Dev Cert.Dense1Ideal.nD → PrngReg), Pre_Dense1Ideal m →
    θ_run (Cert.Dense1Ideal.defs (F := Ideal)) (onTc (τ := Cert.Dense1Ideal.τ) (Cert.Dense1Ideal.main (F := Ideal))) ⟨m, fun _ => 0, g⟩ (fun r => (∀ c : Dev Cert.Dense1Ideal.nD,
      r.2.mem ((c.tc : Thread Cert.Dense1Ideal.nD Cert.Dense1Ideal.τ).loc Cert.Dense1Ideal.main_arg0) = m ((c.tc : Thread Cert.Dense1Ideal.nD Cert.Dense1Ideal.τ).loc Cert.Dense1Ideal.main_arg0)
      ∧ r.2.mem ((c.tc : Thread Cert.Dense1Ideal.nD Cert.Dense1Ideal.τ).loc Cert.Dense1Ideal.main_arg1) = m ((c.tc : Thread Cert.Dense1Ideal.nD Cert.Dense1Ideal.τ).loc Cert.Dense1Ideal.main_arg1)
      ∧ r.2.mem ((c.tc : Thread Cert.Dense1Ideal.nD Cert.Dense1Ideal.τ).loc Cert.Dense1Ideal.main_arg2) = m ((c.tc : Thread Cert.Dense1Ideal.nD Cert.Dense1Ideal.τ).loc Cert.Dense1Ideal.main_arg2)
      ∧ r.2.mem ((c.tc : Thread Cert.Dense1Ideal.nD Cert.Dense1Ideal.τ).loc Cert.Dense1Ideal.main_arg3) = m ((c.tc : Thread Cert.Dense1Ideal.nD Cert.Dense1Ideal.τ).loc Cert.Dense1Ideal.main_arg3)
      ∧ r.2.mem ((c.tc : Thread Cert.Dense1Ideal.nD Cert.Dense1Ideal.τ).loc Cert.Dense1Ideal.main_arg4) = m ((c.tc : Thread Cert.Dense1Ideal.nD Cert.Dense1Ideal.τ).loc Cert.Dense1Ideal.main_arg4)
      ∧ r.2.mem ((c.tc : Thread Cert.Dense1Ideal.nD Cert.Dense1Ideal.τ).loc Cert.Dense1Ideal.main_arg5) = m ((c.tc : Thread Cert.Dense1Ideal.nD Cert.Dense1Ideal.τ).loc Cert.Dense1Ideal.main_arg5)
      ∧ r.2.mem ((c.tc : Thread Cert.Dense1Ideal.nD Cert.Dense1Ideal.τ).loc Cert.Dense1Ideal.main_arg6) = m ((c.tc : Thread Cert.Dense1Ideal.nD Cert.Dense1Ideal.τ).loc Cert.Dense1Ideal.main_arg6)
      ∧ r.2.mem ((c.tc : Thread Cert.Dense1Ideal.nD Cert.Dense1Ideal.τ).loc Cert.Dense1Ideal.main_arg7) = m ((c.tc : Thread Cert.Dense1Ideal.nD Cert.Dense1Ideal.τ).loc Cert.Dense1Ideal.main_arg7)
      ∧ r.2.mem ((c.tc : Thread Cert.Dense1Ideal.nD Cert.Dense1Ideal.τ).loc Cert.Dense1Ideal.main_arg8) = m ((c.tc : Thread Cert.Dense1Ideal.nD Cert.Dense1Ideal.τ).loc Cert.Dense1Ideal.main_arg8)
      ∧ r.2.mem ((c.tc : Thread Cert.Dense1Ideal.nD Cert.Dense1Ideal.τ).loc Cert.Dense1Ideal.main_arg9) = m ((c.tc : Thread Cert.Dense1Ideal.nD Cert.Dense1Ideal.τ).loc Cert.Dense1Ideal.main_arg9)
      ∧ r.2.mem ((c.tc : Thread Cert.Dense1Ideal.nD Cert.Dense1Ideal.τ).loc Cert.Dense1Ideal.main_arg10) = m ((c.tc : Thread Cert.Dense1Ideal.nD Cert.Dense1Ideal.τ).loc Cert.Dense1Ideal.main_arg10)
      ∧ r.2.mem ((c.tc : Thread Cert.Dense1Ideal.nD Cert.Dense1Ideal.τ).loc Cert.Dense1Ideal.main_arg11) = m ((c.tc : Thread Cert.Dense1Ideal.nD Cert.Dense1Ideal.τ).loc Cert.Dense1Ideal.main_arg11)
      ∧ r.2.mem ((c.tc : Thread Cert.Dense1Ideal.nD Cert.Dense1Ideal.τ).loc Cert.Dense1Ideal.main_arg12) = m ((c.tc : Thread Cert.Dense1Ideal.nD Cert.Dense1Ideal.τ).loc Cert.Dense1Ideal.main_arg12)
      ∧ r.2.mem ((c.tc : Thread Cert.Dense1Ideal.nD Cert.Dense1Ideal.τ).loc Cert.Dense1Ideal.main_arg13) = m ((c.tc : Thread Cert.Dense1Ideal.nD Cert.Dense1Ideal.τ).loc Cert.Dense1Ideal.main_arg13)
      ∧ r.2.mem ((c.tc : Thread Cert.Dense1Ideal.nD Cert.Dense1Ideal.τ).loc Cert.Dense1Ideal.main_arg14) = m ((c.tc : Thread Cert.Dense1Ideal.nD Cert.Dense1Ideal.τ).loc Cert.Dense1Ideal.main_arg14)
      ∧ r.2.mem ((c.tc : Thread Cert.Dense1Ideal.nD Cert.Dense1Ideal.τ).loc Cert.Dense1Ideal.main_arg15) = m ((c.tc : Thread Cert.Dense1Ideal.nD Cert.Dense1Ideal.τ).loc Cert.Dense1Ideal.main_arg15)
      ∧ r.2.mem ((c.tc : Thread Cert.Dense1Ideal.nD Cert.Dense1Ideal.τ).loc Cert.Dense1Ideal.main_arg16) = m ((c.tc : Thread Cert.Dense1Ideal.nD Cert.Dense1Ideal.τ).loc Cert.Dense1Ideal.main_arg16)
      ∧ r.2.mem ((c.tc : Thread Cert.Dense1Ideal.nD Cert.Dense1Ideal.τ).loc Cert.Dense1Ideal.main_arg17) = m ((c.tc : Thread Cert.Dense1Ideal.nD Cert.Dense1Ideal.τ).loc Cert.Dense1Ideal.main_arg17)
      ∧ r.2.mem ((c.tc : Thread Cert.Dense1Ideal.nD Cert.Dense1Ideal.τ).loc Cert.Dense1Ideal.main_arg18) = m ((c.tc : Thread Cert.Dense1Ideal.nD Cert.Dense1Ideal.τ).loc Cert.Dense1Ideal.main_arg18))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10)
      ∧ r.2.mem ((c.tc : Thread Cert.Reference1Ideal.nD Cert.Reference1Ideal.τ).loc Cert.Reference1Ideal.main_arg11) = m ((c.tc : Thread Cert.Reference1Ideal.nD Cert.Reference1Ideal.τ).loc Cert.Reference1Ideal.main_arg11)
      ∧ r.2.mem ((c.tc : Thread Cert.Reference1Ideal.nD Cert.Reference1Ideal.τ).loc Cert.Reference1Ideal.main_arg12) = m ((c.tc : Thread Cert.Reference1Ideal.nD Cert.Reference1Ideal.τ).loc Cert.Reference1Ideal.main_arg12)
      ∧ r.2.mem ((c.tc : Thread Cert.Reference1Ideal.nD Cert.Reference1Ideal.τ).loc Cert.Reference1Ideal.main_arg13) = m ((c.tc : Thread Cert.Reference1Ideal.nD Cert.Reference1Ideal.τ).loc Cert.Reference1Ideal.main_arg13)
      ∧ r.2.mem ((c.tc : Thread Cert.Reference1Ideal.nD Cert.Reference1Ideal.τ).loc Cert.Reference1Ideal.main_arg14) = m ((c.tc : Thread Cert.Reference1Ideal.nD Cert.Reference1Ideal.τ).loc Cert.Reference1Ideal.main_arg14)
      ∧ r.2.mem ((c.tc : Thread Cert.Reference1Ideal.nD Cert.Reference1Ideal.τ).loc Cert.Reference1Ideal.main_arg15) = m ((c.tc : Thread Cert.Reference1Ideal.nD Cert.Reference1Ideal.τ).loc Cert.Reference1Ideal.main_arg15)
      ∧ r.2.mem ((c.tc : Thread Cert.Reference1Ideal.nD Cert.Reference1Ideal.τ).loc Cert.Reference1Ideal.main_arg16) = m ((c.tc : Thread Cert.Reference1Ideal.nD Cert.Reference1Ideal.τ).loc Cert.Reference1Ideal.main_arg16)
      ∧ r.2.mem ((c.tc : Thread Cert.Reference1Ideal.nD Cert.Reference1Ideal.τ).loc Cert.Reference1Ideal.main_arg17) = m ((c.tc : Thread Cert.Reference1Ideal.nD Cert.Reference1Ideal.τ).loc Cert.Reference1Ideal.main_arg17)
      ∧ r.2.mem ((c.tc : Thread Cert.Reference1Ideal.nD Cert.Reference1Ideal.τ).loc Cert.Reference1Ideal.main_arg18) = m ((c.tc : Thread Cert.Reference1Ideal.nD Cert.Reference1Ideal.τ).loc Cert.Reference1Ideal.main_arg18))
      ∧ r.2.sem = fun _ => 0)

def quiescent_Dense2 [hDense2 : Cert.Dense2.Facts] : Prop :=
  ∀ (m : (ℓ : Loc Cert.Dense2.nD Cert.Dense2.τ Cert.Dense2.sig) → Buf (Elt Bits) ℓ) (g : Dev Cert.Dense2.nD → PrngReg), Pre_Dense2 m →
    θ_run (Cert.Dense2.defs (F := Bits)) (onTc (τ := Cert.Dense2.τ) (Cert.Dense2.main (F := Bits))) ⟨m, fun _ => 0, g⟩ (fun r => (∀ c : Dev Cert.Dense2.nD,
      r.2.mem ((c.tc : Thread Cert.Dense2.nD Cert.Dense2.τ).loc Cert.Dense2.main_arg0) = m ((c.tc : Thread Cert.Dense2.nD Cert.Dense2.τ).loc Cert.Dense2.main_arg0)
      ∧ r.2.mem ((c.tc : Thread Cert.Dense2.nD Cert.Dense2.τ).loc Cert.Dense2.main_arg1) = m ((c.tc : Thread Cert.Dense2.nD Cert.Dense2.τ).loc Cert.Dense2.main_arg1)
      ∧ r.2.mem ((c.tc : Thread Cert.Dense2.nD Cert.Dense2.τ).loc Cert.Dense2.main_arg2) = m ((c.tc : Thread Cert.Dense2.nD Cert.Dense2.τ).loc Cert.Dense2.main_arg2)
      ∧ r.2.mem ((c.tc : Thread Cert.Dense2.nD Cert.Dense2.τ).loc Cert.Dense2.main_arg3) = m ((c.tc : Thread Cert.Dense2.nD Cert.Dense2.τ).loc Cert.Dense2.main_arg3)
      ∧ r.2.mem ((c.tc : Thread Cert.Dense2.nD Cert.Dense2.τ).loc Cert.Dense2.main_arg4) = m ((c.tc : Thread Cert.Dense2.nD Cert.Dense2.τ).loc Cert.Dense2.main_arg4)
      ∧ r.2.mem ((c.tc : Thread Cert.Dense2.nD Cert.Dense2.τ).loc Cert.Dense2.main_arg5) = m ((c.tc : Thread Cert.Dense2.nD Cert.Dense2.τ).loc Cert.Dense2.main_arg5)
      ∧ r.2.mem ((c.tc : Thread Cert.Dense2.nD Cert.Dense2.τ).loc Cert.Dense2.main_arg6) = m ((c.tc : Thread Cert.Dense2.nD Cert.Dense2.τ).loc Cert.Dense2.main_arg6)
      ∧ r.2.mem ((c.tc : Thread Cert.Dense2.nD Cert.Dense2.τ).loc Cert.Dense2.main_arg7) = m ((c.tc : Thread Cert.Dense2.nD Cert.Dense2.τ).loc Cert.Dense2.main_arg7)
      ∧ r.2.mem ((c.tc : Thread Cert.Dense2.nD Cert.Dense2.τ).loc Cert.Dense2.main_arg8) = m ((c.tc : Thread Cert.Dense2.nD Cert.Dense2.τ).loc Cert.Dense2.main_arg8)
      ∧ r.2.mem ((c.tc : Thread Cert.Dense2.nD Cert.Dense2.τ).loc Cert.Dense2.main_arg9) = m ((c.tc : Thread Cert.Dense2.nD Cert.Dense2.τ).loc Cert.Dense2.main_arg9)
      ∧ r.2.mem ((c.tc : Thread Cert.Dense2.nD Cert.Dense2.τ).loc Cert.Dense2.main_arg10) = m ((c.tc : Thread Cert.Dense2.nD Cert.Dense2.τ).loc Cert.Dense2.main_arg10)
      ∧ r.2.mem ((c.tc : Thread Cert.Dense2.nD Cert.Dense2.τ).loc Cert.Dense2.main_arg11) = m ((c.tc : Thread Cert.Dense2.nD Cert.Dense2.τ).loc Cert.Dense2.main_arg11)
      ∧ r.2.mem ((c.tc : Thread Cert.Dense2.nD Cert.Dense2.τ).loc Cert.Dense2.main_arg12) = m ((c.tc : Thread Cert.Dense2.nD Cert.Dense2.τ).loc Cert.Dense2.main_arg12)
      ∧ r.2.mem ((c.tc : Thread Cert.Dense2.nD Cert.Dense2.τ).loc Cert.Dense2.main_arg13) = m ((c.tc : Thread Cert.Dense2.nD Cert.Dense2.τ).loc Cert.Dense2.main_arg13)
      ∧ r.2.mem ((c.tc : Thread Cert.Dense2.nD Cert.Dense2.τ).loc Cert.Dense2.main_arg14) = m ((c.tc : Thread Cert.Dense2.nD Cert.Dense2.τ).loc Cert.Dense2.main_arg14)
      ∧ r.2.mem ((c.tc : Thread Cert.Dense2.nD Cert.Dense2.τ).loc Cert.Dense2.main_arg15) = m ((c.tc : Thread Cert.Dense2.nD Cert.Dense2.τ).loc Cert.Dense2.main_arg15))
      ∧ r.2.sem = fun _ => 0)

def quiescent_Dense2Ideal [hDense2Ideal : Cert.Dense2Ideal.Facts] : Prop :=
  ∀ (m : (ℓ : Loc Cert.Dense2Ideal.nD Cert.Dense2Ideal.τ Cert.Dense2Ideal.sig) → Buf (Elt Ideal) ℓ) (g : Dev Cert.Dense2Ideal.nD → PrngReg), Pre_Dense2Ideal m →
    θ_run (Cert.Dense2Ideal.defs (F := Ideal)) (onTc (τ := Cert.Dense2Ideal.τ) (Cert.Dense2Ideal.main (F := Ideal))) ⟨m, fun _ => 0, g⟩ (fun r => (∀ c : Dev Cert.Dense2Ideal.nD,
      r.2.mem ((c.tc : Thread Cert.Dense2Ideal.nD Cert.Dense2Ideal.τ).loc Cert.Dense2Ideal.main_arg0) = m ((c.tc : Thread Cert.Dense2Ideal.nD Cert.Dense2Ideal.τ).loc Cert.Dense2Ideal.main_arg0)
      ∧ r.2.mem ((c.tc : Thread Cert.Dense2Ideal.nD Cert.Dense2Ideal.τ).loc Cert.Dense2Ideal.main_arg1) = m ((c.tc : Thread Cert.Dense2Ideal.nD Cert.Dense2Ideal.τ).loc Cert.Dense2Ideal.main_arg1)
      ∧ r.2.mem ((c.tc : Thread Cert.Dense2Ideal.nD Cert.Dense2Ideal.τ).loc Cert.Dense2Ideal.main_arg2) = m ((c.tc : Thread Cert.Dense2Ideal.nD Cert.Dense2Ideal.τ).loc Cert.Dense2Ideal.main_arg2)
      ∧ r.2.mem ((c.tc : Thread Cert.Dense2Ideal.nD Cert.Dense2Ideal.τ).loc Cert.Dense2Ideal.main_arg3) = m ((c.tc : Thread Cert.Dense2Ideal.nD Cert.Dense2Ideal.τ).loc Cert.Dense2Ideal.main_arg3)
      ∧ r.2.mem ((c.tc : Thread Cert.Dense2Ideal.nD Cert.Dense2Ideal.τ).loc Cert.Dense2Ideal.main_arg4) = m ((c.tc : Thread Cert.Dense2Ideal.nD Cert.Dense2Ideal.τ).loc Cert.Dense2Ideal.main_arg4)
      ∧ r.2.mem ((c.tc : Thread Cert.Dense2Ideal.nD Cert.Dense2Ideal.τ).loc Cert.Dense2Ideal.main_arg5) = m ((c.tc : Thread Cert.Dense2Ideal.nD Cert.Dense2Ideal.τ).loc Cert.Dense2Ideal.main_arg5)
      ∧ r.2.mem ((c.tc : Thread Cert.Dense2Ideal.nD Cert.Dense2Ideal.τ).loc Cert.Dense2Ideal.main_arg6) = m ((c.tc : Thread Cert.Dense2Ideal.nD Cert.Dense2Ideal.τ).loc Cert.Dense2Ideal.main_arg6)
      ∧ r.2.mem ((c.tc : Thread Cert.Dense2Ideal.nD Cert.Dense2Ideal.τ).loc Cert.Dense2Ideal.main_arg7) = m ((c.tc : Thread Cert.Dense2Ideal.nD Cert.Dense2Ideal.τ).loc Cert.Dense2Ideal.main_arg7)
      ∧ r.2.mem ((c.tc : Thread Cert.Dense2Ideal.nD Cert.Dense2Ideal.τ).loc Cert.Dense2Ideal.main_arg8) = m ((c.tc : Thread Cert.Dense2Ideal.nD Cert.Dense2Ideal.τ).loc Cert.Dense2Ideal.main_arg8)
      ∧ r.2.mem ((c.tc : Thread Cert.Dense2Ideal.nD Cert.Dense2Ideal.τ).loc Cert.Dense2Ideal.main_arg9) = m ((c.tc : Thread Cert.Dense2Ideal.nD Cert.Dense2Ideal.τ).loc Cert.Dense2Ideal.main_arg9)
      ∧ r.2.mem ((c.tc : Thread Cert.Dense2Ideal.nD Cert.Dense2Ideal.τ).loc Cert.Dense2Ideal.main_arg10) = m ((c.tc : Thread Cert.Dense2Ideal.nD Cert.Dense2Ideal.τ).loc Cert.Dense2Ideal.main_arg10)
      ∧ r.2.mem ((c.tc : Thread Cert.Dense2Ideal.nD Cert.Dense2Ideal.τ).loc Cert.Dense2Ideal.main_arg11) = m ((c.tc : Thread Cert.Dense2Ideal.nD Cert.Dense2Ideal.τ).loc Cert.Dense2Ideal.main_arg11)
      ∧ r.2.mem ((c.tc : Thread Cert.Dense2Ideal.nD Cert.Dense2Ideal.τ).loc Cert.Dense2Ideal.main_arg12) = m ((c.tc : Thread Cert.Dense2Ideal.nD Cert.Dense2Ideal.τ).loc Cert.Dense2Ideal.main_arg12)
      ∧ r.2.mem ((c.tc : Thread Cert.Dense2Ideal.nD Cert.Dense2Ideal.τ).loc Cert.Dense2Ideal.main_arg13) = m ((c.tc : Thread Cert.Dense2Ideal.nD Cert.Dense2Ideal.τ).loc Cert.Dense2Ideal.main_arg13)
      ∧ r.2.mem ((c.tc : Thread Cert.Dense2Ideal.nD Cert.Dense2Ideal.τ).loc Cert.Dense2Ideal.main_arg14) = m ((c.tc : Thread Cert.Dense2Ideal.nD Cert.Dense2Ideal.τ).loc Cert.Dense2Ideal.main_arg14)
      ∧ r.2.mem ((c.tc : Thread Cert.Dense2Ideal.nD Cert.Dense2Ideal.τ).loc Cert.Dense2Ideal.main_arg15) = m ((c.tc : Thread Cert.Dense2Ideal.nD Cert.Dense2Ideal.τ).loc Cert.Dense2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dense1_Dense1Ideal : Prop :=
  True

def algebraic_Dense1Ideal_Reference1Ideal [hDense1Ideal : Cert.Dense1Ideal.Facts] [hReference1Ideal : Cert.Reference1Ideal.Facts] : Prop :=
  ∀ (m : (ℓ : Loc Cert.Dense1Ideal.nD Cert.Dense1Ideal.τ Cert.Dense1Ideal.sig) → Buf (Elt Ideal) ℓ) (g : Dev Cert.Dense1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Dense1Ideal m →
    (∀ c : Dev Cert.Dense1Ideal.nD,
      m' ((c.tc : Thread Cert.Reference1Ideal.nD Cert.Reference1Ideal.τ).loc Cert.Reference1Ideal.main_arg0) = m ((c.tc : Thread Cert.Dense1Ideal.nD Cert.Dense1Ideal.τ).loc Cert.Dense1Ideal.main_arg0)
      ∧ m' ((c.tc : Thread Cert.Reference1Ideal.nD Cert.Reference1Ideal.τ).loc Cert.Reference1Ideal.main_arg1) = m ((c.tc : Thread Cert.Dense1Ideal.nD Cert.Dense1Ideal.τ).loc Cert.Dense1Ideal.main_arg1)
      ∧ m' ((c.tc : Thread Cert.Reference1Ideal.nD Cert.Reference1Ideal.τ).loc Cert.Reference1Ideal.main_arg2) = m ((c.tc : Thread Cert.Dense1Ideal.nD Cert.Dense1Ideal.τ).loc Cert.Dense1Ideal.main_arg2)
      ∧ m' ((c.tc : Thread Cert.Reference1Ideal.nD Cert.Reference1Ideal.τ).loc Cert.Reference1Ideal.main_arg3) = m ((c.tc : Thread Cert.Dense1Ideal.nD Cert.Dense1Ideal.τ).loc Cert.Dense1Ideal.main_arg3)
      ∧ m' ((c.tc : Thread Cert.Reference1Ideal.nD Cert.Reference1Ideal.τ).loc Cert.Reference1Ideal.main_arg4) = m ((c.tc : Thread Cert.Dense1Ideal.nD Cert.Dense1Ideal.τ).loc Cert.Dense1Ideal.main_arg4)
      ∧ m' ((c.tc : Thread Cert.Reference1Ideal.nD Cert.Reference1Ideal.τ).loc Cert.Reference1Ideal.main_arg5) = m ((c.tc : Thread Cert.Dense1Ideal.nD Cert.Dense1Ideal.τ).loc Cert.Dense1Ideal.main_arg5)
      ∧ m' ((c.tc : Thread Cert.Reference1Ideal.nD Cert.Reference1Ideal.τ).loc Cert.Reference1Ideal.main_arg6) = m ((c.tc : Thread Cert.Dense1Ideal.nD Cert.Dense1Ideal.τ).loc Cert.Dense1Ideal.main_arg6)
      ∧ m' ((c.tc : Thread Cert.Reference1Ideal.nD Cert.Reference1Ideal.τ).loc Cert.Reference1Ideal.main_arg7) = m ((c.tc : Thread Cert.Dense1Ideal.nD Cert.Dense1Ideal.τ).loc Cert.Dense1Ideal.main_arg7)
      ∧ m' ((c.tc : Thread Cert.Reference1Ideal.nD Cert.Reference1Ideal.τ).loc Cert.Reference1Ideal.main_arg8) = m ((c.tc : Thread Cert.Dense1Ideal.nD Cert.Dense1Ideal.τ).loc Cert.Dense1Ideal.main_arg8)
      ∧ m' ((c.tc : Thread Cert.Reference1Ideal.nD Cert.Reference1Ideal.τ).loc Cert.Reference1Ideal.main_arg9) = m ((c.tc : Thread Cert.Dense1Ideal.nD Cert.Dense1Ideal.τ).loc Cert.Dense1Ideal.main_arg9)
      ∧ m' ((c.tc : Thread Cert.Reference1Ideal.nD Cert.Reference1Ideal.τ).loc Cert.Reference1Ideal.main_arg10) = m ((c.tc : Thread Cert.Dense1Ideal.nD Cert.Dense1Ideal.τ).loc Cert.Dense1Ideal.main_arg10)
      ∧ m' ((c.tc : Thread Cert.Reference1Ideal.nD Cert.Reference1Ideal.τ).loc Cert.Reference1Ideal.main_arg11) = m ((c.tc : Thread Cert.Dense1Ideal.nD Cert.Dense1Ideal.τ).loc Cert.Dense1Ideal.main_arg11)
      ∧ m' ((c.tc : Thread Cert.Reference1Ideal.nD Cert.Reference1Ideal.τ).loc Cert.Reference1Ideal.main_arg12) = m ((c.tc : Thread Cert.Dense1Ideal.nD Cert.Dense1Ideal.τ).loc Cert.Dense1Ideal.main_arg12)
      ∧ m' ((c.tc : Thread Cert.Reference1Ideal.nD Cert.Reference1Ideal.τ).loc Cert.Reference1Ideal.main_arg13) = m ((c.tc : Thread Cert.Dense1Ideal.nD Cert.Dense1Ideal.τ).loc Cert.Dense1Ideal.main_arg13)
      ∧ m' ((c.tc : Thread Cert.Reference1Ideal.nD Cert.Reference1Ideal.τ).loc Cert.Reference1Ideal.main_arg14) = m ((c.tc : Thread Cert.Dense1Ideal.nD Cert.Dense1Ideal.τ).loc Cert.Dense1Ideal.main_arg14)
      ∧ m' ((c.tc : Thread Cert.Reference1Ideal.nD Cert.Reference1Ideal.τ).loc Cert.Reference1Ideal.main_arg15) = m ((c.tc : Thread Cert.Dense1Ideal.nD Cert.Dense1Ideal.τ).loc Cert.Dense1Ideal.main_arg15)
      ∧ m' ((c.tc : Thread Cert.Reference1Ideal.nD Cert.Reference1Ideal.τ).loc Cert.Reference1Ideal.main_arg16) = m ((c.tc : Thread Cert.Dense1Ideal.nD Cert.Dense1Ideal.τ).loc Cert.Dense1Ideal.main_arg16)
      ∧ m' ((c.tc : Thread Cert.Reference1Ideal.nD Cert.Reference1Ideal.τ).loc Cert.Reference1Ideal.main_arg17) = m ((c.tc : Thread Cert.Dense1Ideal.nD Cert.Dense1Ideal.τ).loc Cert.Dense1Ideal.main_arg17)
      ∧ m' ((c.tc : Thread Cert.Reference1Ideal.nD Cert.Reference1Ideal.τ).loc Cert.Reference1Ideal.main_arg18) = m ((c.tc : Thread Cert.Dense1Ideal.nD Cert.Dense1Ideal.τ).loc Cert.Dense1Ideal.main_arg18)) →
    ∃ (v0 : (c : Dev Cert.Dense1Ideal.nD) → Buf (Elt Ideal) ((c.tc : Thread Cert.Dense1Ideal.nD Cert.Dense1Ideal.τ).loc Cert.Dense1Ideal.main_v7_0)) (v1 : (c : Dev Cert.Dense1Ideal.nD) → Buf (Elt Ideal) ((c.tc : Thread Cert.Dense1Ideal.nD Cert.Dense1Ideal.τ).loc Cert.Dense1Ideal.main_v7_1)),
      θ_run (Cert.Dense1Ideal.defs (F := Ideal)) (onTc (τ := Cert.Dense1Ideal.τ) (Cert.Dense1Ideal.main (F := Ideal))) ⟨m, fun _ => 0, g⟩ (fun r => ∀ c : Dev Cert.Dense1Ideal.nD,
          r.2.mem ((c.tc : Thread Cert.Dense1Ideal.nD Cert.Dense1Ideal.τ).loc Cert.Dense1Ideal.main_v7_0) = v0 c
          ∧ r.2.mem ((c.tc : Thread Cert.Dense1Ideal.nD Cert.Dense1Ideal.τ).loc Cert.Dense1Ideal.main_v7_1) = v1 c
          ∧ r.2.mem ((c.tc : Thread Cert.Dense1Ideal.nD Cert.Dense1Ideal.τ).loc Cert.Dense1Ideal.main_arg0) = m ((c.tc : Thread Cert.Dense1Ideal.nD Cert.Dense1Ideal.τ).loc Cert.Dense1Ideal.main_arg0)
          ∧ r.2.mem ((c.tc : Thread Cert.Dense1Ideal.nD Cert.Dense1Ideal.τ).loc Cert.Dense1Ideal.main_arg1) = m ((c.tc : Thread Cert.Dense1Ideal.nD Cert.Dense1Ideal.τ).loc Cert.Dense1Ideal.main_arg1)
          ∧ r.2.mem ((c.tc : Thread Cert.Dense1Ideal.nD Cert.Dense1Ideal.τ).loc Cert.Dense1Ideal.main_arg2) = m ((c.tc : Thread Cert.Dense1Ideal.nD Cert.Dense1Ideal.τ).loc Cert.Dense1Ideal.main_arg2)
          ∧ r.2.mem ((c.tc : Thread Cert.Dense1Ideal.nD Cert.Dense1Ideal.τ).loc Cert.Dense1Ideal.main_arg3) = m ((c.tc : Thread Cert.Dense1Ideal.nD Cert.Dense1Ideal.τ).loc Cert.Dense1Ideal.main_arg3)
          ∧ r.2.mem ((c.tc : Thread Cert.Dense1Ideal.nD Cert.Dense1Ideal.τ).loc Cert.Dense1Ideal.main_arg4) = m ((c.tc : Thread Cert.Dense1Ideal.nD Cert.Dense1Ideal.τ).loc Cert.Dense1Ideal.main_arg4)
          ∧ r.2.mem ((c.tc : Thread Cert.Dense1Ideal.nD Cert.Dense1Ideal.τ).loc Cert.Dense1Ideal.main_arg5) = m ((c.tc : Thread Cert.Dense1Ideal.nD Cert.Dense1Ideal.τ).loc Cert.Dense1Ideal.main_arg5)
          ∧ r.2.mem ((c.tc : Thread Cert.Dense1Ideal.nD Cert.Dense1Ideal.τ).loc Cert.Dense1Ideal.main_arg6) = m ((c.tc : Thread Cert.Dense1Ideal.nD Cert.Dense1Ideal.τ).loc Cert.Dense1Ideal.main_arg6)
          ∧ r.2.mem ((c.tc : Thread Cert.Dense1Ideal.nD Cert.Dense1Ideal.τ).loc Cert.Dense1Ideal.main_arg7) = m ((c.tc : Thread Cert.Dense1Ideal.nD Cert.Dense1Ideal.τ).loc Cert.Dense1Ideal.main_arg7)
          ∧ r.2.mem ((c.tc : Thread Cert.Dense1Ideal.nD Cert.Dense1Ideal.τ).loc Cert.Dense1Ideal.main_arg8) = m ((c.tc : Thread Cert.Dense1Ideal.nD Cert.Dense1Ideal.τ).loc Cert.Dense1Ideal.main_arg8)
          ∧ r.2.mem ((c.tc : Thread Cert.Dense1Ideal.nD Cert.Dense1Ideal.τ).loc Cert.Dense1Ideal.main_arg9) = m ((c.tc : Thread Cert.Dense1Ideal.nD Cert.Dense1Ideal.τ).loc Cert.Dense1Ideal.main_arg9)
          ∧ r.2.mem ((c.tc : Thread Cert.Dense1Ideal.nD Cert.Dense1Ideal.τ).loc Cert.Dense1Ideal.main_arg10) = m ((c.tc : Thread Cert.Dense1Ideal.nD Cert.Dense1Ideal.τ).loc Cert.Dense1Ideal.main_arg10)
          ∧ r.2.mem ((c.tc : Thread Cert.Dense1Ideal.nD Cert.Dense1Ideal.τ).loc Cert.Dense1Ideal.main_arg11) = m ((c.tc : Thread Cert.Dense1Ideal.nD Cert.Dense1Ideal.τ).loc Cert.Dense1Ideal.main_arg11)
          ∧ r.2.mem ((c.tc : Thread Cert.Dense1Ideal.nD Cert.Dense1Ideal.τ).loc Cert.Dense1Ideal.main_arg12) = m ((c.tc : Thread Cert.Dense1Ideal.nD Cert.Dense1Ideal.τ).loc Cert.Dense1Ideal.main_arg12)
          ∧ r.2.mem ((c.tc : Thread Cert.Dense1Ideal.nD Cert.Dense1Ideal.τ).loc Cert.Dense1Ideal.main_arg13) = m ((c.tc : Thread Cert.Dense1Ideal.nD Cert.Dense1Ideal.τ).loc Cert.Dense1Ideal.main_arg13)
          ∧ r.2.mem ((c.tc : Thread Cert.Dense1Ideal.nD Cert.Dense1Ideal.τ).loc Cert.Dense1Ideal.main_arg14) = m ((c.tc : Thread Cert.Dense1Ideal.nD Cert.Dense1Ideal.τ).loc Cert.Dense1Ideal.main_arg14)
          ∧ r.2.mem ((c.tc : Thread Cert.Dense1Ideal.nD Cert.Dense1Ideal.τ).loc Cert.Dense1Ideal.main_arg15) = m ((c.tc : Thread Cert.Dense1Ideal.nD Cert.Dense1Ideal.τ).loc Cert.Dense1Ideal.main_arg15)
          ∧ r.2.mem ((c.tc : Thread Cert.Dense1Ideal.nD Cert.Dense1Ideal.τ).loc Cert.Dense1Ideal.main_arg16) = m ((c.tc : Thread Cert.Dense1Ideal.nD Cert.Dense1Ideal.τ).loc Cert.Dense1Ideal.main_arg16)
          ∧ r.2.mem ((c.tc : Thread Cert.Dense1Ideal.nD Cert.Dense1Ideal.τ).loc Cert.Dense1Ideal.main_arg17) = m ((c.tc : Thread Cert.Dense1Ideal.nD Cert.Dense1Ideal.τ).loc Cert.Dense1Ideal.main_arg17)
          ∧ r.2.mem ((c.tc : Thread Cert.Dense1Ideal.nD Cert.Dense1Ideal.τ).loc Cert.Dense1Ideal.main_arg18) = m ((c.tc : Thread Cert.Dense1Ideal.nD Cert.Dense1Ideal.τ).loc Cert.Dense1Ideal.main_arg18))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v43) = v0 c
          ∧ r.2.mem ((c.tc : Thread Cert.Reference1Ideal.nD Cert.Reference1Ideal.τ).loc Cert.Reference1Ideal.main_v60) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9)
          ∧ r.2.mem ((c.tc : Thread Cert.Reference1Ideal.nD Cert.Reference1Ideal.τ).loc Cert.Reference1Ideal.main_arg10) = m' ((c.tc : Thread Cert.Reference1Ideal.nD Cert.Reference1Ideal.τ).loc Cert.Reference1Ideal.main_arg10)
          ∧ r.2.mem ((c.tc : Thread Cert.Reference1Ideal.nD Cert.Reference1Ideal.τ).loc Cert.Reference1Ideal.main_arg11) = m' ((c.tc : Thread Cert.Reference1Ideal.nD Cert.Reference1Ideal.τ).loc Cert.Reference1Ideal.main_arg11)
          ∧ r.2.mem ((c.tc : Thread Cert.Reference1Ideal.nD Cert.Reference1Ideal.τ).loc Cert.Reference1Ideal.main_arg12) = m' ((c.tc : Thread Cert.Reference1Ideal.nD Cert.Reference1Ideal.τ).loc Cert.Reference1Ideal.main_arg12)
          ∧ r.2.mem ((c.tc : Thread Cert.Reference1Ideal.nD Cert.Reference1Ideal.τ).loc Cert.Reference1Ideal.main_arg13) = m' ((c.tc : Thread Cert.Reference1Ideal.nD Cert.Reference1Ideal.τ).loc Cert.Reference1Ideal.main_arg13)
          ∧ r.2.mem ((c.tc : Thread Cert.Reference1Ideal.nD Cert.Reference1Ideal.τ).loc Cert.Reference1Ideal.main_arg14) = m' ((c.tc : Thread Cert.Reference1Ideal.nD Cert.Reference1Ideal.τ).loc Cert.Reference1Ideal.main_arg14)
          ∧ r.2.mem ((c.tc : Thread Cert.Reference1Ideal.nD Cert.Reference1Ideal.τ).loc Cert.Reference1Ideal.main_arg15) = m' ((c.tc : Thread Cert.Reference1Ideal.nD Cert.Reference1Ideal.τ).loc Cert.Reference1Ideal.main_arg15)
          ∧ r.2.mem ((c.tc : Thread Cert.Reference1Ideal.nD Cert.Reference1Ideal.τ).loc Cert.Reference1Ideal.main_arg16) = m' ((c.tc : Thread Cert.Reference1Ideal.nD Cert.Reference1Ideal.τ).loc Cert.Reference1Ideal.main_arg16)
          ∧ r.2.mem ((c.tc : Thread Cert.Reference1Ideal.nD Cert.Reference1Ideal.τ).loc Cert.Reference1Ideal.main_arg17) = m' ((c.tc : Thread Cert.Reference1Ideal.nD Cert.Reference1Ideal.τ).loc Cert.Reference1Ideal.main_arg17)
          ∧ r.2.mem ((c.tc : Thread Cert.Reference1Ideal.nD Cert.Reference1Ideal.τ).loc Cert.Reference1Ideal.main_arg18) = m' ((c.tc : Thread Cert.Reference1Ideal.nD Cert.Reference1Ideal.τ).loc Cert.Reference1Ideal.main_arg18))

def preserves_Dense2_Dense2Ideal : Prop :=
  True

def algebraic_Dense2Ideal_Reference2Ideal [hDense2Ideal : Cert.Dense2Ideal.Facts] [hReference2Ideal : Cert.Reference2Ideal.Facts] : Prop :=
  ∀ (m : (ℓ : Loc Cert.Dense2Ideal.nD Cert.Dense2Ideal.τ Cert.Dense2Ideal.sig) → Buf (Elt Ideal) ℓ) (g : Dev Cert.Dense2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Dense2Ideal m →
    (∀ c : Dev Cert.Dense2Ideal.nD,
      m' ((c.tc : Thread Cert.Reference2Ideal.nD Cert.Reference2Ideal.τ).loc Cert.Reference2Ideal.main_arg0) = m ((c.tc : Thread Cert.Dense2Ideal.nD Cert.Dense2Ideal.τ).loc Cert.Dense2Ideal.main_arg0)
      ∧ m' ((c.tc : Thread Cert.Reference2Ideal.nD Cert.Reference2Ideal.τ).loc Cert.Reference2Ideal.main_arg1) = m ((c.tc : Thread Cert.Dense2Ideal.nD Cert.Dense2Ideal.τ).loc Cert.Dense2Ideal.main_arg1)
      ∧ m' ((c.tc : Thread Cert.Reference2Ideal.nD Cert.Reference2Ideal.τ).loc Cert.Reference2Ideal.main_arg2) = m ((c.tc : Thread Cert.Dense2Ideal.nD Cert.Dense2Ideal.τ).loc Cert.Dense2Ideal.main_arg2)
      ∧ m' ((c.tc : Thread Cert.Reference2Ideal.nD Cert.Reference2Ideal.τ).loc Cert.Reference2Ideal.main_arg3) = m ((c.tc : Thread Cert.Dense2Ideal.nD Cert.Dense2Ideal.τ).loc Cert.Dense2Ideal.main_arg3)
      ∧ m' ((c.tc : Thread Cert.Reference2Ideal.nD Cert.Reference2Ideal.τ).loc Cert.Reference2Ideal.main_arg4) = m ((c.tc : Thread Cert.Dense2Ideal.nD Cert.Dense2Ideal.τ).loc Cert.Dense2Ideal.main_arg4)
      ∧ m' ((c.tc : Thread Cert.Reference2Ideal.nD Cert.Reference2Ideal.τ).loc Cert.Reference2Ideal.main_arg5) = m ((c.tc : Thread Cert.Dense2Ideal.nD Cert.Dense2Ideal.τ).loc Cert.Dense2Ideal.main_arg5)
      ∧ m' ((c.tc : Thread Cert.Reference2Ideal.nD Cert.Reference2Ideal.τ).loc Cert.Reference2Ideal.main_arg6) = m ((c.tc : Thread Cert.Dense2Ideal.nD Cert.Dense2Ideal.τ).loc Cert.Dense2Ideal.main_arg6)
      ∧ m' ((c.tc : Thread Cert.Reference2Ideal.nD Cert.Reference2Ideal.τ).loc Cert.Reference2Ideal.main_arg7) = m ((c.tc : Thread Cert.Dense2Ideal.nD Cert.Dense2Ideal.τ).loc Cert.Dense2Ideal.main_arg7)
      ∧ m' ((c.tc : Thread Cert.Reference2Ideal.nD Cert.Reference2Ideal.τ).loc Cert.Reference2Ideal.main_arg8) = m ((c.tc : Thread Cert.Dense2Ideal.nD Cert.Dense2Ideal.τ).loc Cert.Dense2Ideal.main_arg8)
      ∧ m' ((c.tc : Thread Cert.Reference2Ideal.nD Cert.Reference2Ideal.τ).loc Cert.Reference2Ideal.main_arg9) = m ((c.tc : Thread Cert.Dense2Ideal.nD Cert.Dense2Ideal.τ).loc Cert.Dense2Ideal.main_arg9)
      ∧ m' ((c.tc : Thread Cert.Reference2Ideal.nD Cert.Reference2Ideal.τ).loc Cert.Reference2Ideal.main_arg10) = m ((c.tc : Thread Cert.Dense2Ideal.nD Cert.Dense2Ideal.τ).loc Cert.Dense2Ideal.main_arg10)
      ∧ m' ((c.tc : Thread Cert.Reference2Ideal.nD Cert.Reference2Ideal.τ).loc Cert.Reference2Ideal.main_arg11) = m ((c.tc : Thread Cert.Dense2Ideal.nD Cert.Dense2Ideal.τ).loc Cert.Dense2Ideal.main_arg11)
      ∧ m' ((c.tc : Thread Cert.Reference2Ideal.nD Cert.Reference2Ideal.τ).loc Cert.Reference2Ideal.main_arg12) = m ((c.tc : Thread Cert.Dense2Ideal.nD Cert.Dense2Ideal.τ).loc Cert.Dense2Ideal.main_arg12)
      ∧ m' ((c.tc : Thread Cert.Reference2Ideal.nD Cert.Reference2Ideal.τ).loc Cert.Reference2Ideal.main_arg13) = m ((c.tc : Thread Cert.Dense2Ideal.nD Cert.Dense2Ideal.τ).loc Cert.Dense2Ideal.main_arg13)
      ∧ m' ((c.tc : Thread Cert.Reference2Ideal.nD Cert.Reference2Ideal.τ).loc Cert.Reference2Ideal.main_arg14) = m ((c.tc : Thread Cert.Dense2Ideal.nD Cert.Dense2Ideal.τ).loc Cert.Dense2Ideal.main_arg14)
      ∧ m' ((c.tc : Thread Cert.Reference2Ideal.nD Cert.Reference2Ideal.τ).loc Cert.Reference2Ideal.main_arg15) = m ((c.tc : Thread Cert.Dense2Ideal.nD Cert.Dense2Ideal.τ).loc Cert.Dense2Ideal.main_arg15)) →
    ∃ (v0 : (c : Dev Cert.Dense2Ideal.nD) → Buf (Elt Ideal) ((c.tc : Thread Cert.Dense2Ideal.nD Cert.Dense2Ideal.τ).loc Cert.Dense2Ideal.main_v11_0)) (v1 : (c : Dev Cert.Dense2Ideal.nD) → Buf (Elt Ideal) ((c.tc : Thread Cert.Dense2Ideal.nD Cert.Dense2Ideal.τ).loc Cert.Dense2Ideal.main_v11_2)) (v2 : (c : Dev Cert.Dense2Ideal.nD) → Buf (Elt Ideal) ((c.tc : Thread Cert.Dense2Ideal.nD Cert.Dense2Ideal.τ).loc Cert.Dense2Ideal.main_v11_1)),
      θ_run (Cert.Dense2Ideal.defs (F := Ideal)) (onTc (τ := Cert.Dense2Ideal.τ) (Cert.Dense2Ideal.main (F := Ideal))) ⟨m, fun _ => 0, g⟩ (fun r => ∀ c : Dev Cert.Dense2Ideal.nD,
          r.2.mem ((c.tc : Thread Cert.Dense2Ideal.nD Cert.Dense2Ideal.τ).loc Cert.Dense2Ideal.main_v11_0) = v0 c
          ∧ r.2.mem ((c.tc : Thread Cert.Dense2Ideal.nD Cert.Dense2Ideal.τ).loc Cert.Dense2Ideal.main_v11_2) = v1 c
          ∧ r.2.mem ((c.tc : Thread Cert.Dense2Ideal.nD Cert.Dense2Ideal.τ).loc Cert.Dense2Ideal.main_v11_1) = v2 c
          ∧ r.2.mem ((c.tc : Thread Cert.Dense2Ideal.nD Cert.Dense2Ideal.τ).loc Cert.Dense2Ideal.main_arg0) = m ((c.tc : Thread Cert.Dense2Ideal.nD Cert.Dense2Ideal.τ).loc Cert.Dense2Ideal.main_arg0)
          ∧ r.2.mem ((c.tc : Thread Cert.Dense2Ideal.nD Cert.Dense2Ideal.τ).loc Cert.Dense2Ideal.main_arg1) = m ((c.tc : Thread Cert.Dense2Ideal.nD Cert.Dense2Ideal.τ).loc Cert.Dense2Ideal.main_arg1)
          ∧ r.2.mem ((c.tc : Thread Cert.Dense2Ideal.nD Cert.Dense2Ideal.τ).loc Cert.Dense2Ideal.main_arg2) = m ((c.tc : Thread Cert.Dense2Ideal.nD Cert.Dense2Ideal.τ).loc Cert.Dense2Ideal.main_arg2)
          ∧ r.2.mem ((c.tc : Thread Cert.Dense2Ideal.nD Cert.Dense2Ideal.τ).loc Cert.Dense2Ideal.main_arg3) = m ((c.tc : Thread Cert.Dense2Ideal.nD Cert.Dense2Ideal.τ).loc Cert.Dense2Ideal.main_arg3)
          ∧ r.2.mem ((c.tc : Thread Cert.Dense2Ideal.nD Cert.Dense2Ideal.τ).loc Cert.Dense2Ideal.main_arg4) = m ((c.tc : Thread Cert.Dense2Ideal.nD Cert.Dense2Ideal.τ).loc Cert.Dense2Ideal.main_arg4)
          ∧ r.2.mem ((c.tc : Thread Cert.Dense2Ideal.nD Cert.Dense2Ideal.τ).loc Cert.Dense2Ideal.main_arg5) = m ((c.tc : Thread Cert.Dense2Ideal.nD Cert.Dense2Ideal.τ).loc Cert.Dense2Ideal.main_arg5)
          ∧ r.2.mem ((c.tc : Thread Cert.Dense2Ideal.nD Cert.Dense2Ideal.τ).loc Cert.Dense2Ideal.main_arg6) = m ((c.tc : Thread Cert.Dense2Ideal.nD Cert.Dense2Ideal.τ).loc Cert.Dense2Ideal.main_arg6)
          ∧ r.2.mem ((c.tc : Thread Cert.Dense2Ideal.nD Cert.Dense2Ideal.τ).loc Cert.Dense2Ideal.main_arg7) = m ((c.tc : Thread Cert.Dense2Ideal.nD Cert.Dense2Ideal.τ).loc Cert.Dense2Ideal.main_arg7)
          ∧ r.2.mem ((c.tc : Thread Cert.Dense2Ideal.nD Cert.Dense2Ideal.τ).loc Cert.Dense2Ideal.main_arg8) = m ((c.tc : Thread Cert.Dense2Ideal.nD Cert.Dense2Ideal.τ).loc Cert.Dense2Ideal.main_arg8)
          ∧ r.2.mem ((c.tc : Thread Cert.Dense2Ideal.nD Cert.Dense2Ideal.τ).loc Cert.Dense2Ideal.main_arg9) = m ((c.tc : Thread Cert.Dense2Ideal.nD Cert.Dense2Ideal.τ).loc Cert.Dense2Ideal.main_arg9)
          ∧ r.2.mem ((c.tc : Thread Cert.Dense2Ideal.nD Cert.Dense2Ideal.τ).loc Cert.Dense2Ideal.main_arg10) = m ((c.tc : Thread Cert.Dense2Ideal.nD Cert.Dense2Ideal.τ).loc Cert.Dense2Ideal.main_arg10)
          ∧ r.2.mem ((c.tc : Thread Cert.Dense2Ideal.nD Cert.Dense2Ideal.τ).loc Cert.Dense2Ideal.main_arg11) = m ((c.tc : Thread Cert.Dense2Ideal.nD Cert.Dense2Ideal.τ).loc Cert.Dense2Ideal.main_arg11)
          ∧ r.2.mem ((c.tc : Thread Cert.Dense2Ideal.nD Cert.Dense2Ideal.τ).loc Cert.Dense2Ideal.main_arg12) = m ((c.tc : Thread Cert.Dense2Ideal.nD Cert.Dense2Ideal.τ).loc Cert.Dense2Ideal.main_arg12)
          ∧ r.2.mem ((c.tc : Thread Cert.Dense2Ideal.nD Cert.Dense2Ideal.τ).loc Cert.Dense2Ideal.main_arg13) = m ((c.tc : Thread Cert.Dense2Ideal.nD Cert.Dense2Ideal.τ).loc Cert.Dense2Ideal.main_arg13)
          ∧ r.2.mem ((c.tc : Thread Cert.Dense2Ideal.nD Cert.Dense2Ideal.τ).loc Cert.Dense2Ideal.main_arg14) = m ((c.tc : Thread Cert.Dense2Ideal.nD Cert.Dense2Ideal.τ).loc Cert.Dense2Ideal.main_arg14)
          ∧ r.2.mem ((c.tc : Thread Cert.Dense2Ideal.nD Cert.Dense2Ideal.τ).loc Cert.Dense2Ideal.main_arg15) = m ((c.tc : Thread Cert.Dense2Ideal.nD Cert.Dense2Ideal.τ).loc Cert.Dense2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hDense1 : Cert.Dense1.Facts) (hDense1Ideal : Cert.Dense1Ideal.Facts) (hReference1Ideal : Cert.Reference1Ideal.Facts) (hDense2 : Cert.Dense2.Facts) (hDense2Ideal : Cert.Dense2Ideal.Facts) (hReference2Ideal : Cert.Reference2Ideal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ quiescent_Dense1 (hDense1 := hDense1)
    ∧ quiescent_Dense1Ideal (hDense1Ideal := hDense1Ideal)
    ∧ quiescent_Reference1Ideal (hReference1Ideal := hReference1Ideal)
    ∧ quiescent_Dense2 (hDense2 := hDense2)
    ∧ quiescent_Dense2Ideal (hDense2Ideal := hDense2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_sorted_segments := hPre_sorted_segments)
    ∧ preserves_Dense1_Dense1Ideal
    ∧ algebraic_Dense1Ideal_Reference1Ideal (hDense1Ideal := hDense1Ideal) (hReference1Ideal := hReference1Ideal)
    ∧ preserves_Dense2_Dense2Ideal
    ∧ algebraic_Dense2Ideal_Reference2Ideal (hDense2Ideal := hDense2Ideal) (hReference2Ideal := hReference2Ideal)
-- ==== Pre_sorted_segments.lean ====
abbrev S320000 : Shape := ⟨1, ![320000]⟩
abbrev S320000x128 : Shape := ⟨2, ![320000, 128]⟩
abbrev S64 : Shape := ⟨1, ![64]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000 .f32) (main_arg1 : IVec S320000 32) (main_arg2 : FVec F S320000x128 .f32) (main_arg3 : FVec F S64 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 64#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000 : Shape := ⟨1, ![320000]⟩
abbrev S320000x128 : Shape := ⟨2, ![320000, 128]⟩
abbrev S64 : Shape := ⟨1, ![64]⟩
abbrev S_ : Shape := ⟨0, ![]⟩
abbrev S7680 : Shape := ⟨1, ![7680]⟩
abbrev S327680 : Shape := ⟨1, ![327680]⟩
abbrev S128 : Shape := ⟨1, ![128]⟩
abbrev S1280 : Shape := ⟨1, ![1280]⟩
abbrev S16384 : Shape := ⟨1, ![16384]⟩
abbrev S20480 : Shape := ⟨1, ![20480]⟩
abbrev S8192 : Shape := ⟨1, ![8192]⟩
abbrev S80x128 : Shape := ⟨2, ![80, 128]⟩
abbrev S40960 : Shape := ⟨1, ![40960]⟩
abbrev S262144 : Shape := ⟨1, ![262144]⟩
abbrev S16 : Shape := ⟨1, ![16]⟩
abbrev S1 : Shape := ⟨1, ![1]⟩
abbrev S1x16 : Shape := ⟨2, ![1, 16]⟩
abbrev S1024 : Shape := ⟨1, ![1024]⟩
abbrev S64x16 : Shape := ⟨2, ![64, 16]⟩
abbrev S2x64x128 : Shape := ⟨3, ![2, 64, 128]⟩
abbrev S1x64x128 : Shape := ⟨3, ![1, 64, 128]⟩
abbrev S64x128 : Shape := ⟨2, ![64, 128]⟩

abbrev nBuf : Table → Nat
  | .hbm => 36
  | .shared => 2
  | .local .scVector .vmem => 11
  | _ => 0

abbrev bufTy : (tb : Table) → Fin (nBuf tb) → BufTy
  | .hbm, ⟨0, _⟩ => ⟨S320000, .f32⟩
  | .hbm, ⟨1, _⟩ => ⟨S320000, .i32⟩
  | .hbm, ⟨2, _⟩ => ⟨S320000x128, .f32⟩
  | .hbm, ⟨3, _⟩ => ⟨S64, .f32⟩
  | .hbm, ⟨4, _⟩ => ⟨S_, .f32⟩
  | .hbm, ⟨5, _⟩ => ⟨S7680, .f32⟩
  | .hbm, ⟨6, _⟩ => ⟨S327680, .f32⟩
  | .hbm, ⟨7, _⟩ => ⟨S_, .i32⟩
  | .hbm, ⟨8, _⟩ => ⟨S7680, .i32⟩
  | .hbm, ⟨9, _⟩ => ⟨S327680, .i32⟩
  | .hbm, ⟨10, _⟩ => ⟨S_, .f32⟩
  | .hbm, ⟨11, _⟩ => ⟨S64, .f32⟩
  | .hbm, ⟨12, _⟩ => ⟨S128, .f32⟩
  | .hbm, ⟨13, _⟩ => ⟨S327680, .f32⟩
  | .hbm, ⟨14, _⟩ => ⟨S327680, .f32⟩
  | .hbm, ⟨15, _⟩ => ⟨S1280, .f32⟩
  | .hbm, ⟨16, _⟩ => ⟨S16384, .f32⟩
  | .hbm, ⟨17, _⟩ => ⟨S16384, .f32⟩
  | .hbm, ⟨18, _⟩ => ⟨S320000, .f32⟩
  | .hbm, ⟨19, _⟩ => ⟨S320000, .f32⟩
  | .hbm, ⟨20, _⟩ => ⟨S1024, .f32⟩
  | .hbm, ⟨21, _⟩ => ⟨S64x16, .f32⟩
  | .hbm, ⟨22, _⟩ => ⟨S2x64x128, .f32⟩
  | .hbm, ⟨23, _⟩ => ⟨S2x64x128, .f32⟩
  | .hbm, ⟨24, _⟩ => ⟨S_, .f32⟩
  | .hbm, ⟨25, _⟩ => ⟨S64, .f32⟩
  | .hbm, ⟨26, _⟩ => ⟨S1x64x128, .f32⟩
  | .hbm, ⟨27, _⟩ => ⟨S64x128, .f32⟩
  | .hbm, ⟨28, _⟩ => ⟨S1x64x128, .f32⟩
  | .hbm, ⟨29, _⟩ => ⟨S64x128, .f32⟩
  | .hbm, ⟨30, _⟩ => ⟨S64x128, .f32⟩
  | .hbm, ⟨31, _⟩ => ⟨S1x64x128, .f32⟩
  | .hbm, ⟨32, _⟩ => ⟨S64x128, .f32⟩
  | .hbm, ⟨33, _⟩ => ⟨S1x64x128, .f32⟩
  | .hbm, ⟨34, _⟩ => ⟨S64x128, .f32⟩
  | .hbm, ⟨35, _⟩ => ⟨S64x128, .f32⟩
  | .shared, ⟨0, _⟩ => ⟨S40960, .f32⟩
  | .shared, ⟨1, _⟩ => ⟨S262144, .f32⟩
  | .local .scVector .vmem, ⟨0, _⟩ => ⟨S20480, .i32⟩
  | .local .scVector .vmem, ⟨1, _⟩ => ⟨S20480, .f32⟩
  | .local .scVector .vmem, ⟨2, _⟩ => ⟨S20480, .f32⟩
  | .local .scVector .vmem, ⟨3, _⟩ => ⟨S128, .f32⟩
  | .local .scVector .vmem, ⟨4, _⟩ => ⟨S1280, .f32⟩
  | .local .scVector .vmem, ⟨5, _⟩ => ⟨S1280, .f32⟩
  | .local .scVector .vmem, ⟨6, _⟩ => ⟨S1280, .f32⟩
  | .local .scVector .vmem, ⟨7, _⟩ => ⟨S8192, .f32⟩
  | .local .scVector .vmem, ⟨8, _⟩ => ⟨S8192, .f32⟩
  | .local .scVector .vmem, ⟨9, _⟩ => ⟨S80x128, .f32⟩
  | .local .scVector .vmem, ⟨10, _⟩ => ⟨S80x128, .f32⟩
  | _, _ => ⟨S320000, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 5 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v1_scv : Ref sig .scVector := ⟨.hbm, 6, rfl⟩
abbrev main_v3_scv : Ref sig .scVector := ⟨.hbm, 9, rfl⟩
abbrev main_arg2_scv : Ref sig .scVector := ⟨.hbm, 2, rfl⟩
abbrev main_v5_scv : Ref sig .scVector := ⟨.hbm, 12, rfl⟩
abbrev main_v6_0_scv : Ref sig .scVector := ⟨.hbm, 13, rfl⟩
abbrev main_v6_1_scv : Ref sig .scVector := ⟨.hbm, 14, rfl⟩
abbrev main_v6_2_scv : Ref sig .scVector := ⟨.hbm, 15, rfl⟩
abbrev main_v6_3_scv : Ref sig .scVector := ⟨.hbm, 16, rfl⟩
abbrev main_v6_4_scv : Ref sig .scVector := ⟨.hbm, 17, rfl⟩
abbrev cc0_scratch11 : Ref sig .scVector := ⟨.shared, 0, rfl⟩
abbrev cc0_scratch12 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c0_i32_7 : BitVec 32 := 0#32
  ![v2.toNat, 0]
def k0_off2 (i : grid0.Coords) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c80_i32_9 : BitVec 32 := 80#32
  let v28 : BitVec 32 := Scalar.addi v2 c80_i32_9
  let c0_i32_10 : BitVec 32 := 0#32
  ![v28.toNat, 0]
def k0_off3 (i : grid0.Coords) : Fin 1 → Nat :=
  let arg1 : BitVec 32 := BitVec.ofNat 32 (i 1).val
  let c20480_i32 : BitVec 32 := 20480#32
  let v0 : BitVec 32 := Scalar.muli arg1 c20480_i32
  ![v0.toNat]
@[reducible] def k0_t1_loop : Scf.Loop 32 :=
  let c0_i32_13 : BitVec 32 := 0#32
  let c80_i32_14 : BitVec 32 := 80#32
  let v31 : BitVec 32 := Scalar.addi c0_i32_13 c80_i32_14
  let c1_i32_15 : BitVec 32 := 1#32
  ⟨c0_i32_13, v31, c1_i32_15⟩
def k0_off4 (k0_t1 : Fin k0_t1_loop.trips) : Fin 1 → Nat :=
  let c0_i32_13 : BitVec 32 := 0#32
  let c1_i32_15 : BitVec 32 := 1#32
  let arg26 : BitVec 32 := Scf.iv c0_i32_13 c1_i32_15 k0_t1
  let c16_i32_71 : BitVec 32 := 16#32
  let v100 : BitVec 32 := Scalar.muli arg26 c16_i32_71
  let v101 : Index := Scalar.indexCast v100
  ![v101.toNat]
def k0_cond1 (i : grid0.Coords) : BitVec 1 :=
  let arg0 : BitVec 32 := BitVec.ofNat 32 (i 0).val
  let c0_i32_17 : BitVec 32 := 0#32
  let v33 : BitVec 1 := Scalar.cmpi .eq arg0 c0_i32_17
  let v34 : BitVec 32 := Scalar.extui v33
  let c0_i32_18 : BitVec 32 := 0#32
  let v35 : BitVec 1 := Scalar.cmpi .ne v34 c0_i32_18
  v35

@[reducible] def k0_t2_loop : Scf.Loop 32 :=
  let c0_i32_72 : BitVec 32 := 0#32
  let c640_i32 : BitVec 32 := 640#32
  let v100 : BitVec 32 := Scalar.addi c0_i32_72 c640_i32
  let c1_i32_73 : BitVec 32 := 1#32
  ⟨c0_i32_72, v100, c1_i32_73⟩
def k0_off5 (k0_t2 : Fin k0_t2_loop.trips) : Fin 1 → Nat :=
  let c0_i32_72 : BitVec 32 := 0#32
  let c1_i32_73 : BitVec 32 := 1#32
  let arg26 : BitVec 32 := Scf.iv c0_i32_72 c1_i32_73 k0_t2
  let c32_i32 : BitVec 32 := 32#32
  let v102 : BitVec 32 := Scalar.muli arg26 c32_i32
  let c0_i32_75 : BitVec 32 := 0#32
  let v103 : BitVec 32 := Scalar.addi v102 c0_i32_75
  let v104 : Index := Scalar.indexCast v103
  ![v104.toNat]

def k0_chk1 (i : grid0.Coords) (v105 : IVec S16 32) : Prop :=
  (∀ (k0_h1 : k0_cond1 i = 1#1), ∀ a x, ((![v105] : Fin 1 → IVec S16 32) a x).toNat < S128.size a)
theorem k0_idx1_inb : ∀ (i : grid0.Coords) (v105 : IVec S16 32) (k0_hw1 : k0_chk1 i v105), ∀ (k0_h1 : k0_cond1 i = 1#1), ∀ a x, ((![v105] : Fin 1 → IVec S16 32) a x).toNat < S128.size a := fun i v105 k0_hw1 k0_h1 => k0_hw1 k0_h1
def k0_off6 (k0_t2 : Fin k0_t2_loop.trips) : Fin 1 → Nat :=
  let c0_i32_72 : BitVec 32 := 0#32
  let c1_i32_73 : BitVec 32 := 1#32
  let arg26 : BitVec 32 := Scf.iv c0_i32_72 c1_i32_73 k0_t2
  let c32_i32 : BitVec 32 := 32#32
  let v102 : BitVec 32 := Scalar.muli arg26 c32_i32
  let c0_i32_75 : BitVec 32 := 0#32
  let v103 : BitVec 32 := Scalar.addi v102 c0_i32_75
  let v110 : Index := Scalar.indexCast v103
  ![v110.toNat]

def k0_chk2 (i : grid0.Coords) (v117 : IVec S16 32) : Prop :=
  (∀ (k0_h1 : k0_cond1 i = 1#1), ∀ a x, ((![v117] : Fin 1 → IVec S16 32) a x).toNat < S1280.size a) ∧
  (∀ (k0_h1 : k0_cond1 i = 1#1), ∀ a x, ((![v117] : Fin 1 → IVec S16 32) a x).toNat < S1280.size a)
theorem k0_idx2_inb : ∀ (i : grid0.Coords) (v117 : IVec S16 32) (k0_hw2 : k0_chk2 i v117), ∀ (k0_h1 : k0_cond1 i = 1#1), ∀ a x, ((![v117] : Fin 1 → IVec S16 32) a x).toNat < S1280.size a := fun i v117 k0_hw2 k0_h1 => k0_hw2.1 k0_h1
theorem k0_idx3_inb : ∀ (i : grid0.Coords) (v117 : IVec S16 32) (k0_hw2 : k0_chk2 i v117), ∀ (k0_h1 : k0_cond1 i = 1#1), ∀ a x, ((![v117] : Fin 1 → IVec S16 32) a x).toNat < S1280.size a := fun i v117 k0_hw2 k0_h1 => k0_hw2.2 k0_h1
def k0_off7 (k0_t2 : Fin k0_t2_loop.trips) : Fin 1 → Nat :=
  let c0_i32_72 : BitVec 32 := 0#32
  let c1_i32_73 : BitVec 32 := 1#32
  let arg26 : BitVec 32 := Scf.iv c0_i32_72 c1_i32_73 k0_t2
  let c32_i32_77 : BitVec 32 := 32#32
  let v118 : BitVec 32 := Scalar.muli arg26 c32_i32_77
  let c16_i32_78 : BitVec 32 := 16#32
  let v119 : BitVec 32 := Scalar.addi v118 c16_i32_78
  let v120 : Index := Scalar.indexCast v119
  ![v120.toNat]

def k0_chk3 (i : grid0.Coords) (v121 : IVec S16 32) : Prop :=
  (∀ (k0_h1 : k0_cond1 i = 1#1), ∀ a x, ((![v121] : Fin 1 → IVec S16 32) a x).toNat < S128.size a)
theorem k0_idx4_inb : ∀ (i : grid0.Coords) (v121 : IVec S16 32) (k0_hw3 : k0_chk3 i v121), ∀ (k0_h1 : k0_cond1 i = 1#1), ∀ a x, ((![v121] : Fin 1 → IVec S16 32) a x).toNat < S128.size a := fun i v121 k0_hw3 k0_h1 => k0_hw3 k0_h1
def k0_off8 (k0_t2 : Fin k0_t2_loop.trips) : Fin 1 → Nat :=
  let c0_i32_72 : BitVec 32 := 0#32
  let c1_i32_73 : BitVec 32 := 1#32
  let arg26 : BitVec 32 := Scf.iv c0_i32_72 c1_i32_73 k0_t2
  let c32_i32_77 : BitVec 32 := 32#32
  let v118 : BitVec 32 := Scalar.muli arg26 c32_i32_77
  let c16_i32_78 : BitVec 32 := 16#32
  let v119 : BitVec 32 := Scalar.addi v118 c16_i32_78
  let v126 : Index := Scalar.indexCast v119
  ![v126.toNat]

def k0_chk4 (i : grid0.Coords) (v133 : IVec S16 32) : Prop :=
  (∀ (k0_h1 : k0_cond1 i = 1#1), ∀ a x, ((![v133] : Fin 1 → IVec S16 32) a x).toNat < S1280.size a) ∧
  (∀ (k0_h1 : k0_cond1 i = 1#1), ∀ a x, ((![v133] : Fin 1 → IVec S16 32) a x).toNat < S1280.size a)
theorem k0_idx5_inb : ∀ (i : grid0.Coords) (v133 : IVec S16 32) (k0_hw4 : k0_chk4 i v133), ∀ (k0_h1 : k0_cond1 i = 1#1), ∀ a x, ((![v133] : Fin 1 → IVec S16 32) a x).toNat < S1280.size a := fun i v133 k0_hw4 k0_h1 => k0_hw4.1 k0_h1
theorem k0_idx6_inb : ∀ (i : grid0.Coords) (v133 : IVec S16 32) (k0_hw4 : k0_chk4 i v133), ∀ (k0_h1 : k0_cond1 i = 1#1), ∀ a x, ((![v133] : Fin 1 → IVec S16 32) a x).toNat < S1280.size a := fun i v133 k0_hw4 k0_h1 => k0_hw4.2 k0_h1
def k0_cond2 (i : grid0.Coords) : BitVec 1 :=
  let arg0 : BitVec 32 := BitVec.ofNat 32 (i 0).val
  let c1_i32_19 : BitVec 32 := 1#32
  let v36 : BitVec 1 := Scalar.cmpi .eq arg0 c1_i32_19
  let v37 : BitVec 32 := Scalar.extui v36
  let c0_i32_20 : BitVec 32 := 0#32
  let v38 : BitVec 1 := Scalar.cmpi .ne v37 c0_i32_20
  v38

@[reducible] def k0_t3_loop : Scf.Loop 32 :=
  let c0_i32_72 : BitVec 32 := 0#32
  let c640_i32 : BitVec 32 := 640#32
  let v100 : BitVec 32 := Scalar.addi c0_i32_72 c640_i32
  let c1_i32_73 : BitVec 32 := 1#32
  ⟨c0_i32_72, v100, c1_i32_73⟩
def k0_off9 (k0_t3 : Fin k0_t3_loop.trips) : Fin 1 → Nat :=
  let c0_i32_72 : BitVec 32 := 0#32
  let c1_i32_73 : BitVec 32 := 1#32
  let arg26 : BitVec 32 := Scf.iv c0_i32_72 c1_i32_73 k0_t3
  let c32_i32 : BitVec 32 := 32#32
  let v102 : BitVec 32 := Scalar.muli arg26 c32_i32
  let c0_i32_75 : BitVec 32 := 0#32
  let v103 : BitVec 32 := Scalar.addi v102 c0_i32_75
  let v104 : Index := Scalar.indexCast v103
  ![v104.toNat]

def k0_chk5 (i : grid0.Coords) (v113 : IVec S16 32) : Prop :=
  (∀ (k0_h2 : k0_cond2 i = 1#1), ∀ a x, ((![v113] : Fin 1 → IVec S16 32) a x).toNat < S1280.size a) ∧
  (∀ (k0_h2 : k0_cond2 i = 1#1), ∀ a x, ((![v113] : Fin 1 → IVec S16 32) a x).toNat < S1280.size a)
theorem k0_idx7_inb : ∀ (i : grid0.Coords) (v113 : IVec S16 32) (k0_hw5 : k0_chk5 i v113), ∀ (k0_h2 : k0_cond2 i = 1#1), ∀ a x, ((![v113] : Fin 1 → IVec S16 32) a x).toNat < S1280.size a := fun i v113 k0_hw5 k0_h2 => k0_hw5.1 k0_h2
theorem k0_idx8_inb : ∀ (i : grid0.Coords) (v113 : IVec S16 32) (k0_hw5 : k0_chk5 i v113), ∀ (k0_h2 : k0_cond2 i = 1#1), ∀ a x, ((![v113] : Fin 1 → IVec S16 32) a x).toNat < S1280.size a := fun i v113 k0_hw5 k0_h2 => k0_hw5.2 k0_h2
def k0_off10 (k0_t3 : Fin k0_t3_loop.trips) : Fin 1 → Nat :=
  let c0_i32_72 : BitVec 32 := 0#32
  let c1_i32_73 : BitVec 32 := 1#32
  let arg26 : BitVec 32 := Scf.iv c0_i32_72 c1_i32_73 k0_t3
  let c32_i32_77 : BitVec 32 := 32#32
  let v114 : BitVec 32 := Scalar.muli arg26 c32_i32_77
  let c16_i32_78 : BitVec 32 := 16#32
  let v115 : BitVec 32 := Scalar.addi v114 c16_i32_78
  let v116 : Index := Scalar.indexCast v115
  ![v116.toNat]

def k0_chk6 (i : grid0.Coords) (v125 : IVec S16 32) : Prop :=
  (∀ (k0_h2 : k0_cond2 i = 1#1), ∀ a x, ((![v125] : Fin 1 → IVec S16 32) a x).toNat < S1280.size a) ∧
  (∀ (k0_h2 : k0_cond2 i = 1#1), ∀ a x, ((![v125] : Fin 1 → IVec S16 32) a x).toNat < S1280.size a)
theorem k0_idx9_inb : ∀ (i : grid0.Coords) (v125 : IVec S16 32) (k0_hw6 : k0_chk6 i v125), ∀ (k0_h2 : k0_cond2 i = 1#1), ∀ a x, ((![v125] : Fin 1 → IVec S16 32) a x).toNat < S1280.size a := fun i v125 k0_hw6 k0_h2 => k0_hw6.1 k0_h2
theorem k0_idx10_inb : ∀ (i : grid0.Coords) (v125 : IVec S16 32) (k0_hw6 : k0_chk6 i v125), ∀ (k0_h2 : k0_cond2 i = 1#1), ∀ a x, ((![v125] : Fin 1 → IVec S16 32) a x).toNat < S1280.size a := fun i v125 k0_hw6 k0_h2 => k0_hw6.2 k0_h2
def k0_off11 (i : grid0.Coords) (c0_i32_21 : BitVec 32) : Fin 1 → Nat :=
  let arg1 : BitVec 32 := BitVec.ofNat 32 (i 1).val
  let c2_i32 : BitVec 32 := 2#32
  let v39 : BitVec 32 := Scalar.muli arg1 c2_i32
  let v40 : BitVec 32 := Scalar.addi v39 c0_i32_21
  let c1280_i32 : BitVec 32 := 1280#32
  let v41 : BitVec 32 := Scalar.muli v40 c1280_i32
  ![v41.toNat]
@[reducible] def k0_t4_loop : Scf.Loop 32 :=
  let c0_i32_26 : BitVec 32 := 0#32
  let c80_i32_27 : BitVec 32 := 80#32
  let v45 : BitVec 32 := Scalar.addi c0_i32_26 c80_i32_27
  let c1_i32_28 : BitVec 32 := 1#32
  ⟨c0_i32_26, v45, c1_i32_28⟩
def k0_off12 (k0_t4 : Fin k0_t4_loop.trips) : Fin 1 → Nat :=
  let c0_i32_26 : BitVec 32 := 0#32
  let c1_i32_28 : BitVec 32 := 1#32
  let arg26 : BitVec 32 := Scf.iv c0_i32_26 c1_i32_28 k0_t4
  let c16_i32_71 : BitVec 32 := 16#32
  let v100 : BitVec 32 := Scalar.muli arg26 c16_i32_71
  let v101 : Index := Scalar.indexCast v100
  ![v101.toNat]
@[reducible] def k0_t5_loop : Scf.Loop 32 :=
  let c0_i32_31 : BitVec 32 := 0#32
  let c16_i32 : BitVec 32 := 16#32
  let v47 : BitVec 32 := Scalar.addi c0_i32_31 c16_i32
  let c1_i32_32 : BitVec 32 := 1#32
  ⟨c0_i32_31, v47, c1_i32_32⟩
def k0_off13 (k0_t5 : Fin k0_t5_loop.trips) (c0_i32_72 : BitVec 32) : Fin 1 → Nat :=
  let c0_i32_31 : BitVec 32 := 0#32
  let c1_i32_32 : BitVec 32 := 1#32
  let arg26 : BitVec 32 := Scf.iv c0_i32_31 c1_i32_32 k0_t5
  let c2_i32_71 : BitVec 32 := 2#32
  let v100 : BitVec 32 := Scalar.muli arg26 c2_i32_71
  let v101 : BitVec 32 := Scalar.addi v100 c0_i32_72
  let c1280_i32_73 : BitVec 32 := 1280#32
  let v102 : BitVec 32 := Scalar.muli v101 c1280_i32_73
  ![v102.toNat]
@[reducible] def k0_t6_loop : Scf.Loop 32 :=
  let c0_i32_75 : BitVec 32 := 0#32
  let c80_i32_76 : BitVec 32 := 80#32
  let v103 : BitVec 32 := Scalar.addi c0_i32_75 c80_i32_76
  let c1_i32_77 : BitVec 32 := 1#32
  ⟨c0_i32_75, v103, c1_i32_77⟩
def k0_off14 (k0_t6 : Fin k0_t6_loop.trips) : Fin 1 → Nat :=
  let c0_i32_75 : BitVec 32 := 0#32
  let c1_i32_77 : BitVec 32 := 1#32
  let arg28 : BitVec 32 := Scf.iv c0_i32_75 c1_i32_77 k0_t6
  let c16_i32_88 : BitVec 32 := 16#32
  let v110 : BitVec 32 := Scalar.muli arg28 c16_i32_88
  let v111 : Index := Scalar.indexCast v110
  ![v111.toNat]
@[reducible] def k0_t7_loop : Scf.Loop 32 :=
  let c0_i32_83 : BitVec 32 := 0#32
  let c80_i32_84 : BitVec 32 := 80#32
  let v108 : BitVec 32 := Scalar.addi c0_i32_83 c80_i32_84
  let c1_i32_85 : BitVec 32 := 1#32
  ⟨c0_i32_83, v108, c1_i32_85⟩
def k0_off15 (k0_t7 : Fin k0_t7_loop.trips) : Fin 1 → Nat :=
  let c0_i32_83 : BitVec 32 := 0#32
  let c1_i32_85 : BitVec 32 := 1#32
  let arg28 : BitVec 32 := Scf.iv c0_i32_83 c1_i32_85 k0_t7
  let c16_i32_88 : BitVec 32 := 16#32
  let v110 : BitVec 32 := Scalar.muli arg28 c16_i32_88
  let v111 : Index := Scalar.indexCast v110
  ![v111.toNat]
@[reducible] def k0_t8_loop : Scf.Loop 32 :=
  let c0_i32_35 : BitVec 32 := 0#32
  let c64_i32 : BitVec 32 := 64#32
  let v49 : BitVec 32 := Scalar.addi c0_i32_35 c64_i32
  let c1_i32_36 : BitVec 32 := 1#32
  ⟨c0_i32_35, v49, c1_i32_36⟩
def k0_off16 (k0_t8 : Fin k0_t8_loop.trips) : Fin 1 → Nat :=
  let c0_i32_35 : BitVec 32 := 0#32
  let c1_i32_36 : BitVec 32 := 1#32
  let arg26 : BitVec 32 := Scf.iv c0_i32_35 c1_i32_36 k0_t8
  let c16_i32_71 : BitVec 32 := 16#32
  let v100 : BitVec 32 := Scalar.muli arg26 c16_i32_71
  let v101 : Index := Scalar.indexCast v100
  ![v101.toNat]
def k0_cond3 (i : grid0.Coords) : BitVec 1 :=
  let arg0 : BitVec 32 := BitVec.ofNat 32 (i 0).val
  let c0_i32_38 : BitVec 32 := 0#32
  let v51 : BitVec 1 := Scalar.cmpi .eq arg0 c0_i32_38
  let v52 : BitVec 32 := Scalar.extui v51
  let c0_i32_39 : BitVec 32 := 0#32
  let v53 : BitVec 1 := Scalar.cmpi .ne v52 c0_i32_39
  v53

@[reducible] def k0_t9_loop : Scf.Loop 32 :=
  let c0_i32_72 : BitVec 32 := 0#32
  let c640_i32 : BitVec 32 := 640#32
  let v100 : BitVec 32 := Scalar.addi c0_i32_72 c640_i32
  let c1_i32_73 : BitVec 32 := 1#32
  ⟨c0_i32_72, v100, c1_i32_73⟩
def k0_off17 (k0_t9 : Fin k0_t9_loop.trips) : Fin 1 → Nat :=
  let c0_i32_75 : BitVec 32 := 0#32
  let c0_i32_72 : BitVec 32 := 0#32
  let c1_i32_73 : BitVec 32 := 1#32
  let arg26 : BitVec 32 := Scf.iv c0_i32_72 c1_i32_73 k0_t9
  let c32_i32 : BitVec 32 := 32#32
  let v102 : BitVec 32 := Scalar.muli arg26 c32_i32
  let v103 : BitVec 32 := Scalar.addi c0_i32_75 v102
  let c0_i32_76 : BitVec 32 := 0#32
  let v104 : BitVec 32 := Scalar.addi v103 c0_i32_76
  let v105 : Index := Scalar.indexCast v104
  ![v105.toNat]

def k0_chk7 (i : grid0.Coords) (v110 : IVec S16 32) : Prop :=
  (∀ (k0_h3 : k0_cond3 i = 1#1), ∀ a x, ((![v110] : Fin 1 → IVec S16 32) a x).toNat < S1280.size a)
theorem k0_idx11_inb : ∀ (i : grid0.Coords) (v110 : IVec S16 32) (k0_hw7 : k0_chk7 i v110), ∀ (k0_h3 : k0_cond3 i = 1#1), ∀ a x, ((![v110] : Fin 1 → IVec S16 32) a x).toNat < S1280.size a := fun i v110 k0_hw7 k0_h3 => k0_hw7 k0_h3
def k0_off18 (k0_t9 : Fin k0_t9_loop.trips) (c0_i32_76 : BitVec 32) : Fin 1 → Nat :=
  let c0_i32_75 : BitVec 32 := 0#32
  let c0_i32_72 : BitVec 32 := 0#32
  let c1_i32_73 : BitVec 32 := 1#32
  let arg26 : BitVec 32 := Scf.iv c0_i32_72 c1_i32_73 k0_t9
  let c32_i32 : BitVec 32 := 32#32
  let v102 : BitVec 32 := Scalar.muli arg26 c32_i32
  let v103 : BitVec 32 := Scalar.addi c0_i32_75 v102
  let v104 : BitVec 32 := Scalar.addi v103 c0_i32_76
  let v113 : Index := Scalar.indexCast v104
  ![v113.toNat]

def k0_chk8 (i : grid0.Coords) (v123 : IVec S16 32) : Prop :=
  (∀ (k0_h3 : k0_cond3 i = 1#1), ∀ a x, ((![v123] : Fin 1 → IVec S16 32) a x).toNat < S1280.size a)
theorem k0_idx12_inb : ∀ (i : grid0.Coords) (v123 : IVec S16 32) (k0_hw8 : k0_chk8 i v123), ∀ (k0_h3 : k0_cond3 i = 1#1), ∀ a x, ((![v123] : Fin 1 → IVec S16 32) a x).toNat < S1280.size a := fun i v123 k0_hw8 k0_h3 => k0_hw8 k0_h3
def k0_off19 (k0_t9 : Fin k0_t9_loop.trips) : Fin 1 → Nat :=
  let c0_i32_79 : BitVec 32 := 0#32
  let c0_i32_72 : BitVec 32 := 0#32
  let c1_i32_73 : BitVec 32 := 1#32
  let arg26 : BitVec 32 := Scf.iv c0_i32_72 c1_i32_73 k0_t9
  let c32_i32_78 : BitVec 32 := 32#32
  let v115 : BitVec 32 := Scalar.muli arg26 c32_i32_78
  let v116 : BitVec 32 := Scalar.addi c0_i32_79 v115
  let c16_i32_80 : BitVec 32 := 16#32
  let v117 : BitVec 32 := Scalar.addi v116 c16_i32_80
  let v126 : Index := Scalar.indexCast v117
  ![v126.toNat]
def k0_cond4 (i : grid0.Coords) : BitVec 1 :=
  let arg0 : BitVec 32 := BitVec.ofNat 32 (i 0).val
  let c1_i32_40 : BitVec 32 := 1#32
  let v54 : BitVec 1 := Scalar.cmpi .eq arg0 c1_i32_40
  let v55 : BitVec 32 := Scalar.extui v54
  let c0_i32_41 : BitVec 32 := 0#32
  let v56 : BitVec 1 := Scalar.cmpi .ne v55 c0_i32_41
  v56

@[reducible] def k0_t10_loop : Scf.Loop 32 :=
  let c0_i32_72 : BitVec 32 := 0#32
  let c320_i32 : BitVec 32 := 320#32
  let v100 : BitVec 32 := Scalar.addi c0_i32_72 c320_i32
  let c1_i32_73 : BitVec 32 := 1#32
  ⟨c0_i32_72, v100, c1_i32_73⟩
def k0_off20 (k0_t10 : Fin k0_t10_loop.trips) : Fin 1 → Nat :=
  let c10240_i32_75 : BitVec 32 := 10240#32
  let c0_i32_72 : BitVec 32 := 0#32
  let c1_i32_73 : BitVec 32 := 1#32
  let arg26 : BitVec 32 := Scf.iv c0_i32_72 c1_i32_73 k0_t10
  let c32_i32 : BitVec 32 := 32#32
  let v102 : BitVec 32 := Scalar.muli arg26 c32_i32
  let v103 : BitVec 32 := Scalar.addi c10240_i32_75 v102
  let c0_i32_76 : BitVec 32 := 0#32
  let v104 : BitVec 32 := Scalar.addi v103 c0_i32_76
  let v105 : Index := Scalar.indexCast v104
  ![v105.toNat]

def k0_chk9 (i : grid0.Coords) (v110 : IVec S16 32) : Prop :=
  (∀ (k0_h4 : k0_cond4 i = 1#1), ∀ a x, ((![v110] : Fin 1 → IVec S16 32) a x).toNat < S1280.size a)
theorem k0_idx13_inb : ∀ (i : grid0.Coords) (v110 : IVec S16 32) (k0_hw9 : k0_chk9 i v110), ∀ (k0_h4 : k0_cond4 i = 1#1), ∀ a x, ((![v110] : Fin 1 → IVec S16 32) a x).toNat < S1280.size a := fun i v110 k0_hw9 k0_h4 => k0_hw9 k0_h4
def k0_off21 (k0_t10 : Fin k0_t10_loop.trips) (c0_i32_76 : BitVec 32) : Fin 1 → Nat :=
  let c10240_i32_75 : BitVec 32 := 10240#32
  let c0_i32_72 : BitVec 32 := 0#32
  let c1_i32_73 : BitVec 32 := 1#32
  let arg26 : BitVec 32 := Scf.iv c0_i32_72 c1_i32_73 k0_t10
  let c32_i32 : BitVec 32 := 32#32
  let v102 : BitVec 32 := Scalar.muli arg26 c32_i32
  let v103 : BitVec 32 := Scalar.addi c10240_i32_75 v102
  let v104 : BitVec 32 := Scalar.addi v103 c0_i32_76
  let v113 : Index := Scalar.indexCast v104
  ![v113.toNat]

def k0_chk10 (i : grid0.Coords) (v123 : IVec S16 32) : Prop :=
  (∀ (k0_h4 : k0_cond4 i = 1#1), ∀ a x, ((![v123] : Fin 1 → IVec S16 32) a x).toNat < S1280.size a)
theorem k0_idx14_inb : ∀ (i : grid0.Coords) (v123 : IVec S16 32) (k0_hw10 : k0_chk10 i v123), ∀ (k0_h4 : k0_cond4 i = 1#1), ∀ a x, ((![v123] : Fin 1 → IVec S16 32) a x).toNat < S1280.size a := fun i v123 k0_hw10 k0_h4 => k0_hw10 k0_h4
def k0_off22 (k0_t10 : Fin k0_t10_loop.trips) : Fin 1 → Nat :=
  let c10240_i32_79 : BitVec 32 := 10240#32
  let c0_i32_72 : BitVec 32 := 0#32
  let c1_i32_73 : BitVec 32 := 1#32
  let arg26 : BitVec 32 := Scf.iv c0_i32_72 c1_i32_73 k0_t10
  let c32_i32_78 : BitVec 32 := 32#32
  let v115 : BitVec 32 := Scalar.muli arg26 c32_i32_78
  let v116 : BitVec 32 := Scalar.addi c10240_i32_79 v115
  let c16_i32_80 : BitVec 32 := 16#32
  let v117 : BitVec 32 := Scalar.addi v116 c16_i32_80
  let v126 : Index := Scalar.indexCast v117
  ![v126.toNat]
@[reducible] def k0_t11_loop : Scf.Loop 32 :=
  let c0_i32_43 : BitVec 32 := 0#32
  let c512_i32 : BitVec 32 := 512#32
  let v57 : BitVec 32 := Scalar.addi c0_i32_43 c512_i32
  let c1_i32_44 : BitVec 32 := 1#32
  ⟨c0_i32_43, v57, c1_i32_44⟩
def k0_off23 (k0_t11 : Fin k0_t11_loop.trips) : Fin 1 → Nat :=
  let c0_i32_43 : BitVec 32 := 0#32
  let c1_i32_44 : BitVec 32 := 1#32
  let arg26 : BitVec 32 := Scf.iv c0_i32_43 c1_i32_44 k0_t11
  let c16_i32_71 : BitVec 32 := 16#32
  let v100 : BitVec 32 := Scalar.muli arg26 c16_i32_71
  let v101 : Index := Scalar.indexCast v100
  ![v101.toNat]
@[reducible] def k0_t12_loop (i : grid0.Coords) : Scf.Loop 32 :=
  let c0_i32_53 : BitVec 32 := 0#32
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let c1_i32_56 : BitVec 32 := 1#32
  ⟨c0_i32_53, v80, c1_i32_56⟩

def k0_chk11 (v109 : IVec S16 32) : Prop :=
  (∀ a x, ((![v109] : Fin 1 → IVec S16 32) a x).toNat < S20480.size a)
theorem k0_idx15_inb : ∀ (v109 : IVec S16 32) (k0_hw11 : k0_chk11 v109), ∀ a x, ((![v109] : Fin 1 → IVec S16 32) a x).toNat < S20480.size a := fun v109 k0_hw11 => k0_hw11

def k0_chk12 (v115 : IVec S16 32) : Prop :=
  (∀ a x, ((![v115] : Fin 1 → IVec S16 32) a x).toNat < S20480.size a)
theorem k0_idx16_inb : ∀ (v115 : IVec S16 32) (k0_hw12 : k0_chk12 v115), ∀ a x, ((![v115] : Fin 1 → IVec S16 32) a x).toNat < S20480.size a := fun v115 k0_hw12 => k0_hw12
@[reducible] def k0_t13_loop : Scf.Loop 32 :=
  let c0_i32_111 : BitVec 32 := 0#32
  let c20_i32 : BitVec 32 := 20#32
  let v180 : BitVec 32 := Scalar.addi c0_i32_111 c20_i32
  let c1_i32_112 : BitVec 32 := 1#32
  ⟨c0_i32_111, v180, c1_i32_112⟩
def k0_cond5 (v125 : BitVec 32) (v131 : BitVec 32) : BitVec 1 :=
  let v132 : BitVec 1 := Scalar.cmpi .eq v125 v131
  let v133 : BitVec 32 := Scalar.extui v132
  let c0_i32_86 : BitVec 32 := 0#32
  let v134 : BitVec 1 := Scalar.cmpi .ne v133 c0_i32_86
  v134

def k0_chk13 (v125 : BitVec 32) (v131 : BitVec 32) (v219 : IVec S16 32) : Prop :=
  (∀ (k0_h5 : k0_cond5 v125 v131 = 1#1), ∀ a x, ((![v219] : Fin 1 → IVec S16 32) a x).toNat < S20480.size a)
theorem k0_idx17_inb : ∀ (v125 : BitVec 32) (v131 : BitVec 32) (v219 : IVec S16 32) (k0_hw13 : k0_chk13 v125 v131 v219), ∀ (k0_h5 : k0_cond5 v125 v131 = 1#1), ∀ a x, ((![v219] : Fin 1 → IVec S16 32) a x).toNat < S20480.size a := fun v125 v131 v219 k0_hw13 k0_h5 => k0_hw13 k0_h5
def k0_off24 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v221 : Index := Scalar.indexCast v215
  let c0_129 : Index := 0#32
  ![v221.toNat, 0]
def k0_off25 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v226 : Index := Scalar.indexCast v215
  let c16 : Index := 16#32
  ![v226.toNat, 16]
def k0_off26 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v231 : Index := Scalar.indexCast v215
  let c32 : Index := 32#32
  ![v231.toNat, 32]
def k0_off27 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v236 : Index := Scalar.indexCast v215
  let c48 : Index := 48#32
  ![v236.toNat, 48]
def k0_off28 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v241 : Index := Scalar.indexCast v215
  let c64 : Index := 64#32
  ![v241.toNat, 64]
def k0_off29 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v246 : Index := Scalar.indexCast v215
  let c80 : Index := 80#32
  ![v246.toNat, 80]
def k0_off30 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v251 : Index := Scalar.indexCast v215
  let c96 : Index := 96#32
  ![v251.toNat, 96]
def k0_off31 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32 : BitVec 32 := 4#32
  let v214 : BitVec 32 := Scalar.muli arg28 c4_i32
  let c0_i32_127 : BitVec 32 := 0#32
  let v215 : BitVec 32 := Scalar.addi v214 c0_i32_127
  let v256 : Index := Scalar.indexCast v215
  let c112 : Index := 112#32
  ![v256.toNat, 112]

def k0_chk14 (v125 : BitVec 32) (v131 : BitVec 32) (v266 : IVec S16 32) : Prop :=
  (∀ (k0_h5 : k0_cond5 v125 v131 = 1#1), ∀ a x, ((![v266] : Fin 1 → IVec S16 32) a x).toNat < S20480.size a)
theorem k0_idx18_inb : ∀ (v125 : BitVec 32) (v131 : BitVec 32) (v266 : IVec S16 32) (k0_hw14 : k0_chk14 v125 v131 v266), ∀ (k0_h5 : k0_cond5 v125 v131 = 1#1), ∀ a x, ((![v266] : Fin 1 → IVec S16 32) a x).toNat < S20480.size a := fun v125 v131 v266 k0_hw14 k0_h5 => k0_hw14 k0_h5
def k0_off32 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v268 : Index := Scalar.indexCast v262
  let c0_133 : Index := 0#32
  ![v268.toNat, 0]
def k0_off33 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v273 : Index := Scalar.indexCast v262
  let c16_134 : Index := 16#32
  ![v273.toNat, 16]
def k0_off34 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v278 : Index := Scalar.indexCast v262
  let c32_135 : Index := 32#32
  ![v278.toNat, 32]
def k0_off35 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v283 : Index := Scalar.indexCast v262
  let c48_136 : Index := 48#32
  ![v283.toNat, 48]
def k0_off36 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v288 : Index := Scalar.indexCast v262
  let c64_137 : Index := 64#32
  ![v288.toNat, 64]
def k0_off37 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v293 : Index := Scalar.indexCast v262
  let c80_138 : Index := 80#32
  ![v293.toNat, 80]
def k0_off38 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v298 : Index := Scalar.indexCast v262
  let c96_139 : Index := 96#32
  ![v298.toNat, 96]
def k0_off39 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_130 : BitVec 32 := 4#32
  let v261 : BitVec 32 := Scalar.muli arg28 c4_i32_130
  let c1_i32_131 : BitVec 32 := 1#32
  let v262 : BitVec 32 := Scalar.addi v261 c1_i32_131
  let v303 : Index := Scalar.indexCast v262
  let c112_140 : Index := 112#32
  ![v303.toNat, 112]

def k0_chk15 (v125 : BitVec 32) (v131 : BitVec 32) (v313 : IVec S16 32) : Prop :=
  (∀ (k0_h5 : k0_cond5 v125 v131 = 1#1), ∀ a x, ((![v313] : Fin 1 → IVec S16 32) a x).toNat < S20480.size a)
theorem k0_idx19_inb : ∀ (v125 : BitVec 32) (v131 : BitVec 32) (v313 : IVec S16 32) (k0_hw15 : k0_chk15 v125 v131 v313), ∀ (k0_h5 : k0_cond5 v125 v131 = 1#1), ∀ a x, ((![v313] : Fin 1 → IVec S16 32) a x).toNat < S20480.size a := fun v125 v131 v313 k0_hw15 k0_h5 => k0_hw15 k0_h5
def k0_off40 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v315 : Index := Scalar.indexCast v309
  let c0_144 : Index := 0#32
  ![v315.toNat, 0]
def k0_off41 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v320 : Index := Scalar.indexCast v309
  let c16_145 : Index := 16#32
  ![v320.toNat, 16]
def k0_off42 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v325 : Index := Scalar.indexCast v309
  let c32_146 : Index := 32#32
  ![v325.toNat, 32]
def k0_off43 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v330 : Index := Scalar.indexCast v309
  let c48_147 : Index := 48#32
  ![v330.toNat, 48]
def k0_off44 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v335 : Index := Scalar.indexCast v309
  let c64_148 : Index := 64#32
  ![v335.toNat, 64]
def k0_off45 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v340 : Index := Scalar.indexCast v309
  let c80_149 : Index := 80#32
  ![v340.toNat, 80]
def k0_off46 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v345 : Index := Scalar.indexCast v309
  let c96_150 : Index := 96#32
  ![v345.toNat, 96]
def k0_off47 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_141 : BitVec 32 := 4#32
  let v308 : BitVec 32 := Scalar.muli arg28 c4_i32_141
  let c2_i32_142 : BitVec 32 := 2#32
  let v309 : BitVec 32 := Scalar.addi v308 c2_i32_142
  let v350 : Index := Scalar.indexCast v309
  let c112_151 : Index := 112#32
  ![v350.toNat, 112]

def k0_chk16 (v125 : BitVec 32) (v131 : BitVec 32) (v360 : IVec S16 32) : Prop :=
  (∀ (k0_h5 : k0_cond5 v125 v131 = 1#1), ∀ a x, ((![v360] : Fin 1 → IVec S16 32) a x).toNat < S20480.size a)
theorem k0_idx20_inb : ∀ (v125 : BitVec 32) (v131 : BitVec 32) (v360 : IVec S16 32) (k0_hw16 : k0_chk16 v125 v131 v360), ∀ (k0_h5 : k0_cond5 v125 v131 = 1#1), ∀ a x, ((![v360] : Fin 1 → IVec S16 32) a x).toNat < S20480.size a := fun v125 v131 v360 k0_hw16 k0_h5 => k0_hw16 k0_h5
def k0_off48 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v362 : Index := Scalar.indexCast v356
  let c0_154 : Index := 0#32
  ![v362.toNat, 0]
def k0_off49 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v367 : Index := Scalar.indexCast v356
  let c16_155 : Index := 16#32
  ![v367.toNat, 16]
def k0_off50 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v372 : Index := Scalar.indexCast v356
  let c32_156 : Index := 32#32
  ![v372.toNat, 32]
def k0_off51 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v377 : Index := Scalar.indexCast v356
  let c48_157 : Index := 48#32
  ![v377.toNat, 48]
def k0_off52 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v382 : Index := Scalar.indexCast v356
  let c64_158 : Index := 64#32
  ![v382.toNat, 64]
def k0_off53 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v387 : Index := Scalar.indexCast v356
  let c80_159 : Index := 80#32
  ![v387.toNat, 80]
def k0_off54 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v392 : Index := Scalar.indexCast v356
  let c96_160 : Index := 96#32
  ![v392.toNat, 96]
def k0_off55 (k0_t13 : Fin k0_t13_loop.trips) : Fin 2 → Nat :=
  let c0_i32_111 : BitVec 32 := 0#32
  let c1_i32_112 : BitVec 32 := 1#32
  let arg28 : BitVec 32 := Scf.iv c0_i32_111 c1_i32_112 k0_t13
  let c4_i32_152 : BitVec 32 := 4#32
  let v355 : BitVec 32 := Scalar.muli arg28 c4_i32_152
  let c3_i32 : BitVec 32 := 3#32
  let v356 : BitVec 32 := Scalar.addi v355 c3_i32
  let v397 : Index := Scalar.indexCast v356
  let c112_161 : Index := 112#32
  ![v397.toNat, 112]

def k0_chk17 (v125 : BitVec 32) (v131 : BitVec 32) (v183 : IVec S16 32) : Prop :=
  (∀ (k0_h5 : k0_cond5 v125 v131 = 1#1), ∀ a x, ((![v183] : Fin 1 → IVec S16 32) a x).toNat < S8192.size a)
theorem k0_idx21_inb : ∀ (v125 : BitVec 32) (v131 : BitVec 32) (v183 : IVec S16 32) (k0_hw17 : k0_chk17 v125 v131 v183), ∀ (k0_h5 : k0_cond5 v125 v131 = 1#1), ∀ a x, ((![v183] : Fin 1 → IVec S16 32) a x).toNat < S8192.size a := fun v125 v131 v183 k0_hw17 k0_h5 => k0_hw17 k0_h5

def k0_chk18 (v125 : BitVec 32) (v131 : BitVec 32) (v185 : IVec S16 32) : Prop :=
  (∀ (k0_h5 : k0_cond5 v125 v131 = 1#1), ∀ a x, ((![v185] : Fin 1 → IVec S16 32) a x).toNat < S8192.size a)
theorem k0_idx22_inb : ∀ (v125 : BitVec 32) (v131 : BitVec 32) (v185 : IVec S16 32) (k0_hw18 : k0_chk18 v125 v131 v185), ∀ (k0_h5 : k0_cond5 v125 v131 = 1#1), ∀ a x, ((![v185] : Fin 1 → IVec S16 32) a x).toNat < S8192.size a := fun v125 v131 v185 k0_hw18 k0_h5 => k0_hw18 k0_h5

def k0_chk19 (v125 : BitVec 32) (v131 : BitVec 32) (v187 : IVec S16 32) : Prop :=
  (∀ (k0_h5 : k0_cond5 v125 v131 = 1#1), ∀ a x, ((![v187] : Fin 1 → IVec S16 32) a x).toNat < S8192.size a)
theorem k0_idx23_inb : ∀ (v125 : BitVec 32) (v131 : BitVec 32) (v187 : IVec S16 32) (k0_hw19 : k0_chk19 v125 v131 v187), ∀ (k0_h5 : k0_cond5 v125 v131 = 1#1), ∀ a x, ((![v187] : Fin 1 → IVec S16 32) a x).toNat < S8192.size a := fun v125 v131 v187 k0_hw19 k0_h5 => k0_hw19 k0_h5

def k0_chk20 (v125 : BitVec 32) (v131 : BitVec 32) (v189 : IVec S16 32) : Prop :=
  (∀ (k0_h5 : k0_cond5 v125 v131 = 1#1), ∀ a x, ((![v189] : Fin 1 → IVec S16 32) a x).toNat < S8192.size a)
theorem k0_idx24_inb : ∀ (v125 : BitVec 32) (v131 : BitVec 32) (v189 : IVec S16 32) (k0_hw20 : k0_chk20 v125 v131 v189), ∀ (k0_h5 : k0_cond5 v125 v131 = 1#1), ∀ a x, ((![v189] : Fin 1 → IVec S16 32) a x).toNat < S8192.size a := fun v125 v131 v189 k0_hw20 k0_h5 => k0_hw20 k0_h5

def k0_chk21 (v125 : BitVec 32) (v131 : BitVec 32) (v191 : IVec S16 32) : Prop :=
  (∀ (k0_h5 : k0_cond5 v125 v131 = 1#1), ∀ a x, ((![v191] : Fin 1 → IVec S16 32) a x).toNat < S8192.size a)
theorem k0_idx25_inb : ∀ (v125 : BitVec 32) (v131 : BitVec 32) (v191 : IVec S16 32) (k0_hw21 : k0_chk21 v125 v131 v191), ∀ (k0_h5 : k0_cond5 v125 v131 = 1#1), ∀ a x, ((![v191] : Fin 1 → IVec S16 32) a x).toNat < S8192.size a := fun v125 v131 v191 k0_hw21 k0_h5 => k0_hw21 k0_h5

def k0_chk22 (v125 : BitVec 32) (v131 : BitVec 32) (v193 : IVec S16 32) : Prop :=
  (∀ (k0_h5 : k0_cond5 v125 v131 = 1#1), ∀ a x, ((![v193] : Fin 1 → IVec S16 32) a x).toNat < S8192.size a)
theorem k0_idx26_inb : ∀ (v125 : BitVec 32) (v131 : BitVec 32) (v193 : IVec S16 32) (k0_hw22 : k0_chk22 v125 v131 v193), ∀ (k0_h5 : k0_cond5 v125 v131 = 1#1), ∀ a x, ((![v193] : Fin 1 → IVec S16 32) a x).toNat < S8192.size a := fun v125 v131 v193 k0_hw22 k0_h5 => k0_hw22 k0_h5

def k0_chk23 (v125 : BitVec 32) (v131 : BitVec 32) (v195 : IVec S16 32) : Prop :=
  (∀ (k0_h5 : k0_cond5 v125 v131 = 1#1), ∀ a x, ((![v195] : Fin 1 → IVec S16 32) a x).toNat < S8192.size a)
theorem k0_idx27_inb : ∀ (v125 : BitVec 32) (v131 : BitVec 32) (v195 : IVec S16 32) (k0_hw23 : k0_chk23 v125 v131 v195), ∀ (k0_h5 : k0_cond5 v125 v131 = 1#1), ∀ a x, ((![v195] : Fin 1 → IVec S16 32) a x).toNat < S8192.size a := fun v125 v131 v195 k0_hw23 k0_h5 => k0_hw23 k0_h5

def k0_chk24 (v125 : BitVec 32) (v131 : BitVec 32) (v197 : IVec S16 32) : Prop :=
  (∀ (k0_h5 : k0_cond5 v125 v131 = 1#1), ∀ a x, ((![v197] : Fin 1 → IVec S16 32) a x).toNat < S8192.size a)
theorem k0_idx28_inb : ∀ (v125 : BitVec 32) (v131 : BitVec 32) (v197 : IVec S16 32) (k0_hw24 : k0_chk24 v125 v131 v197), ∀ (k0_h5 : k0_cond5 v125 v131 = 1#1), ∀ a x, ((![v197] : Fin 1 → IVec S16 32) a x).toNat < S8192.size a := fun v125 v131 v197 k0_hw24 k0_h5 => k0_hw24 k0_h5

def k0_chk25 (v125 : BitVec 32) (v131 : BitVec 32) (v199 : IVec S16 32) : Prop :=
  (∀ (k0_h5 : k0_cond5 v125 v131 = 1#1), ∀ a x, ((![v199] : Fin 1 → IVec S16 32) a x).toNat < S8192.size a)
theorem k0_idx29_inb : ∀ (v125 : BitVec 32) (v131 : BitVec 32) (v199 : IVec S16 32) (k0_hw25 : k0_chk25 v125 v131 v199), ∀ (k0_h5 : k0_cond5 v125 v131 = 1#1), ∀ a x, ((![v199] : Fin 1 → IVec S16 32) a x).toNat < S8192.size a := fun v125 v131 v199 k0_hw25 k0_h5 => k0_hw25 k0_h5

def k0_chk26 (v125 : BitVec 32) (v131 : BitVec 32) (v201 : IVec S16 32) : Prop :=
  (∀ (k0_h5 : k0_cond5 v125 v131 = 1#1), ∀ a x, ((![v201] : Fin 1 → IVec S16 32) a x).toNat < S8192.size a)
theorem k0_idx30_inb : ∀ (v125 : BitVec 32) (v131 : BitVec 32) (v201 : IVec S16 32) (k0_hw26 : k0_chk26 v125 v131 v201), ∀ (k0_h5 : k0_cond5 v125 v131 = 1#1), ∀ a x, ((![v201] : Fin 1 → IVec S16 32) a x).toNat < S8192.size a := fun v125 v131 v201 k0_hw26 k0_h5 => k0_hw26 k0_h5

def k0_chk27 (v125 : BitVec 32) (v131 : BitVec 32) (v203 : IVec S16 32) : Prop :=
  (∀ (k0_h5 : k0_cond5 v125 v131 = 1#1), ∀ a x, ((![v203] : Fin 1 → IVec S16 32) a x).toNat < S8192.size a)
theorem k0_idx31_inb : ∀ (v125 : BitVec 32) (v131 : BitVec 32) (v203 : IVec S16 32) (k0_hw27 : k0_chk27 v125 v131 v203), ∀ (k0_h5 : k0_cond5 v125 v131 = 1#1), ∀ a x, ((![v203] : Fin 1 → IVec S16 32) a x).toNat < S8192.size a := fun v125 v131 v203 k0_hw27 k0_h5 => k0_hw27 k0_h5

def k0_chk28 (v125 : BitVec 32) (v131 : BitVec 32) (v205 : IVec S16 32) : Prop :=
  (∀ (k0_h5 : k0_cond5 v125 v131 = 1#1), ∀ a x, ((![v205] : Fin 1 → IVec S16 32) a x).toNat < S8192.size a)
theorem k0_idx32_inb : ∀ (v125 : BitVec 32) (v131 : BitVec 32) (v205 : IVec S16 32) (k0_hw28 : k0_chk28 v125 v131 v205), ∀ (k0_h5 : k0_cond5 v125 v131 = 1#1), ∀ a x, ((![v205] : Fin 1 → IVec S16 32) a x).toNat < S8192.size a := fun v125 v131 v205 k0_hw28 k0_h5 => k0_hw28 k0_h5

def k0_chk29 (v125 : BitVec 32) (v131 : BitVec 32) (v207 : IVec S16 32) : Prop :=
  (∀ (k0_h5 : k0_cond5 v125 v131 = 1#1), ∀ a x, ((![v207] : Fin 1 → IVec S16 32) a x).toNat < S8192.size a)
theorem k0_idx33_inb : ∀ (v125 : BitVec 32) (v131 : BitVec 32) (v207 : IVec S16 32) (k0_hw29 : k0_chk29 v125 v131 v207), ∀ (k0_h5 : k0_cond5 v125 v131 = 1#1), ∀ a x, ((![v207] : Fin 1 → IVec S16 32) a x).toNat < S8192.size a := fun v125 v131 v207 k0_hw29 k0_h5 => k0_hw29 k0_h5

def k0_chk30 (v125 : BitVec 32) (v131 : BitVec 32) (v209 : IVec S16 32) : Prop :=
  (∀ (k0_h5 : k0_cond5 v125 v131 = 1#1), ∀ a x, ((![v209] : Fin 1 → IVec S16 32) a x).toNat < S8192.size a)
theorem k0_idx34_inb : ∀ (v125 : BitVec 32) (v131 : BitVec 32) (v209 : IVec S16 32) (k0_hw30 : k0_chk30 v125 v131 v209), ∀ (k0_h5 : k0_cond5 v125 v131 = 1#1), ∀ a x, ((![v209] : Fin 1 → IVec S16 32) a x).toNat < S8192.size a := fun v125 v131 v209 k0_hw30 k0_h5 => k0_hw30 k0_h5

def k0_chk31 (v125 : BitVec 32) (v131 : BitVec 32) (v211 : IVec S16 32) : Prop :=
  (∀ (k0_h5 : k0_cond5 v125 v131 = 1#1), ∀ a x, ((![v211] : Fin 1 → IVec S16 32) a x).toNat < S8192.size a)
theorem k0_idx35_inb : ∀ (v125 : BitVec 32) (v131 : BitVec 32) (v211 : IVec S16 32) (k0_hw31 : k0_chk31 v125 v131 v211), ∀ (k0_h5 : k0_cond5 v125 v131 = 1#1), ∀ a x, ((![v211] : Fin 1 → IVec S16 32) a x).toNat < S8192.size a := fun v125 v131 v211 k0_hw31 k0_h5 => k0_hw31 k0_h5

def k0_chk32 (v125 : BitVec 32) (v131 : BitVec 32) (v213 : IVec S16 32) : Prop :=
  (∀ (k0_h5 : k0_cond5 v125 v131 = 1#1), ∀ a x, ((![v213] : Fin 1 → IVec S16 32) a x).toNat < S8192.size a)
theorem k0_idx36_inb : ∀ (v125 : BitVec 32) (v131 : BitVec 32) (v213 : IVec S16 32) (k0_hw32 : k0_chk32 v125 v131 v213), ∀ (k0_h5 : k0_cond5 v125 v131 = 1#1), ∀ a x, ((![v213] : Fin 1 → IVec S16 32) a x).toNat < S8192.size a := fun v125 v131 v213 k0_hw32 k0_h5 => k0_hw32 k0_h5
@[reducible] def k0_t14_loop : Scf.Loop 32 :=
  let c0_i32_112 : BitVec 32 := 0#32
  let c80_i32_113 : BitVec 32 := 80#32
  let v180 : BitVec 32 := Scalar.addi c0_i32_112 c80_i32_113
  let c1_i32_114 : BitVec 32 := 1#32
  ⟨c0_i32_112, v180, c1_i32_114⟩

def k0_chk33 (v125 : BitVec 32) (v131 : BitVec 32) (v185 : IVec S16 32) : Prop :=
  (∀ (k0_h5 : ¬(k0_cond5 v125 v131 = 1#1)), ∀ a x, ((![v185] : Fin 1 → IVec S16 32) a x).toNat < S20480.size a)
theorem k0_idx37_inb : ∀ (v125 : BitVec 32) (v131 : BitVec 32) (v185 : IVec S16 32) (k0_hw33 : k0_chk33 v125 v131 v185), ∀ (k0_h5 : ¬(k0_cond5 v125 v131 = 1#1)), ∀ a x, ((![v185] : Fin 1 → IVec S16 32) a x).toNat < S20480.size a := fun v125 v131 v185 k0_hw33 k0_h5 => k0_hw33 k0_h5

def k0_chk34 (v125 : BitVec 32) (v131 : BitVec 32) (v189 : IVec S16 32) : Prop :=
  (∀ (k0_h5 : ¬(k0_cond5 v125 v131 = 1#1)), ∀ a x, ((![v189] : Fin 1 → IVec S16 32) a x).toNat < S20480.size a)
theorem k0_idx38_inb : ∀ (v125 : BitVec 32) (v131 : BitVec 32) (v189 : IVec S16 32) (k0_hw34 : k0_chk34 v125 v131 v189), ∀ (k0_h5 : ¬(k0_cond5 v125 v131 = 1#1)), ∀ a x, ((![v189] : Fin 1 → IVec S16 32) a x).toNat < S20480.size a := fun v125 v131 v189 k0_hw34 k0_h5 => k0_hw34 k0_h5
def k0_off56 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v194 : Index := Scalar.indexCast arg28
  let c0_120 : Index := 0#32
  ![v194.toNat, 0]

def k0_chk35 (v125 : BitVec 32) (v131 : BitVec 32) (v197 : IVec S16 32) : Prop :=
  (∀ (k0_h5 : ¬(k0_cond5 v125 v131 = 1#1)), ∀ a x, ((![v197] : Fin 1 → IVec S16 32) a x).toNat < S8192.size a)
theorem k0_idx39_inb : ∀ (v125 : BitVec 32) (v131 : BitVec 32) (v197 : IVec S16 32) (k0_hw35 : k0_chk35 v125 v131 v197), ∀ (k0_h5 : ¬(k0_cond5 v125 v131 = 1#1)), ∀ a x, ((![v197] : Fin 1 → IVec S16 32) a x).toNat < S8192.size a := fun v125 v131 v197 k0_hw35 k0_h5 => k0_hw35 k0_h5

def k0_chk36 (v125 : BitVec 32) (v131 : BitVec 32) (v199 : IVec S16 32) : Prop :=
  (∀ (k0_h5 : ¬(k0_cond5 v125 v131 = 1#1)), ∀ a x, ((![v199] : Fin 1 → IVec S16 32) a x).toNat < S8192.size a)
theorem k0_idx40_inb : ∀ (v125 : BitVec 32) (v131 : BitVec 32) (v199 : IVec S16 32) (k0_hw36 : k0_chk36 v125 v131 v199), ∀ (k0_h5 : ¬(k0_cond5 v125 v131 = 1#1)), ∀ a x, ((![v199] : Fin 1 → IVec S16 32) a x).toNat < S8192.size a := fun v125 v131 v199 k0_hw36 k0_h5 => k0_hw36 k0_h5
def k0_off57 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v201 : Index := Scalar.indexCast arg28
  let c16 : Index := 16#32
  ![v201.toNat, 16]

def k0_chk37 (v125 : BitVec 32) (v131 : BitVec 32) (v204 : IVec S16 32) : Prop :=
  (∀ (k0_h5 : ¬(k0_cond5 v125 v131 = 1#1)), ∀ a x, ((![v204] : Fin 1 → IVec S16 32) a x).toNat < S8192.size a)
theorem k0_idx41_inb : ∀ (v125 : BitVec 32) (v131 : BitVec 32) (v204 : IVec S16 32) (k0_hw37 : k0_chk37 v125 v131 v204), ∀ (k0_h5 : ¬(k0_cond5 v125 v131 = 1#1)), ∀ a x, ((![v204] : Fin 1 → IVec S16 32) a x).toNat < S8192.size a := fun v125 v131 v204 k0_hw37 k0_h5 => k0_hw37 k0_h5

def k0_chk38 (v125 : BitVec 32) (v131 : BitVec 32) (v206 : IVec S16 32) : Prop :=
  (∀ (k0_h5 : ¬(k0_cond5 v125 v131 = 1#1)), ∀ a x, ((![v206] : Fin 1 → IVec S16 32) a x).toNat < S8192.size a)
theorem k0_idx42_inb : ∀ (v125 : BitVec 32) (v131 : BitVec 32) (v206 : IVec S16 32) (k0_hw38 : k0_chk38 v125 v131 v206), ∀ (k0_h5 : ¬(k0_cond5 v125 v131 = 1#1)), ∀ a x, ((![v206] : Fin 1 → IVec S16 32) a x).toNat < S8192.size a := fun v125 v131 v206 k0_hw38 k0_h5 => k0_hw38 k0_h5
def k0_off58 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v208 : Index := Scalar.indexCast arg28
  let c32 : Index := 32#32
  ![v208.toNat, 32]

def k0_chk39 (v125 : BitVec 32) (v131 : BitVec 32) (v211 : IVec S16 32) : Prop :=
  (∀ (k0_h5 : ¬(k0_cond5 v125 v131 = 1#1)), ∀ a x, ((![v211] : Fin 1 → IVec S16 32) a x).toNat < S8192.size a)
theorem k0_idx43_inb : ∀ (v125 : BitVec 32) (v131 : BitVec 32) (v211 : IVec S16 32) (k0_hw39 : k0_chk39 v125 v131 v211), ∀ (k0_h5 : ¬(k0_cond5 v125 v131 = 1#1)), ∀ a x, ((![v211] : Fin 1 → IVec S16 32) a x).toNat < S8192.size a := fun v125 v131 v211 k0_hw39 k0_h5 => k0_hw39 k0_h5

def k0_chk40 (v125 : BitVec 32) (v131 : BitVec 32) (v213 : IVec S16 32) : Prop :=
  (∀ (k0_h5 : ¬(k0_cond5 v125 v131 = 1#1)), ∀ a x, ((![v213] : Fin 1 → IVec S16 32) a x).toNat < S8192.size a)
theorem k0_idx44_inb : ∀ (v125 : BitVec 32) (v131 : BitVec 32) (v213 : IVec S16 32) (k0_hw40 : k0_chk40 v125 v131 v213), ∀ (k0_h5 : ¬(k0_cond5 v125 v131 = 1#1)), ∀ a x, ((![v213] : Fin 1 → IVec S16 32) a x).toNat < S8192.size a := fun v125 v131 v213 k0_hw40 k0_h5 => k0_hw40 k0_h5
def k0_off59 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v215 : Index := Scalar.indexCast arg28
  let c48 : Index := 48#32
  ![v215.toNat, 48]

def k0_chk41 (v125 : BitVec 32) (v131 : BitVec 32) (v218 : IVec S16 32) : Prop :=
  (∀ (k0_h5 : ¬(k0_cond5 v125 v131 = 1#1)), ∀ a x, ((![v218] : Fin 1 → IVec S16 32) a x).toNat < S8192.size a)
theorem k0_idx45_inb : ∀ (v125 : BitVec 32) (v131 : BitVec 32) (v218 : IVec S16 32) (k0_hw41 : k0_chk41 v125 v131 v218), ∀ (k0_h5 : ¬(k0_cond5 v125 v131 = 1#1)), ∀ a x, ((![v218] : Fin 1 → IVec S16 32) a x).toNat < S8192.size a := fun v125 v131 v218 k0_hw41 k0_h5 => k0_hw41 k0_h5

def k0_chk42 (v125 : BitVec 32) (v131 : BitVec 32) (v220 : IVec S16 32) : Prop :=
  (∀ (k0_h5 : ¬(k0_cond5 v125 v131 = 1#1)), ∀ a x, ((![v220] : Fin 1 → IVec S16 32) a x).toNat < S8192.size a)
theorem k0_idx46_inb : ∀ (v125 : BitVec 32) (v131 : BitVec 32) (v220 : IVec S16 32) (k0_hw42 : k0_chk42 v125 v131 v220), ∀ (k0_h5 : ¬(k0_cond5 v125 v131 = 1#1)), ∀ a x, ((![v220] : Fin 1 → IVec S16 32) a x).toNat < S8192.size a := fun v125 v131 v220 k0_hw42 k0_h5 => k0_hw42 k0_h5
def k0_off60 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v222 : Index := Scalar.indexCast arg28
  let c64 : Index := 64#32
  ![v222.toNat, 64]

def k0_chk43 (v125 : BitVec 32) (v131 : BitVec 32) (v225 : IVec S16 32) : Prop :=
  (∀ (k0_h5 : ¬(k0_cond5 v125 v131 = 1#1)), ∀ a x, ((![v225] : Fin 1 → IVec S16 32) a x).toNat < S8192.size a)
theorem k0_idx47_inb : ∀ (v125 : BitVec 32) (v131 : BitVec 32) (v225 : IVec S16 32) (k0_hw43 : k0_chk43 v125 v131 v225), ∀ (k0_h5 : ¬(k0_cond5 v125 v131 = 1#1)), ∀ a x, ((![v225] : Fin 1 → IVec S16 32) a x).toNat < S8192.size a := fun v125 v131 v225 k0_hw43 k0_h5 => k0_hw43 k0_h5

def k0_chk44 (v125 : BitVec 32) (v131 : BitVec 32) (v227 : IVec S16 32) : Prop :=
  (∀ (k0_h5 : ¬(k0_cond5 v125 v131 = 1#1)), ∀ a x, ((![v227] : Fin 1 → IVec S16 32) a x).toNat < S8192.size a)
theorem k0_idx48_inb : ∀ (v125 : BitVec 32) (v131 : BitVec 32) (v227 : IVec S16 32) (k0_hw44 : k0_chk44 v125 v131 v227), ∀ (k0_h5 : ¬(k0_cond5 v125 v131 = 1#1)), ∀ a x, ((![v227] : Fin 1 → IVec S16 32) a x).toNat < S8192.size a := fun v125 v131 v227 k0_hw44 k0_h5 => k0_hw44 k0_h5
def k0_off61 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v229 : Index := Scalar.indexCast arg28
  let c80 : Index := 80#32
  ![v229.toNat, 80]

def k0_chk45 (v125 : BitVec 32) (v131 : BitVec 32) (v232 : IVec S16 32) : Prop :=
  (∀ (k0_h5 : ¬(k0_cond5 v125 v131 = 1#1)), ∀ a x, ((![v232] : Fin 1 → IVec S16 32) a x).toNat < S8192.size a)
theorem k0_idx49_inb : ∀ (v125 : BitVec 32) (v131 : BitVec 32) (v232 : IVec S16 32) (k0_hw45 : k0_chk45 v125 v131 v232), ∀ (k0_h5 : ¬(k0_cond5 v125 v131 = 1#1)), ∀ a x, ((![v232] : Fin 1 → IVec S16 32) a x).toNat < S8192.size a := fun v125 v131 v232 k0_hw45 k0_h5 => k0_hw45 k0_h5

def k0_chk46 (v125 : BitVec 32) (v131 : BitVec 32) (v234 : IVec S16 32) : Prop :=
  (∀ (k0_h5 : ¬(k0_cond5 v125 v131 = 1#1)), ∀ a x, ((![v234] : Fin 1 → IVec S16 32) a x).toNat < S8192.size a)
theorem k0_idx50_inb : ∀ (v125 : BitVec 32) (v131 : BitVec 32) (v234 : IVec S16 32) (k0_hw46 : k0_chk46 v125 v131 v234), ∀ (k0_h5 : ¬(k0_cond5 v125 v131 = 1#1)), ∀ a x, ((![v234] : Fin 1 → IVec S16 32) a x).toNat < S8192.size a := fun v125 v131 v234 k0_hw46 k0_h5 => k0_hw46 k0_h5
def k0_off62 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v236 : Index := Scalar.indexCast arg28
  let c96 : Index := 96#32
  ![v236.toNat, 96]

def k0_chk47 (v125 : BitVec 32) (v131 : BitVec 32) (v239 : IVec S16 32) : Prop :=
  (∀ (k0_h5 : ¬(k0_cond5 v125 v131 = 1#1)), ∀ a x, ((![v239] : Fin 1 → IVec S16 32) a x).toNat < S8192.size a)
theorem k0_idx51_inb : ∀ (v125 : BitVec 32) (v131 : BitVec 32) (v239 : IVec S16 32) (k0_hw47 : k0_chk47 v125 v131 v239), ∀ (k0_h5 : ¬(k0_cond5 v125 v131 = 1#1)), ∀ a x, ((![v239] : Fin 1 → IVec S16 32) a x).toNat < S8192.size a := fun v125 v131 v239 k0_hw47 k0_h5 => k0_hw47 k0_h5

def k0_chk48 (v125 : BitVec 32) (v131 : BitVec 32) (v241 : IVec S16 32) : Prop :=
  (∀ (k0_h5 : ¬(k0_cond5 v125 v131 = 1#1)), ∀ a x, ((![v241] : Fin 1 → IVec S16 32) a x).toNat < S8192.size a)
theorem k0_idx52_inb : ∀ (v125 : BitVec 32) (v131 : BitVec 32) (v241 : IVec S16 32) (k0_hw48 : k0_chk48 v125 v131 v241), ∀ (k0_h5 : ¬(k0_cond5 v125 v131 = 1#1)), ∀ a x, ((![v241] : Fin 1 → IVec S16 32) a x).toNat < S8192.size a := fun v125 v131 v241 k0_hw48 k0_h5 => k0_hw48 k0_h5
def k0_off63 (k0_t14 : Fin k0_t14_loop.trips) : Fin 2 → Nat :=
  let c0_i32_112 : BitVec 32 := 0#32
  let c1_i32_114 : BitVec 32 := 1#32
  let arg28 : BitVec 32 := Scf.iv c0_i32_112 c1_i32_114 k0_t14
  let v243 : Index := Scalar.indexCast arg28
  let c112 : Index := 112#32
  ![v243.toNat, 112]

def k0_chk49 (v125 : BitVec 32) (v131 : BitVec 32) (v246 : IVec S16 32) : Prop :=
  (∀ (k0_h5 : ¬(k0_cond5 v125 v131 = 1#1)), ∀ a x, ((![v246] : Fin 1 → IVec S16 32) a x).toNat < S8192.size a)
theorem k0_idx53_inb : ∀ (v125 : BitVec 32) (v131 : BitVec 32) (v246 : IVec S16 32) (k0_hw49 : k0_chk49 v125 v131 v246), ∀ (k0_h5 : ¬(k0_cond5 v125 v131 = 1#1)), ∀ a x, ((![v246] : Fin 1 → IVec S16 32) a x).toNat < S8192.size a := fun v125 v131 v246 k0_hw49 k0_h5 => k0_hw49 k0_h5

def k0_chk50 (v125 : BitVec 32) (v131 : BitVec 32) (v248 : IVec S16 32) : Prop :=
  (∀ (k0_h5 : ¬(k0_cond5 v125 v131 = 1#1)), ∀ a x, ((![v248] : Fin 1 → IVec S16 32) a x).toNat < S8192.size a)
theorem k0_idx54_inb : ∀ (v125 : BitVec 32) (v131 : BitVec 32) (v248 : IVec S16 32) (k0_hw50 : k0_chk50 v125 v131 v248), ∀ (k0_h5 : ¬(k0_cond5 v125 v131 = 1#1)), ∀ a x, ((![v248] : Fin 1 → IVec S16 32) a x).toNat < S8192.size a := fun v125 v131 v248 k0_hw50 k0_h5 => k0_hw50 k0_h5
def k0_cond6 (i : grid0.Coords) (k0_t12 : Fin (k0_t12_loop i).trips) : BitVec 1 :=
  let c0_i32_53 : BitVec 32 := 0#32
  let c1_i32_56 : BitVec 32 := 1#32
  let arg26 : BitVec 32 := Scf.iv c0_i32_53 c1_i32_56 k0_t12
  let c2_i32_71 : BitVec 32 := 2#32
  let v100 : BitVec 32 := Scalar.muli arg26 c2_i32_71
  let c0_i32_72 : BitVec 32 := 0#32
  let v101 : BitVec 32 := Scalar.addi v100 c0_i32_72
  let c2_i32_87 : BitVec 32 := 2#32
  let v136 : BitVec 32 := Scalar.addi v101 c2_i32_87
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let v137 : BitVec 1 := Scalar.cmpi .slt v136 v22
  let v138 : BitVec 32 := Scalar.extui v137
  let c0_i32_88 : BitVec 32 := 0#32
  let v139 : BitVec 1 := Scalar.cmpi .ne v138 c0_i32_88
  v139

def k0_off64 (i : grid0.Coords) (k0_t12 : Fin (k0_t12_loop i).trips) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c0_i32_53 : BitVec 32 := 0#32
  let c1_i32_56 : BitVec 32 := 1#32
  let arg26 : BitVec 32 := Scf.iv c0_i32_53 c1_i32_56 k0_t12
  let c2_i32_71 : BitVec 32 := 2#32
  let v100 : BitVec 32 := Scalar.muli arg26 c2_i32_71
  let c0_i32_72 : BitVec 32 := 0#32
  let v101 : BitVec 32 := Scalar.addi v100 c0_i32_72
  let c2_i32_111 : BitVec 32 := 2#32
  let v180 : BitVec 32 := Scalar.addi v101 c2_i32_111
  let c80_i32_112 : BitVec 32 := 80#32
  let v181 : BitVec 32 := Scalar.muli v180 c80_i32_112
  let v182 : BitVec 32 := Scalar.addi v2 v181
  let c0_i32_113 : BitVec 32 := 0#32
  ![v182.toNat, 0]

def k0_chk51 (v149 : IVec S16 32) : Prop :=
  (∀ a x, ((![v149] : Fin 1 → IVec S16 32) a x).toNat < S20480.size a)
theorem k0_idx55_inb : ∀ (v149 : IVec S16 32) (k0_hw51 : k0_chk51 v149), ∀ a x, ((![v149] : Fin 1 → IVec S16 32) a x).toNat < S20480.size a := fun v149 k0_hw51 => k0_hw51

def k0_chk52 (v155 : IVec S16 32) : Prop :=
  (∀ a x, ((![v155] : Fin 1 → IVec S16 32) a x).toNat < S20480.size a)
theorem k0_idx56_inb : ∀ (v155 : IVec S16 32) (k0_hw52 : k0_chk52 v155), ∀ a x, ((![v155] : Fin 1 → IVec S16 32) a x).toNat < S20480.size a := fun v155 k0_hw52 => k0_hw52
@[reducible] def k0_t15_loop : Scf.Loop 32 :=
  let c0_i32_111 : BitVec 32 := 0#32
  let c20_i32 : BitVec 32 := 20#32
  let v180 : BitVec 32 := Scalar.addi c0_i32_111 c20_i32
  let c1_i32_112 : BitVec 32 := 1#32
  ⟨c0_i32_111, v180, c1_i32_112⟩
def k0_cond7 (v165 : BitVec 32) (v171 : BitVec 32) : BitVec 1 :=
  let v172 : BitVec 1 := Scalar.cmpi .eq v165 v171
  let v173 : BitVec 32 := Scalar.extui v172
  let c0_i32_107 : BitVec 32 := 0#32
  let v174 : BitVec 1 := Scalar.cmpi .ne v173 c0_i32_107
  v174

def k0_chk53 (v165 : BitVec 32) (v171 : BitVec 32) (v219 : IVec S16 32) : Prop :=
  (∀ (k0_h7 : k0_cond7 v165 v171 = 1#1), ∀ a x, ((![v219] : Fin 1 → IVec S16 32) a x).toNat < S20480.size a)
theorem k0_idx57_inb : ∀ (v165 : BitVec 32) (v171 : BitVec 32) (v219 : IVec S16 32) (k0_hw53 : k0_chk53 v165 v171 v219), ∀ (k0_h7 : k0_cond7 v165 v171 = 1#1), ∀ a x, ((![v219] : Fin 1 → IVec S16 32) a x).toNat < S20480.size a := fun v165 v171 v219 k0_hw53 k0_h7 => k0_hw53 k0_h7
def k0_off65 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v221 : Index := Scalar.indexCast v215
  let c0_129 : Index := 0#32
  ![v221.toNat, 0]
def k0_off66 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v226 : Index := Scalar.indexCast v215
  let c16 : Index := 16#32
  ![v226.toNat, 16]
def k0_off67 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v231 : Index := Scalar.indexCast v215
  let c32 : Index := 32#32
  ![v231.toNat, 32]
def k0_off68 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v236 : Index := Scalar.indexCast v215
  let c48 : Index := 48#32
  ![v236.toNat, 48]
def k0_off69 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v241 : Index := Scalar.indexCast v215
  let c64 : Index := 64#32
  ![v241.toNat, 64]
def k0_off70 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v246 : Index := Scalar.indexCast v215
  let c80 : Index := 80#32
  ![v246.toNat, 80]
def k0_off71 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v251 : Index := Scalar.indexCast v215
  let c96 : Index := 96#32
  ![v251.toNat, 96]
def k0_off72 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32 : BitVec 32 := 4#32
  let v214 : BitVec 32 := Scalar.muli arg28 c4_i32
  let c0_i32_127 : BitVec 32 := 0#32
  let v215 : BitVec 32 := Scalar.addi v214 c0_i32_127
  let v256 : Index := Scalar.indexCast v215
  let c112 : Index := 112#32
  ![v256.toNat, 112]

def k0_chk54 (v165 : BitVec 32) (v171 : BitVec 32) (v266 : IVec S16 32) : Prop :=
  (∀ (k0_h7 : k0_cond7 v165 v171 = 1#1), ∀ a x, ((![v266] : Fin 1 → IVec S16 32) a x).toNat < S20480.size a)
theorem k0_idx58_inb : ∀ (v165 : BitVec 32) (v171 : BitVec 32) (v266 : IVec S16 32) (k0_hw54 : k0_chk54 v165 v171 v266), ∀ (k0_h7 : k0_cond7 v165 v171 = 1#1), ∀ a x, ((![v266] : Fin 1 → IVec S16 32) a x).toNat < S20480.size a := fun v165 v171 v266 k0_hw54 k0_h7 => k0_hw54 k0_h7
def k0_off73 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v268 : Index := Scalar.indexCast v262
  let c0_133 : Index := 0#32
  ![v268.toNat, 0]
def k0_off74 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v273 : Index := Scalar.indexCast v262
  let c16_134 : Index := 16#32
  ![v273.toNat, 16]
def k0_off75 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v278 : Index := Scalar.indexCast v262
  let c32_135 : Index := 32#32
  ![v278.toNat, 32]
def k0_off76 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v283 : Index := Scalar.indexCast v262
  let c48_136 : Index := 48#32
  ![v283.toNat, 48]
def k0_off77 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v288 : Index := Scalar.indexCast v262
  let c64_137 : Index := 64#32
  ![v288.toNat, 64]
def k0_off78 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v293 : Index := Scalar.indexCast v262
  let c80_138 : Index := 80#32
  ![v293.toNat, 80]
def k0_off79 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v298 : Index := Scalar.indexCast v262
  let c96_139 : Index := 96#32
  ![v298.toNat, 96]
def k0_off80 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_130 : BitVec 32 := 4#32
  let v261 : BitVec 32 := Scalar.muli arg28 c4_i32_130
  let c1_i32_131 : BitVec 32 := 1#32
  let v262 : BitVec 32 := Scalar.addi v261 c1_i32_131
  let v303 : Index := Scalar.indexCast v262
  let c112_140 : Index := 112#32
  ![v303.toNat, 112]

def k0_chk55 (v165 : BitVec 32) (v171 : BitVec 32) (v313 : IVec S16 32) : Prop :=
  (∀ (k0_h7 : k0_cond7 v165 v171 = 1#1), ∀ a x, ((![v313] : Fin 1 → IVec S16 32) a x).toNat < S20480.size a)
theorem k0_idx59_inb : ∀ (v165 : BitVec 32) (v171 : BitVec 32) (v313 : IVec S16 32) (k0_hw55 : k0_chk55 v165 v171 v313), ∀ (k0_h7 : k0_cond7 v165 v171 = 1#1), ∀ a x, ((![v313] : Fin 1 → IVec S16 32) a x).toNat < S20480.size a := fun v165 v171 v313 k0_hw55 k0_h7 => k0_hw55 k0_h7
def k0_off81 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v315 : Index := Scalar.indexCast v309
  let c0_144 : Index := 0#32
  ![v315.toNat, 0]
def k0_off82 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v320 : Index := Scalar.indexCast v309
  let c16_145 : Index := 16#32
  ![v320.toNat, 16]
def k0_off83 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v325 : Index := Scalar.indexCast v309
  let c32_146 : Index := 32#32
  ![v325.toNat, 32]
def k0_off84 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v330 : Index := Scalar.indexCast v309
  let c48_147 : Index := 48#32
  ![v330.toNat, 48]
def k0_off85 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v335 : Index := Scalar.indexCast v309
  let c64_148 : Index := 64#32
  ![v335.toNat, 64]
def k0_off86 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v340 : Index := Scalar.indexCast v309
  let c80_149 : Index := 80#32
  ![v340.toNat, 80]
def k0_off87 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v345 : Index := Scalar.indexCast v309
  let c96_150 : Index := 96#32
  ![v345.toNat, 96]
def k0_off88 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_141 : BitVec 32 := 4#32
  let v308 : BitVec 32 := Scalar.muli arg28 c4_i32_141
  let c2_i32_142 : BitVec 32 := 2#32
  let v309 : BitVec 32 := Scalar.addi v308 c2_i32_142
  let v350 : Index := Scalar.indexCast v309
  let c112_151 : Index := 112#32
  ![v350.toNat, 112]

def k0_chk56 (v165 : BitVec 32) (v171 : BitVec 32) (v360 : IVec S16 32) : Prop :=
  (∀ (k0_h7 : k0_cond7 v165 v171 = 1#1), ∀ a x, ((![v360] : Fin 1 → IVec S16 32) a x).toNat < S20480.size a)
theorem k0_idx60_inb : ∀ (v165 : BitVec 32) (v171 : BitVec 32) (v360 : IVec S16 32) (k0_hw56 : k0_chk56 v165 v171 v360), ∀ (k0_h7 : k0_cond7 v165 v171 = 1#1), ∀ a x, ((![v360] : Fin 1 → IVec S16 32) a x).toNat < S20480.size a := fun v165 v171 v360 k0_hw56 k0_h7 => k0_hw56 k0_h7
def k0_off89 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v362 : Index := Scalar.indexCast v356
  let c0_154 : Index := 0#32
  ![v362.toNat, 0]
def k0_off90 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v367 : Index := Scalar.indexCast v356
  let c16_155 : Index := 16#32
  ![v367.toNat, 16]
def k0_off91 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v372 : Index := Scalar.indexCast v356
  let c32_156 : Index := 32#32
  ![v372.toNat, 32]
def k0_off92 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v377 : Index := Scalar.indexCast v356
  let c48_157 : Index := 48#32
  ![v377.toNat, 48]
def k0_off93 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v382 : Index := Scalar.indexCast v356
  let c64_158 : Index := 64#32
  ![v382.toNat, 64]
def k0_off94 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v387 : Index := Scalar.indexCast v356
  let c80_159 : Index := 80#32
  ![v387.toNat, 80]
def k0_off95 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v392 : Index := Scalar.indexCast v356
  let c96_160 : Index := 96#32
  ![v392.toNat, 96]
def k0_off96 (k0_t15 : Fin k0_t15_loop.trips) : Fin 2 → Nat :=
  let c0_i32_111 : BitVec 32 := 0#32
  let c1_i32_112 : BitVec 32 := 1#32
  let arg28 : BitVec 32 := Scf.iv c0_i32_111 c1_i32_112 k0_t15
  let c4_i32_152 : BitVec 32 := 4#32
  let v355 : BitVec 32 := Scalar.muli arg28 c4_i32_152
  let c3_i32 : BitVec 32 := 3#32
  let v356 : BitVec 32 := Scalar.addi v355 c3_i32
  let v397 : Index := Scalar.indexCast v356
  let c112_161 : Index := 112#32
  ![v397.toNat, 112]

def k0_chk57 (v165 : BitVec 32) (v171 : BitVec 32) (v183 : IVec S16 32) : Prop :=
  (∀ (k0_h7 : k0_cond7 v165 v171 = 1#1), ∀ a x, ((![v183] : Fin 1 → IVec S16 32) a x).toNat < S8192.size a)
theorem k0_idx61_inb : ∀ (v165 : BitVec 32) (v171 : BitVec 32) (v183 : IVec S16 32) (k0_hw57 : k0_chk57 v165 v171 v183), ∀ (k0_h7 : k0_cond7 v165 v171 = 1#1), ∀ a x, ((![v183] : Fin 1 → IVec S16 32) a x).toNat < S8192.size a := fun v165 v171 v183 k0_hw57 k0_h7 => k0_hw57 k0_h7

def k0_chk58 (v165 : BitVec 32) (v171 : BitVec 32) (v185 : IVec S16 32) : Prop :=
  (∀ (k0_h7 : k0_cond7 v165 v171 = 1#1), ∀ a x, ((![v185] : Fin 1 → IVec S16 32) a x).toNat < S8192.size a)
theorem k0_idx62_inb : ∀ (v165 : BitVec 32) (v171 : BitVec 32) (v185 : IVec S16 32) (k0_hw58 : k0_chk58 v165 v171 v185), ∀ (k0_h7 : k0_cond7 v165 v171 = 1#1), ∀ a x, ((![v185] : Fin 1 → IVec S16 32) a x).toNat < S8192.size a := fun v165 v171 v185 k0_hw58 k0_h7 => k0_hw58 k0_h7

def k0_chk59 (v165 : BitVec 32) (v171 : BitVec 32) (v187 : IVec S16 32) : Prop :=
  (∀ (k0_h7 : k0_cond7 v165 v171 = 1#1), ∀ a x, ((![v187] : Fin 1 → IVec S16 32) a x).toNat < S8192.size a)
theorem k0_idx63_inb : ∀ (v165 : BitVec 32) (v171 : BitVec 32) (v187 : IVec S16 32) (k0_hw59 : k0_chk59 v165 v171 v187), ∀ (k0_h7 : k0_cond7 v165 v171 = 1#1), ∀ a x, ((![v187] : Fin 1 → IVec S16 32) a x).toNat < S8192.size a := fun v165 v171 v187 k0_hw59 k0_h7 => k0_hw59 k0_h7

def k0_chk60 (v165 : BitVec 32) (v171 : BitVec 32) (v189 : IVec S16 32) : Prop :=
  (∀ (k0_h7 : k0_cond7 v165 v171 = 1#1), ∀ a x, ((![v189] : Fin 1 → IVec S16 32) a x).toNat < S8192.size a)
theorem k0_idx64_inb : ∀ (v165 : BitVec 32) (v171 : BitVec 32) (v189 : IVec S16 32) (k0_hw60 : k0_chk60 v165 v171 v189), ∀ (k0_h7 : k0_cond7 v165 v171 = 1#1), ∀ a x, ((![v189] : Fin 1 → IVec S16 32) a x).toNat < S8192.size a := fun v165 v171 v189 k0_hw60 k0_h7 => k0_hw60 k0_h7

def k0_chk61 (v165 : BitVec 32) (v171 : BitVec 32) (v191 : IVec S16 32) : Prop :=
  (∀ (k0_h7 : k0_cond7 v165 v171 = 1#1), ∀ a x, ((![v191] : Fin 1 → IVec S16 32) a x).toNat < S8192.size a)
theorem k0_idx65_inb : ∀ (v165 : BitVec 32) (v171 : BitVec 32) (v191 : IVec S16 32) (k0_hw61 : k0_chk61 v165 v171 v191), ∀ (k0_h7 : k0_cond7 v165 v171 = 1#1), ∀ a x, ((![v191] : Fin 1 → IVec S16 32) a x).toNat < S8192.size a := fun v165 v171 v191 k0_hw61 k0_h7 => k0_hw61 k0_h7

def k0_chk62 (v165 : BitVec 32) (v171 : BitVec 32) (v193 : IVec S16 32) : Prop :=
  (∀ (k0_h7 : k0_cond7 v165 v171 = 1#1), ∀ a x, ((![v193] : Fin 1 → IVec S16 32) a x).toNat < S8192.size a)
theorem k0_idx66_inb : ∀ (v165 : BitVec 32) (v171 : BitVec 32) (v193 : IVec S16 32) (k0_hw62 : k0_chk62 v165 v171 v193), ∀ (k0_h7 : k0_cond7 v165 v171 = 1#1), ∀ a x, ((![v193] : Fin 1 → IVec S16 32) a x).toNat < S8192.size a := fun v165 v171 v193 k0_hw62 k0_h7 => k0_hw62 k0_h7

def k0_chk63 (v165 : BitVec 32) (v171 : BitVec 32) (v195 : IVec S16 32) : Prop :=
  (∀ (k0_h7 : k0_cond7 v165 v171 = 1#1), ∀ a x, ((![v195] : Fin 1 → IVec S16 32) a x).toNat < S8192.size a)
theorem k0_idx67_inb : ∀ (v165 : BitVec 32) (v171 : BitVec 32) (v195 : IVec S16 32) (k0_hw63 : k0_chk63 v165 v171 v195), ∀ (k0_h7 : k0_cond7 v165 v171 = 1#1), ∀ a x, ((![v195] : Fin 1 → IVec S16 32) a x).toNat < S8192.size a := fun v165 v171 v195 k0_hw63 k0_h7 => k0_hw63 k0_h7

def k0_chk64 (v165 : BitVec 32) (v171 : BitVec 32) (v197 : IVec S16 32) : Prop :=
  (∀ (k0_h7 : k0_cond7 v165 v171 = 1#1), ∀ a x, ((![v197] : Fin 1 → IVec S16 32) a x).toNat < S8192.size a)
theorem k0_idx68_inb : ∀ (v165 : BitVec 32) (v171 : BitVec 32) (v197 : IVec S16 32) (k0_hw64 : k0_chk64 v165 v171 v197), ∀ (k0_h7 : k0_cond7 v165 v171 = 1#1), ∀ a x, ((![v197] : Fin 1 → IVec S16 32) a x).toNat < S8192.size a := fun v165 v171 v197 k0_hw64 k0_h7 => k0_hw64 k0_h7

def k0_chk65 (v165 : BitVec 32) (v171 : BitVec 32) (v199 : IVec S16 32) : Prop :=
  (∀ (k0_h7 : k0_cond7 v165 v171 = 1#1), ∀ a x, ((![v199] : Fin 1 → IVec S16 32) a x).toNat < S8192.size a)
theorem k0_idx69_inb : ∀ (v165 : BitVec 32) (v171 : BitVec 32) (v199 : IVec S16 32) (k0_hw65 : k0_chk65 v165 v171 v199), ∀ (k0_h7 : k0_cond7 v165 v171 = 1#1), ∀ a x, ((![v199] : Fin 1 → IVec S16 32) a x).toNat < S8192.size a := fun v165 v171 v199 k0_hw65 k0_h7 => k0_hw65 k0_h7

def k0_chk66 (v165 : BitVec 32) (v171 : BitVec 32) (v201 : IVec S16 32) : Prop :=
  (∀ (k0_h7 : k0_cond7 v165 v171 = 1#1), ∀ a x, ((![v201] : Fin 1 → IVec S16 32) a x).toNat < S8192.size a)
theorem k0_idx70_inb : ∀ (v165 : BitVec 32) (v171 : BitVec 32) (v201 : IVec S16 32) (k0_hw66 : k0_chk66 v165 v171 v201), ∀ (k0_h7 : k0_cond7 v165 v171 = 1#1), ∀ a x, ((![v201] : Fin 1 → IVec S16 32) a x).toNat < S8192.size a := fun v165 v171 v201 k0_hw66 k0_h7 => k0_hw66 k0_h7

def k0_chk67 (v165 : BitVec 32) (v171 : BitVec 32) (v203 : IVec S16 32) : Prop :=
  (∀ (k0_h7 : k0_cond7 v165 v171 = 1#1), ∀ a x, ((![v203] : Fin 1 → IVec S16 32) a x).toNat < S8192.size a)
theorem k0_idx71_inb : ∀ (v165 : BitVec 32) (v171 : BitVec 32) (v203 : IVec S16 32) (k0_hw67 : k0_chk67 v165 v171 v203), ∀ (k0_h7 : k0_cond7 v165 v171 = 1#1), ∀ a x, ((![v203] : Fin 1 → IVec S16 32) a x).toNat < S8192.size a := fun v165 v171 v203 k0_hw67 k0_h7 => k0_hw67 k0_h7

def k0_chk68 (v165 : BitVec 32) (v171 : BitVec 32) (v205 : IVec S16 32) : Prop :=
  (∀ (k0_h7 : k0_cond7 v165 v171 = 1#1), ∀ a x, ((![v205] : Fin 1 → IVec S16 32) a x).toNat < S8192.size a)
theorem k0_idx72_inb : ∀ (v165 : BitVec 32) (v171 : BitVec 32) (v205 : IVec S16 32) (k0_hw68 : k0_chk68 v165 v171 v205), ∀ (k0_h7 : k0_cond7 v165 v171 = 1#1), ∀ a x, ((![v205] : Fin 1 → IVec S16 32) a x).toNat < S8192.size a := fun v165 v171 v205 k0_hw68 k0_h7 => k0_hw68 k0_h7

def k0_chk69 (v165 : BitVec 32) (v171 : BitVec 32) (v207 : IVec S16 32) : Prop :=
  (∀ (k0_h7 : k0_cond7 v165 v171 = 1#1), ∀ a x, ((![v207] : Fin 1 → IVec S16 32) a x).toNat < S8192.size a)
theorem k0_idx73_inb : ∀ (v165 : BitVec 32) (v171 : BitVec 32) (v207 : IVec S16 32) (k0_hw69 : k0_chk69 v165 v171 v207), ∀ (k0_h7 : k0_cond7 v165 v171 = 1#1), ∀ a x, ((![v207] : Fin 1 → IVec S16 32) a x).toNat < S8192.size a := fun v165 v171 v207 k0_hw69 k0_h7 => k0_hw69 k0_h7

def k0_chk70 (v165 : BitVec 32) (v171 : BitVec 32) (v209 : IVec S16 32) : Prop :=
  (∀ (k0_h7 : k0_cond7 v165 v171 = 1#1), ∀ a x, ((![v209] : Fin 1 → IVec S16 32) a x).toNat < S8192.size a)
theorem k0_idx74_inb : ∀ (v165 : BitVec 32) (v171 : BitVec 32) (v209 : IVec S16 32) (k0_hw70 : k0_chk70 v165 v171 v209), ∀ (k0_h7 : k0_cond7 v165 v171 = 1#1), ∀ a x, ((![v209] : Fin 1 → IVec S16 32) a x).toNat < S8192.size a := fun v165 v171 v209 k0_hw70 k0_h7 => k0_hw70 k0_h7

def k0_chk71 (v165 : BitVec 32) (v171 : BitVec 32) (v211 : IVec S16 32) : Prop :=
  (∀ (k0_h7 : k0_cond7 v165 v171 = 1#1), ∀ a x, ((![v211] : Fin 1 → IVec S16 32) a x).toNat < S8192.size a)
theorem k0_idx75_inb : ∀ (v165 : BitVec 32) (v171 : BitVec 32) (v211 : IVec S16 32) (k0_hw71 : k0_chk71 v165 v171 v211), ∀ (k0_h7 : k0_cond7 v165 v171 = 1#1), ∀ a x, ((![v211] : Fin 1 → IVec S16 32) a x).toNat < S8192.size a := fun v165 v171 v211 k0_hw71 k0_h7 => k0_hw71 k0_h7

def k0_chk72 (v165 : BitVec 32) (v171 : BitVec 32) (v213 : IVec S16 32) : Prop :=
  (∀ (k0_h7 : k0_cond7 v165 v171 = 1#1), ∀ a x, ((![v213] : Fin 1 → IVec S16 32) a x).toNat < S8192.size a)
theorem k0_idx76_inb : ∀ (v165 : BitVec 32) (v171 : BitVec 32) (v213 : IVec S16 32) (k0_hw72 : k0_chk72 v165 v171 v213), ∀ (k0_h7 : k0_cond7 v165 v171 = 1#1), ∀ a x, ((![v213] : Fin 1 → IVec S16 32) a x).toNat < S8192.size a := fun v165 v171 v213 k0_hw72 k0_h7 => k0_hw72 k0_h7
@[reducible] def k0_t16_loop : Scf.Loop 32 :=
  let c0_i32_112 : BitVec 32 := 0#32
  let c80_i32_113 : BitVec 32 := 80#32
  let v180 : BitVec 32 := Scalar.addi c0_i32_112 c80_i32_113
  let c1_i32_114 : BitVec 32 := 1#32
  ⟨c0_i32_112, v180, c1_i32_114⟩

def k0_chk73 (v165 : BitVec 32) (v171 : BitVec 32) (v185 : IVec S16 32) : Prop :=
  (∀ (k0_h7 : ¬(k0_cond7 v165 v171 = 1#1)), ∀ a x, ((![v185] : Fin 1 → IVec S16 32) a x).toNat < S20480.size a)
theorem k0_idx77_inb : ∀ (v165 : BitVec 32) (v171 : BitVec 32) (v185 : IVec S16 32) (k0_hw73 : k0_chk73 v165 v171 v185), ∀ (k0_h7 : ¬(k0_cond7 v165 v171 = 1#1)), ∀ a x, ((![v185] : Fin 1 → IVec S16 32) a x).toNat < S20480.size a := fun v165 v171 v185 k0_hw73 k0_h7 => k0_hw73 k0_h7

def k0_chk74 (v165 : BitVec 32) (v171 : BitVec 32) (v189 : IVec S16 32) : Prop :=
  (∀ (k0_h7 : ¬(k0_cond7 v165 v171 = 1#1)), ∀ a x, ((![v189] : Fin 1 → IVec S16 32) a x).toNat < S20480.size a)
theorem k0_idx78_inb : ∀ (v165 : BitVec 32) (v171 : BitVec 32) (v189 : IVec S16 32) (k0_hw74 : k0_chk74 v165 v171 v189), ∀ (k0_h7 : ¬(k0_cond7 v165 v171 = 1#1)), ∀ a x, ((![v189] : Fin 1 → IVec S16 32) a x).toNat < S20480.size a := fun v165 v171 v189 k0_hw74 k0_h7 => k0_hw74 k0_h7
def k0_off97 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v194 : Index := Scalar.indexCast arg28
  let c0_120 : Index := 0#32
  ![v194.toNat, 0]

def k0_chk75 (v165 : BitVec 32) (v171 : BitVec 32) (v197 : IVec S16 32) : Prop :=
  (∀ (k0_h7 : ¬(k0_cond7 v165 v171 = 1#1)), ∀ a x, ((![v197] : Fin 1 → IVec S16 32) a x).toNat < S8192.size a)
theorem k0_idx79_inb : ∀ (v165 : BitVec 32) (v171 : BitVec 32) (v197 : IVec S16 32) (k0_hw75 : k0_chk75 v165 v171 v197), ∀ (k0_h7 : ¬(k0_cond7 v165 v171 = 1#1)), ∀ a x, ((![v197] : Fin 1 → IVec S16 32) a x).toNat < S8192.size a := fun v165 v171 v197 k0_hw75 k0_h7 => k0_hw75 k0_h7

def k0_chk76 (v165 : BitVec 32) (v171 : BitVec 32) (v199 : IVec S16 32) : Prop :=
  (∀ (k0_h7 : ¬(k0_cond7 v165 v171 = 1#1)), ∀ a x, ((![v199] : Fin 1 → IVec S16 32) a x).toNat < S8192.size a)
theorem k0_idx80_inb : ∀ (v165 : BitVec 32) (v171 : BitVec 32) (v199 : IVec S16 32) (k0_hw76 : k0_chk76 v165 v171 v199), ∀ (k0_h7 : ¬(k0_cond7 v165 v171 = 1#1)), ∀ a x, ((![v199] : Fin 1 → IVec S16 32) a x).toNat < S8192.size a := fun v165 v171 v199 k0_hw76 k0_h7 => k0_hw76 k0_h7
def k0_off98 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v201 : Index := Scalar.indexCast arg28
  let c16 : Index := 16#32
  ![v201.toNat, 16]

def k0_chk77 (v165 : BitVec 32) (v171 : BitVec 32) (v204 : IVec S16 32) : Prop :=
  (∀ (k0_h7 : ¬(k0_cond7 v165 v171 = 1#1)), ∀ a x, ((![v204] : Fin 1 → IVec S16 32) a x).toNat < S8192.size a)
theorem k0_idx81_inb : ∀ (v165 : BitVec 32) (v171 : BitVec 32) (v204 : IVec S16 32) (k0_hw77 : k0_chk77 v165 v171 v204), ∀ (k0_h7 : ¬(k0_cond7 v165 v171 = 1#1)), ∀ a x, ((![v204] : Fin 1 → IVec S16 32) a x).toNat < S8192.size a := fun v165 v171 v204 k0_hw77 k0_h7 => k0_hw77 k0_h7

def k0_chk78 (v165 : BitVec 32) (v171 : BitVec 32) (v206 : IVec S16 32) : Prop :=
  (∀ (k0_h7 : ¬(k0_cond7 v165 v171 = 1#1)), ∀ a x, ((![v206] : Fin 1 → IVec S16 32) a x).toNat < S8192.size a)
theorem k0_idx82_inb : ∀ (v165 : BitVec 32) (v171 : BitVec 32) (v206 : IVec S16 32) (k0_hw78 : k0_chk78 v165 v171 v206), ∀ (k0_h7 : ¬(k0_cond7 v165 v171 = 1#1)), ∀ a x, ((![v206] : Fin 1 → IVec S16 32) a x).toNat < S8192.size a := fun v165 v171 v206 k0_hw78 k0_h7 => k0_hw78 k0_h7
def k0_off99 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v208 : Index := Scalar.indexCast arg28
  let c32 : Index := 32#32
  ![v208.toNat, 32]

def k0_chk79 (v165 : BitVec 32) (v171 : BitVec 32) (v211 : IVec S16 32) : Prop :=
  (∀ (k0_h7 : ¬(k0_cond7 v165 v171 = 1#1)), ∀ a x, ((![v211] : Fin 1 → IVec S16 32) a x).toNat < S8192.size a)
theorem k0_idx83_inb : ∀ (v165 : BitVec 32) (v171 : BitVec 32) (v211 : IVec S16 32) (k0_hw79 : k0_chk79 v165 v171 v211), ∀ (k0_h7 : ¬(k0_cond7 v165 v171 = 1#1)), ∀ a x, ((![v211] : Fin 1 → IVec S16 32) a x).toNat < S8192.size a := fun v165 v171 v211 k0_hw79 k0_h7 => k0_hw79 k0_h7

def k0_chk80 (v165 : BitVec 32) (v171 : BitVec 32) (v213 : IVec S16 32) : Prop :=
  (∀ (k0_h7 : ¬(k0_cond7 v165 v171 = 1#1)), ∀ a x, ((![v213] : Fin 1 → IVec S16 32) a x).toNat < S8192.size a)
theorem k0_idx84_inb : ∀ (v165 : BitVec 32) (v171 : BitVec 32) (v213 : IVec S16 32) (k0_hw80 : k0_chk80 v165 v171 v213), ∀ (k0_h7 : ¬(k0_cond7 v165 v171 = 1#1)), ∀ a x, ((![v213] : Fin 1 → IVec S16 32) a x).toNat < S8192.size a := fun v165 v171 v213 k0_hw80 k0_h7 => k0_hw80 k0_h7
def k0_off100 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v215 : Index := Scalar.indexCast arg28
  let c48 : Index := 48#32
  ![v215.toNat, 48]

def k0_chk81 (v165 : BitVec 32) (v171 : BitVec 32) (v218 : IVec S16 32) : Prop :=
  (∀ (k0_h7 : ¬(k0_cond7 v165 v171 = 1#1)), ∀ a x, ((![v218] : Fin 1 → IVec S16 32) a x).toNat < S8192.size a)
theorem k0_idx85_inb : ∀ (v165 : BitVec 32) (v171 : BitVec 32) (v218 : IVec S16 32) (k0_hw81 : k0_chk81 v165 v171 v218), ∀ (k0_h7 : ¬(k0_cond7 v165 v171 = 1#1)), ∀ a x, ((![v218] : Fin 1 → IVec S16 32) a x).toNat < S8192.size a := fun v165 v171 v218 k0_hw81 k0_h7 => k0_hw81 k0_h7

def k0_chk82 (v165 : BitVec 32) (v171 : BitVec 32) (v220 : IVec S16 32) : Prop :=
  (∀ (k0_h7 : ¬(k0_cond7 v165 v171 = 1#1)), ∀ a x, ((![v220] : Fin 1 → IVec S16 32) a x).toNat < S8192.size a)
theorem k0_idx86_inb : ∀ (v165 : BitVec 32) (v171 : BitVec 32) (v220 : IVec S16 32) (k0_hw82 : k0_chk82 v165 v171 v220), ∀ (k0_h7 : ¬(k0_cond7 v165 v171 = 1#1)), ∀ a x, ((![v220] : Fin 1 → IVec S16 32) a x).toNat < S8192.size a := fun v165 v171 v220 k0_hw82 k0_h7 => k0_hw82 k0_h7
def k0_off101 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v222 : Index := Scalar.indexCast arg28
  let c64 : Index := 64#32
  ![v222.toNat, 64]

def k0_chk83 (v165 : BitVec 32) (v171 : BitVec 32) (v225 : IVec S16 32) : Prop :=
  (∀ (k0_h7 : ¬(k0_cond7 v165 v171 = 1#1)), ∀ a x, ((![v225] : Fin 1 → IVec S16 32) a x).toNat < S8192.size a)
theorem k0_idx87_inb : ∀ (v165 : BitVec 32) (v171 : BitVec 32) (v225 : IVec S16 32) (k0_hw83 : k0_chk83 v165 v171 v225), ∀ (k0_h7 : ¬(k0_cond7 v165 v171 = 1#1)), ∀ a x, ((![v225] : Fin 1 → IVec S16 32) a x).toNat < S8192.size a := fun v165 v171 v225 k0_hw83 k0_h7 => k0_hw83 k0_h7

def k0_chk84 (v165 : BitVec 32) (v171 : BitVec 32) (v227 : IVec S16 32) : Prop :=
  (∀ (k0_h7 : ¬(k0_cond7 v165 v171 = 1#1)), ∀ a x, ((![v227] : Fin 1 → IVec S16 32) a x).toNat < S8192.size a)
theorem k0_idx88_inb : ∀ (v165 : BitVec 32) (v171 : BitVec 32) (v227 : IVec S16 32) (k0_hw84 : k0_chk84 v165 v171 v227), ∀ (k0_h7 : ¬(k0_cond7 v165 v171 = 1#1)), ∀ a x, ((![v227] : Fin 1 → IVec S16 32) a x).toNat < S8192.size a := fun v165 v171 v227 k0_hw84 k0_h7 => k0_hw84 k0_h7
def k0_off102 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v229 : Index := Scalar.indexCast arg28
  let c80 : Index := 80#32
  ![v229.toNat, 80]

def k0_chk85 (v165 : BitVec 32) (v171 : BitVec 32) (v232 : IVec S16 32) : Prop :=
  (∀ (k0_h7 : ¬(k0_cond7 v165 v171 = 1#1)), ∀ a x, ((![v232] : Fin 1 → IVec S16 32) a x).toNat < S8192.size a)
theorem k0_idx89_inb : ∀ (v165 : BitVec 32) (v171 : BitVec 32) (v232 : IVec S16 32) (k0_hw85 : k0_chk85 v165 v171 v232), ∀ (k0_h7 : ¬(k0_cond7 v165 v171 = 1#1)), ∀ a x, ((![v232] : Fin 1 → IVec S16 32) a x).toNat < S8192.size a := fun v165 v171 v232 k0_hw85 k0_h7 => k0_hw85 k0_h7

def k0_chk86 (v165 : BitVec 32) (v171 : BitVec 32) (v234 : IVec S16 32) : Prop :=
  (∀ (k0_h7 : ¬(k0_cond7 v165 v171 = 1#1)), ∀ a x, ((![v234] : Fin 1 → IVec S16 32) a x).toNat < S8192.size a)
theorem k0_idx90_inb : ∀ (v165 : BitVec 32) (v171 : BitVec 32) (v234 : IVec S16 32) (k0_hw86 : k0_chk86 v165 v171 v234), ∀ (k0_h7 : ¬(k0_cond7 v165 v171 = 1#1)), ∀ a x, ((![v234] : Fin 1 → IVec S16 32) a x).toNat < S8192.size a := fun v165 v171 v234 k0_hw86 k0_h7 => k0_hw86 k0_h7
def k0_off103 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v236 : Index := Scalar.indexCast arg28
  let c96 : Index := 96#32
  ![v236.toNat, 96]

def k0_chk87 (v165 : BitVec 32) (v171 : BitVec 32) (v239 : IVec S16 32) : Prop :=
  (∀ (k0_h7 : ¬(k0_cond7 v165 v171 = 1#1)), ∀ a x, ((![v239] : Fin 1 → IVec S16 32) a x).toNat < S8192.size a)
theorem k0_idx91_inb : ∀ (v165 : BitVec 32) (v171 : BitVec 32) (v239 : IVec S16 32) (k0_hw87 : k0_chk87 v165 v171 v239), ∀ (k0_h7 : ¬(k0_cond7 v165 v171 = 1#1)), ∀ a x, ((![v239] : Fin 1 → IVec S16 32) a x).toNat < S8192.size a := fun v165 v171 v239 k0_hw87 k0_h7 => k0_hw87 k0_h7

def k0_chk88 (v165 : BitVec 32) (v171 : BitVec 32) (v241 : IVec S16 32) : Prop :=
  (∀ (k0_h7 : ¬(k0_cond7 v165 v171 = 1#1)), ∀ a x, ((![v241] : Fin 1 → IVec S16 32) a x).toNat < S8192.size a)
theorem k0_idx92_inb : ∀ (v165 : BitVec 32) (v171 : BitVec 32) (v241 : IVec S16 32) (k0_hw88 : k0_chk88 v165 v171 v241), ∀ (k0_h7 : ¬(k0_cond7 v165 v171 = 1#1)), ∀ a x, ((![v241] : Fin 1 → IVec S16 32) a x).toNat < S8192.size a := fun v165 v171 v241 k0_hw88 k0_h7 => k0_hw88 k0_h7
def k0_off104 (k0_t16 : Fin k0_t16_loop.trips) : Fin 2 → Nat :=
  let c0_i32_112 : BitVec 32 := 0#32
  let c1_i32_114 : BitVec 32 := 1#32
  let arg28 : BitVec 32 := Scf.iv c0_i32_112 c1_i32_114 k0_t16
  let v243 : Index := Scalar.indexCast arg28
  let c112 : Index := 112#32
  ![v243.toNat, 112]

def k0_chk89 (v165 : BitVec 32) (v171 : BitVec 32) (v246 : IVec S16 32) : Prop :=
  (∀ (k0_h7 : ¬(k0_cond7 v165 v171 = 1#1)), ∀ a x, ((![v246] : Fin 1 → IVec S16 32) a x).toNat < S8192.size a)
theorem k0_idx93_inb : ∀ (v165 : BitVec 32) (v171 : BitVec 32) (v246 : IVec S16 32) (k0_hw89 : k0_chk89 v165 v171 v246), ∀ (k0_h7 : ¬(k0_cond7 v165 v171 = 1#1)), ∀ a x, ((![v246] : Fin 1 → IVec S16 32) a x).toNat < S8192.size a := fun v165 v171 v246 k0_hw89 k0_h7 => k0_hw89 k0_h7

def k0_chk90 (v165 : BitVec 32) (v171 : BitVec 32) (v248 : IVec S16 32) : Prop :=
  (∀ (k0_h7 : ¬(k0_cond7 v165 v171 = 1#1)), ∀ a x, ((![v248] : Fin 1 → IVec S16 32) a x).toNat < S8192.size a)
theorem k0_idx94_inb : ∀ (v165 : BitVec 32) (v171 : BitVec 32) (v248 : IVec S16 32) (k0_hw90 : k0_chk90 v165 v171 v248), ∀ (k0_h7 : ¬(k0_cond7 v165 v171 = 1#1)), ∀ a x, ((![v248] : Fin 1 → IVec S16 32) a x).toNat < S8192.size a := fun v165 v171 v248 k0_hw90 k0_h7 => k0_hw90 k0_h7
def k0_cond8 (i : grid0.Coords) (k0_t12 : Fin (k0_t12_loop i).trips) : BitVec 1 :=
  let c0_i32_53 : BitVec 32 := 0#32
  let c1_i32_56 : BitVec 32 := 1#32
  let arg26 : BitVec 32 := Scf.iv c0_i32_53 c1_i32_56 k0_t12
  let c2_i32_89 : BitVec 32 := 2#32
  let v140 : BitVec 32 := Scalar.muli arg26 c2_i32_89
  let c1_i32_90 : BitVec 32 := 1#32
  let v141 : BitVec 32 := Scalar.addi v140 c1_i32_90
  let c2_i32_108 : BitVec 32 := 2#32
  let v176 : BitVec 32 := Scalar.addi v141 c2_i32_108
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let v177 : BitVec 1 := Scalar.cmpi .slt v176 v22
  let v178 : BitVec 32 := Scalar.extui v177
  let c0_i32_109 : BitVec 32 := 0#32
  let v179 : BitVec 1 := Scalar.cmpi .ne v178 c0_i32_109
  v179

def k0_off105 (i : grid0.Coords) (k0_t12 : Fin (k0_t12_loop i).trips) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c0_i32_53 : BitVec 32 := 0#32
  let c1_i32_56 : BitVec 32 := 1#32
  let arg26 : BitVec 32 := Scf.iv c0_i32_53 c1_i32_56 k0_t12
  let c2_i32_89 : BitVec 32 := 2#32
  let v140 : BitVec 32 := Scalar.muli arg26 c2_i32_89
  let c1_i32_90 : BitVec 32 := 1#32
  let v141 : BitVec 32 := Scalar.addi v140 c1_i32_90
  let c2_i32_111 : BitVec 32 := 2#32
  let v180 : BitVec 32 := Scalar.addi v141 c2_i32_111
  let c80_i32_112 : BitVec 32 := 80#32
  let v181 : BitVec 32 := Scalar.muli v180 c80_i32_112
  let v182 : BitVec 32 := Scalar.addi v2 v181
  let c0_i32_113 : BitVec 32 := 0#32
  ![v182.toNat, 0]
@[reducible] def k0_t17_loop (i : grid0.Coords) : Scf.Loop 32 :=
  let c0_i32_53 : BitVec 32 := 0#32
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let v77 : BitVec 32 := Scalar.addi c0_i32_53 v76
  let c1_i32_57 : BitVec 32 := 1#32
  ⟨v80, v77, c1_i32_57⟩

def k0_chk91 (i : grid0.Coords) (k0_t17 : Fin (k0_t17_loop i).trips) (v109 : IVec S16 32) : Prop :=
  (∀ a x, ((![v109] : Fin 1 → IVec S16 32) a x).toNat < S20480.size a)
theorem k0_idx95_inb : ∀ (i : grid0.Coords) (k0_t17 : Fin (k0_t17_loop i).trips) (v109 : IVec S16 32) (k0_hw91 : k0_chk91 i k0_t17 v109), ∀ a x, ((![v109] : Fin 1 → IVec S16 32) a x).toNat < S20480.size a := fun i k0_t17 v109 k0_hw91 => k0_hw91

def k0_chk92 (i : grid0.Coords) (k0_t17 : Fin (k0_t17_loop i).trips) (v115 : IVec S16 32) : Prop :=
  (∀ a x, ((![v115] : Fin 1 → IVec S16 32) a x).toNat < S20480.size a)
theorem k0_idx96_inb : ∀ (i : grid0.Coords) (k0_t17 : Fin (k0_t17_loop i).trips) (v115 : IVec S16 32) (k0_hw92 : k0_chk92 i k0_t17 v115), ∀ a x, ((![v115] : Fin 1 → IVec S16 32) a x).toNat < S20480.size a := fun i k0_t17 v115 k0_hw92 => k0_hw92
@[reducible] def k0_t18_loop : Scf.Loop 32 :=
  let c0_i32_111 : BitVec 32 := 0#32
  let c20_i32 : BitVec 32 := 20#32
  let v180 : BitVec 32 := Scalar.addi c0_i32_111 c20_i32
  let c1_i32_112 : BitVec 32 := 1#32
  ⟨c0_i32_111, v180, c1_i32_112⟩
def k0_cond9 (v125 : BitVec 32) (v131 : BitVec 32) : BitVec 1 :=
  let v132 : BitVec 1 := Scalar.cmpi .eq v125 v131
  let v133 : BitVec 32 := Scalar.extui v132
  let c0_i32_86 : BitVec 32 := 0#32
  let v134 : BitVec 1 := Scalar.cmpi .ne v133 c0_i32_86
  v134

def k0_chk93 (i : grid0.Coords) (k0_t17 : Fin (k0_t17_loop i).trips) (v125 : BitVec 32) (v131 : BitVec 32) (v219 : IVec S16 32) : Prop :=
  (∀ (k0_h9 : k0_cond9 v125 v131 = 1#1), ∀ a x, ((![v219] : Fin 1 → IVec S16 32) a x).toNat < S20480.size a)
theorem k0_idx97_inb : ∀ (i : grid0.Coords) (k0_t17 : Fin (k0_t17_loop i).trips) (v125 : BitVec 32) (v131 : BitVec 32) (v219 : IVec S16 32) (k0_hw93 : k0_chk93 i k0_t17 v125 v131 v219), ∀ (k0_h9 : k0_cond9 v125 v131 = 1#1), ∀ a x, ((![v219] : Fin 1 → IVec S16 32) a x).toNat < S20480.size a := fun i k0_t17 v125 v131 v219 k0_hw93 k0_h9 => k0_hw93 k0_h9
def k0_off106 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v221 : Index := Scalar.indexCast v215
  let c0_129 : Index := 0#32
  ![v221.toNat, 0]
def k0_off107 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v226 : Index := Scalar.indexCast v215
  let c16 : Index := 16#32
  ![v226.toNat, 16]
def k0_off108 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v231 : Index := Scalar.indexCast v215
  let c32 : Index := 32#32
  ![v231.toNat, 32]
def k0_off109 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v236 : Index := Scalar.indexCast v215
  let c48 : Index := 48#32
  ![v236.toNat, 48]
def k0_off110 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v241 : Index := Scalar.indexCast v215
  let c64 : Index := 64#32
  ![v241.toNat, 64]
def k0_off111 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v246 : Index := Scalar.indexCast v215
  let c80 : Index := 80#32
  ![v246.toNat, 80]
def k0_off112 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v251 : Index := Scalar.indexCast v215
  let c96 : Index := 96#32
  ![v251.toNat, 96]
def k0_off113 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32 : BitVec 32 := 4#32
  let v214 : BitVec 32 := Scalar.muli arg28 c4_i32
  let c0_i32_127 : BitVec 32 := 0#32
  let v215 : BitVec 32 := Scalar.addi v214 c0_i32_127
  let v256 : Index := Scalar.indexCast v215
  let c112 : Index := 112#32
  ![v256.toNat, 112]

def k0_chk94 (i : grid0.Coords) (k0_t17 : Fin (k0_t17_loop i).trips) (v125 : BitVec 32) (v131 : BitVec 32) (v266 : IVec S16 32) : Prop :=
  (∀ (k0_h9 : k0_cond9 v125 v131 = 1#1), ∀ a x, ((![v266] : Fin 1 → IVec S16 32) a x).toNat < S20480.size a)
theorem k0_idx98_inb : ∀ (i : grid0.Coords) (k0_t17 : Fin (k0_t17_loop i).trips) (v125 : BitVec 32) (v131 : BitVec 32) (v266 : IVec S16 32) (k0_hw94 : k0_chk94 i k0_t17 v125 v131 v266), ∀ (k0_h9 : k0_cond9 v125 v131 = 1#1), ∀ a x, ((![v266] : Fin 1 → IVec S16 32) a x).toNat < S20480.size a := fun i k0_t17 v125 v131 v266 k0_hw94 k0_h9 => k0_hw94 k0_h9
def k0_off114 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v268 : Index := Scalar.indexCast v262
  let c0_133 : Index := 0#32
  ![v268.toNat, 0]
def k0_off115 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v273 : Index := Scalar.indexCast v262
  let c16_134 : Index := 16#32
  ![v273.toNat, 16]
def k0_off116 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v278 : Index := Scalar.indexCast v262
  let c32_135 : Index := 32#32
  ![v278.toNat, 32]
def k0_off117 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v283 : Index := Scalar.indexCast v262
  let c48_136 : Index := 48#32
  ![v283.toNat, 48]
def k0_off118 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v288 : Index := Scalar.indexCast v262
  let c64_137 : Index := 64#32
  ![v288.toNat, 64]
def k0_off119 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v293 : Index := Scalar.indexCast v262
  let c80_138 : Index := 80#32
  ![v293.toNat, 80]
def k0_off120 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v298 : Index := Scalar.indexCast v262
  let c96_139 : Index := 96#32
  ![v298.toNat, 96]
def k0_off121 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_130 : BitVec 32 := 4#32
  let v261 : BitVec 32 := Scalar.muli arg28 c4_i32_130
  let c1_i32_131 : BitVec 32 := 1#32
  let v262 : BitVec 32 := Scalar.addi v261 c1_i32_131
  let v303 : Index := Scalar.indexCast v262
  let c112_140 : Index := 112#32
  ![v303.toNat, 112]

def k0_chk95 (i : grid0.Coords) (k0_t17 : Fin (k0_t17_loop i).trips) (v125 : BitVec 32) (v131 : BitVec 32) (v313 : IVec S16 32) : Prop :=
  (∀ (k0_h9 : k0_cond9 v125 v131 = 1#1), ∀ a x, ((![v313] : Fin 1 → IVec S16 32) a x).toNat < S20480.size a)
theorem k0_idx99_inb : ∀ (i : grid0.Coords) (k0_t17 : Fin (k0_t17_loop i).trips) (v125 : BitVec 32) (v131 : BitVec 32) (v313 : IVec S16 32) (k0_hw95 : k0_chk95 i k0_t17 v125 v131 v313), ∀ (k0_h9 : k0_cond9 v125 v131 = 1#1), ∀ a x, ((![v313] : Fin 1 → IVec S16 32) a x).toNat < S20480.size a := fun i k0_t17 v125 v131 v313 k0_hw95 k0_h9 => k0_hw95 k0_h9
def k0_off122 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v315 : Index := Scalar.indexCast v309
  let c0_144 : Index := 0#32
  ![v315.toNat, 0]
def k0_off123 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v320 : Index := Scalar.indexCast v309
  let c16_145 : Index := 16#32
  ![v320.toNat, 16]
def k0_off124 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v325 : Index := Scalar.indexCast v309
  let c32_146 : Index := 32#32
  ![v325.toNat, 32]
def k0_off125 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v330 : Index := Scalar.indexCast v309
  let c48_147 : Index := 48#32
  ![v330.toNat, 48]
def k0_off126 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v335 : Index := Scalar.indexCast v309
  let c64_148 : Index := 64#32
  ![v335.toNat, 64]
def k0_off127 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v340 : Index := Scalar.indexCast v309
  let c80_149 : Index := 80#32
  ![v340.toNat, 80]
def k0_off128 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v345 : Index := Scalar.indexCast v309
  let c96_150 : Index := 96#32
  ![v345.toNat, 96]
def k0_off129 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_141 : BitVec 32 := 4#32
  let v308 : BitVec 32 := Scalar.muli arg28 c4_i32_141
  let c2_i32_142 : BitVec 32 := 2#32
  let v309 : BitVec 32 := Scalar.addi v308 c2_i32_142
  let v350 : Index := Scalar.indexCast v309
  let c112_151 : Index := 112#32
  ![v350.toNat, 112]

def k0_chk96 (i : grid0.Coords) (k0_t17 : Fin (k0_t17_loop i).trips) (v125 : BitVec 32) (v131 : BitVec 32) (v360 : IVec S16 32) : Prop :=
  (∀ (k0_h9 : k0_cond9 v125 v131 = 1#1), ∀ a x, ((![v360] : Fin 1 → IVec S16 32) a x).toNat < S20480.size a)
theorem k0_idx100_inb : ∀ (i : grid0.Coords) (k0_t17 : Fin (k0_t17_loop i).trips) (v125 : BitVec 32) (v131 : BitVec 32) (v360 : IVec S16 32) (k0_hw96 : k0_chk96 i k0_t17 v125 v131 v360), ∀ (k0_h9 : k0_cond9 v125 v131 = 1#1), ∀ a x, ((![v360] : Fin 1 → IVec S16 32) a x).toNat < S20480.size a := fun i k0_t17 v125 v131 v360 k0_hw96 k0_h9 => k0_hw96 k0_h9
def k0_off130 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v362 : Index := Scalar.indexCast v356
  let c0_154 : Index := 0#32
  ![v362.toNat, 0]
def k0_off131 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v367 : Index := Scalar.indexCast v356
  let c16_155 : Index := 16#32
  ![v367.toNat, 16]
def k0_off132 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v372 : Index := Scalar.indexCast v356
  let c32_156 : Index := 32#32
  ![v372.toNat, 32]
def k0_off133 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v377 : Index := Scalar.indexCast v356
  let c48_157 : Index := 48#32
  ![v377.toNat, 48]
def k0_off134 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v382 : Index := Scalar.indexCast v356
  let c64_158 : Index := 64#32
  ![v382.toNat, 64]
def k0_off135 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v387 : Index := Scalar.indexCast v356
  let c80_159 : Index := 80#32
  ![v387.toNat, 80]
def k0_off136 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v392 : Index := Scalar.indexCast v356
  let c96_160 : Index := 96#32
  ![v392.toNat, 96]
def k0_off137 (k0_t18 : Fin k0_t18_loop.trips) : Fin 2 → Nat :=
  let c0_i32_111 : BitVec 32 := 0#32
  let c1_i32_112 : BitVec 32 := 1#32
  let arg28 : BitVec 32 := Scf.iv c0_i32_111 c1_i32_112 k0_t18
  let c4_i32_152 : BitVec 32 := 4#32
  let v355 : BitVec 32 := Scalar.muli arg28 c4_i32_152
  let c3_i32 : BitVec 32 := 3#32
  let v356 : BitVec 32 := Scalar.addi v355 c3_i32
  let v397 : Index := Scalar.indexCast v356
  let c112_161 : Index := 112#32
  ![v397.toNat, 112]

def k0_chk97 (i : grid0.Coords) (k0_t17 : Fin (k0_t17_loop i).trips) (v125 : BitVec 32) (v131 : BitVec 32) (v183 : IVec S16 32) : Prop :=
  (∀ (k0_h9 : k0_cond9 v125 v131 = 1#1), ∀ a x, ((![v183] : Fin 1 → IVec S16 32) a x).toNat < S8192.size a)
theorem k0_idx101_inb : ∀ (i : grid0.Coords) (k0_t17 : Fin (k0_t17_loop i).trips) (v125 : BitVec 32) (v131 : BitVec 32) (v183 : IVec S16 32) (k0_hw97 : k0_chk97 i k0_t17 v125 v131 v183), ∀ (k0_h9 : k0_cond9 v125 v131 = 1#1), ∀ a x, ((![v183] : Fin 1 → IVec S16 32) a x).toNat < S8192.size a := fun i k0_t17 v125 v131 v183 k0_hw97 k0_h9 => k0_hw97 k0_h9

def k0_chk98 (i : grid0.Coords) (k0_t17 : Fin (k0_t17_loop i).trips) (v125 : BitVec 32) (v131 : BitVec 32) (v185 : IVec S16 32) : Prop :=
  (∀ (k0_h9 : k0_cond9 v125 v131 = 1#1), ∀ a x, ((![v185] : Fin 1 → IVec S16 32) a x).toNat < S8192.size a)
theorem k0_idx102_inb : ∀ (i : grid0.Coords) (k0_t17 : Fin (k0_t17_loop i).trips) (v125 : BitVec 32) (v131 : BitVec 32) (v185 : IVec S16 32) (k0_hw98 : k0_chk98 i k0_t17 v125 v131 v185), ∀ (k0_h9 : k0_cond9 v125 v131 = 1#1), ∀ a x, ((![v185] : Fin 1 → IVec S16 32) a x).toNat < S8192.size a := fun i k0_t17 v125 v131 v185 k0_hw98 k0_h9 => k0_hw98 k0_h9

def k0_chk99 (i : grid0.Coords) (k0_t17 : Fin (k0_t17_loop i).trips) (v125 : BitVec 32) (v131 : BitVec 32) (v187 : IVec S16 32) : Prop :=
  (∀ (k0_h9 : k0_cond9 v125 v131 = 1#1), ∀ a x, ((![v187] : Fin 1 → IVec S16 32) a x).toNat < S8192.size a)
theorem k0_idx103_inb : ∀ (i : grid0.Coords) (k0_t17 : Fin (k0_t17_loop i).trips) (v125 : BitVec 32) (v131 : BitVec 32) (v187 : IVec S16 32) (k0_hw99 : k0_chk99 i k0_t17 v125 v131 v187), ∀ (k0_h9 : k0_cond9 v125 v131 = 1#1), ∀ a x, ((![v187] : Fin 1 → IVec S16 32) a x).toNat < S8192.size a := fun i k0_t17 v125 v131 v187 k0_hw99 k0_h9 => k0_hw99 k0_h9

def k0_chk100 (i : grid0.Coords) (k0_t17 : Fin (k0_t17_loop i).trips) (v125 : BitVec 32) (v131 : BitVec 32) (v189 : IVec S16 32) : Prop :=
  (∀ (k0_h9 : k0_cond9 v125 v131 = 1#1), ∀ a x, ((![v189] : Fin 1 → IVec S16 32) a x).toNat < S8192.size a)
theorem k0_idx104_inb : ∀ (i : grid0.Coords) (k0_t17 : Fin (k0_t17_loop i).trips) (v125 : BitVec 32) (v131 : BitVec 32) (v189 : IVec S16 32) (k0_hw100 : k0_chk100 i k0_t17 v125 v131 v189), ∀ (k0_h9 : k0_cond9 v125 v131 = 1#1), ∀ a x, ((![v189] : Fin 1 → IVec S16 32) a x).toNat < S8192.size a := fun i k0_t17 v125 v131 v189 k0_hw100 k0_h9 => k0_hw100 k0_h9

def k0_chk101 (i : grid0.Coords) (k0_t17 : Fin (k0_t17_loop i).trips) (v125 : BitVec 32) (v131 : BitVec 32) (v191 : IVec S16 32) : Prop :=
  (∀ (k0_h9 : k0_cond9 v125 v131 = 1#1), ∀ a x, ((![v191] : Fin 1 → IVec S16 32) a x).toNat < S8192.size a)
theorem k0_idx105_inb : ∀ (i : grid0.Coords) (k0_t17 : Fin (k0_t17_loop i).trips) (v125 : BitVec 32) (v131 : BitVec 32) (v191 : IVec S16 32) (k0_hw101 : k0_chk101 i k0_t17 v125 v131 v191), ∀ (k0_h9 : k0_cond9 v125 v131 = 1#1), ∀ a x, ((![v191] : Fin 1 → IVec S16 32) a x).toNat < S8192.size a := fun i k0_t17 v125 v131 v191 k0_hw101 k0_h9 => k0_hw101 k0_h9

def k0_chk102 (i : grid0.Coords) (k0_t17 : Fin (k0_t17_loop i).trips) (v125 : BitVec 32) (v131 : BitVec 32) (v193 : IVec S16 32) : Prop :=
  (∀ (k0_h9 : k0_cond9 v125 v131 = 1#1), ∀ a x, ((![v193] : Fin 1 → IVec S16 32) a x).toNat < S8192.size a)
theorem k0_idx106_inb : ∀ (i : grid0.Coords) (k0_t17 : Fin (k0_t17_loop i).trips) (v125 : BitVec 32) (v131 : BitVec 32) (v193 : IVec S16 32) (k0_hw102 : k0_chk102 i k0_t17 v125 v131 v193), ∀ (k0_h9 : k0_cond9 v125 v131 = 1#1), ∀ a x, ((![v193] : Fin 1 → IVec S16 32) a x).toNat < S8192.size a := fun i k0_t17 v125 v131 v193 k0_hw102 k0_h9 => k0_hw102 k0_h9

def k0_chk103 (i : grid0.Coords) (k0_t17 : Fin (k0_t17_loop i).trips) (v125 : BitVec 32) (v131 : BitVec 32) (v195 : IVec S16 32) : Prop :=
  (∀ (k0_h9 : k0_cond9 v125 v131 = 1#1), ∀ a x, ((![v195] : Fin 1 → IVec S16 32) a x).toNat < S8192.size a)
theorem k0_idx107_inb : ∀ (i : grid0.Coords) (k0_t17 : Fin (k0_t17_loop i).trips) (v125 : BitVec 32) (v131 : BitVec 32) (v195 : IVec S16 32) (k0_hw103 : k0_chk103 i k0_t17 v125 v131 v195), ∀ (k0_h9 : k0_cond9 v125 v131 = 1#1), ∀ a x, ((![v195] : Fin 1 → IVec S16 32) a x).toNat < S8192.size a := fun i k0_t17 v125 v131 v195 k0_hw103 k0_h9 => k0_hw103 k0_h9

def k0_chk104 (i : grid0.Coords) (k0_t17 : Fin (k0_t17_loop i).trips) (v125 : BitVec 32) (v131 : BitVec 32) (v197 : IVec S16 32) : Prop :=
  (∀ (k0_h9 : k0_cond9 v125 v131 = 1#1), ∀ a x, ((![v197] : Fin 1 → IVec S16 32) a x).toNat < S8192.size a)
theorem k0_idx108_inb : ∀ (i : grid0.Coords) (k0_t17 : Fin (k0_t17_loop i).trips) (v125 : BitVec 32) (v131 : BitVec 32) (v197 : IVec S16 32) (k0_hw104 : k0_chk104 i k0_t17 v125 v131 v197), ∀ (k0_h9 : k0_cond9 v125 v131 = 1#1), ∀ a x, ((![v197] : Fin 1 → IVec S16 32) a x).toNat < S8192.size a := fun i k0_t17 v125 v131 v197 k0_hw104 k0_h9 => k0_hw104 k0_h9

def k0_chk105 (i : grid0.Coords) (k0_t17 : Fin (k0_t17_loop i).trips) (v125 : BitVec 32) (v131 : BitVec 32) (v199 : IVec S16 32) : Prop :=
  (∀ (k0_h9 : k0_cond9 v125 v131 = 1#1), ∀ a x, ((![v199] : Fin 1 → IVec S16 32) a x).toNat < S8192.size a)
theorem k0_idx109_inb : ∀ (i : grid0.Coords) (k0_t17 : Fin (k0_t17_loop i).trips) (v125 : BitVec 32) (v131 : BitVec 32) (v199 : IVec S16 32) (k0_hw105 : k0_chk105 i k0_t17 v125 v131 v199), ∀ (k0_h9 : k0_cond9 v125 v131 = 1#1), ∀ a x, ((![v199] : Fin 1 → IVec S16 32) a x).toNat < S8192.size a := fun i k0_t17 v125 v131 v199 k0_hw105 k0_h9 => k0_hw105 k0_h9

def k0_chk106 (i : grid0.Coords) (k0_t17 : Fin (k0_t17_loop i).trips) (v125 : BitVec 32) (v131 : BitVec 32) (v201 : IVec S16 32) : Prop :=
  (∀ (k0_h9 : k0_cond9 v125 v131 = 1#1), ∀ a x, ((![v201] : Fin 1 → IVec S16 32) a x).toNat < S8192.size a)
theorem k0_idx110_inb : ∀ (i : grid0.Coords) (k0_t17 : Fin (k0_t17_loop i).trips) (v125 : BitVec 32) (v131 : BitVec 32) (v201 : IVec S16 32) (k0_hw106 : k0_chk106 i k0_t17 v125 v131 v201), ∀ (k0_h9 : k0_cond9 v125 v131 = 1#1), ∀ a x, ((![v201] : Fin 1 → IVec S16 32) a x).toNat < S8192.size a := fun i k0_t17 v125 v131 v201 k0_hw106 k0_h9 => k0_hw106 k0_h9

def k0_chk107 (i : grid0.Coords) (k0_t17 : Fin (k0_t17_loop i).trips) (v125 : BitVec 32) (v131 : BitVec 32) (v203 : IVec S16 32) : Prop :=
  (∀ (k0_h9 : k0_cond9 v125 v131 = 1#1), ∀ a x, ((![v203] : Fin 1 → IVec S16 32) a x).toNat < S8192.size a)
theorem k0_idx111_inb : ∀ (i : grid0.Coords) (k0_t17 : Fin (k0_t17_loop i).trips) (v125 : BitVec 32) (v131 : BitVec 32) (v203 : IVec S16 32) (k0_hw107 : k0_chk107 i k0_t17 v125 v131 v203), ∀ (k0_h9 : k0_cond9 v125 v131 = 1#1), ∀ a x, ((![v203] : Fin 1 → IVec S16 32) a x).toNat < S8192.size a := fun i k0_t17 v125 v131 v203 k0_hw107 k0_h9 => k0_hw107 k0_h9

def k0_chk108 (i : grid0.Coords) (k0_t17 : Fin (k0_t17_loop i).trips) (v125 : BitVec 32) (v131 : BitVec 32) (v205 : IVec S16 32) : Prop :=
  (∀ (k0_h9 : k0_cond9 v125 v131 = 1#1), ∀ a x, ((![v205] : Fin 1 → IVec S16 32) a x).toNat < S8192.size a)
theorem k0_idx112_inb : ∀ (i : grid0.Coords) (k0_t17 : Fin (k0_t17_loop i).trips) (v125 : BitVec 32) (v131 : BitVec 32) (v205 : IVec S16 32) (k0_hw108 : k0_chk108 i k0_t17 v125 v131 v205), ∀ (k0_h9 : k0_cond9 v125 v131 = 1#1), ∀ a x, ((![v205] : Fin 1 → IVec S16 32) a x).toNat < S8192.size a := fun i k0_t17 v125 v131 v205 k0_hw108 k0_h9 => k0_hw108 k0_h9

def k0_chk109 (i : grid0.Coords) (k0_t17 : Fin (k0_t17_loop i).trips) (v125 : BitVec 32) (v131 : BitVec 32) (v207 : IVec S16 32) : Prop :=
  (∀ (k0_h9 : k0_cond9 v125 v131 = 1#1), ∀ a x, ((![v207] : Fin 1 → IVec S16 32) a x).toNat < S8192.size a)
theorem k0_idx113_inb : ∀ (i : grid0.Coords) (k0_t17 : Fin (k0_t17_loop i).trips) (v125 : BitVec 32) (v131 : BitVec 32) (v207 : IVec S16 32) (k0_hw109 : k0_chk109 i k0_t17 v125 v131 v207), ∀ (k0_h9 : k0_cond9 v125 v131 = 1#1), ∀ a x, ((![v207] : Fin 1 → IVec S16 32) a x).toNat < S8192.size a := fun i k0_t17 v125 v131 v207 k0_hw109 k0_h9 => k0_hw109 k0_h9

def k0_chk110 (i : grid0.Coords) (k0_t17 : Fin (k0_t17_loop i).trips) (v125 : BitVec 32) (v131 : BitVec 32) (v209 : IVec S16 32) : Prop :=
  (∀ (k0_h9 : k0_cond9 v125 v131 = 1#1), ∀ a x, ((![v209] : Fin 1 → IVec S16 32) a x).toNat < S8192.size a)
theorem k0_idx114_inb : ∀ (i : grid0.Coords) (k0_t17 : Fin (k0_t17_loop i).trips) (v125 : BitVec 32) (v131 : BitVec 32) (v209 : IVec S16 32) (k0_hw110 : k0_chk110 i k0_t17 v125 v131 v209), ∀ (k0_h9 : k0_cond9 v125 v131 = 1#1), ∀ a x, ((![v209] : Fin 1 → IVec S16 32) a x).toNat < S8192.size a := fun i k0_t17 v125 v131 v209 k0_hw110 k0_h9 => k0_hw110 k0_h9

def k0_chk111 (i : grid0.Coords) (k0_t17 : Fin (k0_t17_loop i).trips) (v125 : BitVec 32) (v131 : BitVec 32) (v211 : IVec S16 32) : Prop :=
  (∀ (k0_h9 : k0_cond9 v125 v131 = 1#1), ∀ a x, ((![v211] : Fin 1 → IVec S16 32) a x).toNat < S8192.size a)
theorem k0_idx115_inb : ∀ (i : grid0.Coords) (k0_t17 : Fin (k0_t17_loop i).trips) (v125 : BitVec 32) (v131 : BitVec 32) (v211 : IVec S16 32) (k0_hw111 : k0_chk111 i k0_t17 v125 v131 v211), ∀ (k0_h9 : k0_cond9 v125 v131 = 1#1), ∀ a x, ((![v211] : Fin 1 → IVec S16 32) a x).toNat < S8192.size a := fun i k0_t17 v125 v131 v211 k0_hw111 k0_h9 => k0_hw111 k0_h9

def k0_chk112 (i : grid0.Coords) (k0_t17 : Fin (k0_t17_loop i).trips) (v125 : BitVec 32) (v131 : BitVec 32) (v213 : IVec S16 32) : Prop :=
  (∀ (k0_h9 : k0_cond9 v125 v131 = 1#1), ∀ a x, ((![v213] : Fin 1 → IVec S16 32) a x).toNat < S8192.size a)
theorem k0_idx116_inb : ∀ (i : grid0.Coords) (k0_t17 : Fin (k0_t17_loop i).trips) (v125 : BitVec 32) (v131 : BitVec 32) (v213 : IVec S16 32) (k0_hw112 : k0_chk112 i k0_t17 v125 v131 v213), ∀ (k0_h9 : k0_cond9 v125 v131 = 1#1), ∀ a x, ((![v213] : Fin 1 → IVec S16 32) a x).toNat < S8192.size a := fun i k0_t17 v125 v131 v213 k0_hw112 k0_h9 => k0_hw112 k0_h9
@[reducible] def k0_t19_loop : Scf.Loop 32 :=
  let c0_i32_112 : BitVec 32 := 0#32
  let c80_i32_113 : BitVec 32 := 80#32
  let v180 : BitVec 32 := Scalar.addi c0_i32_112 c80_i32_113
  let c1_i32_114 : BitVec 32 := 1#32
  ⟨c0_i32_112, v180, c1_i32_114⟩

def k0_chk113 (i : grid0.Coords) (k0_t17 : Fin (k0_t17_loop i).trips) (v125 : BitVec 32) (v131 : BitVec 32) (v185 : IVec S16 32) : Prop :=
  (∀ (k0_h9 : ¬(k0_cond9 v125 v131 = 1#1)), ∀ a x, ((![v185] : Fin 1 → IVec S16 32) a x).toNat < S20480.size a)
theorem k0_idx117_inb : ∀ (i : grid0.Coords) (k0_t17 : Fin (k0_t17_loop i).trips) (v125 : BitVec 32) (v131 : BitVec 32) (v185 : IVec S16 32) (k0_hw113 : k0_chk113 i k0_t17 v125 v131 v185), ∀ (k0_h9 : ¬(k0_cond9 v125 v131 = 1#1)), ∀ a x, ((![v185] : Fin 1 → IVec S16 32) a x).toNat < S20480.size a := fun i k0_t17 v125 v131 v185 k0_hw113 k0_h9 => k0_hw113 k0_h9

def k0_chk114 (i : grid0.Coords) (k0_t17 : Fin (k0_t17_loop i).trips) (v125 : BitVec 32) (v131 : BitVec 32) (v189 : IVec S16 32) : Prop :=
  (∀ (k0_h9 : ¬(k0_cond9 v125 v131 = 1#1)), ∀ a x, ((![v189] : Fin 1 → IVec S16 32) a x).toNat < S20480.size a)
theorem k0_idx118_inb : ∀ (i : grid0.Coords) (k0_t17 : Fin (k0_t17_loop i).trips) (v125 : BitVec 32) (v131 : BitVec 32) (v189 : IVec S16 32) (k0_hw114 : k0_chk114 i k0_t17 v125 v131 v189), ∀ (k0_h9 : ¬(k0_cond9 v125 v131 = 1#1)), ∀ a x, ((![v189] : Fin 1 → IVec S16 32) a x).toNat < S20480.size a := fun i k0_t17 v125 v131 v189 k0_hw114 k0_h9 => k0_hw114 k0_h9
def k0_off138 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v194 : Index := Scalar.indexCast arg28
  let c0_120 : Index := 0#32
  ![v194.toNat, 0]

def k0_chk115 (i : grid0.Coords) (k0_t17 : Fin (k0_t17_loop i).trips) (v125 : BitVec 32) (v131 : BitVec 32) (v197 : IVec S16 32) : Prop :=
  (∀ (k0_h9 : ¬(k0_cond9 v125 v131 = 1#1)), ∀ a x, ((![v197] : Fin 1 → IVec S16 32) a x).toNat < S8192.size a)
theorem k0_idx119_inb : ∀ (i : grid0.Coords) (k0_t17 : Fin (k0_t17_loop i).trips) (v125 : BitVec 32) (v131 : BitVec 32) (v197 : IVec S16 32) (k0_hw115 : k0_chk115 i k0_t17 v125 v131 v197), ∀ (k0_h9 : ¬(k0_cond9 v125 v131 = 1#1)), ∀ a x, ((![v197] : Fin 1 → IVec S16 32) a x).toNat < S8192.size a := fun i k0_t17 v125 v131 v197 k0_hw115 k0_h9 => k0_hw115 k0_h9

def k0_chk116 (i : grid0.Coords) (k0_t17 : Fin (k0_t17_loop i).trips) (v125 : BitVec 32) (v131 : BitVec 32) (v199 : IVec S16 32) : Prop :=
  (∀ (k0_h9 : ¬(k0_cond9 v125 v131 = 1#1)), ∀ a x, ((![v199] : Fin 1 → IVec S16 32) a x).toNat < S8192.size a)
theorem k0_idx120_inb : ∀ (i : grid0.Coords) (k0_t17 : Fin (k0_t17_loop i).trips) (v125 : BitVec 32) (v131 : BitVec 32) (v199 : IVec S16 32) (k0_hw116 : k0_chk116 i k0_t17 v125 v131 v199), ∀ (k0_h9 : ¬(k0_cond9 v125 v131 = 1#1)), ∀ a x, ((![v199] : Fin 1 → IVec S16 32) a x).toNat < S8192.size a := fun i k0_t17 v125 v131 v199 k0_hw116 k0_h9 => k0_hw116 k0_h9
def k0_off139 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v201 : Index := Scalar.indexCast arg28
  let c16 : Index := 16#32
  ![v201.toNat, 16]

def k0_chk117 (i : grid0.Coords) (k0_t17 : Fin (k0_t17_loop i).trips) (v125 : BitVec 32) (v131 : BitVec 32) (v204 : IVec S16 32) : Prop :=
  (∀ (k0_h9 : ¬(k0_cond9 v125 v131 = 1#1)), ∀ a x, ((![v204] : Fin 1 → IVec S16 32) a x).toNat < S8192.size a)
theorem k0_idx121_inb : ∀ (i : grid0.Coords) (k0_t17 : Fin (k0_t17_loop i).trips) (v125 : BitVec 32) (v131 : BitVec 32) (v204 : IVec S16 32) (k0_hw117 : k0_chk117 i k0_t17 v125 v131 v204), ∀ (k0_h9 : ¬(k0_cond9 v125 v131 = 1#1)), ∀ a x, ((![v204] : Fin 1 → IVec S16 32) a x).toNat < S8192.size a := fun i k0_t17 v125 v131 v204 k0_hw117 k0_h9 => k0_hw117 k0_h9

def k0_chk118 (i : grid0.Coords) (k0_t17 : Fin (k0_t17_loop i).trips) (v125 : BitVec 32) (v131 : BitVec 32) (v206 : IVec S16 32) : Prop :=
  (∀ (k0_h9 : ¬(k0_cond9 v125 v131 = 1#1)), ∀ a x, ((![v206] : Fin 1 → IVec S16 32) a x).toNat < S8192.size a)
theorem k0_idx122_inb : ∀ (i : grid0.Coords) (k0_t17 : Fin (k0_t17_loop i).trips) (v125 : BitVec 32) (v131 : BitVec 32) (v206 : IVec S16 32) (k0_hw118 : k0_chk118 i k0_t17 v125 v131 v206), ∀ (k0_h9 : ¬(k0_cond9 v125 v131 = 1#1)), ∀ a x, ((![v206] : Fin 1 → IVec S16 32) a x).toNat < S8192.size a := fun i k0_t17 v125 v131 v206 k0_hw118 k0_h9 => k0_hw118 k0_h9
def k0_off140 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v208 : Index := Scalar.indexCast arg28
  let c32 : Index := 32#32
  ![v208.toNat, 32]

def k0_chk119 (i : grid0.Coords) (k0_t17 : Fin (k0_t17_loop i).trips) (v125 : BitVec 32) (v131 : BitVec 32) (v211 : IVec S16 32) : Prop :=
  (∀ (k0_h9 : ¬(k0_cond9 v125 v131 = 1#1)), ∀ a x, ((![v211] : Fin 1 → IVec S16 32) a x).toNat < S8192.size a)
theorem k0_idx123_inb : ∀ (i : grid0.Coords) (k0_t17 : Fin (k0_t17_loop i).trips) (v125 : BitVec 32) (v131 : BitVec 32) (v211 : IVec S16 32) (k0_hw119 : k0_chk119 i k0_t17 v125 v131 v211), ∀ (k0_h9 : ¬(k0_cond9 v125 v131 = 1#1)), ∀ a x, ((![v211] : Fin 1 → IVec S16 32) a x).toNat < S8192.size a := fun i k0_t17 v125 v131 v211 k0_hw119 k0_h9 => k0_hw119 k0_h9

def k0_chk120 (i : grid0.Coords) (k0_t17 : Fin (k0_t17_loop i).trips) (v125 : BitVec 32) (v131 : BitVec 32) (v213 : IVec S16 32) : Prop :=
  (∀ (k0_h9 : ¬(k0_cond9 v125 v131 = 1#1)), ∀ a x, ((![v213] : Fin 1 → IVec S16 32) a x).toNat < S8192.size a)
theorem k0_idx124_inb : ∀ (i : grid0.Coords) (k0_t17 : Fin (k0_t17_loop i).trips) (v125 : BitVec 32) (v131 : BitVec 32) (v213 : IVec S16 32) (k0_hw120 : k0_chk120 i k0_t17 v125 v131 v213), ∀ (k0_h9 : ¬(k0_cond9 v125 v131 = 1#1)), ∀ a x, ((![v213] : Fin 1 → IVec S16 32) a x).toNat < S8192.size a := fun i k0_t17 v125 v131 v213 k0_hw120 k0_h9 => k0_hw120 k0_h9
def k0_off141 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v215 : Index := Scalar.indexCast arg28
  let c48 : Index := 48#32
  ![v215.toNat, 48]

def k0_chk121 (i : grid0.Coords) (k0_t17 : Fin (k0_t17_loop i).trips) (v125 : BitVec 32) (v131 : BitVec 32) (v218 : IVec S16 32) : Prop :=
  (∀ (k0_h9 : ¬(k0_cond9 v125 v131 = 1#1)), ∀ a x, ((![v218] : Fin 1 → IVec S16 32) a x).toNat < S8192.size a)
theorem k0_idx125_inb : ∀ (i : grid0.Coords) (k0_t17 : Fin (k0_t17_loop i).trips) (v125 : BitVec 32) (v131 : BitVec 32) (v218 : IVec S16 32) (k0_hw121 : k0_chk121 i k0_t17 v125 v131 v218), ∀ (k0_h9 : ¬(k0_cond9 v125 v131 = 1#1)), ∀ a x, ((![v218] : Fin 1 → IVec S16 32) a x).toNat < S8192.size a := fun i k0_t17 v125 v131 v218 k0_hw121 k0_h9 => k0_hw121 k0_h9

def k0_chk122 (i : grid0.Coords) (k0_t17 : Fin (k0_t17_loop i).trips) (v125 : BitVec 32) (v131 : BitVec 32) (v220 : IVec S16 32) : Prop :=
  (∀ (k0_h9 : ¬(k0_cond9 v125 v131 = 1#1)), ∀ a x, ((![v220] : Fin 1 → IVec S16 32) a x).toNat < S8192.size a)
theorem k0_idx126_inb : ∀ (i : grid0.Coords) (k0_t17 : Fin (k0_t17_loop i).trips) (v125 : BitVec 32) (v131 : BitVec 32) (v220 : IVec S16 32) (k0_hw122 : k0_chk122 i k0_t17 v125 v131 v220), ∀ (k0_h9 : ¬(k0_cond9 v125 v131 = 1#1)), ∀ a x, ((![v220] : Fin 1 → IVec S16 32) a x).toNat < S8192.size a := fun i k0_t17 v125 v131 v220 k0_hw122 k0_h9 => k0_hw122 k0_h9
def k0_off142 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v222 : Index := Scalar.indexCast arg28
  let c64 : Index := 64#32
  ![v222.toNat, 64]

def k0_chk123 (i : grid0.Coords) (k0_t17 : Fin (k0_t17_loop i).trips) (v125 : BitVec 32) (v131 : BitVec 32) (v225 : IVec S16 32) : Prop :=
  (∀ (k0_h9 : ¬(k0_cond9 v125 v131 = 1#1)), ∀ a x, ((![v225] : Fin 1 → IVec S16 32) a x).toNat < S8192.size a)
theorem k0_idx127_inb : ∀ (i : grid0.Coords) (k0_t17 : Fin (k0_t17_loop i).trips) (v125 : BitVec 32) (v131 : BitVec 32) (v225 : IVec S16 32) (k0_hw123 : k0_chk123 i k0_t17 v125 v131 v225), ∀ (k0_h9 : ¬(k0_cond9 v125 v131 = 1#1)), ∀ a x, ((![v225] : Fin 1 → IVec S16 32) a x).toNat < S8192.size a := fun i k0_t17 v125 v131 v225 k0_hw123 k0_h9 => k0_hw123 k0_h9

def k0_chk124 (i : grid0.Coords) (k0_t17 : Fin (k0_t17_loop i).trips) (v125 : BitVec 32) (v131 : BitVec 32) (v227 : IVec S16 32) : Prop :=
  (∀ (k0_h9 : ¬(k0_cond9 v125 v131 = 1#1)), ∀ a x, ((![v227] : Fin 1 → IVec S16 32) a x).toNat < S8192.size a)
theorem k0_idx128_inb : ∀ (i : grid0.Coords) (k0_t17 : Fin (k0_t17_loop i).trips) (v125 : BitVec 32) (v131 : BitVec 32) (v227 : IVec S16 32) (k0_hw124 : k0_chk124 i k0_t17 v125 v131 v227), ∀ (k0_h9 : ¬(k0_cond9 v125 v131 = 1#1)), ∀ a x, ((![v227] : Fin 1 → IVec S16 32) a x).toNat < S8192.size a := fun i k0_t17 v125 v131 v227 k0_hw124 k0_h9 => k0_hw124 k0_h9
def k0_off143 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v229 : Index := Scalar.indexCast arg28
  let c80 : Index := 80#32
  ![v229.toNat, 80]

def k0_chk125 (i : grid0.Coords) (k0_t17 : Fin (k0_t17_loop i).trips) (v125 : BitVec 32) (v131 : BitVec 32) (v232 : IVec S16 32) : Prop :=
  (∀ (k0_h9 : ¬(k0_cond9 v125 v131 = 1#1)), ∀ a x, ((![v232] : Fin 1 → IVec S16 32) a x).toNat < S8192.size a)
theorem k0_idx129_inb : ∀ (i : grid0.Coords) (k0_t17 : Fin (k0_t17_loop i).trips) (v125 : BitVec 32) (v131 : BitVec 32) (v232 : IVec S16 32) (k0_hw125 : k0_chk125 i k0_t17 v125 v131 v232), ∀ (k0_h9 : ¬(k0_cond9 v125 v131 = 1#1)), ∀ a x, ((![v232] : Fin 1 → IVec S16 32) a x).toNat < S8192.size a := fun i k0_t17 v125 v131 v232 k0_hw125 k0_h9 => k0_hw125 k0_h9

def k0_chk126 (i : grid0.Coords) (k0_t17 : Fin (k0_t17_loop i).trips) (v125 : BitVec 32) (v131 : BitVec 32) (v234 : IVec S16 32) : Prop :=
  (∀ (k0_h9 : ¬(k0_cond9 v125 v131 = 1#1)), ∀ a x, ((![v234] : Fin 1 → IVec S16 32) a x).toNat < S8192.size a)
theorem k0_idx130_inb : ∀ (i : grid0.Coords) (k0_t17 : Fin (k0_t17_loop i).trips) (v125 : BitVec 32) (v131 : BitVec 32) (v234 : IVec S16 32) (k0_hw126 : k0_chk126 i k0_t17 v125 v131 v234), ∀ (k0_h9 : ¬(k0_cond9 v125 v131 = 1#1)), ∀ a x, ((![v234] : Fin 1 → IVec S16 32) a x).toNat < S8192.size a := fun i k0_t17 v125 v131 v234 k0_hw126 k0_h9 => k0_hw126 k0_h9
def k0_off144 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v236 : Index := Scalar.indexCast arg28
  let c96 : Index := 96#32
  ![v236.toNat, 96]

def k0_chk127 (i : grid0.Coords) (k0_t17 : Fin (k0_t17_loop i).trips) (v125 : BitVec 32) (v131 : BitVec 32) (v239 : IVec S16 32) : Prop :=
  (∀ (k0_h9 : ¬(k0_cond9 v125 v131 = 1#1)), ∀ a x, ((![v239] : Fin 1 → IVec S16 32) a x).toNat < S8192.size a)
theorem k0_idx131_inb : ∀ (i : grid0.Coords) (k0_t17 : Fin (k0_t17_loop i).trips) (v125 : BitVec 32) (v131 : BitVec 32) (v239 : IVec S16 32) (k0_hw127 : k0_chk127 i k0_t17 v125 v131 v239), ∀ (k0_h9 : ¬(k0_cond9 v125 v131 = 1#1)), ∀ a x, ((![v239] : Fin 1 → IVec S16 32) a x).toNat < S8192.size a := fun i k0_t17 v125 v131 v239 k0_hw127 k0_h9 => k0_hw127 k0_h9

def k0_chk128 (i : grid0.Coords) (k0_t17 : Fin (k0_t17_loop i).trips) (v125 : BitVec 32) (v131 : BitVec 32) (v241 : IVec S16 32) : Prop :=
  (∀ (k0_h9 : ¬(k0_cond9 v125 v131 = 1#1)), ∀ a x, ((![v241] : Fin 1 → IVec S16 32) a x).toNat < S8192.size a)
theorem k0_idx132_inb : ∀ (i : grid0.Coords) (k0_t17 : Fin (k0_t17_loop i).trips) (v125 : BitVec 32) (v131 : BitVec 32) (v241 : IVec S16 32) (k0_hw128 : k0_chk128 i k0_t17 v125 v131 v241), ∀ (k0_h9 : ¬(k0_cond9 v125 v131 = 1#1)), ∀ a x, ((![v241] : Fin 1 → IVec S16 32) a x).toNat < S8192.size a := fun i k0_t17 v125 v131 v241 k0_hw128 k0_h9 => k0_hw128 k0_h9
def k0_off145 (k0_t19 : Fin k0_t19_loop.trips) : Fin 2 → Nat :=
  let c0_i32_112 : BitVec 32 := 0#32
  let c1_i32_114 : BitVec 32 := 1#32
  let arg28 : BitVec 32 := Scf.iv c0_i32_112 c1_i32_114 k0_t19
  let v243 : Index := Scalar.indexCast arg28
  let c112 : Index := 112#32
  ![v243.toNat, 112]

def k0_chk129 (i : grid0.Coords) (k0_t17 : Fin (k0_t17_loop i).trips) (v125 : BitVec 32) (v131 : BitVec 32) (v246 : IVec S16 32) : Prop :=
  (∀ (k0_h9 : ¬(k0_cond9 v125 v131 = 1#1)), ∀ a x, ((![v246] : Fin 1 → IVec S16 32) a x).toNat < S8192.size a)
theorem k0_idx133_inb : ∀ (i : grid0.Coords) (k0_t17 : Fin (k0_t17_loop i).trips) (v125 : BitVec 32) (v131 : BitVec 32) (v246 : IVec S16 32) (k0_hw129 : k0_chk129 i k0_t17 v125 v131 v246), ∀ (k0_h9 : ¬(k0_cond9 v125 v131 = 1#1)), ∀ a x, ((![v246] : Fin 1 → IVec S16 32) a x).toNat < S8192.size a := fun i k0_t17 v125 v131 v246 k0_hw129 k0_h9 => k0_hw129 k0_h9

def k0_chk130 (i : grid0.Coords) (k0_t17 : Fin (k0_t17_loop i).trips) (v125 : BitVec 32) (v131 : BitVec 32) (v248 : IVec S16 32) : Prop :=
  (∀ (k0_h9 : ¬(k0_cond9 v125 v131 = 1#1)), ∀ a x, ((![v248] : Fin 1 → IVec S16 32) a x).toNat < S8192.size a)
theorem k0_idx134_inb : ∀ (i : grid0.Coords) (k0_t17 : Fin (k0_t17_loop i).trips) (v125 : BitVec 32) (v131 : BitVec 32) (v248 : IVec S16 32) (k0_hw130 : k0_chk130 i k0_t17 v125 v131 v248), ∀ (k0_h9 : ¬(k0_cond9 v125 v131 = 1#1)), ∀ a x, ((![v248] : Fin 1 → IVec S16 32) a x).toNat < S8192.size a := fun i k0_t17 v125 v131 v248 k0_hw130 k0_h9 => k0_hw130 k0_h9
def k0_cond10 (i : grid0.Coords) (k0_t17 : Fin (k0_t17_loop i).trips) : BitVec 1 :=
  let c0_i32_53 : BitVec 32 := 0#32
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let c1_i32_57 : BitVec 32 := 1#32
  let arg26 : BitVec 32 := Scf.iv v80 c1_i32_57 k0_t17
  let c2_i32_71 : BitVec 32 := 2#32
  let v100 : BitVec 32 := Scalar.muli arg26 c2_i32_71
  let c0_i32_72 : BitVec 32 := 0#32
  let v101 : BitVec 32 := Scalar.addi v100 c0_i32_72
  let c2_i32_87 : BitVec 32 := 2#32
  let v136 : BitVec 32 := Scalar.addi v101 c2_i32_87
  let v137 : BitVec 1 := Scalar.cmpi .slt v136 v22
  let v138 : BitVec 32 := Scalar.extui v137
  let c0_i32_88 : BitVec 32 := 0#32
  let v139 : BitVec 1 := Scalar.cmpi .ne v138 c0_i32_88
  v139

def k0_off146 (i : grid0.Coords) (k0_t17 : Fin (k0_t17_loop i).trips) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c0_i32_53 : BitVec 32 := 0#32
  let c320000_i32 : BitVec 32 := 320000#32
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let c1_i32_57 : BitVec 32 := 1#32
  let arg26 : BitVec 32 := Scf.iv v80 c1_i32_57 k0_t17
  let c2_i32_71 : BitVec 32 := 2#32
  let v100 : BitVec 32 := Scalar.muli arg26 c2_i32_71
  let c0_i32_72 : BitVec 32 := 0#32
  let v101 : BitVec 32 := Scalar.addi v100 c0_i32_72
  let c2_i32_111 : BitVec 32 := 2#32
  let v180 : BitVec 32 := Scalar.addi v101 c2_i32_111
  let c80_i32_112 : BitVec 32 := 80#32
  let v181 : BitVec 32 := Scalar.muli v180 c80_i32_112
  let v182 : BitVec 32 := Scalar.addi v2 v181
  let c0_i32_113 : BitVec 32 := 0#32
  ![v182.toNat, 0]

def k0_chk131 (i : grid0.Coords) (k0_t17 : Fin (k0_t17_loop i).trips) (v149 : IVec S16 32) : Prop :=
  (∀ a x, ((![v149] : Fin 1 → IVec S16 32) a x).toNat < S20480.size a)
theorem k0_idx135_inb : ∀ (i : grid0.Coords) (k0_t17 : Fin (k0_t17_loop i).trips) (v149 : IVec S16 32) (k0_hw131 : k0_chk131 i k0_t17 v149), ∀ a x, ((![v149] : Fin 1 → IVec S16 32) a x).toNat < S20480.size a := fun i k0_t17 v149 k0_hw131 => k0_hw131

def k0_chk132 (i : grid0.Coords) (k0_t17 : Fin (k0_t17_loop i).trips) (v155 : IVec S16 32) : Prop :=
  (∀ a x, ((![v155] : Fin 1 → IVec S16 32) a x).toNat < S20480.size a)
theorem k0_idx136_inb : ∀ (i : grid0.Coords) (k0_t17 : Fin (k0_t17_loop i).trips) (v155 : IVec S16 32) (k0_hw132 : k0_chk132 i k0_t17 v155), ∀ a x, ((![v155] : Fin 1 → IVec S16 32) a x).toNat < S20480.size a := fun i k0_t17 v155 k0_hw132 => k0_hw132
@[reducible] def k0_t20_loop : Scf.Loop 32 :=
  let c0_i32_111 : BitVec 32 := 0#32
  let c20_i32 : BitVec 32 := 20#32
  let v180 : BitVec 32 := Scalar.addi c0_i32_111 c20_i32
  let c1_i32_112 : BitVec 32 := 1#32
  ⟨c0_i32_111, v180, c1_i32_112⟩
def k0_cond11 (v165 : BitVec 32) (v171 : BitVec 32) : BitVec 1 :=
  let v172 : BitVec 1 := Scalar.cmpi .eq v165 v171
  let v173 : BitVec 32 := Scalar.extui v172
  let c0_i32_107 : BitVec 32 := 0#32
  let v174 : BitVec 1 := Scalar.cmpi .ne v173 c0_i32_107
  v174

def k0_chk133 (i : grid0.Coords) (k0_t17 : Fin (k0_t17_loop i).trips) (v165 : BitVec 32) (v171 : BitVec 32) (v219 : IVec S16 32) : Prop :=
  (∀ (k0_h11 : k0_cond11 v165 v171 = 1#1), ∀ a x, ((![v219] : Fin 1 → IVec S16 32) a x).toNat < S20480.size a)
theorem k0_idx137_inb : ∀ (i : grid0.Coords) (k0_t17 : Fin (k0_t17_loop i).trips) (v165 : BitVec 32) (v171 : BitVec 32) (v219 : IVec S16 32) (k0_hw133 : k0_chk133 i k0_t17 v165 v171 v219), ∀ (k0_h11 : k0_cond11 v165 v171 = 1#1), ∀ a x, ((![v219] : Fin 1 → IVec S16 32) a x).toNat < S20480.size a := fun i k0_t17 v165 v171 v219 k0_hw133 k0_h11 => k0_hw133 k0_h11
def k0_off147 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v221 : Index := Scalar.indexCast v215
  let c0_129 : Index := 0#32
  ![v221.toNat, 0]
def k0_off148 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v226 : Index := Scalar.indexCast v215
  let c16 : Index := 16#32
  ![v226.toNat, 16]
def k0_off149 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v231 : Index := Scalar.indexCast v215
  let c32 : Index := 32#32
  ![v231.toNat, 32]
def k0_off150 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v236 : Index := Scalar.indexCast v215
  let c48 : Index := 48#32
  ![v236.toNat, 48]
def k0_off151 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v241 : Index := Scalar.indexCast v215
  let c64 : Index := 64#32
  ![v241.toNat, 64]
def k0_off152 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v246 : Index := Scalar.indexCast v215
  let c80 : Index := 80#32
  ![v246.toNat, 80]
def k0_off153 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v251 : Index := Scalar.indexCast v215
  let c96 : Index := 96#32
  ![v251.toNat, 96]
def k0_off154 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32 : BitVec 32 := 4#32
  let v214 : BitVec 32 := Scalar.muli arg28 c4_i32
  let c0_i32_127 : BitVec 32 := 0#32
  let v215 : BitVec 32 := Scalar.addi v214 c0_i32_127
  let v256 : Index := Scalar.indexCast v215
  let c112 : Index := 112#32
  ![v256.toNat, 112]

def k0_chk134 (i : grid0.Coords) (k0_t17 : Fin (k0_t17_loop i).trips) (v165 : BitVec 32) (v171 : BitVec 32) (v266 : IVec S16 32) : Prop :=
  (∀ (k0_h11 : k0_cond11 v165 v171 = 1#1), ∀ a x, ((![v266] : Fin 1 → IVec S16 32) a x).toNat < S20480.size a)
theorem k0_idx138_inb : ∀ (i : grid0.Coords) (k0_t17 : Fin (k0_t17_loop i).trips) (v165 : BitVec 32) (v171 : BitVec 32) (v266 : IVec S16 32) (k0_hw134 : k0_chk134 i k0_t17 v165 v171 v266), ∀ (k0_h11 : k0_cond11 v165 v171 = 1#1), ∀ a x, ((![v266] : Fin 1 → IVec S16 32) a x).toNat < S20480.size a := fun i k0_t17 v165 v171 v266 k0_hw134 k0_h11 => k0_hw134 k0_h11
def k0_off155 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v268 : Index := Scalar.indexCast v262
  let c0_133 : Index := 0#32
  ![v268.toNat, 0]
def k0_off156 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v273 : Index := Scalar.indexCast v262
  let c16_134 : Index := 16#32
  ![v273.toNat, 16]
def k0_off157 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v278 : Index := Scalar.indexCast v262
  let c32_135 : Index := 32#32
  ![v278.toNat, 32]
def k0_off158 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v283 : Index := Scalar.indexCast v262
  let c48_136 : Index := 48#32
  ![v283.toNat, 48]
def k0_off159 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v288 : Index := Scalar.indexCast v262
  let c64_137 : Index := 64#32
  ![v288.toNat, 64]
def k0_off160 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v293 : Index := Scalar.indexCast v262
  let c80_138 : Index := 80#32
  ![v293.toNat, 80]
def k0_off161 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v298 : Index := Scalar.indexCast v262
  let c96_139 : Index := 96#32
  ![v298.toNat, 96]
def k0_off162 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_130 : BitVec 32 := 4#32
  let v261 : BitVec 32 := Scalar.muli arg28 c4_i32_130
  let c1_i32_131 : BitVec 32 := 1#32
  let v262 : BitVec 32 := Scalar.addi v261 c1_i32_131
  let v303 : Index := Scalar.indexCast v262
  let c112_140 : Index := 112#32
  ![v303.toNat, 112]

def k0_chk135 (i : grid0.Coords) (k0_t17 : Fin (k0_t17_loop i).trips) (v165 : BitVec 32) (v171 : BitVec 32) (v313 : IVec S16 32) : Prop :=
  (∀ (k0_h11 : k0_cond11 v165 v171 = 1#1), ∀ a x, ((![v313] : Fin 1 → IVec S16 32) a x).toNat < S20480.size a)
theorem k0_idx139_inb : ∀ (i : grid0.Coords) (k0_t17 : Fin (k0_t17_loop i).trips) (v165 : BitVec 32) (v171 : BitVec 32) (v313 : IVec S16 32) (k0_hw135 : k0_chk135 i k0_t17 v165 v171 v313), ∀ (k0_h11 : k0_cond11 v165 v171 = 1#1), ∀ a x, ((![v313] : Fin 1 → IVec S16 32) a x).toNat < S20480.size a := fun i k0_t17 v165 v171 v313 k0_hw135 k0_h11 => k0_hw135 k0_h11
def k0_off163 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v315 : Index := Scalar.indexCast v309
  let c0_144 : Index := 0#32
  ![v315.toNat, 0]
def k0_off164 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v320 : Index := Scalar.indexCast v309
  let c16_145 : Index := 16#32
  ![v320.toNat, 16]
def k0_off165 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v325 : Index := Scalar.indexCast v309
  let c32_146 : Index := 32#32
  ![v325.toNat, 32]
def k0_off166 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v330 : Index := Scalar.indexCast v309
  let c48_147 : Index := 48#32
  ![v330.toNat, 48]
def k0_off167 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v335 : Index := Scalar.indexCast v309
  let c64_148 : Index := 64#32
  ![v335.toNat, 64]
def k0_off168 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v340 : Index := Scalar.indexCast v309
  let c80_149 : Index := 80#32
  ![v340.toNat, 80]
def k0_off169 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v345 : Index := Scalar.indexCast v309
  let c96_150 : Index := 96#32
  ![v345.toNat, 96]
def k0_off170 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_141 : BitVec 32 := 4#32
  let v308 : BitVec 32 := Scalar.muli arg28 c4_i32_141
  let c2_i32_142 : BitVec 32 := 2#32
  let v309 : BitVec 32 := Scalar.addi v308 c2_i32_142
  let v350 : Index := Scalar.indexCast v309
  let c112_151 : Index := 112#32
  ![v350.toNat, 112]

def k0_chk136 (i : grid0.Coords) (k0_t17 : Fin (k0_t17_loop i).trips) (v165 : BitVec 32) (v171 : BitVec 32) (v360 : IVec S16 32) : Prop :=
  (∀ (k0_h11 : k0_cond11 v165 v171 = 1#1), ∀ a x, ((![v360] : Fin 1 → IVec S16 32) a x).toNat < S20480.size a)
theorem k0_idx140_inb : ∀ (i : grid0.Coords) (k0_t17 : Fin (k0_t17_loop i).trips) (v165 : BitVec 32) (v171 : BitVec 32) (v360 : IVec S16 32) (k0_hw136 : k0_chk136 i k0_t17 v165 v171 v360), ∀ (k0_h11 : k0_cond11 v165 v171 = 1#1), ∀ a x, ((![v360] : Fin 1 → IVec S16 32) a x).toNat < S20480.size a := fun i k0_t17 v165 v171 v360 k0_hw136 k0_h11 => k0_hw136 k0_h11
def k0_off171 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v362 : Index := Scalar.indexCast v356
  let c0_154 : Index := 0#32
  ![v362.toNat, 0]
def k0_off172 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v367 : Index := Scalar.indexCast v356
  let c16_155 : Index := 16#32
  ![v367.toNat, 16]
def k0_off173 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v372 : Index := Scalar.indexCast v356
  let c32_156 : Index := 32#32
  ![v372.toNat, 32]
def k0_off174 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v377 : Index := Scalar.indexCast v356
  let c48_157 : Index := 48#32
  ![v377.toNat, 48]
def k0_off175 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v382 : Index := Scalar.indexCast v356
  let c64_158 : Index := 64#32
  ![v382.toNat, 64]
def k0_off176 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v387 : Index := Scalar.indexCast v356
  let c80_159 : Index := 80#32
  ![v387.toNat, 80]
def k0_off177 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v392 : Index := Scalar.indexCast v356
  let c96_160 : Index := 96#32
  ![v392.toNat, 96]
def k0_off178 (k0_t20 : Fin k0_t20_loop.trips) : Fin 2 → Nat :=
  let c0_i32_111 : BitVec 32 := 0#32
  let c1_i32_112 : BitVec 32 := 1#32
  let arg28 : BitVec 32 := Scf.iv c0_i32_111 c1_i32_112 k0_t20
  let c4_i32_152 : BitVec 32 := 4#32
  let v355 : BitVec 32 := Scalar.muli arg28 c4_i32_152
  let c3_i32 : BitVec 32 := 3#32
  let v356 : BitVec 32 := Scalar.addi v355 c3_i32
  let v397 : Index := Scalar.indexCast v356
  let c112_161 : Index := 112#32
  ![v397.toNat, 112]

def k0_chk137 (i : grid0.Coords) (k0_t17 : Fin (k0_t17_loop i).trips) (v165 : BitVec 32) (v171 : BitVec 32) (v183 : IVec S16 32) : Prop :=
  (∀ (k0_h11 : k0_cond11 v165 v171 = 1#1), ∀ a x, ((![v183] : Fin 1 → IVec S16 32) a x).toNat < S8192.size a)
theorem k0_idx141_inb : ∀ (i : grid0.Coords) (k0_t17 : Fin (k0_t17_loop i).trips) (v165 : BitVec 32) (v171 : BitVec 32) (v183 : IVec S16 32) (k0_hw137 : k0_chk137 i k0_t17 v165 v171 v183), ∀ (k0_h11 : k0_cond11 v165 v171 = 1#1), ∀ a x, ((![v183] : Fin 1 → IVec S16 32) a x).toNat < S8192.size a := fun i k0_t17 v165 v171 v183 k0_hw137 k0_h11 => k0_hw137 k0_h11

def k0_chk138 (i : grid0.Coords) (k0_t17 : Fin (k0_t17_loop i).trips) (v165 : BitVec 32) (v171 : BitVec 32) (v185 : IVec S16 32) : Prop :=
  (∀ (k0_h11 : k0_cond11 v165 v171 = 1#1), ∀ a x, ((![v185] : Fin 1 → IVec S16 32) a x).toNat < S8192.size a)
theorem k0_idx142_inb : ∀ (i : grid0.Coords) (k0_t17 : Fin (k0_t17_loop i).trips) (v165 : BitVec 32) (v171 : BitVec 32) (v185 : IVec S16 32) (k0_hw138 : k0_chk138 i k0_t17 v165 v171 v185), ∀ (k0_h11 : k0_cond11 v165 v171 = 1#1), ∀ a x, ((![v185] : Fin 1 → IVec S16 32) a x).toNat < S8192.size a := fun i k0_t17 v165 v171 v185 k0_hw138 k0_h11 => k0_hw138 k0_h11

def k0_chk139 (i : grid0.Coords) (k0_t17 : Fin (k0_t17_loop i).trips) (v165 : BitVec 32) (v171 : BitVec 32) (v187 : IVec S16 32) : Prop :=
  (∀ (k0_h11 : k0_cond11 v165 v171 = 1#1), ∀ a x, ((![v187] : Fin 1 → IVec S16 32) a x).toNat < S8192.size a)
theorem k0_idx143_inb : ∀ (i : grid0.Coords) (k0_t17 : Fin (k0_t17_loop i).trips) (v165 : BitVec 32) (v171 : BitVec 32) (v187 : IVec S16 32) (k0_hw139 : k0_chk139 i k0_t17 v165 v171 v187), ∀ (k0_h11 : k0_cond11 v165 v171 = 1#1), ∀ a x, ((![v187] : Fin 1 → IVec S16 32) a x).toNat < S8192.size a := fun i k0_t17 v165 v171 v187 k0_hw139 k0_h11 => k0_hw139 k0_h11

def k0_chk140 (i : grid0.Coords) (k0_t17 : Fin (k0_t17_loop i).trips) (v165 : BitVec 32) (v171 : BitVec 32) (v189 : IVec S16 32) : Prop :=
  (∀ (k0_h11 : k0_cond11 v165 v171 = 1#1), ∀ a x, ((![v189] : Fin 1 → IVec S16 32) a x).toNat < S8192.size a)
theorem k0_idx144_inb : ∀ (i : grid0.Coords) (k0_t17 : Fin (k0_t17_loop i).trips) (v165 : BitVec 32) (v171 : BitVec 32) (v189 : IVec S16 32) (k0_hw140 : k0_chk140 i k0_t17 v165 v171 v189), ∀ (k0_h11 : k0_cond11 v165 v171 = 1#1), ∀ a x, ((![v189] : Fin 1 → IVec S16 32) a x).toNat < S8192.size a := fun i k0_t17 v165 v171 v189 k0_hw140 k0_h11 => k0_hw140 k0_h11

def k0_chk141 (i : grid0.Coords) (k0_t17 : Fin (k0_t17_loop i).trips) (v165 : BitVec 32) (v171 : BitVec 32) (v191 : IVec S16 32) : Prop :=
  (∀ (k0_h11 : k0_cond11 v165 v171 = 1#1), ∀ a x, ((![v191] : Fin 1 → IVec S16 32) a x).toNat < S8192.size a)
theorem k0_idx145_inb : ∀ (i : grid0.Coords) (k0_t17 : Fin (k0_t17_loop i).trips) (v165 : BitVec 32) (v171 : BitVec 32) (v191 : IVec S16 32) (k0_hw141 : k0_chk141 i k0_t17 v165 v171 v191), ∀ (k0_h11 : k0_cond11 v165 v171 = 1#1), ∀ a x, ((![v191] : Fin 1 → IVec S16 32) a x).toNat < S8192.size a := fun i k0_t17 v165 v171 v191 k0_hw141 k0_h11 => k0_hw141 k0_h11

def k0_chk142 (i : grid0.Coords) (k0_t17 : Fin (k0_t17_loop i).trips) (v165 : BitVec 32) (v171 : BitVec 32) (v193 : IVec S16 32) : Prop :=
  (∀ (k0_h11 : k0_cond11 v165 v171 = 1#1), ∀ a x, ((![v193] : Fin 1 → IVec S16 32) a x).toNat < S8192.size a)
theorem k0_idx146_inb : ∀ (i : grid0.Coords) (k0_t17 : Fin (k0_t17_loop i).trips) (v165 : BitVec 32) (v171 : BitVec 32) (v193 : IVec S16 32) (k0_hw142 : k0_chk142 i k0_t17 v165 v171 v193), ∀ (k0_h11 : k0_cond11 v165 v171 = 1#1), ∀ a x, ((![v193] : Fin 1 → IVec S16 32) a x).toNat < S8192.size a := fun i k0_t17 v165 v171 v193 k0_hw142 k0_h11 => k0_hw142 k0_h11

def k0_chk143 (i : grid0.Coords) (k0_t17 : Fin (k0_t17_loop i).trips) (v165 : BitVec 32) (v171 : BitVec 32) (v195 : IVec S16 32) : Prop :=
  (∀ (k0_h11 : k0_cond11 v165 v171 = 1#1), ∀ a x, ((![v195] : Fin 1 → IVec S16 32) a x).toNat < S8192.size a)
theorem k0_idx147_inb : ∀ (i : grid0.Coords) (k0_t17 : Fin (k0_t17_loop i).trips) (v165 : BitVec 32) (v171 : BitVec 32) (v195 : IVec S16 32) (k0_hw143 : k0_chk143 i k0_t17 v165 v171 v195), ∀ (k0_h11 : k0_cond11 v165 v171 = 1#1), ∀ a x, ((![v195] : Fin 1 → IVec S16 32) a x).toNat < S8192.size a := fun i k0_t17 v165 v171 v195 k0_hw143 k0_h11 => k0_hw143 k0_h11

def k0_chk144 (i : grid0.Coords) (k0_t17 : Fin (k0_t17_loop i).trips) (v165 : BitVec 32) (v171 : BitVec 32) (v197 : IVec S16 32) : Prop :=
  (∀ (k0_h11 : k0_cond11 v165 v171 = 1#1), ∀ a x, ((![v197] : Fin 1 → IVec S16 32) a x).toNat < S8192.size a)
theorem k0_idx148_inb : ∀ (i : grid0.Coords) (k0_t17 : Fin (k0_t17_loop i).trips) (v165 : BitVec 32) (v171 : BitVec 32) (v197 : IVec S16 32) (k0_hw144 : k0_chk144 i k0_t17 v165 v171 v197), ∀ (k0_h11 : k0_cond11 v165 v171 = 1#1), ∀ a x, ((![v197] : Fin 1 → IVec S16 32) a x).toNat < S8192.size a := fun i k0_t17 v165 v171 v197 k0_hw144 k0_h11 => k0_hw144 k0_h11

def k0_chk145 (i : grid0.Coords) (k0_t17 : Fin (k0_t17_loop i).trips) (v165 : BitVec 32) (v171 : BitVec 32) (v199 : IVec S16 32) : Prop :=
  (∀ (k0_h11 : k0_cond11 v165 v171 = 1#1), ∀ a x, ((![v199] : Fin 1 → IVec S16 32) a x).toNat < S8192.size a)
theorem k0_idx149_inb : ∀ (i : grid0.Coords) (k0_t17 : Fin (k0_t17_loop i).trips) (v165 : BitVec 32) (v171 : BitVec 32) (v199 : IVec S16 32) (k0_hw145 : k0_chk145 i k0_t17 v165 v171 v199), ∀ (k0_h11 : k0_cond11 v165 v171 = 1#1), ∀ a x, ((![v199] : Fin 1 → IVec S16 32) a x).toNat < S8192.size a := fun i k0_t17 v165 v171 v199 k0_hw145 k0_h11 => k0_hw145 k0_h11

def k0_chk146 (i : grid0.Coords) (k0_t17 : Fin (k0_t17_loop i).trips) (v165 : BitVec 32) (v171 : BitVec 32) (v201 : IVec S16 32) : Prop :=
  (∀ (k0_h11 : k0_cond11 v165 v171 = 1#1), ∀ a x, ((![v201] : Fin 1 → IVec S16 32) a x).toNat < S8192.size a)
theorem k0_idx150_inb : ∀ (i : grid0.Coords) (k0_t17 : Fin (k0_t17_loop i).trips) (v165 : BitVec 32) (v171 : BitVec 32) (v201 : IVec S16 32) (k0_hw146 : k0_chk146 i k0_t17 v165 v171 v201), ∀ (k0_h11 : k0_cond11 v165 v171 = 1#1), ∀ a x, ((![v201] : Fin 1 → IVec S16 32) a x).toNat < S8192.size a := fun i k0_t17 v165 v171 v201 k0_hw146 k0_h11 => k0_hw146 k0_h11

def k0_chk147 (i : grid0.Coords) (k0_t17 : Fin (k0_t17_loop i).trips) (v165 : BitVec 32) (v171 : BitVec 32) (v203 : IVec S16 32) : Prop :=
  (∀ (k0_h11 : k0_cond11 v165 v171 = 1#1), ∀ a x, ((![v203] : Fin 1 → IVec S16 32) a x).toNat < S8192.size a)
theorem k0_idx151_inb : ∀ (i : grid0.Coords) (k0_t17 : Fin (k0_t17_loop i).trips) (v165 : BitVec 32) (v171 : BitVec 32) (v203 : IVec S16 32) (k0_hw147 : k0_chk147 i k0_t17 v165 v171 v203), ∀ (k0_h11 : k0_cond11 v165 v171 = 1#1), ∀ a x, ((![v203] : Fin 1 → IVec S16 32) a x).toNat < S8192.size a := fun i k0_t17 v165 v171 v203 k0_hw147 k0_h11 => k0_hw147 k0_h11

def k0_chk148 (i : grid0.Coords) (k0_t17 : Fin (k0_t17_loop i).trips) (v165 : BitVec 32) (v171 : BitVec 32) (v205 : IVec S16 32) : Prop :=
  (∀ (k0_h11 : k0_cond11 v165 v171 = 1#1), ∀ a x, ((![v205] : Fin 1 → IVec S16 32) a x).toNat < S8192.size a)
theorem k0_idx152_inb : ∀ (i : grid0.Coords) (k0_t17 : Fin (k0_t17_loop i).trips) (v165 : BitVec 32) (v171 : BitVec 32) (v205 : IVec S16 32) (k0_hw148 : k0_chk148 i k0_t17 v165 v171 v205), ∀ (k0_h11 : k0_cond11 v165 v171 = 1#1), ∀ a x, ((![v205] : Fin 1 → IVec S16 32) a x).toNat < S8192.size a := fun i k0_t17 v165 v171 v205 k0_hw148 k0_h11 => k0_hw148 k0_h11

def k0_chk149 (i : grid0.Coords) (k0_t17 : Fin (k0_t17_loop i).trips) (v165 : BitVec 32) (v171 : BitVec 32) (v207 : IVec S16 32) : Prop :=
  (∀ (k0_h11 : k0_cond11 v165 v171 = 1#1), ∀ a x, ((![v207] : Fin 1 → IVec S16 32) a x).toNat < S8192.size a)
theorem k0_idx153_inb : ∀ (i : grid0.Coords) (k0_t17 : Fin (k0_t17_loop i).trips) (v165 : BitVec 32) (v171 : BitVec 32) (v207 : IVec S16 32) (k0_hw149 : k0_chk149 i k0_t17 v165 v171 v207), ∀ (k0_h11 : k0_cond11 v165 v171 = 1#1), ∀ a x, ((![v207] : Fin 1 → IVec S16 32) a x).toNat < S8192.size a := fun i k0_t17 v165 v171 v207 k0_hw149 k0_h11 => k0_hw149 k0_h11

def k0_chk150 (i : grid0.Coords) (k0_t17 : Fin (k0_t17_loop i).trips) (v165 : BitVec 32) (v171 : BitVec 32) (v209 : IVec S16 32) : Prop :=
  (∀ (k0_h11 : k0_cond11 v165 v171 = 1#1), ∀ a x, ((![v209] : Fin 1 → IVec S16 32) a x).toNat < S8192.size a)
theorem k0_idx154_inb : ∀ (i : grid0.Coords) (k0_t17 : Fin (k0_t17_loop i).trips) (v165 : BitVec 32) (v171 : BitVec 32) (v209 : IVec S16 32) (k0_hw150 : k0_chk150 i k0_t17 v165 v171 v209), ∀ (k0_h11 : k0_cond11 v165 v171 = 1#1), ∀ a x, ((![v209] : Fin 1 → IVec S16 32) a x).toNat < S8192.size a := fun i k0_t17 v165 v171 v209 k0_hw150 k0_h11 => k0_hw150 k0_h11

def k0_chk151 (i : grid0.Coords) (k0_t17 : Fin (k0_t17_loop i).trips) (v165 : BitVec 32) (v171 : BitVec 32) (v211 : IVec S16 32) : Prop :=
  (∀ (k0_h11 : k0_cond11 v165 v171 = 1#1), ∀ a x, ((![v211] : Fin 1 → IVec S16 32) a x).toNat < S8192.size a)
theorem k0_idx155_inb : ∀ (i : grid0.Coords) (k0_t17 : Fin (k0_t17_loop i).trips) (v165 : BitVec 32) (v171 : BitVec 32) (v211 : IVec S16 32) (k0_hw151 : k0_chk151 i k0_t17 v165 v171 v211), ∀ (k0_h11 : k0_cond11 v165 v171 = 1#1), ∀ a x, ((![v211] : Fin 1 → IVec S16 32) a x).toNat < S8192.size a := fun i k0_t17 v165 v171 v211 k0_hw151 k0_h11 => k0_hw151 k0_h11

def k0_chk152 (i : grid0.Coords) (k0_t17 : Fin (k0_t17_loop i).trips) (v165 : BitVec 32) (v171 : BitVec 32) (v213 : IVec S16 32) : Prop :=
  (∀ (k0_h11 : k0_cond11 v165 v171 = 1#1), ∀ a x, ((![v213] : Fin 1 → IVec S16 32) a x).toNat < S8192.size a)
theorem k0_idx156_inb : ∀ (i : grid0.Coords) (k0_t17 : Fin (k0_t17_loop i).trips) (v165 : BitVec 32) (v171 : BitVec 32) (v213 : IVec S16 32) (k0_hw152 : k0_chk152 i k0_t17 v165 v171 v213), ∀ (k0_h11 : k0_cond11 v165 v171 = 1#1), ∀ a x, ((![v213] : Fin 1 → IVec S16 32) a x).toNat < S8192.size a := fun i k0_t17 v165 v171 v213 k0_hw152 k0_h11 => k0_hw152 k0_h11
@[reducible] def k0_t21_loop : Scf.Loop 32 :=
  let c0_i32_112 : BitVec 32 := 0#32
  let c80_i32_113 : BitVec 32 := 80#32
  let v180 : BitVec 32 := Scalar.addi c0_i32_112 c80_i32_113
  let c1_i32_114 : BitVec 32 := 1#32
  ⟨c0_i32_112, v180, c1_i32_114⟩

def k0_chk153 (i : grid0.Coords) (k0_t17 : Fin (k0_t17_loop i).trips) (v165 : BitVec 32) (v171 : BitVec 32) (v185 : IVec S16 32) : Prop :=
  (∀ (k0_h11 : ¬(k0_cond11 v165 v171 = 1#1)), ∀ a x, ((![v185] : Fin 1 → IVec S16 32) a x).toNat < S20480.size a)
theorem k0_idx157_inb : ∀ (i : grid0.Coords) (k0_t17 : Fin (k0_t17_loop i).trips) (v165 : BitVec 32) (v171 : BitVec 32) (v185 : IVec S16 32) (k0_hw153 : k0_chk153 i k0_t17 v165 v171 v185), ∀ (k0_h11 : ¬(k0_cond11 v165 v171 = 1#1)), ∀ a x, ((![v185] : Fin 1 → IVec S16 32) a x).toNat < S20480.size a := fun i k0_t17 v165 v171 v185 k0_hw153 k0_h11 => k0_hw153 k0_h11

def k0_chk154 (i : grid0.Coords) (k0_t17 : Fin (k0_t17_loop i).trips) (v165 : BitVec 32) (v171 : BitVec 32) (v189 : IVec S16 32) : Prop :=
  (∀ (k0_h11 : ¬(k0_cond11 v165 v171 = 1#1)), ∀ a x, ((![v189] : Fin 1 → IVec S16 32) a x).toNat < S20480.size a)
theorem k0_idx158_inb : ∀ (i : grid0.Coords) (k0_t17 : Fin (k0_t17_loop i).trips) (v165 : BitVec 32) (v171 : BitVec 32) (v189 : IVec S16 32) (k0_hw154 : k0_chk154 i k0_t17 v165 v171 v189), ∀ (k0_h11 : ¬(k0_cond11 v165 v171 = 1#1)), ∀ a x, ((![v189] : Fin 1 → IVec S16 32) a x).toNat < S20480.size a := fun i k0_t17 v165 v171 v189 k0_hw154 k0_h11 => k0_hw154 k0_h11
def k0_off179 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v194 : Index := Scalar.indexCast arg28
  let c0_120 : Index := 0#32
  ![v194.toNat, 0]

def k0_chk155 (i : grid0.Coords) (k0_t17 : Fin (k0_t17_loop i).trips) (v165 : BitVec 32) (v171 : BitVec 32) (v197 : IVec S16 32) : Prop :=
  (∀ (k0_h11 : ¬(k0_cond11 v165 v171 = 1#1)), ∀ a x, ((![v197] : Fin 1 → IVec S16 32) a x).toNat < S8192.size a)
theorem k0_idx159_inb : ∀ (i : grid0.Coords) (k0_t17 : Fin (k0_t17_loop i).trips) (v165 : BitVec 32) (v171 : BitVec 32) (v197 : IVec S16 32) (k0_hw155 : k0_chk155 i k0_t17 v165 v171 v197), ∀ (k0_h11 : ¬(k0_cond11 v165 v171 = 1#1)), ∀ a x, ((![v197] : Fin 1 → IVec S16 32) a x).toNat < S8192.size a := fun i k0_t17 v165 v171 v197 k0_hw155 k0_h11 => k0_hw155 k0_h11

def k0_chk156 (i : grid0.Coords) (k0_t17 : Fin (k0_t17_loop i).trips) (v165 : BitVec 32) (v171 : BitVec 32) (v199 : IVec S16 32) : Prop :=
  (∀ (k0_h11 : ¬(k0_cond11 v165 v171 = 1#1)), ∀ a x, ((![v199] : Fin 1 → IVec S16 32) a x).toNat < S8192.size a)
theorem k0_idx160_inb : ∀ (i : grid0.Coords) (k0_t17 : Fin (k0_t17_loop i).trips) (v165 : BitVec 32) (v171 : BitVec 32) (v199 : IVec S16 32) (k0_hw156 : k0_chk156 i k0_t17 v165 v171 v199), ∀ (k0_h11 : ¬(k0_cond11 v165 v171 = 1#1)), ∀ a x, ((![v199] : Fin 1 → IVec S16 32) a x).toNat < S8192.size a := fun i k0_t17 v165 v171 v199 k0_hw156 k0_h11 => k0_hw156 k0_h11
def k0_off180 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v201 : Index := Scalar.indexCast arg28
  let c16 : Index := 16#32
  ![v201.toNat, 16]

def k0_chk157 (i : grid0.Coords) (k0_t17 : Fin (k0_t17_loop i).trips) (v165 : BitVec 32) (v171 : BitVec 32) (v204 : IVec S16 32) : Prop :=
  (∀ (k0_h11 : ¬(k0_cond11 v165 v171 = 1#1)), ∀ a x, ((![v204] : Fin 1 → IVec S16 32) a x).toNat < S8192.size a)
theorem k0_idx161_inb : ∀ (i : grid0.Coords) (k0_t17 : Fin (k0_t17_loop i).trips) (v165 : BitVec 32) (v171 : BitVec 32) (v204 : IVec S16 32) (k0_hw157 : k0_chk157 i k0_t17 v165 v171 v204), ∀ (k0_h11 : ¬(k0_cond11 v165 v171 = 1#1)), ∀ a x, ((![v204] : Fin 1 → IVec S16 32) a x).toNat < S8192.size a := fun i k0_t17 v165 v171 v204 k0_hw157 k0_h11 => k0_hw157 k0_h11

def k0_chk158 (i : grid0.Coords) (k0_t17 : Fin (k0_t17_loop i).trips) (v165 : BitVec 32) (v171 : BitVec 32) (v206 : IVec S16 32) : Prop :=
  (∀ (k0_h11 : ¬(k0_cond11 v165 v171 = 1#1)), ∀ a x, ((![v206] : Fin 1 → IVec S16 32) a x).toNat < S8192.size a)
theorem k0_idx162_inb : ∀ (i : grid0.Coords) (k0_t17 : Fin (k0_t17_loop i).trips) (v165 : BitVec 32) (v171 : BitVec 32) (v206 : IVec S16 32) (k0_hw158 : k0_chk158 i k0_t17 v165 v171 v206), ∀ (k0_h11 : ¬(k0_cond11 v165 v171 = 1#1)), ∀ a x, ((![v206] : Fin 1 → IVec S16 32) a x).toNat < S8192.size a := fun i k0_t17 v165 v171 v206 k0_hw158 k0_h11 => k0_hw158 k0_h11
def k0_off181 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v208 : Index := Scalar.indexCast arg28
  let c32 : Index := 32#32
  ![v208.toNat, 32]

def k0_chk159 (i : grid0.Coords) (k0_t17 : Fin (k0_t17_loop i).trips) (v165 : BitVec 32) (v171 : BitVec 32) (v211 : IVec S16 32) : Prop :=
  (∀ (k0_h11 : ¬(k0_cond11 v165 v171 = 1#1)), ∀ a x, ((![v211] : Fin 1 → IVec S16 32) a x).toNat < S8192.size a)
theorem k0_idx163_inb : ∀ (i : grid0.Coords) (k0_t17 : Fin (k0_t17_loop i).trips) (v165 : BitVec 32) (v171 : BitVec 32) (v211 : IVec S16 32) (k0_hw159 : k0_chk159 i k0_t17 v165 v171 v211), ∀ (k0_h11 : ¬(k0_cond11 v165 v171 = 1#1)), ∀ a x, ((![v211] : Fin 1 → IVec S16 32) a x).toNat < S8192.size a := fun i k0_t17 v165 v171 v211 k0_hw159 k0_h11 => k0_hw159 k0_h11

def k0_chk160 (i : grid0.Coords) (k0_t17 : Fin (k0_t17_loop i).trips) (v165 : BitVec 32) (v171 : BitVec 32) (v213 : IVec S16 32) : Prop :=
  (∀ (k0_h11 : ¬(k0_cond11 v165 v171 = 1#1)), ∀ a x, ((![v213] : Fin 1 → IVec S16 32) a x).toNat < S8192.size a)
theorem k0_idx164_inb : ∀ (i : grid0.Coords) (k0_t17 : Fin (k0_t17_loop i).trips) (v165 : BitVec 32) (v171 : BitVec 32) (v213 : IVec S16 32) (k0_hw160 : k0_chk160 i k0_t17 v165 v171 v213), ∀ (k0_h11 : ¬(k0_cond11 v165 v171 = 1#1)), ∀ a x, ((![v213] : Fin 1 → IVec S16 32) a x).toNat < S8192.size a := fun i k0_t17 v165 v171 v213 k0_hw160 k0_h11 => k0_hw160 k0_h11
def k0_off182 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v215 : Index := Scalar.indexCast arg28
  let c48 : Index := 48#32
  ![v215.toNat, 48]

def k0_chk161 (i : grid0.Coords) (k0_t17 : Fin (k0_t17_loop i).trips) (v165 : BitVec 32) (v171 : BitVec 32) (v218 : IVec S16 32) : Prop :=
  (∀ (k0_h11 : ¬(k0_cond11 v165 v171 = 1#1)), ∀ a x, ((![v218] : Fin 1 → IVec S16 32) a x).toNat < S8192.size a)
theorem k0_idx165_inb : ∀ (i : grid0.Coords) (k0_t17 : Fin (k0_t17_loop i).trips) (v165 : BitVec 32) (v171 : BitVec 32) (v218 : IVec S16 32) (k0_hw161 : k0_chk161 i k0_t17 v165 v171 v218), ∀ (k0_h11 : ¬(k0_cond11 v165 v171 = 1#1)), ∀ a x, ((![v218] : Fin 1 → IVec S16 32) a x).toNat < S8192.size a := fun i k0_t17 v165 v171 v218 k0_hw161 k0_h11 => k0_hw161 k0_h11

def k0_chk162 (i : grid0.Coords) (k0_t17 : Fin (k0_t17_loop i).trips) (v165 : BitVec 32) (v171 : BitVec 32) (v220 : IVec S16 32) : Prop :=
  (∀ (k0_h11 : ¬(k0_cond11 v165 v171 = 1#1)), ∀ a x, ((![v220] : Fin 1 → IVec S16 32) a x).toNat < S8192.size a)
theorem k0_idx166_inb : ∀ (i : grid0.Coords) (k0_t17 : Fin (k0_t17_loop i).trips) (v165 : BitVec 32) (v171 : BitVec 32) (v220 : IVec S16 32) (k0_hw162 : k0_chk162 i k0_t17 v165 v171 v220), ∀ (k0_h11 : ¬(k0_cond11 v165 v171 = 1#1)), ∀ a x, ((![v220] : Fin 1 → IVec S16 32) a x).toNat < S8192.size a := fun i k0_t17 v165 v171 v220 k0_hw162 k0_h11 => k0_hw162 k0_h11
def k0_off183 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v222 : Index := Scalar.indexCast arg28
  let c64 : Index := 64#32
  ![v222.toNat, 64]

def k0_chk163 (i : grid0.Coords) (k0_t17 : Fin (k0_t17_loop i).trips) (v165 : BitVec 32) (v171 : BitVec 32) (v225 : IVec S16 32) : Prop :=
  (∀ (k0_h11 : ¬(k0_cond11 v165 v171 = 1#1)), ∀ a x, ((![v225] : Fin 1 → IVec S16 32) a x).toNat < S8192.size a)
theorem k0_idx167_inb : ∀ (i : grid0.Coords) (k0_t17 : Fin (k0_t17_loop i).trips) (v165 : BitVec 32) (v171 : BitVec 32) (v225 : IVec S16 32) (k0_hw163 : k0_chk163 i k0_t17 v165 v171 v225), ∀ (k0_h11 : ¬(k0_cond11 v165 v171 = 1#1)), ∀ a x, ((![v225] : Fin 1 → IVec S16 32) a x).toNat < S8192.size a := fun i k0_t17 v165 v171 v225 k0_hw163 k0_h11 => k0_hw163 k0_h11

def k0_chk164 (i : grid0.Coords) (k0_t17 : Fin (k0_t17_loop i).trips) (v165 : BitVec 32) (v171 : BitVec 32) (v227 : IVec S16 32) : Prop :=
  (∀ (k0_h11 : ¬(k0_cond11 v165 v171 = 1#1)), ∀ a x, ((![v227] : Fin 1 → IVec S16 32) a x).toNat < S8192.size a)
theorem k0_idx168_inb : ∀ (i : grid0.Coords) (k0_t17 : Fin (k0_t17_loop i).trips) (v165 : BitVec 32) (v171 : BitVec 32) (v227 : IVec S16 32) (k0_hw164 : k0_chk164 i k0_t17 v165 v171 v227), ∀ (k0_h11 : ¬(k0_cond11 v165 v171 = 1#1)), ∀ a x, ((![v227] : Fin 1 → IVec S16 32) a x).toNat < S8192.size a := fun i k0_t17 v165 v171 v227 k0_hw164 k0_h11 => k0_hw164 k0_h11
def k0_off184 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v229 : Index := Scalar.indexCast arg28
  let c80 : Index := 80#32
  ![v229.toNat, 80]

def k0_chk165 (i : grid0.Coords) (k0_t17 : Fin (k0_t17_loop i).trips) (v165 : BitVec 32) (v171 : BitVec 32) (v232 : IVec S16 32) : Prop :=
  (∀ (k0_h11 : ¬(k0_cond11 v165 v171 = 1#1)), ∀ a x, ((![v232] : Fin 1 → IVec S16 32) a x).toNat < S8192.size a)
theorem k0_idx169_inb : ∀ (i : grid0.Coords) (k0_t17 : Fin (k0_t17_loop i).trips) (v165 : BitVec 32) (v171 : BitVec 32) (v232 : IVec S16 32) (k0_hw165 : k0_chk165 i k0_t17 v165 v171 v232), ∀ (k0_h11 : ¬(k0_cond11 v165 v171 = 1#1)), ∀ a x, ((![v232] : Fin 1 → IVec S16 32) a x).toNat < S8192.size a := fun i k0_t17 v165 v171 v232 k0_hw165 k0_h11 => k0_hw165 k0_h11

def k0_chk166 (i : grid0.Coords) (k0_t17 : Fin (k0_t17_loop i).trips) (v165 : BitVec 32) (v171 : BitVec 32) (v234 : IVec S16 32) : Prop :=
  (∀ (k0_h11 : ¬(k0_cond11 v165 v171 = 1#1)), ∀ a x, ((![v234] : Fin 1 → IVec S16 32) a x).toNat < S8192.size a)
theorem k0_idx170_inb : ∀ (i : grid0.Coords) (k0_t17 : Fin (k0_t17_loop i).trips) (v165 : BitVec 32) (v171 : BitVec 32) (v234 : IVec S16 32) (k0_hw166 : k0_chk166 i k0_t17 v165 v171 v234), ∀ (k0_h11 : ¬(k0_cond11 v165 v171 = 1#1)), ∀ a x, ((![v234] : Fin 1 → IVec S16 32) a x).toNat < S8192.size a := fun i k0_t17 v165 v171 v234 k0_hw166 k0_h11 => k0_hw166 k0_h11
def k0_off185 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v236 : Index := Scalar.indexCast arg28
  let c96 : Index := 96#32
  ![v236.toNat, 96]

def k0_chk167 (i : grid0.Coords) (k0_t17 : Fin (k0_t17_loop i).trips) (v165 : BitVec 32) (v171 : BitVec 32) (v239 : IVec S16 32) : Prop :=
  (∀ (k0_h11 : ¬(k0_cond11 v165 v171 = 1#1)), ∀ a x, ((![v239] : Fin 1 → IVec S16 32) a x).toNat < S8192.size a)
theorem k0_idx171_inb : ∀ (i : grid0.Coords) (k0_t17 : Fin (k0_t17_loop i).trips) (v165 : BitVec 32) (v171 : BitVec 32) (v239 : IVec S16 32) (k0_hw167 : k0_chk167 i k0_t17 v165 v171 v239), ∀ (k0_h11 : ¬(k0_cond11 v165 v171 = 1#1)), ∀ a x, ((![v239] : Fin 1 → IVec S16 32) a x).toNat < S8192.size a := fun i k0_t17 v165 v171 v239 k0_hw167 k0_h11 => k0_hw167 k0_h11

def k0_chk168 (i : grid0.Coords) (k0_t17 : Fin (k0_t17_loop i).trips) (v165 : BitVec 32) (v171 : BitVec 32) (v241 : IVec S16 32) : Prop :=
  (∀ (k0_h11 : ¬(k0_cond11 v165 v171 = 1#1)), ∀ a x, ((![v241] : Fin 1 → IVec S16 32) a x).toNat < S8192.size a)
theorem k0_idx172_inb : ∀ (i : grid0.Coords) (k0_t17 : Fin (k0_t17_loop i).trips) (v165 : BitVec 32) (v171 : BitVec 32) (v241 : IVec S16 32) (k0_hw168 : k0_chk168 i k0_t17 v165 v171 v241), ∀ (k0_h11 : ¬(k0_cond11 v165 v171 = 1#1)), ∀ a x, ((![v241] : Fin 1 → IVec S16 32) a x).toNat < S8192.size a := fun i k0_t17 v165 v171 v241 k0_hw168 k0_h11 => k0_hw168 k0_h11
def k0_off186 (k0_t21 : Fin k0_t21_loop.trips) : Fin 2 → Nat :=
  let c0_i32_112 : BitVec 32 := 0#32
  let c1_i32_114 : BitVec 32 := 1#32
  let arg28 : BitVec 32 := Scf.iv c0_i32_112 c1_i32_114 k0_t21
  let v243 : Index := Scalar.indexCast arg28
  let c112 : Index := 112#32
  ![v243.toNat, 112]

def k0_chk169 (i : grid0.Coords) (k0_t17 : Fin (k0_t17_loop i).trips) (v165 : BitVec 32) (v171 : BitVec 32) (v246 : IVec S16 32) : Prop :=
  (∀ (k0_h11 : ¬(k0_cond11 v165 v171 = 1#1)), ∀ a x, ((![v246] : Fin 1 → IVec S16 32) a x).toNat < S8192.size a)
theorem k0_idx173_inb : ∀ (i : grid0.Coords) (k0_t17 : Fin (k0_t17_loop i).trips) (v165 : BitVec 32) (v171 : BitVec 32) (v246 : IVec S16 32) (k0_hw169 : k0_chk169 i k0_t17 v165 v171 v246), ∀ (k0_h11 : ¬(k0_cond11 v165 v171 = 1#1)), ∀ a x, ((![v246] : Fin 1 → IVec S16 32) a x).toNat < S8192.size a := fun i k0_t17 v165 v171 v246 k0_hw169 k0_h11 => k0_hw169 k0_h11

def k0_chk170 (i : grid0.Coords) (k0_t17 : Fin (k0_t17_loop i).trips) (v165 : BitVec 32) (v171 : BitVec 32) (v248 : IVec S16 32) : Prop :=
  (∀ (k0_h11 : ¬(k0_cond11 v165 v171 = 1#1)), ∀ a x, ((![v248] : Fin 1 → IVec S16 32) a x).toNat < S8192.size a)
theorem k0_idx174_inb : ∀ (i : grid0.Coords) (k0_t17 : Fin (k0_t17_loop i).trips) (v165 : BitVec 32) (v171 : BitVec 32) (v248 : IVec S16 32) (k0_hw170 : k0_chk170 i k0_t17 v165 v171 v248), ∀ (k0_h11 : ¬(k0_cond11 v165 v171 = 1#1)), ∀ a x, ((![v248] : Fin 1 → IVec S16 32) a x).toNat < S8192.size a := fun i k0_t17 v165 v171 v248 k0_hw170 k0_h11 => k0_hw170 k0_h11
def k0_cond12 (i : grid0.Coords) (k0_t17 : Fin (k0_t17_loop i).trips) : BitVec 1 :=
  let c0_i32_53 : BitVec 32 := 0#32
  let c320000_i32 : BitVec 32 := 320000#32
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let c1_i32_57 : BitVec 32 := 1#32
  let arg26 : BitVec 32 := Scf.iv v80 c1_i32_57 k0_t17
  let c2_i32_89 : BitVec 32 := 2#32
  let v140 : BitVec 32 := Scalar.muli arg26 c2_i32_89
  let c1_i32_90 : BitVec 32 := 1#32
  let v141 : BitVec 32 := Scalar.addi v140 c1_i32_90
  let c2_i32_108 : BitVec 32 := 2#32
  let v176 : BitVec 32 := Scalar.addi v141 c2_i32_108
  let v177 : BitVec 1 := Scalar.cmpi .slt v176 v22
  let v178 : BitVec 32 := Scalar.extui v177
  let c0_i32_109 : BitVec 32 := 0#32
  let v179 : BitVec 1 := Scalar.cmpi .ne v178 c0_i32_109
  v179

def k0_off187 (i : grid0.Coords) (k0_t17 : Fin (k0_t17_loop i).trips) : Fin 2 → Nat :=
  let arg1 : BitVec 32 := BitVec.ofNat 32 (i 1).val
  let c20480_i32 : BitVec 32 := 20480#32
  let v0 : BitVec 32 := Scalar.muli arg1 c20480_i32
  let arg0 : BitVec 32 := BitVec.ofNat 32 (i 0).val
  let c10240_i32 : BitVec 32 := 10240#32
  let v1 : BitVec 32 := Scalar.muli arg0 c10240_i32
  let v2 : BitVec 32 := Scalar.addi v0 v1
  let c0_i32_53 : BitVec 32 := 0#32
  let c320000_i32 : BitVec 32 := 320000#32
  let v3 : BitVec 32 := Scalar.subi c320000_i32 v2
  let c0_i32 : BitVec 32 := 0#32
  let v4 : BitVec 32 := Scalar.maxsi v3 c0_i32
  let c10240_i32_0 : BitVec 32 := 10240#32
  let v5 : BitVec 32 := Scalar.minsi v4 c10240_i32_0
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c80_i32 : BitVec 32 := 80#32
  let c0_i32_3 : BitVec 32 := 0#32
  let v12 : BitVec 1 := Scalar.cmpi .sgt c80_i32 c0_i32_3
  let v13 : BitVec 32 := Scalar.extui v12
  let c0_i32_4 : BitVec 32 := 0#32
  let v14 : BitVec 1 := Scalar.cmpi .slt c80_i32 c0_i32_4
  let v15 : BitVec 32 := Scalar.extui v14
  let v16 : BitVec 32 := Scalar.subi v13 v15
  let v17 : BitVec 1 := Scalar.cmpi .ne v11 v16
  let v18 : BitVec 32 := Scalar.remsi v5 c80_i32
  let c0_i32_5 : BitVec 32 := 0#32
  let v19 : BitVec 1 := Scalar.cmpi .ne v18 c0_i32_5
  let v20 : BitVec 1 := Scalar.andi v17 v19
  let v6 : BitVec 32 := Scalar.divsi v5 c80_i32
  let c1_i32 : BitVec 32 := 1#32
  let v21 : BitVec 32 := Scalar.subi v6 c1_i32
  let v22 : BitVec 32 := Scalar.select v20 v21 v6
  let c0_i32_47 : BitVec 32 := 0#32
  let v60 : BitVec 1 := Scalar.cmpi .sgt v22 c0_i32_47
  let v61 : BitVec 32 := Scalar.extui v60
  let c0_i32_48 : BitVec 32 := 0#32
  let v62 : BitVec 1 := Scalar.cmpi .slt v22 c0_i32_48
  let v63 : BitVec 32 := Scalar.extui v62
  let v64 : BitVec 32 := Scalar.subi v61 v63
  let c2_i32_46 : BitVec 32 := 2#32
  let c0_i32_49 : BitVec 32 := 0#32
  let v65 : BitVec 1 := Scalar.cmpi .sgt c2_i32_46 c0_i32_49
  let v66 : BitVec 32 := Scalar.extui v65
  let c0_i32_50 : BitVec 32 := 0#32
  let v67 : BitVec 1 := Scalar.cmpi .slt c2_i32_46 c0_i32_50
  let v68 : BitVec 32 := Scalar.extui v67
  let v69 : BitVec 32 := Scalar.subi v66 v68
  let v70 : BitVec 1 := Scalar.cmpi .ne v64 v69
  let v71 : BitVec 32 := Scalar.remsi v22 c2_i32_46
  let c0_i32_51 : BitVec 32 := 0#32
  let v72 : BitVec 1 := Scalar.cmpi .ne v71 c0_i32_51
  let v73 : BitVec 1 := Scalar.andi v70 v72
  let v59 : BitVec 32 := Scalar.divsi v22 c2_i32_46
  let c1_i32_52 : BitVec 32 := 1#32
  let v74 : BitVec 32 := Scalar.subi v59 c1_i32_52
  let v75 : BitVec 32 := Scalar.select v73 v74 v59
  let v76 : BitVec 32 := Scalar.subi v75 c0_i32_53
  let c1_i32_55 : BitVec 32 := 1#32
  let v78 : BitVec 32 := Scalar.divsi v76 c1_i32_55
  let v79 : BitVec 32 := Scalar.muli v78 c1_i32_55
  let v80 : BitVec 32 := Scalar.addi c0_i32_53 v79
  let c1_i32_57 : BitVec 32 := 1#32
  let arg26 : BitVec 32 := Scf.iv v80 c1_i32_57 k0_t17
  let c2_i32_89 : BitVec 32 := 2#32
  let v140 : BitVec 32 := Scalar.muli arg26 c2_i32_89
  let c1_i32_90 : BitVec 32 := 1#32
  let v141 : BitVec 32 := Scalar.addi v140 c1_i32_90
  let c2_i32_111 : BitVec 32 := 2#32
  let v180 : BitVec 32 := Scalar.addi v141 c2_i32_111
  let c80_i32_112 : BitVec 32 := 80#32
  let v181 : BitVec 32 := Scalar.muli v180 c80_i32_112
  let v182 : BitVec 32 := Scalar.addi v2 v181
  let c0_i32_113 : BitVec 32 := 0#32
  ![v182.toNat, 0]
def k0_off188 (i : grid0.Coords) (c0_i32_59 : BitVec 32) : Fin 1 → Nat :=
  let arg1 : BitVec 32 := BitVec.ofNat 32 (i 1).val
  let c2_i32_58 : BitVec 32 := 2#32
  let v83 : BitVec 32 := Scalar.muli arg1 c2_i32_58
  let v84 : BitVec 32 := Scalar.addi v83 c0_i32_59
  let c8192_i32 : BitVec 32 := 8192#32
  let v85 : BitVec 32 := Scalar.muli v84 c8192_i32
  ![v85.toNat]
def k0_cond14 (i : grid0.Coords) : BitVec 1 :=
  let arg0 : BitVec 32 := BitVec.ofNat 32 (i 0).val
  let c0_i32_67 : BitVec 32 := 0#32
  let v94 : BitVec 1 := Scalar.cmpi .eq arg0 c0_i32_67
  let v95 : BitVec 32 := Scalar.extui v94
  let c0_i32_68 : BitVec 32 := 0#32
  let v96 : BitVec 1 := Scalar.cmpi .ne v95 c0_i32_68
  v96

def k0_off189 (i : grid0.Coords) : Fin 1 → Nat :=
  let arg1 : BitVec 32 := BitVec.ofNat 32 (i 1).val
  let c20480_i32 : BitVec 32 := 20480#32
  let v0 : BitVec 32 := Scalar.muli arg1 c20480_i32
  ![v0.toNat]
def k0_cond15 (i : grid0.Coords) : BitVec 1 :=
  let arg1 : BitVec 32 := BitVec.ofNat 32 (i 1).val
  let c0_i32_69 : BitVec 32 := 0#32
  let v97 : BitVec 1 := Scalar.cmpi .eq arg1 c0_i32_69
  let v98 : BitVec 32 := Scalar.extui v97
  let c0_i32_70 : BitVec 32 := 0#32
  let v99 : BitVec 1 := Scalar.cmpi .ne v98 c0_i32_70
  v99

@[reducible] def k0_t22_loop : Scf.Loop 32 :=
  let c1_i32_72 : BitVec 32 := 1#32
  let c15_i32 : BitVec 32 := 15#32
  let v100 : BitVec 32 := Scalar.addi c1_i32_72 c15_i32
  let c1_i32_73 : BitVec 32 := 1#32
  ⟨c1_i32_72, v100, c1_i32_73⟩
def k0_off190 (k0_t22 : Fin k0_t22_loop.trips) (c0_i32_78 : BitVec 32) : Fin 1 → Nat :=
  let c1_i32_72 : BitVec 32 := 1#32
  let c1_i32_73 : BitVec 32 := 1#32
  let arg26 : BitVec 32 := Scf.iv c1_i32_72 c1_i32_73 k0_t22
  let c2_i32_77 : BitVec 32 := 2#32
  let v104 : BitVec 32 := Scalar.muli arg26 c2_i32_77
  let v105 : BitVec 32 := Scalar.addi v104 c0_i32_78
  let c8192_i32_79 : BitVec 32 := 8192#32
  let v106 : BitVec 32 := Scalar.muli v105 c8192_i32_79
  ![v106.toNat]
@[reducible] def k0_t23_loop : Scf.Loop 32 :=
  let c0_i32_84 : BitVec 32 := 0#32
  let c512_i32_85 : BitVec 32 := 512#32
  let v110 : BitVec 32 := Scalar.addi c0_i32_84 c512_i32_85
  let c1_i32_86 : BitVec 32 := 1#32
  ⟨c0_i32_84, v110, c1_i32_86⟩
def k0_off191 (k0_t23 : Fin k0_t23_loop.trips) : Fin 1 → Nat :=
  let c0_i32_84 : BitVec 32 := 0#32
  let c1_i32_86 : BitVec 32 := 1#32
  let arg28 : BitVec 32 := Scf.iv c0_i32_84 c1_i32_86 k0_t23
  let c16_i32_89 : BitVec 32 := 16#32
  let v112 : BitVec 32 := Scalar.muli arg28 c16_i32_89
  let v113 : Index := Scalar.indexCast v112
  ![v113.toNat]
def k0_off192 (k0_t23 : Fin k0_t23_loop.trips) : Fin 1 → Nat :=
  let c0_i32_84 : BitVec 32 := 0#32
  let c1_i32_86 : BitVec 32 := 1#32
  let arg28 : BitVec 32 := Scf.iv c0_i32_84 c1_i32_86 k0_t23
  let c16_i32_89 : BitVec 32 := 16#32
  let v112 : BitVec 32 := Scalar.muli arg28 c16_i32_89
  let v115 : Index := Scalar.indexCast v112
  ![v115.toNat]
def k0_off193 (k0_t23 : Fin k0_t23_loop.trips) : Fin 1 → Nat :=
  let c8192_i32_90 : BitVec 32 := 8192#32
  let c0_i32_84 : BitVec 32 := 0#32
  let c1_i32_86 : BitVec 32 := 1#32
  let arg28 : BitVec 32 := Scf.iv c0_i32_84 c1_i32_86 k0_t23
  let c16_i32_89 : BitVec 32 := 16#32
  let v112 : BitVec 32 := Scalar.muli arg28 c16_i32_89
  let v122 : BitVec 32 := Scalar.addi c8192_i32_90 v112
  let v123 : Index := Scalar.indexCast v122
  ![v123.toNat]
def k0_off194 (i : grid0.Coords) : Fin 1 → Nat :=
  let arg0 : BitVec 32 := BitVec.ofNat 32 (i 0).val
  let c8192_i32_75 : BitVec 32 := 8192#32
  let v102 : BitVec 32 := Scalar.muli arg0 c8192_i32_75
  ![v102.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000 : Shape := ⟨1, ![320000]⟩
abbrev S320000x128 : Shape := ⟨2, ![320000, 128]⟩
abbrev S64 : Shape := ⟨1, ![64]⟩
abbrev S_ : Shape := ⟨0, ![]⟩
abbrev S320000x1 : Shape := ⟨2, ![320000, 1]⟩
abbrev S64x128 : Shape := ⟨2, ![64, 128]⟩

abbrev nBuf : Space → Nat
  | .hbm => 24
  | .vmem => 0
  | .smem => 0
  | _ => 0

abbrev bufTy : (tb : Table) → Fin (tcTables nBuf tb) → BufTy
  | .hbm, ⟨0, _⟩ => ⟨S320000, .f32⟩
  | .hbm, ⟨1, _⟩ => ⟨S320000, .i32⟩
  | .hbm, ⟨2, _⟩ => ⟨S320000x128, .f32⟩
  | .hbm, ⟨3, _⟩ => ⟨S64, .f32⟩
  | .hbm, ⟨4, _⟩ => ⟨S_, .f32⟩
  | .hbm, ⟨5, _⟩ => ⟨S320000, .f32⟩
  | .hbm, ⟨6, _⟩ => ⟨S_, .f32⟩
  | .hbm, ⟨7, _⟩ => ⟨S64, .f32⟩
  | .hbm, ⟨8, _⟩ => ⟨S320000x1, .i32⟩
  | .hbm, ⟨9, _⟩ => ⟨S64, .f32⟩
  | .hbm, ⟨10, _⟩ => ⟨S_, .f32⟩
  | .hbm, ⟨11, _⟩ => ⟨S64x128, .f32⟩
  | .hbm, ⟨12, _⟩ => ⟨S320000x1, .i32⟩
  | .hbm, ⟨13, _⟩ => ⟨S64x128, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000, .f32⟩
  | .hbm, ⟨23, _⟩ => ⟨S320000, .f32⟩
  | _, _ => ⟨S320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Dense1.lean ====
abbrev S64x256 : Shape := ⟨2, ![64, 256]⟩
abbrev S64x64 : Shape := ⟨2, ![64, 64]⟩
abbrev S64x5 : Shape := ⟨2, ![64, 5]⟩
abbrev S64x1 : Shape := ⟨2, ![64, 1]⟩
abbrev S70x256 : Shape := ⟨2, ![70, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x70 : Shape := ⟨2, ![64, 70]⟩
abbrev S1x256 : Shape := ⟨2, ![1, 256]⟩
abbrev S1x128 : Shape := ⟨2, ![1, 128]⟩
abbrev S64x128 : Shape := ⟨2, ![64, 128]⟩
abbrev S64 : Shape := ⟨1, ![64]⟩

abbrev nBuf : Space → Nat
  | .hbm => 28
  | .vmem => 19
  | .smem => 0
  | _ => 0

abbrev bufTy : (tb : Table) → Fin (tcTables nBuf tb) → BufTy
  | .hbm, ⟨0, _⟩ => ⟨S64x256, .f32⟩
  | .hbm, ⟨1, _⟩ => ⟨S64x64, .f32⟩
  | .hbm, ⟨2, _⟩ => ⟨S64x5, .f32⟩
  | .hbm, ⟨3, _⟩ => ⟨S64x1, .f32⟩
  | .hbm, ⟨4, _⟩ => ⟨S70x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S64x70, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x128, .f32⟩
  | .hbm, ⟨26, _⟩ => ⟨S64x256, .f32⟩
  | .hbm, ⟨27, _⟩ => ⟨S64x1, .f32⟩
  | .local _ .vmem, ⟨0, _⟩ => ⟨S64x70, .f32⟩
  | .local _ .vmem, ⟨1, _⟩ => ⟨S64x256, .f32⟩
  | .local _ .vmem, ⟨2, _⟩ => ⟨S70x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S64x256, .f32⟩
  | .local _ .vmem, ⟨18, _⟩ => ⟨S64x1, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7_0 : Ref sig .tc := ⟨.hbm, 26, rfl⟩
abbrev main_v7_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S64x70 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S70x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Reference1Ideal.lean ====
abbrev S64x256 : Shape := ⟨2, ![64, 256]⟩
abbrev S64x64 : Shape := ⟨2, ![64, 64]⟩
abbrev S64x5 : Shape := ⟨2, ![64, 5]⟩
abbrev S64x1 : Shape := ⟨2, ![64, 1]⟩
abbrev S70x256 : Shape := ⟨2, ![70, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x70 : Shape := ⟨2, ![64, 70]⟩
abbrev S1x256 : Shape := ⟨2, ![1, 256]⟩
abbrev S_ : Shape := ⟨0, ![]⟩
abbrev S64x128 : Shape := ⟨2, ![64, 128]⟩
abbrev S1x128 : Shape := ⟨2, ![1, 128]⟩
abbrev S64 : Shape := ⟨1, ![64]⟩

abbrev nBuf : Space → Nat
  | .hbm => 90
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x64, .f32⟩
  | .hbm, ⟨2, _⟩ => ⟨S64x5, .f32⟩
  | .hbm, ⟨3, _⟩ => ⟨S64x1, .f32⟩
  | .hbm, ⟨4, _⟩ => ⟨S70x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S64x70, .f32⟩
  | .hbm, ⟨20, _⟩ => ⟨S64x256, .f32⟩
  | .hbm, ⟨21, _⟩ => ⟨S1x256, .f32⟩
  | .hbm, ⟨22, _⟩ => ⟨S64x256, .f32⟩
  | .hbm, ⟨23, _⟩ => ⟨S64x256, .f32⟩
  | .hbm, ⟨24, _⟩ => ⟨S_, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S1x256, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S64x256, .f32⟩
  | .hbm, ⟨35, _⟩ => ⟨S_, .f32⟩
  | .hbm, ⟨36, _⟩ => ⟨S64x256, .f32⟩
  | .hbm, ⟨37, _⟩ => ⟨S64x256, .f32⟩
  | .hbm, ⟨38, _⟩ => ⟨S_, .f32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S64x256, .f32⟩
  | .hbm, ⟨44, _⟩ => ⟨S1x256, .f32⟩
  | .hbm, ⟨45, _⟩ => ⟨S64x256, .f32⟩
  | .hbm, ⟨46, _⟩ => ⟨S64x256, .f32⟩
  | .hbm, ⟨47, _⟩ => ⟨S64x256, .f32⟩
  | .hbm, ⟨48, _⟩ => ⟨S64x256, .f32⟩
  | .hbm, ⟨49, _⟩ => ⟨S_, .f32⟩
  | .hbm, ⟨50, _⟩ => ⟨S64x256, .f32⟩
  | .hbm, ⟨51, _⟩ => ⟨S64x256, .f32⟩
  | .hbm, ⟨52, _⟩ => ⟨S_, .f32⟩
  | .hbm, ⟨53, _⟩ => ⟨S64x256, .f32⟩
  | .hbm, ⟨54, _⟩ => ⟨S64x256, .f32⟩
  | .hbm, ⟨55, _⟩ => ⟨S64x256, .f32⟩
  | .hbm, ⟨56, _⟩ => ⟨S64x256, .f32⟩
  | .hbm, ⟨57, _⟩ => ⟨S64x256, .f32⟩
  | .hbm, ⟨58, _⟩ => ⟨S64x256, .f32⟩
  | .hbm, ⟨59, _⟩ => ⟨S1x256, .f32⟩
  | .hbm, ⟨60, _⟩ => ⟨S64x256, .f32⟩
  | .hbm, ⟨61, _⟩ => ⟨S64x256, .f32⟩
  | .hbm, ⟨62, _⟩ => ⟨S64x256, .f32⟩
  | .hbm, ⟨63, _⟩ => ⟨S64x256, .f32⟩
  | .hbm, ⟨64, _⟩ => ⟨S_, .f32⟩
  | .hbm, ⟨65, _⟩ => ⟨S64x256, .f32⟩
  | .hbm, ⟨66, _⟩ => ⟨S64x256, .f32⟩
  | .hbm, ⟨67, _⟩ => ⟨S64x256, .f32⟩
  | .hbm, ⟨68, _⟩ => ⟨S64x256, .f32⟩
  | .hbm, ⟨69, _⟩ => ⟨S64x256, .f32⟩
  | .hbm, ⟨70, _⟩ => ⟨S1x256, .f32⟩
  | .hbm, ⟨71, _⟩ => ⟨S64x256, .f32⟩
  | .hbm, ⟨72, _⟩ => ⟨S64x256, .f32⟩
  | .hbm, ⟨73, _⟩ => ⟨S_, .f32⟩
  | .hbm, ⟨74, _⟩ => ⟨S64x256, .f32⟩
  | .hbm, ⟨75, _⟩ => ⟨S64x256, .f32⟩
  | .hbm, ⟨76, _⟩ => ⟨S64x128, .f32⟩
  | .hbm, ⟨77, _⟩ => ⟨S1x128, .f32⟩
  | .hbm, ⟨78, _⟩ => ⟨S64x128, .f32⟩
  | .hbm, ⟨79, _⟩ => ⟨S64x128, .f32⟩
  | .hbm, ⟨80, _⟩ => ⟨S64x64, .f32⟩
  | .hbm, ⟨81, _⟩ => ⟨S_, .f32⟩
  | .hbm, ⟨82, _⟩ => ⟨S64x64, .f32⟩
  | .hbm, ⟨83, _⟩ => ⟨S64x64, .f32⟩
  | .hbm, ⟨84, _⟩ => ⟨S_, .f32⟩
  | .hbm, ⟨85, _⟩ => ⟨S64, .f32⟩
  | .hbm, ⟨86, _⟩ => ⟨S64x1, .f32⟩
  | .hbm, ⟨87, _⟩ => ⟨S_, .f32⟩
  | .hbm, ⟨88, _⟩ => ⟨S64x1, .f32⟩
  | .hbm, ⟨89, _⟩ => ⟨S64x1, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Dense2.lean ====
abbrev S64x256 : Shape := ⟨2, ![64, 256]⟩
abbrev S64x16 : Shape := ⟨2, ![64, 16]⟩
abbrev S2x64x128 : Shape := ⟨3, ![2, 64, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S448x512 : Shape := ⟨2, ![448, 512]⟩
abbrev S512 : Shape := ⟨1, ![512]⟩
abbrev S512x128 : Shape := ⟨2, ![512, 128]⟩
abbrev S256x256 : Shape := ⟨2, ![256, 256]⟩
abbrev S1x256 : Shape := ⟨2, ![1, 256]⟩
abbrev S1x128 : Shape := ⟨2, ![1, 128]⟩
abbrev S256x512 : Shape := ⟨2, ![256, 512]⟩
abbrev S64x512 : Shape := ⟨2, ![64, 512]⟩
abbrev S128x512 : Shape := ⟨2, ![128, 512]⟩
abbrev S1x512 : Shape := ⟨2, ![1, 512]⟩
abbrev S64x64 : Shape := ⟨2, ![64, 64]⟩
abbrev S64x128 : Shape := ⟨2, ![64, 128]⟩
abbrev S64 : Shape := ⟨1, ![64]⟩
abbrev S1x64x128 : Shape := ⟨3, ![1, 64, 128]⟩
abbrev S64x1 : Shape := ⟨2, ![64, 1]⟩

abbrev nBuf : Space → Nat
  | .hbm => 30
  | .vmem => 22
  | .smem => 0
  | _ => 0

abbrev bufTy : (tb : Table) → Fin (tcTables nBuf tb) → BufTy
  | .hbm, ⟨0, _⟩ => ⟨S64x256, .f32⟩
  | .hbm, ⟨1, _⟩ => ⟨S64x16, .f32⟩
  | .hbm, ⟨2, _⟩ => ⟨S2x64x128, .f32⟩
  | .hbm, ⟨3, _⟩ => ⟨S2x64x128, .f32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S448x512, .f32⟩
  | .hbm, ⟨13, _⟩ => ⟨S512, .f32⟩
  | .hbm, ⟨14, _⟩ => ⟨S512x128, .f32⟩
  | .hbm, ⟨15, _⟩ => ⟨S128, .f32⟩
  | .hbm, ⟨16, _⟩ => ⟨S256x256, .f32⟩
  | .hbm, ⟨17, _⟩ => ⟨S128x256, .f32⟩
  | .hbm, ⟨18, _⟩ => ⟨S1x256, .f32⟩
  | .hbm, ⟨19, _⟩ => ⟨S1x128, .f32⟩
  | .hbm, ⟨20, _⟩ => ⟨S1x256, .f32⟩
  | .hbm, ⟨21, _⟩ => ⟨S1x128, .f32⟩
  | .hbm, ⟨22, _⟩ => ⟨S256x512, .f32⟩
  | .hbm, ⟨23, _⟩ => ⟨S64x512, .f32⟩
  | .hbm, ⟨24, _⟩ => ⟨S128x512, .f32⟩
  | .hbm, ⟨25, _⟩ => ⟨S1x512, .f32⟩
  | .hbm, ⟨26, _⟩ => ⟨S1x128, .f32⟩
  | .hbm, ⟨27, _⟩ => ⟨S64x64, .f32⟩
  | .hbm, ⟨28, _⟩ => ⟨S64x128, .f32⟩
  | .hbm, ⟨29, _⟩ => ⟨S64x128, .f32⟩
  | .local _ .vmem, ⟨0, _⟩ => ⟨S64x256, .f32⟩
  | .local _ .vmem, ⟨1, _⟩ => ⟨S64x16, .f32⟩
  | .local _ .vmem, ⟨2, _⟩ => ⟨S2x64x128, .f32⟩
  | .local _ .vmem, ⟨3, _⟩ => ⟨S2x64x128, .f32⟩
  | .local _ .vmem, ⟨4, _⟩ => ⟨S256x256, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S256x512, .f32⟩
  | .local _ .vmem, ⟨14, _⟩ => ⟨S64x512, .f32⟩
  | .local _ .vmem, ⟨15, _⟩ => ⟨S128x512, .f32⟩
  | .local _ .vmem, ⟨16, _⟩ => ⟨S1x512, .f32⟩
  | .local _ .vmem, ⟨17, _⟩ => ⟨S512x128, .f32⟩
  | .local _ .vmem, ⟨18, _⟩ => ⟨S1x128, .f32⟩
  | .local _ .vmem, ⟨19, _⟩ => ⟨S64x64, .f32⟩
  | .local _ .vmem, ⟨20, _⟩ => ⟨S64x128, .f32⟩
  | .local _ .vmem, ⟨21, _⟩ => ⟨S64x128, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference2Ideal.lean ====
abbrev S64x256 : Shape := ⟨2, ![64, 256]⟩
abbrev S64x16 : Shape := ⟨2, ![64, 16]⟩
abbrev S2x64x128 : Shape := ⟨3, ![2, 64, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S448x512 : Shape := ⟨2, ![448, 512]⟩
abbrev S512 : Shape := ⟨1, ![512]⟩
abbrev S512x128 : Shape := ⟨2, ![512, 128]⟩
abbrev S_ : Shape := ⟨0, ![]⟩
abbrev S64 : Shape := ⟨1, ![64]⟩
abbrev S64x128 : Shape := ⟨2, ![64, 128]⟩
abbrev S64x1 : Shape := ⟨2, ![64, 1]⟩
abbrev S64x384 : Shape := ⟨2, ![64, 384]⟩
abbrev S1x256 : Shape := ⟨2, ![1, 256]⟩
abbrev S1x128 : Shape := ⟨2, ![1, 128]⟩
abbrev S64x64 : Shape := ⟨2, ![64, 64]⟩
abbrev S64x448 : Shape := ⟨2, ![64, 448]⟩
abbrev S64x512 : Shape := ⟨2, ![64, 512]⟩
abbrev S1x512 : Shape := ⟨2, ![1, 512]⟩

abbrev nBuf : Space → Nat
  | .hbm => 64
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x16, .f32⟩
  | .hbm, ⟨2, _⟩ => ⟨S2x64x128, .f32⟩
  | .hbm, ⟨3, _⟩ => ⟨S2x64x128, .f32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S448x512, .f32⟩
  | .hbm, ⟨13, _⟩ => ⟨S512, .f32⟩
  | .hbm, ⟨14, _⟩ => ⟨S512x128, .f32⟩
  | .hbm, ⟨15, _⟩ => ⟨S128, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64x128, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x384, .f32⟩
  | .hbm, ⟨29, _⟩ => ⟨S64x256, .f32⟩
  | .hbm, ⟨30, _⟩ => ⟨S1x256, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x128, .f32⟩
  | .hbm, ⟨37, _⟩ => ⟨S1x128, .f32⟩
  | .hbm, ⟨38, _⟩ => ⟨S64x128, .f32⟩
  | .hbm, ⟨39, _⟩ => ⟨S64x128, .f32⟩
  | .hbm, ⟨40, _⟩ => ⟨S64x64, .f32⟩
  | .hbm, ⟨41, _⟩ => ⟨S64x256, .f32⟩
  | .hbm, ⟨42, _⟩ => ⟨S1x256, .f32⟩
  | .hbm, ⟨43, _⟩ => ⟨S64x256, .f32⟩
  | .hbm, ⟨44, _⟩ => ⟨S64x256, .f32⟩
  | .hbm, ⟨45, _⟩ => ⟨S_, .f32⟩
  | .hbm, ⟨46, _⟩ => ⟨S64x256, .f32⟩
  | .hbm, ⟨47, _⟩ => ⟨S64x256, .f32⟩
  | .hbm, ⟨48, _⟩ => ⟨S64x128, .f32⟩
  | .hbm, ⟨49, _⟩ => ⟨S1x128, .f32⟩
  | .hbm, ⟨50, _⟩ => ⟨S64x128, .f32⟩
  | .hbm, ⟨51, _⟩ => ⟨S64x128, .f32⟩
  | .hbm, ⟨52, _⟩ => ⟨S64x448, .f32⟩
  | .hbm, ⟨53, _⟩ => ⟨S64x512, .f32⟩
  | .hbm, ⟨54, _⟩ => ⟨S1x512, .f32⟩
  | .hbm, ⟨55, _⟩ => ⟨S64x512, .f32⟩
  | .hbm, ⟨56, _⟩ => ⟨S64x512, .f32⟩
  | .hbm, ⟨57, _⟩ => ⟨S_, .f32⟩
  | .hbm, ⟨58, _⟩ => ⟨S64x512, .f32⟩
  | .hbm, ⟨59, _⟩ => ⟨S64x512, .f32⟩
  | .hbm, ⟨60, _⟩ => ⟨S64x128, .f32⟩
  | .hbm, ⟨61, _⟩ => ⟨S1x128, .f32⟩
  | .hbm, ⟨62, _⟩ => ⟨S64x128, .f32⟩
  | .hbm, ⟨63, _⟩ => ⟨S64x128, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Base.lean ====
/-
  The set-up of the SparseCore call's proof, and its barrier. The two cores' sixteen tiles meet twice at one barrier
  semaphore per tile: a tile signals every tile of its core and waits for sixteen units of its own, twice. Nothing keeps a
  fast tile's second arrival from being counted for a slow tile's first wait, so what a tile learns from the first wait is
  only that sixteen of the thirty-two arrivals have come. It is enough: each tile, before its first arrival, deposits
  what it hands to its siblings (`ST`) into an invariant of its own and marks a cell of ghost state that it has
  (`deposited`); an arrival of the first phase carries the arriving tile's mark, one of the second phase every tile's.
  Sixteen arrivals are either one of the second phase, or all of the first (`barrier1`). An arrival of the second
  phase hands over what the second barrier carries (`PO`), and the second wait ends with all of it (`barrier2`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.Invariants
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## A wait for some of a round's units -/

section Generic

variable {nD : Nat} {τ : Topo} {sig : RefSig} {Ix : Type} [DecidableEq Ix] {D : Type} [DecidableEq D]
variable {Val : EltTy → Type} {Name : Type} [DecidableEq Name] {U : Type} [URA U] {Lvl : Type} {Λ : Labels}
variable [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {α : Type} {Q : α → sProp (MT nD τ sig Ix Val Name U Lvl)}
variable [E.LandsIn (upEmb : UEmb _ (MT nD τ sig Ix Val Name U Lvl))]
variable [∀ g r d, Storable (upEmb : UEmb _ (MT nD τ sig Ix Val Name U Lvl)) (Rd.payload g r d)]

/-- A wait, covered by credit at one index, that may end before its round has: the duties it found landed are `S`. -/
theorem wait_some (sem : Sem sig) (n : ℕ) {κ : Name} {k : PUnit → Prog (TpuEff nD τ sig Val Λ c.2) α} (ι : Ix)
    {O : CellTallies nD τ sig Ix} {W : Waits sig Ix} {R : ℕ} :
    iprop(cellInv E Rd κ (c, .reg sem) ∗ cred (tallyAt (c, .reg sem) ι n) ∗ owes c O W ∗ MayWait c (.reg sem) ι O ∗ atPos E (c, .reg sem) R ∅ 0)
      ⊢ iprop((∀ S : Finset D, (⌜S ⊆ Rd.duties (c, .reg sem) R ∧ n + (Rd.duties (c, .reg sem) R \ S).card ≤ Rd.expect (c, .reg sem) R⌝
              ∗ owes c O (insert (.reg sem, ι) W) ∗ atPos E (c, .reg sem) R S n
              ∗ bigSep S (fun d => Rd.payload (c, .reg sem) R d))
            -∗ wp frame (wpE defs 𝒱 c bd) Set.univ (k ⟨⟩) Q)
          -∗ wp frame (wpE defs 𝒱 c bd) Set.univ (.op (TpuEff.semWait sem n) k) Q) := by
  have h := Rounds.wp_wait (defs := defs) 𝒱 E Rd c bd (sm := .reg sem) (k' := n) (κ := κ) (wpE_semWait_eq 𝒱 c bd Set.univ) (Set.mem_univ _)
    {(.reg sem, ι)} (k := k) (Q := Q) (cr := Finsupp.single ι n) (R := R) (m := 0) (T := ∅) (O := O) (W := W)
    (by rw [Util.total_single]) (image_single_subset _ _ _)
  simp only [Finset.sdiff_empty, Nat.zero_add, Finset.empty_subset, true_and] at h
  rw [Finset.insert_eq, Finset.union_comm]
  exact h

end Generic

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call owns two stages, one per phase of the barrier. -/
@[reducible] def blocks : Blocks 1 2 where
  first := fun _ => 0
  last := fun _ => 1
  fst := fun k => if k = 0 then 0 else 2
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] blocks

/-! ## The resource algebra: the handshakes' rounds library, the barrier cells', the transfers' counters -/

abbrev UH : Type := URounds (GSem nD τ sig) ℕ
abbrev UB : Type := URounds (GSem nD τ sig) ℕ
abbrev UU : Type := UH × (UB × Counters)

/-- The model the assertions are over. -/
abbrev MM (F : FTy → Type) : Type := MT nD τ sig (HIx 2) (Elt F) ℕ UU ℕ
local notation "𝕄" => MT nD τ sig (HIx 2) (Elt F) ℕ UU ℕ

abbrev EH : Emb UH (MT nD τ sig (HIx 2) (Elt F) ℕ UU ℕ) := embL
/-- The barrier cells' rounds library: the left half of the right factor. -/
def EB : Emb UB (MT nD τ sig (HIx 2) (Elt F) ℕ UU ℕ) :=
  ((Emb.inl : Emb UB (UB × Counters)).trans (Emb.inr : Emb (UB × Counters) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance

theorem nSub_eq : τ.nSub = 16 := rfl
/-- Tile number `i` of a core, as the machine counts its vector subcores. -/
abbrev tl (i : Fin 16) : Fin τ.nSub := i

/-! ## The barrier cells -/

/-- Tile `(c, j)`'s barrier semaphore of device `d`. -/
abbrev bcell (d : Dev nD) (c : Fin τ.nSC) (j : Fin 16) : GSem nD τ sig := (V d c (tl j), .reg sc_bar0)
/-- The name under which tile `(c, i)`'s deposit is recorded: a cell of ghost state only, named after a semaphore no tile
    waits on. -/
abbrev vcell (d : Dev nD) (c : Fin τ.nSC) (i : Fin 16) : GSem nD τ sig := (V d c (tl i), .reg sc_start)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin 16) : isBar (bcell d c j) = true := by simp [isBar]

/-- Tile `(c, i)` has made its deposit. -/
abbrev dep (d : Dev nD) (c : Fin τ.nSC) (i : Fin 16) : sProp 𝕄 := reached EB (vcell d c i) 1
/-- Every tile of core `c` has. -/
abbrev deps (d : Dev nD) (c : Fin τ.nSC) : sProp 𝕄 := bigSep Finset.univ fun i : Fin 16 => dep d c i

/-- What arrival `n` at a tile of core `c` shows: below sixteen that tile `n` has deposited; from sixteen on that all have. -/
def bSeen (d : Dev nD) (c : Fin τ.nSC) (n : ℕ) : sProp 𝕄 := if h : n < 16 then dep d c ⟨n, h⟩ else deps d c

instance bSeen_persistent (d : Dev nD) (c : Fin τ.nSC) (n : ℕ) : BI.Persistent (bSeen (F := F) d c n) := by
  unfold bSeen; split <;> infer_instance
instance bSeen_storable (d : Dev nD) (c : Fin τ.nSC) (n : ℕ) : BI.Storable (upEmb : UEmb _ 𝕄) (bSeen (F := F) d c n) := by
  unfold bSeen; split <;> infer_instance

section Protocol

/- `ST d c i j`: what tile `i` of core `c` hands tile `j` at the first barrier; `PO d c j k`: what tile `k` hands tile `j`
   at the second. -/
variable (ST PO : Dev nD → Fin τ.nSC → Fin 16 → Fin 16 → sProp (MT nD τ sig (HIx 2) (Elt F) ℕ UU ℕ))

/-- What arrival `n` at tile `(c, j)` hands over. -/
def bGive (d : Dev nD) (c : Fin τ.nSC) (j : Fin 16) (n : ℕ) : sProp 𝕄 :=
  if h : 16 ≤ n ∧ n - 16 < 16 then PO d c j ⟨n - 16, h.2⟩ else iprop(emp)

def bPay (g : GSem nD τ sig) (n : ℕ) : sProp 𝕄 :=
  match g with
  | ((d, .scVector c j), _) => iprop(bSeen d c n ∗ bGive PO d c j n)
  | _ => iprop(emp)

/-- The barrier cells' schedule: one round on each, of thirty-two unit duties, two per tile of the core. -/
def bRd : Rounds.Schedule (GSem nD τ sig) ℕ 𝕄 where
  duties g r := if isBar g ∧ r = 0 then Finset.range 32 else ∅
  amount _ _ _ := 1
  payload g _ n := bPay PO g n
  amount_pos _ _ _ _ := Nat.one_pos

variable [hST : ∀ d c i j, BI.Storable (upEmb : UEmb _ (MT nD τ sig (HIx 2) (Elt F) ℕ UU ℕ)) (ST d c i j)]
  [hPO : ∀ d c i j, BI.Storable (upEmb : UEmb _ (MT nD τ sig (HIx 2) (Elt F) ℕ UU ℕ)) (PO d c i j)]

instance bGive_storable (d : Dev nD) (c : Fin τ.nSC) (j : Fin 16) (n : ℕ) : BI.Storable (upEmb : UEmb _ 𝕄) (bGive PO d c j n) := by
  unfold bGive; split <;> infer_instance

instance bRd_payload_storable (g : GSem nD τ sig) (r n : ℕ) : BI.Storable (upEmb : UEmb _ 𝕄) ((bRd PO).payload g r n) := by
  show BI.Storable upEmb (bPay PO g n)
  unfold bPay
  rcases g with ⟨⟨d, _ | c | ⟨c, i⟩⟩, sm⟩ <;> dsimp only <;> infer_instance

theorem bRd_duties₀ (d : Dev nD) (c : Fin τ.nSC) (j : Fin 16) : (bRd PO).duties (bcell d c j) 0 = Finset.range 32 := by
  simp [bRd, isBar]
theorem bRd_duties_succ (g : GSem nD τ sig) (r : ℕ) (hr : 1 ≤ r) : (bRd PO).duties g r = ∅ :=
  if_neg fun h => absurd h.2 (Nat.ne_of_gt hr)
theorem bRd_mem (d : Dev nD) (c : Fin τ.nSC) (j : Fin 16) {n : ℕ} (hn : n < 32) : n ∈ (bRd PO).duties (bcell d c j) 0 := by
  rw [bRd_duties₀]; exact Finset.mem_range.mpr hn
theorem bRd_expect (d : Dev nD) (c : Fin τ.nSC) (j : Fin 16) : (bRd PO).expect (bcell d c j) 0 = 32 := by
  unfold Rounds.Schedule.expect; rw [bRd_duties₀]
  show ∑ x ∈ Finset.range 32, 1 = 32
  rw [Finset.sum_const, Finset.card_range]; rfl

/-- The body of tile `(c, i)`'s deposit: not made, or made, each share still there or exchanged for the token of the tile
    that took it. -/
def escBody (d : Dev nD) (c : Fin τ.nSC) (i : Fin 16) : sProp 𝕄 :=
  iprop(∃ R, roundAuth EB (vcell d c i) R ∅ 0
    ∗ (⌜R = 0⌝ ∨ bigSep Finset.univ fun j : Fin 16 => iprop(ST d c i j ∨ dutyTok EB (bcell d c j) 1 i.val)))

instance escBody_storable (d : Dev nD) (c : Fin τ.nSC) (i : Fin 16) : BI.Storable (upEmb : UEmb _ 𝕄) (escBody ST d c i) := by
  unfold escBody roundAuth; infer_instance

/-- The debts of tile `(c, ·)` for the phase at index `ι`: a unit to every tile of its core. -/
def oxP (d : Dev nD) (c : Fin τ.nSC) (ι : HIx 2) : CellTallies nD τ sig (HIx 2) := ∑ j : Fin 16, tallyAt (bcell d c j) ι 1
/-- Both phases'. -/
def oxV (d : Dev nD) (c : Fin τ.nSC) : CellTallies nD τ sig (HIx 2) := oxP d c (some 1) + oxP d c (some 0)

theorem oxP_apply_pos {d : Dev nD} {c : Fin τ.nSC} {ι₀ : HIx 2} {g : GSem nD τ sig} {ι : HIx 2} (h : 0 < oxP d c ι₀ g ι) :
    ∃ j : Fin 16, g = bcell d c j ∧ ι = ι₀ := by
  unfold oxP at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

theorem oxP_none (d : Dev nD) (c : Fin τ.nSC) (j : Fin 2) (g : GSem nD τ sig) : oxP d c (some j) g none = 0 := by
  by_contra h
  obtain ⟨_, _, e⟩ := oxP_apply_pos (Nat.pos_iff_ne_zero.mpr h)
  exact nomatch e

theorem oxV_apply_pos {d : Dev nD} {c : Fin τ.nSC} {g : GSem nD τ sig} {ι : HIx 2} (h : 0 < oxV d c g ι) :
    ∃ (j : Fin 16) (k : Fin 2), g = bcell d c j ∧ ι = some k := by
  unfold oxV at h
  rw [Pi.add_apply, Finsupp.add_apply] at h
  rcases Nat.eq_zero_or_pos (oxP d c (some 1) g ι) with h1 | h1
  · rw [h1, zero_add] at h
    obtain ⟨j, e1, e2⟩ := oxP_apply_pos h; exact ⟨j, 0, e1, e2⟩
  · obtain ⟨j, e1, e2⟩ := oxP_apply_pos h1; exact ⟨j, 1, e1, e2⟩

theorem oxV_none (d : Dev nD) (c : Fin τ.nSC) (g : GSem nD τ sig) : oxV d c g none = 0 := by
  unfold oxV; rw [Pi.add_apply, Finsupp.add_apply, oxP_none, oxP_none]

/-- Tile `(c, i)`'s kit for the barrier. -/
def bkit (d : Dev nD) (c : Fin τ.nSC) (i : Fin 16) : sProp 𝕄 :=
  iprop((∃ κ κ' : GSem nD τ sig → ℕ, (bigSep Finset.univ fun j : Fin 16 => cellInv EB (bRd PO) (κ (bcell d c j)) (bcell d c j))
        ∗ bigSep Finset.univ fun j : Fin 16 => inv (κ' (vcell d c j)) (escBody ST d c j))
    ∗ (bigSep Finset.univ fun j : Fin 16 => dutyTok EB (bcell d c j) 0 i.val)
    ∗ (bigSep Finset.univ fun j : Fin 16 => dutyTok EB (bcell d c j) 0 (16 + i.val))
    ∗ (bigSep Finset.univ fun j : Fin 16 => dutyTok EB (bcell d c i) 1 j.val)
    ∗ (bigSep Finset.univ fun j : Fin 16 => reached EB (bcell d c j) 0)
    ∗ atPos EB (bcell d c i) 0 ∅ 0
    ∗ atPos EB (vcell d c i) 0 ∅ 0
    ∗ cred (tallyAt (bcell d c i) (some 0) 16)
    ∗ cred (tallyAt (bcell d c i) (some 1) 16))

theorem bigSep_ins {I : Type} [DecidableEq I] {s : Finset I} {i : I} (hi : i ∉ s) {Φ : I → sProp 𝕄} :
    bigSep (insert i s) Φ = iprop(Φ i ∗ bigSep s Φ) := BI.bigSep_insert hi

/-! ## The deposit and the withdrawal -/

/-- Tile `i` makes its deposit. -/
theorem deposit (d : Dev nD) (c : Fin τ.nSC) (i : Fin 16) {κ : ℕ} :
    iprop(inv κ (escBody ST d c i) ∗ atPos EB (vcell d c i) 0 ∅ 0 ∗ bigSep Finset.univ fun j : Fin 16 => ST d c i j)
      ⊢ (|={Set.univ}=> dep d c i : sProp 𝕄) := by
  iintro ⟨#Hinv, Hat, Hst⟩
  imod (inv_acc (Set.mem_univ κ)) $$ Hinv with ⟨Hb, Hclose⟩
  unfold escBody
  icases Hb with ⟨%R, Hau, -⟩
  ihave %hR : ⌜_⌝ $$ [Hau Hat]
  · iapply (roundAuth_atPos_agree EB); isplitl [Hau]; · iexact Hau
    iexact Hat
  obtain ⟨rfl, -, -⟩ := hR
  imod (roundAuth_atPos_move EB 1 ∅ 0 (Nat.zero_le 1)) $$ [Hau Hat] with ⟨Hau, Hat⟩
  · isplitl [Hau]; · iexact Hau
    iexact Hat
  imod (roundAuth_witness EB) $$ Hau with ⟨Hau, #Hr⟩
  imod Hclose $$ [Hau Hst] with -
  · iexists 1
    isplitl [Hau]; · iexact Hau
    iright
    iapply (SparseCore.ent (bigSep_mono (Φ := fun j : Fin 16 => ST d c i j) fun j _ => (by iintro H; ileft; iexact H : ST d c i j ⊢ iprop(ST d c i j ∨ dutyTok EB (bcell d c j) 1 i.val)))) $$ Hst
  imodintro; iexact Hr

/-- Tile `j` takes its share of tile `i`'s deposit, leaving its token. -/
theorem withdraw (d : Dev nD) (c : Fin τ.nSC) (i j : Fin 16) {κ : ℕ} :
    iprop(inv κ (escBody ST d c i) ∗ dep d c i ∗ dutyTok EB (bcell d c j) 1 i.val) ⊢ (|={Set.univ}=> ST d c i j : sProp 𝕄) := by
  iintro ⟨#Hinv, #Hr, Ht⟩
  imod (inv_acc (Set.mem_univ κ)) $$ Hinv with ⟨Hb, Hclose⟩
  unfold escBody
  icases Hb with ⟨%R, Hau, Hb⟩
  ihave %hR : ⌜_⌝ $$ [Hau]
  · iapply (roundAuth_reached_le EB (g := vcell d c i) (R := R) (C := ∅) (m := 0) (r := 1)); isplitl [Hau]; · iexact Hau
    iexact Hr
  icases Hb with ⟨%h0 | Hs⟩
  · exfalso; omega
  have e : (bigSep Finset.univ fun j : Fin 16 => iprop(ST d c i j ∨ dutyTok EB (bcell d c j) 1 i.val))
      = iprop((ST d c i j ∨ dutyTok EB (bcell d c j) 1 i.val) ∗ bigSep (Finset.univ.erase j) fun j : Fin 16 => iprop(ST d c i j ∨ dutyTok EB (bcell d c j) 1 i.val)) :=
    SparseCore.bigSep_erase' (Finset.mem_univ j)
  ihave Hs := (Entails.of_eq e) $$ Hs
  icases Hs with ⟨Hj, Hs⟩
  icases Hj with ⟨Hj | Hj⟩
  · imod Hclose $$ [Hau Hs Ht] with -
    · iexists R
      isplitl [Hau]; · iexact Hau
      iright
      iapply (Entails.of_eq e.symm)
      isplitl [Ht]; · iright; iexact Ht
      iexact Hs
    imodintro; iexact Hj
  · iexfalso
    iapply (dutyTok_dutyTok_false EB (g := bcell d c j) (r := 1) (d := i.val)); isplitl [Ht]; · iexact Ht
    iexact Hj

/-- Tile `j` takes its share of every tile's deposit. -/
theorem withdraw_all (d : Dev nD) (c : Fin τ.nSC) (j : Fin 16) {κ : GSem nD τ sig → ℕ} (s : Finset (Fin 16)) :
    iprop((bigSep Finset.univ fun i : Fin 16 => inv (κ (vcell d c i)) (escBody ST d c i)) ∗ deps d c
        ∗ bigSep s fun i : Fin 16 => dutyTok EB (bcell d c j) 1 i.val)
      ⊢ (|={Set.univ}=> bigSep s fun i : Fin 16 => ST d c i j : sProp 𝕄) := by
  induction s using Finset.induction_on with
  | empty => rw [bigSep_empty, bigSep_empty]; iintro ⟨-, -, -⟩; imodintro; iempintro
  | insert i s hi ih =>
    rw [bigSep_ins hi, bigSep_ins hi]
    iintro ⟨#Hinv, #Hd, Hi, Hs⟩
    imod (withdraw ST d c i j (κ := κ (vcell d c i))) $$ [Hi] with Hi
    · isplitr; · iapply (SparseCore.ent (bigSep_elim (Φ := fun i : Fin 16 => inv (κ (vcell d c i)) (escBody ST d c i)) (Finset.mem_univ i))) $$ Hinv
      isplitr; · iapply (SparseCore.ent (bigSep_elim (Φ := fun i : Fin 16 => dep (F := F) d c i) (Finset.mem_univ i))) $$ Hd
      iexact Hi
    imod ih $$ [Hs] with Hs
    · isplitr; · iexact Hinv
      isplitr; · iexact Hd
      iexact Hs
    imodintro
    isplitl [Hi] <;> iassumption

/-! ## The arrivals -/

/-- A tile's arrivals of one phase: duty `me` paid on every tile's cell. -/
theorem arrive [FloatOps F] (d : Dev nD) {c : Fin τ.nSC} (i : Fin 16) (κ : GSem nD τ sig → ℕ) (me : ℕ) (hme : me < 32) (ι : HIx 2)
    (O : CellTallies nD τ sig (HIx 2)) (W : Waits sig (HIx 2)) (q : Prog (TpuEff nD τ sig (Elt F) Λ₀ (.scVector c (tl i))) PUnit) (Q : PUnit → sProp 𝕄) :
    ∀ l : List (Fin 16), l.Nodup →
      iprop((bigSep Finset.univ fun j : Fin 16 => cellInv EB (bRd PO) (κ (bcell d c j)) (bcell d c j))
          ∗ owes (V d c (tl i)) (O + ∑ j ∈ l.toFinset, tallyAt (bcell d c j) ι 1) W
          ∗ (bigSep l.toFinset fun j : Fin 16 => iprop(dutyTok EB (bcell d c j) 0 me ∗ (bRd PO).payload (bcell d c j) 0 me ∗ reached EB (bcell d c j) 0))
          ∗ (owes (V d c (tl i)) O W -∗ wp frame (wpE (defs₀ (F := F)) 𝒱₀ (V d c (tl i)) none) Set.univ q Q))
        ⊢ wp frame (wpE (defs₀ (F := F)) 𝒱₀ (V d c (tl i)) none) Set.univ
            (l.foldr (fun j r => .op (TpuEff.semSignal (d, .scVector c (tl j)) sc_bar0 1) fun _ => r) q) Q := by
  intro l hl
  induction l with
  | nil =>
    rw [List.toFinset_nil, List.foldr_nil, Finset.sum_empty, add_zero]
    iintro ⟨-, HO, -, Hk⟩; iapply Hk; iexact HO
  | cons j l ih =>
    rw [List.toFinset_cons, List.foldr_cons]
    have hj : j ∉ l.toFinset := fun h => (List.nodup_cons.mp hl).1 (List.mem_toFinset.mp h)
    rw [bigSep_ins hj, Finset.sum_insert hj]
    iintro ⟨#Hinv, HO, ⟨⟨Htok, Hpay, Hr⟩, Htoks⟩, Hk⟩
    iapply (Rounds.wp_signal 𝒱₀ EB (bRd PO) (V d c (tl i)) none (dst := V d c (tl j)) (sem := sc_bar0) (r := 0) (d := me) (k' := 1)
        (κ := κ (bcell d c j)) (bRd_mem PO d c j hme) rfl ι
        (O₀ := O + (tallyAt (bcell d c j) ι 1 + ∑ j ∈ l.toFinset, tallyAt (bcell d c j) ι 1))
        (O := O + ∑ j ∈ l.toFinset, tallyAt (bcell d c j) ι 1)
        (by rw [add_comm (tallyAt _ _ _) _, ← add_assoc]) (W := W)) $$ [HO Htok Hpay Hr]
    · isplitr
      · iapply (SparseCore.ent (bigSep_elim (Φ := fun j : Fin 16 => cellInv EB (bRd PO) (κ (bcell d c j)) (bcell d c j)) (Finset.mem_univ j))) $$ Hinv
      isplitl [HO]; · iexact HO
      isplitl [Htok]; · iexact Htok
      isplitl [Hpay] <;> iassumption
    iintro HO
    iapply (ih (List.nodup_cons.mp hl).2)
    isplitr; · iexact Hinv
    isplitl [HO]; · iexact HO
    isplitl [Htoks] <;> iassumption

/-- Sixteen arrivals show that every tile has deposited. -/
theorem deps_of_seen (d : Dev nD) (c : Fin τ.nSC) (S : Finset ℕ) (hS : S ⊆ Finset.range 32) (hc : 16 + (Finset.range 32 \ S).card ≤ 32) :
    (bigSep S fun n => bSeen d c n) ⊢ (deps d c : sProp 𝕄) := by
  by_cases h : ∃ n ∈ S, 16 ≤ n
  · obtain ⟨n, hn, h16⟩ := h
    refine (bigSep_elim (Φ := fun n => bSeen (F := F) d c n) hn).trans ?_
    unfold bSeen; rw [dif_neg (by omega)]; exact BI.Entails.refl _
  · have hsub : S ⊆ Finset.range 16 := fun n hn => Finset.mem_range.mpr (by by_contra hh; exact h ⟨n, hn, by omega⟩)
    have hcard : S.card = 16 := by
      have h1 := Finset.card_sdiff_of_subset hS
      have h2 := Finset.card_le_card hsub
      rw [Finset.card_range] at h1 h2; omega
    have hSe : S = Finset.range 16 := Finset.eq_of_subset_of_card_le hsub (by rw [Finset.card_range, hcard])
    subst hSe
    have e : (Finset.range 16) = (Finset.univ : Finset (Fin 16)).image Fin.val := by decide
    rw [e, SparseCore.bigSep_image_of_injOn (fun a _ b _ h => Fin.val_injective h)]
    refine bigSep_mono fun i _ => ?_
    unfold bSeen; rw [dif_pos i.isLt]; exact BI.Entails.refl _

theorem payload_eq (d : Dev nD) (c : Fin τ.nSC) (j : Fin 16) (n : ℕ) :
    (bRd PO).payload (bcell d c j) 0 n = iprop(bSeen d c n ∗ bGive PO d c j n) := rfl

theorem pay_split (d : Dev nD) (c : Fin τ.nSC) (j : Fin 16) (s : Finset ℕ) :
    (bigSep s fun n => (bRd PO).payload (bcell d c j) 0 n) = iprop((bigSep s fun n => bSeen d c n) ∗ bigSep s fun n => bGive PO d c j n) :=
  bigSep_sep' s _ _

set_option maxHeartbeats 2000000 in
/-- The first wait. -/
theorem wait1 [FloatOps F] (d : Dev nD) {c : Fin τ.nSC} (i : Fin 16) (κ : ℕ)
    (O : CellTallies nD τ sig (HIx 2)) (W : Waits sig (HIx 2)) (k : PUnit → Prog (TpuEff nD τ sig (Elt F) Λ₀ (.scVector c (tl i))) PUnit) (Q : PUnit → sProp 𝕄) :
    iprop(cellInv EB (bRd PO) κ (bcell d c i) ∗ cred (tallyAt (bcell d c i) (some 0) 16) ∗ owes (V d c (tl i)) O W
        ∗ MayWait (V d c (tl i)) (.reg sc_bar0) (some 0) O ∗ atPos EB (bcell d c i) 0 ∅ 0)
      ⊢ iprop((∀ S : Finset ℕ, (⌜S ⊆ (bRd PO).duties (bcell d c i) 0 ∧ 16 + ((bRd PO).duties (bcell d c i) 0 \ S).card ≤ (bRd PO).expect (bcell d c i) 0⌝
            ∗ owes (V d c (tl i)) O (insert (.reg sc_bar0, some 0) W) ∗ atPos EB (bcell d c i) 0 S 16
            ∗ bigSep S fun n => (bRd PO).payload (bcell d c i) 0 n)
          -∗ wp frame (wpE (defs₀ (F := F)) 𝒱₀ (V d c (tl i)) none) Set.univ (k ⟨⟩) Q)
        -∗ wp frame (wpE (defs₀ (F := F)) 𝒱₀ (V d c (tl i)) none) Set.univ (.op (TpuEff.semWait sc_bar0 (grid0.bound 1)) k) Q) :=
    wait_some 𝒱₀ EB (bRd PO) (V d c (tl i)) none sc_bar0 16 (κ := κ) (k := k) (Q := Q) (some 0) (O := O) (W := W) (R := 0)

set_option maxHeartbeats 2000000 in
/-- The second. -/
theorem wait2 [FloatOps F] (d : Dev nD) {c : Fin τ.nSC} (i : Fin 16) (κ : ℕ) (S : Finset ℕ)
    (O : CellTallies nD τ sig (HIx 2)) (W : Waits sig (HIx 2)) (k : PUnit → Prog (TpuEff nD τ sig (Elt F) Λ₀ (.scVector c (tl i))) PUnit) (Q : PUnit → sProp 𝕄) :
    iprop(cellInv EB (bRd PO) κ (bcell d c i) ∗ cred (tallyAt (bcell d c i) (some 1) 16) ∗ owes (V d c (tl i)) O W
        ∗ MayWait (V d c (tl i)) (.reg sc_bar0) (some 1) O ∗ atPos EB (bcell d c i) 0 S 16)
      ⊢ iprop(((owes (V d c (tl i)) O (insert (.reg sc_bar0, some 1) W) ∗ atPos EB (bcell d c i) (0 + 1) ∅ 0 ∗ reached EB (bcell d c i) (0 + 1)
            ∗ bigSep ((bRd PO).duties (bcell d c i) 0 \ S) fun n => (bRd PO).payload (bcell d c i) 0 n)
          -∗ wp frame (wpE (defs₀ (F := F)) 𝒱₀ (V d c (tl i)) none) Set.univ (k ⟨⟩) Q)
        -∗ wp frame (wpE (defs₀ (F := F)) 𝒱₀ (V d c (tl i)) none) Set.univ (.op (TpuEff.semWait sc_bar0 (grid0.bound 1)) k) Q) :=
    Rounds.wp_wait_rest_token 𝒱₀ EB (bRd PO) (V d c (tl i)) none (sm := .reg sc_bar0) (k' := 16) (κ := κ)
      (wpE_semWait_eq 𝒱₀ (V d c (tl i)) none Set.univ) (Set.mem_univ _) (some 1) (R := 0) (m := 16) (T := S)
      (O := O) (W := W) (bRd_expect PO d c i).symm

set_option maxHeartbeats 1000000 in
/-- The first barrier: this tile's shares go to its siblings and it has its share of each of theirs. -/
theorem barrier1 [FloatOps F] (d : Dev nD) {c : Fin τ.nSC} (i : Fin 16) (κ κ' : GSem nD τ sig → ℕ)
    (O : CellTallies nD τ sig (HIx 2)) (W : Waits sig (HIx 2)) (k : PUnit → Prog (TpuEff nD τ sig (Elt F) Λ₀ (.scVector c (tl i))) PUnit) (Q : PUnit → sProp 𝕄) :
    iprop((bigSep Finset.univ fun j : Fin 16 => cellInv EB (bRd PO) (κ (bcell d c j)) (bcell d c j))
        ∗ (bigSep Finset.univ fun j : Fin 16 => inv (κ' (vcell d c j)) (escBody ST d c j))
        ∗ owes (V d c (tl i)) (O + oxP d c (some 0)) W
        ∗ (bigSep Finset.univ fun j : Fin 16 => dutyTok EB (bcell d c j) 0 i.val)
        ∗ (bigSep Finset.univ fun j : Fin 16 => dutyTok EB (bcell d c i) 1 j.val)
        ∗ (bigSep Finset.univ fun j : Fin 16 => reached EB (bcell d c j) 0)
        ∗ atPos EB (bcell d c i) 0 ∅ 0
        ∗ atPos EB (vcell d c i) 0 ∅ 0
        ∗ cred (tallyAt (bcell d c i) (some 0) 16)
        ∗ MayWait (V d c (tl i)) (.reg sc_bar0) (some 0) O
        ∗ bigSep Finset.univ fun j : Fin 16 => ST d c i j)
      ⊢ iprop((∀ S : Finset ℕ, (owes (V d c (tl i)) O (insert (SemLoc.reg sc_bar0, some 0) W) ∗ atPos EB (bcell d c i) 0 S 16
            ∗ (bigSep S fun n => bGive PO d c i n) ∗ ⌜S ⊆ Finset.range 32⌝ ∗ deps d c ∗ bigSep Finset.univ fun j : Fin 16 => ST d c j i)
          -∗ wp frame (wpE (defs₀ (F := F)) 𝒱₀ (V d c (tl i)) none) Set.univ (k ⟨⟩) Q)
        -∗ wp frame (wpE (defs₀ (F := F)) 𝒱₀ (V d c (tl i)) none) Set.univ (SparseCore.subcoreBarrier sc_bar0 (grid0.bound 1) hsub0 >>= k) Q) := by
  rw [SparseCore.subcoreBarrier_bind, show (wp frame (wpE (defs₀ (F := F)) 𝒱₀ (V d c (tl i)) none) Set.univ (.op .deviceId _) Q : sProp 𝕄) = _ from wp_deviceId 𝒱₀ (V d c (tl i)) none Set.univ]
  iintro ⟨#Hinv, #Hesc, HO, Htoks, Hmine, #Hrch, Hat, Hvat, Hcred, Hmw, Hst⟩ Hk
  imod (deposit ST d c i (κ := κ' (vcell d c i))) $$ [Hvat Hst] with #Hdep
  · isplitr; · iapply (SparseCore.ent (bigSep_elim (Φ := fun j : Fin 16 => inv (κ' (vcell d c j)) (escBody ST d c j)) (Finset.mem_univ i))) $$ Hesc
    isplitl [Hvat] <;> iassumption
  have := arrive PO d (c := c) i κ i.val (by omega) (some 0) O W (.op (TpuEff.semWait sc_bar0 (grid0.bound 1)) k) Q (List.finRange 16) (List.nodup_finRange 16)
  rw [List.toFinset_finRange] at this
  iapply this
  isplitr; · iexact Hinv
  isplitl [HO]; · iexact HO
  isplitl [Htoks]
  · rw [bigSep_sep', bigSep_sep']
    isplitl [Htoks]; · iexact Htoks
    isplitr
    · have hp : ∀ j : Fin 16, (bRd PO).payload (bcell d c j) 0 i.val = iprop(dep d c i ∗ emp) := fun j => by
        rw [payload_eq]; unfold bSeen bGive
        rw [dif_pos i.isLt, dif_neg (by have := i.isLt; omega)]
      simp only [hp]
      rw [bigSep_sep', show (bigSep Finset.univ fun _ : Fin 16 => (iprop(emp) : sProp 𝕄)) = iprop(emp) from bigSep_emp_const _]
      isplitr; swap; · iempintro
      iapply (SparseCore.ent (bigSep_of_persistent _ _)) $$ Hdep
    iexact Hrch
  iintro HO
  have hw := wait1 PO d i (κ (bcell d c i)) O W k Q
  iapply hw $$ [Hcred HO Hmw Hat]
  · isplitr
    · iapply (SparseCore.ent (bigSep_elim (Φ := fun j : Fin 16 => cellInv EB (bRd PO) (κ (bcell d c j)) (bcell d c j)) (Finset.mem_univ i))) $$ Hinv
    isplitl [Hcred]; · iexact Hcred
    isplitl [HO]; · iexact HO
    isplitl [Hmw] <;> iassumption
  iintro %S ⟨%hS, HO, Hat, Hpay⟩
  obtain ⟨hS1, hS2⟩ := hS
  rw [bRd_duties₀] at hS1 hS2
  rw [bRd_expect] at hS2
  ihave Hpay := (Entails.of_eq (pay_split PO d c i S)) $$ Hpay
  icases Hpay with ⟨#Hseen, Hgive⟩
  ihave #Hdeps := (deps_of_seen d c S hS1 (by omega)) $$ Hseen
  imod (withdraw_all ST d c i (κ := κ') Finset.univ) $$ [Hmine] with Hst
  · isplitr; · iexact Hesc
    isplitr; · iexact Hdeps
    iexact Hmine
  iapply Hk $$ %S
  isplitl [HO]; · iexact HO
  isplitl [Hat]; · iexact Hat
  isplitl [Hgive]; · iexact Hgive
  isplitr; · ipureintro; exact hS1
  isplitr; · iexact Hdeps
  iexact Hst

set_option maxHeartbeats 1000000 in
/-- The second barrier: this tile's part goes to its siblings, it has theirs, and its barrier semaphore, closed, at zero. -/
theorem barrier2 [FloatOps F] (d : Dev nD) {c : Fin τ.nSC} (i : Fin 16) (κ : GSem nD τ sig → ℕ) (S : Finset ℕ)
    (O : CellTallies nD τ sig (HIx 2)) (W : Waits sig (HIx 2)) (k : PUnit → Prog (TpuEff nD τ sig (Elt F) Λ₀ (.scVector c (tl i))) PUnit) (Q : PUnit → sProp 𝕄) :
    iprop((bigSep Finset.univ fun j : Fin 16 => cellInv EB (bRd PO) (κ (bcell d c j)) (bcell d c j))
        ∗ owes (V d c (tl i)) (O + oxP d c (some 1)) W
        ∗ (bigSep Finset.univ fun j : Fin 16 => dutyTok EB (bcell d c j) 0 (16 + i.val))
        ∗ (bigSep Finset.univ fun j : Fin 16 => reached EB (bcell d c j) 0)
        ∗ atPos EB (bcell d c i) 0 S 16
        ∗ (bigSep S fun n => bGive PO d c i n) ∗ ⌜S ⊆ Finset.range 32⌝ ∗ deps d c
        ∗ cred (tallyAt (bcell d c i) (some 1) 16)
        ∗ MayWait (V d c (tl i)) (.reg sc_bar0) (some 1) O
        ∗ bigSep Finset.univ fun j : Fin 16 => PO d c j i)
      ⊢ iprop(((owes (V d c (tl i)) O (insert (SemLoc.reg sc_bar0, some 1) W) ∗ semVal (bcell d c i) 0
            ∗ bigSep Finset.univ fun j : Fin 16 => PO d c i j)
          -∗ wp frame (wpE (defs₀ (F := F)) 𝒱₀ (V d c (tl i)) none) Set.univ (k ⟨⟩) Q)
        -∗ wp frame (wpE (defs₀ (F := F)) 𝒱₀ (V d c (tl i)) none) Set.univ (SparseCore.subcoreBarrier sc_bar0 (grid0.bound 1) hsub0 >>= k) Q) := by
  rw [SparseCore.subcoreBarrier_bind, show (wp frame (wpE (defs₀ (F := F)) 𝒱₀ (V d c (tl i)) none) Set.univ (.op .deviceId _) Q : sProp 𝕄) = _ from wp_deviceId 𝒱₀ (V d c (tl i)) none Set.univ]
  iintro ⟨#Hinv, HO, Htoks, #Hrch, Hat, Hg1, %hS, #Hdeps, Hcred, Hmw, Hpo⟩ Hk
  have := arrive PO d (c := c) i κ (16 + i.val) (by omega) (some 1) O W (.op (TpuEff.semWait sc_bar0 (grid0.bound 1)) k) Q (List.finRange 16) (List.nodup_finRange 16)
  rw [List.toFinset_finRange] at this
  iapply this
  isplitr; · iexact Hinv
  isplitl [HO]; · iexact HO
  isplitl [Htoks Hpo]
  · rw [bigSep_sep', bigSep_sep']
    isplitl [Htoks]; · iexact Htoks
    isplitl [Hpo]
    · have hp : ∀ j : Fin 16, (bRd PO).payload (bcell d c j) 0 (16 + i.val) = iprop(deps d c ∗ PO d c j i) := fun j => by
        rw [payload_eq]; unfold bSeen bGive
        have h16 : 16 + i.val - 16 = i.val := by omega
        rw [dif_neg (by omega), dif_pos ⟨by omega, by have := i.isLt; omega⟩]
        congr 2; exact Fin.ext h16
      simp only [hp]
      rw [bigSep_sep']
      isplitr; swap; · iexact Hpo
      iapply (SparseCore.ent (bigSep_of_persistent _ _)) $$ Hdeps
    iexact Hrch
  iintro HO
  have hw := wait2 PO d i (κ (bcell d c i)) S O W k Q
  iapply hw $$ [Hcred HO Hmw Hat]
  · isplitr
    · iapply (SparseCore.ent (bigSep_elim (Φ := fun j : Fin 16 => cellInv EB (bRd PO) (κ (bcell d c j)) (bcell d c j)) (Finset.mem_univ i))) $$ Hinv
    isplitl [Hcred]; · iexact Hcred
    isplitl [HO]; · iexact HO
    isplitl [Hmw] <;> iassumption
  iintro ⟨HO, Hat, -, Hpay⟩
  ihave Hpay := (Entails.of_eq ((congrArg (fun s => bigSep (s \ S) fun n => (bRd PO).payload (bcell d c i) 0 n) (bRd_duties₀ PO d c i)).trans
    (pay_split PO d c i _))) $$ Hpay
  icases Hpay with ⟨-, Hg2⟩
  imod (Rounds.cell_close EB (bRd PO) (g := bcell d c i) (Set.mem_univ (κ _)) (fun h => h) (bRd_duties_succ PO _)) $$ [Hat] with Hbar
  · isplitr
    · iapply (SparseCore.ent (bigSep_elim (Φ := fun j : Fin 16 => cellInv EB (bRd PO) (κ (bcell d c j)) (bcell d c j)) (Finset.mem_univ i))) $$ Hinv
    · iexact Hat
  iapply Hk
  isplitl [HO]; · iexact HO
  isplitl [Hbar]; · iexact Hbar
  have hall : iprop((bigSep S fun n => bGive PO d c i n) ∗ bigSep (Finset.range 32 \ S) fun n => bGive PO d c i n)
      ⊢ bigSep Finset.univ fun j : Fin 16 => PO d c i j := by
    refine (Entails.of_eq (BI.bigSep_union (Finset.disjoint_sdiff)).symm).trans ?_
    rw [Finset.union_sdiff_of_subset hS]
    have hsub : (Finset.univ : Finset (Fin 16)).image (fun j => 16 + j.val) ⊆ Finset.range 32 := by decide
    refine (bigSep_subset hsub).trans ?_
    rw [SparseCore.bigSep_image_of_injOn (fun a _ b _ h => Fin.ext (by simpa using h))]
    refine bigSep_mono fun j _ => ?_
    unfold bGive
    rw [dif_pos ⟨by omega, by have := j.isLt; omega⟩]
    have : (⟨16 + j.val - 16, by have := j.isLt; omega⟩ : Fin 16) = j := Fin.ext (by simp)
    rw [this]; exact BI.Entails.refl _
  iapply (SparseCore.ent hall)
  isplitl [Hg1] <;> iassumption

end Protocol

end Cert.Proof.Seg

end
-- ==== Proof.Kit.lean ====
/-
  Rules for a tile's straight-line code over memrefs whose contents are known as functions of the memref's own indices.
  `At c m q g` says that thread `c` holds the elements of `m` at share `q` and that they read `g`. Loads, stores, gathers,
  scatters and local copies are stated over it, and `Ow` is what the thread owes with the waits it has made so far left open.
-/
module

public import proofs.«01_k».proof.Proof.Base

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {Λ : Labels} {defs : Defs nD τ sig (Elt F) Λ}
variable (c : Thread nD τ) {α β : Type} {Q : α → sProp (MT nD τ sig (HIx 2) (Elt F) ℕ UU ℕ)}

/-- The counters' place beside the two barriers' ghost state. -/
abbrev EC : UEmb Counters 𝕄 := countersEmb

/-- Thread `c` holds `m`'s elements at share `q`, and they read `g`. -/
def At {sp : Space} {s : Shape} {e : EltTy} (m : Memref sig c.2.kind sp s e) (q : PosShare TreeShare) (g : s.Idx → Elt F e) : sProp 𝕄 :=
  iprop(∃ f : Buf (Elt F) (m.view.loc c), (m.view.loc c ↦[m.view.set]{q} f) ∗ ⌜m.view.read (Elt F) f = g⌝)

/-- What thread `c` owes, the waits it has made being those in `W` and others at indices its protocol allows. -/
def Ow (O : CellTallies nD τ sig (HIx 2)) (W : Waits sig (HIx 2)) : sProp 𝕄 :=
  iprop(∃ W', ⌜∀ p ∈ W', p ∈ W ∨ p.2 = none ∨ ∃ j, p.2 = some j⌝ ∗ owes c O W')

section Steps

variable {sp : Space} {s : Shape} {e : EltTy}

omit [FloatOps F] in
theorem read_access {κ : Kind} (m : Memref sig κ sp s e) (f : m.view.ty.Contents (Elt F)) : (m.access (.whole s)).read (Elt F) f = m.view.read (Elt F) f := by
  funext x
  show _root_.cast _ (f (m.view.emb ((Rect.whole s).emb x))) = _
  rw [Rect.emb_whole_apply]; rfl

theorem at_load {cs : CoreSpace} {m : Memref sig c.2.kind cs s e} {r : Rect s} {hl : m.view.LoadsAt r.toLoadRect}
    {k : (r.shape.Idx → Elt F e) → Prog (TpuEff nD τ sig (Elt F) Λ c.2) α} {q : PosShare TreeShare} {g : s.Idx → Elt F e} :
    At c m q g ⊢ iprop((At c m q g -∗ wp frame (wpE defs 𝒱₀ c none) Set.univ (k fun x => g (r.emb x)) Q)
        -∗ wp frame (wpE defs 𝒱₀ c none) Set.univ (Prog.lift (.load m r.toLoadRect hl) >>= k) Q) := by
  unfold At
  iintro ⟨%f, H, %hg⟩ Hk
  subst hg
  iapply (wp_load_rect (defs := defs) 𝒱₀ c none Set.univ (m := m) (r := r) (hl := hl) (k := k) (q := q) (f := f) (View.set_slice_subset _ _)) $$ H
  iintro H
  iapply Hk
  iexists f
  isplitl [H]; · iexact H
  ipureintro; rfl

/-- A store through a rectangle: the new contents are the stored values on the rectangle and the old ones off it. -/
theorem at_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {g : s.Idx → Elt F e} :
    At c m fullShare g ⊢ iprop((∀ g', ⌜(∀ x, g' (r.emb x) = w x) ∧ ∀ y, (∀ x, r.emb x ≠ y) → g' y = g y⌝ ∗ At c m fullShare g'
          -∗ wp frame (wpE defs 𝒱₀ c none) Set.univ (k ⟨⟩) Q)
        -∗ wp frame (wpE defs 𝒱₀ c none) Set.univ (Prog.lift (.store m r w Finset.univ hx hm) >>= k) Q) := by
  unfold At
  iintro ⟨%f, H, %hg⟩ Hk
  subst hg
  iapply (wp_store (defs := defs) 𝒱₀ c none Set.univ (m := m) (r := r) (Mk := Finset.univ) (hx := hx) (hm := hm) (k := k) (f := f) (w := w)
    (S := m.view.set) (by rw [View.setOn_univ]; exact View.set_slice_subset _ _)) $$ H
  iintro H
  iapply Hk $$ %(m.view.read (Elt F) ((m.access r).write (Elt F) f w Finset.univ))
  isplitr
  · ipureintro
    refine ⟨fun x => ?_, fun y hy => ?_⟩
    · exact congrFun (View.read_write_univ (v := m.access r) f w) x
    · refine congrArg (_root_.cast (congrArg (Elt F) m.view.elt_eq)) (View.write_of_not_mem (v := m.access r) f w Finset.univ ?_)
      rw [View.setOn_univ, View.set_slice]
      intro h
      obtain ⟨z, hz, hzy⟩ := Finset.mem_map.mp h
      obtain rfl : z = y := m.view.emb.injective hzy
      obtain ⟨x, hx⟩ := r.exists_idx_of_mem hz
      exact hy x hx
  iexists _
  isplitl [H]; · iexact H
  ipureintro; rfl

theorem at_loadIdx {t : Shape} {m : Memref sig c.2.kind .vmem s e} {idxs : Fin s.rank → IVec t 32}
    {h : ∀ a x, (idxs a x).toNat < s.size a} {hl : m.view.Loads} {k : Vec F t e → Prog (TpuEff nD τ sig (Elt F) Λ c.2) α}
    {q : PosShare TreeShare} {g : s.Idx → Elt F e} :
    At c m q g ⊢ iprop((At c m q g -∗ wp frame (wpE defs 𝒱₀ c none) Set.univ (k (loadIdx g idxs h)) Q)
        -∗ wp frame (wpE defs 𝒱₀ c none) Set.univ (SparseCore.vectorLoadIdx m idxs h hl >>= k) Q) := by
  unfold At
  iintro ⟨%f, H, %hg⟩ Hk
  subst hg
  iapply (SparseCore.wp_vectorLoadIdx (defs := defs) 𝒱₀ c none Set.univ (base := m) (hl := hl) (h := h) (k := k) (q := q) (f := f) (S := m.view.set) (View.set_slice_subset _ _)) $$ H
  iintro H
  rw [read_access m f]
  iapply Hk
  iexists f
  isplitl [H]; · iexact H
  ipureintro; rfl

theorem at_intro {m : Memref sig c.2.kind sp s e} {q : PosShare TreeShare} {S : Finset (Idx (m.view.loc c))} {f : Buf (Elt F) (m.view.loc c)} {g : s.Idx → Elt F e}
    (hS : S = m.view.set) (hg : m.view.read (Elt F) f = g) : (m.view.loc c ↦[S]{q} f : sProp 𝕄) ⊢ At c m q g := by
  subst hS
  unfold At
  iintro H
  iexists f
  isplitl [H]; · iexact H
  ipureintro; exact hg

theorem at_elim {m : Memref sig c.2.kind sp s e} {q : PosShare TreeShare} {S : Finset (Idx (m.view.loc c))} {g : s.Idx → Elt F e}
    (hS : S = m.view.set) : At c m q g ⊢ iprop(∃ f : Buf (Elt F) (m.view.loc c), (m.view.loc c ↦[S]{q} f) ∗ ⌜m.view.read (Elt F) f = g⌝ : sProp 𝕄) := by
  subst hS
  unfold At
  exact .rfl

omit [FloatOps F] in
theorem set_access {κ : Kind} (m : Memref sig κ sp s e) : (m.access (.whole s)).set = m.view.set := by
  rw [View.set_slice, Rect.set_whole]; rfl

theorem at_storeIdx {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {g : s.Idx → Elt F e} :
    At c m fullShare g ⊢ iprop((At c m fullShare (storeIdx g idxs v mask add h) -∗ wp frame (wpE defs 𝒱₀ c none) Set.univ (k ⟨⟩) Q)
        -∗ wp frame (wpE defs 𝒱₀ c none) Set.univ (SparseCore.vectorStoreIdx m idxs v mask add h hs >>= k) Q) := by
  refine (at_elim c (set_access m)).trans ?_
  iintro ⟨%f, H, %hg⟩ Hk
  have e : m.view.read (Elt F) ((m.access (.whole s)).write (Elt F) f (storeIdx ((m.access (.whole s)).read (Elt F) f) idxs v mask add h) Finset.univ)
      = storeIdx g idxs v mask add h :=
    (read_access m _).symm.trans ((View.read_write_univ (v := m.access (.whole s)) f _).trans (by rw [read_access m f, hg]))
  iapply (SparseCore.wp_vectorStoreIdx (defs := defs) 𝒱₀ c none Set.univ (base := m) (hs := hs) (h := h) (k := k) (f := f) (v := v) (mask := mask) (add := add)) $$ H
  iintro H
  iapply Hk
  iapply (at_intro c (m := m) (set_access m) e) $$ H

/-- A local copy issued on a cell at zero. -/
theorem at_enqueue {sp' : Space} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ c.2) α} {q : PosShare TreeShare} {g g' : s.Idx → Elt F e}
    (hN : 0 < dst.view.amount (.dma sem)) :
    iprop(At c src q g ∗ At c dst fullShare g' ∗ semVal (c, .dma sem) 0)
      ⊢ iprop((Transfers.Flight (EC (F := F)) c (.dma sem) (none : HIx 2) (dst.view.amount (.dma sem)) iprop(At c dst fullShare g ∗ At c src q g)
            -∗ wp frame (wpE defs 𝒱₀ c none) Set.univ (k ⟨⟩) Q)
        -∗ wp frame (wpE defs 𝒱₀ c none) Set.univ (Prog.lift (.enqueueDma src (.here dst) (.dma sem) hsrc hdst hsem) >>= k) Q) := by
  unfold At
  iintro ⟨⟨%f, Hs, %hg⟩, ⟨%f', Hd, -⟩, Hv⟩ Hk
  subst hg
  iapply (Transfers.wp_dmaLocal (defs := defs) (EC (F := F)) 𝒱₀ c none (src := src) (dst := dst) (via := ReadAs.same) (hsrc := hsrc) (hdst := hdst) (hsem := hsem) (k := k)
    (Sd := dst.view.set) (none : HIx 2) _ rfl hN subset_rfl) $$ [Hs Hd Hv]
  · isplitl [Hs]; · iexact Hs
    isplitl [Hd]; · iexact Hd
    iexact Hv
  iintro Hf
  iapply Hk
  iapply (Transfers.Flight_mono (EC (F := F)) c ?_) $$ Hf
  iintro ⟨Hd, Hs⟩
  isplitl [Hd]
  · iexists _; isplitl [Hd]; · iexact Hd
    ipureintro; exact View.read_write_univ _ _
  · iexists _; isplitl [Hs]; · iexact Hs
    ipureintro; rfl

/-- The wait of a copy in flight. -/
theorem at_wait {sp' : Space} {s' : Shape} {e' : EltTy} {κ' : Kind} {sem : DmaSem sig} {srcw : Memref sig c.2.kind sp' s' e'} {dstw : Memref sig κ' sp s e}
    {hsrc : srcw.view.WordExact} {hdst : dstw.view.WordExact}
    {k : PUnit → Prog (TpuEff nD τ sig (Elt F) Λ c.2) α} {D : sProp 𝕄} {O : CellTallies nD τ sig (HIx 2)} {W : Waits sig (HIx 2)} {N : ℕ} (hN : dstw.view.dmaCredit = N) :
    iprop(Transfers.Flight (EC (F := F)) c (.dma sem) (none : HIx 2) N D ∗ Ow (F := F) c O W ∗ Transfers.MayWaits c (none : HIx 2) O)
      ⊢ iprop((iprop(D ∗ semVal (c, .dma sem) 0 ∗ Ow (F := F) c O W) -∗ wp frame (wpE defs 𝒱₀ c none) Set.univ (k ⟨⟩) Q)
        -∗ wp frame (wpE defs 𝒱₀ c none) Set.univ (Prog.lift (.waitDma2 sem srcw dstw hsrc hdst) >>= k) Q) := by
  unfold Ow
  iintro ⟨Hf, ⟨%W', %hW, HO⟩, Hm⟩ Hk
  iapply (Transfers.wp_waitLocalO (defs := defs) (EC (F := F)) 𝒱₀ c none (srcw := srcw) (dstw := dstw) (hsrc := hsrc) (hdst := hdst) (k := k) (none : HIx 2) hN) $$ [Hf HO Hm]
  · isplitl [Hf]; · iexact Hf
    isplitl [HO]; · iexact HO
    iapply (Transfers.MayWaits.elim _) $$ Hm
  iintro ⟨HD, Hv, HO⟩
  iapply Hk
  isplitl [HD]; · iexact HD
  isplitl [Hv]; · iexact Hv
  iexists (insert (SemLoc.dma sem, (none : HIx 2)) W')
  isplitr
  · ipureintro
    intro p hp
    rcases Finset.mem_insert.mp hp with h | hp
    · exact Or.inr (Or.inl (by rw [h]))
    · exact hW p hp
  iexact HO

/-- A copy issued and waited for. -/
theorem at_copy {sp' : Space} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ c.2) α} {q : PosShare TreeShare} {g g' : s.Idx → Elt F e}
    {O : CellTallies nD τ sig (HIx 2)} {W : Waits sig (HIx 2)} (hN : 0 < dst.view.amount (.dma sem)) :
    iprop(At c src q g ∗ At c dst fullShare g' ∗ semVal (c, .dma sem) 0 ∗ Ow (F := F) c O W ∗ Transfers.MayWaits c (none : HIx 2) O)
      ⊢ iprop((iprop(At c src q g ∗ At c dst fullShare g ∗ semVal (c, .dma sem) 0 ∗ Ow (F := F) c O W) -∗ wp frame (wpE defs 𝒱₀ c none) Set.univ (k ⟨⟩) Q)
        -∗ wp frame (wpE defs 𝒱₀ c none) Set.univ (Prog.lift (.enqueueDma src (.here dst) (.dma sem) hsrc hdst hsem) >>= fun _ =>
            Prog.lift (.waitDma2 sem src dst hsrc' hdst') >>= k) Q) := by
  iintro ⟨Hs, Hd, Hv, HO, Hm⟩ Hk
  iapply (at_enqueue c hN) $$ [Hs Hd Hv]
  · isplitl [Hs]; · iexact Hs
    isplitl [Hd]; · iexact Hd
    iexact Hv
  iintro Hf
  iapply (at_wait c rfl) $$ [Hf HO Hm]
  · isplitl [Hf]; · iexact Hf
    isplitl [HO]; · iexact HO
    iexact Hm
  iintro ⟨⟨Hd, Hs⟩, Hv, HO⟩
  iapply Hk
  isplitl [Hs]; · iexact Hs
  isplitl [Hd]; · iexact Hd
  isplitl [Hv]; · iexact Hv
  iexact HO

/-- Part of a buffer taken out to be read, and the buffer back. -/
theorem at_slice_read {m : Memref sig c.2.kind sp s e} (r : Rect s) (hr : ∀ a, r.stride a = 1) {q : PosShare TreeShare} {g : s.Idx → Elt F e} :
    At c m q g ⊢ iprop(At c (m.slice r hr) q (fun x => g (r.emb x)) ∗ (At c (m.slice r hr) q (fun x => g (r.emb x)) -∗ At c m q g)) := by
  unfold At
  iintro ⟨%f, H, %hg⟩
  subst hg
  have hset : (m.slice r hr).view.set ⊆ m.view.set := View.set_slice_subset _ _
  ihave H := (pointsTo_split_subset hset).1 $$ H
  icases H with ⟨H1, H2⟩
  isplitl [H1]
  · iexists f; isplitl [H1]; · iexact H1
    ipureintro; rfl
  iintro ⟨%f', H1, %hf⟩
  have e : ∀ i ∈ (m.slice r hr).view.set, f' i = f i := by
    intro i hi
    obtain ⟨x, -, rfl⟩ := Finset.mem_map.mp hi
    have h := congrFun hf x
    exact (cast_bijective (congrArg (Elt F) m.view.elt_eq)).injective h
  ihave H1 := (Entails.of_eq (pointsTo_congr e)) $$ H1
  iexists f
  isplitl
  · iapply (pointsTo_split_subset hset).2
    isplitl [H1]; · iexact H1
    iexact H2
  ipureintro; rfl

/-- Part of a buffer taken out to be written, and the buffer back with that part changed. -/
theorem at_slice_write {m : Memref sig c.2.kind sp s e} (r : Rect s) (hr : ∀ a, r.stride a = 1) {g : s.Idx → Elt F e} :
    At c m fullShare g ⊢ iprop(At c (m.slice r hr) fullShare (fun x => g (r.emb x))
      ∗ (∀ w, At c (m.slice r hr) fullShare w -∗ ∃ g', ⌜(∀ x, g' (r.emb x) = w x) ∧ ∀ y, (∀ x, r.emb x ≠ y) → g' y = g y⌝ ∗ At c m fullShare g')) := by
  unfold At
  iintro ⟨%f, H, %hg⟩
  subst hg
  have hset : (m.slice r hr).view.set ⊆ m.view.set := View.set_slice_subset _ _
  ihave H := (pointsTo_split_subset hset).1 $$ H
  icases H with ⟨H1, H2⟩
  isplitl [H1]
  · iexists f; isplitl [H1]; · iexact H1
    ipureintro; rfl
  iintro %w ⟨%f', H1, %hf⟩
  let f2 : Buf (Elt F) (m.view.loc c) := fun i => if i ∈ (m.slice r hr).view.set then f' i else f i
  have e1 : ∀ i ∈ (m.slice r hr).view.set, f' i = f2 i := fun i hi => (if_pos hi).symm
  have e2 : ∀ i ∈ m.view.set \ (m.slice r hr).view.set, f i = f2 i := fun i hi => (if_neg (Finset.mem_sdiff.mp hi).2).symm
  ihave H1 := (Entails.of_eq (pointsTo_congr e1)) $$ H1
  ihave H2 := (Entails.of_eq (pointsTo_congr e2)) $$ H2
  iexists m.view.read (Elt F) f2
  isplitr
  · ipureintro
    refine ⟨fun x => ?_, fun y hy => ?_⟩
    · have h := congrFun hf x
      rw [← h]
      exact congrArg (_root_.cast (congrArg (Elt F) m.view.elt_eq)) (e1 _ (Finset.mem_map_of_mem _ (Finset.mem_univ x))).symm
    · refine congrArg (_root_.cast (congrArg (Elt F) m.view.elt_eq)) (if_neg ?_)
      rw [show (m.slice r hr).view.set = (m.view.slice r).set from rfl, View.set_slice]
      intro h
      obtain ⟨z, hz, hzy⟩ := Finset.mem_map.mp h
      obtain rfl : z = y := m.view.emb.injective hzy
      obtain ⟨x, hx⟩ := r.exists_idx_of_mem hz
      exact hy x hx
  iexists f2
  isplitl
  · iapply (pointsTo_split_subset hset).2
    isplitl [H1]; · iexact H1
    iexact H2
  ipureintro; rfl

end Steps

section Flow

variable {P : sProp (MT nD τ sig (HIx 2) (Elt F) ℕ UU ℕ)} {Qm : β → sProp (MT nD τ sig (HIx 2) (Elt F) ℕ UU ℕ)}

/-- A piece of the program proved by itself, at the head of the rest. -/
theorem run {p : Prog (TpuEff nD τ sig (Elt F) Λ c.2) β} {k : β → Prog (TpuEff nD τ sig (Elt F) Λ c.2) α}
    (h : P ⊢ wp frame (wpE defs 𝒱₀ c none) Set.univ p Qm) :
    P ⊢ iprop((∀ r, Qm r -∗ wp frame (wpE defs 𝒱₀ c none) Set.univ (k r) Q) -∗ wp frame (wpE defs 𝒱₀ c none) Set.univ (p >>= k) Q) := by
  have hb : iprop(wp frame (wpE defs 𝒱₀ c none) Set.univ p Qm ∗ ∀ r, Qm r -∗ wp frame (wpE defs 𝒱₀ c none) Set.univ (k r) Q)
      ⊢ wp frame (wpE defs 𝒱₀ c none) Set.univ (p >>= k) Q := by
    rw [wp_bind]
    refine (wp_frame_r frame (wpE defs 𝒱₀ c none) Set.univ).trans (wp_mono frame (wpE defs 𝒱₀ c none) Set.univ fun r => ?_)
    iintro ⟨H, Hk⟩; iapply Hk $$ %r H
  iintro HP Hk
  iapply hb
  isplitl [HP]
  · iapply h $$ HP
  iexact Hk

theorem run_pure {v : β} {k : β → Prog (TpuEff nD τ sig (Elt F) Λ c.2) α} :
    (wp frame (wpE defs 𝒱₀ c none) Set.univ (k v) Q : sProp 𝕄) ⊢ wp frame (wpE defs 𝒱₀ c none) Set.univ (pure v >>= k) Q := .rfl

theorem fin_pure {v : α} : Q v ⊢ wp frame (wpE defs 𝒱₀ c none) Set.univ (pure v : Prog (TpuEff nD τ sig (Elt F) Λ c.2) α) Q := by
  show _ ⊢ wp frame (wpE defs 𝒱₀ c none) Set.univ (.ret v : Prog (TpuEff nD τ sig (Elt F) Λ c.2) α) Q
  rw [wp_ret]
  iintro H
  imodintro
  iexact H

theorem assume_pos {A : Prop} {dA : Decidable A} {k : PLift A → Prog (TpuEff nD τ sig (Elt F) Λ c.2) α} (h : A) :
    (wp frame (wpE defs 𝒱₀ c none) Set.univ (k ⟨h⟩) Q : sProp 𝕄) ⊢ wp frame (wpE defs 𝒱₀ c none) Set.univ (Prog.lift (.assume A dA) >>= k) Q :=
  Entails.of_eq (wp_assume_of (defs := defs) 𝒱₀ c none Set.univ (k := k) (d := dA) h).symm

/-- A loop by an invariant of the trips run. -/
theorem loop {l : Scf.Loop 32} {hok : l.OK} {init : β} {body : Fin l.trips → β → Prog (TpuEff nD τ sig (Elt F) Λ c.2) β}
    {k : β → Prog (TpuEff nD τ sig (Elt F) Λ c.2) α} (I : ℕ → β → sProp 𝕄)
    (hb : ∀ (t : Fin l.trips) (a : β), I t.val a ⊢ wp frame (wpE defs 𝒱₀ c none) Set.univ (body t a) (fun a' => I (t.val + 1) a')) :
    I 0 init ⊢ iprop((∀ a, I l.trips a -∗ wp frame (wpE defs 𝒱₀ c none) Set.univ (k a) Q)
      -∗ wp frame (wpE defs 𝒱₀ c none) Set.univ (Scf.Loop.for l hok init body >>= k) Q) :=
  Scf.wp_for_bind _ _ _ _ _ _ hok init body I hb

theorem branch {A : Prop} [Decidable A] {t : A → Prog (TpuEff nD τ sig (Elt F) Λ c.2) β} {e : ¬ A → Prog (TpuEff nD τ sig (Elt F) Λ c.2) β}
    {k : β → Prog (TpuEff nD τ sig (Elt F) Λ c.2) α}
    (ht : ∀ h, P ⊢ wp frame (wpE defs 𝒱₀ c none) Set.univ (t h) Qm) (he : ∀ h, P ⊢ wp frame (wpE defs 𝒱₀ c none) Set.univ (e h) Qm) :
    P ⊢ iprop((∀ r, Qm r -∗ wp frame (wpE defs 𝒱₀ c none) Set.univ (k r) Q) -∗ wp frame (wpE defs 𝒱₀ c none) Set.univ (dite A t e >>= k) Q) := by
  by_cases h : A
  · rw [dif_pos h]; exact run c (ht h)
  · rw [dif_neg h]; exact run c (he h)

end Flow

end Cert.Proof.Seg
-- ==== Proof.Pure.lean ====
/-
  The values behind the kernel's sums. A reading takes float values to a commutative monoid in which the kernel's additions
  are the monoid's own, and the scatters and running sums of one tile are stated through it.
-/
module

public import proofs.«01_k».proof.Proof.Kit

@[expose] public section

noncomputable section

namespace Cert.Proof.Seg

open Cert.KernelIdeal Cert.KernelIdeal.Gen
open Idealize.ShloMosaic
open scoped BigOperators

/-- A reading of the float values in a commutative monoid: both additions the kernel makes are the monoid's own. -/
structure Rdg (F : FTy → Type) [FloatOps F] (M : Type) [AddCommMonoid M] where
  v : Elt F .f32 → M
  one : M
  add : ∀ x y : F .f32, v (FloatOps.addf x y) = v x + v y
  idxAdd : ∀ x y : F .f32, v (FloatOps.idxAddf x y) = v x + v y
  zero : v (Scalar.ofBits (F := F) .f32 0x00000000#32) = 0
  one_eq : v (Scalar.ofBits (F := F) .f32 0x3F800000#32) = one

variable {F : FTy → Type} [FloatOps F] {M : Type} [AddCommMonoid M] (R : Rdg F M)

/-- Lane `l` of a vector of sixteen. -/
abbrev lane (l : Fin 16) : S16.Idx := Shape.ofLane (d := ![16]) l

theorem lane_zero (l : Fin 16) : ((lane l) 0).val = l.val := rfl

theorem lane_surj (x : S16.Idx) : x = lane ⟨(x 0).val, (x 0).isLt⟩ := by
  funext a; obtain rfl := Fin.eq_zero a; rfl

theorem val_storeIdx {n : ℕ} (f : Vec F ⟨1, ![n]⟩ .f32) (x : IVec S16 32) (w : Vec F S16 .f32)
    (h : ∀ a l, ((![x] : Fin 1 → IVec S16 32) a l).toNat < (⟨1, ![n]⟩ : Shape).size a) (y : (⟨1, ![n]⟩ : Shape).Idx) :
    R.v (storeIdx (s := ⟨1, ![n]⟩) (d := ![16]) f ![x] w (fun _ => 1#1) true h y)
      = R.v (f y) + ∑ l : Fin 16, if (x (lane l)).toNat = (y 0).val then R.v (w (lane l)) else 0 := by
  rw [Fin.sum_univ_def]
  unfold storeIdx
  show R.v (List.foldl _ f (List.finRange 16) y) = _
  generalize List.finRange 16 = L
  induction L generalizing f with
  | nil => simp
  | cons k L ih =>
    refine (ih _).trans ?_
    rw [List.map_cons, List.sum_cons, ← add_assoc]
    congr 1
    dsimp only
    rw [if_pos (show (1#1 : BitVec 1) = 1 from rfl)]
    have hiff : (∀ a, (y a).val = (idxAt (s := ⟨1, ![n]⟩) (![x] : Fin 1 → IVec S16 32) h (Shape.ofLane (d := ![16]) k) a).val)
        ↔ (x (lane k)).toNat = (y 0).val := by
      constructor
      · intro hh; exact (hh 0).symm
      · intro hh a; obtain rfl := Fin.eq_zero a; exact hh.symm
    by_cases hc : (x (lane k)).toNat = (y 0).val
    · rw [if_pos hc]
      refine (congrArg R.v (if_pos (hiff.mpr hc))).trans ?_
      have hi : idxAt (s := ⟨1, ![n]⟩) (![x] : Fin 1 → IVec S16 32) h (Shape.ofLane (d := ![16]) k) = y := by
        funext a; exact Fin.ext ((hiff.mpr hc) a).symm
      rw [if_pos rfl, hi]
      exact R.idxAdd _ _
    · rw [if_neg hc, add_zero]
      exact congrArg R.v (if_neg (fun hh => hc (hiff.mp hh)))

/-- A scatter of sixteen lanes to sixteen consecutive places. -/
theorem val_row {n : ℕ} (f : Vec F ⟨1, ![n]⟩ .f32) (x : IVec S16 32) (w : Vec F S16 .f32)
    (h : ∀ a l, ((![x] : Fin 1 → IVec S16 32) a l).toNat < (⟨1, ![n]⟩ : Shape).size a)
    (base : ℕ) (hx : ∀ l : Fin 16, (x (lane l)).toNat = 16 * base + l.val) (W : ℕ → M) (hw : ∀ l : Fin 16, R.v (w (lane l)) = W l.val)
    (y : (⟨1, ![n]⟩ : Shape).Idx) :
    R.v (storeIdx (s := ⟨1, ![n]⟩) (d := ![16]) f ![x] w (fun _ => 1#1) true h y)
      = R.v (f y) + if (y 0).val / 16 = base then W ((y 0).val % 16) else 0 := by
  rw [val_storeIdx R]
  congr 1
  simp only [hx, hw]
  by_cases hc : (y 0).val / 16 = base
  · rw [if_pos hc]
    have hlt : (y 0).val % 16 < 16 := Nat.mod_lt _ (by norm_num)
    rw [Finset.sum_eq_single (⟨(y 0).val % 16, hlt⟩ : Fin 16)]
    · rw [if_pos (by show 16 * base + (y 0).val % 16 = (y 0).val; omega)]
    · intro l _ hl
      rw [if_neg]
      intro he
      exact hl (Fin.ext (by show l.val = (y 0).val % 16; omega))
    · intro hh; exact absurd (Finset.mem_univ _) hh
  · rw [if_neg hc]
    refine Finset.sum_eq_zero fun l _ => if_neg ?_
    have := l.isLt
    omega

/-- What the first `n` rows of a block add to place `y` of the table: row `r` belongs to segment `bb r` and holds `ob r`. -/
def rowsAdd (bb : ℕ → ℕ) (ob : ℕ → ℕ → M) (n y : ℕ) : M := ∑ r ∈ Finset.range n, if bb r = y / 128 then ob r (y % 128) else 0

theorem rowsAdd_zero (bb : ℕ → ℕ) (ob : ℕ → ℕ → M) (y : ℕ) : rowsAdd bb ob 0 y = 0 := by simp [rowsAdd]

theorem rowsAdd_succ (bb : ℕ → ℕ) (ob : ℕ → ℕ → M) (n y : ℕ) :
    rowsAdd bb ob (n + 1) y = rowsAdd bb ob n y + if bb n = y / 128 then ob n (y % 128) else 0 := by
  simp only [rowsAdd, Finset.sum_range_succ]

theorem rowsAdd_add (bb : ℕ → ℕ) (ob : ℕ → ℕ → M) (n m y : ℕ) :
    rowsAdd bb ob (n + m) y = rowsAdd bb ob n y + rowsAdd (fun r => bb (n + r)) (fun r => ob (n + r)) m y := by
  simp only [rowsAdd, Finset.sum_range_add]

theorem rowsAdd_const (bb : ℕ → ℕ) (ob : ℕ → ℕ → M) (n y b : ℕ) (hb : ∀ r < n, bb r = b) :
    rowsAdd bb ob n y = if y / 128 = b then ∑ r ∈ Finset.range n, ob r (y % 128) else 0 := by
  unfold rowsAdd
  by_cases hc : y / 128 = b
  · rw [if_pos hc]
    exact Finset.sum_congr rfl fun r hr => if_pos (by rw [hb r (Finset.mem_range.mp hr), hc])
  · rw [if_neg hc]
    exact Finset.sum_eq_zero fun r hr => if_neg (by rw [hb r (Finset.mem_range.mp hr)]; exact fun hh => hc hh.symm)

theorem rowsAdd_congr (bb bb' : ℕ → ℕ) (ob ob' : ℕ → ℕ → M) (n y : ℕ) (hb : ∀ r < n, bb r = bb' r) (ho : ∀ r < n, ob r (y % 128) = ob' r (y % 128)) :
    rowsAdd bb ob n y = rowsAdd bb' ob' n y :=
  Finset.sum_congr rfl fun r hr => by rw [hb r (Finset.mem_range.mp hr), ho r (Finset.mem_range.mp hr)]

/-- Eight scatters of sixteen lanes make one row. -/
theorem row8 (a : M) (b y : ℕ) (X : ℕ → M) :
    a + (if y / 16 = 8 * b + 0 then X (16 * 0 + y % 16) else 0) + (if y / 16 = 8 * b + 1 then X (16 * 1 + y % 16) else 0)
      + (if y / 16 = 8 * b + 2 then X (16 * 2 + y % 16) else 0) + (if y / 16 = 8 * b + 3 then X (16 * 3 + y % 16) else 0)
      + (if y / 16 = 8 * b + 4 then X (16 * 4 + y % 16) else 0) + (if y / 16 = 8 * b + 5 then X (16 * 5 + y % 16) else 0)
      + (if y / 16 = 8 * b + 6 then X (16 * 6 + y % 16) else 0) + (if y / 16 = 8 * b + 7 then X (16 * 7 + y % 16) else 0)
      = a + if b = y / 128 then X (y % 128) else 0 := by
  by_cases hc : b = y / 128
  · rw [if_pos hc]
    obtain ⟨j, hj⟩ : ∃ j, j = y % 128 / 16 := ⟨_, rfl⟩
    have hj8 : j < 8 := by omega
    have h1 : y / 16 = 8 * b + j := by omega
    have h2 : y % 128 = 16 * j + y % 16 := by omega
    rw [h1, h2]
    simp only [Nat.add_left_cancel_iff]
    interval_cases j <;> simp
  · rw [if_neg hc]
    have : ∀ j < 8, ¬ y / 16 = 8 * b + j := by intro j hj; omega
    simp only [if_neg (this 0 (by norm_num)), if_neg (this 1 (by norm_num)), if_neg (this 2 (by norm_num)), if_neg (this 3 (by norm_num)),
      if_neg (this 4 (by norm_num)), if_neg (this 5 (by norm_num)), if_neg (this 6 (by norm_num)), if_neg (this 7 (by norm_num)), add_zero]
    have h0 : ¬ y / 16 = 8 * b := by omega
    rw [if_neg h0, add_zero]

/-- How many of the first `n` elements fall in place `y` of the table of counts. -/
def keysAdd (one : M) (bb : ℕ → ℕ) (n y : ℕ) : M := ∑ x ∈ Finset.range n, if bb x * 16 + x % 16 = y then one else 0

theorem keysAdd_zero (one : M) (bb : ℕ → ℕ) (y : ℕ) : keysAdd one bb 0 y = 0 := by simp [keysAdd]

theorem keysAdd_16 (one : M) (bb : ℕ → ℕ) (n y : ℕ) (hn : n % 16 = 0) :
    keysAdd one bb (n + 16) y = keysAdd one bb n y + ∑ l : Fin 16, if bb (n + l.val) * 16 + l.val = y then one else 0 := by
  unfold keysAdd
  rw [Finset.sum_range_add, ← Fin.sum_univ_eq_sum_range (fun x => if bb (n + x) * 16 + (n + x) % 16 = y then one else 0) 16]
  congr 1
  refine Finset.sum_congr rfl fun l _ => ?_
  have : (n + l.val) % 16 = l.val := by have := l.isLt; omega
  rw [this]

/-! ## The words the kernel computes -/

theorem iv_toNat (k : ℕ) (hk : k < 2 ^ 32) : (Scf.iv 0#32 1#32 k).toNat = k := by
  unfold Scf.iv
  simp only [BitVec.zero_add, BitVec.mul_one, BitVec.toNat_ofNat]
  exact Nat.mod_eq_of_lt hk

/-- The greatest of sixteen equal words, read with the sign flipped, is that word. -/
theorem scan_const (x : IVec S16 32) (c : BitVec 32) (hx : ∀ l, x l = c) (l : S16.Idx) : scan (d := ![16]) .max x l = c := by
  unfold scan
  simp only [hx]
  generalize (List.finRange _).filter _ = L
  induction L with
  | nil => rfl
  | cons k L ih =>
    rw [List.foldl_cons]
    have : ScanKind.step .max c c = c := by simp [ScanKind.step, IntOp.maxui]
    rw [this]; exact ih

end Cert.Proof.Seg
-- ==== Proof.Steps.lean ====
/-
  Steps of the accumulation: loads of a block's row pieces, gathers of segment words, and scatters into the tables, each with
  what it does to the values read.
-/
module

public import proofs.«01_k».proof.Proof.Pure
public import Idealize.ShloMosaic.Lib.Pipeline.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {Λ : Labels} {defs : Defs nD τ sig (Elt F) Λ}
variable (c : Thread nD τ) {α β : Type} {Q : α → sProp (MT nD τ sig (HIx 2) (Elt F) ℕ UU ℕ)}
variable {M : Type} [AddCommMonoid M] (R : Rdg F M)

/-- The tile at coordinates `i`. -/
abbrev thr (d : Dev nD) (i : grid0.Coords) : Thread nD τ := V (τ := τ) d ((i 0).castLE hcore0) ((i 1).castLE hsub0)

theorem enter {p : Prog (TpuEff nD τ sig (Elt F) Λ c.2) β} {k : β → Prog (TpuEff nD τ sig (Elt F) Λ c.2) α} :
    (wp frame (wpE defs 𝒱₀ c none) Set.univ p (fun r => wp frame (wpE defs 𝒱₀ c none) Set.univ (k r) Q) : sProp 𝕄)
      ⊢ wp frame (wpE defs 𝒱₀ c none) Set.univ (p >>= k) Q := by
  rw [wp_bind]

theorem dite_yes {A : Prop} [Decidable A] {t : A → Prog (TpuEff nD τ sig (Elt F) Λ c.2) β} {e : ¬ A → Prog (TpuEff nD τ sig (Elt F) Λ c.2) β}
    {k : β → Prog (TpuEff nD τ sig (Elt F) Λ c.2) α} (h : A) :
    (wp frame (wpE defs 𝒱₀ c none) Set.univ (t h) (fun r => wp frame (wpE defs 𝒱₀ c none) Set.univ (k r) Q) : sProp 𝕄)
      ⊢ wp frame (wpE defs 𝒱₀ c none) Set.univ (dite A t e >>= k) Q := by
  rw [dif_pos h]; exact enter c

theorem dite_no {A : Prop} [Decidable A] {t : A → Prog (TpuEff nD τ sig (Elt F) Λ c.2) β} {e : ¬ A → Prog (TpuEff nD τ sig (Elt F) Λ c.2) β}
    {k : β → Prog (TpuEff nD τ sig (Elt F) Λ c.2) α} (h : ¬ A) :
    (wp frame (wpE defs 𝒱₀ c none) Set.univ (e h) (fun r => wp frame (wpE defs 𝒱₀ c none) Set.univ (k r) Q) : sProp 𝕄)
      ⊢ wp frame (wpE defs 𝒱₀ c none) Set.univ (dite A t e >>= k) Q := by
  rw [dif_neg h]; exact enter c

theorem unitEmb {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  show off a + 1 * (x a).val = _
  rw [Nat.one_mul]

/-- A piece of sixteen of a block's row, as the kernel loads it. -/
theorem ld_val {go : S80x128.Idx → Elt F .f32} {ob : ℕ → ℕ → M} (hgo : ∀ y, R.v (go y) = ob (y 0).val (y 1).val)
    {off : Fin 2 → ℕ} {inb : ∀ a, off a + S1x16.size a ≤ S80x128.size a} (t j : ℕ) (hoff : off = ![t, 16 * j]) (l : Fin 16) :
    R.v (shapeCast S16 (fun x => go ((Rect.unit (s := S80x128) off S1x16.size inb).emb x) : Vec F S1x16 .f32) shapeCasts_S1x16_S16 (lane l)) = ob t (16 * j + l.val) := by
  have h := shapeCast_dropUnit_apply ![16] (fun x => go ((Rect.unit (s := S80x128) off S1x16.size inb).emb x) : Vec F S1x16 .f32) shapeCasts_S1x16_S16 (lane l)
  refine (congrArg R.v h).trans ?_
  subst hoff
  rw [hgo, unitEmb, unitEmb]
  rfl

theorem idx_lt {n : ℕ} {x : IVec S16 32} (hx : ∀ l : Fin 16, (x (lane l)).toNat < n) :
    ∀ a y, ((![x] : Fin 1 → IVec S16 32) a y).toNat < (⟨1, ![n]⟩ : Shape).size a := by
  intro a y
  obtain rfl := Fin.eq_zero a
  have := hx ⟨(y 0).val, (y 0).isLt⟩
  rw [← lane_surj y] at this
  exact this

/-- The place words of segment `b`, columns `16 j` to `16 j + 15`. -/
theorem key_val {v23 : IVec S16 32} (hv23 : ∀ l : Fin 16, v23 (lane l) = BitVec.ofNat 32 l.val) {x : IVec S16 32} {b : ℕ}
    (hx : ∀ l : Fin 16, (x (lane l)).toNat = b) (hb : b < 64) (j : ℕ) (hj : j < 8) (l : Fin 16) :
    ((addi (addi (muli x (broadcast S16 128#32)) v23) (broadcast S16 (BitVec.ofNat 32 (16 * j))) : IVec S16 32) (lane l)).toNat = 16 * (8 * b + j) + l.val := by
  have hl := l.isLt
  show ((x (lane l) * 128#32 + v23 (lane l)) + BitVec.ofNat 32 (16 * j)).toNat = _
  rw [hv23]
  simp only [BitVec.toNat_add, BitVec.toNat_mul, BitVec.toNat_ofNat, hx]
  omega

theorem key_lt {v23 : IVec S16 32} (hv23 : ∀ l : Fin 16, v23 (lane l) = BitVec.ofNat 32 l.val) {x : IVec S16 32} {b : ℕ}
    (hx : ∀ l : Fin 16, (x (lane l)).toNat = b) (hb : b < 64) (j : ℕ) (hj : j < 8) :
    ∀ a y, ((![(addi (addi (muli x (broadcast S16 128#32)) v23) (broadcast S16 (BitVec.ofNat 32 (16 * j))) : IVec S16 32)] : Fin 1 → IVec S16 32) a y).toNat
      < (⟨1, ![8192]⟩ : Shape).size a :=
  idx_lt fun l => by rw [key_val hv23 hx hb j hj l]; have := l.isLt; omega

/-- A word of the block, spread over the lanes. -/
theorem spread_val (v106 w : BitVec 32) (off t : ℕ) (h106 : v106.toNat = off) (hw : w.toNat = t) (hlt : off + t < 20480) (l : Fin 16) :
    ((addi (broadcast S16 0#32) (broadcast S16 (Scalar.addi v106 w)) : IVec S16 32) (lane l)).toNat = off + t := by
  show (0#32 + (v106 + w)).toNat = _
  simp only [BitVec.toNat_add, h106, hw, BitVec.toNat_ofNat]
  omega

theorem spread_lt (v106 w : BitVec 32) (off t : ℕ) (h106 : v106.toNat = off) (hw : w.toNat = t) (hlt : off + t < 20480) :
    ∀ a y, ((![(addi (broadcast S16 0#32) (broadcast S16 (Scalar.addi v106 w)) : IVec S16 32)] : Fin 1 → IVec S16 32) a y).toNat < (⟨1, ![20480]⟩ : Shape).size a :=
  idx_lt fun l => by rw [spread_val v106 w off t h106 hw hlt l]; exact hlt

/-- A gather whose sixteen places are the same. -/
theorem gather_val {gb : S20480.Idx → BitVec 32} {bt : ℕ → ℕ} (hgb : ∀ y, (gb y).toNat = bt (y 0).val) {x : IVec S16 32} {p : ℕ}
    (hx : ∀ l : Fin 16, (x (lane l)).toNat = p) (h : ∀ a y, ((![x] : Fin 1 → IVec S16 32) a y).toNat < S20480.size a) (l : Fin 16) :
    ((loadIdx (F := F) (e := .i32) gb ![x] h : Vec F S16 .i32) (lane l)).toNat = bt p := by
  refine (hgb _).trans ?_
  show bt (x (lane l)).toNat = _
  rw [hx]

/-- The first eight of the sixteen running sums hold the sums of the first `n` rows of a block, sixteen columns each. -/
abbrev Regs (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

def SumsUp (ob : ℕ → ℕ → M) (n j : ℕ) (x : FVec F S16 .f32) : Prop := ∀ l : Fin 16, R.v (x (lane l)) = ∑ r ∈ Finset.range n, ob r (16 * j + l.val)

def RegsOK (ob : ℕ → ℕ → M) (n : ℕ) (a : Regs F) : Prop :=
  SumsUp R ob n 0 a.1 ∧ SumsUp R ob n 1 a.2.1 ∧ SumsUp R ob n 2 a.2.2.1 ∧ SumsUp R ob n 3 a.2.2.2.1 ∧ SumsUp R ob n 4 a.2.2.2.2.1
    ∧ SumsUp R ob n 5 a.2.2.2.2.2.1 ∧ SumsUp R ob n 6 a.2.2.2.2.2.2.1 ∧ SumsUp R ob n 7 a.2.2.2.2.2.2.2.1

theorem sums_add {go : S80x128.Idx → Elt F .f32} {ob : ℕ → ℕ → M} (hgo : ∀ y, R.v (go y) = ob (y 0).val (y 1).val)
    {off : Fin 2 → ℕ} {inb : ∀ a, off a + S1x16.size a ≤ S80x128.size a} {n j : ℕ} (hoff : off = ![n, 16 * j]) {x : FVec F S16 .f32} (hx : SumsUp R ob n j x) :
    SumsUp R ob (n + 1) j (addf x (shapeCast S16 (fun x => go ((Rect.unit (s := S80x128) off S1x16.size inb).emb x) : Vec F S1x16 .f32) shapeCasts_S1x16_S16)) := by
  intro l
  rw [Finset.sum_range_succ, ← hx l]
  refine (R.add _ _).trans ?_
  congr 1
  exact ld_val R hgo n j hoff l

theorem iv4_toNat (t r : ℕ) (ht : t < 20) (hr : r < 4) : (Scalar.addi (Scalar.muli (Scf.iv 0#32 1#32 t) 4#32) (BitVec.ofNat 32 r)).toNat = 4 * t + r := by
  show (Scf.iv 0#32 1#32 t * 4#32 + BitVec.ofNat 32 r).toNat = _
  rw [BitVec.toNat_add, BitVec.toNat_mul, iv_toNat t (by omega), BitVec.toNat_ofNat, BitVec.toNat_ofNat]
  omega

/-- An assumption the kernel makes, met. -/
theorem assume_step {A : Prop} {dA : Decidable A} {k : PLift A → Prog (TpuEff nD τ sig (Elt F) Λ c.2) α} :
    iprop(⌜A⌝ ∗ ∀ h : A, wp frame (wpE defs 𝒱₀ c none) Set.univ (k ⟨h⟩) Q : sProp 𝕄)
      ⊢ wp frame (wpE defs 𝒱₀ c none) Set.univ (Prog.lift (.assume A dA) >>= k) Q := by
  iintro ⟨%h, H⟩
  iapply (assume_pos c h)
  iapply H $$ %h

theorem at_scat {n : ℕ} {m : Memref sig c.2.kind .vmem ⟨1, ![n]⟩ .f32} {x : IVec S16 32} {w : Vec F S16 .f32}
    {h : ∀ a l, ((![x] : Fin 1 → IVec S16 32) a l).toNat < (⟨1, ![n]⟩ : Shape).size a} {hs : (m.access (.whole _)).Stores Finset.univ}
    {k : PUnit → Prog (TpuEff nD τ sig (Elt F) Λ c.2) α} {g : (⟨1, ![n]⟩ : Shape).Idx → Elt F .f32} (base : ℕ) (W : ℕ → M) :
    At c m fullShare g ⊢ iprop((⌜(∀ l : Fin 16, (x (lane l)).toNat = 16 * base + l.val) ∧ ∀ l : Fin 16, R.v (w (lane l)) = W l.val⌝
          ∗ ∀ g', ⌜∀ y, R.v (g' y) = R.v (g y) + if (y 0).val / 16 = base then W ((y 0).val % 16) else 0⌝ ∗ At c m fullShare g'
          -∗ wp frame (wpE defs 𝒱₀ c none) Set.univ (k ⟨⟩) Q)
        -∗ wp frame (wpE defs 𝒱₀ c none) Set.univ (SparseCore.vectorStoreIdx m ![x] w (fun _ => 1#1) true h hs >>= k) Q) := by
  iintro H ⟨%hxw, Hk⟩
  iapply (at_storeIdx c) $$ H
  iintro H
  iapply Hk
  isplitr
  · ipureintro; exact fun y => val_row R g x w h base hxw.1 W hxw.2 y
  iexact H

/-- A scatter whose values nothing later reads. -/
theorem at_scat_any {n : ℕ} {m : Memref sig c.2.kind .vmem ⟨1, ![n]⟩ .f32} {x : IVec S16 32} {w : Vec F S16 .f32}
    {h : ∀ a l, ((![x] : Fin 1 → IVec S16 32) a l).toNat < (⟨1, ![n]⟩ : Shape).size a} {hs : (m.access (.whole _)).Stores Finset.univ}
    {k : PUnit → Prog (TpuEff nD τ sig (Elt F) Λ c.2) α} {g : (⟨1, ![n]⟩ : Shape).Idx → Elt F .f32} :
    At c m fullShare g ⊢ iprop((∀ g', At c m fullShare g' -∗ wp frame (wpE defs 𝒱₀ c none) Set.univ (k ⟨⟩) Q)
        -∗ wp frame (wpE defs 𝒱₀ c none) Set.univ (SparseCore.vectorStoreIdx m ![x] w (fun _ => 1#1) true h hs >>= k) Q) := by
  iintro H Hk
  iapply (at_storeIdx c) $$ H
  iintro H
  iapply Hk $$ H

end Cert.Proof.Seg
-- ==== Proof.Rows.lean ====
/-
  Pieces of sixteen of a buffer, the rows of the shared tables, and what a step does to the values read.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {Λ : Labels} {defs : Defs nD τ sig (Elt F) Λ}
variable (c : Thread nD τ) {α β : Type} {Q : α → sProp (MT nD τ sig (HIx 2) (Elt F) ℕ UU ℕ)}
variable {M : Type} [AddCommMonoid M] (R : Rdg F M)

section Pieces

variable {n o : ℕ} {off : Fin 1 → ℕ} {inb : ∀ a, off a + S16.size a ≤ (⟨1, ![n]⟩ : Shape).size a}

theorem emb16 (hoff : off = ![o]) (l : Fin 16) : (((Rect.unit (s := ⟨1, ![n]⟩) off S16.size inb).emb (lane l)) 0).val = o + l.val := by
  subst hoff
  rw [unitEmb]
  rfl

/-- A store of sixteen elements, element by element. -/
theorem put16 {e : EltTy} {g g' : (⟨1, ![n]⟩ : Shape).Idx → Elt F e} {w : S16.Idx → Elt F e} (hoff : off = ![o])
    (h : (∀ x, g' ((Rect.unit (s := ⟨1, ![n]⟩) off S16.size inb).emb x) = w x)
      ∧ ∀ y, (∀ x, (Rect.unit (s := ⟨1, ![n]⟩) off S16.size inb).emb x ≠ y) → g' y = g y) (y : (⟨1, ![n]⟩ : Shape).Idx) :
    (∃ l : Fin 16, (y 0).val = o + l.val ∧ g' y = w (lane l)) ∨ (((y 0).val < o ∨ o + 16 ≤ (y 0).val) ∧ g' y = g y) := by
  by_cases hy : o ≤ (y 0).val ∧ (y 0).val < o + 16
  · left
    have hl : (y 0).val - o < 16 := by omega
    refine ⟨⟨(y 0).val - o, hl⟩, by show _ = o + ((y 0).val - o); omega, ?_⟩
    rw [← h.1]
    congr 1
    funext a
    obtain rfl := Fin.eq_zero a
    refine Fin.ext ?_
    rw [emb16 (n := n) (inb := inb) hoff]
    show _ = o + ((y 0).val - o)
    omega
  · right
    refine ⟨by omega, h.2 y fun x hx => hy ?_⟩
    have := emb16 (n := n) (inb := inb) hoff ⟨(x 0).val, (x 0).isLt⟩
    rw [← lane_surj x, hx] at this
    have hl : (x 0).val < 16 := (x 0).isLt
    omega

/-- Sixteen zeros stored. -/
theorem zero16 {g g' : (⟨1, ![n]⟩ : Shape).Idx → Elt F .f32} {w : S16.Idx → Elt F .f32} (hw : ∀ l : Fin 16, R.v (w (lane l)) = 0) {t : ℕ} (hoff : off = ![16 * t])
    (h : (∀ x, g' ((Rect.unit (s := ⟨1, ![n]⟩) off S16.size inb).emb x) = w x)
      ∧ ∀ y, (∀ x, (Rect.unit (s := ⟨1, ![n]⟩) off S16.size inb).emb x ≠ y) → g' y = g y)
    (hg : ∀ y, (y 0).val < 16 * t → R.v (g y) = 0) (y : (⟨1, ![n]⟩ : Shape).Idx) (hy : (y 0).val < 16 * (t + 1)) : R.v (g' y) = 0 := by
  rcases put16 hoff h y with ⟨l, -, e⟩ | ⟨hl, e⟩
  · rw [e, hw]
  · rw [e]; exact hg y (by omega)

/-- Sixteen elements of another buffer added. -/
theorem add16 {n' : ℕ} {off' : Fin 1 → ℕ} {inb' : ∀ a, off' a + S16.size a ≤ (⟨1, ![n']⟩ : Shape).size a}
    {g g' : (⟨1, ![n]⟩ : Shape).Idx → Elt F .f32} {k : (⟨1, ![n']⟩ : Shape).Idx → Elt F .f32} {w : S16.Idx → Elt F .f32} {A B : ℕ → M} {t m : ℕ}
    (hoff : off = ![16 * t]) (hoff' : off' = ![16 * t]) (hm : 16 * t + 16 ≤ m)
    (hw : ∀ l, w l = FloatOps.addf (F := F) (φ := .f32) (g ((Rect.unit (s := ⟨1, ![n]⟩) off S16.size inb).emb l)) (k ((Rect.unit (s := ⟨1, ![n']⟩) off' S16.size inb').emb l)))
    (h : (∀ x, g' ((Rect.unit (s := ⟨1, ![n]⟩) off S16.size inb).emb x) = w x)
      ∧ ∀ y, (∀ x, (Rect.unit (s := ⟨1, ![n]⟩) off S16.size inb).emb x ≠ y) → g' y = g y)
    (hk : ∀ y, (y 0).val < m → R.v (k y) = B (y 0).val)
    (hg : ∀ y, R.v (g y) = A (y 0).val + if (y 0).val < 16 * t then B (y 0).val else 0) (y : (⟨1, ![n]⟩ : Shape).Idx) :
    R.v (g' y) = A (y 0).val + if (y 0).val < 16 * (t + 1) then B (y 0).val else 0 := by
  rcases put16 hoff h y with ⟨l, hl, e⟩ | ⟨hl, e⟩
  · have hll := l.isLt
    have e1 := emb16 (n := n) (inb := inb) hoff l
    have e2 := emb16 (n := n') (inb := inb') hoff' l
    rw [e, hw]
    refine (R.add _ _).trans ?_
    rw [hg, hk _ (by rw [e2]; omega), e1, e2, if_neg (by omega), add_zero, hl, if_pos (by omega)]
  · rw [e, hg]
    congr 1
    by_cases hy : (y 0).val < 16 * t
    · rw [if_pos hy, if_pos (by omega)]
    · rw [if_neg hy, if_neg (by omega)]

end Pieces

/-- Sixteen ones scattered at the places the segment words and the lanes name. -/
theorem at_ones {m : Memref sig c.2.kind .vmem ⟨1, ![1280]⟩ .f32} {x : IVec S16 32} {w : Vec F S16 .f32}
    {h : ∀ a l, ((![x] : Fin 1 → IVec S16 32) a l).toNat < (⟨1, ![1280]⟩ : Shape).size a} {hs : (m.access (.whole _)).Stores Finset.univ}
    {k : PUnit → Prog (TpuEff nD τ sig (Elt F) Λ c.2) α} {g : (⟨1, ![1280]⟩ : Shape).Idx → Elt F .f32} (bt : ℕ → ℕ) (o : ℕ) :
    At c m fullShare g ⊢ iprop((⌜o % 16 = 0 ∧ (∀ l : Fin 16, (x (lane l)).toNat = bt (o + l.val) * 16 + l.val) ∧ (∀ l : Fin 16, R.v (w (lane l)) = R.one)
            ∧ ∀ y, R.v (g y) = keysAdd R.one bt o (y 0).val⌝
          ∗ ∀ g', ⌜∀ y, R.v (g' y) = keysAdd R.one bt (o + 16) (y 0).val⌝ ∗ At c m fullShare g'
          -∗ wp frame (wpE defs 𝒱₀ c none) Set.univ (k ⟨⟩) Q)
        -∗ wp frame (wpE defs 𝒱₀ c none) Set.univ (SparseCore.vectorStoreIdx m ![x] w (fun _ => 1#1) true h hs >>= k) Q) := by
  iintro H ⟨%hxw, Hk⟩
  obtain ⟨ho, hx, hw, hg⟩ := hxw
  iapply (at_storeIdx c) $$ H
  iintro H
  iapply Hk
  isplitr
  · ipureintro
    intro y
    refine (val_storeIdx R g x w h y).trans ?_
    rw [keysAdd_16 _ _ _ _ ho, hg]
    simp only [hx, hw]
  iexact H

/-- The place words of the counts table: sixteen times the segment, plus the lane. -/
theorem slot_val {v23 : IVec S16 32} (hv23 : ∀ l : Fin 16, v23 (lane l) = BitVec.ofNat 32 l.val) {x : IVec S16 32} {b : ℕ → ℕ}
    (hx : ∀ l : Fin 16, (x (lane l)).toNat = b l.val) (hb : ∀ l < 16, b l ≤ 64) (l : Fin 16) :
    ((addi (muli x (broadcast S16 16#32)) v23 : IVec S16 32) (lane l)).toNat = b l.val * 16 + l.val := by
  have hl := l.isLt
  have := hb l.val hl
  show (x (lane l) * 16#32 + v23 (lane l)).toNat = _
  rw [hv23]
  simp only [BitVec.toNat_add, BitVec.toNat_mul, BitVec.toNat_ofNat, hx]
  omega

theorem slot_lt {v23 : IVec S16 32} (hv23 : ∀ l : Fin 16, v23 (lane l) = BitVec.ofNat 32 l.val) {x : IVec S16 32} {b : ℕ → ℕ}
    (hx : ∀ l : Fin 16, (x (lane l)).toNat = b l.val) (hb : ∀ l < 16, b l ≤ 64) :
    ∀ a y, ((![(addi (muli x (broadcast S16 16#32)) v23 : IVec S16 32)] : Fin 1 → IVec S16 32) a y).toNat < (⟨1, ![1280]⟩ : Shape).size a :=
  idx_lt fun l => by rw [slot_val hv23 hx hb l]; have := l.isLt; have := hb _ this; omega

theorem head_lt {x : IVec S16 32} {b : ℕ → ℕ} (hx : ∀ l : Fin 16, (x (lane l)).toNat = b l.val) (hb : ∀ l < 16, b l ≤ 64) :
    ∀ a y, ((![(muli x (broadcast S16 16#32) : IVec S16 32)] : Fin 1 → IVec S16 32) a y).toNat < (⟨1, ![1280]⟩ : Shape).size a :=
  idx_lt fun l => by
    have := hb _ l.isLt
    show (x (lane l) * 16#32).toNat < _
    simp only [BitVec.toNat_mul, BitVec.toNat_ofNat, hx]
    omega

theorem seg_lt {x : IVec S16 32} {b : ℕ → ℕ} (hx : ∀ l : Fin 16, (x (lane l)).toNat = b l.val) (hb : ∀ l < 16, b l ≤ 64) :
    ∀ a y, ((![x] : Fin 1 → IVec S16 32) a y).toNat < (⟨1, ![128]⟩ : Shape).size a :=
  idx_lt fun l => by have := hb _ l.isLt; rw [hx]; omega

/-- Sixteen segment words as loaded. -/
theorem segs_val {gb : S20480.Idx → BitVec 32} {bt : ℕ → ℕ} (hgb : ∀ y, (gb y).toNat = bt (y 0).val) {off : Fin 1 → ℕ} {o : ℕ}
    {inb : ∀ a, off a + S16.size a ≤ S20480.size a} (hoff : off = ![o]) (l : Fin 16) :
    (gb ((Rect.unit (s := S20480) off S16.size inb).emb (lane l))).toNat = bt (o + l.val) := by
  rw [hgb]
  exact congrArg bt (emb16 (n := 20480) (inb := inb) hoff l)

/-! ## Rows of the shared tables -/

theorem at_off {sp : Space} {s : Shape} {e : EltTy} {m : Memref sig c.2.kind sp s e} {q : PosShare TreeShare} {off off' size : Fin s.rank → ℕ}
    {inb : ∀ a, off a + size a ≤ s.size a} {inb' : ∀ a, off' a + size a ≤ s.size a} {hr : ∀ a, (Rect.unit (s := s) off size inb).stride a = 1}
    {hr' : ∀ a, (Rect.unit (s := s) off' size inb').stride a = 1} (h : off = off') (g : (⟨s.rank, size⟩ : Shape).Idx → Elt F e) :
    (At c (m.slice (Rect.unit (s := s) off size inb) hr) q g : sProp 𝕄) ⊢ At c (m.slice (Rect.unit (s := s) off' size inb') hr') q g := by
  subst h
  exact .rfl

theorem srow_inb (w : Fin 16) (r : Fin 2) : ∀ a, (![2560 * w.val + 1280 * r.val] : Fin 1 → ℕ) a + S1280.size a ≤ S40960.size a := by
  intro a
  obtain rfl := Fin.eq_zero a
  have := w.isLt; have := r.isLt
  show 2560 * w.val + 1280 * r.val + 1280 ≤ 40960
  omega

theorem prow_inb (w : Fin 16) (r : Fin 2) : ∀ a, (![16384 * w.val + 8192 * r.val] : Fin 1 → ℕ) a + S8192.size a ≤ S262144.size a := by
  intro a
  obtain rfl := Fin.eq_zero a
  have := w.isLt; have := r.isLt
  show 16384 * w.val + 8192 * r.val + 8192 ≤ 262144
  omega

/-- Row `r` of tile `w` in the table of counts and sums, and in the table of row sums. -/
abbrev srow {κ : Kind} (m : Memref sig κ .shared S40960 .f32) (w : Fin 16) (r : Fin 2) : Memref sig κ .shared S1280 .f32 :=
  m.slice (Rect.unit (s := S40960) ![2560 * w.val + 1280 * r.val] S1280.size (srow_inb w r)) (fun _ => rfl)

abbrev prow {κ : Kind} (m : Memref sig κ .shared S262144 .f32) (w : Fin 16) (r : Fin 2) : Memref sig κ .shared S8192 .f32 :=
  m.slice (Rect.unit (s := S262144) ![16384 * w.val + 8192 * r.val] S8192.size (prow_inb w r)) (fun _ => rfl)

/-- Tile `w`'s two rows of the table of counts at a share, the counts read `A`. -/
def StatOf (m : Memref sig c.2.kind .shared S40960 .f32) (q : PosShare TreeShare) (w : Fin 16) (A : ℕ → M) : sProp 𝕄 :=
  iprop((∃ g, ⌜∀ y, R.v (g y) = A (y 0).val⌝ ∗ At c (srow m w 0) q g) ∗ ∃ g, At c (srow m w 1) q g)

/-- Tile `w`'s two rows of the table of row sums, the sums read `A`. -/
def PoolOf (m : Memref sig c.2.kind .shared S262144 .f32) (w : Fin 16) (A : ℕ → M) : sProp 𝕄 :=
  iprop((∃ g, ⌜∀ y, R.v (g y) = A (y 0).val⌝ ∗ At c (prow m w 0) fullShare g) ∗ ∃ g, At c (prow m w 1) fullShare g)

end Cert.Proof.Seg
-- ==== Proof.Own.lean ====
/-
  What a tile of the launch holds and hands over: the counts and the row sums each tile computes, the tiles' meetings in terms of
  them, and the pieces of the results.
-/
module

public import proofs.«01_k».proof.Proof.Rows
public import Idealize.ShloMosaic.Lib.ShareLeaves

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)

/-! ## The values -/

/-- Tile `w`'s counts table: its rows counted by segment and lane. -/
def cntT (BT : ℕ → ℕ) (w y : ℕ) : M := keysAdd R.one (fun r => BT (20480 * w + r)) 20480 y

/-- The row sums of tile `(c, w)`. -/
def accT (BT : ℕ → ℕ) (obs : ℕ → ℕ → M) (c w y : ℕ) : M :=
  rowsAdd (fun r => BT (20480 * w + (10240 * c + r))) (fun r => obs (20480 * w + 10240 * c + r)) (min 10240 (320000 - (20480 * w + 10240 * c))) y

/-- What tile `i` gives tile `j` at the first meeting: a read share of its rows of counts and sums; -/
def STt (BT : ℕ → ℕ) (m22 : Memref sig .scVector .shared S40960 .f32) (d : Dev nD) (c : Fin τ.nSC) (i j : Fin 16) : sProp 𝕄 :=
  StatOf (V d c (tl j)) R m22 (leaf 4 fullShare j) i (cntT R BT i.val)

/-- and at the second, tile `0` receives every tile's row sums. -/
def POt (BT : ℕ → ℕ) (obs : ℕ → ℕ → M) (m23 : Memref sig .scVector .shared S262144 .f32) (d : Dev nD) (c : Fin τ.nSC) (j k : Fin 16) : sProp 𝕄 :=
  if j = 0 then PoolOf (V d c (tl j)) R m23 k (accT BT obs c.val k.val) else iprop(emp)

instance (BT : ℕ → ℕ) (m22 : Memref sig .scVector .shared S40960 .f32) (d : Dev nD) (c : Fin τ.nSC) (i j : Fin 16) :
    BI.Storable (upEmb : UEmb _ 𝕄) (STt R BT m22 d c i j) := by
  unfold STt StatOf At; infer_instance

instance (BT : ℕ → ℕ) (obs : ℕ → ℕ → M) (m23 : Memref sig .scVector .shared S262144 .f32) (d : Dev nD) (c : Fin τ.nSC) (j k : Fin 16) :
    BI.Storable (upEmb : UEmb _ 𝕄) (POt R BT obs m23 d c j k) := by
  unfold POt
  split
  · unfold PoolOf At; infer_instance
  · infer_instance

/-! ## Pieces of the results -/

theorem seg20_inb (w : Fin 16) : ∀ a, (![20480 * w.val] : Fin 1 → ℕ) a + S20480.size a ≤ S327680.size a := by
  intro a
  obtain rfl := Fin.eq_zero a
  have := w.isLt
  show 20480 * w.val + 20480 ≤ 327680
  omega

theorem half_inb (c : Fin 2) : ∀ a, (![8192 * c.val] : Fin 1 → ℕ) a + S8192.size a ≤ S16384.size a := by
  intro a
  obtain rfl := Fin.eq_zero a
  have := c.isLt
  show 8192 * c.val + 8192 ≤ 16384
  omega

abbrev seg20 {κ : Kind} (m : Memref sig κ .hbm S327680 .f32) (w : Fin 16) : Memref sig κ .hbm S20480 .f32 :=
  m.slice (Rect.unit (s := S327680) ![20480 * w.val] S20480.size (seg20_inb w)) (fun _ => rfl)

abbrev half {κ : Kind} (m : Memref sig κ .hbm S16384 .f32) (c : Fin 2) : Memref sig κ .hbm S8192 .f32 :=
  m.slice (Rect.unit (s := S16384) ![8192 * c.val] S8192.size (half_inb c)) (fun _ => rfl)

/-! ## The kernel's tests of which tile it runs on -/

theorem cond1_iff : ∀ i : grid0.Coords, k0_cond1 i = 1#1 ↔ (i 0).val = 0 := by decide +kernel
theorem cond2_iff : ∀ i : grid0.Coords, k0_cond2 i = 1#1 ↔ ¬ (i 0).val = 0 := by decide +kernel
theorem cond3_iff : ∀ i : grid0.Coords, k0_cond3 i = 1#1 ↔ (i 0).val = 0 := by decide +kernel
theorem cond4_iff : ∀ i : grid0.Coords, k0_cond4 i = 1#1 ↔ ¬ (i 0).val = 0 := by decide +kernel
theorem cond14_iff : ∀ i : grid0.Coords, k0_cond14 i = 1#1 ↔ (i 0).val = 0 := by decide +kernel
theorem cond15_iff : ∀ i : grid0.Coords, k0_cond15 i = 1#1 ↔ (i 1).val = 0 := by decide +kernel
theorem cond13_iff : ∀ i : grid0.Coords, Scalar.cmpi .ne (Scalar.extui (Scalar.andi (Scalar.cmpi .eq (BitVec.ofNat 32 (i 0).val) 0#32) (Scalar.cmpi .eq (BitVec.ofNat 32 (i 1).val) 0#32)) : BitVec 32) 0#32 = 1#1
    ↔ (i 0).val = 0 ∧ (i 1).val = 0 := by decide +kernel

/-! ## The meetings -/

variable (d : Dev nD) (i : grid0.Coords) {Q : PUnit → sProp (MT nD τ sig (HIx 2) (Elt F) ℕ UU ℕ)}

/-- The core a tile is on. -/
abbrev cr : Fin τ.nSC := (i 0).castLE hcore0

theorem ow_add {c : Thread nD τ} {O : CellTallies nD τ sig (HIx 2)} {W W' : Waits sig (HIx 2)} {p : SemLoc sig} {j : Fin 2}
    (h : ∀ p ∈ W', p ∈ W ∨ p.2 = none ∨ ∃ j, p.2 = some j) : (owes c O (insert (p, some j) W') : sProp 𝕄) ⊢ Ow (F := F) c O W := by
  unfold Ow
  iintro H
  iexists insert (p, some j) W'
  isplitr
  · ipureintro
    intro x hx
    rcases Finset.mem_insert.mp hx with rfl | hx
    · exact .inr (.inr ⟨j, rfl⟩)
    · exact h x hx
  iexact H

theorem ow_add' {c : Thread nD τ} {O : CellTallies nD τ sig (HIx 2)} {W W' : Waits sig (HIx 2)} {p : SemLoc sig} {j : Fin 2}
    (h : ∀ p ∈ W', p ∈ W ∨ p.2 = none ∨ ∃ j, p.2 = some j) : (owes c O (insert (p, some j) W') : sProp 𝕄)
      ⊢ iprop(∃ W', ⌜∀ p ∈ W', p ∈ W ∨ p.2 = none ∨ ∃ j, p.2 = some j⌝ ∗ owes c O W') := ow_add (F := F) h

variable (ST PO : Dev nD → Fin τ.nSC → Fin 16 → Fin 16 → sProp (MT nD τ sig (HIx 2) (Elt F) ℕ UU ℕ))
  [∀ d c i j, BI.Storable (upEmb : UEmb _ (MT nD τ sig (HIx 2) (Elt F) ℕ UU ℕ)) (ST d c i j)]
  [∀ d c i j, BI.Storable (upEmb : UEmb _ (MT nD τ sig (HIx 2) (Elt F) ℕ UU ℕ)) (PO d c i j)]

/-- What the first meeting uses, -/
def Kit1 (κ κ' : GSem nD τ sig → ℕ) (O : CellTallies nD τ sig (HIx 2)) : sProp 𝕄 :=
  iprop((bigSep Finset.univ fun j : Fin 16 => cellInv EB (bRd PO) (κ (bcell d (cr i) j)) (bcell d (cr i) j))
    ∗ (bigSep Finset.univ fun j : Fin 16 => inv (κ' (vcell d (cr i) j)) (escBody ST d (cr i) j))
    ∗ (bigSep Finset.univ fun j : Fin 16 => dutyTok EB (bcell d (cr i) j) 0 (i 1).val)
    ∗ (bigSep Finset.univ fun j : Fin 16 => dutyTok EB (bcell d (cr i) (i 1)) 1 j.val)
    ∗ (bigSep Finset.univ fun j : Fin 16 => reached EB (bcell d (cr i) j) 0)
    ∗ atPos EB (bcell d (cr i) (i 1)) 0 ∅ 0
    ∗ atPos EB (vcell d (cr i) (i 1)) 0 ∅ 0
    ∗ cred (tallyAt (bcell d (cr i) (i 1)) (some 0) 16)
    ∗ MayWait (thr d i) (.reg sc_bar0) (some 0) (O + oxP d (cr i) (some 1)))

/-- what it leaves, -/
def Met : sProp 𝕄 :=
  iprop(∃ S : Finset ℕ, atPos EB (bcell d (cr i) (i 1)) 0 S 16 ∗ (bigSep S fun n => bGive PO d (cr i) (i 1) n) ∗ ⌜S ⊆ Finset.range 32⌝ ∗ deps d (cr i))

/-- and what the second uses besides. -/
def Kit2 (κ : GSem nD τ sig → ℕ) (O : CellTallies nD τ sig (HIx 2)) : sProp 𝕄 :=
  iprop((bigSep Finset.univ fun j : Fin 16 => cellInv EB (bRd PO) (κ (bcell d (cr i) j)) (bcell d (cr i) j))
    ∗ (bigSep Finset.univ fun j : Fin 16 => dutyTok EB (bcell d (cr i) j) 0 (16 + (i 1).val))
    ∗ (bigSep Finset.univ fun j : Fin 16 => reached EB (bcell d (cr i) j) 0)
    ∗ cred (tallyAt (bcell d (cr i) (i 1)) (some 1) 16)
    ∗ MayWait (thr d i) (.reg sc_bar0) (some 1) O)

theorem meet1 (κ κ' : GSem nD τ sig → ℕ) (O : CellTallies nD τ sig (HIx 2)) (W : Waits sig (HIx 2))
    {k : PUnit → Prog (TpuEff nD τ sig (Elt F) Λ₀ (thr d i).2) PUnit} :
    iprop(Kit1 d i ST PO κ κ' O ∗ Ow (F := F) (thr d i) (O + oxP d (cr i) (some 1) + oxP d (cr i) (some 0)) W ∗ bigSep Finset.univ fun j : Fin 16 => ST d (cr i) (i 1) j)
      ⊢ iprop((iprop(Met d i PO ∗ Ow (F := F) (thr d i) (O + oxP d (cr i) (some 1)) W ∗ bigSep Finset.univ fun j : Fin 16 => ST d (cr i) j (i 1))
          -∗ wp frame (wpE (defs₀ (F := F)) 𝒱₀ (thr d i) none) Set.univ (k ⟨⟩) Q)
        -∗ wp frame (wpE (defs₀ (F := F)) 𝒱₀ (thr d i) none) Set.univ (SparseCore.subcoreBarrier sc_bar0 (grid0.bound 1) hsub0 >>= k) Q) := by
  have h := fun W' => barrier1 ST PO d (c := cr i) (i 1) κ κ' (O + oxP d (cr i) (some 1)) W' k Q
  unfold Kit1 Met
  rw [show Ow (F := F) (thr d i) (O + oxP d (cr i) (some 1) + oxP d (cr i) (some 0)) W = _ from rfl]
  unfold Ow
  iintro ⟨⟨H1, H2, H3, H4, H5, H6, H7, H8, H9⟩, ⟨%W', %hW, HO⟩, Hst⟩ Hk
  iapply (h W') $$ [H1 H2 H3 H4 H5 H6 H7 H8 H9 HO Hst]
  · isplitl [H1]; · iexact H1
    isplitl [H2]; · iexact H2
    isplitl [HO]; · iexact HO
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hst
  iintro %S ⟨HO, Hat, Hg, HS, Hd, Hst⟩
  iapply Hk
  isplitl [Hat Hg HS Hd]
  · iexists S
    isplitl [Hat]; · iexact Hat
    isplitl [Hg]; · iexact Hg
    isplitl [HS]; · iexact HS
    iexact Hd
  isplitl [HO]
  · iapply (show (owes (V d (cr i) (tl (i 1))) (O + oxP d (cr i) (some 1)) (insert (SemLoc.reg sc_bar0, some 0) W') : sProp 𝕄)
        ⊢ iprop(∃ W', ⌜∀ p ∈ W', p ∈ W ∨ p.2 = none ∨ ∃ j, p.2 = some j⌝ ∗ owes (thr d i) (O + oxP d (cr i) (some 1)) W') from ow_add' (F := F) (c := thr d i) hW) $$ HO
  iexact Hst

theorem meet2 (κ : GSem nD τ sig → ℕ) (O : CellTallies nD τ sig (HIx 2)) (W : Waits sig (HIx 2))
    {k : PUnit → Prog (TpuEff nD τ sig (Elt F) Λ₀ (thr d i).2) PUnit} :
    iprop(Kit2 d i PO κ O ∗ Met d i PO ∗ Ow (F := F) (thr d i) (O + oxP d (cr i) (some 1)) W ∗ bigSep Finset.univ fun j : Fin 16 => PO d (cr i) j (i 1))
      ⊢ iprop((iprop(Ow (F := F) (thr d i) O W ∗ semVal (bcell d (cr i) (i 1)) 0 ∗ bigSep Finset.univ fun j : Fin 16 => PO d (cr i) (i 1) j)
          -∗ wp frame (wpE (defs₀ (F := F)) 𝒱₀ (thr d i) none) Set.univ (k ⟨⟩) Q)
        -∗ wp frame (wpE (defs₀ (F := F)) 𝒱₀ (thr d i) none) Set.univ (SparseCore.subcoreBarrier sc_bar0 (grid0.bound 1) hsub0 >>= k) Q) := by
  have h := fun S W' => barrier2 PO d (c := cr i) (i 1) κ S O W' k Q
  unfold Kit2 Met
  rw [show Ow (F := F) (thr d i) (O + oxP d (cr i) (some 1)) W = _ from rfl]
  unfold Ow
  iintro ⟨⟨H1, H2, H3, H4, H5⟩, ⟨%S, Hat, Hg, HS, Hd⟩, ⟨%W', %hW, HO⟩, Hpo⟩ Hk
  iapply (h S W') $$ [H1 H2 H3 H4 H5 HO Hat Hg HS Hd Hpo]
  · isplitl [H1]; · iexact H1
    isplitl [HO]; · iexact HO
    isplitl [H2]; · iexact H2
    isplitl [H3]; · iexact H3
    isplitl [Hat]; · iexact Hat
    isplitl [Hg]; · iexact Hg
    isplitl [HS]; · iexact HS
    isplitl [Hd]; · iexact Hd
    isplitl [H4]; · iexact H4
    isplitl [H5]; · iexact H5
    iexact Hpo
  iintro ⟨HO, Hs, Hpo⟩
  iapply Hk
  isplitl [HO]
  · iapply (show (owes (V d (cr i) (tl (i 1))) O (insert (SemLoc.reg sc_bar0, some 1) W') : sProp 𝕄)
        ⊢ iprop(∃ W', ⌜∀ p ∈ W', p ∈ W ∨ p.2 = none ∨ ∃ j, p.2 = some j⌝ ∗ owes (thr d i) O W') from ow_add' (F := F) (c := thr d i) hW) $$ HO
  isplitl [Hs]; · iexact Hs
  iexact Hpo

end Cert.Proof.Seg
-- ==== Proof.Ahead.lean ====
/-
  The blocks of rows on their way, and the numbers of one turn of the row loop.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)

/-! ## Numbers -/

theorem bcast_val (w : BitVec 32) (p : ℕ) (hw : w.toNat = p) (l : Fin 16) :
    ((addi (broadcast S16 0#32) (broadcast S16 w) : IVec S16 32) (lane l)).toNat = p := by
  show (0#32 + w).toNat = _
  rw [BitVec.zero_add, hw]

theorem bcast_lt (w : BitVec 32) (p : ℕ) (hw : w.toNat = p) (hp : p < 20480) :
    ∀ a y, ((![(addi (broadcast S16 0#32) (broadcast S16 w) : IVec S16 32)] : Fin 1 → IVec S16 32) a y).toNat < (⟨1, ![20480]⟩ : Shape).size a :=
  idx_lt fun l => by rw [bcast_val w p hw l]; exact hp

/-- The greatest of sixteen equal words. -/
theorem ends_val {x : IVec S16 32} {b : ℕ} (hx : ∀ l : Fin 16, (x (lane l)).toNat = b) (h : ∀ a, (![15] : Fin 1 → ℕ) a < S16.size a) :
    (extractAt ![15] (xori (scan .max (xori x (broadcast S16 2147483648#32))) (broadcast S16 2147483648#32) : IVec S16 32) h : BitVec 32).toNat = b := by
  have e : ∀ y : S16.Idx, (xori x (broadcast S16 2147483648#32) : IVec S16 32) y = BitVec.ofNat 32 b ^^^ 2147483648#32 := by
    intro y
    have h1 : x y = BitVec.ofNat 32 b := by
      rw [lane_surj y]
      apply BitVec.eq_of_toNat_eq
      rw [hx, BitVec.toNat_ofNat, Nat.mod_eq_of_lt]
      rw [← hx ⟨(y 0).val, (y 0).isLt⟩]; exact (x _).isLt
    show x y ^^^ 2147483648#32 = _
    rw [h1]
  have hl := hx 0
  show ((scan .max (xori x (broadcast S16 2147483648#32)) _ : BitVec 32) ^^^ 2147483648#32).toNat = b
  rw [scan_const _ _ e, BitVec.xor_assoc, BitVec.xor_self, BitVec.xor_zero, BitVec.toNat_ofNat, Nat.mod_eq_of_lt]
  rw [← hl]; exact (x _).isLt

theorem cond5_eq (v w : BitVec 32) (h : k0_cond5 v w = 1#1) : v = w := by
  by_contra e
  have e' : (v == w) = false := beq_eq_false_iff_ne.mpr e
  revert h
  simp [k0_cond5, Scalar.cmpi, Scalar.extui, IntOp.cmpi, e']

theorem cond7_eq (v w : BitVec 32) (h : k0_cond7 v w = 1#1) : v = w := by
  by_contra e
  have e' : (v == w) = false := beq_eq_false_iff_ne.mpr e
  revert h
  simp [k0_cond7, Scalar.cmpi, Scalar.extui, IntOp.cmpi, e']

theorem more6 : ∀ (i : grid0.Coords) (t : Fin (k0_t12_loop i).trips), k0_cond6 i t = 1#1 ↔ t.val + 1 < (k0_t12_loop i).trips := by decide +kernel
theorem more8 : ∀ (i : grid0.Coords) (t : Fin (k0_t12_loop i).trips), k0_cond8 i t = 1#1 ↔ t.val + 1 < (k0_t12_loop i).trips := by decide +kernel
theorem rows12 : ∀ i : grid0.Coords, 0 < (k0_t12_loop i).trips ∧ 160 * (k0_t12_loop i).trips = min 10240 (320000 - (20480 * (i 1).val + 10240 * (i 0).val)) := by decide +kernel

/-- Where in the batch buffer the first block of turn `t` begins, -/
theorem off0_val (a t : ℕ) (ha : a < 2) (ht : t < 64) :
    (Scalar.addi (Scalar.muli (BitVec.ofNat 32 a) 10240#32) (Scalar.muli (Scalar.addi (Scalar.muli (Scf.iv 0#32 1#32 t) 2#32) 0#32) 80#32)).toNat = 10240 * a + 160 * t := by
  show (BitVec.ofNat 32 a * 10240#32 + (Scf.iv 0#32 1#32 t * 2#32 + 0#32) * 80#32).toNat = _
  simp only [BitVec.toNat_add, BitVec.toNat_mul, iv_toNat t (by omega), BitVec.toNat_ofNat]
  omega

/-- and the second. -/
theorem off1_val (a t : ℕ) (ha : a < 2) (ht : t < 64) :
    (Scalar.addi (Scalar.muli (BitVec.ofNat 32 a) 10240#32) (Scalar.muli (Scalar.addi (Scalar.muli (Scf.iv 0#32 1#32 t) 2#32) 1#32) 80#32)).toNat = 10240 * a + 160 * t + 80 := by
  show (BitVec.ofNat 32 a * 10240#32 + (Scf.iv 0#32 1#32 t * 2#32 + 1#32) * 80#32).toNat = _
  simp only [BitVec.toNat_add, BitVec.toNat_mul, iv_toNat t (by omega), BitVec.toNat_ofNat]
  omega

theorem last_val {w : BitVec 32} {p : ℕ} (hw : w.toNat = p) (hp : p < 20480) : (Scalar.subi (Scalar.addi w 80#32) 1#32).toNat = p + 79 := by
  show (w + 80#32 - 1#32).toNat = _
  simp only [BitVec.toNat_sub, BitVec.toNat_add, hw, BitVec.toNat_ofNat]
  omega

theorem rowsAdd_step (bt : ℕ → ℕ) (obs : ℕ → ℕ → M) (a p n m y : ℕ) :
    rowsAdd (fun r => bt (a + r)) (fun r => obs (p + r)) (n + m) y
      = rowsAdd (fun r => bt (a + r)) (fun r => obs (p + r)) n y + rowsAdd (fun r => bt (a + n + r)) (fun r => obs (p + n + r)) m y := by
  rw [rowsAdd_add]
  simp only [Nat.add_assoc]

/-! ## Blocks on their way -/

section Blocks

variable {Λ : Labels} {defs : Defs nD τ sig (Elt F) Λ} (c : Thread nD τ) {α : Type}
variable {Q : α → sProp (MT nD τ sig (HIx 2) (Elt F) ℕ UU ℕ)}

theorem if_yes {A : Prop} [Decidable A] {t : A → Prog (TpuEff nD τ sig (Elt F) Λ c.2) α} {e : ¬ A → Prog (TpuEff nD τ sig (Elt F) Λ c.2) α} (h : A) :
    (wp frame (wpE defs 𝒱₀ c none) Set.univ (t h) Q : sProp 𝕄) ⊢ wp frame (wpE defs 𝒱₀ c none) Set.univ (dite A t e) Q := by
  rw [dif_pos h]

theorem if_no {A : Prop} [Decidable A] {t : A → Prog (TpuEff nD τ sig (Elt F) Λ c.2) α} {e : ¬ A → Prog (TpuEff nD τ sig (Elt F) Λ c.2) α} (h : ¬ A) :
    (wp frame (wpE defs 𝒱₀ c none) Set.univ (e h) Q : sProp 𝕄) ⊢ wp frame (wpE defs 𝒱₀ c none) Set.univ (dite A t e) Q := by
  rw [dif_neg h]

/-- A copy into `buf` under way, which hands over `P` when it is waited for. -/
def Coming {sp : Space} {s : Shape} {e : EltTy} (buf : Memref sig c.2.kind sp s e) (sem : DmaSem sig) (P : sProp 𝕄) : sProp 𝕄 :=
  iprop(∃ D : sProp 𝕄, Transfers.Flight (EC (F := F)) c (.dma sem) (none : HIx 2) (buf.view.amount (.dma sem)) D ∗ (D -∗ P))

/-- The block of rows from `n` on, in `buf`. -/
def Chunk (buf : Memref sig c.2.kind .vmem S80x128 .f32) (m4 : Memref sig c.2.kind .hbm S320000x128 .f32) (q : PosShare TreeShare)
    (OB : S320000x128.Idx → Elt F .f32) (obs : ℕ → ℕ → M) (n : ℕ) : sProp 𝕄 :=
  iprop((∃ g, ⌜∀ y, R.v (g y) = obs (n + (y 0).val) (y 1).val⌝ ∗ At c buf fullShare g) ∗ At c m4 q OB)

/-- The buffer free, its semaphore drained. -/
def Idle (buf : Memref sig c.2.kind .vmem S80x128 .f32) (sem : DmaSem sig) (m4 : Memref sig c.2.kind .hbm S320000x128 .f32) (q : PosShare TreeShare)
    (OB : S320000x128.Idx → Elt F .f32) : sProp 𝕄 :=
  iprop((∃ g, At c buf fullShare g) ∗ At c m4 q OB ∗ semVal (c, .dma sem) 0)

theorem issue {buf : Memref sig c.2.kind .vmem S80x128 .f32} {m4 : Memref sig c.2.kind .hbm S320000x128 .f32} {sem : DmaSem sig} {q : PosShare TreeShare}
    {OB : S320000x128.Idx → Elt F .f32} {obs : ℕ → ℕ → M} (hOB : ∀ y, R.v (OB y) = obs (y 0).val (y 1).val) (n : ℕ) {off : Fin 2 → ℕ}
    {inb : ∀ a, off a + S80x128.size a ≤ S320000x128.size a} (hoff : off = ![n, 0]) {hr}
    {hsrc : (m4.slice (Rect.unit (s := S320000x128) off S80x128.size inb) hr).view.WordExact} {hdst : buf.view.WordExact} {hsem : DmaTarget.Typed (nD := nD) .hbm (.dma sem) (.here buf)}
    {k : PUnit → Prog (TpuEff nD τ sig (Elt F) Λ c.2) α} :
    Idle (F := F) c buf sem m4 q OB ⊢ iprop((Coming (F := F) c buf sem (Chunk R c buf m4 q OB obs n) -∗ wp frame (wpE defs 𝒱₀ c none) Set.univ (k ⟨⟩) Q)
      -∗ wp frame (wpE defs 𝒱₀ c none) Set.univ (Prog.lift (.enqueueDma (m4.slice (Rect.unit (s := S320000x128) off S80x128.size inb) hr) (.here buf) (.dma sem) hsrc hdst hsem) >>= k) Q) := by
  unfold Idle
  iintro ⟨⟨%g, Hb⟩, H4, Hs⟩ Hk
  ihave H4 := (at_slice_read c (Rect.unit (s := S320000x128) off S80x128.size inb) hr) $$ H4
  icases H4 with ⟨H4, Hrest⟩
  iapply (at_enqueue c (View.amount_pos _ _ (show 0 < S80x128.numel by decide))) $$ [Hb H4 Hs]
  · isplitl [H4]; · iexact H4
    isplitl [Hb]; · iexact Hb
    iexact Hs
  iintro HF
  iapply Hk
  unfold Coming
  iexists _
  isplitl [HF]; · iexact HF
  iintro ⟨Hb, H4⟩
  unfold Chunk
  isplitl [Hb]
  · iexists _
    isplitr
    swap
    · iexact Hb
    ipureintro
    intro y
    rw [hOB, unitEmb, unitEmb]
    subst hoff
    show obs (n + (y 0).val) (0 + (y 1).val) = _
    rw [Nat.zero_add]
  iapply Hrest $$ H4

theorem await {sp sp' : Space} {s s' : Shape} {e e' : EltTy} {sem : DmaSem sig} {srcw : Memref sig c.2.kind sp' s' e'} {buf : Memref sig c.2.kind sp s e}
    {hsrc : srcw.view.WordExact} {hdst : buf.view.WordExact}
    {k : PUnit → Prog (TpuEff nD τ sig (Elt F) Λ c.2) α} {P : sProp 𝕄} {O : CellTallies nD τ sig (HIx 2)} {W : Waits sig (HIx 2)} :
    iprop(Coming (F := F) c buf sem P ∗ Ow (F := F) c O W ∗ Transfers.MayWaits c (none : HIx 2) O)
      ⊢ iprop((iprop(P ∗ semVal (c, .dma sem) 0 ∗ Ow (F := F) c O W) -∗ wp frame (wpE defs 𝒱₀ c none) Set.univ (k ⟨⟩) Q)
        -∗ wp frame (wpE defs 𝒱₀ c none) Set.univ (Prog.lift (.waitDma2 sem srcw buf hsrc hdst) >>= k) Q) := by
  unfold Coming
  iintro ⟨⟨%D, HF, HD⟩, HO, Hm⟩ Hk
  iapply (at_wait c rfl) $$ [HF HO Hm]
  · isplitl [HF]; · iexact HF
    isplitl [HO]; · iexact HO
    iexact Hm
  iintro ⟨H, Hs, HO⟩
  iapply Hk
  isplitl [H HD]; · iapply HD $$ H
  isplitl [Hs]; · iexact Hs
  iexact HO

end Blocks

end Cert.Proof.Seg
-- ==== Proof.Loops.lean ====
/-
  The small loops of a tile: clearing, counting, adding and scaling.
-/
module

public import proofs.«01_k».proof.Proof.Rows

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem rest16 {e : EltTy} {g g' : S20480.Idx → Elt F e} {CS : ℕ → Elt F e} {o : ℕ} {off : Fin 1 → ℕ} {inb : ∀ a, off a + S16.size a ≤ S20480.size a} {w : S16.Idx → Elt F e}
    (hoff : off = ![o]) (h : (∀ x, g' ((Rect.unit (s := S20480) off S16.size inb).emb x) = w x)
      ∧ ∀ y, (∀ x, (Rect.unit (s := S20480) off S16.size inb).emb x ≠ y) → g' y = g y)
    (hg : ∀ y, o ≤ (y 0).val → g y = CS (y 0).val) (y : S20480.Idx) (hy : o + 16 ≤ (y 0).val) : g' y = CS (y 0).val := by
  rcases put16 (n := 20480) hoff h y with ⟨l, hl, e⟩ | ⟨hl, e⟩
  · have := l.isLt; omega
  · rw [e]; exact hg y (by omega)

/-- Sixteen priorities stored. -/
theorem pri16 {gb : S20480.Idx → BitVec 32} {bt : ℕ → ℕ} (hgb : ∀ y, (gb y).toNat = bt (y 0).val) {gu : S128.Idx → Elt F .f32} {CS UN : ℕ → Elt F .f32}
    (hgu : ∀ y, gu y = UN (y 0).val) {g p p' : S20480.Idx → Elt F .f32} {o : ℕ} {off off' : Fin 1 → ℕ} {inb : ∀ a, off a + S16.size a ≤ S20480.size a}
    {inb' : ∀ a, off' a + S16.size a ≤ S20480.size a} {w : S16.Idx → Elt F .f32} (hoff : off = ![o]) (hoff' : off' = ![o])
    (h : (∀ x, p' ((Rect.unit (s := S20480) off S16.size inb).emb x) = w x)
      ∧ ∀ y, (∀ x, (Rect.unit (s := S20480) off S16.size inb).emb x ≠ y) → p' y = p y)
    {hi : ∀ a x, ((![fun x => gb ((Rect.unit (s := S20480) off' S16.size inb').emb x)] : Fin 1 → IVec S16 32) a x).toNat < S128.size a}
    (hw : ∀ l, w l = FloatOps.addf (F := F) (φ := .f32) (g ((Rect.unit (s := S20480) off' S16.size inb').emb l))
      ((loadIdx (F := F) (e := .f32) gu ![fun x => gb ((Rect.unit (s := S20480) off' S16.size inb').emb x)] hi : Vec F S16 .f32) l))
    (hg : ∀ y, o ≤ (y 0).val → g y = CS (y 0).val)
    (hp : ∀ y, (y 0).val < o → p y = FloatOps.addf (F := F) (φ := .f32) (CS (y 0).val) (UN (bt (y 0).val))) (y : S20480.Idx) (hy : (y 0).val < o + 16) :
    p' y = FloatOps.addf (F := F) (φ := .f32) (CS (y 0).val) (UN (bt (y 0).val)) := by
  rcases put16 (n := 20480) hoff h y with ⟨l, hl, e⟩ | ⟨hl, e⟩
  · have e2 := emb16 (n := 20480) (inb := inb') hoff' l
    rw [e, hw, hg _ (by rw [e2]; omega), e2, hl]
    congr 1
    refine (hgu _).trans ?_
    show UN (gb _).toNat = _
    rw [segs_val hgb hoff' l]
  · rw [e]; exact hp y (by omega)

/-- Zeros over the tables of counts and sums. -/
theorem zero1 (arg0 : BitVec 32) (arg1 : BitVec 32) (v23 : IVec S16 32) (v24 : FVec F S16 .f32) {v25 : FVec F S16 .f32} (hv25 : ∀ l : Fin 16, R.v (v25 (lane l)) = 0) (t : Fin k0_t1_loop.trips) (a : BitVec 32) :
    iprop((∃ g, ⌜∀ y, (y 0).val < 16 * t.val → R.v (g y) = 0⌝ ∗ At (thr d i) arg15 fullShare g) ∗ (∃ g, At (thr d i) arg16 fullShare g))
      ⊢ wp frame (wpE df 𝒱₀ (thr d i) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 t a) (fun _ =>
        iprop((∃ g, ⌜∀ y, (y 0).val < 16 * (t.val + 1) → R.v (g y) = 0⌝ ∗ At (thr d i) arg15 fullShare g) ∗ (∃ g, At (thr d i) arg16 fullShare g))) := by
  unfold k0_t1_body
  iintro ⟨⟨%g, %e, H15⟩, %z, H16⟩
  iapply (at_load _) $$ H15
  iintro H15
  iapply (at_store _) $$ H15
  iintro %g' ⟨%e', H15⟩
  iapply (at_load _) $$ H16
  iintro H16
  iapply (at_store _) $$ H16
  iintro %z' ⟨%e2, H16⟩
  iapply (fin_pure _)
  isplitl [H15]
  · iexists g'
    isplitr
    · ipureintro; exact zero16 R hv25 (k0_off4_eq t) e' e
    iexact H15
  iexists z'
  iexact H16

/-- Zeros over the tables of counts and sums, again. -/
theorem zero4 (arg0 : BitVec 32) (arg1 : BitVec 32) (v23 : IVec S16 32) (v24 : FVec F S16 .f32) {v25 : FVec F S16 .f32} (hv25 : ∀ l : Fin 16, R.v (v25 (lane l)) = 0) (t : Fin k0_t4_loop.trips) (a : BitVec 32) :
    iprop((∃ g, ⌜∀ y, (y 0).val < 16 * t.val → R.v (g y) = 0⌝ ∗ At (thr d i) arg15 fullShare g) ∗ (∃ g, At (thr d i) arg16 fullShare g))
      ⊢ wp frame (wpE df 𝒱₀ (thr d i) none) Set.univ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 t a) (fun _ =>
        iprop((∃ g, ⌜∀ y, (y 0).val < 16 * (t.val + 1) → R.v (g y) = 0⌝ ∗ At (thr d i) arg15 fullShare g) ∗ (∃ g, At (thr d i) arg16 fullShare g))) := by
  unfold k0_t4_body
  iintro ⟨⟨%g, %e, H15⟩, %z, H16⟩
  iapply (at_load _) $$ H15
  iintro H15
  iapply (at_store _) $$ H15
  iintro %g' ⟨%e', H15⟩
  iapply (at_load _) $$ H16
  iintro H16
  iapply (at_store _) $$ H16
  iintro %z' ⟨%e2, H16⟩
  iapply (fin_pure _)
  isplitl [H15]
  · iexists g'
    isplitr
    · ipureintro; exact zero16 R hv25 (k0_off12_eq t) e' e
    iexact H15
  iexists z'
  iexact H16

/-- Zeros over the tables of row sums. -/
theorem zero11 (arg0 : BitVec 32) (v22 : BitVec 32) (v24 : FVec F S16 .f32) {v25 : FVec F S16 .f32} (hv25 : ∀ l : Fin 16, R.v (v25 (lane l)) = 0) (t : Fin k0_t11_loop.trips) (a : BitVec 32) :
    iprop((∃ g, ⌜∀ y, (y 0).val < 16 * t.val → R.v (g y) = 0⌝ ∗ At (thr d i) arg18 fullShare g) ∗ (∃ g, At (thr d i) arg19 fullShare g))
      ⊢ wp frame (wpE df 𝒱₀ (thr d i) none) Set.univ (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ =>
        iprop((∃ g, ⌜∀ y, (y 0).val < 16 * (t.val + 1) → R.v (g y) = 0⌝ ∗ At (thr d i) arg18 fullShare g) ∗ (∃ g, At (thr d i) arg19 fullShare g))) := by
  unfold k0_t11_body
  iintro ⟨⟨%g, %e, H18⟩, %z, H19⟩
  iapply (at_load _) $$ H18
  iintro H18
  iapply (at_store _) $$ H18
  iintro %g' ⟨%e', H18⟩
  iapply (at_load _) $$ H19
  iintro H19
  iapply (at_store _) $$ H19
  iintro %z' ⟨%e2, H19⟩
  iapply (fin_pure _)
  isplitl [H18]
  · iexists g'
    isplitr
    · ipureintro; exact zero16 R hv25 (k0_off23_eq t) e' e
    iexact H18
  iexists z'
  iexact H19

/-- A row of counts added. -/
theorem add6 (arg0 : BitVec 32) (v22 : BitVec 32) (v24 : FVec F S16 .f32) (v25 : FVec F S16 .f32) {k : S1280.Idx → Elt F .f32} {A B : ℕ → M} (hk : ∀ y, R.v (k y) = B (y 0).val) (t : Fin k0_t6_loop.trips) (a : BitVec 32) :
    iprop(At (thr d i) arg17 fullShare k ∗ (∃ g, ⌜∀ y, R.v (g y) = A (y 0).val + if (y 0).val < 16 * t.val then B (y 0).val else 0⌝ ∗ At (thr d i) arg15 fullShare g))
      ⊢ wp frame (wpE df 𝒱₀ (thr d i) none) Set.univ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ =>
        iprop(At (thr d i) arg17 fullShare k ∗ (∃ g, ⌜∀ y, R.v (g y) = A (y 0).val + if (y 0).val < 16 * (t.val + 1) then B (y 0).val else 0⌝ ∗ At (thr d i) arg15 fullShare g))) := by
  unfold k0_t6_body
  have ht : t.val < 80 := lt_of_lt_of_eq t.isLt (by decide)
  iintro ⟨H17, %g, %e, H15⟩
  iapply (at_load _) $$ H15
  iintro H15
  iapply (at_load _) $$ H17
  iintro H17
  iapply (at_load _) $$ H15
  iintro H15
  iapply (at_store _) $$ H15
  iintro %g' ⟨%e', H15⟩
  iapply (fin_pure _)
  isplitl [H17]; · iexact H17
  iexists g'
  isplitr
  · ipureintro; exact add16 R (m := 1280) (k0_off14_eq t) (k0_off14_eq t) (by omega) (fun _ => rfl) e' (fun y _ => hk y) e
  iexact H15

/-- A row of sums added. -/
theorem add7 (arg0 : BitVec 32) (v22 : BitVec 32) (v24 : FVec F S16 .f32) (v25 : FVec F S16 .f32) {k : S1280.Idx → Elt F .f32} (t : Fin k0_t7_loop.trips) (a : BitVec 32) :
    iprop(At (thr d i) arg17 fullShare k ∗ (∃ g, At (thr d i) arg16 fullShare g))
      ⊢ wp frame (wpE df 𝒱₀ (thr d i) none) Set.univ (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ =>
        iprop(At (thr d i) arg17 fullShare k ∗ (∃ g, At (thr d i) arg16 fullShare g))) := by
  unfold k0_t7_body
  iintro ⟨H17, %g, H16⟩
  iapply (at_load _) $$ H16
  iintro H16
  iapply (at_load _) $$ H17
  iintro H17
  iapply (at_load _) $$ H16
  iintro H16
  iapply (at_store _) $$ H16
  iintro %g' ⟨%e', H16⟩
  iapply (fin_pure _)
  isplitl [H17]; · iexact H17
  iexists g'
  iexact H16

/-- Each segment's sum spread over its lanes. -/
theorem total8 (arg0 : BitVec 32) (v22 : BitVec 32) (v24 : FVec F S16 .f32) (v25 : FVec F S16 .f32)  (t : Fin k0_t8_loop.trips) (a : BitVec 32) :
    iprop((∃ g, At (thr d i) arg16 fullShare g))
      ⊢ wp frame (wpE df 𝒱₀ (thr d i) none) Set.univ (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ =>
        iprop((∃ g, At (thr d i) arg16 fullShare g))) := by
  unfold k0_t8_body
  simp only [k0_part1_eq_skeleton]
  unfold k0_part1_skel
  iintro ⟨%g, H16⟩
  iapply (enter _)
  iapply (at_load _) $$ H16
  iintro H16
  iapply (at_load _) $$ H16
  iintro H16
  iapply (fin_pure _)
  iapply (at_store _) $$ H16
  iintro %g' ⟨%e', H16⟩
  iapply (fin_pure _)
  iexists g'
  iexact H16

/-- A tile's row sums added. -/
theorem add23 (k0_h15 : k0_cond15 i = 1#1) {k : S20480.Idx → Elt F .f32} {A B : ℕ → M} (hk : ∀ y, (y 0).val < 8192 → R.v (k y) = B (y 0).val) (t : Fin k0_t23_loop.trips) (a : BitVec 32) :
    iprop(At (thr d i) arg13 fullShare k ∗ (∃ g, ⌜∀ y, R.v (g y) = A (y 0).val + if (y 0).val < 16 * t.val then B (y 0).val else 0⌝ ∗ At (thr d i) arg18 fullShare g) ∗ (∃ g, At (thr d i) arg19 fullShare g))
      ⊢ wp frame (wpE df 𝒱₀ (thr d i) none) Set.univ (k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 k0_h15 t a) (fun _ =>
        iprop(At (thr d i) arg13 fullShare k ∗ (∃ g, ⌜∀ y, R.v (g y) = A (y 0).val + if (y 0).val < 16 * (t.val + 1) then B (y 0).val else 0⌝ ∗ At (thr d i) arg18 fullShare g) ∗ (∃ g, At (thr d i) arg19 fullShare g))) := by
  unfold k0_t23_body
  have ht : t.val < 512 := lt_of_lt_of_eq t.isLt (by decide)
  iintro ⟨H13, ⟨%g, %e, H18⟩, %z, H19⟩
  iapply (at_load _) $$ H18
  iintro H18
  iapply (at_load _) $$ H13
  iintro H13
  iapply (at_load _) $$ H18
  iintro H18
  iapply (at_store _) $$ H18
  iintro %g' ⟨%e', H18⟩
  iapply (at_load _) $$ H19
  iintro H19
  iapply (at_load _) $$ H13
  iintro H13
  iapply (at_load _) $$ H19
  iintro H19
  iapply (at_store _) $$ H19
  iintro %z' ⟨%e2, H19⟩
  iapply (fin_pure _)
  isplitl [H13]; · iexact H13
  isplitl [H18]
  · iexists g'
    isplitr
    · ipureintro; exact add16 R (m := 8192) (k0_off191_eq t) (k0_off192_eq t) (by omega) (fun _ => rfl) e' hk e
    iexact H18
  iexists z'
  iexact H19

/-- The attention weights of thirty-two rows. -/
theorem soft9 (arg0 : BitVec 32) (v22 : BitVec 32) (v24 : FVec F S16 .f32) (v25 : FVec F S16 .f32) (k0_h3 : k0_cond3 i = 1#1) {gb : S20480.Idx → BitVec 32} {bt : ℕ → ℕ} (hgb : ∀ y, (gb y).toNat = bt (y 0).val) (hbt : ∀ x < 20480, bt x ≤ 64) (t : Fin k0_t9_loop.trips) (a : BitVec 32) :
    iprop(At (thr d i) arg11 fullShare gb ∗ (∃ g, At (thr d i) arg12 fullShare g) ∗ (∃ g, At (thr d i) arg16 fullShare g))
      ⊢ wp frame (wpE df 𝒱₀ (thr d i) none) Set.univ (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h3 t a) (fun _ =>
        iprop(At (thr d i) arg11 fullShare gb ∗ (∃ g, At (thr d i) arg12 fullShare g) ∗ (∃ g, At (thr d i) arg16 fullShare g))) := by
  unfold k0_t9_body
  have ht : t.val < 640 := lt_of_lt_of_eq t.isLt (by decide)
  iintro ⟨H11, ⟨%g, H12⟩, %z, H16⟩
  iapply (at_load _) $$ H11
  iintro H11
  iapply (at_load _) $$ H12
  iintro H12
  iapply (assume_step _)
  isplitr
  · ipureintro; exact fun _ => head_lt (b := fun l => bt (32 * t.val + l)) (segs_val hgb (k0_off17_eq t)) (fun l hl => hbt _ (by omega))
  iintro %_
  iapply (at_loadIdx _) $$ H16
  iintro H16
  iapply (at_load _) $$ H12
  iintro H12
  iapply (at_store _) $$ H12
  iintro %g1 ⟨%e1, H12⟩
  iapply (at_load _) $$ H11
  iintro H11
  iapply (at_load _) $$ H12
  iintro H12
  iapply (assume_step _)
  isplitr
  · ipureintro; exact fun _ => head_lt (b := fun l => bt (32 * t.val + 16 * 1 + l)) (segs_val hgb (k0_off18_eq t 1)) (fun l hl => hbt _ (by omega))
  iintro %_
  iapply (at_loadIdx _) $$ H16
  iintro H16
  iapply (at_load _) $$ H12
  iintro H12
  iapply (at_store _) $$ H12
  iintro %g2 ⟨%e2, H12⟩
  iapply (fin_pure _)
  isplitl [H11]; · iexact H11
  isplitl [H12]; · iexists g2; iexact H12
  iexists z
  iexact H16

/-- The attention weights of thirty-two rows. -/
theorem soft10 (arg0 : BitVec 32) (v22 : BitVec 32) (v24 : FVec F S16 .f32) (v25 : FVec F S16 .f32) (k0_h4 : k0_cond4 i = 1#1) {gb : S20480.Idx → BitVec 32} {bt : ℕ → ℕ} (hgb : ∀ y, (gb y).toNat = bt (y 0).val) (hbt : ∀ x < 20480, bt x ≤ 64) (t : Fin k0_t10_loop.trips) (a : BitVec 32) :
    iprop(At (thr d i) arg11 fullShare gb ∗ (∃ g, At (thr d i) arg12 fullShare g) ∗ (∃ g, At (thr d i) arg16 fullShare g))
      ⊢ wp frame (wpE df 𝒱₀ (thr d i) none) Set.univ (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h4 t a) (fun _ =>
        iprop(At (thr d i) arg11 fullShare gb ∗ (∃ g, At (thr d i) arg12 fullShare g) ∗ (∃ g, At (thr d i) arg16 fullShare g))) := by
  unfold k0_t10_body
  have ht : t.val < 320 := lt_of_lt_of_eq t.isLt (by decide)
  iintro ⟨H11, ⟨%g, H12⟩, %z, H16⟩
  iapply (at_load _) $$ H11
  iintro H11
  iapply (at_load _) $$ H12
  iintro H12
  iapply (assume_step _)
  isplitr
  · ipureintro; exact fun _ => head_lt (b := fun l => bt (32 * t.val + 10240 + l)) (segs_val hgb (k0_off20_eq t)) (fun l hl => hbt _ (by omega))
  iintro %_
  iapply (at_loadIdx _) $$ H16
  iintro H16
  iapply (at_load _) $$ H12
  iintro H12
  iapply (at_store _) $$ H12
  iintro %g1 ⟨%e1, H12⟩
  iapply (at_load _) $$ H11
  iintro H11
  iapply (at_load _) $$ H12
  iintro H12
  iapply (assume_step _)
  isplitr
  · ipureintro; exact fun _ => head_lt (b := fun l => bt (32 * t.val + 16 * 1 + 10240 + l)) (segs_val hgb (k0_off21_eq t 1)) (fun l hl => hbt _ (by omega))
  iintro %_
  iapply (at_loadIdx _) $$ H16
  iintro H16
  iapply (at_load _) $$ H12
  iintro H12
  iapply (at_store _) $$ H12
  iintro %g2 ⟨%e2, H12⟩
  iapply (fin_pure _)
  isplitl [H11]; · iexact H11
  isplitl [H12]; · iexists g2; iexact H12
  iexists z
  iexact H16

/-- Thirty-two rows counted. -/
theorem count3 (arg0 : BitVec 32) (arg1 : BitVec 32) (v25 : FVec F S16 .f32) (k0_h2 : k0_cond2 i = 1#1) {v23 : IVec S16 32} (hv23 : ∀ l : Fin 16, v23 (lane l) = BitVec.ofNat 32 l.val) {v24 : FVec F S16 .f32} (hv24 : ∀ l : Fin 16, R.v (v24 (lane l)) = R.one) {gb : S20480.Idx → BitVec 32} {bt : ℕ → ℕ} (hgb : ∀ y, (gb y).toNat = bt (y 0).val) (hbt : ∀ x < 20480, bt x ≤ 64) (t : Fin k0_t3_loop.trips) (a : BitVec 32) :
    iprop(At (thr d i) arg11 fullShare gb ∗ (∃ g, At (thr d i) arg12 fullShare g) ∗ (∃ g, ⌜∀ y, R.v (g y) = keysAdd R.one bt (32 * t.val) (y 0).val⌝ ∗ At (thr d i) arg15 fullShare g) ∗ (∃ g, At (thr d i) arg16 fullShare g))
      ⊢ wp frame (wpE df 𝒱₀ (thr d i) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 k0_h2 t a) (fun _ =>
        iprop(At (thr d i) arg11 fullShare gb ∗ (∃ g, At (thr d i) arg12 fullShare g) ∗ (∃ g, ⌜∀ y, R.v (g y) = keysAdd R.one bt (32 * (t.val + 1)) (y 0).val⌝ ∗ At (thr d i) arg15 fullShare g) ∗ (∃ g, At (thr d i) arg16 fullShare g))) := by
  unfold k0_t3_body
  have ht : t.val < 640 := lt_of_lt_of_eq t.isLt (by decide)
  iintro ⟨H11, ⟨%g, H12⟩, ⟨%c0, %ec, H15⟩, %z, H16⟩
  iapply (at_load _) $$ H11
  iintro H11
  iapply (at_load _) $$ H12
  iintro H12
  iapply (at_load _) $$ H12
  iintro H12
  iapply (at_store _) $$ H12
  iintro %g1 ⟨%e1, H12⟩
  iapply (assume_step _)
  isplitr
  · ipureintro; exact And.intro (fun _ => slot_lt hv23 (b := fun l => bt (32 * t.val + l)) (segs_val hgb (k0_off9_eq t)) (fun l hl => hbt _ (by omega)))
      (fun _ => slot_lt hv23 (b := fun l => bt (32 * t.val + l)) (segs_val hgb (k0_off9_eq t)) (fun l hl => hbt _ (by omega)))
  iintro %_
  iapply (at_ones _ R bt (32 * t.val)) $$ H15
  isplitr
  · ipureintro; exact ⟨by omega, slot_val hv23 (b := fun l => bt (32 * t.val + l)) (segs_val hgb (k0_off9_eq t)) (fun l hl => hbt _ (by omega)), hv24, ec⟩
  iintro %c1 ⟨%ec1, H15⟩
  iapply (at_scat_any _) $$ H16
  iintro %z1 H16
  iapply (at_load _) $$ H11
  iintro H11
  iapply (at_load _) $$ H12
  iintro H12
  iapply (at_load _) $$ H12
  iintro H12
  iapply (at_store _) $$ H12
  iintro %g2 ⟨%e2, H12⟩
  iapply (assume_step _)
  isplitr
  · ipureintro; exact And.intro (fun _ => slot_lt hv23 (b := fun l => bt (32 * t.val + 16 + l)) (segs_val hgb (k0_off10_eq t)) (fun l hl => hbt _ (by omega)))
      (fun _ => slot_lt hv23 (b := fun l => bt (32 * t.val + 16 + l)) (segs_val hgb (k0_off10_eq t)) (fun l hl => hbt _ (by omega)))
  iintro %_
  iapply (at_ones _ R bt (32 * t.val + 16)) $$ H15
  isplitr
  · ipureintro; exact ⟨by omega, slot_val hv23 (b := fun l => bt (32 * t.val + 16 + l)) (segs_val hgb (k0_off10_eq t)) (fun l hl => hbt _ (by omega)), hv24, ec1⟩
  iintro %c2 ⟨%ec2, H15⟩
  iapply (at_scat_any _) $$ H16
  iintro %z2 H16
  iapply (fin_pure _)
  isplitl [H11]; · iexact H11
  isplitl [H12]; · iexists g2; iexact H12
  isplitl [H15]
  · iexists c2
    isplitr
    · ipureintro; exact ec2
    iexact H15
  iexists z2
  iexact H16

/-- Thirty-two rows: priorities and counts. -/
theorem count2 (arg0 : BitVec 32) (arg1 : BitVec 32) (v25 : FVec F S16 .f32) (k0_h1 : k0_cond1 i = 1#1) {v23 : IVec S16 32} (hv23 : ∀ l : Fin 16, v23 (lane l) = BitVec.ofNat 32 l.val) {v24 : FVec F S16 .f32} (hv24 : ∀ l : Fin 16, R.v (v24 (lane l)) = R.one) {gb : S20480.Idx → BitVec 32} {bt : ℕ → ℕ} (hgb : ∀ y, (gb y).toNat = bt (y 0).val) (hbt : ∀ x < 20480, bt x ≤ 64) {gu : S128.Idx → Elt F .f32} {CS UN : ℕ → Elt F .f32} (hgu : ∀ y, gu y = UN (y 0).val) (t : Fin k0_t2_loop.trips) (a : BitVec 32) :
    iprop(At (thr d i) arg11 fullShare gb ∗ At (thr d i) arg14 fullShare gu ∗ (∃ g, ⌜∀ y, 32 * t.val ≤ (y 0).val → g y = CS (y 0).val⌝ ∗ At (thr d i) arg12 fullShare g) ∗ (∃ g, ⌜∀ y, (y 0).val < 32 * t.val → g y = FloatOps.addf (F := F) (φ := .f32) (CS (y 0).val) (UN (bt (y 0).val))⌝ ∗ At (thr d i) arg13 fullShare g) ∗ (∃ g, ⌜∀ y, R.v (g y) = keysAdd R.one bt (32 * t.val) (y 0).val⌝ ∗ At (thr d i) arg15 fullShare g) ∗ (∃ g, At (thr d i) arg16 fullShare g))
      ⊢ wp frame (wpE df 𝒱₀ (thr d i) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 k0_h1 t a) (fun _ =>
        iprop(At (thr d i) arg11 fullShare gb ∗ At (thr d i) arg14 fullShare gu ∗ (∃ g, ⌜∀ y, 32 * (t.val + 1) ≤ (y 0).val → g y = CS (y 0).val⌝ ∗ At (thr d i) arg12 fullShare g) ∗ (∃ g, ⌜∀ y, (y 0).val < 32 * (t.val + 1) → g y = FloatOps.addf (F := F) (φ := .f32) (CS (y 0).val) (UN (bt (y 0).val))⌝ ∗ At (thr d i) arg13 fullShare g) ∗ (∃ g, ⌜∀ y, R.v (g y) = keysAdd R.one bt (32 * (t.val + 1)) (y 0).val⌝ ∗ At (thr d i) arg15 fullShare g) ∗ (∃ g, At (thr d i) arg16 fullShare g))) := by
  unfold k0_t2_body
  have ht : t.val < 640 := lt_of_lt_of_eq t.isLt (by decide)
  iintro ⟨H11, H14, ⟨%g, %e, H12⟩, ⟨%p, %ep, H13⟩, ⟨%c0, %ec, H15⟩, %z, H16⟩
  iapply (at_load _) $$ H11
  iintro H11
  iapply (assume_step _)
  isplitr
  · ipureintro; exact fun _ => seg_lt (b := fun l => bt (32 * t.val + l)) (segs_val hgb (k0_off5_eq t)) (fun l hl => hbt _ (by omega))
  iintro %_
  iapply (at_load _) $$ H12
  iintro H12
  iapply (at_loadIdx _) $$ H14
  iintro H14
  iapply (at_load _) $$ H13
  iintro H13
  iapply (at_store _) $$ H13
  iintro %p1 ⟨%f1, H13⟩
  iapply (at_load _) $$ H12
  iintro H12
  iapply (at_store _) $$ H12
  iintro %g1 ⟨%e1, H12⟩
  iapply (assume_step _)
  isplitr
  · ipureintro; exact And.intro (fun _ => slot_lt hv23 (b := fun l => bt (32 * t.val + l)) (segs_val hgb (k0_off5_eq t)) (fun l hl => hbt _ (by omega)))
      (fun _ => slot_lt hv23 (b := fun l => bt (32 * t.val + l)) (segs_val hgb (k0_off5_eq t)) (fun l hl => hbt _ (by omega)))
  iintro %_
  iapply (at_ones _ R bt (32 * t.val)) $$ H15
  isplitr
  · ipureintro; exact ⟨by omega, slot_val hv23 (b := fun l => bt (32 * t.val + l)) (segs_val hgb (k0_off5_eq t)) (fun l hl => hbt _ (by omega)), hv24, ec⟩
  iintro %c1 ⟨%ec1, H15⟩
  iapply (at_scat_any _) $$ H16
  iintro %z1 H16
  iapply (at_load _) $$ H11
  iintro H11
  iapply (assume_step _)
  isplitr
  · ipureintro; exact fun _ => seg_lt (b := fun l => bt (32 * t.val + 16 + l)) (segs_val hgb (k0_off7_eq t)) (fun l hl => hbt _ (by omega))
  iintro %_
  iapply (at_load _) $$ H12
  iintro H12
  iapply (at_loadIdx _) $$ H14
  iintro H14
  iapply (at_load _) $$ H13
  iintro H13
  iapply (at_store _) $$ H13
  iintro %p2 ⟨%f2, H13⟩
  iapply (at_load _) $$ H12
  iintro H12
  iapply (at_store _) $$ H12
  iintro %g2 ⟨%e2, H12⟩
  iapply (assume_step _)
  isplitr
  · ipureintro; exact And.intro (fun _ => slot_lt hv23 (b := fun l => bt (32 * t.val + 16 + l)) (segs_val hgb (k0_off7_eq t)) (fun l hl => hbt _ (by omega)))
      (fun _ => slot_lt hv23 (b := fun l => bt (32 * t.val + 16 + l)) (segs_val hgb (k0_off7_eq t)) (fun l hl => hbt _ (by omega)))
  iintro %_
  iapply (at_ones _ R bt (32 * t.val + 16)) $$ H15
  isplitr
  · ipureintro; exact ⟨by omega, slot_val hv23 (b := fun l => bt (32 * t.val + 16 + l)) (segs_val hgb (k0_off7_eq t)) (fun l hl => hbt _ (by omega)), hv24, ec1⟩
  iintro %c2 ⟨%ec2, H15⟩
  iapply (at_scat_any _) $$ H16
  iintro %z2 H16
  iapply (fin_pure _)
  have hr1 := rest16 (k0_off6_eq t) e1 e
  have hr2 := rest16 (k0_off8_eq t) e2 hr1
  have hp1 := pri16 hgb hgu (k0_off6_eq t) (k0_off5_eq t) f1 (fun l => rfl) e ep
  have hp2 := pri16 hgb hgu (k0_off8_eq t) (k0_off7_eq t) f2 (fun l => rfl) hr1 hp1
  isplitl [H11]; · iexact H11
  isplitl [H14]; · iexact H14
  isplitl [H12]
  · iexists g2
    isplitr
    · ipureintro; exact fun y hy => hr2 y (by omega)
    iexact H12
  isplitl [H13]
  · iexists p2
    isplitr
    · ipureintro; exact fun y hy => hp2 y (by omega)
    iexact H13
  isplitl [H15]
  · iexists c2
    isplitr
    · ipureintro; exact ec2
    iexact H15
  iexists z2
  iexact H16

end Cert.Proof.Seg
-- ==== Proof.Combine.lean ====
/-
  The counts added over the tiles.
-/
module

public import proofs.«01_k».proof.Proof.Own
public import proofs.«01_k».proof.Proof.Ahead
public import proofs.«01_k».proof.Proof.Loops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

/-- One tile's part in the table of counts, taken out and put back. -/
theorem take_stat {BT : ℕ → ℕ} (arg22 : Memref sig .scVector .shared S40960 .f32) (w : Fin 16) :
    (bigSep Finset.univ fun j : Fin 16 => STt R BT arg22 d (cr i) j (i 1)) ⊢ iprop(((∃ g, ⌜∀ y, R.v (g y) = cntT R BT w.val (y 0).val⌝ ∗ At (thr d i) (srow arg22 w 0) (leaf 4 fullShare (i 1)) g) ∗ ∃ g, At (thr d i) (srow arg22 w 1) (leaf 4 fullShare (i 1)) g)
      ∗ (iprop((∃ g, ⌜∀ y, R.v (g y) = cntT R BT w.val (y 0).val⌝ ∗ At (thr d i) (srow arg22 w 0) (leaf 4 fullShare (i 1)) g) ∗ ∃ g, At (thr d i) (srow arg22 w 1) (leaf 4 fullShare (i 1)) g) -∗ (bigSep Finset.univ fun j : Fin 16 => STt R BT arg22 d (cr i) j (i 1)))) := by
  rw [SparseCore.bigSep_erase' (Finset.mem_univ w)]
  iintro ⟨H, Hr⟩
  isplitl [H]
  · iapply (show STt R BT arg22 d (cr i) w (i 1) ⊢ iprop((∃ g, ⌜∀ y, R.v (g y) = cntT R BT w.val (y 0).val⌝ ∗ At (thr d i) (srow arg22 w 0) (leaf 4 fullShare (i 1)) g) ∗ ∃ g, At (thr d i) (srow arg22 w 1) (leaf 4 fullShare (i 1)) g) from .rfl) $$ H
  iintro H
  isplitl [H]
  · iapply (show iprop((∃ g, ⌜∀ y, R.v (g y) = cntT R BT w.val (y 0).val⌝ ∗ At (thr d i) (srow arg22 w 0) (leaf 4 fullShare (i 1)) g) ∗ ∃ g, At (thr d i) (srow arg22 w 1) (leaf 4 fullShare (i 1)) g) ⊢ STt R BT arg22 d (cr i) w (i 1) from .rfl) $$ H
  iexact Hr

/-- One step of the total: a tile's counts added. -/
theorem gather5 {BT : ℕ → ℕ} (arg0 v22 : BitVec 32) (v24 v25 : FVec F S16 .f32) {O : CellTallies nD τ sig (HIx 2)} {W : Waits sig (HIx 2)} (t : Fin k0_t5_loop.trips) (a : BitVec 32) :
    iprop((∃ g : S1280.Idx → Elt F .f32, ⌜∀ y : S1280.Idx, R.v (g y) = ∑ w ∈ Finset.range (t.val), cntT R BT w (y 0).val⌝ ∗ At (thr d i) arg15 fullShare g) ∗ (∃ g, At (thr d i) arg16 fullShare g) ∗ (∃ g, At (thr d i) arg17 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W ∗ Transfers.MayWaits (thr d i) (none : HIx 2) (O))
      ⊢ wp frame (wpE (defs₀ (F := F)) 𝒱₀ (thr d i) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ => iprop((∃ g : S1280.Idx → Elt F .f32, ⌜∀ y : S1280.Idx, R.v (g y) = ∑ w ∈ Finset.range (t.val + 1), cntT R BT w (y 0).val⌝ ∗ At (thr d i) arg15 fullShare g) ∗ (∃ g, At (thr d i) arg16 fullShare g) ∗ (∃ g, At (thr d i) arg17 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W)) := by
  unfold k0_t5_body
  have ht : t.val < 16 := t.isLt
  iintro ⟨⟨%g15, %e15, H15⟩, H16, ⟨%g17, H17⟩, HS, Hs5, Hs6, HO, #Hm⟩
  ihave HS := (take_stat R d i arg22 ⟨t.val, ht⟩) $$ HS
  icases HS with ⟨⟨⟨%s0, %es, Hr0⟩, ⟨%s1, Hr1⟩⟩, Hback⟩
  ihave Hr0 := (at_off _ (off' := k0_off13 t 0#32) (inb' := k0_off13_inb t 0) (hr' := fun _ => rfl) (k0_off13_eq t 0).symm _) $$ Hr0
  iapply (at_copy _ (View.amount_pos _ _ (show 0 < S1280.numel by decide))) $$ [Hr0 H17 Hs5 HO]
  · isplitl [Hr0]; · iexact Hr0
    isplitl [H17]; · iexact H17
    isplitl [Hs5]; · iexact Hs5
    isplitl [HO]; · iexact HO
    iexact Hm
  iintro ⟨Hr0, H17, Hs5, HO⟩
  ihave Hr0 := (at_off _ (off' := ![2560 * (⟨t.val, ht⟩ : Fin 16).val + 1280 * (0 : Fin 2).val]) (inb' := srow_inb ⟨t.val, ht⟩ 0) (hr' := fun _ => rfl) (k0_off13_eq t 0) _) $$ Hr0
  iapply (loop _ (fun n _ => iprop(At (thr d i) arg17 fullShare s0 ∗ (∃ g : S1280.Idx → Elt F .f32, ⌜∀ y : S1280.Idx, R.v (g y) = ∑ w ∈ Finset.range (t.val), cntT R BT w (y 0).val + if (y 0).val < 16 * n then cntT R BT t.val (y 0).val else 0⌝ ∗ At (thr d i) arg15 fullShare g))) (fun t' a => add6 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 (A := fun x => ∑ w ∈ Finset.range t.val, cntT R BT w x) (B := cntT R BT t.val) es t' a)) $$ [H17 H15]
  · isplitl [H17]; · iexact H17
    iexists g15
    isplitr
    · ipureintro; exact fun y => by rw [e15 y, if_neg (by omega), add_zero]
    iexact H15
  iintro %_ ⟨H17, ⟨%g15, %e15, H15⟩⟩
  ihave Hr1 := (at_off _ (off' := k0_off13 t 1#32) (inb' := k0_off13_inb t 1) (hr' := fun _ => rfl) (k0_off13_eq t 1).symm _) $$ Hr1
  iapply (at_copy _ (View.amount_pos _ _ (show 0 < S1280.numel by decide))) $$ [Hr1 H17 Hs6 HO]
  · isplitl [Hr1]; · iexact Hr1
    isplitl [H17]; · iexact H17
    isplitl [Hs6]; · iexact Hs6
    isplitl [HO]; · iexact HO
    iexact Hm
  iintro ⟨Hr1, H17, Hs6, HO⟩
  ihave Hr1 := (at_off _ (off' := ![2560 * (⟨t.val, ht⟩ : Fin 16).val + 1280 * (1 : Fin 2).val]) (inb' := srow_inb ⟨t.val, ht⟩ 1) (hr' := fun _ => rfl) (k0_off13_eq t 1) _) $$ Hr1
  iapply (loop _ (fun n _ => iprop(At (thr d i) arg17 fullShare s1 ∗ (∃ g, At (thr d i) arg16 fullShare g))) (fun t' a => add7 (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t' a)) $$ [H17 H16]
  · isplitl [H17]; · iexact H17
    iexact H16
  iintro %_ ⟨H17, H16⟩
  iapply (fin_pure _)
  isplitl [H15]
  · iexists g15
    isplitr
    · ipureintro
      intro y
      have hy : (y 0).val < 1280 := (y 0).isLt
      rw [e15 y, if_pos (by rw [show k0_t6_loop.trips = 80 from by decide]; omega), Finset.sum_range_succ]
    iexact H15
  isplitl [H16]; · iexact H16
  isplitl [H17]; · iexists s1; iexact H17
  isplitl [Hback Hr0 Hr1]
  · iapply Hback
    isplitl [Hr0]
    · iexists s0
      isplitr
      · ipureintro; exact es
      iexact Hr0
    iexists s1
    iexact Hr1
  isplitl [Hs5]; · iexact Hs5
  isplitl [Hs6]; · iexact Hs6
  iexact HO

/-- The attention loop of a core over its rows. -/
theorem soft36 {α : Type} {Q : α → sProp (MT nD τ sig (HIx 2) (Elt F) ℕ UU ℕ)} {K : Prog (TpuEff nD τ sig (Elt F) Λ₀ (.scVector ((i 0).castLE hcore0) ((i 1).castLE hsub0))) α} (arg0 v22 : BitVec 32) (v24 v25 : FVec F S16 .f32)
    {gb : S20480.Idx → BitVec 32} {bt : ℕ → ℕ} (hgb : ∀ y, (gb y).toNat = bt (y 0).val) (hbt : ∀ x < 20480, bt x ≤ 64) :
    iprop(At (thr d i) arg11 fullShare gb ∗ (∃ g, At (thr d i) arg12 fullShare g) ∗ (∃ g, At (thr d i) arg16 fullShare g))
      ⊢ iprop((iprop(At (thr d i) arg11 fullShare gb ∗ (∃ g, At (thr d i) arg12 fullShare g) ∗ (∃ g, At (thr d i) arg16 fullShare g)) -∗ wp frame (wpE (defs₀ (F := F)) 𝒱₀ (thr d i) none) Set.univ (K) Q) -∗ wp frame (wpE (defs₀ (F := F)) 𝒱₀ (thr d i) none) Set.univ (do
      if k0_h3 : k0_cond3 i = 1#1 then do
        let v101 : BitVec 32 ← Scf.Loop.for k0_t9_loop (k0_t9_ok i k0_h3) 0#32 (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h3)
        pure PUnit.unit
      else do
        pure PUnit.unit
      if k0_h4 : k0_cond4 i = 1#1 then do
        let v101 : BitVec 32 ← Scf.Loop.for k0_t10_loop (k0_t10_ok i k0_h4) 0#32 (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h4)
        pure PUnit.unit
      else do
        pure PUnit.unit
      K) Q) := by
  iintro ⟨H11, H12, H16⟩ Hk
  by_cases h : (i 0).val = 0
  · have k0_h3 := (cond3_iff i).2 h
    have k0_h4 : ¬ k0_cond4 i = 1#1 := fun hh => (cond4_iff i).1 hh h
    iapply (if_yes _ k0_h3)
    iapply (loop _ (fun n _ => iprop(At (thr d i) arg11 fullShare gb ∗ (∃ g, At (thr d i) arg12 fullShare g) ∗ (∃ g, At (thr d i) arg16 fullShare g))) (fun t a => soft9 (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h3 hgb hbt t a)) $$ [H11 H12 H16]
    · isplitl [H11]; · iexact H11
      isplitl [H12]; · iexact H12
      iexact H16
    iintro %_ ⟨H11, H12, H16⟩
    iapply (if_no _ k0_h4)
    iapply Hk
    isplitl [H11]; · iexact H11
    isplitl [H12]; · iexact H12
    iexact H16
  · have k0_h3 : ¬ k0_cond3 i = 1#1 := fun hh => h ((cond3_iff i).1 hh)
    have k0_h4 := (cond4_iff i).2 h
    iapply (if_no _ k0_h3)
    iapply (if_yes _ k0_h4)
    iapply (loop _ (fun n _ => iprop(At (thr d i) arg11 fullShare gb ∗ (∃ g, At (thr d i) arg12 fullShare g) ∗ (∃ g, At (thr d i) arg16 fullShare g))) (fun t a => soft10 (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 k0_h4 hgb hbt t a)) $$ [H11 H12 H16]
    · isplitl [H11]; · iexact H11
      isplitl [H12]; · iexact H12
      iexact H16
    iintro %_ ⟨H11, H12, H16⟩
    iapply Hk
    isplitl [H11]; · iexact H11
    isplitl [H12]; · iexact H12
    iexact H16

/-- A persistent fact held beside a run is held after it. -/
theorem wp_keep {α : Type} {e : Prog (TpuEff nD τ sig (Elt F) Λ₀ (thr d i).2) α} {P A : sProp (MT nD τ sig (HIx 2) (Elt F) ℕ UU ℕ)}
    {Q : α → sProp (MT nD τ sig (HIx 2) (Elt F) ℕ UU ℕ)} (h : A ⊢ wp frame (wpE (defs₀ (F := F)) 𝒱₀ (thr d i) none) Set.univ e Q) :
    iprop(P ∗ A) ⊢ wp frame (wpE (defs₀ (F := F)) 𝒱₀ (thr d i) none) Set.univ e (fun a => iprop(P ∗ Q a)) :=
  (show iprop(P ∗ A) ⊢ iprop(P ∗ wp frame (wpE (defs₀ (F := F)) 𝒱₀ (thr d i) none) Set.univ e Q) from by
    iintro ⟨Hp, Ha⟩
    isplitl [Hp]; · iexact Hp
    iapply h $$ Ha).trans (wp_frame_l _ _ _)

theorem gather5' {BT : ℕ → ℕ} (arg0 v22 : BitVec 32) (v24 v25 : FVec F S16 .f32) {O : CellTallies nD τ sig (HIx 2)} {W : Waits sig (HIx 2)} (t : Fin k0_t5_loop.trips) (a : BitVec 32) :
    iprop(Transfers.MayWaits (thr d i) (none : HIx 2) (O) ∗ (∃ g : S1280.Idx → Elt F .f32, ⌜∀ y : S1280.Idx, R.v (g y) = ∑ w ∈ Finset.range (t.val), cntT R BT w (y 0).val⌝ ∗ At (thr d i) arg15 fullShare g) ∗ (∃ g, At (thr d i) arg16 fullShare g) ∗ (∃ g, At (thr d i) arg17 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W)
      ⊢ wp frame (wpE (defs₀ (F := F)) 𝒱₀ (thr d i) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a) (fun _ => iprop(Transfers.MayWaits (thr d i) (none : HIx 2) (O) ∗ (∃ g : S1280.Idx → Elt F .f32, ⌜∀ y : S1280.Idx, R.v (g y) = ∑ w ∈ Finset.range (t.val + 1), cntT R BT w (y 0).val⌝ ∗ At (thr d i) arg15 fullShare g) ∗ (∃ g, At (thr d i) arg16 fullShare g) ∗ (∃ g, At (thr d i) arg17 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W)) := by
  iintro ⟨#Hm, Ha, Hb, Hc, He, Hf, Hg, Hh⟩
  iapply (wp_keep d i (P := Transfers.MayWaits (thr d i) (none : HIx 2) (O)) (gather5 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a)) $$ [Ha Hb Hc He Hf Hg Hh]
  isplitr; · iexact Hm
  isplitl [Ha]; · iexact Ha
  isplitl [Hb]; · iexact Hb
  isplitl [Hc]; · iexact Hc
  isplitl [He]; · iexact He
  isplitl [Hf]; · iexact Hf
  isplitl [Hg]; · iexact Hg
  isplitl [Hh]; · iexact Hh
  iexact Hm

/-- The counts added up over the tiles, the attention loops run, the row sums cleared. -/
theorem total36 {BT : ℕ → ℕ} (arg0 v22 : BitVec 32) (v24 : FVec F S16 .f32) {v25 : FVec F S16 .f32} (hv25 : ∀ l : Fin 16, R.v (v25 (lane l)) = 0) {O : CellTallies nD τ sig (HIx 2)} {W : Waits sig (HIx 2)}
    {gb : S20480.Idx → BitVec 32} {bt : ℕ → ℕ} (hgb : ∀ y, (gb y).toNat = bt (y 0).val) (hbt : ∀ x < 20480, bt x ≤ 64) :
    iprop(At (thr d i) arg11 fullShare gb ∗ (∃ g, At (thr d i) arg12 fullShare g) ∗ (∃ g : S1280.Idx → Elt F .f32, ⌜∀ y : S1280.Idx, R.v (g y) = 0⌝ ∗ At (thr d i) arg15 fullShare g) ∗ (∃ g, At (thr d i) arg16 fullShare g) ∗ (∃ g, At (thr d i) arg17 fullShare g) ∗ (∃ g, At (thr d i) arg18 fullShare g) ∗ (∃ g, At (thr d i) arg19 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W ∗ Transfers.MayWaits (thr d i) (none : HIx 2) (O))
      ⊢ wp frame (wpE (defs₀ (F := F)) 𝒱₀ (thr d i) none) Set.univ (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25) (fun r => iprop(At (thr d i) arg11 fullShare gb ∗ (∃ g, At (thr d i) arg12 fullShare g) ∗ (∃ g : S1280.Idx → Elt F .f32, ⌜∀ y : S1280.Idx, R.v (g y) = ∑ w ∈ Finset.range (16), cntT R BT w (y 0).val⌝ ∗ At (thr d i) arg15 fullShare g) ∗ (∃ g, At (thr d i) arg16 fullShare g) ∗ (∃ g, At (thr d i) arg17 fullShare g) ∗ (∃ g : S8192.Idx → Elt F .f32, ⌜∀ y : S8192.Idx, R.v (g y) = 0⌝ ∗ At (thr d i) arg18 fullShare g) ∗ (∃ g, At (thr d i) arg19 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W ∗ ⌜r.1 = 0#32 ∧ r.2.1 = 0#32⌝)) := by
  rw [k0_part36_eq_skeleton]
  unfold k0_part36_skel
  iintro ⟨H11, H12, ⟨%g15, %e15, H15⟩, H16, H17, ⟨%g18, H18⟩, H19, HS, Hs5, Hs6, HO, #Hm⟩
  iapply (loop _ (fun n _ => iprop(Transfers.MayWaits (thr d i) (none : HIx 2) (O) ∗ (∃ g : S1280.Idx → Elt F .f32, ⌜∀ y : S1280.Idx, R.v (g y) = ∑ w ∈ Finset.range (n), cntT R BT w (y 0).val⌝ ∗ At (thr d i) arg15 fullShare g) ∗ (∃ g, At (thr d i) arg16 fullShare g) ∗ (∃ g, At (thr d i) arg17 fullShare g) ∗ (bigSep Finset.univ fun j : Fin 16 => STt R BT arg22 d (cr i) j (i 1)) ∗ semVal ((thr d i), .dma v110_r5.sem) 0 ∗ semVal ((thr d i), .dma v110_r6.sem) 0 ∗ Ow (F := F) (thr d i) (O) W)) (fun t a => gather5' R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a)) $$ [H15 H16 H17 HS Hs5 Hs6 HO]
  · isplitr; · iexact Hm
    isplitl [H15]
    · iexists g15
      isplitr
      · ipureintro; intro y; rw [e15 y, Finset.sum_range_zero]
      iexact H15
    isplitl [H16]; · iexact H16
    isplitl [H17]; · iexact H17
    isplitl [HS]; · iexact HS
    isplitl [Hs5]; · iexact Hs5
    isplitl [Hs6]; · iexact Hs6
    iexact HO
  iintro %_ ⟨#_, H15, H16, H17, HS, Hs5, Hs6, HO⟩
  iapply (loop _ (fun n _ => iprop((∃ g, At (thr d i) arg16 fullShare g))) (fun t a => total8 (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 t a)) $$ H16
  iintro %_ H16
  iapply (soft36 d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 v25 hgb hbt) $$ [H11 H12 H16]
  · isplitl [H11]; · iexact H11
    isplitl [H12]; · iexact H12
    iexact H16
  iintro ⟨H11, H12, H16⟩
  iapply (loop _ (fun n _ => iprop((∃ g : S8192.Idx → Elt F .f32, ⌜∀ y : S8192.Idx, (y 0).val < 16 * n → R.v (g y) = 0⌝ ∗ At (thr d i) arg18 fullShare g) ∗ (∃ g, At (thr d i) arg19 fullShare g))) (fun t a => zero11 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v22 v24 hv25 t a)) $$ [H18 H19]
  · isplitl [H18]
    · iexists g18
      isplitr
      · ipureintro; exact fun y hy => absurd hy (by omega)
      iexact H18
    iexact H19
  iintro %_ ⟨⟨%z18, %e18, H18⟩, H19⟩
  iapply (fin_pure _)
  isplitl [H11]; · iexact H11
  isplitl [H12]; · iexact H12
  isplitl [H15]; · iexact H15
  isplitl [H16]; · iexact H16
  isplitl [H17]; · iexact H17
  isplitl [H18]
  · iexists z18
    isplitr
    · ipureintro
      intro y
      have hy : (y 0).val < 8192 := (y 0).isLt
      exact e18 y (by rw [show k0_t11_loop.trips = 512 from by decide]; omega)
    iexact H18
  isplitl [H19]; · iexact H19
  isplitl [HS]; · iexact HS
  isplitl [Hs5]; · iexact Hs5
  isplitl [Hs6]; · iexact Hs6
  isplitl [HO]; · iexact HO
  ipureintro
  exact ⟨rfl, rfl⟩

end Cert.Proof.Seg
-- ==== Proof.FastA.lean ====
/-
  Four rows of a block of one segment, added to the running sums: the first block buffer.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem fast0_k0_part2 {v106 : BitVec 32} {v125 : BitVec 32} {v131 : BitVec 32} {k0_h5 : k0_cond5 v125 v131 = 1#1} {arg29 : FVec F S16 .f32} {arg30 : FVec F S16 .f32} {arg31 : FVec F S16 .f32} {arg32 : FVec F S16 .f32} {arg33 : FVec F S16 .f32} {arg34 : FVec F S16 .f32} {arg35 : FVec F S16 .f32} {arg37 : FVec F S16 .f32} {arg38 : FVec F S16 .f32} {arg39 : FVec F S16 .f32} {arg40 : FVec F S16 .f32} {arg41 : FVec F S16 .f32} {arg42 : FVec F S16 .f32}
    {go : S80x128.Idx → Elt F .f32} {ob : ℕ → ℕ → M} (hgo : ∀ y, R.v (go y) = ob (y 0).val (y 1).val) {off : ℕ} (h106 : v106.toNat = off) (hoff : off + 80 ≤ 20480)
    (ga : S20480.Idx → Elt F .f32) (t : Fin k0_t13_loop.trips) (F_arg29 : SumsUp R ob (4 * t.val) 0 arg29) (F_arg30 : SumsUp R ob (4 * t.val) 1 arg30) (F_arg31 : SumsUp R ob (4 * t.val) 2 arg31) (F_arg32 : SumsUp R ob (4 * t.val) 3 arg32) (F_arg33 : SumsUp R ob (4 * t.val) 4 arg33) (F_arg34 : SumsUp R ob (4 * t.val) 5 arg34) (F_arg35 : SumsUp R ob (4 * t.val) 6 arg35) :
    iprop(At (thr d i) arg12 fullShare ga ∗ At (thr d i) arg20 fullShare go)
      ⊢ wp frame (wpE df 𝒱₀ (thr d i) none) Set.univ (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v106 v125 v131 k0_h5 0#32 1#32 t arg29 arg30 arg31 arg32 arg33 arg34 arg35 arg37 arg38 arg39 arg40 arg41 arg42) (fun r =>
        iprop(At (thr d i) arg12 fullShare ga ∗ At (thr d i) arg20 fullShare go ∗ ⌜r.1 = Scf.iv 0#32 1#32 t.val ∧ SumsUp R ob (4 * t.val + 1) 0 r.2.2.2.1 ∧ SumsUp R ob (4 * t.val + 1) 1 r.2.2.2.2.2.1 ∧ SumsUp R ob (4 * t.val + 1) 2 r.2.2.2.2.2.2.2.1 ∧ SumsUp R ob (4 * t.val + 1) 3 r.2.2.2.2.2.2.2.2.2.1 ∧ SumsUp R ob (4 * t.val + 1) 4 r.2.2.2.2.2.2.2.2.2.2.2.1 ∧ SumsUp R ob (4 * t.val + 1) 5 r.2.2.2.2.2.2.2.2.2.2.2.2.2.1 ∧ SumsUp R ob (4 * t.val + 1) 6 r.2.2.2.2.2.2.2.2.2.2.2.2.2.2.2.1⌝)) := by
  have ht : t.val < 20 := lt_of_lt_of_eq t.isLt (by decide)
  skip
  rw [k0_part2_eq_skeleton]
  unfold k0_part2_skel
  iintro ⟨H12, H20⟩
  iapply (assume_step _)
  isplitr
  · ipureintro; exact fun _ => spread_lt _ _ off (4 * t.val + 0) h106 (iv4_toNat _ 0 ht (by norm_num)) (by omega)
  iintro %_
  iapply (at_loadIdx _) $$ H12
  iintro H12
  iapply (at_load _) $$ H20
  iintro H20
  iapply (at_load _) $$ H20
  iintro H20
  iapply (at_load _) $$ H20
  iintro H20
  iapply (at_load _) $$ H20
  iintro H20
  iapply (at_load _) $$ H20
  iintro H20
  iapply (at_load _) $$ H20
  iintro H20
  iapply (at_load _) $$ H20
  iintro H20
  iapply (fin_pure _)
  isplitl [H12]; · iexact H12
  isplitl [H20]; · iexact H20
  ipureintro
  exact ⟨rfl, sums_add R hgo (k0_off24_eq t) F_arg29, sums_add R hgo (k0_off25_eq t) F_arg30, sums_add R hgo (k0_off26_eq t) F_arg31, sums_add R hgo (k0_off27_eq t) F_arg32, sums_add R hgo (k0_off28_eq t) F_arg33, sums_add R hgo (k0_off29_eq t) F_arg34, sums_add R hgo (k0_off30_eq t) F_arg35⟩

theorem fast0_k0_part3 {v106 : BitVec 32} {v125 : BitVec 32} {v131 : BitVec 32} {k0_h5 : k0_cond5 v125 v131 = 1#1} {arg36 : FVec F S16 .f32} {arg43 : FVec F S16 .f32} {arg44 : FVec F S16 .f32} {arg28 : BitVec 32} {v215 : BitVec 32} {v220 : Vec F S16 .f32} {v223 : FVec F S16 .f32} {v225 : FVec F S16 .f32} {v228 : FVec F S16 .f32} {v230 : FVec F S16 .f32} {v233 : FVec F S16 .f32} {v235 : FVec F S16 .f32} {v238 : FVec F S16 .f32} {v240 : FVec F S16 .f32} {v243 : FVec F S16 .f32} {v245 : FVec F S16 .f32} {v248 : FVec F S16 .f32} {v254 : FVec F S16 .f32}
    {go : S80x128.Idx → Elt F .f32} {ob : ℕ → ℕ → M} (hgo : ∀ y, R.v (go y) = ob (y 0).val (y 1).val) {off : ℕ} (h106 : v106.toNat = off) (hoff : off + 80 ≤ 20480)
    (ga : S20480.Idx → Elt F .f32) (t : Fin k0_t13_loop.trips) (h28 : arg28 = Scf.iv 0#32 1#32 t.val) (F_arg36 : SumsUp R ob (4 * t.val) 7 arg36) (F_v223 : SumsUp R ob (4 * t.val + 1) 0 v223) (F_v228 : SumsUp R ob (4 * t.val + 1) 1 v228) (F_v233 : SumsUp R ob (4 * t.val + 1) 2 v233) (F_v238 : SumsUp R ob (4 * t.val + 1) 3 v238) (F_v243 : SumsUp R ob (4 * t.val + 1) 4 v243) (F_v248 : SumsUp R ob (4 * t.val + 1) 5 v248) :
    iprop(At (thr d i) arg12 fullShare ga ∗ At (thr d i) arg20 fullShare go)
      ⊢ wp frame (wpE df 𝒱₀ (thr d i) none) Set.univ (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v106 v125 v131 k0_h5 t arg36 arg43 arg44 arg28 v215 v220 v223 v225 v228 v230 v233 v235 v238 v240 v243 v245 v248 v254) (fun r =>
        iprop(At (thr d i) arg12 fullShare ga ∗ At (thr d i) arg20 fullShare go ∗ ⌜SumsUp R ob (4 * t.val + 1) 7 r.2.1 ∧ SumsUp R ob (4 * t.val + 2) 0 r.2.2.2.2.2.1 ∧ SumsUp R ob (4 * t.val + 2) 1 r.2.2.2.2.2.2.2.1 ∧ SumsUp R ob (4 * t.val + 2) 2 r.2.2.2.2.2.2.2.2.2.1 ∧ SumsUp R ob (4 * t.val + 2) 3 r.2.2.2.2.2.2.2.2.2.2.2.1 ∧ SumsUp R ob (4 * t.val + 2) 4 r.2.2.2.2.2.2.2.2.2.2.2.2.2.1 ∧ SumsUp R ob (4 * t.val + 2) 5 r.2.2.2.2.2.2.2.2.2.2.2.2.2.2.2.1⌝)) := by
  have ht : t.val < 20 := lt_of_lt_of_eq t.isLt (by decide)
  subst h28
  rw [k0_part3_eq_skeleton]
  unfold k0_part3_skel
  iintro ⟨H12, H20⟩
  iapply (at_load _) $$ H20
  iintro H20
  iapply (assume_step _)
  isplitr
  · ipureintro; exact fun _ => spread_lt _ _ off (4 * t.val + 1) h106 (iv4_toNat _ 1 ht (by norm_num)) (by omega)
  iintro %_
  iapply (at_loadIdx _) $$ H12
  iintro H12
  iapply (at_load _) $$ H20
  iintro H20
  iapply (at_load _) $$ H20
  iintro H20
  iapply (at_load _) $$ H20
  iintro H20
  iapply (at_load _) $$ H20
  iintro H20
  iapply (at_load _) $$ H20
  iintro H20
  iapply (at_load _) $$ H20
  iintro H20
  iapply (fin_pure _)
  isplitl [H12]; · iexact H12
  isplitl [H20]; · iexact H20
  ipureintro
  exact ⟨sums_add R hgo (k0_off31_eq t) F_arg36, sums_add R hgo (k0_off32_eq t) F_v223, sums_add R hgo (k0_off33_eq t) F_v228, sums_add R hgo (k0_off34_eq t) F_v233, sums_add R hgo (k0_off35_eq t) F_v238, sums_add R hgo (k0_off36_eq t) F_v243, sums_add R hgo (k0_off37_eq t) F_v248⟩

theorem fast0_k0_part4 {v106 : BitVec 32} {v125 : BitVec 32} {v131 : BitVec 32} {k0_h5 : k0_cond5 v125 v131 = 1#1} {arg28 : BitVec 32} {v250 : FVec F S16 .f32} {v253 : FVec F S16 .f32} {v255 : FVec F S16 .f32} {v258 : FVec F S16 .f32} {v260 : FVec F S16 .f32} {v262 : BitVec 32} {v267 : Vec F S16 .f32} {v270 : FVec F S16 .f32} {v272 : FVec F S16 .f32} {v275 : FVec F S16 .f32} {v277 : FVec F S16 .f32} {v280 : FVec F S16 .f32} {v282 : FVec F S16 .f32} {v285 : FVec F S16 .f32} {v287 : FVec F S16 .f32} {v290 : FVec F S16 .f32} {v296 : FVec F S16 .f32}
    {go : S80x128.Idx → Elt F .f32} {ob : ℕ → ℕ → M} (hgo : ∀ y, R.v (go y) = ob (y 0).val (y 1).val) {off : ℕ} (h106 : v106.toNat = off) (hoff : off + 80 ≤ 20480)
    (ga : S20480.Idx → Elt F .f32) (t : Fin k0_t13_loop.trips) (h28 : arg28 = Scf.iv 0#32 1#32 t.val) (F_v253 : SumsUp R ob (4 * t.val + 1) 6 v253) (F_v258 : SumsUp R ob (4 * t.val + 1) 7 v258) (F_v270 : SumsUp R ob (4 * t.val + 2) 0 v270) (F_v275 : SumsUp R ob (4 * t.val + 2) 1 v275) (F_v280 : SumsUp R ob (4 * t.val + 2) 2 v280) (F_v285 : SumsUp R ob (4 * t.val + 2) 3 v285) (F_v290 : SumsUp R ob (4 * t.val + 2) 4 v290) :
    iprop(At (thr d i) arg12 fullShare ga ∗ At (thr d i) arg20 fullShare go)
      ⊢ wp frame (wpE df 𝒱₀ (thr d i) none) Set.univ (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v106 v125 v131 k0_h5 t arg28 v250 v253 v255 v258 v260 v262 v267 v270 v272 v275 v277 v280 v282 v285 v287 v290 v296) (fun r =>
        iprop(At (thr d i) arg12 fullShare ga ∗ At (thr d i) arg20 fullShare go ∗ ⌜SumsUp R ob (4 * t.val + 2) 6 r.2.1 ∧ SumsUp R ob (4 * t.val + 2) 7 r.2.2.2.1 ∧ SumsUp R ob (4 * t.val + 3) 0 r.2.2.2.2.2.2.2.1 ∧ SumsUp R ob (4 * t.val + 3) 1 r.2.2.2.2.2.2.2.2.2.1 ∧ SumsUp R ob (4 * t.val + 3) 2 r.2.2.2.2.2.2.2.2.2.2.2.1 ∧ SumsUp R ob (4 * t.val + 3) 3 r.2.2.2.2.2.2.2.2.2.2.2.2.2.1 ∧ SumsUp R ob (4 * t.val + 3) 4 r.2.2.2.2.2.2.2.2.2.2.2.2.2.2.2.1⌝)) := by
  have ht : t.val < 20 := lt_of_lt_of_eq t.isLt (by decide)
  subst h28
  rw [k0_part4_eq_skeleton]
  unfold k0_part4_skel
  iintro ⟨H12, H20⟩
  iapply (at_load _) $$ H20
  iintro H20
  iapply (at_load _) $$ H20
  iintro H20
  iapply (assume_step _)
  isplitr
  · ipureintro; exact fun _ => spread_lt _ _ off (4 * t.val + 2) h106 (iv4_toNat _ 2 ht (by norm_num)) (by omega)
  iintro %_
  iapply (at_loadIdx _) $$ H12
  iintro H12
  iapply (at_load _) $$ H20
  iintro H20
  iapply (at_load _) $$ H20
  iintro H20
  iapply (at_load _) $$ H20
  iintro H20
  iapply (at_load _) $$ H20
  iintro H20
  iapply (at_load _) $$ H20
  iintro H20
  iapply (fin_pure _)
  isplitl [H12]; · iexact H12
  isplitl [H20]; · iexact H20
  ipureintro
  exact ⟨sums_add R hgo (k0_off38_eq t) F_v253, sums_add R hgo (k0_off39_eq t) F_v258, sums_add R hgo (k0_off40_eq t) F_v270, sums_add R hgo (k0_off41_eq t) F_v275, sums_add R hgo (k0_off42_eq t) F_v280, sums_add R hgo (k0_off43_eq t) F_v285, sums_add R hgo (k0_off44_eq t) F_v290⟩

theorem fast0_k0_part5 {v106 : BitVec 32} {v125 : BitVec 32} {v131 : BitVec 32} {k0_h5 : k0_cond5 v125 v131 = 1#1} {arg28 : BitVec 32} {v292 : FVec F S16 .f32} {v295 : FVec F S16 .f32} {v297 : FVec F S16 .f32} {v300 : FVec F S16 .f32} {v302 : FVec F S16 .f32} {v305 : FVec F S16 .f32} {v307 : FVec F S16 .f32} {v309 : BitVec 32} {v314 : Vec F S16 .f32} {v317 : FVec F S16 .f32} {v319 : FVec F S16 .f32} {v322 : FVec F S16 .f32} {v324 : FVec F S16 .f32} {v327 : FVec F S16 .f32} {v329 : FVec F S16 .f32} {v332 : FVec F S16 .f32} {v338 : FVec F S16 .f32}
    {go : S80x128.Idx → Elt F .f32} {ob : ℕ → ℕ → M} (hgo : ∀ y, R.v (go y) = ob (y 0).val (y 1).val) {off : ℕ} (h106 : v106.toNat = off) (hoff : off + 80 ≤ 20480)
    (ga : S20480.Idx → Elt F .f32) (t : Fin k0_t13_loop.trips) (h28 : arg28 = Scf.iv 0#32 1#32 t.val) (F_v295 : SumsUp R ob (4 * t.val + 2) 5 v295) (F_v300 : SumsUp R ob (4 * t.val + 2) 6 v300) (F_v305 : SumsUp R ob (4 * t.val + 2) 7 v305) (F_v317 : SumsUp R ob (4 * t.val + 3) 0 v317) (F_v322 : SumsUp R ob (4 * t.val + 3) 1 v322) (F_v327 : SumsUp R ob (4 * t.val + 3) 2 v327) (F_v332 : SumsUp R ob (4 * t.val + 3) 3 v332) :
    iprop(At (thr d i) arg12 fullShare ga ∗ At (thr d i) arg20 fullShare go)
      ⊢ wp frame (wpE df 𝒱₀ (thr d i) none) Set.univ (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v106 v125 v131 k0_h5 t arg28 v292 v295 v297 v300 v302 v305 v307 v309 v314 v317 v319 v322 v324 v327 v329 v332 v338) (fun r =>
        iprop(At (thr d i) arg12 fullShare ga ∗ At (thr d i) arg20 fullShare go ∗ ⌜SumsUp R ob (4 * t.val + 3) 5 r.2.1 ∧ SumsUp R ob (4 * t.val + 3) 6 r.2.2.2.1 ∧ SumsUp R ob (4 * t.val + 3) 7 r.2.2.2.2.2.1 ∧ SumsUp R ob (4 * t.val + 4) 0 r.2.2.2.2.2.2.2.2.2.1 ∧ SumsUp R ob (4 * t.val + 4) 1 r.2.2.2.2.2.2.2.2.2.2.2.1 ∧ SumsUp R ob (4 * t.val + 4) 2 r.2.2.2.2.2.2.2.2.2.2.2.2.2.1 ∧ SumsUp R ob (4 * t.val + 4) 3 r.2.2.2.2.2.2.2.2.2.2.2.2.2.2.2.1⌝)) := by
  have ht : t.val < 20 := lt_of_lt_of_eq t.isLt (by decide)
  subst h28
  rw [k0_part5_eq_skeleton]
  unfold k0_part5_skel
  iintro ⟨H12, H20⟩
  iapply (at_load _) $$ H20
  iintro H20
  iapply (at_load _) $$ H20
  iintro H20
  iapply (at_load _) $$ H20
  iintro H20
  iapply (assume_step _)
  isplitr
  · ipureintro; exact fun _ => spread_lt _ _ off (4 * t.val + 3) h106 (iv4_toNat _ 3 ht (by norm_num)) (by omega)
  iintro %_
  iapply (at_loadIdx _) $$ H12
  iintro H12
  iapply (at_load _) $$ H20
  iintro H20
  iapply (at_load _) $$ H20
  iintro H20
  iapply (at_load _) $$ H20
  iintro H20
  iapply (at_load _) $$ H20
  iintro H20
  iapply (fin_pure _)
  isplitl [H12]; · iexact H12
  isplitl [H20]; · iexact H20
  ipureintro
  exact ⟨sums_add R hgo (k0_off45_eq t) F_v295, sums_add R hgo (k0_off46_eq t) F_v300, sums_add R hgo (k0_off47_eq t) F_v305, sums_add R hgo (k0_off48_eq t) F_v317, sums_add R hgo (k0_off49_eq t) F_v322, sums_add R hgo (k0_off50_eq t) F_v327, sums_add R hgo (k0_off51_eq t) F_v332⟩

theorem fast0 (v25 : FVec F S16 .f32) (v106 : BitVec 32) (v119 : IVec S16 32) (v125 : BitVec 32) (v131 : BitVec 32) (k0_h5 : k0_cond5 v125 v131 = 1#1) {go : S80x128.Idx → Elt F .f32} {ob : ℕ → ℕ → M}
    (hgo : ∀ y, R.v (go y) = ob (y 0).val (y 1).val) {off : ℕ} (h106 : v106.toNat = off) (hoff : off + 80 ≤ 20480)
    (ga : S20480.Idx → Elt F .f32) (t : Fin k0_t13_loop.trips) (a : Regs F) :
    iprop(At (thr d i) arg12 fullShare ga ∗ At (thr d i) arg20 fullShare go ∗ ⌜RegsOK R ob (4 * t.val) a⌝)
      ⊢ wp frame (wpE df 𝒱₀ (thr d i) none) Set.univ (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v106 v119 v125 v131 k0_h5 t a) (fun a' =>
        iprop(At (thr d i) arg12 fullShare ga ∗ At (thr d i) arg20 fullShare go ∗ ⌜RegsOK R ob (4 * (t.val + 1)) a'⌝)) := by
  obtain ⟨arg29, arg30, arg31, arg32, arg33, arg34, arg35, arg36, arg37, arg38, arg39, arg40, arg41, arg42, arg43, arg44⟩ := a
  unfold k0_t13_body
  iintro ⟨H12, H20, %h⟩
  obtain ⟨F_arg29, F_arg30, F_arg31, F_arg32, F_arg33, F_arg34, F_arg35, F_arg36⟩ := h
  iapply (run _ (fast0_k0_part2 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h5 := k0_h5) F_arg29 F_arg30 F_arg31 F_arg32 F_arg33 F_arg34 F_arg35)) $$ [H12 H20]
  · isplitl [H12]; · iexact H12
    iexact H20
  iintro %r ⟨H12, H20, %hr⟩
  obtain ⟨arg28, v215, v220, v223, v225, v228, v230, v233, v235, v238, v240, v243, v245, v248, v250, v253, v254⟩ := r
  obtain ⟨h28, F_v223, F_v228, F_v233, F_v238, F_v243, F_v248, F_v253⟩ := hr
  iapply (run _ (fast0_k0_part3 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h5 := k0_h5) h28 F_arg36 F_v223 F_v228 F_v233 F_v238 F_v243 F_v248)) $$ [H12 H20]
  · isplitl [H12]; · iexact H12
    iexact H20
  iintro %r ⟨H12, H20, %hr⟩
  obtain ⟨v255, v258, v260, v262, v267, v270, v272, v275, v277, v280, v282, v285, v287, v290, v292, v295, v296⟩ := r
  obtain ⟨F_v258, F_v270, F_v275, F_v280, F_v285, F_v290, F_v295⟩ := hr
  iapply (run _ (fast0_k0_part4 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h5 := k0_h5) h28 F_v253 F_v258 F_v270 F_v275 F_v280 F_v285 F_v290)) $$ [H12 H20]
  · isplitl [H12]; · iexact H12
    iexact H20
  iintro %r ⟨H12, H20, %hr⟩
  obtain ⟨v297, v300, v302, v305, v307, v309, v314, v317, v319, v322, v324, v327, v329, v332, v334, v337, v338⟩ := r
  obtain ⟨F_v300, F_v305, F_v317, F_v322, F_v327, F_v332, F_v337⟩ := hr
  iapply (run _ (fast0_k0_part5 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h5 := k0_h5) h28 F_v295 F_v300 F_v305 F_v317 F_v322 F_v327 F_v332)) $$ [H12 H20]
  · isplitl [H12]; · iexact H12
    iexact H20
  iintro %r ⟨H12, H20, %hr⟩
  obtain ⟨v339, v342, v344, v347, v349, v352, v354, v356, v361, v364, v366, v369, v371, v374, v376, v379, v380⟩ := r
  obtain ⟨F_v342, F_v347, F_v352, F_v364, F_v369, F_v374, F_v379⟩ := hr
  iapply (at_load _) $$ H20
  iintro H20
  iapply (at_load _) $$ H20
  iintro H20
  iapply (at_load _) $$ H20
  iintro H20
  iapply (at_load _) $$ H20
  iintro H20
  iapply (fin_pure _)
  isplitl [H12]; · iexact H12
  isplitl [H20]; · iexact H20
  ipureintro
  exact ⟨F_v364, F_v369, F_v374, F_v379, sums_add R hgo (k0_off52_eq t) F_v337, sums_add R hgo (k0_off53_eq t) F_v342, sums_add R hgo (k0_off54_eq t) F_v347, sums_add R hgo (k0_off55_eq t) F_v352⟩

end Cert.Proof.Seg
-- ==== Proof.PourA.lean ====
/-
  A block of one segment: its rows summed in registers, the sums added to the running table.
-/
module

public import proofs.«01_k».proof.Proof.FastA
public import proofs.«01_k».proof.Proof.Ahead

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem pour0 (v25 : FVec F S16 .f32) (v106 : BitVec 32) (v125 : BitVec 32) (v131 : BitVec 32) (k0_h5 : k0_cond5 v125 v131 = 1#1) {v23 : IVec S16 32} (hv23 : ∀ l : Fin 16, v23 (lane l) = BitVec.ofNat 32 l.val) (hv25 : ∀ l, R.v (v25 (lane l)) = 0)
    {v110 : IVec S16 32} {b : ℕ} (hx : ∀ l : Fin 16, (v110 (lane l)).toNat = b) (hb : b < 64) {go : S80x128.Idx → Elt F .f32} {ob : ℕ → ℕ → M} (hgo : ∀ y, R.v (go y) = ob (y 0).val (y 1).val) {off : ℕ} (h106 : v106.toNat = off) (hoff : off + 80 ≤ 20480)
    (ga : S20480.Idx → Elt F .f32) (A : ℕ → M) :
    iprop(At (thr d i) arg12 fullShare ga ∗ At (thr d i) arg20 fullShare go ∗ (∃ g, ⌜∀ y, R.v (g y) = A (y 0).val⌝ ∗ At (thr d i) arg18 fullShare g) ∗ ∃ g, At (thr d i) arg19 fullShare g)
      ⊢ wp frame (wpE df 𝒱₀ (thr d i) none) Set.univ (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v106 (k0_pay316 (F := F) v23 v110) v125 v131 k0_h5) (fun r =>
        iprop(At (thr d i) arg12 fullShare ga ∗ At (thr d i) arg20 fullShare go
          ∗ (∃ g, ⌜∀ y, R.v (g y) = A (y 0).val + (if (y 0).val / 16 = 8 * b + 0 then ∑ r ∈ Finset.range 80, ob r (16 * 0 + (y 0).val % 16) else 0) + (if (y 0).val / 16 = 8 * b + 1 then ∑ r ∈ Finset.range 80, ob r (16 * 1 + (y 0).val % 16) else 0) + (if (y 0).val / 16 = 8 * b + 2 then ∑ r ∈ Finset.range 80, ob r (16 * 2 + (y 0).val % 16) else 0) + (if (y 0).val / 16 = 8 * b + 3 then ∑ r ∈ Finset.range 80, ob r (16 * 3 + (y 0).val % 16) else 0) + (if (y 0).val / 16 = 8 * b + 4 then ∑ r ∈ Finset.range 80, ob r (16 * 4 + (y 0).val % 16) else 0)⌝ ∗ At (thr d i) arg18 fullShare g) ∗ (∃ g, At (thr d i) arg19 fullShare g)
          ∗ ⌜SumsUp R ob 80 5 r.1 ∧ SumsUp R ob 80 6 r.2.1 ∧ SumsUp R ob 80 7 r.2.2.1 ∧ r.2.2.2.2.2.2.1 = k0_pay138 (k0_pay316 (F := F) v23 v110)⌝)) := by
  rw [k0_part6_eq_skeleton]
  unfold k0_part6_skel
  iintro ⟨H12, H20, ⟨%g, %e, H18⟩, %z, H19⟩
  iapply (loop (thr d i) (fun n a => iprop(At (thr d i) arg12 fullShare ga ∗ At (thr d i) arg20 fullShare go ∗ ⌜RegsOK R ob (4 * n) a⌝))
    (fun t a => fast0 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 _ _ _ _ _ _ hgo h106 hoff ga t a)) $$ [H12 H20]
  · isplitl [H12]; · iexact H12
    isplitl [H20]; · iexact H20
    ipureintro
    have z0 : ∀ j, SumsUp R ob (4 * 0) j v25 := fun j l => (hv25 l).trans (by simp)
    exact ⟨z0 0, z0 1, z0 2, z0 3, z0 4, z0 5, z0 6, z0 7⟩
  iintro %a ⟨H12, H20, %ha⟩
  obtain ⟨a0, a1, a2, a3, a4, a5, a6, a7, a8, a9, a10, a11, a12, a13, a14, a15⟩ := a
  rw [show 4 * k0_t13_loop.trips = 80 by decide] at ha
  obtain ⟨S0, S1, S2, S3, S4, S5, S6, S7⟩ := ha
  iapply (assume_step _)
  isplitr
  · ipureintro; exact fun _ => key_lt hv23 hx hb 0 (by norm_num)
  iintro %_
  iapply (at_scat _ R (8 * b + 0) (fun x => ∑ r ∈ Finset.range 80, ob r (16 * 0 + x))) $$ H18
  isplitr
  · ipureintro; exact ⟨fun l => key_val hv23 hx hb 0 (by norm_num) l, S0⟩
  iintro %g0 ⟨%e0, H18⟩
  iapply (assume_step _)
  isplitr
  · ipureintro; exact fun _ => key_lt hv23 hx hb 0 (by norm_num)
  iintro %_
  iapply (at_scat_any _) $$ H19
  iintro %z0 H19
  iapply (assume_step _)
  isplitr
  · ipureintro; exact fun _ => key_lt hv23 hx hb 1 (by norm_num)
  iintro %_
  iapply (at_scat _ R (8 * b + 1) (fun x => ∑ r ∈ Finset.range 80, ob r (16 * 1 + x))) $$ H18
  isplitr
  · ipureintro; exact ⟨fun l => key_val hv23 hx hb 1 (by norm_num) l, S1⟩
  iintro %g1 ⟨%e1, H18⟩
  iapply (assume_step _)
  isplitr
  · ipureintro; exact fun _ => key_lt hv23 hx hb 1 (by norm_num)
  iintro %_
  iapply (at_scat_any _) $$ H19
  iintro %z1 H19
  iapply (assume_step _)
  isplitr
  · ipureintro; exact fun _ => key_lt hv23 hx hb 2 (by norm_num)
  iintro %_
  iapply (at_scat _ R (8 * b + 2) (fun x => ∑ r ∈ Finset.range 80, ob r (16 * 2 + x))) $$ H18
  isplitr
  · ipureintro; exact ⟨fun l => key_val hv23 hx hb 2 (by norm_num) l, S2⟩
  iintro %g2 ⟨%e2, H18⟩
  iapply (assume_step _)
  isplitr
  · ipureintro; exact fun _ => key_lt hv23 hx hb 2 (by norm_num)
  iintro %_
  iapply (at_scat_any _) $$ H19
  iintro %z2 H19
  iapply (assume_step _)
  isplitr
  · ipureintro; exact fun _ => key_lt hv23 hx hb 3 (by norm_num)
  iintro %_
  iapply (at_scat _ R (8 * b + 3) (fun x => ∑ r ∈ Finset.range 80, ob r (16 * 3 + x))) $$ H18
  isplitr
  · ipureintro; exact ⟨fun l => key_val hv23 hx hb 3 (by norm_num) l, S3⟩
  iintro %g3 ⟨%e3, H18⟩
  iapply (assume_step _)
  isplitr
  · ipureintro; exact fun _ => key_lt hv23 hx hb 3 (by norm_num)
  iintro %_
  iapply (at_scat_any _) $$ H19
  iintro %z3 H19
  iapply (assume_step _)
  isplitr
  · ipureintro; exact fun _ => key_lt hv23 hx hb 4 (by norm_num)
  iintro %_
  iapply (at_scat _ R (8 * b + 4) (fun x => ∑ r ∈ Finset.range 80, ob r (16 * 4 + x))) $$ H18
  isplitr
  · ipureintro; exact ⟨fun l => key_val hv23 hx hb 4 (by norm_num) l, S4⟩
  iintro %g4 ⟨%e4, H18⟩
  iapply (assume_step _)
  isplitr
  · ipureintro; exact fun _ => key_lt hv23 hx hb 4 (by norm_num)
  iintro %_
  iapply (at_scat_any _) $$ H19
  iintro %z4 H19
  iapply (assume_step _)
  isplitr
  · ipureintro; exact fun _ => key_lt hv23 hx hb 5 (by norm_num)
  iintro %_
  iapply (fin_pure _)
  isplitl [H12]; · iexact H12
  isplitl [H20]; · iexact H20
  isplitl [H18]
  · iexists g4
    isplitr
    · ipureintro; intro y
      rw [e4, e3, e2, e1, e0, e]
    iexact H18
  isplitl [H19]; · iexists z4; iexact H19
  ipureintro
  exact ⟨S5, S6, S7, rfl⟩

end Cert.Proof.Seg
-- ==== Proof.SlowA.lean ====
/-
  One row of a block, scattered into the table of sums: the general case, for the first block buffer.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem slow0 (arg0 : BitVec 32)  (v25 : FVec F S16 .f32) (c0_i32_53 : BitVec 32) (c1_i32_56 : BitVec 32) (k0_t12 : Fin (k0_t12_loop i).trips) (v106 : BitVec 32) (v125 : BitVec 32) (v131 : BitVec 32) (k0_h5 : ¬k0_cond5 v125 v131 = 1#1) {v23 : IVec S16 32} (hv23 : ∀ l : Fin 16, v23 (lane l) = BitVec.ofNat 32 l.val)
    {gb : S20480.Idx → BitVec 32} {bt : ℕ → ℕ} (hgb : ∀ y, (gb y).toNat = bt (y 0).val) {go : S80x128.Idx → Elt F .f32} {ob : ℕ → ℕ → M}
    (hgo : ∀ y, R.v (go y) = ob (y 0).val (y 1).val) {off : ℕ} (h106 : v106.toNat = off) (hoff : off + 80 ≤ 20480)
    (hlt : ∀ r < 80, bt (off + r) < 64) (ga : S20480.Idx → Elt F .f32) (A : ℕ → M) (t : Fin k0_t14_loop.trips) (a : BitVec 32) :
    iprop(At (thr d i) arg11 fullShare gb ∗ At (thr d i) arg12 fullShare ga ∗ At (thr d i) arg20 fullShare go
        ∗ (∃ g, ⌜∀ y, R.v (g y) = A (y 0).val + rowsAdd (fun r => bt (off + r)) ob t.val (y 0).val⌝ ∗ At (thr d i) arg18 fullShare g) ∗ ∃ g, At (thr d i) arg19 fullShare g)
      ⊢ wp frame (wpE df 𝒱₀ (thr d i) none) Set.univ (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v23 v25 c0_i32_53 c1_i32_56 k0_t12 v106 v125 v131 k0_h5 t a) (fun _ =>
        iprop(At (thr d i) arg11 fullShare gb ∗ At (thr d i) arg12 fullShare ga ∗ At (thr d i) arg20 fullShare go
          ∗ (∃ g, ⌜∀ y, R.v (g y) = A (y 0).val + rowsAdd (fun r => bt (off + r)) ob (t.val + 1) (y 0).val⌝ ∗ At (thr d i) arg18 fullShare g) ∗ ∃ g, At (thr d i) arg19 fullShare g)) := by
  have ht : t.val < 80 := lt_of_lt_of_eq t.isLt (by decide)
  have hb : bt (off + t.val) < 64 := hlt _ ht
  unfold k0_t14_body
  simp only [k0_part7_eq_skeleton, k0_part8_eq_skeleton]
  unfold k0_part7_skel k0_part8_skel
  iintro ⟨H11, H12, H20, ⟨%g, %e, H18⟩, %z0, H19⟩
  iapply (enter _)
  iapply (assume_step _)
  isplitr
  · ipureintro; exact fun _ => spread_lt _ _ off t.val h106 (iv_toNat _ (by omega)) (by omega)
  iintro %_
  iapply (at_loadIdx _) $$ H12
  iintro H12
  iapply (assume_step _)
  isplitr
  · ipureintro; exact fun _ => spread_lt _ _ off t.val h106 (iv_toNat _ (by omega)) (by omega)
  iintro %_
  iapply (at_loadIdx _) $$ H11
  iintro H11
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 0 (by norm_num)
  iintro %_
  iapply (at_scat _ R (8 * bt (off + t.val) + 0) (fun x => ob t.val (16 * 0 + x))) $$ H18
  isplitr
  · ipureintro; exact ⟨fun l => key_val hv23 (fun l => gather_val hgb (fun l => spread_val _ _ off t.val h106 (iv_toNat _ (by omega)) (by omega) l) _ l) hb 0 (by norm_num) l, fun l => ld_val R hgo t.val 0 (k0_off56_eq t) l⟩
  iintro %g0 ⟨%e0, H18⟩
  iapply (assume_step _)
  isplitr
  · ipureintro; exact fun _ => key_lt hv23 (fun l => gather_val hgb (fun l => spread_val _ _ off t.val h106 (iv_toNat _ (by omega)) (by omega) l) _ l) hb 0 (by norm_num)
  iintro %_
  iapply (at_scat_any _) $$ H19
  iintro %z1 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 1 (by norm_num)
  iintro %_
  iapply (at_scat _ R (8 * bt (off + t.val) + 1) (fun x => ob t.val (16 * 1 + x))) $$ H18
  isplitr
  · ipureintro; exact ⟨fun l => key_val hv23 (fun l => gather_val hgb (fun l => spread_val _ _ off t.val h106 (iv_toNat _ (by omega)) (by omega) l) _ l) hb 1 (by norm_num) l, fun l => ld_val R hgo t.val 1 (k0_off57_eq t) l⟩
  iintro %g1 ⟨%e1, H18⟩
  iapply (assume_step _)
  isplitr
  · ipureintro; exact fun _ => key_lt hv23 (fun l => gather_val hgb (fun l => spread_val _ _ off t.val h106 (iv_toNat _ (by omega)) (by omega) l) _ l) hb 1 (by norm_num)
  iintro %_
  iapply (at_scat_any _) $$ H19
  iintro %z2 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 2 (by norm_num)
  iintro %_
  iapply (at_scat _ R (8 * bt (off + t.val) + 2) (fun x => ob t.val (16 * 2 + x))) $$ H18
  isplitr
  · ipureintro; exact ⟨fun l => key_val hv23 (fun l => gather_val hgb (fun l => spread_val _ _ off t.val h106 (iv_toNat _ (by omega)) (by omega) l) _ l) hb 2 (by norm_num) l, fun l => ld_val R hgo t.val 2 (k0_off58_eq t) l⟩
  iintro %g2 ⟨%e2, H18⟩
  iapply (fin_pure _)
  iapply (enter _)
  iapply (assume_step _)
  isplitr
  · ipureintro; exact fun _ => key_lt hv23 (fun l => gather_val hgb (fun l => spread_val _ _ off t.val h106 (iv_toNat _ (by omega)) (by omega) l) _ l) hb 2 (by norm_num)
  iintro %_
  iapply (at_scat_any _) $$ H19
  iintro %z3 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 3 (by norm_num)
  iintro %_
  iapply (at_scat _ R (8 * bt (off + t.val) + 3) (fun x => ob t.val (16 * 3 + x))) $$ H18
  isplitr
  · ipureintro; exact ⟨fun l => key_val hv23 (fun l => gather_val hgb (fun l => spread_val _ _ off t.val h106 (iv_toNat _ (by omega)) (by omega) l) _ l) hb 3 (by norm_num) l, fun l => ld_val R hgo t.val 3 (k0_off59_eq t) l⟩
  iintro %g3 ⟨%e3, H18⟩
  iapply (assume_step _)
  isplitr
  · ipureintro; exact fun _ => key_lt hv23 (fun l => gather_val hgb (fun l => spread_val _ _ off t.val h106 (iv_toNat _ (by omega)) (by omega) l) _ l) hb 3 (by norm_num)
  iintro %_
  iapply (at_scat_any _) $$ H19
  iintro %z4 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 4 (by norm_num)
  iintro %_
  iapply (at_scat _ R (8 * bt (off + t.val) + 4) (fun x => ob t.val (16 * 4 + x))) $$ H18
  isplitr
  · ipureintro; exact ⟨fun l => key_val hv23 (fun l => gather_val hgb (fun l => spread_val _ _ off t.val h106 (iv_toNat _ (by omega)) (by omega) l) _ l) hb 4 (by norm_num) l, fun l => ld_val R hgo t.val 4 (k0_off60_eq t) l⟩
  iintro %g4 ⟨%e4, H18⟩
  iapply (assume_step _)
  isplitr
  · ipureintro; exact fun _ => key_lt hv23 (fun l => gather_val hgb (fun l => spread_val _ _ off t.val h106 (iv_toNat _ (by omega)) (by omega) l) _ l) hb 4 (by norm_num)
  iintro %_
  iapply (at_scat_any _) $$ H19
  iintro %z5 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 5 (by norm_num)
  iintro %_
  iapply (at_scat _ R (8 * bt (off + t.val) + 5) (fun x => ob t.val (16 * 5 + x))) $$ H18
  isplitr
  · ipureintro; exact ⟨fun l => key_val hv23 (fun l => gather_val hgb (fun l => spread_val _ _ off t.val h106 (iv_toNat _ (by omega)) (by omega) l) _ l) hb 5 (by norm_num) l, fun l => ld_val R hgo t.val 5 (k0_off61_eq t) l⟩
  iintro %g5 ⟨%e5, H18⟩
  iapply (assume_step _)
  isplitr
  · ipureintro; exact fun _ => key_lt hv23 (fun l => gather_val hgb (fun l => spread_val _ _ off t.val h106 (iv_toNat _ (by omega)) (by omega) l) _ l) hb 5 (by norm_num)
  iintro %_
  iapply (at_scat_any _) $$ H19
  iintro %z6 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 6 (by norm_num)
  iintro %_
  iapply (at_scat _ R (8 * bt (off + t.val) + 6) (fun x => ob t.val (16 * 6 + x))) $$ H18
  isplitr
  · ipureintro; exact ⟨fun l => key_val hv23 (fun l => gather_val hgb (fun l => spread_val _ _ off t.val h106 (iv_toNat _ (by omega)) (by omega) l) _ l) hb 6 (by norm_num) l, fun l => ld_val R hgo t.val 6 (k0_off62_eq t) l⟩
  iintro %g6 ⟨%e6, H18⟩
  iapply (fin_pure _)
  iapply (assume_step _)
  isplitr
  · ipureintro; exact fun _ => key_lt hv23 (fun l => gather_val hgb (fun l => spread_val _ _ off t.val h106 (iv_toNat _ (by omega)) (by omega) l) _ l) hb 6 (by norm_num)
  iintro %_
  iapply (at_scat_any _) $$ H19
  iintro %z7 H19
  iapply (at_load _) $$ H20
  iintro H20
  iapply (assume_step _)
  isplitr
  · ipureintro; exact fun _ => key_lt hv23 (fun l => gather_val hgb (fun l => spread_val _ _ off t.val h106 (iv_toNat _ (by omega)) (by omega) l) _ l) hb 7 (by norm_num)
  iintro %_
  iapply (at_scat _ R (8 * bt (off + t.val) + 7) (fun x => ob t.val (16 * 7 + x))) $$ H18
  isplitr
  · ipureintro; exact ⟨fun l => key_val hv23 (fun l => gather_val hgb (fun l => spread_val _ _ off t.val h106 (iv_toNat _ (by omega)) (by omega) l) _ l) hb 7 (by norm_num) l, fun l => ld_val R hgo t.val 7 (k0_off63_eq t) l⟩
  iintro %g7 ⟨%e7, H18⟩
  iapply (assume_step _)
  isplitr
  · ipureintro; exact fun _ => key_lt hv23 (fun l => gather_val hgb (fun l => spread_val _ _ off t.val h106 (iv_toNat _ (by omega)) (by omega) l) _ l) hb 7 (by norm_num)
  iintro %_
  iapply (at_scat_any _) $$ H19
  iintro %z8 H19
  iapply (fin_pure _)
  isplitl [H11]; · iexact H11
  isplitl [H12]; · iexact H12
  isplitl [H20]; · iexact H20
  isplitl [H18]
  · iexists g7
    isplitr
    · ipureintro; intro y
      rw [e7, e6, e5, e4, e3, e2, e1, e0, e, rowsAdd_succ, ← add_assoc]
      exact row8 _ _ _ _
    iexact H18
  iexists z8
  iexact H19

end Cert.Proof.Seg
-- ==== Proof.BlockA.lean ====
/-
  A block of rows added to the running table, whether of one segment or of several: the first buffer.
-/
module

public import proofs.«01_k».proof.Proof.PourA
public import proofs.«01_k».proof.Proof.SlowA

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem blk0 {α : Type} {Q : α → sProp (MT nD τ sig (HIx 2) (Elt F) ℕ UU ℕ)} {jp : BitVec 32 → Prog (TpuEff nD τ sig (Elt F) Λ₀ (.scVector ((i 0).castLE hcore0) ((i 1).castLE hsub0))) α} (arg0 : BitVec 32) (c0_i32_53 : BitVec 32) (c1_i32_56 : BitVec 32) (k0_t12 : Fin (k0_t12_loop i).trips) {v106 : BitVec 32} {v23 : IVec S16 32} (hv23 : ∀ l : Fin 16, v23 (lane l) = BitVec.ofNat 32 l.val) {v25 : FVec F S16 .f32} (hv25 : ∀ l, R.v (v25 (lane l)) = 0)
    {gb : S20480.Idx → BitVec 32} {bt : ℕ → ℕ} (hgb : ∀ y, (gb y).toNat = bt (y 0).val) (hsort : ∀ x y, x ≤ y → y < 20480 → bt x ≤ bt y)
    {go : S80x128.Idx → Elt F .f32} {ob : ℕ → ℕ → M} (hgo : ∀ y, R.v (go y) = ob (y 0).val (y 1).val) {off : ℕ} (h106 : v106.toNat = off) (hoff : off + 80 ≤ 20480)
    (hlt : ∀ r < 80, bt (off + r) < 64) {v110 : IVec S16 32} (hx : ∀ l : Fin 16, (v110 (lane l)).toNat = bt off)
    {v125 v131 : BitVec 32} (ha : v125.toNat = bt off) (hz : v131.toNat = bt (off + 79))
    (ga : S20480.Idx → Elt F .f32) (A : ℕ → M) :
    iprop(At (thr d i) arg11 fullShare gb ∗ At (thr d i) arg12 fullShare ga ∗ At (thr d i) arg20 fullShare go ∗ (∃ g, ⌜∀ y, R.v (g y) = A (y 0).val⌝ ∗ At (thr d i) arg18 fullShare g) ∗ (∃ g, At (thr d i) arg19 fullShare g))
      ⊢ iprop((∀ r, iprop(At (thr d i) arg11 fullShare gb ∗ At (thr d i) arg12 fullShare ga ∗ At (thr d i) arg20 fullShare go ∗ (∃ g, ⌜∀ y, R.v (g y) = A (y 0).val + rowsAdd (fun r => bt (off + r)) ob 80 (y 0).val⌝ ∗ At (thr d i) arg18 fullShare g) ∗ (∃ g, At (thr d i) arg19 fullShare g)) -∗ wp frame (wpE df 𝒱₀ (thr d i) none) Set.univ (jp r) Q)
        -∗ wp frame (wpE df 𝒱₀ (thr d i) none) Set.univ (do
      let vout : BitVec 32 ←
        if k0_h5 : k0_cond5 v125 v131 = 1#1 then do
            let ⟨v181_5, v181_6, v181_7, v181_13, v181_14, v181_15, v203, k0_hw27⟩ : Σ' (v181_5 : FVec F S16 .f32) (v181_6 : FVec F S16 .f32) (v181_7 : FVec F S16 .f32) (v181_13 : FVec F S16 .f32) (v181_14 : FVec F S16 .f32) (v181_15 : FVec F S16 .f32) (v203 : IVec S16 32), k0_chk27 v125 v131 v203 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v106 (k0_pay316 (F := F) v23 v110) v125 v131 k0_h5
            SparseCore.vectorStoreIdx arg18 ![v203] v181_5 (fun _ => 1#1) true (k0_idx31_inb v125 v131 v203 k0_hw27 k0_h5) (View.stores_vmem_bits_univ h_S8192 rfl)
            have v205 : IVec S16 32 := k0_pay319 (F := F) v23 v110
            have k0_hw28 : k0_chk28 v125 v131 v205 := (← Prog.lift (TpuEff.assume (k0_chk28 v125 v131 v205) (k0_chk28.dec v125 v131 v205))).down
            SparseCore.vectorStoreIdx arg19 ![v205] v181_13 (fun _ => 1#1) true (k0_idx32_inb v125 v131 v205 k0_hw28 k0_h5) (View.stores_vmem_bits_univ h_S8192 rfl)
            have v207 : IVec S16 32 := k0_pay320 (F := F) v23 v110
            have k0_hw29 : k0_chk29 v125 v131 v207 := (← Prog.lift (TpuEff.assume (k0_chk29 v125 v131 v207) (k0_chk29.dec v125 v131 v207))).down
            SparseCore.vectorStoreIdx arg18 ![v207] v181_6 (fun _ => 1#1) true (k0_idx33_inb v125 v131 v207 k0_hw29 k0_h5) (View.stores_vmem_bits_univ h_S8192 rfl)
            have v209 : IVec S16 32 := k0_pay321 (F := F) v23 v110
            have k0_hw30 : k0_chk30 v125 v131 v209 := (← Prog.lift (TpuEff.assume (k0_chk30 v125 v131 v209) (k0_chk30.dec v125 v131 v209))).down
            SparseCore.vectorStoreIdx arg19 ![v209] v181_14 (fun _ => 1#1) true (k0_idx34_inb v125 v131 v209 k0_hw30 k0_h5) (View.stores_vmem_bits_univ h_S8192 rfl)
            have v211 : IVec S16 32 := k0_pay322 (F := F) v23 v110
            have k0_hw31 : k0_chk31 v125 v131 v211 := (← Prog.lift (TpuEff.assume (k0_chk31 v125 v131 v211) (k0_chk31.dec v125 v131 v211))).down
            SparseCore.vectorStoreIdx arg18 ![v211] v181_7 (fun _ => 1#1) true (k0_idx35_inb v125 v131 v211 k0_hw31 k0_h5) (View.stores_vmem_bits_univ h_S8192 rfl)
            have v213 : IVec S16 32 := k0_pay323 (F := F) v23 v110
            have k0_hw32 : k0_chk32 v125 v131 v213 := (← Prog.lift (TpuEff.assume (k0_chk32 v125 v131 v213) (k0_chk32.dec v125 v131 v213))).down
            SparseCore.vectorStoreIdx arg19 ![v213] v181_15 (fun _ => 1#1) true (k0_idx36_inb v125 v131 v213 k0_hw32 k0_h5) (View.stores_vmem_bits_univ h_S8192 rfl)
            pure 0#32
          else do
            let v181 : BitVec 32 ← Scf.Loop.for k0_t14_loop k0_t14_ok 0#32 (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v23 v25 c0_i32_53 c1_i32_56 k0_t12 v106 v125 v131 k0_h5)
            pure 0#32
      jp vout) Q) := by
  by_cases k0_h5 : k0_cond5 v125 v131 = 1#1
  · simp only [dif_pos k0_h5]
    have hev : ∀ r < 80, bt (off + r) = bt off := fun r hr => by
      have h0 := hsort off (off + r) (by omega) (by omega)
      have h1 := hsort (off + r) (off + 79) (by omega) (by omega)
      have h2 : v125 = v131 := cond5_eq _ _ k0_h5
      rw [← hz, ← h2, ha] at h1
      omega
    have hb : bt off < 64 := by simpa using hlt 0 (by norm_num)
    have hro : ∀ y, rowsAdd (fun r => bt (off + r)) ob 80 y = if bt off = y / 128 then ∑ r ∈ Finset.range 80, ob r (y % 128) else 0 := fun y => by
      rw [rowsAdd_const _ _ _ _ _ hev]; simp only [eq_comm]
    generalize bt off = b at *
    iintro ⟨H11, H12, H20, H18, H19⟩ Hk
    iapply (run _ (pour0 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v106 v125 v131 k0_h5 hv23 hv25 hx hb hgo h106 hoff ga A)) $$ [H12 H20 H18 H19]
    · isplitl [H12]; · iexact H12
      isplitl [H20]; · iexact H20
      isplitl [H18]; · iexact H18
      iexact H19
    iintro %r ⟨H12, H20, ⟨%g4, %e, H18⟩, ⟨%z4, H19⟩, %hr⟩
    obtain ⟨v5, v6, v7, v13, v14, v15, v203, hw⟩ := r
    obtain ⟨S5, S6, S7, hv⟩ := hr
    change v203 = _ at hv
    subst hv
    iapply (at_scat _ R (8 * b + 5) (fun x => ∑ r ∈ Finset.range 80, ob r (16 * 5 + x))) $$ H18
    isplitr
    · ipureintro; exact ⟨fun l => key_val hv23 hx hb 5 (by norm_num) l, S5⟩
    iintro %g5 ⟨%e5, H18⟩
    iapply (assume_step _)
    isplitr
    · ipureintro; exact fun _ => key_lt hv23 hx hb 5 (by norm_num)
    iintro %_
    iapply (at_scat_any _) $$ H19
    iintro %z5 H19
    iapply (assume_step _)
    isplitr
    · ipureintro; exact fun _ => key_lt hv23 hx hb 6 (by norm_num)
    iintro %_
    iapply (at_scat _ R (8 * b + 6) (fun x => ∑ r ∈ Finset.range 80, ob r (16 * 6 + x))) $$ H18
    isplitr
    · ipureintro; exact ⟨fun l => key_val hv23 hx hb 6 (by norm_num) l, S6⟩
    iintro %g6 ⟨%e6, H18⟩
    iapply (assume_step _)
    isplitr
    · ipureintro; exact fun _ => key_lt hv23 hx hb 6 (by norm_num)
    iintro %_
    iapply (at_scat_any _) $$ H19
    iintro %z6 H19
    iapply (assume_step _)
    isplitr
    · ipureintro; exact fun _ => key_lt hv23 hx hb 7 (by norm_num)
    iintro %_
    iapply (at_scat _ R (8 * b + 7) (fun x => ∑ r ∈ Finset.range 80, ob r (16 * 7 + x))) $$ H18
    isplitr
    · ipureintro; exact ⟨fun l => key_val hv23 hx hb 7 (by norm_num) l, S7⟩
    iintro %g7 ⟨%e7, H18⟩
    iapply (assume_step _)
    isplitr
    · ipureintro; exact fun _ => key_lt hv23 hx hb 7 (by norm_num)
    iintro %_
    iapply (at_scat_any _) $$ H19
    iintro %z7 H19
    iapply (run_pure _)
    iapply Hk
    isplitl [H11]; · iexact H11
    isplitl [H12]; · iexact H12
    isplitl [H20]; · iexact H20
    isplitl [H18]
    · iexists g7
      isplitr
      · ipureintro; intro y
        rw [e7, e6, e5, e, hro]
        exact row8 (A (y 0).val) b (y 0).val (fun x => ∑ r ∈ Finset.range 80, ob r x)
      iexact H18
    iexists z7; iexact H19
  · simp only [dif_neg k0_h5]
    iintro ⟨H11, H12, H20, ⟨%g, %e, H18⟩, H19⟩ Hk
    iapply (loop (thr d i) (fun n _ => iprop(At (thr d i) arg11 fullShare gb ∗ At (thr d i) arg12 fullShare ga ∗ At (thr d i) arg20 fullShare go ∗ (∃ g, ⌜∀ y, R.v (g y) = A (y 0).val + rowsAdd (fun r => bt (off + r)) ob n (y 0).val⌝ ∗ At (thr d i) arg18 fullShare g) ∗ (∃ g, At (thr d i) arg19 fullShare g)))
      (fun t a => slow0 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 v25 c0_i32_53 c1_i32_56 k0_t12 v106 _ _ k0_h5 hv23 hgb hgo h106 hoff hlt ga A t a)) $$ [H11 H12 H20 H18 H19]
    · isplitl [H11]; · iexact H11
      isplitl [H12]; · iexact H12
      isplitl [H20]; · iexact H20
      isplitl [H18]
      · iexists g
        isplitr
        · ipureintro; intro y; rw [e, rowsAdd_zero, add_zero]
        iexact H18
      iexact H19
    iintro %a ⟨H11, H12, H20, ⟨%g2, %e2, H18⟩, H19⟩
    iapply (run_pure _)
    iapply Hk
    isplitl [H11]; · iexact H11
    isplitl [H12]; · iexact H12
    isplitl [H20]; · iexact H20
    isplitl [H18]
    · iexists g2
      isplitr
      · ipureintro; exact e2
      iexact H18
    iexact H19

end Cert.Proof.Seg
-- ==== Proof.TurnA.lean ====
/-
  The first half of a turn of the row loop, and the reading of the second block.
-/
module

public import proofs.«01_k».proof.Proof.BlockA

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

/-- The first block of a turn: awaited, and its rows added. -/
theorem turn0 {v23 : IVec S16 32} (hv23 : ∀ l : Fin 16, v23 (lane l) = BitVec.ofNat 32 l.val) {v25 : FVec F S16 .f32} (hv25 : ∀ l, R.v (v25 (lane l)) = 0)
    {gb : S20480.Idx → BitVec 32} {bt : ℕ → ℕ} (hgb : ∀ y, (gb y).toNat = bt (y 0).val) (hsort : ∀ x y, x ≤ y → y < 20480 → bt x ≤ bt y)
    {OB : S320000x128.Idx → Elt F .f32} {obs : ℕ → ℕ → M} (ga : S20480.Idx → Elt F .f32) (A : ℕ → M)
    {O : CellTallies nD τ sig (HIx 2)} {W : Waits sig (HIx 2)}  {q : PosShare TreeShare} (n : ℕ) (t : Fin (k0_t12_loop i).trips)
    (hlt : ∀ r < 80, bt (10240 * (i 0).val + 160 * t.val + r) < 64) :
    iprop(Coming (F := F) (thr d i) arg20 arg24.sem (Chunk R (thr d i) arg20 arg4 q OB obs (n)) ∗ Ow (F := F) (thr d i) O W ∗ Transfers.MayWaits (thr d i) (none : HIx 2) O
        ∗ At (thr d i) arg11 fullShare gb ∗ At (thr d i) arg12 fullShare ga ∗ (∃ g, ⌜∀ y, R.v (g y) = A (y 0).val⌝ ∗ At (thr d i) arg18 fullShare g) ∗ (∃ g, At (thr d i) arg19 fullShare g))
      ⊢ wp frame (wpE df 𝒱₀ (thr d i) none) Set.univ (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v23 v25 0#32 1#32 t) (fun r =>
        iprop(Idle (F := F) (thr d i) arg20 arg24.sem arg4 q OB ∗ Ow (F := F) (thr d i) O W
        ∗ At (thr d i) arg11 fullShare gb ∗ At (thr d i) arg12 fullShare ga
        ∗ (∃ g, ⌜∀ y, R.v (g y) = A (y 0).val + rowsAdd (fun r => bt (10240 * (i 0).val + 160 * t.val + r)) (fun r => obs (n + r)) 80 (y 0).val⌝ ∗ At (thr d i) arg18 fullShare g) ∗ (∃ g, At (thr d i) arg19 fullShare g)
        ∗ ⌜r.1 = Scf.iv 0#32 1#32 t.val⌝)) := by
  have hi0 : (i 0).val < 2 := (i 0).isLt
  have ht : t.val < 64 := lt_of_lt_of_le t.isLt (k0_t12_abs i).2.1
  have h106 := off0_val (i 0).val t.val hi0 ht
  rw [k0_part16_eq_skeleton]
  unfold k0_part16_skel
  iintro ⟨HC, HO, Hm, H11, H12, H18, H19⟩
  iapply (await _) $$ [HC HO Hm]
  · isplitl [HC]; · iexact HC
    isplitl [HO]; · iexact HO
    iexact Hm
  unfold Chunk
  iintro ⟨⟨⟨%go, %hgo, H20⟩, H4⟩, Hs, HO⟩
  iapply (assume_step _)
  isplitr
  · ipureintro; exact bcast_lt _ _ h106 (by omega)
  iintro %h11
  iapply (at_loadIdx _) $$ H11
  iintro H11
  iapply (assume_step _)
  isplitr
  · ipureintro; exact bcast_lt _ _ (last_val h106 (by omega)) (by omega)
  iintro %h12
  iapply (at_loadIdx _) $$ H11
  iintro H11
  have hx := fun l => gather_val (F := F) hgb (bcast_val _ _ h106) h11 l
  have hz := fun l => gather_val (F := F) hgb (bcast_val _ _ (last_val h106 (by omega))) h12 l
  iapply (blk0 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) 0#32 1#32 t hv23 hv25 hgb hsort (ob := fun r => obs (n + r)) hgo h106 (by omega) hlt hx
    (ends_val hx _) (ends_val hz _) ga A) $$ [H11 H12 H20 H18 H19]
  · isplitl [H11]; · iexact H11
    isplitl [H12]; · iexact H12
    isplitl [H20]; · iexact H20
    isplitl [H18]; · iexact H18
    iexact H19
  iintro %r ⟨H11, H12, H20, H18, H19⟩
  iapply (fin_pure _)
  isplitl [H20 H4 Hs]
  · unfold Idle
    isplitl [H20]; · iexists go; iexact H20
    isplitl [H4]; · iexact H4
    iexact Hs
  isplitl [HO]; · iexact HO
  isplitl [H11]; · iexact H11
  isplitl [H12]; · iexact H12
  isplitl [H18]; · iexact H18
  isplitl [H19]; · iexact H19
  ipureintro; rfl

/-- The next block sent for; the second block of the turn awaited, its first and last segments read. -/
theorem mid {v23 : IVec S16 32} (hv23 : ∀ l : Fin 16, v23 (lane l) = BitVec.ofNat 32 l.val) {v25 : FVec F S16 .f32} (hv25 : ∀ l, R.v (v25 (lane l)) = 0)
    {gb : S20480.Idx → BitVec 32} {bt : ℕ → ℕ} (hgb : ∀ y, (gb y).toNat = bt (y 0).val) (hsort : ∀ x y, x ≤ y → y < 20480 → bt x ≤ bt y)
    {OB : S320000x128.Idx → Elt F .f32} {obs : ℕ → ℕ → M} (ga : S20480.Idx → Elt F .f32) (A : ℕ → M)
    {O : CellTallies nD τ sig (HIx 2)} {W : Waits sig (HIx 2)}  {q q' : PosShare TreeShare} (hOB : ∀ y, R.v (OB y) = obs (y 0).val (y 1).val) (n : ℕ) (t : Fin (k0_t12_loop i).trips) (v2 v22 v101 c2_i32_87 : BitVec 32) :
    iprop(Idle (F := F) (thr d i) arg20 arg24.sem arg4 q OB ∗ Coming (F := F) (thr d i) arg21 arg25.sem (Chunk R (thr d i) arg21 arg4 q' OB obs (n)) ∗ Ow (F := F) (thr d i) O W ∗ Transfers.MayWaits (thr d i) (none : HIx 2) O
        ∗ At (thr d i) arg11 fullShare gb)
      ⊢ wp frame (wpE df 𝒱₀ (thr d i) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 t (Scf.iv 0#32 1#32 t.val) v101 c2_i32_87) (fun r =>
        iprop((if t.val + 1 < (k0_t12_loop i).trips then Coming (F := F) (thr d i) arg20 arg24.sem (Chunk R (thr d i) arg20 arg4 q OB obs (20480 * (i 1).val + 10240 * (i 0).val + 160 * t.val + 160)) else Idle (F := F) (thr d i) arg20 arg24.sem arg4 q OB) ∗ Chunk R (thr d i) arg21 arg4 q' OB obs n ∗ semVal ((thr d i), .dma arg25.sem) 0 ∗ Ow (F := F) (thr d i) O W
        ∗ At (thr d i) arg11 fullShare gb
        ∗ ⌜r.2.1.toNat = 10240 * (i 0).val + 160 * t.val + 80 ∧ r.2.2.2.1.toNat = bt (10240 * (i 0).val + 160 * t.val + 80) ∧ r.2.2.2.2.1.toNat = bt (10240 * (i 0).val + 160 * t.val + 80 + 79)
          ∧ ∃ v150 : IVec S16 32, r.2.2.1 = k0_pay331 (F := F) v23 v150 ∧ ∀ l : Fin 16, (v150 (lane l)).toNat = bt (10240 * (i 0).val + 160 * t.val + 80)⌝)) := by
  have hi0 : (i 0).val < 2 := (i 0).isLt
  have ht : t.val < 64 := lt_of_lt_of_le t.isLt (k0_t12_abs i).2.1
  have h106 := off1_val (i 0).val t.val hi0 ht
  rw [k0_part17_eq_skeleton]
  unfold k0_part17_skel
  by_cases k0_h6 : k0_cond6 i t = 1#1
  · have hm := (more6 i t).1 k0_h6
    iintro ⟨HI, HC, HO, Hm, H11⟩
    iapply (if_yes _ k0_h6)
    iapply (issue R _ hOB (20480 * (i 1).val + 10240 * (i 0).val + 160 * t.val + 160) (k0_off64_eq i t)) $$ HI
    iintro HN
    iapply (await _) $$ [HC HO Hm]
    · isplitl [HC]; · iexact HC
      isplitl [HO]; · iexact HO
      iexact Hm
    iintro ⟨HC, Hs, HO⟩
    iapply (assume_step _)
    isplitr
    · ipureintro; exact bcast_lt _ _ h106 (by omega)
    iintro %h11
    iapply (at_loadIdx _) $$ H11
    iintro H11
    iapply (assume_step _)
    isplitr
    · ipureintro; exact bcast_lt _ _ (last_val h106 (by omega)) (by omega)
    iintro %h12
    iapply (at_loadIdx _) $$ H11
    iintro H11
    have hx := fun l => gather_val (F := F) hgb (bcast_val _ _ h106) h11 l
    have hz := fun l => gather_val (F := F) hgb (bcast_val _ _ (last_val h106 (by omega))) h12 l
    iapply (fin_pure _)
    rw [if_pos hm]
    isplitl [HN]; · iexact HN
    isplitl [HC]; · iexact HC
    isplitl [Hs]; · iexact Hs
    isplitl [HO]; · iexact HO
    isplitl [H11]; · iexact H11
    ipureintro
    exact ⟨h106, ends_val hx _, ends_val hz _, _, rfl, hx⟩
  · have hm : ¬ (t.val + 1 < (k0_t12_loop i).trips) := fun h => k0_h6 ((more6 i t).2 h)
    iintro ⟨HN, HC, HO, Hm, H11⟩
    iapply (if_no _ k0_h6)
    iapply (await _) $$ [HC HO Hm]
    · isplitl [HC]; · iexact HC
      isplitl [HO]; · iexact HO
      iexact Hm
    iintro ⟨HC, Hs, HO⟩
    iapply (assume_step _)
    isplitr
    · ipureintro; exact bcast_lt _ _ h106 (by omega)
    iintro %h11
    iapply (at_loadIdx _) $$ H11
    iintro H11
    iapply (assume_step _)
    isplitr
    · ipureintro; exact bcast_lt _ _ (last_val h106 (by omega)) (by omega)
    iintro %h12
    iapply (at_loadIdx _) $$ H11
    iintro H11
    have hx := fun l => gather_val (F := F) hgb (bcast_val _ _ h106) h11 l
    have hz := fun l => gather_val (F := F) hgb (bcast_val _ _ (last_val h106 (by omega))) h12 l
    iapply (fin_pure _)
    rw [if_neg hm]
    isplitl [HN]; · iexact HN
    isplitl [HC]; · iexact HC
    isplitl [Hs]; · iexact Hs
    isplitl [HO]; · iexact HO
    isplitl [H11]; · iexact H11
    ipureintro
    exact ⟨h106, ends_val hx _, ends_val hz _, _, rfl, hx⟩

end Cert.Proof.Seg
-- ==== Proof.FastB.lean ====
/-
  Four rows of a block of one segment, added to the running sums: the second block buffer.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem fast1_k0_part9 {v146 : BitVec 32} {v165 : BitVec 32} {v171 : BitVec 32} {k0_h7 : k0_cond7 v165 v171 = 1#1} {arg29 : FVec F S16 .f32} {arg30 : FVec F S16 .f32} {arg31 : FVec F S16 .f32} {arg32 : FVec F S16 .f32} {arg33 : FVec F S16 .f32} {arg34 : FVec F S16 .f32} {arg35 : FVec F S16 .f32} {arg37 : FVec F S16 .f32} {arg38 : FVec F S16 .f32} {arg39 : FVec F S16 .f32} {arg40 : FVec F S16 .f32} {arg41 : FVec F S16 .f32} {arg42 : FVec F S16 .f32}
    {go : S80x128.Idx → Elt F .f32} {ob : ℕ → ℕ → M} (hgo : ∀ y, R.v (go y) = ob (y 0).val (y 1).val) {off : ℕ} (h106 : v146.toNat = off) (hoff : off + 80 ≤ 20480)
    (ga : S20480.Idx → Elt F .f32) (t : Fin k0_t15_loop.trips) (F_arg29 : SumsUp R ob (4 * t.val) 0 arg29) (F_arg30 : SumsUp R ob (4 * t.val) 1 arg30) (F_arg31 : SumsUp R ob (4 * t.val) 2 arg31) (F_arg32 : SumsUp R ob (4 * t.val) 3 arg32) (F_arg33 : SumsUp R ob (4 * t.val) 4 arg33) (F_arg34 : SumsUp R ob (4 * t.val) 5 arg34) (F_arg35 : SumsUp R ob (4 * t.val) 6 arg35) :
    iprop(At (thr d i) arg12 fullShare ga ∗ At (thr d i) arg21 fullShare go)
      ⊢ wp frame (wpE df 𝒱₀ (thr d i) none) Set.univ (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v146 v165 v171 k0_h7 0#32 1#32 t arg29 arg30 arg31 arg32 arg33 arg34 arg35 arg37 arg38 arg39 arg40 arg41 arg42) (fun r =>
        iprop(At (thr d i) arg12 fullShare ga ∗ At (thr d i) arg21 fullShare go ∗ ⌜r.1 = Scf.iv 0#32 1#32 t.val ∧ SumsUp R ob (4 * t.val + 1) 0 r.2.2.2.1 ∧ SumsUp R ob (4 * t.val + 1) 1 r.2.2.2.2.2.1 ∧ SumsUp R ob (4 * t.val + 1) 2 r.2.2.2.2.2.2.2.1 ∧ SumsUp R ob (4 * t.val + 1) 3 r.2.2.2.2.2.2.2.2.2.1 ∧ SumsUp R ob (4 * t.val + 1) 4 r.2.2.2.2.2.2.2.2.2.2.2.1 ∧ SumsUp R ob (4 * t.val + 1) 5 r.2.2.2.2.2.2.2.2.2.2.2.2.2.1 ∧ SumsUp R ob (4 * t.val + 1) 6 r.2.2.2.2.2.2.2.2.2.2.2.2.2.2.2.1⌝)) := by
  have ht : t.val < 20 := lt_of_lt_of_eq t.isLt (by decide)
  skip
  rw [k0_part9_eq_skeleton]
  unfold k0_part9_skel
  iintro ⟨H12, H21⟩
  iapply (assume_step _)
  isplitr
  · ipureintro; exact fun _ => spread_lt _ _ off (4 * t.val + 0) h106 (iv4_toNat _ 0 ht (by norm_num)) (by omega)
  iintro %_
  iapply (at_loadIdx _) $$ H12
  iintro H12
  iapply (at_load _) $$ H21
  iintro H21
  iapply (at_load _) $$ H21
  iintro H21
  iapply (at_load _) $$ H21
  iintro H21
  iapply (at_load _) $$ H21
  iintro H21
  iapply (at_load _) $$ H21
  iintro H21
  iapply (at_load _) $$ H21
  iintro H21
  iapply (at_load _) $$ H21
  iintro H21
  iapply (fin_pure _)
  isplitl [H12]; · iexact H12
  isplitl [H21]; · iexact H21
  ipureintro
  exact ⟨rfl, sums_add R hgo (k0_off65_eq t) F_arg29, sums_add R hgo (k0_off66_eq t) F_arg30, sums_add R hgo (k0_off67_eq t) F_arg31, sums_add R hgo (k0_off68_eq t) F_arg32, sums_add R hgo (k0_off69_eq t) F_arg33, sums_add R hgo (k0_off70_eq t) F_arg34, sums_add R hgo (k0_off71_eq t) F_arg35⟩

theorem fast1_k0_part10 {v146 : BitVec 32} {v165 : BitVec 32} {v171 : BitVec 32} {k0_h7 : k0_cond7 v165 v171 = 1#1} {arg36 : FVec F S16 .f32} {arg43 : FVec F S16 .f32} {arg44 : FVec F S16 .f32} {arg28 : BitVec 32} {v215 : BitVec 32} {v220 : Vec F S16 .f32} {v223 : FVec F S16 .f32} {v225 : FVec F S16 .f32} {v228 : FVec F S16 .f32} {v230 : FVec F S16 .f32} {v233 : FVec F S16 .f32} {v235 : FVec F S16 .f32} {v238 : FVec F S16 .f32} {v240 : FVec F S16 .f32} {v243 : FVec F S16 .f32} {v245 : FVec F S16 .f32} {v248 : FVec F S16 .f32} {v254 : FVec F S16 .f32}
    {go : S80x128.Idx → Elt F .f32} {ob : ℕ → ℕ → M} (hgo : ∀ y, R.v (go y) = ob (y 0).val (y 1).val) {off : ℕ} (h106 : v146.toNat = off) (hoff : off + 80 ≤ 20480)
    (ga : S20480.Idx → Elt F .f32) (t : Fin k0_t15_loop.trips) (h28 : arg28 = Scf.iv 0#32 1#32 t.val) (F_arg36 : SumsUp R ob (4 * t.val) 7 arg36) (F_v223 : SumsUp R ob (4 * t.val + 1) 0 v223) (F_v228 : SumsUp R ob (4 * t.val + 1) 1 v228) (F_v233 : SumsUp R ob (4 * t.val + 1) 2 v233) (F_v238 : SumsUp R ob (4 * t.val + 1) 3 v238) (F_v243 : SumsUp R ob (4 * t.val + 1) 4 v243) (F_v248 : SumsUp R ob (4 * t.val + 1) 5 v248) :
    iprop(At (thr d i) arg12 fullShare ga ∗ At (thr d i) arg21 fullShare go)
      ⊢ wp frame (wpE df 𝒱₀ (thr d i) none) Set.univ (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v146 v165 v171 k0_h7 t arg36 arg43 arg44 arg28 v215 v220 v223 v225 v228 v230 v233 v235 v238 v240 v243 v245 v248 v254) (fun r =>
        iprop(At (thr d i) arg12 fullShare ga ∗ At (thr d i) arg21 fullShare go ∗ ⌜SumsUp R ob (4 * t.val + 1) 7 r.2.1 ∧ SumsUp R ob (4 * t.val + 2) 0 r.2.2.2.2.2.1 ∧ SumsUp R ob (4 * t.val + 2) 1 r.2.2.2.2.2.2.2.1 ∧ SumsUp R ob (4 * t.val + 2) 2 r.2.2.2.2.2.2.2.2.2.1 ∧ SumsUp R ob (4 * t.val + 2) 3 r.2.2.2.2.2.2.2.2.2.2.2.1 ∧ SumsUp R ob (4 * t.val + 2) 4 r.2.2.2.2.2.2.2.2.2.2.2.2.2.1 ∧ SumsUp R ob (4 * t.val + 2) 5 r.2.2.2.2.2.2.2.2.2.2.2.2.2.2.2.1⌝)) := by
  have ht : t.val < 20 := lt_of_lt_of_eq t.isLt (by decide)
  subst h28
  rw [k0_part10_eq_skeleton]
  unfold k0_part10_skel
  iintro ⟨H12, H21⟩
  iapply (at_load _) $$ H21
  iintro H21
  iapply (assume_step _)
  isplitr
  · ipureintro; exact fun _ => spread_lt _ _ off (4 * t.val + 1) h106 (iv4_toNat _ 1 ht (by norm_num)) (by omega)
  iintro %_
  iapply (at_loadIdx _) $$ H12
  iintro H12
  iapply (at_load _) $$ H21
  iintro H21
  iapply (at_load _) $$ H21
  iintro H21
  iapply (at_load _) $$ H21
  iintro H21
  iapply (at_load _) $$ H21
  iintro H21
  iapply (at_load _) $$ H21
  iintro H21
  iapply (at_load _) $$ H21
  iintro H21
  iapply (fin_pure _)
  isplitl [H12]; · iexact H12
  isplitl [H21]; · iexact H21
  ipureintro
  exact ⟨sums_add R hgo (k0_off72_eq t) F_arg36, sums_add R hgo (k0_off73_eq t) F_v223, sums_add R hgo (k0_off74_eq t) F_v228, sums_add R hgo (k0_off75_eq t) F_v233, sums_add R hgo (k0_off76_eq t) F_v238, sums_add R hgo (k0_off77_eq t) F_v243, sums_add R hgo (k0_off78_eq t) F_v248⟩

theorem fast1_k0_part11 {v146 : BitVec 32} {v165 : BitVec 32} {v171 : BitVec 32} {k0_h7 : k0_cond7 v165 v171 = 1#1} {arg28 : BitVec 32} {v250 : FVec F S16 .f32} {v253 : FVec F S16 .f32} {v255 : FVec F S16 .f32} {v258 : FVec F S16 .f32} {v260 : FVec F S16 .f32} {v262 : BitVec 32} {v267 : Vec F S16 .f32} {v270 : FVec F S16 .f32} {v272 : FVec F S16 .f32} {v275 : FVec F S16 .f32} {v277 : FVec F S16 .f32} {v280 : FVec F S16 .f32} {v282 : FVec F S16 .f32} {v285 : FVec F S16 .f32} {v287 : FVec F S16 .f32} {v290 : FVec F S16 .f32} {v296 : FVec F S16 .f32}
    {go : S80x128.Idx → Elt F .f32} {ob : ℕ → ℕ → M} (hgo : ∀ y, R.v (go y) = ob (y 0).val (y 1).val) {off : ℕ} (h106 : v146.toNat = off) (hoff : off + 80 ≤ 20480)
    (ga : S20480.Idx → Elt F .f32) (t : Fin k0_t15_loop.trips) (h28 : arg28 = Scf.iv 0#32 1#32 t.val) (F_v253 : SumsUp R ob (4 * t.val + 1) 6 v253) (F_v258 : SumsUp R ob (4 * t.val + 1) 7 v258) (F_v270 : SumsUp R ob (4 * t.val + 2) 0 v270) (F_v275 : SumsUp R ob (4 * t.val + 2) 1 v275) (F_v280 : SumsUp R ob (4 * t.val + 2) 2 v280) (F_v285 : SumsUp R ob (4 * t.val + 2) 3 v285) (F_v290 : SumsUp R ob (4 * t.val + 2) 4 v290) :
    iprop(At (thr d i) arg12 fullShare ga ∗ At (thr d i) arg21 fullShare go)
      ⊢ wp frame (wpE df 𝒱₀ (thr d i) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v146 v165 v171 k0_h7 t arg28 v250 v253 v255 v258 v260 v262 v267 v270 v272 v275 v277 v280 v282 v285 v287 v290 v296) (fun r =>
        iprop(At (thr d i) arg12 fullShare ga ∗ At (thr d i) arg21 fullShare go ∗ ⌜SumsUp R ob (4 * t.val + 2) 6 r.2.1 ∧ SumsUp R ob (4 * t.val + 2) 7 r.2.2.2.1 ∧ SumsUp R ob (4 * t.val + 3) 0 r.2.2.2.2.2.2.2.1 ∧ SumsUp R ob (4 * t.val + 3) 1 r.2.2.2.2.2.2.2.2.2.1 ∧ SumsUp R ob (4 * t.val + 3) 2 r.2.2.2.2.2.2.2.2.2.2.2.1 ∧ SumsUp R ob (4 * t.val + 3) 3 r.2.2.2.2.2.2.2.2.2.2.2.2.2.1 ∧ SumsUp R ob (4 * t.val + 3) 4 r.2.2.2.2.2.2.2.2.2.2.2.2.2.2.2.1⌝)) := by
  have ht : t.val < 20 := lt_of_lt_of_eq t.isLt (by decide)
  subst h28
  rw [k0_part11_eq_skeleton]
  unfold k0_part11_skel
  iintro ⟨H12, H21⟩
  iapply (at_load _) $$ H21
  iintro H21
  iapply (at_load _) $$ H21
  iintro H21
  iapply (assume_step _)
  isplitr
  · ipureintro; exact fun _ => spread_lt _ _ off (4 * t.val + 2) h106 (iv4_toNat _ 2 ht (by norm_num)) (by omega)
  iintro %_
  iapply (at_loadIdx _) $$ H12
  iintro H12
  iapply (at_load _) $$ H21
  iintro H21
  iapply (at_load _) $$ H21
  iintro H21
  iapply (at_load _) $$ H21
  iintro H21
  iapply (at_load _) $$ H21
  iintro H21
  iapply (at_load _) $$ H21
  iintro H21
  iapply (fin_pure _)
  isplitl [H12]; · iexact H12
  isplitl [H21]; · iexact H21
  ipureintro
  exact ⟨sums_add R hgo (k0_off79_eq t) F_v253, sums_add R hgo (k0_off80_eq t) F_v258, sums_add R hgo (k0_off81_eq t) F_v270, sums_add R hgo (k0_off82_eq t) F_v275, sums_add R hgo (k0_off83_eq t) F_v280, sums_add R hgo (k0_off84_eq t) F_v285, sums_add R hgo (k0_off85_eq t) F_v290⟩

theorem fast1_k0_part12 {v146 : BitVec 32} {v165 : BitVec 32} {v171 : BitVec 32} {k0_h7 : k0_cond7 v165 v171 = 1#1} {arg28 : BitVec 32} {v292 : FVec F S16 .f32} {v295 : FVec F S16 .f32} {v297 : FVec F S16 .f32} {v300 : FVec F S16 .f32} {v302 : FVec F S16 .f32} {v305 : FVec F S16 .f32} {v307 : FVec F S16 .f32} {v309 : BitVec 32} {v314 : Vec F S16 .f32} {v317 : FVec F S16 .f32} {v319 : FVec F S16 .f32} {v322 : FVec F S16 .f32} {v324 : FVec F S16 .f32} {v327 : FVec F S16 .f32} {v329 : FVec F S16 .f32} {v332 : FVec F S16 .f32} {v338 : FVec F S16 .f32}
    {go : S80x128.Idx → Elt F .f32} {ob : ℕ → ℕ → M} (hgo : ∀ y, R.v (go y) = ob (y 0).val (y 1).val) {off : ℕ} (h106 : v146.toNat = off) (hoff : off + 80 ≤ 20480)
    (ga : S20480.Idx → Elt F .f32) (t : Fin k0_t15_loop.trips) (h28 : arg28 = Scf.iv 0#32 1#32 t.val) (F_v295 : SumsUp R ob (4 * t.val + 2) 5 v295) (F_v300 : SumsUp R ob (4 * t.val + 2) 6 v300) (F_v305 : SumsUp R ob (4 * t.val + 2) 7 v305) (F_v317 : SumsUp R ob (4 * t.val + 3) 0 v317) (F_v322 : SumsUp R ob (4 * t.val + 3) 1 v322) (F_v327 : SumsUp R ob (4 * t.val + 3) 2 v327) (F_v332 : SumsUp R ob (4 * t.val + 3) 3 v332) :
    iprop(At (thr d i) arg12 fullShare ga ∗ At (thr d i) arg21 fullShare go)
      ⊢ wp frame (wpE df 𝒱₀ (thr d i) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v146 v165 v171 k0_h7 t arg28 v292 v295 v297 v300 v302 v305 v307 v309 v314 v317 v319 v322 v324 v327 v329 v332 v338) (fun r =>
        iprop(At (thr d i) arg12 fullShare ga ∗ At (thr d i) arg21 fullShare go ∗ ⌜SumsUp R ob (4 * t.val + 3) 5 r.2.1 ∧ SumsUp R ob (4 * t.val + 3) 6 r.2.2.2.1 ∧ SumsUp R ob (4 * t.val + 3) 7 r.2.2.2.2.2.1 ∧ SumsUp R ob (4 * t.val + 4) 0 r.2.2.2.2.2.2.2.2.2.1 ∧ SumsUp R ob (4 * t.val + 4) 1 r.2.2.2.2.2.2.2.2.2.2.2.1 ∧ SumsUp R ob (4 * t.val + 4) 2 r.2.2.2.2.2.2.2.2.2.2.2.2.2.1 ∧ SumsUp R ob (4 * t.val + 4) 3 r.2.2.2.2.2.2.2.2.2.2.2.2.2.2.2.1⌝)) := by
  have ht : t.val < 20 := lt_of_lt_of_eq t.isLt (by decide)
  subst h28
  rw [k0_part12_eq_skeleton]
  unfold k0_part12_skel
  iintro ⟨H12, H21⟩
  iapply (at_load _) $$ H21
  iintro H21
  iapply (at_load _) $$ H21
  iintro H21
  iapply (at_load _) $$ H21
  iintro H21
  iapply (assume_step _)
  isplitr
  · ipureintro; exact fun _ => spread_lt _ _ off (4 * t.val + 3) h106 (iv4_toNat _ 3 ht (by norm_num)) (by omega)
  iintro %_
  iapply (at_loadIdx _) $$ H12
  iintro H12
  iapply (at_load _) $$ H21
  iintro H21
  iapply (at_load _) $$ H21
  iintro H21
  iapply (at_load _) $$ H21
  iintro H21
  iapply (at_load _) $$ H21
  iintro H21
  iapply (fin_pure _)
  isplitl [H12]; · iexact H12
  isplitl [H21]; · iexact H21
  ipureintro
  exact ⟨sums_add R hgo (k0_off86_eq t) F_v295, sums_add R hgo (k0_off87_eq t) F_v300, sums_add R hgo (k0_off88_eq t) F_v305, sums_add R hgo (k0_off89_eq t) F_v317, sums_add R hgo (k0_off90_eq t) F_v322, sums_add R hgo (k0_off91_eq t) F_v327, sums_add R hgo (k0_off92_eq t) F_v332⟩

theorem fast1 (v25 : FVec F S16 .f32) (v146 : BitVec 32) (v159 : IVec S16 32) (v165 : BitVec 32) (v171 : BitVec 32) (k0_h7 : k0_cond7 v165 v171 = 1#1) {go : S80x128.Idx → Elt F .f32} {ob : ℕ → ℕ → M}
    (hgo : ∀ y, R.v (go y) = ob (y 0).val (y 1).val) {off : ℕ} (h106 : v146.toNat = off) (hoff : off + 80 ≤ 20480)
    (ga : S20480.Idx → Elt F .f32) (t : Fin k0_t15_loop.trips) (a : Regs F) :
    iprop(At (thr d i) arg12 fullShare ga ∗ At (thr d i) arg21 fullShare go ∗ ⌜RegsOK R ob (4 * t.val) a⌝)
      ⊢ wp frame (wpE df 𝒱₀ (thr d i) none) Set.univ (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v146 v159 v165 v171 k0_h7 t a) (fun a' =>
        iprop(At (thr d i) arg12 fullShare ga ∗ At (thr d i) arg21 fullShare go ∗ ⌜RegsOK R ob (4 * (t.val + 1)) a'⌝)) := by
  obtain ⟨arg29, arg30, arg31, arg32, arg33, arg34, arg35, arg36, arg37, arg38, arg39, arg40, arg41, arg42, arg43, arg44⟩ := a
  unfold k0_t15_body
  iintro ⟨H12, H21, %h⟩
  obtain ⟨F_arg29, F_arg30, F_arg31, F_arg32, F_arg33, F_arg34, F_arg35, F_arg36⟩ := h
  iapply (run _ (fast1_k0_part9 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h7 := k0_h7) F_arg29 F_arg30 F_arg31 F_arg32 F_arg33 F_arg34 F_arg35)) $$ [H12 H21]
  · isplitl [H12]; · iexact H12
    iexact H21
  iintro %r ⟨H12, H21, %hr⟩
  obtain ⟨arg28, v215, v220, v223, v225, v228, v230, v233, v235, v238, v240, v243, v245, v248, v250, v253, v254⟩ := r
  obtain ⟨h28, F_v223, F_v228, F_v233, F_v238, F_v243, F_v248, F_v253⟩ := hr
  iapply (run _ (fast1_k0_part10 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h7 := k0_h7) h28 F_arg36 F_v223 F_v228 F_v233 F_v238 F_v243 F_v248)) $$ [H12 H21]
  · isplitl [H12]; · iexact H12
    iexact H21
  iintro %r ⟨H12, H21, %hr⟩
  obtain ⟨v255, v258, v260, v262, v267, v270, v272, v275, v277, v280, v282, v285, v287, v290, v292, v295, v296⟩ := r
  obtain ⟨F_v258, F_v270, F_v275, F_v280, F_v285, F_v290, F_v295⟩ := hr
  iapply (run _ (fast1_k0_part11 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h7 := k0_h7) h28 F_v253 F_v258 F_v270 F_v275 F_v280 F_v285 F_v290)) $$ [H12 H21]
  · isplitl [H12]; · iexact H12
    iexact H21
  iintro %r ⟨H12, H21, %hr⟩
  obtain ⟨v297, v300, v302, v305, v307, v309, v314, v317, v319, v322, v324, v327, v329, v332, v334, v337, v338⟩ := r
  obtain ⟨F_v300, F_v305, F_v317, F_v322, F_v327, F_v332, F_v337⟩ := hr
  iapply (run _ (fast1_k0_part12 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hgo h106 hoff ga t (k0_h7 := k0_h7) h28 F_v295 F_v300 F_v305 F_v317 F_v322 F_v327 F_v332)) $$ [H12 H21]
  · isplitl [H12]; · iexact H12
    iexact H21
  iintro %r ⟨H12, H21, %hr⟩
  obtain ⟨v339, v342, v344, v347, v349, v352, v354, v356, v361, v364, v366, v369, v371, v374, v376, v379, v380⟩ := r
  obtain ⟨F_v342, F_v347, F_v352, F_v364, F_v369, F_v374, F_v379⟩ := hr
  iapply (at_load _) $$ H21
  iintro H21
  iapply (at_load _) $$ H21
  iintro H21
  iapply (at_load _) $$ H21
  iintro H21
  iapply (at_load _) $$ H21
  iintro H21
  iapply (fin_pure _)
  isplitl [H12]; · iexact H12
  isplitl [H21]; · iexact H21
  ipureintro
  exact ⟨F_v364, F_v369, F_v374, F_v379, sums_add R hgo (k0_off93_eq t) F_v337, sums_add R hgo (k0_off94_eq t) F_v342, sums_add R hgo (k0_off95_eq t) F_v347, sums_add R hgo (k0_off96_eq t) F_v352⟩

end Cert.Proof.Seg
-- ==== Proof.PourB.lean ====
/-
  A block of one segment, the second buffer.
-/
module

public import proofs.«01_k».proof.Proof.FastB
public import proofs.«01_k».proof.Proof.Ahead

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem pour1 (v25 : FVec F S16 .f32) (v146 : BitVec 32) (v165 : BitVec 32) (v171 : BitVec 32) (k0_h7 : k0_cond7 v165 v171 = 1#1) {v23 : IVec S16 32} (hv23 : ∀ l : Fin 16, v23 (lane l) = BitVec.ofNat 32 l.val) (hv25 : ∀ l, R.v (v25 (lane l)) = 0)
    {v150 : IVec S16 32} {b : ℕ} (hx : ∀ l : Fin 16, (v150 (lane l)).toNat = b) (hb : b < 64) {go : S80x128.Idx → Elt F .f32} {ob : ℕ → ℕ → M} (hgo : ∀ y, R.v (go y) = ob (y 0).val (y 1).val) {off : ℕ} (h106 : v146.toNat = off) (hoff : off + 80 ≤ 20480)
    (ga : S20480.Idx → Elt F .f32) (A : ℕ → M) :
    iprop(At (thr d i) arg12 fullShare ga ∗ At (thr d i) arg21 fullShare go ∗ (∃ g, ⌜∀ y, R.v (g y) = A (y 0).val⌝ ∗ At (thr d i) arg18 fullShare g) ∗ ∃ g, At (thr d i) arg19 fullShare g)
      ⊢ wp frame (wpE df 𝒱₀ (thr d i) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v146 (k0_pay331 (F := F) v23 v150) v165 v171 k0_h7) (fun r =>
        iprop(At (thr d i) arg12 fullShare ga ∗ At (thr d i) arg21 fullShare go
          ∗ (∃ g, ⌜∀ y, R.v (g y) = A (y 0).val + (if (y 0).val / 16 = 8 * b + 0 then ∑ r ∈ Finset.range 80, ob r (16 * 0 + (y 0).val % 16) else 0) + (if (y 0).val / 16 = 8 * b + 1 then ∑ r ∈ Finset.range 80, ob r (16 * 1 + (y 0).val % 16) else 0) + (if (y 0).val / 16 = 8 * b + 2 then ∑ r ∈ Finset.range 80, ob r (16 * 2 + (y 0).val % 16) else 0) + (if (y 0).val / 16 = 8 * b + 3 then ∑ r ∈ Finset.range 80, ob r (16 * 3 + (y 0).val % 16) else 0) + (if (y 0).val / 16 = 8 * b + 4 then ∑ r ∈ Finset.range 80, ob r (16 * 4 + (y 0).val % 16) else 0)⌝ ∗ At (thr d i) arg18 fullShare g) ∗ (∃ g, At (thr d i) arg19 fullShare g)
          ∗ ⌜SumsUp R ob 80 5 r.1 ∧ SumsUp R ob 80 6 r.2.1 ∧ SumsUp R ob 80 7 r.2.2.1 ∧ r.2.2.2.2.2.2.1 = k0_pay283 (k0_pay331 (F := F) v23 v150)⌝)) := by
  rw [k0_part13_eq_skeleton]
  unfold k0_part13_skel
  iintro ⟨H12, H21, ⟨%g, %e, H18⟩, %z, H19⟩
  iapply (loop (thr d i) (fun n a => iprop(At (thr d i) arg12 fullShare ga ∗ At (thr d i) arg21 fullShare go ∗ ⌜RegsOK R ob (4 * n) a⌝))
    (fun t a => fast1 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 _ _ _ _ _ _ hgo h106 hoff ga t a)) $$ [H12 H21]
  · isplitl [H12]; · iexact H12
    isplitl [H21]; · iexact H21
    ipureintro
    have z0 : ∀ j, SumsUp R ob (4 * 0) j v25 := fun j l => (hv25 l).trans (by simp)
    exact ⟨z0 0, z0 1, z0 2, z0 3, z0 4, z0 5, z0 6, z0 7⟩
  iintro %a ⟨H12, H21, %ha⟩
  obtain ⟨a0, a1, a2, a3, a4, a5, a6, a7, a8, a9, a10, a11, a12, a13, a14, a15⟩ := a
  rw [show 4 * k0_t15_loop.trips = 80 by decide] at ha
  obtain ⟨S0, S1, S2, S3, S4, S5, S6, S7⟩ := ha
  iapply (assume_step _)
  isplitr
  · ipureintro; exact fun _ => key_lt hv23 hx hb 0 (by norm_num)
  iintro %_
  iapply (at_scat _ R (8 * b + 0) (fun x => ∑ r ∈ Finset.range 80, ob r (16 * 0 + x))) $$ H18
  isplitr
  · ipureintro; exact ⟨fun l => key_val hv23 hx hb 0 (by norm_num) l, S0⟩
  iintro %g0 ⟨%e0, H18⟩
  iapply (assume_step _)
  isplitr
  · ipureintro; exact fun _ => key_lt hv23 hx hb 0 (by norm_num)
  iintro %_
  iapply (at_scat_any _) $$ H19
  iintro %z0 H19
  iapply (assume_step _)
  isplitr
  · ipureintro; exact fun _ => key_lt hv23 hx hb 1 (by norm_num)
  iintro %_
  iapply (at_scat _ R (8 * b + 1) (fun x => ∑ r ∈ Finset.range 80, ob r (16 * 1 + x))) $$ H18
  isplitr
  · ipureintro; exact ⟨fun l => key_val hv23 hx hb 1 (by norm_num) l, S1⟩
  iintro %g1 ⟨%e1, H18⟩
  iapply (assume_step _)
  isplitr
  · ipureintro; exact fun _ => key_lt hv23 hx hb 1 (by norm_num)
  iintro %_
  iapply (at_scat_any _) $$ H19
  iintro %z1 H19
  iapply (assume_step _)
  isplitr
  · ipureintro; exact fun _ => key_lt hv23 hx hb 2 (by norm_num)
  iintro %_
  iapply (at_scat _ R (8 * b + 2) (fun x => ∑ r ∈ Finset.range 80, ob r (16 * 2 + x))) $$ H18
  isplitr
  · ipureintro; exact ⟨fun l => key_val hv23 hx hb 2 (by norm_num) l, S2⟩
  iintro %g2 ⟨%e2, H18⟩
  iapply (assume_step _)
  isplitr
  · ipureintro; exact fun _ => key_lt hv23 hx hb 2 (by norm_num)
  iintro %_
  iapply (at_scat_any _) $$ H19
  iintro %z2 H19
  iapply (assume_step _)
  isplitr
  · ipureintro; exact fun _ => key_lt hv23 hx hb 3 (by norm_num)
  iintro %_
  iapply (at_scat _ R (8 * b + 3) (fun x => ∑ r ∈ Finset.range 80, ob r (16 * 3 + x))) $$ H18
  isplitr
  · ipureintro; exact ⟨fun l => key_val hv23 hx hb 3 (by norm_num) l, S3⟩
  iintro %g3 ⟨%e3, H18⟩
  iapply (assume_step _)
  isplitr
  · ipureintro; exact fun _ => key_lt hv23 hx hb 3 (by norm_num)
  iintro %_
  iapply (at_scat_any _) $$ H19
  iintro %z3 H19
  iapply (assume_step _)
  isplitr
  · ipureintro; exact fun _ => key_lt hv23 hx hb 4 (by norm_num)
  iintro %_
  iapply (at_scat _ R (8 * b + 4) (fun x => ∑ r ∈ Finset.range 80, ob r (16 * 4 + x))) $$ H18
  isplitr
  · ipureintro; exact ⟨fun l => key_val hv23 hx hb 4 (by norm_num) l, S4⟩
  iintro %g4 ⟨%e4, H18⟩
  iapply (assume_step _)
  isplitr
  · ipureintro; exact fun _ => key_lt hv23 hx hb 4 (by norm_num)
  iintro %_
  iapply (at_scat_any _) $$ H19
  iintro %z4 H19
  iapply (assume_step _)
  isplitr
  · ipureintro; exact fun _ => key_lt hv23 hx hb 5 (by norm_num)
  iintro %_
  iapply (fin_pure _)
  isplitl [H12]; · iexact H12
  isplitl [H21]; · iexact H21
  isplitl [H18]
  · iexists g4
    isplitr
    · ipureintro; intro y
      rw [e4, e3, e2, e1, e0, e]
    iexact H18
  isplitl [H19]; · iexists z4; iexact H19
  ipureintro
  exact ⟨S5, S6, S7, rfl⟩

end Cert.Proof.Seg
-- ==== Proof.SlowB.lean ====
/-
  One row of a block, scattered into the table of sums: the general case, for the second block buffer.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem slow1  (v146 : BitVec 32) (v165 : BitVec 32) (v171 : BitVec 32) (k0_h7 : ¬k0_cond7 v165 v171 = 1#1) {v23 : IVec S16 32} (hv23 : ∀ l : Fin 16, v23 (lane l) = BitVec.ofNat 32 l.val)
    {gb : S20480.Idx → BitVec 32} {bt : ℕ → ℕ} (hgb : ∀ y, (gb y).toNat = bt (y 0).val) {go : S80x128.Idx → Elt F .f32} {ob : ℕ → ℕ → M}
    (hgo : ∀ y, R.v (go y) = ob (y 0).val (y 1).val) {off : ℕ} (h106 : v146.toNat = off) (hoff : off + 80 ≤ 20480)
    (hlt : ∀ r < 80, bt (off + r) < 64) (ga : S20480.Idx → Elt F .f32) (A : ℕ → M) (t : Fin k0_t16_loop.trips) (a : BitVec 32) :
    iprop(At (thr d i) arg11 fullShare gb ∗ At (thr d i) arg12 fullShare ga ∗ At (thr d i) arg21 fullShare go
        ∗ (∃ g, ⌜∀ y, R.v (g y) = A (y 0).val + rowsAdd (fun r => bt (off + r)) ob t.val (y 0).val⌝ ∗ At (thr d i) arg18 fullShare g) ∗ ∃ g, At (thr d i) arg19 fullShare g)
      ⊢ wp frame (wpE df 𝒱₀ (thr d i) none) Set.univ (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v23 v146 v165 v171 k0_h7 t a) (fun _ =>
        iprop(At (thr d i) arg11 fullShare gb ∗ At (thr d i) arg12 fullShare ga ∗ At (thr d i) arg21 fullShare go
          ∗ (∃ g, ⌜∀ y, R.v (g y) = A (y 0).val + rowsAdd (fun r => bt (off + r)) ob (t.val + 1) (y 0).val⌝ ∗ At (thr d i) arg18 fullShare g) ∗ ∃ g, At (thr d i) arg19 fullShare g)) := by
  have ht : t.val < 80 := lt_of_lt_of_eq t.isLt (by decide)
  have hb : bt (off + t.val) < 64 := hlt _ ht
  unfold k0_t16_body
  simp only [k0_part14_eq_skeleton, k0_part15_eq_skeleton]
  unfold k0_part14_skel k0_part15_skel
  iintro ⟨H11, H12, H21, ⟨%g, %e, H18⟩, %z0, H19⟩
  iapply (enter _)
  iapply (assume_step _)
  isplitr
  · ipureintro; exact fun _ => spread_lt _ _ off t.val h106 (iv_toNat _ (by omega)) (by omega)
  iintro %_
  iapply (at_loadIdx _) $$ H12
  iintro H12
  iapply (assume_step _)
  isplitr
  · ipureintro; exact fun _ => spread_lt _ _ off t.val h106 (iv_toNat _ (by omega)) (by omega)
  iintro %_
  iapply (at_loadIdx _) $$ H11
  iintro H11
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 0 (by norm_num)
  iintro %_
  iapply (at_scat _ R (8 * bt (off + t.val) + 0) (fun x => ob t.val (16 * 0 + x))) $$ H18
  isplitr
  · ipureintro; exact ⟨fun l => key_val hv23 (fun l => gather_val hgb (fun l => spread_val _ _ off t.val h106 (iv_toNat _ (by omega)) (by omega) l) _ l) hb 0 (by norm_num) l, fun l => ld_val R hgo t.val 0 (k0_off97_eq t) l⟩
  iintro %g0 ⟨%e0, H18⟩
  iapply (assume_step _)
  isplitr
  · ipureintro; exact fun _ => key_lt hv23 (fun l => gather_val hgb (fun l => spread_val _ _ off t.val h106 (iv_toNat _ (by omega)) (by omega) l) _ l) hb 0 (by norm_num)
  iintro %_
  iapply (at_scat_any _) $$ H19
  iintro %z1 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 1 (by norm_num)
  iintro %_
  iapply (at_scat _ R (8 * bt (off + t.val) + 1) (fun x => ob t.val (16 * 1 + x))) $$ H18
  isplitr
  · ipureintro; exact ⟨fun l => key_val hv23 (fun l => gather_val hgb (fun l => spread_val _ _ off t.val h106 (iv_toNat _ (by omega)) (by omega) l) _ l) hb 1 (by norm_num) l, fun l => ld_val R hgo t.val 1 (k0_off98_eq t) l⟩
  iintro %g1 ⟨%e1, H18⟩
  iapply (assume_step _)
  isplitr
  · ipureintro; exact fun _ => key_lt hv23 (fun l => gather_val hgb (fun l => spread_val _ _ off t.val h106 (iv_toNat _ (by omega)) (by omega) l) _ l) hb 1 (by norm_num)
  iintro %_
  iapply (at_scat_any _) $$ H19
  iintro %z2 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 2 (by norm_num)
  iintro %_
  iapply (at_scat _ R (8 * bt (off + t.val) + 2) (fun x => ob t.val (16 * 2 + x))) $$ H18
  isplitr
  · ipureintro; exact ⟨fun l => key_val hv23 (fun l => gather_val hgb (fun l => spread_val _ _ off t.val h106 (iv_toNat _ (by omega)) (by omega) l) _ l) hb 2 (by norm_num) l, fun l => ld_val R hgo t.val 2 (k0_off99_eq t) l⟩
  iintro %g2 ⟨%e2, H18⟩
  iapply (fin_pure _)
  iapply (enter _)
  iapply (assume_step _)
  isplitr
  · ipureintro; exact fun _ => key_lt hv23 (fun l => gather_val hgb (fun l => spread_val _ _ off t.val h106 (iv_toNat _ (by omega)) (by omega) l) _ l) hb 2 (by norm_num)
  iintro %_
  iapply (at_scat_any _) $$ H19
  iintro %z3 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 3 (by norm_num)
  iintro %_
  iapply (at_scat _ R (8 * bt (off + t.val) + 3) (fun x => ob t.val (16 * 3 + x))) $$ H18
  isplitr
  · ipureintro; exact ⟨fun l => key_val hv23 (fun l => gather_val hgb (fun l => spread_val _ _ off t.val h106 (iv_toNat _ (by omega)) (by omega) l) _ l) hb 3 (by norm_num) l, fun l => ld_val R hgo t.val 3 (k0_off100_eq t) l⟩
  iintro %g3 ⟨%e3, H18⟩
  iapply (assume_step _)
  isplitr
  · ipureintro; exact fun _ => key_lt hv23 (fun l => gather_val hgb (fun l => spread_val _ _ off t.val h106 (iv_toNat _ (by omega)) (by omega) l) _ l) hb 3 (by norm_num)
  iintro %_
  iapply (at_scat_any _) $$ H19
  iintro %z4 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 4 (by norm_num)
  iintro %_
  iapply (at_scat _ R (8 * bt (off + t.val) + 4) (fun x => ob t.val (16 * 4 + x))) $$ H18
  isplitr
  · ipureintro; exact ⟨fun l => key_val hv23 (fun l => gather_val hgb (fun l => spread_val _ _ off t.val h106 (iv_toNat _ (by omega)) (by omega) l) _ l) hb 4 (by norm_num) l, fun l => ld_val R hgo t.val 4 (k0_off101_eq t) l⟩
  iintro %g4 ⟨%e4, H18⟩
  iapply (assume_step _)
  isplitr
  · ipureintro; exact fun _ => key_lt hv23 (fun l => gather_val hgb (fun l => spread_val _ _ off t.val h106 (iv_toNat _ (by omega)) (by omega) l) _ l) hb 4 (by norm_num)
  iintro %_
  iapply (at_scat_any _) $$ H19
  iintro %z5 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 5 (by norm_num)
  iintro %_
  iapply (at_scat _ R (8 * bt (off + t.val) + 5) (fun x => ob t.val (16 * 5 + x))) $$ H18
  isplitr
  · ipureintro; exact ⟨fun l => key_val hv23 (fun l => gather_val hgb (fun l => spread_val _ _ off t.val h106 (iv_toNat _ (by omega)) (by omega) l) _ l) hb 5 (by norm_num) l, fun l => ld_val R hgo t.val 5 (k0_off102_eq t) l⟩
  iintro %g5 ⟨%e5, H18⟩
  iapply (assume_step _)
  isplitr
  · ipureintro; exact fun _ => key_lt hv23 (fun l => gather_val hgb (fun l => spread_val _ _ off t.val h106 (iv_toNat _ (by omega)) (by omega) l) _ l) hb 5 (by norm_num)
  iintro %_
  iapply (at_scat_any _) $$ H19
  iintro %z6 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 6 (by norm_num)
  iintro %_
  iapply (at_scat _ R (8 * bt (off + t.val) + 6) (fun x => ob t.val (16 * 6 + x))) $$ H18
  isplitr
  · ipureintro; exact ⟨fun l => key_val hv23 (fun l => gather_val hgb (fun l => spread_val _ _ off t.val h106 (iv_toNat _ (by omega)) (by omega) l) _ l) hb 6 (by norm_num) l, fun l => ld_val R hgo t.val 6 (k0_off103_eq t) l⟩
  iintro %g6 ⟨%e6, H18⟩
  iapply (fin_pure _)
  iapply (assume_step _)
  isplitr
  · ipureintro; exact fun _ => key_lt hv23 (fun l => gather_val hgb (fun l => spread_val _ _ off t.val h106 (iv_toNat _ (by omega)) (by omega) l) _ l) hb 6 (by norm_num)
  iintro %_
  iapply (at_scat_any _) $$ H19
  iintro %z7 H19
  iapply (at_load _) $$ H21
  iintro H21
  iapply (assume_step _)
  isplitr
  · ipureintro; exact fun _ => key_lt hv23 (fun l => gather_val hgb (fun l => spread_val _ _ off t.val h106 (iv_toNat _ (by omega)) (by omega) l) _ l) hb 7 (by norm_num)
  iintro %_
  iapply (at_scat _ R (8 * bt (off + t.val) + 7) (fun x => ob t.val (16 * 7 + x))) $$ H18
  isplitr
  · ipureintro; exact ⟨fun l => key_val hv23 (fun l => gather_val hgb (fun l => spread_val _ _ off t.val h106 (iv_toNat _ (by omega)) (by omega) l) _ l) hb 7 (by norm_num) l, fun l => ld_val R hgo t.val 7 (k0_off104_eq t) l⟩
  iintro %g7 ⟨%e7, H18⟩
  iapply (assume_step _)
  isplitr
  · ipureintro; exact fun _ => key_lt hv23 (fun l => gather_val hgb (fun l => spread_val _ _ off t.val h106 (iv_toNat _ (by omega)) (by omega) l) _ l) hb 7 (by norm_num)
  iintro %_
  iapply (at_scat_any _) $$ H19
  iintro %z8 H19
  iapply (fin_pure _)
  isplitl [H11]; · iexact H11
  isplitl [H12]; · iexact H12
  isplitl [H21]; · iexact H21
  isplitl [H18]
  · iexists g7
    isplitr
    · ipureintro; intro y
      rw [e7, e6, e5, e4, e3, e2, e1, e0, e, rowsAdd_succ, ← add_assoc]
      exact row8 _ _ _ _
    iexact H18
  iexists z8
  iexact H19

end Cert.Proof.Seg
-- ==== Proof.BlockB.lean ====
/-
  A block of rows added to the running table: the second buffer.
-/
module

public import proofs.«01_k».proof.Proof.PourB
public import proofs.«01_k».proof.Proof.SlowB

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem blk1 {α : Type} {Q : α → sProp (MT nD τ sig (HIx 2) (Elt F) ℕ UU ℕ)} {jp : BitVec 32 → Prog (TpuEff nD τ sig (Elt F) Λ₀ (.scVector ((i 0).castLE hcore0) ((i 1).castLE hsub0))) α} {v146 : BitVec 32} {v23 : IVec S16 32} (hv23 : ∀ l : Fin 16, v23 (lane l) = BitVec.ofNat 32 l.val) {v25 : FVec F S16 .f32} (hv25 : ∀ l, R.v (v25 (lane l)) = 0)
    {gb : S20480.Idx → BitVec 32} {bt : ℕ → ℕ} (hgb : ∀ y, (gb y).toNat = bt (y 0).val) (hsort : ∀ x y, x ≤ y → y < 20480 → bt x ≤ bt y)
    {go : S80x128.Idx → Elt F .f32} {ob : ℕ → ℕ → M} (hgo : ∀ y, R.v (go y) = ob (y 0).val (y 1).val) {off : ℕ} (h106 : v146.toNat = off) (hoff : off + 80 ≤ 20480)
    (hlt : ∀ r < 80, bt (off + r) < 64) {v150 : IVec S16 32} (hx : ∀ l : Fin 16, (v150 (lane l)).toNat = bt off)
    {v165 v171 : BitVec 32} (ha : v165.toNat = bt off) (hz : v171.toNat = bt (off + 79))
    (ga : S20480.Idx → Elt F .f32) (A : ℕ → M) :
    iprop(At (thr d i) arg11 fullShare gb ∗ At (thr d i) arg12 fullShare ga ∗ At (thr d i) arg21 fullShare go ∗ (∃ g, ⌜∀ y, R.v (g y) = A (y 0).val⌝ ∗ At (thr d i) arg18 fullShare g) ∗ (∃ g, At (thr d i) arg19 fullShare g))
      ⊢ iprop((∀ r, iprop(At (thr d i) arg11 fullShare gb ∗ At (thr d i) arg12 fullShare ga ∗ At (thr d i) arg21 fullShare go ∗ (∃ g, ⌜∀ y, R.v (g y) = A (y 0).val + rowsAdd (fun r => bt (off + r)) ob 80 (y 0).val⌝ ∗ At (thr d i) arg18 fullShare g) ∗ (∃ g, At (thr d i) arg19 fullShare g)) -∗ wp frame (wpE df 𝒱₀ (thr d i) none) Set.univ (jp r) Q)
        -∗ wp frame (wpE df 𝒱₀ (thr d i) none) Set.univ (do
      let vout : BitVec 32 ←
        if k0_h7 : k0_cond7 v165 v171 = 1#1 then do
              let ⟨v181_5, v181_6, v181_7, v181_13, v181_14, v181_15, v203, k0_hw67⟩ : Σ' (v181_5 : FVec F S16 .f32) (v181_6 : FVec F S16 .f32) (v181_7 : FVec F S16 .f32) (v181_13 : FVec F S16 .f32) (v181_14 : FVec F S16 .f32) (v181_15 : FVec F S16 .f32) (v203 : IVec S16 32), k0_chk67 v165 v171 v203 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v146 (k0_pay331 (F := F) v23 v150) v165 v171 k0_h7
              SparseCore.vectorStoreIdx arg18 ![v203] v181_5 (fun _ => 1#1) true (k0_idx71_inb v165 v171 v203 k0_hw67 k0_h7) (View.stores_vmem_bits_univ h_S8192 rfl)
              have v205 : IVec S16 32 := k0_pay1 (k0_pay331 (F := F) v23 v150)
              have k0_hw68 : k0_chk68 v165 v171 v205 := (← Prog.lift (TpuEff.assume (k0_chk68 v165 v171 v205) (k0_chk68.dec v165 v171 v205))).down
              SparseCore.vectorStoreIdx arg19 ![v205] v181_13 (fun _ => 1#1) true (k0_idx72_inb v165 v171 v205 k0_hw68 k0_h7) (View.stores_vmem_bits_univ h_S8192 rfl)
              have v207 : IVec S16 32 := k0_pay2 (k0_pay331 (F := F) v23 v150)
              have k0_hw69 : k0_chk69 v165 v171 v207 := (← Prog.lift (TpuEff.assume (k0_chk69 v165 v171 v207) (k0_chk69.dec v165 v171 v207))).down
              SparseCore.vectorStoreIdx arg18 ![v207] v181_6 (fun _ => 1#1) true (k0_idx73_inb v165 v171 v207 k0_hw69 k0_h7) (View.stores_vmem_bits_univ h_S8192 rfl)
              have v209 : IVec S16 32 := k0_pay3 (k0_pay331 (F := F) v23 v150)
              have k0_hw70 : k0_chk70 v165 v171 v209 := (← Prog.lift (TpuEff.assume (k0_chk70 v165 v171 v209) (k0_chk70.dec v165 v171 v209))).down
              SparseCore.vectorStoreIdx arg19 ![v209] v181_14 (fun _ => 1#1) true (k0_idx74_inb v165 v171 v209 k0_hw70 k0_h7) (View.stores_vmem_bits_univ h_S8192 rfl)
              have v211 : IVec S16 32 := k0_pay4 (k0_pay331 (F := F) v23 v150)
              have k0_hw71 : k0_chk71 v165 v171 v211 := (← Prog.lift (TpuEff.assume (k0_chk71 v165 v171 v211) (k0_chk71.dec v165 v171 v211))).down
              SparseCore.vectorStoreIdx arg18 ![v211] v181_7 (fun _ => 1#1) true (k0_idx75_inb v165 v171 v211 k0_hw71 k0_h7) (View.stores_vmem_bits_univ h_S8192 rfl)
              have v213 : IVec S16 32 := k0_pay5 (k0_pay331 (F := F) v23 v150)
              have k0_hw72 : k0_chk72 v165 v171 v213 := (← Prog.lift (TpuEff.assume (k0_chk72 v165 v171 v213) (k0_chk72.dec v165 v171 v213))).down
              SparseCore.vectorStoreIdx arg19 ![v213] v181_15 (fun _ => 1#1) true (k0_idx76_inb v165 v171 v213 k0_hw72 k0_h7) (View.stores_vmem_bits_univ h_S8192 rfl)
              pure 0#32
            else do
              let v181 : BitVec 32 ← Scf.Loop.for k0_t16_loop k0_t16_ok 0#32 (k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v23 v146 v165 v171 k0_h7)
              pure 0#32
      jp vout) Q) := by
  by_cases k0_h7 : k0_cond7 v165 v171 = 1#1
  · simp only [dif_pos k0_h7]
    have hev : ∀ r < 80, bt (off + r) = bt off := fun r hr => by
      have h0 := hsort off (off + r) (by omega) (by omega)
      have h1 := hsort (off + r) (off + 79) (by omega) (by omega)
      have h2 : v165 = v171 := cond7_eq _ _ k0_h7
      rw [← hz, ← h2, ha] at h1
      omega
    have hb : bt off < 64 := by simpa using hlt 0 (by norm_num)
    have hro : ∀ y, rowsAdd (fun r => bt (off + r)) ob 80 y = if bt off = y / 128 then ∑ r ∈ Finset.range 80, ob r (y % 128) else 0 := fun y => by
      rw [rowsAdd_const _ _ _ _ _ hev]; simp only [eq_comm]
    generalize bt off = b at *
    iintro ⟨H11, H12, H21, H18, H19⟩ Hk
    iapply (run _ (pour1 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v25 v146 v165 v171 k0_h7 hv23 hv25 hx hb hgo h106 hoff ga A)) $$ [H12 H21 H18 H19]
    · isplitl [H12]; · iexact H12
      isplitl [H21]; · iexact H21
      isplitl [H18]; · iexact H18
      iexact H19
    iintro %r ⟨H12, H21, ⟨%g4, %e, H18⟩, ⟨%z4, H19⟩, %hr⟩
    obtain ⟨v5, v6, v7, v13, v14, v15, v203, hw⟩ := r
    obtain ⟨S5, S6, S7, hv⟩ := hr
    change v203 = _ at hv
    subst hv
    iapply (at_scat _ R (8 * b + 5) (fun x => ∑ r ∈ Finset.range 80, ob r (16 * 5 + x))) $$ H18
    isplitr
    · ipureintro; exact ⟨fun l => key_val hv23 hx hb 5 (by norm_num) l, S5⟩
    iintro %g5 ⟨%e5, H18⟩
    iapply (assume_step _)
    isplitr
    · ipureintro; exact fun _ => key_lt hv23 hx hb 5 (by norm_num)
    iintro %_
    iapply (at_scat_any _) $$ H19
    iintro %z5 H19
    iapply (assume_step _)
    isplitr
    · ipureintro; exact fun _ => key_lt hv23 hx hb 6 (by norm_num)
    iintro %_
    iapply (at_scat _ R (8 * b + 6) (fun x => ∑ r ∈ Finset.range 80, ob r (16 * 6 + x))) $$ H18
    isplitr
    · ipureintro; exact ⟨fun l => key_val hv23 hx hb 6 (by norm_num) l, S6⟩
    iintro %g6 ⟨%e6, H18⟩
    iapply (assume_step _)
    isplitr
    · ipureintro; exact fun _ => key_lt hv23 hx hb 6 (by norm_num)
    iintro %_
    iapply (at_scat_any _) $$ H19
    iintro %z6 H19
    iapply (assume_step _)
    isplitr
    · ipureintro; exact fun _ => key_lt hv23 hx hb 7 (by norm_num)
    iintro %_
    iapply (at_scat _ R (8 * b + 7) (fun x => ∑ r ∈ Finset.range 80, ob r (16 * 7 + x))) $$ H18
    isplitr
    · ipureintro; exact ⟨fun l => key_val hv23 hx hb 7 (by norm_num) l, S7⟩
    iintro %g7 ⟨%e7, H18⟩
    iapply (assume_step _)
    isplitr
    · ipureintro; exact fun _ => key_lt hv23 hx hb 7 (by norm_num)
    iintro %_
    iapply (at_scat_any _) $$ H19
    iintro %z7 H19
    iapply (run_pure _)
    iapply Hk
    isplitl [H11]; · iexact H11
    isplitl [H12]; · iexact H12
    isplitl [H21]; · iexact H21
    isplitl [H18]
    · iexists g7
      isplitr
      · ipureintro; intro y
        rw [e7, e6, e5, e, hro]
        exact row8 (A (y 0).val) b (y 0).val (fun x => ∑ r ∈ Finset.range 80, ob r x)
      iexact H18
    iexists z7; iexact H19
  · simp only [dif_neg k0_h7]
    iintro ⟨H11, H12, H21, ⟨%g, %e, H18⟩, H19⟩ Hk
    iapply (loop (thr d i) (fun n _ => iprop(At (thr d i) arg11 fullShare gb ∗ At (thr d i) arg12 fullShare ga ∗ At (thr d i) arg21 fullShare go ∗ (∃ g, ⌜∀ y, R.v (g y) = A (y 0).val + rowsAdd (fun r => bt (off + r)) ob n (y 0).val⌝ ∗ At (thr d i) arg18 fullShare g) ∗ (∃ g, At (thr d i) arg19 fullShare g)))
      (fun t a => slow1 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 v146 _ _ k0_h7 hv23 hgb hgo h106 hoff hlt ga A t a)) $$ [H11 H12 H21 H18 H19]
    · isplitl [H11]; · iexact H11
      isplitl [H12]; · iexact H12
      isplitl [H21]; · iexact H21
      isplitl [H18]
      · iexists g
        isplitr
        · ipureintro; intro y; rw [e, rowsAdd_zero, add_zero]
        iexact H18
      iexact H19
    iintro %a ⟨H11, H12, H21, ⟨%g2, %e2, H18⟩, H19⟩
    iapply (run_pure _)
    iapply Hk
    isplitl [H11]; · iexact H11
    isplitl [H12]; · iexact H12
    isplitl [H21]; · iexact H21
    isplitl [H18]
    · iexists g2
      isplitr
      · ipureintro; exact e2
      iexact H18
    iexact H19

end Cert.Proof.Seg
-- ==== Proof.Turn.lean ====
/-
  A turn of the row loop.
-/
module

public import proofs.«01_k».proof.Proof.TurnA
public import proofs.«01_k».proof.Proof.BlockB

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {M : Type} [AddCommMonoid M] (R : Rdg F M)
variable (df : Defs nD τ sig (Elt F) Λ₀) (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem chunk_open {c : Thread nD τ} {buf : Memref sig c.2.kind .vmem S80x128 .f32} {m4 : Memref sig c.2.kind .hbm S320000x128 .f32} {q : PosShare TreeShare}
    {OB : S320000x128.Idx → Elt F .f32} {obs : ℕ → ℕ → M} {n : ℕ} :
    Chunk R c buf m4 q OB obs n ⊢ iprop((∃ g, ⌜∀ y, R.v (g y) = obs (n + (y 0).val) (y 1).val⌝ ∗ At c buf fullShare g) ∗ At c m4 q OB) := .rfl

/-- One turn of the row loop: two blocks of eighty rows. -/
theorem turn {v23 : IVec S16 32} (hv23 : ∀ l : Fin 16, v23 (lane l) = BitVec.ofNat 32 l.val) {v25 : FVec F S16 .f32} (hv25 : ∀ l, R.v (v25 (lane l)) = 0)
    {gb : S20480.Idx → BitVec 32} {bt : ℕ → ℕ} (hgb : ∀ y, (gb y).toNat = bt (y 0).val) (hsort : ∀ x y, x ≤ y → y < 20480 → bt x ≤ bt y)
    {OB : S320000x128.Idx → Elt F .f32} {obs : ℕ → ℕ → M} (ga : S20480.Idx → Elt F .f32)
    {O : CellTallies nD τ sig (HIx 2)} {W : Waits sig (HIx 2)}  {q q' : PosShare TreeShare} (hOB : ∀ y, R.v (OB y) = obs (y 0).val (y 1).val) (t : Fin (k0_t12_loop i).trips) (v2 v22 a : BitVec 32)
    (hlt : ∀ r < 160 * (k0_t12_loop i).trips, bt (10240 * (i 0).val + r) < 64) :
    iprop(Transfers.MayWaits (thr d i) (none : HIx 2) O ∗ (if t.val < (k0_t12_loop i).trips then Coming (F := F) (thr d i) arg20 arg24.sem (Chunk R (thr d i) arg20 arg4 q OB obs (20480 * (i 1).val + 10240 * (i 0).val + 160 * t.val)) else Idle (F := F) (thr d i) arg20 arg24.sem arg4 q OB) ∗ (if t.val < (k0_t12_loop i).trips then Coming (F := F) (thr d i) arg21 arg25.sem (Chunk R (thr d i) arg21 arg4 q' OB obs (20480 * (i 1).val + 10240 * (i 0).val + 160 * t.val + 80)) else Idle (F := F) (thr d i) arg21 arg25.sem arg4 q' OB) ∗ Ow (F := F) (thr d i) O W ∗ At (thr d i) arg11 fullShare gb ∗ At (thr d i) arg12 fullShare ga ∗ (∃ g, ⌜∀ y, R.v (g y) = rowsAdd (fun r => bt (10240 * (i 0).val + r)) (fun r => obs (20480 * (i 1).val + 10240 * (i 0).val + r)) (160 * (t.val)) (y 0).val⌝ ∗ At (thr d i) arg18 fullShare g) ∗ (∃ g, At (thr d i) arg19 fullShare g))
      ⊢ wp frame (wpE df 𝒱₀ (thr d i) none) Set.univ (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 0#32 t a) (fun _ =>
        iprop((if (t.val + 1) < (k0_t12_loop i).trips then Coming (F := F) (thr d i) arg20 arg24.sem (Chunk R (thr d i) arg20 arg4 q OB obs (20480 * (i 1).val + 10240 * (i 0).val + 160 * (t.val + 1))) else Idle (F := F) (thr d i) arg20 arg24.sem arg4 q OB) ∗ (if (t.val + 1) < (k0_t12_loop i).trips then Coming (F := F) (thr d i) arg21 arg25.sem (Chunk R (thr d i) arg21 arg4 q' OB obs (20480 * (i 1).val + 10240 * (i 0).val + 160 * (t.val + 1) + 80)) else Idle (F := F) (thr d i) arg21 arg25.sem arg4 q' OB) ∗ Ow (F := F) (thr d i) O W ∗ At (thr d i) arg11 fullShare gb ∗ At (thr d i) arg12 fullShare ga ∗ (∃ g, ⌜∀ y, R.v (g y) = rowsAdd (fun r => bt (10240 * (i 0).val + r)) (fun r => obs (20480 * (i 1).val + 10240 * (i 0).val + r)) (160 * ((t.val + 1))) (y 0).val⌝ ∗ At (thr d i) arg18 fullShare g) ∗ (∃ g, At (thr d i) arg19 fullShare g))) := by
  have hi0 : (i 0).val < 2 := (i 0).isLt
  have htt := t.isLt
  have ht : t.val < 64 := lt_of_lt_of_le t.isLt (k0_t12_abs i).2.1
  unfold k0_t12_body
  rw [if_pos htt, if_pos htt]
  iintro ⟨#Hm, HC, HC1, HO, H11, H12, H18, H19⟩
  iapply (run _ (turn0 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 hgb hsort ga (fun y => rowsAdd (fun r => bt (10240 * (i 0).val + r)) (fun r => obs (20480 * (i 1).val + 10240 * (i 0).val + r)) (160 * t.val) y) _ t
    (fun r hr => by rw [Nat.add_assoc]; exact hlt _ (by omega)))) $$ [HC HO H11 H12 H18 H19]
  · isplitl [HC]; · iexact HC
    isplitl [HO]; · iexact HO
    isplitr; · iexact Hm
    isplitl [H11]; · iexact H11
    isplitl [H12]; · iexact H12
    isplitl [H18]; · iexact H18
    iexact H19
  iintro %r ⟨HC, HO, H11, H12, H18, H19, %hr⟩
  obtain ⟨arg26, v101, c2⟩ := r
  change arg26 = _ at hr
  subst hr
  iapply (run _ (mid R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 hgb hsort ga (fun y => 0) hOB _ t v2 v22 v101 c2)) $$ [HC HC1 HO H11]
  · isplitl [HC]; · iexact HC
    isplitl [HC1]; · iexact HC1
    isplitl [HO]; · iexact HO
    isplitr; · iexact Hm
    iexact H11
  iintro %r ⟨HC, HC1, Hs, HO, H11, %hr⟩
  obtain ⟨v141, v146, v159, v165, v171, v173⟩ := r
  obtain ⟨h146, h165, h171, v150, h159, hx⟩ := hr
  change v159 = _ at h159
  subst h159
  ihave HC1 := (chunk_open R) $$ HC1
  icases HC1 with ⟨⟨%go, %hgo, H21⟩, H4⟩
  iapply (blk1 R df d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 hgb hsort (ob := fun r => obs (20480 * (i 1).val + 10240 * (i 0).val + 160 * t.val + 80 + r)) hgo h146 (by omega)
    (fun r hr => by rw [Nat.add_assoc, Nat.add_assoc]; exact hlt _ (by omega)) hx h165 h171 ga
    (fun y => rowsAdd (fun r => bt (10240 * (i 0).val + r)) (fun r => obs (20480 * (i 1).val + 10240 * (i 0).val + r)) (160 * t.val) y
      + rowsAdd (fun r => bt (10240 * (i 0).val + 160 * t.val + r)) (fun r => obs (20480 * (i 1).val + 10240 * (i 0).val + 160 * t.val + r)) 80 y)) $$ [H11 H12 H21 H18 H19]
  · isplitl [H11]; · iexact H11
    isplitl [H12]; · iexact H12
    isplitl [H21]; · iexact H21
    isplitl [H18]; · iexact H18
    iexact H19
  iintro %r ⟨H11, H12, H21, ⟨%g, %e, H18⟩, H19⟩
  ihave HC1 := (show iprop(At (thr d i) arg21 fullShare go ∗ At (thr d i) arg4 q' OB ∗ semVal ((thr d i), .dma arg25.sem) 0) ⊢ Idle (F := F) (thr d i) arg21 arg25.sem arg4 q' OB from by
    unfold Idle
    iintro ⟨H21, H4, Hs⟩
    isplitl [H21]; · iexists go; iexact H21
    isplitl [H4]; · iexact H4
    iexact Hs) $$ [H21 H4 Hs]
  · isplitl [H21]; · iexact H21
    isplitl [H4]; · iexact H4
    iexact Hs
  have hacc : ∀ y : S8192.Idx, R.v (g y) = rowsAdd (fun r => bt (10240 * (i 0).val + r)) (fun r => obs (20480 * (i 1).val + 10240 * (i 0).val + r)) (160 * (t.val + 1)) (y 0).val := fun y => by
    rw [e, show 160 * (t.val + 1) = 160 * t.val + (80 + 80) by omega, rowsAdd_step _ _ _ _ (160 * t.val), rowsAdd_step _ _ _ _ 80, add_assoc]
  have e160 : 20480 * (i 1).val + 10240 * (i 0).val + 160 * (t.val + 1) = 20480 * (i 1).val + 10240 * (i 0).val + 160 * t.val + 160 := by omega
  by_cases k0_h8 : k0_cond8 i t = 1#1
  · have hm := (more8 i t).1 k0_h8
    iapply (if_yes _ k0_h8)
    iapply (issue R _ hOB (20480 * (i 1).val + 10240 * (i 0).val + 160 * t.val + 240) (k0_off105_eq i t)) $$ HC1
    iintro HC1
    iapply (fin_pure _)
    isplitl [HC]; · rw [e160]; iexact HC
    isplitl [HC1]; · rw [if_pos hm, show 20480 * (i 1).val + 10240 * (i 0).val + 160 * (t.val + 1) + 80 = 20480 * (i 1).val + 10240 * (i 0).val + 160 * t.val + 240 by omega]; iexact HC1
    isplitl [HO]; · iexact HO
    isplitl [H11]; · iexact H11
    isplitl [H12]; · iexact H12
    isplitl [H18]
    · iexists g
      isplitr
      · ipureintro; exact hacc
      iexact H18
    iexact H19
  · have hm : ¬ (t.val + 1 < (k0_t12_loop i).trips) := fun h => k0_h8 ((more8 i t).2 h)
    iapply (if_no _ k0_h8)
    iapply (fin_pure _)
    isplitl [HC]; · rw [e160]; iexact HC
    isplitl [HC1]; · rw [if_neg hm]; iexact HC1
    isplitl [HO]; · iexact HO
    isplitl [H11]; · iexact H11
    isplitl [H12]; · iexact H12
    isplitl [H18]
    · iexists g
      isplitr
      · ipureintro; exact hacc
      iexact H18
    iexact H19

end Cert.Proof.Seg
-- ==== Proof.Rounds.lean ====
/-
  A tile adds its rows by segment.
-/
module

public import proofs.«01_k».proof.Proof.Combine
public import proofs.«01_k».proof.Proof.Turn

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

set_option maxHeartbeats 4000000 in
theorem turn' {v23 : IVec S16 32} (hv23 : ∀ l : Fin 16, v23 (lane l) = BitVec.ofNat 32 l.val) {v25 : FVec F S16 .f32} (hv25 : ∀ l : Fin 16, R.v (v25 (lane l)) = 0)
    {gb : S20480.Idx → BitVec 32} {BT : ℕ → ℕ} (hgb : ∀ y, (gb y).toNat = BT (20480 * (i 1).val + (y 0).val)) (hsort : ∀ x y, x ≤ y → y < 327680 → BT x ≤ BT y)
    {qa qb : PosShare TreeShare} {O : CellTallies nD τ sig (HIx 2)} {W : Waits sig (HIx 2)} (hlow : ∀ x < 320000, BT x < 64) {OB : S320000x128.Idx → Elt F .f32} {obs : ℕ → ℕ → M} (hOB : ∀ y, R.v (OB y) = obs (y 0).val (y 1).val) (ga : S20480.Idx → Elt F .f32) (t : Fin (k0_t12_loop i).trips) (v2 v22 a : BitVec 32) :
    iprop(Transfers.MayWaits (thr d i) (none : HIx 2) (O) ∗ (if t.val < (k0_t12_loop i).trips then Coming (F := F) (thr d i) arg20 arg24.sem (Chunk R (thr d i) arg20 arg4 qa OB obs (20480 * (i 1).val + 10240 * (i 0).val + 160 * (t.val))) else Idle (F := F) (thr d i) arg20 arg24.sem arg4 qa OB) ∗ (if t.val < (k0_t12_loop i).trips then Coming (F := F) (thr d i) arg21 arg25.sem (Chunk R (thr d i) arg21 arg4 qb OB obs (20480 * (i 1).val + 10240 * (i 0).val + 160 * (t.val) + 80)) else Idle (F := F) (thr d i) arg21 arg25.sem arg4 qb OB) ∗ Ow (F := F) (thr d i) (O) W ∗ At (thr d i) arg11 fullShare gb ∗ At (thr d i) arg12 fullShare ga ∗ (∃ g : S8192.Idx → Elt F .f32, ⌜∀ y : S8192.Idx, R.v (g y) = rowsAdd (fun r => BT (20480 * (i 1).val + (10240 * (i 0).val + r))) (fun r => obs (20480 * (i 1).val + 10240 * (i 0).val + r)) (160 * (t.val)) (y 0).val⌝ ∗ At (thr d i) arg18 fullShare g) ∗ (∃ g, At (thr d i) arg19 fullShare g))
      ⊢ wp frame (wpE (defs₀ (F := F)) 𝒱₀ (thr d i) none) Set.univ (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 0#32 t a) (fun _ => iprop(Transfers.MayWaits (thr d i) (none : HIx 2) (O) ∗ (if (t.val + 1) < (k0_t12_loop i).trips then Coming (F := F) (thr d i) arg20 arg24.sem (Chunk R (thr d i) arg20 arg4 qa OB obs (20480 * (i 1).val + 10240 * (i 0).val + 160 * ((t.val + 1)))) else Idle (F := F) (thr d i) arg20 arg24.sem arg4 qa OB) ∗ (if (t.val + 1) < (k0_t12_loop i).trips then Coming (F := F) (thr d i) arg21 arg25.sem (Chunk R (thr d i) arg21 arg4 qb OB obs (20480 * (i 1).val + 10240 * (i 0).val + 160 * ((t.val + 1)) + 80)) else Idle (F := F) (thr d i) arg21 arg25.sem arg4 qb OB) ∗ Ow (F := F) (thr d i) (O) W ∗ At (thr d i) arg11 fullShare gb ∗ At (thr d i) arg12 fullShare ga ∗ (∃ g : S8192.Idx → Elt F .f32, ⌜∀ y : S8192.Idx, R.v (g y) = rowsAdd (fun r => BT (20480 * (i 1).val + (10240 * (i 0).val + r))) (fun r => obs (20480 * (i 1).val + 10240 * (i 0).val + r)) (160 * ((t.val + 1))) (y 0).val⌝ ∗ At (thr d i) arg18 fullShare g) ∗ (∃ g, At (thr d i) arg19 fullShare g))) := by
  have hi0 : (i 0).val < 2 := (i 0).isLt
  have hi1 : (i 1).val < 16 := (i 1).isLt
  have hn := rows12 i
  iintro ⟨#Hm, H⟩
  iapply (wp_keep d i (P := Transfers.MayWaits (thr d i) (none : HIx 2) (O)) (turn R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 (bt := fun r => BT (20480 * (i 1).val + r)) hgb (fun x y h h' => hsort _ _ (by omega) (by omega)) ga hOB t v2 v22 a (fun r hr => hlow _ (by omega)))) $$ [H]
  isplitr; · iexact Hm
  isplitr; · iexact Hm
  iexact H

set_option maxHeartbeats 4000000 in
/-- The tile's blocks of rows, added up by segment. -/
theorem rows81 {α : Type} {Q : α → sProp (MT nD τ sig (HIx 2) (Elt F) ℕ UU ℕ)} {K : Prog (TpuEff nD τ sig (Elt F) Λ₀ (.scVector ((i 0).castLE hcore0) ((i 1).castLE hsub0))) α} {v23 : IVec S16 32} (hv23 : ∀ l : Fin 16, v23 (lane l) = BitVec.ofNat 32 l.val) {v25 : FVec F S16 .f32} (hv25 : ∀ l : Fin 16, R.v (v25 (lane l)) = 0)
    {gb : S20480.Idx → BitVec 32} {BT : ℕ → ℕ} (hgb : ∀ y, (gb y).toNat = BT (20480 * (i 1).val + (y 0).val)) (hsort : ∀ x y, x ≤ y → y < 327680 → BT x ≤ BT y)
    (hlow : ∀ x < 320000, BT x < 64) {OB : S320000x128.Idx → Elt F .f32} {obs : ℕ → ℕ → M} (hOB : ∀ y, R.v (OB y) = obs (y 0).val (y 1).val) {qa qb : PosShare TreeShare} {O : CellTallies nD τ sig (HIx 2)} {W : Waits sig (HIx 2)} (v2 v22 v80 : BitVec 32) :
    iprop(Transfers.MayWaits (thr d i) (none : HIx 2) (O) ∗ Coming (F := F) (thr d i) arg20 arg24.sem (Chunk R (thr d i) arg20 arg4 qa OB obs (20480 * (i 1).val + 10240 * (i 0).val)) ∗ Coming (F := F) (thr d i) arg21 arg25.sem (Chunk R (thr d i) arg21 arg4 qb OB obs (20480 * (i 1).val + 10240 * (i 0).val + 80)) ∗ Ow (F := F) (thr d i) (O) W ∗ At (thr d i) arg11 fullShare gb ∗ (∃ g, At (thr d i) arg12 fullShare g) ∗ (∃ g : S8192.Idx → Elt F .f32, ⌜∀ y : S8192.Idx, R.v (g y) = 0⌝ ∗ At (thr d i) arg18 fullShare g) ∗ (∃ g, At (thr d i) arg19 fullShare g))
      ⊢ iprop((iprop(Idle (F := F) (thr d i) arg20 arg24.sem arg4 qa OB ∗ Idle (F := F) (thr d i) arg21 arg25.sem arg4 qb OB ∗ Ow (F := F) (thr d i) (O) W ∗ At (thr d i) arg11 fullShare gb ∗ (∃ g, At (thr d i) arg12 fullShare g) ∗ (∃ g : S8192.Idx → Elt F .f32, ⌜∀ y : S8192.Idx, R.v (g y) = accT BT obs (i 0).val (i 1).val (y 0).val⌝ ∗ At (thr d i) arg18 fullShare g) ∗ (∃ g, At (thr d i) arg19 fullShare g)) -∗ wp frame (wpE (defs₀ (F := F)) 𝒱₀ (thr d i) none) Set.univ (K) Q) -∗ wp frame (wpE (defs₀ (F := F)) 𝒱₀ (thr d i) none) Set.univ (do
      let v81 : BitVec 32 ← Scf.Loop.for (k0_t12_loop i) (k0_t12_ok i) 0#32 (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 0#32)
      let v82 : BitVec 32 ← Scf.Loop.for (k0_t17_loop i) (k0_t17_ok i) v81 (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 v80)
      K) Q) := by
  have hn := rows12 i
  have hz : (k0_t17_loop i).trips = 0 := by have := (k0_t17_abs i).2.1; omega
  iintro ⟨#Hm, HC, HC1, HO, H11, ⟨%ga, H12⟩, ⟨%g18, %e18, H18⟩, H19⟩ Hk
  iapply (loop (l := k0_t12_loop i) (hok := k0_t12_ok i) (body := k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 0#32) _ (fun n _ => iprop(Transfers.MayWaits (thr d i) (none : HIx 2) (O) ∗ (if n < (k0_t12_loop i).trips then Coming (F := F) (thr d i) arg20 arg24.sem (Chunk R (thr d i) arg20 arg4 qa OB obs (20480 * (i 1).val + 10240 * (i 0).val + 160 * (n))) else Idle (F := F) (thr d i) arg20 arg24.sem arg4 qa OB) ∗ (if n < (k0_t12_loop i).trips then Coming (F := F) (thr d i) arg21 arg25.sem (Chunk R (thr d i) arg21 arg4 qb OB obs (20480 * (i 1).val + 10240 * (i 0).val + 160 * (n) + 80)) else Idle (F := F) (thr d i) arg21 arg25.sem arg4 qb OB) ∗ Ow (F := F) (thr d i) (O) W ∗ At (thr d i) arg11 fullShare gb ∗ At (thr d i) arg12 fullShare ga ∗ (∃ g : S8192.Idx → Elt F .f32, ⌜∀ y : S8192.Idx, R.v (g y) = rowsAdd (fun r => BT (20480 * (i 1).val + (10240 * (i 0).val + r))) (fun r => obs (20480 * (i 1).val + 10240 * (i 0).val + r)) (160 * (n)) (y 0).val⌝ ∗ At (thr d i) arg18 fullShare g) ∗ (∃ g, At (thr d i) arg19 fullShare g))) (fun t a => turn' R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 hgb hsort hlow hOB ga t v2 v22 a)) $$ [HC HC1 HO H11 H12 H18 H19]
  · isplitr; · iexact Hm
    isplitl [HC]; · rw [if_pos hn.1]; iexact HC
    isplitl [HC1]; · rw [if_pos hn.1]; iexact HC1
    isplitl [HO]; · iexact HO
    isplitl [H11]; · iexact H11
    isplitl [H12]; · iexact H12
    isplitl [H18]
    · iexists g18
      isplitr
      · ipureintro; intro y; rw [e18 y]; exact (rowsAdd_zero _ _ _).symm
      iexact H18
    iexact H19
  iintro %a ⟨_, HC, HC1, HO, H11, H12, ⟨%g, %e, H18⟩, H19⟩
  iapply (loop (l := k0_t17_loop i) (hok := k0_t17_ok i) (body := k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BitVec.ofNat 32 (i 0).val) v2 v22 v23 v25 v80) _ (fun n _ => iprop(emp)) (fun t a => absurd t.isLt (by omega))) $$ []
  · iempintro
  iintro %a2 _
  iapply Hk
  isplitl [HC]
  · iapply (Entails.of_eq (if_neg (lt_irrefl _)) : (if (k0_t12_loop i).trips < (k0_t12_loop i).trips then Coming (F := F) (thr d i) arg20 arg24.sem (Chunk R (thr d i) arg20 arg4 qa OB obs (20480 * (i 1).val + 10240 * (i 0).val + 160 * (k0_t12_loop i).trips)) else Idle (F := F) (thr d i) arg20 arg24.sem arg4 qa OB) ⊢ Idle (F := F) (thr d i) arg20 arg24.sem arg4 qa OB) $$ HC
  isplitl [HC1]
  · iapply (Entails.of_eq (if_neg (lt_irrefl _)) : (if (k0_t12_loop i).trips < (k0_t12_loop i).trips then Coming (F := F) (thr d i) arg21 arg25.sem (Chunk R (thr d i) arg21 arg4 qb OB obs (20480 * (i 1).val + 10240 * (i 0).val + 160 * (k0_t12_loop i).trips + 80)) else Idle (F := F) (thr d i) arg21 arg25.sem arg4 qb OB) ⊢ Idle (F := F) (thr d i) arg21 arg25.sem arg4 qb OB) $$ HC1
  isplitl [HO]; · iexact HO
  isplitl [H11]; · iexact H11
  isplitl [H12]; · iexists ga; iexact H12
  isplitl [H18]
  · iexists g
    isplitr
    · ipureintro; intro y; rw [e y, hn.2]; rfl
    iexact H18
  iexact H19

end Cert.Proof.Seg
-- ==== Proof.Enter.lean ====
/-
  The first copies of a tile.
-/
module

public import proofs.«01_k».proof.Proof.Own
public import proofs.«01_k».proof.Proof.Ahead

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

/-- The first copies: two blocks of rows on their way, the tile's segment words fetched. -/
theorem enter34 {gB : S327680.Idx → BitVec 32} {BT : ℕ → ℕ} (hB : ∀ y, (gB y).toNat = BT (y 0).val) {OB : S320000x128.Idx → Elt F .f32} {obs : ℕ → ℕ → M} (hOB : ∀ y, R.v (OB y) = obs (y 0).val (y 1).val) {qa qb q3 : PosShare TreeShare} {O : CellTallies nD τ sig (HIx 2)} {W : Waits sig (HIx 2)} :
    iprop(Idle (F := F) (thr d i) arg20 arg24.sem arg4 qa OB ∗ Idle (F := F) (thr d i) arg21 arg25.sem arg4 qb OB ∗ At (thr d i) arg3 q3 gB ∗ (∃ g, At (thr d i) arg11 fullShare g) ∗ semVal ((thr d i), .dma v100_r0.sem) 0 ∗ Ow (F := F) (thr d i) (O) W ∗ Transfers.MayWaits (thr d i) (none : HIx 2) (O))
      ⊢ wp frame (wpE (defs₀ (F := F)) 𝒱₀ (thr d i) none) Set.univ (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15) (fun r => iprop(Coming (F := F) (thr d i) arg20 arg24.sem (Chunk R (thr d i) arg20 arg4 qa OB obs (20480 * (i 1).val + 10240 * (i 0).val)) ∗ Coming (F := F) (thr d i) arg21 arg25.sem (Chunk R (thr d i) arg21 arg4 qb OB obs (20480 * (i 1).val + 10240 * (i 0).val + 80)) ∗ At (thr d i) arg3 q3 gB ∗ (∃ gb, ⌜∀ y, (gb y).toNat = BT (20480 * (i 1).val + (y 0).val)⌝ ∗ At (thr d i) arg11 fullShare gb) ∗ semVal ((thr d i), .dma v100_r0.sem) 0 ∗ Ow (F := F) (thr d i) (O) W ∗ ⌜r.1 = BitVec.ofNat 32 (i 0).val ∧ r.2.1 = BitVec.ofNat 32 (i 1).val ∧ (∀ l : Fin 16, r.2.2.2.2.1 (lane l) = BitVec.ofNat 32 l.val) ∧ (∀ l : Fin 16, R.v (r.2.2.2.2.2.1 (lane l)) = R.one) ∧ ∀ l : Fin 16, R.v (r.2.2.2.2.2.2 (lane l)) = 0⌝)) := by
  rw [k0_part34_eq_skeleton]
  unfold k0_part34_skel
  iintro ⟨HC, HC1, H3, ⟨%g11, H11⟩, Hs, HO, #Hm⟩
  iapply (issue R _ hOB (20480 * (i 1).val + 10240 * (i 0).val) (k0_off1_eq i)) $$ HC
  iintro HC
  iapply (issue R _ hOB (20480 * (i 1).val + 10240 * (i 0).val + 80) (k0_off2_eq i)) $$ HC1
  iintro HC1
  ihave H3 := (at_slice_read _ (Rect.unit (s := S327680) (k0_off3 i) S20480.size (k0_off3_inb i)) (fun _ => rfl)) $$ H3
  icases H3 with ⟨H3, H3w⟩
  iapply (at_copy _ (View.amount_pos _ _ (show 0 < S20480.numel by decide))) $$ [H3 H11 Hs HO]
  · isplitl [H3]; · iexact H3
    isplitl [H11]; · iexact H11
    isplitl [Hs]; · iexact Hs
    isplitl [HO]; · iexact HO
    iexact Hm
  iintro ⟨H3, H11, Hs, HO⟩
  ihave H3 := H3w $$ H3
  iapply (fin_pure _)
  isplitl [HC]; · iexact HC
  isplitl [HC1]; · iexact HC1
  isplitl [H3]; · iexact H3
  isplitl [H11]
  · iexists (fun x => gB ((Rect.unit (s := S327680) (k0_off3 i) S20480.size (k0_off3_inb i)).emb x))
    isplitr
    · ipureintro; exact fun y => (hB _).trans (congrArg BT ((unitEmb _ _ _ _ _).trans (congrArg (· + (y 0).val) (congrFun (k0_off3_eq i) 0))))
    iexact H11
  isplitl [Hs]; · iexact Hs
  isplitl [HO]; · iexact HO
  ipureintro
  exact ⟨rfl, rfl, fun l => congrArg (BitVec.ofNat 32) (show 0 * 16 + l.val = l.val by omega), fun l => R.one_eq, fun l => R.zero⟩

end Cert.Proof.Seg
-- ==== Proof.Count.lean ====
/-
  A tile counts its rows and meets the others.
-/
module

public import proofs.«01_k».proof.Proof.Own
public import proofs.«01_k».proof.Proof.Ahead
public import proofs.«01_k».proof.Proof.Loops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

/-- The rows counted, and on core `0` their priorities formed. -/
theorem count35 {α : Type} {Q : α → sProp (MT nD τ sig (HIx 2) (Elt F) ℕ UU ℕ)} {K : Prog (TpuEff nD τ sig (Elt F) Λ₀ (.scVector ((i 0).castLE hcore0) ((i 1).castLE hsub0))) α} (arg0 arg1 : BitVec 32) {v23 : IVec S16 32} (hv23 : ∀ l : Fin 16, v23 (lane l) = BitVec.ofNat 32 l.val) {v24 : FVec F S16 .f32} (hv24 : ∀ l : Fin 16, R.v (v24 (lane l)) = R.one) (v25 : FVec F S16 .f32)
    {gb : S20480.Idx → BitVec 32} {bt : ℕ → ℕ} (hgb : ∀ y, (gb y).toNat = bt (y 0).val) (hbt : ∀ x < 20480, bt x ≤ 64)
    {gu : S128.Idx → Elt F .f32} {CS UN : ℕ → Elt F .f32} (hgu : ∀ y, gu y = UN (y 0).val) :
    iprop(At (thr d i) arg11 fullShare gb ∗ At (thr d i) arg14 fullShare gu ∗ (∃ g, ⌜∀ y, g y = CS (y 0).val⌝ ∗ At (thr d i) arg12 fullShare g) ∗ (∃ g, At (thr d i) arg13 fullShare g) ∗ (∃ g, ⌜∀ y, R.v (g y) = keysAdd R.one bt (0) (y 0).val⌝ ∗ At (thr d i) arg15 fullShare g) ∗ (∃ g, At (thr d i) arg16 fullShare g))
      ⊢ iprop((iprop(At (thr d i) arg11 fullShare gb ∗ At (thr d i) arg14 fullShare gu ∗ (∃ g, At (thr d i) arg12 fullShare g) ∗ (∃ g, ⌜(i 0).val = 0 → ∀ y, g y = FloatOps.addf (F := F) (φ := .f32) (CS (y 0).val) (UN (bt (y 0).val))⌝ ∗ At (thr d i) arg13 fullShare g) ∗ (∃ g, ⌜∀ y, R.v (g y) = keysAdd R.one bt (20480) (y 0).val⌝ ∗ At (thr d i) arg15 fullShare g) ∗ (∃ g, At (thr d i) arg16 fullShare g)) -∗ wp frame (wpE (defs₀ (F := F)) 𝒱₀ (thr d i) none) Set.univ (K) Q) -∗ wp frame (wpE (defs₀ (F := F)) 𝒱₀ (thr d i) none) Set.univ (do
      if k0_h1 : k0_cond1 i = 1#1 then do
        let v101 : BitVec 32 ← Scf.Loop.for k0_t2_loop (k0_t2_ok i k0_h1) 0#32 (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 k0_h1)
        pure PUnit.unit
      else do
        pure PUnit.unit
      if k0_h2 : k0_cond2 i = 1#1 then do
        let v101 : BitVec 32 ← Scf.Loop.for k0_t3_loop (k0_t3_ok i k0_h2) 0#32 (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25 k0_h2)
        pure PUnit.unit
      else do
        pure PUnit.unit
      K) Q) := by
  iintro ⟨H11, H14, ⟨%g, %e, H12⟩, ⟨%p, H13⟩, H15, H16⟩ Hk
  by_cases h : (i 0).val = 0
  · have k0_h1 := (cond1_iff i).2 h
    have k0_h2 : ¬ k0_cond2 i = 1#1 := fun hh => (cond2_iff i).1 hh h
    iapply (if_yes _ k0_h1)
    iapply (loop _ (fun n _ => iprop(At (thr d i) arg11 fullShare gb ∗ At (thr d i) arg14 fullShare gu ∗ (∃ g, ⌜∀ y, 32 * n ≤ (y 0).val → g y = CS (y 0).val⌝ ∗ At (thr d i) arg12 fullShare g) ∗ (∃ g, ⌜∀ y, (y 0).val < 32 * n → g y = FloatOps.addf (F := F) (φ := .f32) (CS (y 0).val) (UN (bt (y 0).val))⌝ ∗ At (thr d i) arg13 fullShare g) ∗ (∃ g, ⌜∀ y, R.v (g y) = keysAdd R.one bt (32 * n) (y 0).val⌝ ∗ At (thr d i) arg15 fullShare g) ∗ (∃ g, At (thr d i) arg16 fullShare g))) (fun t a => count2 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v25 k0_h1 hv23 hv24 hgb hbt hgu t a)) $$ [H11 H14 H12 H13 H15 H16]
    · isplitl [H11]; · iexact H11
      isplitl [H14]; · iexact H14
      isplitl [H12]
      · iexists g
        isplitr
        · ipureintro; exact fun y _ => e y
        iexact H12
      isplitl [H13]
      · iexists p
        isplitr
        · ipureintro; exact fun y hy => absurd hy (by omega)
        iexact H13
      isplitl [H15]; · iexact H15
      iexact H16
    iintro %a ⟨H11, H14, ⟨%g', %_, H12⟩, ⟨%p', %e', H13⟩, H15, H16⟩
    iapply (if_no _ k0_h2)
    iapply Hk
    isplitl [H11]; · iexact H11
    isplitl [H14]; · iexact H14
    isplitl [H12]; · iexists g'; iexact H12
    isplitl [H13]
    · iexists p'
      isplitr
      · ipureintro
        intro _ y
        have hy : (y 0).val < 20480 := (y 0).isLt
        exact e' y (by rw [show k0_t2_loop.trips = 640 from by decide]; omega)
      iexact H13
    isplitl [H15]; · iexact H15
    iexact H16
  · have k0_h1 : ¬ k0_cond1 i = 1#1 := fun hh => h ((cond1_iff i).1 hh)
    have k0_h2 := (cond2_iff i).2 h
    iapply (if_no _ k0_h1)
    iapply (if_yes _ k0_h2)
    iapply (loop _ (fun n _ => iprop(At (thr d i) arg11 fullShare gb ∗ (∃ g, At (thr d i) arg12 fullShare g) ∗ (∃ g, ⌜∀ y, R.v (g y) = keysAdd R.one bt (32 * n) (y 0).val⌝ ∗ At (thr d i) arg15 fullShare g) ∗ (∃ g, At (thr d i) arg16 fullShare g))) (fun t a => count3 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v25 k0_h2 hv23 hv24 hgb hbt t a)) $$ [H11 H12 H15 H16]
    · isplitl [H11]; · iexact H11
      isplitl [H12]; · iexists g; iexact H12
      isplitl [H15]; · iexact H15
      iexact H16
    iintro %a ⟨H11, H12, H15, H16⟩
    iapply Hk
    isplitl [H11]; · iexact H11
    isplitl [H14]; · iexact H14
    isplitl [H12]; · iexact H12
    isplitl [H13]
    · iexists p
      isplitr
      · ipureintro; exact fun h0 => absurd h0 h
      iexact H13
    isplitl [H15]; · iexact H15
    iexact H16

/-- A tile's counts row and sums row, shared out among the tiles of its core. -/
theorem give_stats {BT : ℕ → ℕ} (arg22 : Memref sig .scVector .shared S40960 .f32) (hleaf : ∀ (r : Fin 2) g, (At (thr d i) (srow arg22 (i 1) r) fullShare g : sProp 𝕄) ⊢ bigSep Finset.univ fun j : Fin 16 => At (V d (cr i) (tl j)) (srow arg22 (i 1) r) (leaf 4 fullShare j) g)
    {g0 g1 : S1280.Idx → Elt F .f32} (h : ∀ y, R.v (g0 y) = keysAdd R.one (fun r => BT (20480 * (i 1).val + r)) 20480 (y 0).val) :
    iprop(At (thr d i) (srow arg22 (i 1) 0) fullShare g0 ∗ At (thr d i) (srow arg22 (i 1) 1) fullShare g1)
      ⊢ bigSep Finset.univ fun j : Fin 16 => STt R BT arg22 d (cr i) (i 1) j := by
  refine (BI.sep_mono (hleaf 0 g0) (hleaf 1 g1)).trans ?_
  refine (Entails.of_eq (bigSep_sep' _ _ _).symm).trans (bigSep_mono fun j _ => ?_)
  show (_ : sProp 𝕄) ⊢ (_ : sProp 𝕄)
  unfold STt StatOf
  iintro ⟨H0, H1⟩
  isplitl [H0]
  · iexists g0
    isplitr
    · ipureintro; exact h
    iexact H0
  iexists g1
  iexact H1

/-- The tile's counts, to the first meeting and through it. -/
theorem meet35 {gCS : S327680.Idx → Elt F .f32} {CS : ℕ → Elt F .f32} (hCS : ∀ y, gCS y = CS (y 0).val) {gB : S327680.Idx → BitVec 32} {BT : ℕ → ℕ} (hB : ∀ y, (gB y).toNat = BT (y 0).val) (hBT : ∀ x < 327680, BT x ≤ 64) {gU : S128.Idx → Elt F .f32} {UN : ℕ → Elt F .f32} (hU : ∀ y, gU y = UN (y 0).val) (arg0 arg1 : BitVec 32) {v23 : IVec S16 32} (hv23 : ∀ l : Fin 16, v23 (lane l) = BitVec.ofNat 32 l.val) {v24 : FVec F S16 .f32} (hv24 : ∀ l : Fin 16, R.v (v24 (lane l)) = R.one) {v25 : FVec F S16 .f32} (hv25 : ∀ l : Fin 16, R.v (v25 (lane l)) = 0) {q2 q5 : PosShare TreeShare} {O : CellTallies nD τ sig (HIx 2)} {W : Waits sig (HIx 2)}
    (PO : Dev nD → Fin τ.nSC → Fin 16 → Fin 16 → sProp (MT nD τ sig (HIx 2) (Elt F) ℕ UU ℕ)) [∀ d c i j, BI.Storable (upEmb : UEmb _ (MT nD τ sig (HIx 2) (Elt F) ℕ UU ℕ)) (PO d c i j)]
    (κ κ' : GSem nD τ sig → ℕ) (hleaf : ∀ (r : Fin 2) g, (At (thr d i) (srow arg22 (i 1) r) fullShare g : sProp 𝕄) ⊢ bigSep Finset.univ fun j : Fin 16 => At (V d (cr i) (tl j)) (srow arg22 (i 1) r) (leaf 4 fullShare j) g) :
    iprop(At (thr d i) arg2 q2 gCS ∗ At (thr d i) arg5 q5 gU ∗ (∃ gb, ⌜∀ y, (gb y).toNat = BT (20480 * (i 1).val + (y 0).val)⌝ ∗ At (thr d i) arg11 fullShare gb) ∗ (∃ g, At (thr d i) arg12 fullShare g) ∗ (∃ g, At (thr d i) arg13 fullShare g) ∗ (∃ g, At (thr d i) arg14 fullShare g) ∗ (∃ g, At (thr d i) arg15 fullShare g) ∗ (∃ g, At (thr d i) arg16 fullShare g) ∗ semVal ((thr d i), .dma v100_r1.sem) 0 ∗ semVal ((thr d i), .dma v100_r2.sem) 0 ∗ semVal ((thr d i), .dma v100_r3.sem) 0 ∗ semVal ((thr d i), .dma v100_r4.sem) 0 ∗ (∃ g, At (thr d i) (srow arg22 (i 1) 0) fullShare g) ∗ (∃ g, At (thr d i) (srow arg22 (i 1) 1) fullShare g) ∗ Kit1 d i (STt R BT arg22) PO κ κ' O ∗ Ow (F := F) (thr d i) (O + oxP d (cr i) (some 1) + oxP d (cr i) (some 0)) W ∗ Transfers.MayWaits (thr d i) (none : HIx 2) (O + oxP d (cr i) (some 1) + oxP d (cr i) (some 0)))
      ⊢ wp frame (wpE (defs₀ (F := F)) 𝒱₀ (thr d i) none) Set.univ (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 v25) (fun _ => iprop(At (thr d i) arg2 q2 gCS ∗ At (thr d i) arg5 q5 gU ∗ (∃ gb, ⌜∀ y, (gb y).toNat = BT (20480 * (i 1).val + (y 0).val)⌝ ∗ At (thr d i) arg11 fullShare gb) ∗ (∃ g, At (thr d i) arg12 fullShare g) ∗ (∃ g, ⌜(i 0).val = 0 → ∀ y, g y = FloatOps.addf (F := F) (φ := .f32) (CS (20480 * (i 1).val + (y 0).val)) (UN (BT (20480 * (i 1).val + (y 0).val)))⌝ ∗ At (thr d i) arg13 fullShare g) ∗ (∃ g, At (thr d i) arg14 fullShare g) ∗ (∃ g, ⌜∀ y, R.v (g y) = 0⌝ ∗ At (thr d i) arg15 fullShare g) ∗ (∃ g, At (thr d i) arg16 fullShare g) ∗ semVal ((thr d i), .dma v100_r1.sem) 0 ∗ semVal ((thr d i), .dma v100_r2.sem) 0 ∗ semVal ((thr d i), .dma v100_r3.sem) 0 ∗ semVal ((thr d i), .dma v100_r4.sem) 0 ∗ Met d i PO ∗ Ow (F := F) (thr d i) (O + oxP d (cr i) (some 1)) W ∗ bigSep Finset.univ fun j : Fin 16 => STt R BT arg22 d (cr i) j (i 1))) := by
  have hi1 : (i 1).val < 16 := (i 1).isLt
  rw [k0_part35_eq_skeleton]
  unfold k0_part35_skel
  iintro ⟨H2, H5, ⟨%gb, %hgb, H11⟩, ⟨%g12, H12⟩, H13, ⟨%g14, H14⟩, ⟨%g15, H15⟩, H16, Hs1, Hs2, Hs3, Hs4, ⟨%r0, Hr0⟩, ⟨%r1, Hr1⟩, HK, HO, #Hm⟩
  ihave H2 := (at_slice_read _ (Rect.unit (s := S327680) (k0_off3 i) S20480.size (k0_off3_inb i)) (fun _ => rfl)) $$ H2
  icases H2 with ⟨H2, H2w⟩
  iapply (at_copy _ (View.amount_pos _ _ (show 0 < S20480.numel by decide))) $$ [H2 H12 Hs1 HO]
  · isplitl [H2]; · iexact H2
    isplitl [H12]; · iexact H12
    isplitl [Hs1]; · iexact Hs1
    isplitl [HO]; · iexact HO
    iexact Hm
  iintro ⟨H2, H12, Hs1, HO⟩
  ihave H2 := H2w $$ H2
  iapply (at_copy _ (View.amount_pos _ _ (show 0 < S128.numel by decide))) $$ [H5 H14 Hs2 HO]
  · isplitl [H5]; · iexact H5
    isplitl [H14]; · iexact H14
    isplitl [Hs2]; · iexact Hs2
    isplitl [HO]; · iexact HO
    iexact Hm
  iintro ⟨H5, H14, Hs2, HO⟩
  iapply (loop _ (fun n _ => iprop((∃ g, ⌜∀ y, (y 0).val < 16 * n → R.v (g y) = 0⌝ ∗ At (thr d i) arg15 fullShare g) ∗ (∃ g, At (thr d i) arg16 fullShare g))) (fun t a => zero1 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 hv25 t a)) $$ [H15 H16]
  · isplitl [H15]
    · iexists g15
      isplitr
      · ipureintro; exact fun y hy => absurd hy (by omega)
      iexact H15
    iexact H16
  iintro %_ ⟨⟨%g15, %e15, H15⟩, H16⟩
  iapply (count35 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 hv23 hv24 v25 (bt := (fun r => BT (20480 * (i 1).val + r))) hgb (fun x hx => hBT _ (by omega)) (CS := fun r => CS (20480 * (i 1).val + r)) hU) $$ [H11 H14 H12 H13 H15 H16]
  · isplitl [H11]; · iexact H11
    isplitl [H14]; · iexact H14
    isplitl [H12]
    · iexists (fun x => gCS ((Rect.unit (s := S327680) (k0_off3 i) S20480.size (k0_off3_inb i)).emb x))
      isplitr
      · ipureintro; exact fun y => (hCS _).trans (congrArg CS ((unitEmb _ _ _ _ _).trans (congrArg (· + (y 0).val) (congrFun (k0_off3_eq i) 0))))
      iexact H12
    isplitl [H13]; · iexact H13
    isplitl [H15]
    · iexists g15
      isplitr
      · ipureintro
        intro y
        have hy : (y 0).val < 1280 := (y 0).isLt
        rw [keysAdd_zero]; exact e15 y (by rw [show k0_t1_loop.trips = 80 from by decide]; omega)
      iexact H15
    iexact H16
  iintro ⟨H11, H14, H12, H13, ⟨%c15, %ec, H15⟩, ⟨%c16, H16⟩⟩
  ihave Hr0 := (at_off _ (off' := k0_off11 i 0#32) (inb' := k0_off11_inb i 0) (hr' := fun _ => rfl) (k0_off11_eq i 0).symm _) $$ Hr0
  iapply (at_copy _ (View.amount_pos _ _ (show 0 < S1280.numel by decide))) $$ [H15 Hr0 Hs3 HO]
  · isplitl [H15]; · iexact H15
    isplitl [Hr0]; · iexact Hr0
    isplitl [Hs3]; · iexact Hs3
    isplitl [HO]; · iexact HO
    iexact Hm
  iintro ⟨H15, Hr0, Hs3, HO⟩
  ihave Hr0 := (at_off _ (off' := ![2560 * (i 1).val + 1280 * (0 : Fin 2).val]) (inb' := srow_inb (i 1) 0) (hr' := fun _ => rfl) (k0_off11_eq i 0) _) $$ Hr0
  ihave Hr1 := (at_off _ (off' := k0_off11 i 1#32) (inb' := k0_off11_inb i 1) (hr' := fun _ => rfl) (k0_off11_eq i 1).symm _) $$ Hr1
  iapply (at_copy _ (View.amount_pos _ _ (show 0 < S1280.numel by decide))) $$ [H16 Hr1 Hs4 HO]
  · isplitl [H16]; · iexact H16
    isplitl [Hr1]; · iexact Hr1
    isplitl [Hs4]; · iexact Hs4
    isplitl [HO]; · iexact HO
    iexact Hm
  iintro ⟨H16, Hr1, Hs4, HO⟩
  ihave Hr1 := (at_off _ (off' := ![2560 * (i 1).val + 1280 * (1 : Fin 2).val]) (inb' := srow_inb (i 1) 1) (hr' := fun _ => rfl) (k0_off11_eq i 1) _) $$ Hr1
  ihave HS := (give_stats R d i arg22 hleaf ec) $$ [Hr0 Hr1]
  · isplitl [Hr0]; · iexact Hr0
    iexact Hr1
  iapply (meet1 d i (STt R BT arg22) PO κ κ' O W) $$ [HK HO HS]
  · isplitl [HK]; · iexact HK
    isplitl [HO]; · iexact HO
    iexact HS
  iintro ⟨HK, HO, HS⟩
  iapply (loop _ (fun n _ => iprop((∃ g, ⌜∀ y, (y 0).val < 16 * n → R.v (g y) = 0⌝ ∗ At (thr d i) arg15 fullShare g) ∗ (∃ g, At (thr d i) arg16 fullShare g))) (fun t a => zero4 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 arg0 arg1 v23 v24 hv25 t a)) $$ [H15 H16]
  · isplitl [H15]
    · iexists c15
      isplitr
      · ipureintro; exact fun y hy => absurd hy (by omega)
      iexact H15
    iexists c16
    iexact H16
  iintro %_ ⟨⟨%z15, %e15, H15⟩, H16⟩
  iapply (fin_pure _)
  isplitl [H2]; · iexact H2
  isplitl [H5]; · iexact H5
  isplitl [H11]
  · iexists gb
    isplitr
    · ipureintro; exact hgb
    iexact H11
  isplitl [H12]; · iexact H12
  isplitl [H13]; · iexact H13
  isplitl [H14]; · iexists gU; iexact H14
  isplitl [H15]
  · iexists z15
    isplitr
    · ipureintro
      intro y
      have hy : (y 0).val < 1280 := (y 0).isLt
      exact e15 y (by rw [show k0_t4_loop.trips = 80 from by decide]; omega)
    iexact H15
  isplitl [H16]; · iexact H16
  isplitl [Hs1]; · iexact Hs1
  isplitl [Hs2]; · iexact Hs2
  isplitl [Hs3]; · iexact Hs3
  isplitl [Hs4]; · iexact Hs4
  isplitl [HK]; · iexact HK
  isplitl [HO]; · iexact HO
  iexact HS

end Cert.Proof.Seg
-- ==== Proof.Finish.lean ====
/-
  The row sums added over the tiles, and what a tile writes out.
-/
module

public import proofs.«01_k».proof.Proof.Own
public import proofs.«01_k».proof.Proof.Ahead
public import proofs.«01_k».proof.Proof.Loops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

/-- One tile's part in the table of row sums, taken out and put back. -/
theorem take_pool {BT : ℕ → ℕ} {obs : ℕ → ℕ → M} (arg23 : Memref sig .scVector .shared S262144 .f32) (w : Fin 16) :
    (bigSep Finset.univ fun k : Fin 16 => PoolOf (thr d i) R arg23 k (accT BT obs (i 0).val k.val)) ⊢ iprop(((∃ g, ⌜∀ y, R.v (g y) = accT BT obs (i 0).val w.val (y 0).val⌝ ∗ At (thr d i) (prow arg23 w 0) fullShare g) ∗ ∃ g, At (thr d i) (prow arg23 w 1) fullShare g) ∗ (iprop(((∃ g, ⌜∀ y, R.v (g y) = accT BT obs (i 0).val w.val (y 0).val⌝ ∗ At (thr d i) (prow arg23 w 0) fullShare g) ∗ ∃ g, At (thr d i) (prow arg23 w 1) fullShare g)) -∗ (bigSep Finset.univ fun k : Fin 16 => PoolOf (thr d i) R arg23 k (accT BT obs (i 0).val k.val)))) := by
  rw [SparseCore.bigSep_erase' (Finset.mem_univ w)]
  iintro ⟨H, Hr⟩
  isplitl [H]
  · iapply (show PoolOf (thr d i) R arg23 w (accT BT obs (i 0).val w.val) ⊢ iprop(((∃ g, ⌜∀ y, R.v (g y) = accT BT obs (i 0).val w.val (y 0).val⌝ ∗ At (thr d i) (prow arg23 w 0) fullShare g) ∗ ∃ g, At (thr d i) (prow arg23 w 1) fullShare g)) from .rfl) $$ H
  iintro H
  isplitl [H]
  · iapply (show iprop(((∃ g, ⌜∀ y, R.v (g y) = accT BT obs (i 0).val w.val (y 0).val⌝ ∗ At (thr d i) (prow arg23 w 0) fullShare g) ∗ ∃ g, At (thr d i) (prow arg23 w 1) fullShare g)) ⊢ PoolOf (thr d i) R arg23 w (accT BT obs (i 0).val w.val) from .rfl) $$ H
  iexact Hr

/-- Two halves laid one behind the other: the first half is the first. -/
theorem hk13 {B : ℕ → M} {s0 s1 : S8192.Idx → Elt F .f32} {k0 k1 g13 : S20480.Idx → Elt F .f32} (es : ∀ y, R.v (s0 y) = B (y 0).val)
    (ek0 : (∀ x, k0 ((Rect.unit (s := S20480) ![0] S8192.size inb_S20480_S8192_0).emb x) = s0 x) ∧ ∀ y, (∀ x, (Rect.unit (s := S20480) ![0] S8192.size inb_S20480_S8192_0).emb x ≠ y) → k0 y = g13 y)
    (ek1 : (∀ x, k1 ((Rect.unit (s := S20480) ![8192] S8192.size inb_S20480_S8192_8192).emb x) = s1 x) ∧ ∀ y, (∀ x, (Rect.unit (s := S20480) ![8192] S8192.size inb_S20480_S8192_8192).emb x ≠ y) → k1 y = k0 y)
    (y : S20480.Idx) (hy : (y 0).val < 8192) : R.v (k1 y) = B (y 0).val := by
  have h1 : k1 y = k0 y := ek1.2 y fun x hx => by
    have h := congrArg (fun z : S20480.Idx => (z 0).val) hx
    have h2 : ((Rect.unit (s := S20480) ![8192] S8192.size inb_S20480_S8192_8192).emb x 0).val = 8192 + (x 0).val := unitEmb _ _ _ _ _
    have h3 : 8192 + (x 0).val = (y 0).val := h2.symm.trans h
    omega
  have h0 : (Rect.unit (s := S20480) ![0] S8192.size inb_S20480_S8192_0).emb (fun a => ⟨(y 0).val, by obtain rfl := Fin.eq_zero a; exact hy⟩ : S8192.Idx) = y := by
    funext a
    obtain rfl := Fin.eq_zero a
    refine Fin.ext ((unitEmb _ _ _ _ _).trans ?_)
    exact Nat.zero_add _
  rw [h1, ← h0, ek0.1, es]
  exact congrArg B (congrArg (fun z : S20480.Idx => (z 0).val) h0).symm

/-- One step of the sum: a tile's row sums added. -/
theorem pool22 {BT : ℕ → ℕ} {obs : ℕ → ℕ → M} (k0_h15 : k0_cond15 i = 1#1) {O : CellTallies nD τ sig (HIx 2)} {W : Waits sig (HIx 2)} (t : Fin k0_t22_loop.trips) (a : BitVec 32) :
    iprop(Transfers.MayWaits (thr d i) (none : HIx 2) (O) ∗ (bigSep Finset.univ fun k : Fin 16 => PoolOf (thr d i) R arg23 k (accT BT obs (i 0).val k.val)) ∗ (∃ g, At (thr d i) arg13 fullShare g) ∗ (∃ g : S8192.Idx → Elt F .f32, ⌜∀ y : S8192.Idx, R.v (g y) = ∑ w ∈ Finset.range (t.val + 1), accT BT obs (i 0).val w (y 0).val⌝ ∗ At (thr d i) arg18 fullShare g) ∗ (∃ g, At (thr d i) arg19 fullShare g) ∗ semVal ((thr d i), .dma v112_r12.sem) 0 ∗ semVal ((thr d i), .dma v112_r13.sem) 0 ∗ Ow (F := F) (thr d i) (O) W)
      ⊢ wp frame (wpE (defs₀ (F := F)) 𝒱₀ (thr d i) none) Set.univ (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 k0_h15 t a) (fun _ => iprop(Transfers.MayWaits (thr d i) (none : HIx 2) (O) ∗ (bigSep Finset.univ fun k : Fin 16 => PoolOf (thr d i) R arg23 k (accT BT obs (i 0).val k.val)) ∗ (∃ g, At (thr d i) arg13 fullShare g) ∗ (∃ g : S8192.Idx → Elt F .f32, ⌜∀ y : S8192.Idx, R.v (g y) = ∑ w ∈ Finset.range (t.val + 1 + 1), accT BT obs (i 0).val w (y 0).val⌝ ∗ At (thr d i) arg18 fullShare g) ∗ (∃ g, At (thr d i) arg19 fullShare g) ∗ semVal ((thr d i), .dma v112_r12.sem) 0 ∗ semVal ((thr d i), .dma v112_r13.sem) 0 ∗ Ow (F := F) (thr d i) (O) W)) := by
  have htt : k0_t22_loop.trips = 15 := by decide
  have ht : t.val + 1 < 16 := by have := t.isLt; omega
  unfold k0_t22_body
  iintro ⟨#Hm, HP, ⟨%g13, H13⟩, ⟨%g18, %e18, H18⟩, H19, Hs12, Hs13, HO⟩
  ihave HP := (take_pool R d i arg23 ⟨t.val + 1, ht⟩) $$ HP
  icases HP with ⟨⟨⟨%s0, %es, Hr0⟩, ⟨%s1, Hr1⟩⟩, Hback⟩
  have e0 : k0_off190 t 0#32 = ![16384 * (⟨t.val + 1, ht⟩ : Fin 16).val + 8192 * (0 : Fin 2).val] := (k0_off190_eq t 0).trans (congrArg (fun n => ![n]) (show 16384 * t.val + 8192 * 0 + 16384 = 16384 * (t.val + 1) + 8192 * 0 by omega))
  ihave H13 := (at_slice_write _ (Rect.unit (s := S20480) ![0] S8192.size inb_S20480_S8192_0) (fun _ => rfl)) $$ H13
  icases H13 with ⟨H13, H13w⟩
  ihave Hr0 := (at_off _ (off' := k0_off190 t 0#32) (inb' := k0_off190_inb i t k0_h15 0) (hr' := fun _ => rfl) e0.symm _) $$ Hr0
  iapply (at_copy _ (View.amount_pos _ _ (show 0 < S8192.numel by decide))) $$ [Hr0 H13 Hs12 HO]
  · isplitl [Hr0]; · iexact Hr0
    isplitl [H13]; · iexact H13
    isplitl [Hs12]; · iexact Hs12
    isplitl [HO]; · iexact HO
    iexact Hm
  iintro ⟨Hr0, H13, Hs12, HO⟩
  ihave Hr0 := (at_off _ (off' := ![16384 * (⟨t.val + 1, ht⟩ : Fin 16).val + 8192 * (0 : Fin 2).val]) (inb' := prow_inb ⟨t.val + 1, ht⟩ 0) (hr' := fun _ => rfl) e0 _) $$ Hr0
  ihave H13 := H13w $$ H13
  icases H13 with ⟨%k0, %ek0, H13⟩
  have e1 : k0_off190 t 1#32 = ![16384 * (⟨t.val + 1, ht⟩ : Fin 16).val + 8192 * (1 : Fin 2).val] := (k0_off190_eq t 1).trans (congrArg (fun n => ![n]) (show 16384 * t.val + 8192 * 1 + 16384 = 16384 * (t.val + 1) + 8192 * 1 by omega))
  ihave H13 := (at_slice_write _ (Rect.unit (s := S20480) ![8192] S8192.size inb_S20480_S8192_8192) (fun _ => rfl)) $$ H13
  icases H13 with ⟨H13, H13w⟩
  ihave Hr1 := (at_off _ (off' := k0_off190 t 1#32) (inb' := k0_off190_inb i t k0_h15 1) (hr' := fun _ => rfl) e1.symm _) $$ Hr1
  iapply (at_copy _ (View.amount_pos _ _ (show 0 < S8192.numel by decide))) $$ [Hr1 H13 Hs13 HO]
  · isplitl [Hr1]; · iexact Hr1
    isplitl [H13]; · iexact H13
    isplitl [Hs13]; · iexact Hs13
    isplitl [HO]; · iexact HO
    iexact Hm
  iintro ⟨Hr1, H13, Hs13, HO⟩
  ihave Hr1 := (at_off _ (off' := ![16384 * (⟨t.val + 1, ht⟩ : Fin 16).val + 8192 * (1 : Fin 2).val]) (inb' := prow_inb ⟨t.val + 1, ht⟩ 1) (hr' := fun _ => rfl) e1 _) $$ Hr1
  ihave H13 := H13w $$ H13
  icases H13 with ⟨%k1, %ek1, H13⟩
  iapply (loop _ (fun n _ => iprop(At (thr d i) arg13 fullShare k1 ∗ (∃ g : S8192.Idx → Elt F .f32, ⌜∀ y : S8192.Idx, R.v (g y) = (∑ w ∈ Finset.range (t.val + 1), accT BT obs (i 0).val w (y 0).val) + if (y 0).val < 16 * n then accT BT obs (i 0).val (t.val + 1) (y 0).val else 0⌝ ∗ At (thr d i) arg18 fullShare g) ∗ (∃ g, At (thr d i) arg19 fullShare g))) (fun t' a => add23 R (defs₀ (F := F)) d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 k0_h15 (A := fun x => ∑ w ∈ Finset.range (t.val + 1), accT BT obs (i 0).val w x) (B := accT BT obs (i 0).val (t.val + 1)) (hk13 R es ek0 ek1) t' a)) $$ [H13 H18 H19]
  · isplitl [H13]; · iexact H13
    isplitl [H18]
    · iexists g18
      isplitr
      · ipureintro; exact fun y => by rw [e18 y, if_neg (by omega), add_zero]
      iexact H18
    iexact H19
  iintro %_ ⟨H13, ⟨%g18, %e18, H18⟩, H19⟩
  iapply (fin_pure _)
  isplitr; · iexact Hm
  isplitl [Hback Hr0 Hr1]
  · iapply Hback
    isplitl [Hr0]
    · iexists s0
      isplitr
      · ipureintro; exact es
      iexact Hr0
    iexists s1
    iexact Hr1
  isplitl [H13]; · iexists k1; iexact H13
  isplitl [H18]
  · iexists g18
    isplitr
    · ipureintro
      intro y
      have hy : (y 0).val < 8192 := (y 0).isLt
      rw [e18 y, if_pos (by rw [show k0_t23_loop.trips = 512 from by decide]; omega), ← Finset.sum_range_succ]
    iexact H18
  isplitl [H19]; · iexact H19
  isplitl [Hs12]; · iexact Hs12
  isplitl [Hs13]; · iexact Hs13
  iexact HO

set_option maxHeartbeats 4000000 in
/-- The counts, written out by the first tile. -/
theorem out13 {α : Type} {Q : α → sProp (MT nD τ sig (HIx 2) (Elt F) ℕ UU ℕ)} {K : Prog (TpuEff nD τ sig (Elt F) Λ₀ (.scVector ((i 0).castLE hcore0) ((i 1).castLE hsub0))) α} {BT : ℕ → ℕ} {v93 : BitVec 1} (hv : v93 = 1#1 ↔ (i 0).val = 0 ∧ (i 1).val = 0) {O : CellTallies nD τ sig (HIx 2)} {W : Waits sig (HIx 2)} :
    iprop(Transfers.MayWaits (thr d i) (none : HIx 2) (O) ∗ (∃ g : S1280.Idx → Elt F .f32, ⌜∀ y : S1280.Idx, R.v (g y) = ∑ w ∈ Finset.range (16), cntT R BT w (y 0).val⌝ ∗ At (thr d i) arg15 fullShare g) ∗ (if (i 0).val = 0 ∧ (i 1).val = 0 then iprop((∃ g, At (thr d i) arg8 fullShare g)) else iprop(emp) : sProp 𝕄) ∗ semVal ((thr d i), .dma v100_r9.sem) 0 ∗ Ow (F := F) (thr d i) (O) W)
      ⊢ iprop((iprop((∃ g, At (thr d i) arg15 fullShare g) ∗ (if (i 0).val = 0 ∧ (i 1).val = 0 then iprop((∃ g : S1280.Idx → Elt F .f32, ⌜∀ y : S1280.Idx, R.v (g y) = ∑ w ∈ Finset.range (16), cntT R BT w (y 0).val⌝ ∗ At (thr d i) arg8 fullShare g)) else iprop(emp) : sProp 𝕄) ∗ semVal ((thr d i), .dma v100_r9.sem) 0 ∗ Ow (F := F) (thr d i) (O) W) -∗ wp frame (wpE (defs₀ (F := F)) 𝒱₀ (thr d i) none) Set.univ (K) Q) -∗ wp frame (wpE (defs₀ (F := F)) 𝒱₀ (thr d i) none) Set.univ (do
      if k0_h13 : v93 = 1#1 then do
        Prog.lift (.enqueueDma arg15 (.here arg8) (.dma v100_r9.sem) harg15.wordExact harg8.wordExact ⟨Or.inl rfl, trivial⟩)
        Prog.lift (.waitDma2 v100_r9.sem arg15 arg8 harg15.wordExact harg8.wordExact)
        pure PUnit.unit
      else do
        pure PUnit.unit
      K) Q) := by
  iintro ⟨#Hm, ⟨%g, %e, H15⟩, H8, Hs, HO⟩ Hk
  by_cases h : (i 0).val = 0 ∧ (i 1).val = 0
  · iapply (if_yes _ (hv.2 h))
    ihave H8 := (Entails.of_eq (if_pos h) : (if (i 0).val = 0 ∧ (i 1).val = 0 then iprop((∃ g, At (thr d i) arg8 fullShare g)) else iprop(emp) : sProp 𝕄) ⊢ iprop((∃ g, At (thr d i) arg8 fullShare g))) $$ H8
    icases H8 with ⟨%g8, H8⟩
    iapply (at_copy _ (View.amount_pos _ _ (show 0 < S1280.numel by decide))) $$ [H15 H8 Hs HO]
    · isplitl [H15]; · iexact H15
      isplitl [H8]; · iexact H8
      isplitl [Hs]; · iexact Hs
      isplitl [HO]; · iexact HO
      iexact Hm
    iintro ⟨H15, H8, Hs, HO⟩
    iapply Hk
    isplitl [H15]; · iexists g; iexact H15
    isplitl [H8]
    · rw [if_pos h]
      iexists g
      isplitr
      · ipureintro; exact e
      iexact H8
    isplitl [Hs]; · iexact Hs
    iexact HO
  · iapply (if_no _ (fun hh => h (hv.1 hh)))
    ihave H8 := (Entails.of_eq (if_neg h) : (if (i 0).val = 0 ∧ (i 1).val = 0 then iprop((∃ g, At (thr d i) arg8 fullShare g)) else iprop(emp) : sProp 𝕄) ⊢ iprop(emp)) $$ H8
    iapply Hk
    isplitl [H15]; · iexists g; iexact H15
    isplitl [H8]
    · rw [if_neg h]
      iexact H8
    isplitl [Hs]; · iexact Hs
    iexact HO

set_option maxHeartbeats 4000000 in
/-- The priorities, written out by a tile of core `0`. -/
theorem out14 {α : Type} {Q : α → sProp (MT nD τ sig (HIx 2) (Elt F) ℕ UU ℕ)} {K : Prog (TpuEff nD τ sig (Elt F) Λ₀ (.scVector ((i 0).castLE hcore0) ((i 1).castLE hsub0))) α} {CS UN : ℕ → Elt F .f32} {BT : ℕ → ℕ} {O : CellTallies nD τ sig (HIx 2)} {W : Waits sig (HIx 2)} :
    iprop(Transfers.MayWaits (thr d i) (none : HIx 2) (O) ∗ (∃ g, ⌜(i 0).val = 0 → ∀ y, g y = FloatOps.addf (F := F) (φ := .f32) (CS (20480 * (i 1).val + (y 0).val)) (UN (BT (20480 * (i 1).val + (y 0).val)))⌝ ∗ At (thr d i) arg13 fullShare g) ∗ (∃ g, At (thr d i) arg12 fullShare g) ∗ (if (i 0).val = 0 then iprop((∃ g, At (thr d i) (seg20 arg6 (i 1)) fullShare g) ∗ (∃ g, At (thr d i) (seg20 arg7 (i 1)) fullShare g)) else iprop(emp) : sProp 𝕄) ∗ semVal ((thr d i), .dma v100_r10.sem) 0 ∗ semVal ((thr d i), .dma v100_r11.sem) 0 ∗ Ow (F := F) (thr d i) (O) W)
      ⊢ iprop((iprop((∃ g, At (thr d i) arg13 fullShare g) ∗ (∃ g, At (thr d i) arg12 fullShare g) ∗ (if (i 0).val = 0 then iprop((∃ g, ⌜∀ y, g y = FloatOps.addf (F := F) (φ := .f32) (CS (20480 * (i 1).val + (y 0).val)) (UN (BT (20480 * (i 1).val + (y 0).val)))⌝ ∗ At (thr d i) (seg20 arg6 (i 1)) fullShare g) ∗ (∃ g, At (thr d i) (seg20 arg7 (i 1)) fullShare g)) else iprop(emp) : sProp 𝕄) ∗ semVal ((thr d i), .dma v100_r10.sem) 0 ∗ semVal ((thr d i), .dma v100_r11.sem) 0 ∗ Ow (F := F) (thr d i) (O) W) -∗ wp frame (wpE (defs₀ (F := F)) 𝒱₀ (thr d i) none) Set.univ (K) Q) -∗ wp frame (wpE (defs₀ (F := F)) 𝒱₀ (thr d i) none) Set.univ (do
      if k0_h14 : k0_cond14 i = 1#1 then do
        let v102_r10 : Memref sig .scVector .hbm S20480 .f32 := arg6.slice (Rect.unit (s := S327680) (k0_off189 i) S20480.size (k0_off189_inb i k0_h14)) (fun _ => rfl)
        Prog.lift (.enqueueDma arg13 (.here v102_r10) (.dma v100_r10.sem) harg13.wordExact (View.wordExact_bits rfl) ⟨Or.inl rfl, trivial⟩)
        let v104_r10 : Memref sig .scVector .hbm S20480 .f32 := arg6.slice (Rect.unit (s := S327680) (k0_off189 i) S20480.size (k0_off189_inb i k0_h14)) (fun _ => rfl)
        Prog.lift (.waitDma2 v100_r10.sem arg13 v104_r10 harg13.wordExact (View.wordExact_bits rfl))
        let v102_r11 : Memref sig .scVector .hbm S20480 .f32 := arg7.slice (Rect.unit (s := S327680) (k0_off189 i) S20480.size (k0_off189_inb i k0_h14)) (fun _ => rfl)
        Prog.lift (.enqueueDma arg12 (.here v102_r11) (.dma v100_r11.sem) harg12.wordExact (View.wordExact_bits rfl) ⟨Or.inl rfl, trivial⟩)
        let v104_r11 : Memref sig .scVector .hbm S20480 .f32 := arg7.slice (Rect.unit (s := S327680) (k0_off189 i) S20480.size (k0_off189_inb i k0_h14)) (fun _ => rfl)
        Prog.lift (.waitDma2 v100_r11.sem arg12 v104_r11 harg12.wordExact (View.wordExact_bits rfl))
        pure PUnit.unit
      else do
        pure PUnit.unit
      K) Q) := by
  iintro ⟨#Hm, ⟨%g, %e, H13⟩, ⟨%g12, H12⟩, H6, Hs, Ht, HO⟩ Hk
  by_cases h : (i 0).val = 0
  · have k0_h14 := (cond14_iff i).2 h
    iapply (if_yes _ k0_h14)
    ihave H6 := (Entails.of_eq (if_pos h) : (if (i 0).val = 0 then iprop((∃ g, At (thr d i) (seg20 arg6 (i 1)) fullShare g) ∗ (∃ g, At (thr d i) (seg20 arg7 (i 1)) fullShare g)) else iprop(emp) : sProp 𝕄) ⊢ iprop((∃ g, At (thr d i) (seg20 arg6 (i 1)) fullShare g) ∗ (∃ g, At (thr d i) (seg20 arg7 (i 1)) fullShare g))) $$ H6
    icases H6 with ⟨⟨%g6, H6⟩, ⟨%g7, H7⟩⟩
    ihave H6 := (at_off _ (off' := k0_off189 i) (inb' := k0_off189_inb i k0_h14) (hr' := fun _ => rfl) (k0_off189_eq i).symm _) $$ H6
    iapply (at_copy _ (View.amount_pos _ _ (show 0 < S20480.numel by decide))) $$ [H13 H6 Hs HO]
    · isplitl [H13]; · iexact H13
      isplitl [H6]; · iexact H6
      isplitl [Hs]; · iexact Hs
      isplitl [HO]; · iexact HO
      iexact Hm
    iintro ⟨H13, H6, Hs, HO⟩
    ihave H6 := (at_off _ (off' := ![20480 * (i 1).val]) (inb' := seg20_inb (i 1)) (hr' := fun _ => rfl) (k0_off189_eq i) _) $$ H6
    ihave H7 := (at_off _ (off' := k0_off189 i) (inb' := k0_off189_inb i k0_h14) (hr' := fun _ => rfl) (k0_off189_eq i).symm _) $$ H7
    iapply (at_copy _ (View.amount_pos _ _ (show 0 < S20480.numel by decide))) $$ [H12 H7 Ht HO]
    · isplitl [H12]; · iexact H12
      isplitl [H7]; · iexact H7
      isplitl [Ht]; · iexact Ht
      isplitl [HO]; · iexact HO
      iexact Hm
    iintro ⟨H12, H7, Ht, HO⟩
    ihave H7 := (at_off _ (off' := ![20480 * (i 1).val]) (inb' := seg20_inb (i 1)) (hr' := fun _ => rfl) (k0_off189_eq i) _) $$ H7
    iapply Hk
    isplitl [H13]; · iexists g; iexact H13
    isplitl [H12]; · iexists g12; iexact H12
    isplitl [H6 H7]
    · rw [if_pos h]
      isplitl [H6]
      · iexists g
        isplitr
        · ipureintro; exact e h
        iexact H6
      iexists g12
      iexact H7
    isplitl [Hs]; · iexact Hs
    isplitl [Ht]; · iexact Ht
    iexact HO
  · iapply (if_no _ (fun hh => h ((cond14_iff i).1 hh)))
    ihave H6 := (Entails.of_eq (if_neg h) : (if (i 0).val = 0 then iprop((∃ g, At (thr d i) (seg20 arg6 (i 1)) fullShare g) ∗ (∃ g, At (thr d i) (seg20 arg7 (i 1)) fullShare g)) else iprop(emp) : sProp 𝕄) ⊢ iprop(emp)) $$ H6
    iapply Hk
    isplitl [H13]; · iexists g; iexact H13
    isplitl [H12]; · iexists g12; iexact H12
    isplitl [H6]
    · rw [if_neg h]
      iexact H6
    isplitl [Hs]; · iexact Hs
    isplitl [Ht]; · iexact Ht
    iexact HO

theorem pools_eq {BT : ℕ → ℕ} {obs : ℕ → ℕ → M} (arg23 : Memref sig .scVector .shared S262144 .f32) (h : (i 1).val = 0) :
    (bigSep Finset.univ fun k : Fin 16 => POt R BT obs arg23 d (cr i) (i 1) k) = (bigSep Finset.univ fun k : Fin 16 => PoolOf (thr d i) R arg23 k (accT BT obs (i 0).val k.val)) :=
  congrArg (bigSep Finset.univ) (funext fun k => if_pos (show @Eq (Fin 16) (i 1) 0 from Fin.ext h))

set_option maxHeartbeats 4000000 in
/-- A core's row sums, added up and written out by its first tile. -/
theorem out15 {α : Type} {Q : α → sProp (MT nD τ sig (HIx 2) (Elt F) ℕ UU ℕ)} {K : Prog (TpuEff nD τ sig (Elt F) Λ₀ (.scVector ((i 0).castLE hcore0) ((i 1).castLE hsub0))) α} {BT : ℕ → ℕ} {obs : ℕ → ℕ → M} {O : CellTallies nD τ sig (HIx 2)} {W : Waits sig (HIx 2)} :
    iprop(Transfers.MayWaits (thr d i) (none : HIx 2) (O) ∗ (bigSep Finset.univ fun k : Fin 16 => POt R BT obs arg23 d (cr i) (i 1) k) ∗ (∃ g, At (thr d i) arg13 fullShare g) ∗ (∃ g : S8192.Idx → Elt F .f32, ⌜∀ y : S8192.Idx, R.v (g y) = accT BT obs (i 0).val (i 1).val (y 0).val⌝ ∗ At (thr d i) arg18 fullShare g) ∗ (∃ g, At (thr d i) arg19 fullShare g) ∗ (if (i 1).val = 0 then iprop((∃ g, At (thr d i) (half arg9 (i 0)) fullShare g) ∗ (∃ g, At (thr d i) (half arg10 (i 0)) fullShare g)) else iprop(emp) : sProp 𝕄) ∗ semVal ((thr d i), .dma v112_r12.sem) 0 ∗ semVal ((thr d i), .dma v112_r13.sem) 0 ∗ semVal ((thr d i), .dma v104_r14.sem) 0 ∗ semVal ((thr d i), .dma v104_r15.sem) 0 ∗ Ow (F := F) (thr d i) (O) W)
      ⊢ iprop((iprop((bigSep Finset.univ fun k : Fin 16 => POt R BT obs arg23 d (cr i) (i 1) k) ∗ (∃ g, At (thr d i) arg13 fullShare g) ∗ (∃ g, At (thr d i) arg18 fullShare g) ∗ (∃ g, At (thr d i) arg19 fullShare g) ∗ (if (i 1).val = 0 then iprop((∃ g, ⌜∀ y, R.v (g y) = ∑ w ∈ Finset.range (16), accT BT obs (i 0).val w (y 0).val⌝ ∗ At (thr d i) (half arg9 (i 0)) fullShare g) ∗ (∃ g, At (thr d i) (half arg10 (i 0)) fullShare g)) else iprop(emp) : sProp 𝕄) ∗ semVal ((thr d i), .dma v112_r12.sem) 0 ∗ semVal ((thr d i), .dma v112_r13.sem) 0 ∗ semVal ((thr d i), .dma v104_r14.sem) 0 ∗ semVal ((thr d i), .dma v104_r15.sem) 0 ∗ Ow (F := F) (thr d i) (O) W) -∗ wp frame (wpE (defs₀ (F := F)) 𝒱₀ (thr d i) none) Set.univ (K) Q) -∗ wp frame (wpE (defs₀ (F := F)) 𝒱₀ (thr d i) none) Set.univ (do
      if k0_h15 : k0_cond15 i = 1#1 then do
        let v101 : BitVec 32 ← Scf.Loop.for k0_t22_loop (k0_t22_ok i k0_h15) 0#32 (k0_t22_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 k0_h15)
        let v106_r14 : Memref sig .scVector .hbm S8192 .f32 := arg9.slice (Rect.unit (s := S16384) (k0_off194 i) S8192.size (k0_off194_inb i k0_h15)) (fun _ => rfl)
        Prog.lift (.enqueueDma arg18 (.here v106_r14) (.dma v104_r14.sem) harg18.wordExact (View.wordExact_bits rfl) ⟨Or.inl rfl, trivial⟩)
        let v108_r14 : Memref sig .scVector .hbm S8192 .f32 := arg9.slice (Rect.unit (s := S16384) (k0_off194 i) S8192.size (k0_off194_inb i k0_h15)) (fun _ => rfl)
        Prog.lift (.waitDma2 v104_r14.sem arg18 v108_r14 harg18.wordExact (View.wordExact_bits rfl))
        let v106_r15 : Memref sig .scVector .hbm S8192 .f32 := arg10.slice (Rect.unit (s := S16384) (k0_off194 i) S8192.size (k0_off194_inb i k0_h15)) (fun _ => rfl)
        Prog.lift (.enqueueDma arg19 (.here v106_r15) (.dma v104_r15.sem) harg19.wordExact (View.wordExact_bits rfl) ⟨Or.inl rfl, trivial⟩)
        let v108_r15 : Memref sig .scVector .hbm S8192 .f32 := arg10.slice (Rect.unit (s := S16384) (k0_off194 i) S8192.size (k0_off194_inb i k0_h15)) (fun _ => rfl)
        Prog.lift (.waitDma2 v104_r15.sem arg19 v108_r15 harg19.wordExact (View.wordExact_bits rfl))
        pure PUnit.unit
      else do
        pure PUnit.unit
      K) Q) := by
  iintro ⟨#Hm, HP, H13, ⟨%g, %e, H18⟩, H19, H9, Hs12, Hs13, Hs14, Hs15, HO⟩ Hk
  by_cases h : (i 1).val = 0
  · have k0_h15 := (cond15_iff i).2 h
    iapply (if_yes _ k0_h15)
    ihave H9 := (Entails.of_eq (if_pos h) : (if (i 1).val = 0 then iprop((∃ g, At (thr d i) (half arg9 (i 0)) fullShare g) ∗ (∃ g, At (thr d i) (half arg10 (i 0)) fullShare g)) else iprop(emp) : sProp 𝕄) ⊢ iprop((∃ g, At (thr d i) (half arg9 (i 0)) fullShare g) ∗ (∃ g, At (thr d i) (half arg10 (i 0)) fullShare g))) $$ H9
    icases H9 with ⟨⟨%g9, H9⟩, ⟨%g10, H10⟩⟩
    ihave HP := (Entails.of_eq (pools_eq R d i arg23 h) : (bigSep Finset.univ fun k : Fin 16 => POt R BT obs arg23 d (cr i) (i 1) k) ⊢ (bigSep Finset.univ fun k : Fin 16 => PoolOf (thr d i) R arg23 k (accT BT obs (i 0).val k.val))) $$ HP
    iapply (loop (l := k0_t22_loop) (hok := k0_t22_ok i k0_h15) (body := k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 k0_h15) _ (fun n _ => iprop(Transfers.MayWaits (thr d i) (none : HIx 2) (O) ∗ (bigSep Finset.univ fun k : Fin 16 => PoolOf (thr d i) R arg23 k (accT BT obs (i 0).val k.val)) ∗ (∃ g, At (thr d i) arg13 fullShare g) ∗ (∃ g : S8192.Idx → Elt F .f32, ⌜∀ y : S8192.Idx, R.v (g y) = ∑ w ∈ Finset.range (n + 1), accT BT obs (i 0).val w (y 0).val⌝ ∗ At (thr d i) arg18 fullShare g) ∗ (∃ g, At (thr d i) arg19 fullShare g) ∗ semVal ((thr d i), .dma v112_r12.sem) 0 ∗ semVal ((thr d i), .dma v112_r13.sem) 0 ∗ Ow (F := F) (thr d i) (O) W)) (fun t a => pool22 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 (BT := BT) (obs := obs) k0_h15 (O := O) (W := W) t a)) $$ [HP H13 H18 H19 Hs12 Hs13 HO]
    · isplitr; · iexact Hm
      isplitl [HP]; · iexact HP
      isplitl [H13]; · iexact H13
      isplitl [H18]
      · iexists g
        isplitr
        · ipureintro; intro y; have hy := e y; rw [h] at hy; exact hy.trans (Finset.sum_range_one (fun w => accT BT obs (i 0).val w (y 0).val)).symm
        iexact H18
      isplitl [H19]; · iexact H19
      isplitl [Hs12]; · iexact Hs12
      isplitl [Hs13]; · iexact Hs13
      iexact HO
    iintro %_ ⟨_, HP, H13, ⟨%g18, %e18, H18⟩, ⟨%g19, H19⟩, Hs12, Hs13, HO⟩
    ihave H9 := (at_off _ (off' := k0_off194 i) (inb' := k0_off194_inb i k0_h15) (hr' := fun _ => rfl) (k0_off194_eq i).symm _) $$ H9
    iapply (at_copy _ (View.amount_pos _ _ (show 0 < S8192.numel by decide))) $$ [H18 H9 Hs14 HO]
    · isplitl [H18]; · iexact H18
      isplitl [H9]; · iexact H9
      isplitl [Hs14]; · iexact Hs14
      isplitl [HO]; · iexact HO
      iexact Hm
    iintro ⟨H18, H9, Hs14, HO⟩
    ihave H9 := (at_off _ (off' := ![8192 * (i 0).val]) (inb' := half_inb (i 0)) (hr' := fun _ => rfl) (k0_off194_eq i) _) $$ H9
    ihave H10 := (at_off _ (off' := k0_off194 i) (inb' := k0_off194_inb i k0_h15) (hr' := fun _ => rfl) (k0_off194_eq i).symm _) $$ H10
    iapply (at_copy _ (View.amount_pos _ _ (show 0 < S8192.numel by decide))) $$ [H19 H10 Hs15 HO]
    · isplitl [H19]; · iexact H19
      isplitl [H10]; · iexact H10
      isplitl [Hs15]; · iexact Hs15
      isplitl [HO]; · iexact HO
      iexact Hm
    iintro ⟨H19, H10, Hs15, HO⟩
    ihave H10 := (at_off _ (off' := ![8192 * (i 0).val]) (inb' := half_inb (i 0)) (hr' := fun _ => rfl) (k0_off194_eq i) _) $$ H10
    iapply Hk
    isplitl [HP]
    · iapply (Entails.of_eq (pools_eq R d i arg23 h).symm : (bigSep Finset.univ fun k : Fin 16 => PoolOf (thr d i) R arg23 k (accT BT obs (i 0).val k.val)) ⊢ (bigSep Finset.univ fun k : Fin 16 => POt R BT obs arg23 d (cr i) (i 1) k)) $$ HP
    isplitl [H13]; · iexact H13
    isplitl [H18]; · iexists g18; iexact H18
    isplitl [H19]; · iexists g19; iexact H19
    isplitl [H9 H10]
    · rw [if_pos h]
      isplitl [H9]
      · iexists g18
        isplitr
        · ipureintro; exact e18
        iexact H9
      iexists g19
      iexact H10
    isplitl [Hs12]; · iexact Hs12
    isplitl [Hs13]; · iexact Hs13
    isplitl [Hs14]; · iexact Hs14
    isplitl [Hs15]; · iexact Hs15
    iexact HO
  · iapply (if_no _ (fun hh => h ((cond15_iff i).1 hh)))
    ihave H9 := (Entails.of_eq (if_neg h) : (if (i 1).val = 0 then iprop((∃ g, At (thr d i) (half arg9 (i 0)) fullShare g) ∗ (∃ g, At (thr d i) (half arg10 (i 0)) fullShare g)) else iprop(emp) : sProp 𝕄) ⊢ iprop(emp)) $$ H9
    iapply Hk
    isplitl [HP]; · iexact HP
    isplitl [H13]; · iexact H13
    isplitl [H18]; · iexists g; iexact H18
    isplitl [H19]; · iexact H19
    isplitl [H9]
    · rw [if_neg h]
      iexact H9
    isplitl [Hs12]; · iexact Hs12
    isplitl [Hs13]; · iexact Hs13
    isplitl [Hs14]; · iexact Hs14
    isplitl [Hs15]; · iexact Hs15
    iexact HO

end Cert.Proof.Seg
-- ==== Proof.Tile.lean ====
/-
  The run of one tile, from its first copy to its last.
-/
module

public import proofs.«01_k».proof.Proof.Rounds
public import proofs.«01_k».proof.Proof.Enter
public import proofs.«01_k».proof.Proof.Count
public import proofs.«01_k».proof.Proof.Combine
public import proofs.«01_k».proof.Proof.Finish

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

variable {M : Type} [AddCommMonoid M] (R : Rdg F M)
variable (d : Dev nD) (i : grid0.Coords)

variable (arg2 : Memref sig .scVector .hbm S327680 .f32) (harg2 : arg2.IsWhole) (arg3 : Memref sig .scVector .hbm S327680 .i32) (harg3 : arg3.IsWhole) (arg4 : Memref sig .scVector .hbm S320000x128 .f32) (harg4 : arg4.IsWhole) (arg5 : Memref sig .scVector .hbm S128 .f32) (harg5 : arg5.IsWhole) (arg6 : Memref sig .scVector .hbm S327680 .f32) (harg6 : arg6.IsWhole) (arg7 : Memref sig .scVector .hbm S327680 .f32) (harg7 : arg7.IsWhole) (arg8 : Memref sig .scVector .hbm S1280 .f32) (harg8 : arg8.IsWhole) (arg9 : Memref sig .scVector .hbm S16384 .f32) (harg9 : arg9.IsWhole) (arg10 : Memref sig .scVector .hbm S16384 .f32) (harg10 : arg10.IsWhole) (arg11 : Memref sig .scVector .vmem S20480 .i32) (harg11 : arg11.IsWhole) (arg12 : Memref sig .scVector .vmem S20480 .f32) (harg12 : arg12.IsWhole) (arg13 : Memref sig .scVector .vmem S20480 .f32) (harg13 : arg13.IsWhole) (arg14 : Memref sig .scVector .vmem S128 .f32) (harg14 : arg14.IsWhole) (arg15 : Memref sig .scVector .vmem S1280 .f32) (harg15 : arg15.IsWhole) (arg16 : Memref sig .scVector .vmem S1280 .f32) (harg16 : arg16.IsWhole) (arg17 : Memref sig .scVector .vmem S1280 .f32) (harg17 : arg17.IsWhole) (arg18 : Memref sig .scVector .vmem S8192 .f32) (harg18 : arg18.IsWhole) (arg19 : Memref sig .scVector .vmem S8192 .f32) (harg19 : arg19.IsWhole) (arg20 : Memref sig .scVector .vmem S80x128 .f32) (harg20 : arg20.IsWhole) (arg21 : Memref sig .scVector .vmem S80x128 .f32) (harg21 : arg21.IsWhole) (arg22 : Memref sig .scVector .shared S40960 .f32) (harg22 : arg22.IsWhole) (arg23 : Memref sig .scVector .shared S262144 .f32) (harg23 : arg23.IsWhole) (arg24 : DmaSems sig S_) (arg25 : DmaSems sig S_) (v100_r0 : DmaSems sig S_) (v100_r1 : DmaSems sig S_) (v100_r2 : DmaSems sig S_) (v100_r3 : DmaSems sig S_) (v100_r4 : DmaSems sig S_) (v110_r5 : DmaSems sig S_) (v110_r6 : DmaSems sig S_) (v100_r7 : DmaSems sig S_) (v100_r8 : DmaSems sig S_) (v100_r9 : DmaSems sig S_) (v100_r10 : DmaSems sig S_) (v100_r11 : DmaSems sig S_) (v112_r12 : DmaSems sig S_) (v112_r13 : DmaSems sig S_) (v104_r14 : DmaSems sig S_) (v104_r15 : DmaSems sig S_)

theorem pool_rest {BT : ℕ → ℕ} {obs : ℕ → ℕ → M} (arg23 : Memref sig .scVector .shared S262144 .f32) :
    (iprop(emp) : sProp 𝕄) ⊢ bigSep (Finset.univ.erase (0 : Fin 16)) fun j : Fin 16 => POt R BT obs arg23 d (cr i) j (i 1) :=
  (Entails.of_eq (bigSep_emp_const _).symm).trans (bigSep_mono fun j hj => (Entails.of_eq (if_neg (Finset.ne_of_mem_erase hj)).symm : (iprop(emp) : sProp 𝕄) ⊢ POt R BT obs arg23 d (cr i) j (i 1)))

/-- A tile's row sums, handed to the first tile of its core. -/
theorem give_pool {BT : ℕ → ℕ} {obs : ℕ → ℕ → M} (arg23 : Memref sig .scVector .shared S262144 .f32) (hmove : ∀ (r : Fin 2) g, (At (thr d i) (prow arg23 (i 1) r) fullShare g : sProp 𝕄) ⊢ At (V d (cr i) (tl 0)) (prow arg23 (i 1) r) fullShare g)
    {g0 g1 : S8192.Idx → Elt F .f32} (h : ∀ y, R.v (g0 y) = accT BT obs (i 0).val (i 1).val (y 0).val) :
    iprop(At (thr d i) (prow arg23 (i 1) 0) fullShare g0 ∗ At (thr d i) (prow arg23 (i 1) 1) fullShare g1)
      ⊢ bigSep Finset.univ fun j : Fin 16 => POt R BT obs arg23 d (cr i) j (i 1) := by
  rw [SparseCore.bigSep_erase' (Finset.mem_univ (0 : Fin 16))]
  iintro ⟨H0, H1⟩
  ihave H0 := (hmove 0 g0) $$ H0
  ihave H1 := (hmove 1 g1) $$ H1
  isplitl [H0 H1]
  · iapply (Entails.of_eq (if_pos rfl).symm : PoolOf (V d (cr i) (tl 0)) R arg23 (i 1) (accT BT obs (cr i).val (i 1).val) ⊢ POt R BT obs arg23 d (cr i) 0 (i 1)) $$ [H0 H1]
    unfold PoolOf
    isplitl [H0]
    · iexists g0
      isplitr
      · ipureintro; exact h
      iexact H0
    iexists g1
    iexact H1
  iapply (pool_rest R d i arg23)
  iempintro

set_option maxHeartbeats 8000000 in
/-- The whole of a tile's run. -/
theorem tile_run {gCS : S327680.Idx → Elt F .f32} {CS : ℕ → Elt F .f32} (hCS : ∀ y, gCS y = CS (y 0).val) {gB : S327680.Idx → BitVec 32} {BT : ℕ → ℕ} (hB : ∀ y, (gB y).toNat = BT (y 0).val) (hBT : ∀ x < 327680, BT x ≤ 64) (hsort : ∀ x y, x ≤ y → y < 327680 → BT x ≤ BT y) (hlow : ∀ x < 320000, BT x < 64) {gU : S128.Idx → Elt F .f32} {UN : ℕ → Elt F .f32} (hU : ∀ y, gU y = UN (y 0).val) {OB : S320000x128.Idx → Elt F .f32} {obs : ℕ → ℕ → M} (hOB : ∀ y, R.v (OB y) = obs (y 0).val (y 1).val)
    {qa qb q2 q3 q5 : PosShare TreeShare} {O : CellTallies nD τ sig (HIx 2)} {W : Waits sig (HIx 2)} (κ κ' : GSem nD τ sig → ℕ) (hleaf : ∀ (r : Fin 2) g, (At (thr d i) (srow arg22 (i 1) r) fullShare g : sProp 𝕄) ⊢ bigSep Finset.univ fun j : Fin 16 => At (V d (cr i) (tl j)) (srow arg22 (i 1) r) (leaf 4 fullShare j) g) (hmove : ∀ (r : Fin 2) g, (At (thr d i) (prow arg23 (i 1) r) fullShare g : sProp 𝕄) ⊢ At (V d (cr i) (tl 0)) (prow arg23 (i 1) r) fullShare g) :
    iprop(Transfers.MayWaits (thr d i) (none : HIx 2) (O + oxP d (cr i) (some 1) + oxP d (cr i) (some 0)) ∗ Transfers.MayWaits (thr d i) (none : HIx 2) (O + oxP d (cr i) (some 1)) ∗ Transfers.MayWaits (thr d i) (none : HIx 2) (O) ∗ Idle (F := F) (thr d i) arg20 arg24.sem arg4 qa OB ∗ Idle (F := F) (thr d i) arg21 arg25.sem arg4 qb OB ∗ At (thr d i) arg2 q2 gCS ∗ At (thr d i) arg3 q3 gB ∗ At (thr d i) arg5 q5 gU ∗ (∃ g, At (thr d i) arg11 fullShare g) ∗ (∃ g, At (thr d i) arg12 fullShare g) ∗ (∃ g, At (thr d i) arg13 fullShare g) ∗ (∃ g, At (thr d i) arg14 fullShare g) ∗ (∃ g, At (thr d i) arg15 fullShare g) ∗ (∃ g, At (thr d i) arg16 fullShare g) ∗ (∃ g, At (thr d i) arg17 fullShare g) ∗ (∃ g, At (thr d i) arg18 fullShare g) ∗ (∃ g, At (thr d i) arg19 fullShare g) ∗ semVal ((thr d i), .dma v100_r0.sem) 0 ∗ semVal ((thr d i), .dma v100_r1.sem) 0 ∗ semVal ((thr d i), .dma v100_r2.sem) 0 ∗ semVal ((thr d i), .dma v100_r3.sem) 0 ∗ semVal ((thr d i), .dma v100_r4.sem) 0 ∗ semVal ((thr d i), .dma v110_r5.sem) 0 ∗ semVal ((thr d i), .dma v110_r6.sem) 0 ∗ semVal ((thr d i), .dma v100_r7.sem) 0 ∗ semVal ((thr d i), .dma v100_r8.sem) 0 ∗ semVal ((thr d i), .dma v100_r9.sem) 0 ∗ semVal ((thr d i), .dma v100_r10.sem) 0 ∗ semVal ((thr d i), .dma v100_r11.sem) 0 ∗ semVal ((thr d i), .dma v112_r12.sem) 0 ∗ semVal ((thr d i), .dma v112_r13.sem) 0 ∗ semVal ((thr d i), .dma v104_r14.sem) 0 ∗ semVal ((thr d i), .dma v104_r15.sem) 0 ∗ (∃ g, At (thr d i) (srow arg22 (i 1) 0) fullShare g) ∗ (∃ g, At (thr d i) (srow arg22 (i 1) 1) fullShare g) ∗ (∃ g, At (thr d i) (prow arg23 (i 1) 0) fullShare g) ∗ (∃ g, At (thr d i) (prow arg23 (i 1) 1) fullShare g) ∗ Kit1 d i (STt R BT arg22) (POt R BT obs arg23) κ κ' O ∗ Kit2 d i (POt R BT obs arg23) κ O ∗ (if (i 0).val = 0 ∧ (i 1).val = 0 then iprop((∃ g, At (thr d i) arg8 fullShare g)) else iprop(emp) : sProp 𝕄) ∗ (if (i 0).val = 0 then iprop((∃ g, At (thr d i) (seg20 arg6 (i 1)) fullShare g) ∗ (∃ g, At (thr d i) (seg20 arg7 (i 1)) fullShare g)) else iprop(emp) : sProp 𝕄) ∗ (if (i 1).val = 0 then iprop((∃ g, At (thr d i) (half arg9 (i 0)) fullShare g) ∗ (∃ g, At (thr d i) (half arg10 (i 0)) fullShare g)) else iprop(emp) : sProp 𝕄) ∗ Ow (F := F) (thr d i) (O + oxP d (cr i) (some 1) + oxP d (cr i) (some 0)) W)
      ⊢ wp frame (wpE (defs₀ (F := F)) 𝒱₀ (thr d i) none) Set.univ (cc0__seg_sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15) (fun _ => iprop(Idle (F := F) (thr d i) arg20 arg24.sem arg4 qa OB ∗ Idle (F := F) (thr d i) arg21 arg25.sem arg4 qb OB ∗ At (thr d i) arg2 q2 gCS ∗ At (thr d i) arg3 q3 gB ∗ At (thr d i) arg5 q5 gU ∗ (∃ g, At (thr d i) arg11 fullShare g) ∗ (∃ g, At (thr d i) arg12 fullShare g) ∗ (∃ g, At (thr d i) arg13 fullShare g) ∗ (∃ g, At (thr d i) arg14 fullShare g) ∗ (∃ g, At (thr d i) arg15 fullShare g) ∗ (∃ g, At (thr d i) arg16 fullShare g) ∗ (∃ g, At (thr d i) arg17 fullShare g) ∗ (∃ g, At (thr d i) arg18 fullShare g) ∗ (∃ g, At (thr d i) arg19 fullShare g) ∗ semVal ((thr d i), .dma v100_r0.sem) 0 ∗ semVal ((thr d i), .dma v100_r1.sem) 0 ∗ semVal ((thr d i), .dma v100_r2.sem) 0 ∗ semVal ((thr d i), .dma v100_r3.sem) 0 ∗ semVal ((thr d i), .dma v100_r4.sem) 0 ∗ semVal ((thr d i), .dma v110_r5.sem) 0 ∗ semVal ((thr d i), .dma v110_r6.sem) 0 ∗ semVal ((thr d i), .dma v100_r7.sem) 0 ∗ semVal ((thr d i), .dma v100_r8.sem) 0 ∗ semVal ((thr d i), .dma v100_r9.sem) 0 ∗ semVal ((thr d i), .dma v100_r10.sem) 0 ∗ semVal ((thr d i), .dma v100_r11.sem) 0 ∗ semVal ((thr d i), .dma v112_r12.sem) 0 ∗ semVal ((thr d i), .dma v112_r13.sem) 0 ∗ semVal ((thr d i), .dma v104_r14.sem) 0 ∗ semVal ((thr d i), .dma v104_r15.sem) 0 ∗ (bigSep Finset.univ fun j : Fin 16 => STt R BT arg22 d (cr i) j (i 1)) ∗ (bigSep Finset.univ fun k : Fin 16 => POt R BT obs arg23 d (cr i) (i 1) k) ∗ semVal (bcell d (cr i) (i 1)) 0 ∗ (if (i 0).val = 0 ∧ (i 1).val = 0 then iprop((∃ g : S1280.Idx → Elt F .f32, ⌜∀ y : S1280.Idx, R.v (g y) = ∑ w ∈ Finset.range (16), cntT R BT w (y 0).val⌝ ∗ At (thr d i) arg8 fullShare g)) else iprop(emp) : sProp 𝕄) ∗ (if (i 0).val = 0 then iprop((∃ g, ⌜∀ y, g y = FloatOps.addf (F := F) (φ := .f32) (CS (20480 * (i 1).val + (y 0).val)) (UN (BT (20480 * (i 1).val + (y 0).val)))⌝ ∗ At (thr d i) (seg20 arg6 (i 1)) fullShare g) ∗ (∃ g, At (thr d i) (seg20 arg7 (i 1)) fullShare g)) else iprop(emp) : sProp 𝕄) ∗ (if (i 1).val = 0 then iprop((∃ g, ⌜∀ y, R.v (g y) = ∑ w ∈ Finset.range (16), accT BT obs (i 0).val w (y 0).val⌝ ∗ At (thr d i) (half arg9 (i 0)) fullShare g) ∗ (∃ g, At (thr d i) (half arg10 (i 0)) fullShare g)) else iprop(emp) : sProp 𝕄) ∗ Ow (F := F) (thr d i) (O) W)) := by
  have hi1 : (i 1).val < 16 := (i 1).isLt
  rw [cc0__seg_sc_body_eq_skeleton]
  unfold cc0__seg_sc_body_skel
  iintro ⟨#Hm2, #Hm1, #Hm, HC, HC1, H2, H3, H5, H11, H12, H13, H14, H15, H16, H17, H18, H19, Hs0, Hs1, Hs2, Hs3, Hs4, Hs5, Hs6, Hs7, Hs8, Hs9, Hs10, Hs11, Hs12, Hs13, Hs14, Hs15, Hr0, Hr1, ⟨%p0, Hp0⟩, ⟨%p1, Hp1⟩, HK1, HK2, HR8, HR67, HR910, HO⟩
  iapply (run _ (enter34 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hB hOB)) $$ [HC HC1 H3 H11 Hs0 HO]
  · isplitl [HC]; · iexact HC
    isplitl [HC1]; · iexact HC1
    isplitl [H3]; · iexact H3
    isplitl [H11]; · iexact H11
    isplitl [Hs0]; · iexact Hs0
    isplitl [HO]; · iexact HO
    iexact Hm2
  iintro %r ⟨HC, HC1, H3, H11, Hs0, HO, %hr⟩
  obtain ⟨arg0, arg1, v2, v22, v23, v24, v25⟩ := r
  obtain ⟨h0, h1, hv23, hv24, hv25⟩ := hr
  change arg0 = _ at h0
  change arg1 = _ at h1
  change ∀ l : Fin 16, v23 (lane l) = _ at hv23
  change ∀ l : Fin 16, R.v (v24 (lane l)) = _ at hv24
  change ∀ l : Fin 16, R.v (v25 (lane l)) = _ at hv25
  subst h0
  subst h1
  iapply (run _ (meet35 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hCS hB hBT hU _ _ hv23 hv24 hv25 (POt R BT obs arg23) κ κ' hleaf)) $$ [H2 H5 H11 H12 H13 H14 H15 H16 Hs1 Hs2 Hs3 Hs4 Hr0 Hr1 HK1 HO]
  · isplitl [H2]; · iexact H2
    isplitl [H5]; · iexact H5
    isplitl [H11]; · iexact H11
    isplitl [H12]; · iexact H12
    isplitl [H13]; · iexact H13
    isplitl [H14]; · iexact H14
    isplitl [H15]; · iexact H15
    isplitl [H16]; · iexact H16
    isplitl [Hs1]; · iexact Hs1
    isplitl [Hs2]; · iexact Hs2
    isplitl [Hs3]; · iexact Hs3
    isplitl [Hs4]; · iexact Hs4
    isplitl [Hr0]; · iexact Hr0
    isplitl [Hr1]; · iexact Hr1
    isplitl [HK1]; · iexact HK1
    isplitl [HO]; · iexact HO
    iexact Hm2
  iintro %_ ⟨H2, H5, ⟨%gb, %hgb, H11⟩, H12, H13, H14, H15, H16, Hs1, Hs2, Hs3, Hs4, HMet, HO, HS⟩
  iapply (run _ (total36 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 _ v22 v24 hv25 (bt := (fun r => BT (20480 * (i 1).val + r))) hgb (fun x hx => hBT _ (by omega)))) $$ [H11 H12 H15 H16 H17 H18 H19 HS Hs5 Hs6 HO]
  · isplitl [H11]; · iexact H11
    isplitl [H12]; · iexact H12
    isplitl [H15]; · iexact H15
    isplitl [H16]; · iexact H16
    isplitl [H17]; · iexact H17
    isplitl [H18]; · iexact H18
    isplitl [H19]; · iexact H19
    isplitl [HS]; · iexact HS
    isplitl [Hs5]; · iexact Hs5
    isplitl [Hs6]; · iexact Hs6
    isplitl [HO]; · iexact HO
    iexact Hm1
  iintro %r ⟨H11, H12, H15, H16, H17, H18, H19, HS, Hs5, Hs6, HO, %hr⟩
  obtain ⟨c53, c54, v76⟩ := r
  change c53 = _ ∧ c54 = _ at hr
  obtain ⟨rfl, rfl⟩ := hr
  iapply (rows81 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15 hv23 hv25 hgb hsort hlow hOB v2 v22 _) $$ [HC HC1 HO H11 H12 H18 H19]
  · isplitr; · iexact Hm1
    isplitl [HC]; · iexact HC
    isplitl [HC1]; · iexact HC1
    isplitl [HO]; · iexact HO
    isplitl [H11]; · iexact H11
    isplitl [H12]; · iexact H12
    isplitl [H18]; · iexact H18
    iexact H19
  iintro ⟨HC, HC1, HO, H11, H12, ⟨%g18, %e18, H18⟩, ⟨%g19, H19⟩⟩
  ihave Hp0 := (at_off _ (off' := k0_off188 i 0#32) (inb' := k0_off188_inb i 0) (hr' := fun _ => rfl) (k0_off188_eq i 0).symm _) $$ Hp0
  iapply (at_copy _ (View.amount_pos _ _ (show 0 < S8192.numel by decide))) $$ [H18 Hp0 Hs7 HO]
  · isplitl [H18]; · iexact H18
    isplitl [Hp0]; · iexact Hp0
    isplitl [Hs7]; · iexact Hs7
    isplitl [HO]; · iexact HO
    iexact Hm1
  iintro ⟨H18, Hp0, Hs7, HO⟩
  ihave Hp0 := (at_off _ (off' := ![16384 * (i 1).val + 8192 * (0 : Fin 2).val]) (inb' := prow_inb (i 1) 0) (hr' := fun _ => rfl) (k0_off188_eq i 0) _) $$ Hp0
  ihave Hp1 := (at_off _ (off' := k0_off188 i 1#32) (inb' := k0_off188_inb i 1) (hr' := fun _ => rfl) (k0_off188_eq i 1).symm _) $$ Hp1
  iapply (at_copy _ (View.amount_pos _ _ (show 0 < S8192.numel by decide))) $$ [H19 Hp1 Hs8 HO]
  · isplitl [H19]; · iexact H19
    isplitl [Hp1]; · iexact Hp1
    isplitl [Hs8]; · iexact Hs8
    isplitl [HO]; · iexact HO
    iexact Hm1
  iintro ⟨H19, Hp1, Hs8, HO⟩
  ihave Hp1 := (at_off _ (off' := ![16384 * (i 1).val + 8192 * (1 : Fin 2).val]) (inb' := prow_inb (i 1) 1) (hr' := fun _ => rfl) (k0_off188_eq i 1) _) $$ Hp1
  ihave HP := (give_pool R d i arg23 hmove e18) $$ [Hp0 Hp1]
  · isplitl [Hp0]; · iexact Hp0
    iexact Hp1
  iapply (meet2 d i (POt R BT obs arg23) κ O W) $$ [HK2 HMet HO HP]
  · isplitl [HK2]; · iexact HK2
    isplitl [HMet]; · iexact HMet
    isplitl [HO]; · iexact HO
    iexact HP
  iintro ⟨HO, Hb, HP⟩
  iapply (out13 R d i arg8 harg8 arg15 harg15 v100_r9 (cond13_iff i)) $$ [H15 HR8 Hs9 HO]
  · isplitr; · iexact Hm
    isplitl [H15]; · iexact H15
    isplitl [HR8]; · iexact HR8
    isplitl [Hs9]; · iexact Hs9
    iexact HO
  iintro ⟨H15, HR8, Hs9, HO⟩
  iapply (out14 d i arg6 arg7 arg12 harg12 arg13 harg13 v100_r10 v100_r11) $$ [H13 H12 HR67 Hs10 Hs11 HO]
  · isplitr; · iexact Hm
    isplitl [H13]; · iexact H13
    isplitl [H12]; · iexact H12
    isplitl [HR67]; · iexact HR67
    isplitl [Hs10]; · iexact Hs10
    isplitl [Hs11]; · iexact Hs11
    iexact HO
  iintro ⟨H13, H12, HR67, Hs10, Hs11, HO⟩
  iapply (out15 R d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 v100_r0 v100_r1 v100_r2 v100_r3 v100_r4 v110_r5 v110_r6 v100_r7 v100_r8 v100_r9 v100_r10 v100_r11 v112_r12 v112_r13 v104_r14 v104_r15) $$ [HP H13 H18 H19 HR910 Hs12 Hs13 Hs14 Hs15 HO]
  · isplitr; · iexact Hm
    isplitl [HP]; · iexact HP
    isplitl [H13]; · iexact H13
    isplitl [H18]
    · iexists g18
      isplitr
      · ipureintro; exact e18
      iexact H18
    isplitl [H19]; · iexists g19; iexact H19
    isplitl [HR910]; · iexact HR910
    isplitl [Hs12]; · iexact Hs12
    isplitl [Hs13]; · iexact Hs13
    isplitl [Hs14]; · iexact Hs14
    isplitl [Hs15]; · iexact Hs15
    iexact HO
  iintro ⟨HP, H13, H18, H19, HR910, Hs12, Hs13, Hs14, Hs15, HO⟩
  iapply (fin_pure _)
  isplitl [HC]; · iexact HC
  isplitl [HC1]; · iexact HC1
  isplitl [H2]; · iexact H2
  isplitl [H3]; · iexact H3
  isplitl [H5]; · iexact H5
  isplitl [H11]; · iexists gb; iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [HS]; · iexact HS
  isplitl [HP]; · iexact HP
  isplitl [Hb]; · iexact Hb
  isplitl [HR8]; · iexact HR8
  isplitl [HR67]; · iexact HR67
  isplitl [HR910]; · iexact HR910
  iexact HO

end Cert.Proof.Seg
-- ==== Proof.Parts.lean ====
/-
  Buffers cut into pieces and shares, and put together again.
-/
module

public import proofs.«01_k».proof.Proof.Own

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

section Share

variable (c : Thread nD τ) {sp : Space} {s : Shape} {e : EltTy}

instance at_storable {m : Memref sig c.2.kind sp s e} {q : PosShare TreeShare} {g : s.Idx → Elt F e} : BI.Storable (upEmb : UEmb _ 𝕄) (At c m q g) := by
  unfold At; infer_instance

instance ite_storable {p : Prop} [Decidable p] {A B : sProp 𝕄} [hA : BI.Storable (upEmb : UEmb _ 𝕄) A] [hB : BI.Storable (upEmb : UEmb _ 𝕄) B] :
    BI.Storable (upEmb : UEmb _ 𝕄) (if p then A else B) := by
  split; exacts [hA, hB]

/-- Contents that read `g` are as good as any others that do. -/
theorem at_eq {m : Memref sig c.2.kind sp s e} {q : PosShare TreeShare} {g : s.Idx → Elt F e} {f : Buf (Elt F) (m.view.loc c)}
    (hf : m.view.read (Elt F) f = g) : (At c m q g : sProp 𝕄) = (m.view.loc c ↦[m.view.set]{q} f) := by
  refine BI.Entails.antisymm ?_ (at_intro c rfl hf)
  unfold At
  show (_ : sProp 𝕄) ⊢ (_ : sProp 𝕄)
  iintro ⟨%f', H, %h⟩
  have e1 : ∀ i ∈ m.view.set, f' i = f i := by
    intro i hi
    obtain ⟨y, -, rfl⟩ := Finset.mem_map.mp hi
    have h2 := congrFun (h.trans hf.symm) y
    exact (cast_inj _).mp h2
  iapply (Entails.of_eq (pointsTo_congr e1)); iexact H

/-- A share's leaves at once. -/
theorem at_leaves {m : Memref sig c.2.kind sp s e} {g : s.Idx → Elt F e} (n : ℕ) (q : PosShare TreeShare) :
    (At c m q g : sProp 𝕄) ⊢ bigSep Finset.univ fun j : Fin (2 ^ n) => At c m (leaf n q j) g := by
  unfold At
  iintro ⟨%f, H, %hg⟩
  ihave H := (Entails.of_eq (pointsTo_leaves _ _ n q)) $$ H
  iapply (SparseCore.ent (bigSep_mono (Φ := fun j : Fin (2 ^ n) => (m.view.loc c ↦[m.view.set]{leaf n q j} f : sProp 𝕄))
    fun j _ => (show (_ : sProp 𝕄) ⊢ (_ : sProp 𝕄) from by
      iintro H; iexists f; isplitl [H]; · iexact H
      ipureintro; exact hg))) $$ H

theorem at_leaves_join {m : Memref sig c.2.kind sp s e} {g : s.Idx → Elt F e} {f : Buf (Elt F) (m.view.loc c)}
    (hf : m.view.read (Elt F) f = g) (n : ℕ) (q : PosShare TreeShare) :
    (bigSep Finset.univ fun j : Fin (2 ^ n) => (At c m (leaf n q j) g : sProp 𝕄)) ⊢ At c m q g := by
  rw [at_eq c hf, pointsTo_leaves _ _ n q]
  exact bigSep_mono fun j _ => Entails.of_eq (at_eq c hf)

/-- Leaves of a share, each at contents of its own, are the share at some contents. -/
theorem leaves_join {ℓ : Loc nD τ sig} (I : Finset (Idx ℓ)) : ∀ (n : ℕ) (q : PosShare TreeShare),
    (bigSep Finset.univ fun i : Fin (2 ^ n) => (iprop(∃ f : Buf (Elt F) ℓ, ℓ ↦[I]{leaf n q i} f) : sProp 𝕄)) ⊢ iprop(∃ f : Buf (Elt F) ℓ, ℓ ↦[I]{q} f)
  | 0, q => Entails.of_eq (bigSep_univ_of_subsingleton (0 : Fin 1) (Φ := fun i : Fin (2 ^ 0) => (iprop(∃ f : Buf (Elt F) ℓ, ℓ ↦[I]{leaf 0 q i} f) : sProp 𝕄)))
  | n + 1, q => by
    have e : (bigSep Finset.univ fun i : Fin (2 ^ (n + 1)) => (iprop(∃ f : Buf (Elt F) ℓ, ℓ ↦[I]{leaf (n + 1) q i} f) : sProp 𝕄))
        = iprop((bigSep Finset.univ fun i : Fin (2 ^ n) => (iprop(∃ f : Buf (Elt F) ℓ, ℓ ↦[I]{leaf n q.left i} f) : sProp 𝕄))
          ∗ (bigSep Finset.univ fun i : Fin (2 ^ n) => (iprop(∃ f : Buf (Elt F) ℓ, ℓ ↦[I]{leaf n q.right i} f) : sProp 𝕄))) := by
      rw [bigSep_univ_equiv (sumEquiv n) (fun i : Fin (2 ^ (n + 1)) => (iprop(∃ f : Buf (Elt F) ℓ, ℓ ↦[I]{leaf (n + 1) q i} f) : sProp 𝕄)), bigSep_univ_sum]
      congr 1 <;> refine bigSep_congr fun i _ => ?_
      · rw [leaf_inl]
      · rw [leaf_inr]
    rw [e]
    iintro ⟨HA, HB⟩
    ihave HA := (leaves_join I n q.left) $$ HA
    ihave HB := (leaves_join I n q.right) $$ HB
    icases HA with ⟨%f, HA⟩
    icases HB with ⟨%f', HB⟩
    ihave %h : ⌜_⌝ $$ [HA HB]
    · iapply (pointsTo_agree (I := I) (J := I) (f := f) (g := f')); isplitl [HA]; · iexact HA
      iexact HB
    have e1 : ∀ i ∈ I, f' i = f i := fun i hi => (h i (Finset.mem_inter.mpr ⟨hi, hi⟩)).1.symm
    ihave HB := (Entails.of_eq (pointsTo_congr e1)) $$ HB
    iexists f
    iapply (pointsTo_share (PosShare.mem_left_op_right q)).2
    isplitl [HA]; · iexact HA
    iexact HB

variable [∀ e, Nonempty (Elt F e)]

section Split

variable {ι : Type} [Fintype ι] [DecidableEq ι] (m : Memref sig c.2.kind sp s e) (r : ι → Rect s) (hr : ∀ i a, (r i).stride a = 1)
variable (hdis : ∀ i j x x', (r i).emb x = (r j).emb x' → i = j) (hcov : ∀ y, ∃ i x, (r i).emb x = y)

include hdis in
theorem pieces_disjoint : ∀ i ∈ (Finset.univ : Finset ι), ∀ j ∈ (Finset.univ : Finset ι), i ≠ j → Disjoint (m.slice (r i) (hr i)).view.set (m.slice (r j) (hr j)).view.set := by
  intro i _ j _ hij
  rw [Finset.disjoint_left]
  intro z hz hz'
  obtain ⟨x, -, rfl⟩ := Finset.mem_map.mp hz
  obtain ⟨x', -, h⟩ := Finset.mem_map.mp hz'
  exact hij (hdis i j x x' (m.view.emb.injective h).symm)

include hcov in
theorem pieces_cover : (Finset.univ : Finset ι).biUnion (fun i => (m.slice (r i) (hr i)).view.set) = m.view.set := by
  refine Finset.Subset.antisymm (Finset.biUnion_subset.mpr fun i _ => View.set_slice_subset _ _) ?_
  intro z hz
  obtain ⟨y, -, rfl⟩ := Finset.mem_map.mp hz
  obtain ⟨i, x, rfl⟩ := hcov y
  exact Finset.mem_biUnion.mpr ⟨i, Finset.mem_univ _, Finset.mem_map_of_mem _ (Finset.mem_univ x)⟩

include hdis hcov in
theorem pts_pieces {q : PosShare TreeShare} (f : Buf (Elt F) (m.view.loc c)) :
    (m.view.loc c ↦[m.view.set]{q} f : sProp 𝕄) = bigSep Finset.univ fun i : ι => m.view.loc c ↦[(m.slice (r i) (hr i)).view.set]{q} f :=
  (congrArg (fun I => (m.view.loc c ↦[I]{q} f : sProp 𝕄)) (pieces_cover c m r hr hcov).symm).trans
    (pointsTo_biUnion (ℓ := m.view.loc c) (q := q) (f := f) Finset.univ (fun i => (m.slice (r i) (hr i)).view.set) (pieces_disjoint c m r hr hdis))

include hdis hcov in
/-- A buffer is its pieces at once, -/
theorem at_pieces {q : PosShare TreeShare} {g : s.Idx → Elt F e} :
    (At c m q g : sProp 𝕄) ⊢ bigSep Finset.univ fun i : ι => At c (m.slice (r i) (hr i)) q (fun x => g ((r i).emb x)) := by
  have h : ∀ f : Buf (Elt F) (m.view.loc c), m.view.read (Elt F) f = g →
      ((m.view.loc c ↦[m.view.set]{q} f : sProp 𝕄) ⊢ bigSep Finset.univ fun i : ι => At c (m.slice (r i) (hr i)) q (fun x => g ((r i).emb x))) := by
    intro f hf
    refine (Entails.of_eq (pts_pieces c m r hr hdis hcov f)).trans (bigSep_mono fun i _ => ?_)
    have h2 : (m.slice (r i) (hr i)).view.read (Elt F) f = fun x => g ((r i).emb x) := by
      rw [← hf]; rfl
    exact at_intro c (m := m.slice (r i) (hr i)) (f := f) rfl h2
  exact (at_elim c rfl).trans (BI.BIClass.exists_elim fun f => (by
    show (_ : sProp 𝕄) ⊢ (_ : sProp 𝕄)
    iintro ⟨H, %hg⟩
    iapply (h f hg); iexact H))

include hdis hcov in
/-- and pieces, each at contents of its own, are the buffer at some contents. -/
theorem at_pieces_join {q : PosShare TreeShare} (Φ : (i : ι) → ((r i).shape.Idx → Elt F e) → Prop) :
    (bigSep Finset.univ fun i : ι => (iprop(∃ g, ⌜Φ i g⌝ ∗ At c (m.slice (r i) (hr i)) q g) : sProp 𝕄))
      ⊢ iprop(∃ g : s.Idx → Elt F e, ⌜∀ i, Φ i (fun x => g ((r i).emb x))⌝ ∗ At c m q g) := by
  have h1 : (bigSep Finset.univ fun i : ι => (iprop(∃ g, ⌜Φ i g⌝ ∗ At c (m.slice (r i) (hr i)) q g) : sProp 𝕄))
      ⊢ bigSep Finset.univ fun i : ι => (iprop(∃ f : Buf (Elt F) (m.view.loc c), ⌜Φ i ((m.slice (r i) (hr i)).view.read (Elt F) f)⌝ ∗ m.view.loc c ↦[(m.slice (r i) (hr i)).view.set]{q} f) : sProp 𝕄) :=
    bigSep_mono fun i _ => (show (_ : sProp 𝕄) ⊢ (_ : sProp 𝕄) from by
      unfold At
      iintro ⟨%g, %hg, %f, H, %hf⟩
      subst hf
      iexists f
      isplitr; · ipureintro; exact hg
      iexact H)
  refine h1.trans ((bigSep_exists_pi Finset.univ (fun i (f : Buf (Elt F) (m.view.loc c)) =>
    iprop(⌜Φ i ((m.slice (r i) (hr i)).view.read (Elt F) f)⌝ ∗ m.view.loc c ↦[(m.slice (r i) (hr i)).view.set]{q} f))).trans ?_)
  iintro ⟨%fs, H⟩
  ihave H := (bigSep_pure_sep _ _ _) $$ H
  icases H with ⟨%hΦ, H⟩
  ihave H := (pointsTo_biUnion_join Finset.univ (fun i => (m.slice (r i) (hr i)).view.set) fs (Classical.choice inferInstance) (pieces_disjoint c m r hr hdis)) $$ H
  icases H with ⟨%f, %hf, H⟩
  ihave H := (Entails.of_eq (congrArg (fun I => (m.view.loc c ↦[I]{q} f : sProp 𝕄)) (pieces_cover c m r hr hcov))) $$ H
  iexists m.view.read (Elt F) f
  isplitr
  · ipureintro
    intro i
    have e : (fun x => m.view.read (Elt F) f ((r i).emb x)) = (m.slice (r i) (hr i)).view.read (Elt F) (fs i) := by
      funext x
      exact congrArg (_root_.cast (congrArg (Elt F) m.view.elt_eq)) (hf i (Finset.mem_univ i) _ (Finset.mem_map_of_mem _ (Finset.mem_univ x)))
    rw [e]
    exact hΦ i (Finset.mem_univ i)
  iapply (at_intro c rfl rfl); iexact H

end Split

end Share

/-! ## Pieces of one length, one after another -/

theorem line_dis {s : Shape} (h1 : s.rank = 1) {n : ℕ} {ι : Type} (o : ι → Fin s.rank → ℕ) (size : Fin s.rank → ℕ) (inb : ∀ i a, o i a + size a ≤ s.size a)
    (ho : ∀ i j : ι, ∀ a b : ℕ, a < n → b < n → ∀ t, o i t + a = o j t + b → i = j) (hn : ∀ t, size t = n) (i j : ι)
    (x : (Rect.unit (s := s) (o i) size (inb i)).shape.Idx) (x' : (Rect.unit (s := s) (o j) size (inb j)).shape.Idx)
    (h : (Rect.unit (s := s) (o i) size (inb i)).emb x = (Rect.unit (s := s) (o j) size (inb j)).emb x') : i = j := by
  let t : Fin s.rank := ⟨0, by omega⟩
  have e := congrArg Fin.val (congrFun h t)
  rw [unitEmb, unitEmb] at e
  exact ho i j _ _ (lt_of_lt_of_eq (x t).isLt (hn t)) (lt_of_lt_of_eq (x' t).isLt (hn t)) t e

/-! ## One of sixteen -/

theorem one0 (A : sProp 𝕄) : (bigSep Finset.univ fun i : Fin 16 => (if i.val = 0 then A else iprop(emp) : sProp 𝕄)) = A := by
  rw [SparseCore.bigSep_erase' (Finset.mem_univ (0 : Fin 16))]
  have e : (bigSep (Finset.univ.erase (0 : Fin 16)) fun i : Fin 16 => (if i.val = 0 then A else iprop(emp) : sProp 𝕄)) = iprop(emp) := by
    refine (bigSep_congr (Ψ := fun _ => (iprop(emp) : sProp 𝕄)) fun i hi => ?_).trans (bigSep_emp_const _)
    exact if_neg fun h => Finset.ne_of_mem_erase hi (Fin.ext h)
  rw [e]
  exact equiv_iff.mp sep_emp

/-- A few named members of a family, and the others. -/
theorem bigSep_pick {I : Type} [DecidableEq I] (s : Finset I) {n : ℕ} (f : Fin n → I) (hf : Function.Injective f) (hm : ∀ k, f k ∈ s) (Φ : I → sProp 𝕄) :
    bigSep s Φ = iprop((bigSep Finset.univ fun k : Fin n => Φ (f k)) ∗ bigSep (s \ Finset.univ.image f) Φ) := by
  rw [SparseCore.bigSep_sdiff_split' (t := Finset.univ.image f) (s := s) (fun x hx => by obtain ⟨k, -, rfl⟩ := Finset.mem_image.mp hx; exact hm k),
    SparseCore.bigSep_image_of_injOn (fun a _ b _ e => hf e)]

theorem bigSep_fin {n : ℕ} (Φ : Fin (n + 1) → sProp 𝕄) : bigSep Finset.univ Φ = iprop(Φ 0 ∗ bigSep Finset.univ fun k : Fin n => Φ k.succ) := by
  rw [Fin.univ_succ, Finset.cons_eq_insert, SparseCore.bigSep_insert' (by simp), bigSep_map]
  rfl

theorem bigSep_two (Φ : Fin 2 → sProp 𝕄) : bigSep Finset.univ Φ = iprop(Φ 0 ∗ Φ 1) := by
  rw [bigSep_fin, bigSep_fin, show (Finset.univ : Finset (Fin 0)) = ∅ from rfl, bigSep_empty]
  exact congrArg (fun A => iprop(Φ 0 ∗ A)) (equiv_iff.mp sep_emp)

theorem at_two (c : Thread nD τ) {sp : Space} {s : Shape} {e : EltTy} {m : Memref sig c.2.kind sp s e} {g : s.Idx → Elt F e} (q : PosShare TreeShare) :
    (At c m q g : sProp 𝕄) ⊢ iprop(At c m (leaf 1 q 0) g ∗ At c m (leaf 1 q 1) g) :=
  (at_leaves c 1 q).trans (Entails.of_eq (bigSep_two fun j : Fin 2 => At c m (leaf 1 q j) g))

theorem at_two_join (c : Thread nD τ) {sp : Space} {s : Shape} {e : EltTy} {m : Memref sig c.2.kind sp s e} {g : s.Idx → Elt F e} {f : Buf (Elt F) (m.view.loc c)}
    (hf : m.view.read (Elt F) f = g) (q : PosShare TreeShare) :
    (iprop(At c m (leaf 1 q 0) g ∗ At c m (leaf 1 q 1) g) : sProp 𝕄) ⊢ At c m q g :=
  (Entails.of_eq (bigSep_two fun j : Fin 2 => At c m (leaf 1 q j) g).symm).trans (at_leaves_join c hf 1 q)

end Cert.Proof.Seg

end
-- ==== Proof.Deal.lean ====
/-
  What the call hands each tile and what it has back.
-/
module

public import proofs.«01_k».proof.Proof.Tile
public import proofs.«01_k».proof.Proof.Parts

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

/-! ## The call's arrays and each tile's scratch -/

abbrev M2 : Memref sig .scVector .hbm S327680 .f32 := Memref.whole main_v1_scv
abbrev M3 : Memref sig .scVector .hbm S327680 .i32 := Memref.whole main_v3_scv
abbrev M4 : Memref sig .scVector .hbm S320000x128 .f32 := Memref.whole main_arg2_scv
abbrev M5 : Memref sig .scVector .hbm S128 .f32 := Memref.whole main_v5_scv
abbrev M6 : Memref sig .scVector .hbm S327680 .f32 := Memref.whole main_v6_0_scv
abbrev M7 : Memref sig .scVector .hbm S327680 .f32 := Memref.whole main_v6_1_scv
abbrev M8 : Memref sig .scVector .hbm S1280 .f32 := Memref.whole main_v6_2_scv
abbrev M9 : Memref sig .scVector .hbm S16384 .f32 := Memref.whole main_v6_3_scv
abbrev M10 : Memref sig .scVector .hbm S16384 .f32 := Memref.whole main_v6_4_scv
abbrev M11 : Memref sig .scVector .vmem S20480 .i32 := Memref.whole cc0_scratch0
abbrev M12 : Memref sig .scVector .vmem S20480 .f32 := Memref.whole cc0_scratch1
abbrev M13 : Memref sig .scVector .vmem S20480 .f32 := Memref.whole cc0_scratch2
abbrev M14 : Memref sig .scVector .vmem S128 .f32 := Memref.whole cc0_scratch3
abbrev M15 : Memref sig .scVector .vmem S1280 .f32 := Memref.whole cc0_scratch4
abbrev M16 : Memref sig .scVector .vmem S1280 .f32 := Memref.whole cc0_scratch5
abbrev M17 : Memref sig .scVector .vmem S1280 .f32 := Memref.whole cc0_scratch6
abbrev M18 : Memref sig .scVector .vmem S8192 .f32 := Memref.whole cc0_scratch7
abbrev M19 : Memref sig .scVector .vmem S8192 .f32 := Memref.whole cc0_scratch8
abbrev M20 : Memref sig .scVector .vmem S80x128 .f32 := Memref.whole cc0_scratch9
abbrev M21 : Memref sig .scVector .vmem S80x128 .f32 := Memref.whole cc0_scratch10
abbrev M22 : Memref sig .scVector .shared S40960 .f32 := Memref.whole cc0_scratch11
abbrev M23 : Memref sig .scVector .shared S262144 .f32 := Memref.whole cc0_scratch12

variable {M : Type} [AddCommMonoid M] (R : Rdg F M)

/-- The call's operands and how they read: the padded signal, the padded segment numbers, the observations, the padded
    uncertainties. -/
structure Inp where
  gCS : S327680.Idx → Elt F .f32
  CS : ℕ → Elt F .f32
  hCS : ∀ y, gCS y = CS (y 0).val
  gB : S327680.Idx → BitVec 32
  BT : ℕ → ℕ
  hB : ∀ y, (gB y).toNat = BT (y 0).val
  hBT : ∀ x < 327680, BT x ≤ 64
  hsort : ∀ x y, x ≤ y → y < 327680 → BT x ≤ BT y
  hlow : ∀ x < 320000, BT x < 64
  gU : S128.Idx → Elt F .f32
  UN : ℕ → Elt F .f32
  hU : ∀ y, gU y = UN (y 0).val
  OB : S320000x128.Idx → Elt F .f32
  obs : ℕ → ℕ → M
  hOB : ∀ y, R.v (OB y) = obs (y 0).val (y 1).val

variable (X : Inp R) (d : Dev nD) (L : grid0.Coords)

/-- The operands at a share. -/
def IN (q : PosShare TreeShare) : sProp 𝕄 :=
  iprop(At (thr d L) M2 q X.gCS ∗ At (thr d L) M3 q X.gB ∗ At (thr d L) M4 q X.OB ∗ At (thr d L) M5 q X.gU)

/-- The share of them tile `(c, i)` reads at. -/
abbrev tq (c : Fin 2) (i : Fin 16) : PosShare TreeShare := leaf 4 (leaf 1 fullShare c) i

/-- What a tile is handed, -/
def GO : sProp 𝕄 :=
  iprop(IN R X d L (tq (L 0) (L 1)) ∗ (if (L 0).val = 0 ∧ (L 1).val = 0 then iprop((∃ g, At (thr d L) M8 fullShare g)) else iprop(emp) : sProp 𝕄) ∗ (if (L 0).val = 0 then iprop((∃ g, At (thr d L) (seg20 M6 (L 1)) fullShare g) ∗ (∃ g, At (thr d L) (seg20 M7 (L 1)) fullShare g)) else iprop(emp) : sProp 𝕄) ∗ (if (L 1).val = 0 then iprop((∃ g, At (thr d L) (half M9 (L 0)) fullShare g) ∗ (∃ g, At (thr d L) (half M10 (L 0)) fullShare g)) else iprop(emp) : sProp 𝕄)
    ∗ (∃ g, At (thr d L) (srow M22 (L 1) 0) fullShare g) ∗ (∃ g, At (thr d L) (srow M22 (L 1) 1) fullShare g)
    ∗ (∃ g, At (thr d L) (prow M23 (L 1) 0) fullShare g) ∗ (∃ g, At (thr d L) (prow M23 (L 1) 1) fullShare g))

/-- and what it hands back. -/
def TD : sProp 𝕄 :=
  iprop(IN R X d L (tq (L 0) (L 1)) ∗ (if (L 0).val = 0 ∧ (L 1).val = 0 then iprop((∃ g : S1280.Idx → Elt F .f32, ⌜∀ y : S1280.Idx, R.v (g y) = ∑ w ∈ Finset.range (16), cntT R X.BT w (y 0).val⌝ ∗ At (thr d L) M8 fullShare g)) else iprop(emp) : sProp 𝕄) ∗ (if (L 0).val = 0 then iprop((∃ g : S20480.Idx → Elt F .f32, ⌜∀ y : S20480.Idx, g y = FloatOps.addf (F := F) (φ := .f32) (X.CS (20480 * (L 1).val + (y 0).val)) (X.UN (X.BT (20480 * (L 1).val + (y 0).val)))⌝ ∗ At (thr d L) (seg20 M6 (L 1)) fullShare g) ∗ (∃ g, At (thr d L) (seg20 M7 (L 1)) fullShare g)) else iprop(emp) : sProp 𝕄) ∗ (if (L 1).val = 0 then iprop((∃ g : S8192.Idx → Elt F .f32, ⌜∀ y : S8192.Idx, R.v (g y) = ∑ w ∈ Finset.range (16), accT X.BT X.obs (L 0).val w (y 0).val⌝ ∗ At (thr d L) (half M9 (L 0)) fullShare g) ∗ (∃ g, At (thr d L) (half M10 (L 0)) fullShare g)) else iprop(emp) : sProp 𝕄)
    ∗ (bigSep Finset.univ fun j : Fin 16 => STt R X.BT M22 d (cr L) j (L 1)) ∗ (bigSep Finset.univ fun k : Fin 16 => POt R X.BT X.obs M23 d (cr L) (L 1) k)
    ∗ semVal (bcell d (cr L) (L 1)) 0)

/-! ## A tile's own buffers and semaphores -/

def bufsV : Fin 11 → Ref sig .scVector := ![cc0_scratch0, cc0_scratch1, cc0_scratch2, cc0_scratch3, cc0_scratch4, cc0_scratch5, cc0_scratch6, cc0_scratch7, cc0_scratch8, cc0_scratch9, cc0_scratch10]
def semsV : Fin 18 → DmaSem sig := ![cc0_scratch13.sem, cc0_scratch14.sem, cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem]
theorem bufsV_injective : Function.Injective bufsV := by decide
theorem semsV_injective : Function.Injective semsV := by decide
abbrev bufV (k : Fin 11) : DevRef τ sig := (thr d L).2.devRef (bufsV k)
abbrev semV (k : Fin 18) : GSem nD τ sig := (thr d L, .dma (semsV k))

theorem bufV_injective : Function.Injective (bufV d L) :=
  (Proc.devRef_injective _).comp bufsV_injective
theorem semV_injective : Function.Injective (semV d L) := fun a b h =>
  semsV_injective (SemLoc.dma.inj (Prod.mk.inj h).2)

abbrev restB : sProp 𝕄 := bigSep (SparseCore.Cfg.ownRefs (thr d L).2 \ Finset.univ.image (bufV d L)) fun b => iprop(∃ f, ((d, b) : Loc nD τ sig) ↦{fullShare} f)
abbrev restS : sProp 𝕄 := bigSep (SparseCore.Cfg.ownCells (thr d L) \ Finset.univ.image (semV d L)) fun g => semVal g 0

theorem ownBufs_pick : (SparseCore.Cfg.ownBufs (thr d L) : sProp 𝕄)
    = iprop((bigSep Finset.univ fun k : Fin 11 => iprop(∃ f, ((d, bufV d L k) : Loc nD τ sig) ↦{fullShare} f)) ∗ restB d L) := by
  unfold SparseCore.Cfg.ownBufs
  exact bigSep_pick _ (bufV d L) (bufV_injective d L) (fun k => SparseCore.Cfg.mem_ownRefs_of_owner (by fin_cases k <;> rfl)) _

theorem ownSems_pick : (SparseCore.Cfg.ownSems0 (thr d L) : sProp 𝕄)
    = iprop((bigSep Finset.univ fun k : Fin 18 => semVal (semV d L k) 0) ∗ restS d L) := by
  unfold SparseCore.Cfg.ownSems0
  exact bigSep_pick _ (semV d L) (semV_injective d L) (fun k => SparseCore.Cfg.mem_ownCells.mpr ⟨rfl, by
    show (SemLoc.dma (semsV k) : SemLoc sig).isScoped .scVector = true
    revert k; decide⟩) _

theorem some_whole (c : Thread nD τ) (r : Ref sig c.2.kind) :
    (iprop(∃ f : Buf (Elt F) (c.loc r), c.loc r ↦{fullShare} f) : sProp 𝕄) = iprop(∃ g, At c (Memref.whole r) fullShare g) := by
  have h : ∀ f : Buf (Elt F) (c.loc r), (c.loc r ↦{fullShare} f : sProp 𝕄) = At c (Memref.whole r) fullShare f := fun f =>
    (BI.Entails.antisymm (at_intro c (m := Memref.whole r) (View.set_whole r).symm rfl) (by
      refine (Entails.of_eq (at_eq c (m := Memref.whole r) (g := f) (f := f) rfl)).trans ?_
      exact Entails.of_eq (congrArg (fun I => (c.loc r ↦[I]{fullShare} f : sProp 𝕄)) (View.set_whole r))))
  refine BI.Entails.antisymm ?_ ?_
  · show (_ : sProp 𝕄) ⊢ (_ : sProp 𝕄)
    iintro ⟨%f, H⟩; iexists f; iapply (Entails.of_eq (h f)); iexact H
  · show (_ : sProp 𝕄) ⊢ (_ : sProp 𝕄)
    iintro ⟨%g, H⟩; iexists g; iapply (Entails.of_eq (h g).symm); iexact H

theorem bufs_eq : (bigSep Finset.univ fun k : Fin 11 => (iprop(∃ f, ((d, bufV d L k) : Loc nD τ sig) ↦{fullShare} f) : sProp 𝕄))
    = iprop((∃ g, At (thr d L) M11 fullShare g) ∗ (∃ g, At (thr d L) M12 fullShare g) ∗ (∃ g, At (thr d L) M13 fullShare g) ∗ (∃ g, At (thr d L) M14 fullShare g) ∗ (∃ g, At (thr d L) M15 fullShare g) ∗ (∃ g, At (thr d L) M16 fullShare g) ∗ (∃ g, At (thr d L) M17 fullShare g) ∗ (∃ g, At (thr d L) M18 fullShare g) ∗ (∃ g, At (thr d L) M19 fullShare g) ∗ (∃ g, At (thr d L) M20 fullShare g) ∗ (∃ g, At (thr d L) M21 fullShare g) ∗ emp) := by
  rw [bigSep_congr (Ψ := fun k : Fin 11 => (iprop(∃ g, At (thr d L) (Memref.whole (bufsV k)) fullShare g) : sProp 𝕄)) fun k _ => some_whole (thr d L) (bufsV k)]
  rw [bigSep_fin, bigSep_fin, bigSep_fin, bigSep_fin, bigSep_fin, bigSep_fin, bigSep_fin, bigSep_fin, bigSep_fin, bigSep_fin, bigSep_fin, show (Finset.univ : Finset (Fin 0)) = ∅ from rfl, bigSep_empty]
  rfl

theorem sems_eq : (bigSep Finset.univ fun k : Fin 18 => (semVal (semV d L k) 0 : sProp 𝕄))
    = iprop(semVal (thr d L, .dma cc0_scratch13.sem) 0 ∗ semVal (thr d L, .dma cc0_scratch14.sem) 0 ∗ semVal (thr d L, .dma cc0_scoped0.sem) 0 ∗ semVal (thr d L, .dma cc0_scoped1.sem) 0 ∗ semVal (thr d L, .dma cc0_scoped2.sem) 0 ∗ semVal (thr d L, .dma cc0_scoped3.sem) 0 ∗ semVal (thr d L, .dma cc0_scoped4.sem) 0 ∗ semVal (thr d L, .dma cc0_scoped5.sem) 0 ∗ semVal (thr d L, .dma cc0_scoped6.sem) 0 ∗ semVal (thr d L, .dma cc0_scoped7.sem) 0 ∗ semVal (thr d L, .dma cc0_scoped8.sem) 0 ∗ semVal (thr d L, .dma cc0_scoped9.sem) 0 ∗ semVal (thr d L, .dma cc0_scoped10.sem) 0 ∗ semVal (thr d L, .dma cc0_scoped11.sem) 0 ∗ semVal (thr d L, .dma cc0_scoped12.sem) 0 ∗ semVal (thr d L, .dma cc0_scoped13.sem) 0 ∗ semVal (thr d L, .dma cc0_scoped14.sem) 0 ∗ semVal (thr d L, .dma cc0_scoped15.sem) 0 ∗ emp) := by
  rw [bigSep_fin, bigSep_fin, bigSep_fin, bigSep_fin, bigSep_fin, bigSep_fin, bigSep_fin, bigSep_fin, bigSep_fin, bigSep_fin, bigSep_fin, bigSep_fin, bigSep_fin, bigSep_fin, bigSep_fin, bigSep_fin, bigSep_fin, bigSep_fin, show (Finset.univ : Finset (Fin 0)) = ∅ from rfl, bigSep_empty]
  rfl

end Cert.Proof.Seg

end
-- ==== Proof.Task.lean ====
/-
  The task on one tile.
-/
module

public import proofs.«01_k».proof.Proof.Deal

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

attribute [local instance] blocks

variable {M : Type} [AddCommMonoid M] (R : Rdg F M) (X : Inp R) (d : Dev nD) (L : grid0.Coords)

theorem row_leaves (r : Fin 2) (g : S1280.Idx → Elt F .f32) : (At (thr d L) (srow M22 (L 1) r) fullShare g : sProp 𝕄)
    ⊢ bigSep Finset.univ fun j : Fin 16 => At (V d (cr L) (tl j)) (srow M22 (L 1) r) (leaf 4 fullShare j) g :=
  at_leaves (thr d L) 4 fullShare

theorem row_move (r : Fin 2) (g : S8192.Idx → Elt F .f32) : (At (thr d L) (prow M23 (L 1) r) fullShare g : sProp 𝕄)
    ⊢ At (V d (cr L) (tl 0)) (prow M23 (L 1) r) fullShare g := .rfl

set_option maxHeartbeats 2000000 in
/-- The task on tile `L`. -/
theorem tile_body (O : CellTallies nD τ sig (HIx 2)) (W : Waits sig (HIx 2)) (hO : ∀ g, O g none = 0)
    (hOlev : ∀ g ι, 0 < O g ι → 14 ≤ (K (F := F)).lev g ι) :
    iprop(levAts (K (F := F)).L (K (F := F)).lev ∗ bkit (STt R X.BT M22) (POt R X.BT X.obs M23) d (cr L) (L 1) ∗ GO R X d L
        ∗ SparseCore.Cfg.ownBufs (thr d L) ∗ SparseCore.Cfg.ownSems0 (thr d L) ∗ owes (thr d L) (O + oxV d (cr L)) W)
      ⊢ wp frame (wpE (defs₀ (F := F)) 𝒱₀ (thr d L) none) Set.univ (cc0__seg_sc_body (F := F) L M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          fun _ => iprop(TD R X d L ∗ SparseCore.Cfg.ownBufs (thr d L) ∗ SparseCore.Cfg.ownSems0 (thr d L)
            ∗ ∃ W', ⌜∀ p ∈ W', p ∈ W ∨ p.2 = none ∨ ∃ j, p.2 = some j⌝ ∗ owes (thr d L) O W') := by
  have hO1 : ∀ g, (O + oxP d (cr L) (some 1)) g none = 0 := fun g => by rw [Pi.add_apply, Finsupp.add_apply, hO g, oxP_none]
  have hO2 : ∀ g, (O + oxP d (cr L) (some 1) + oxP d (cr L) (some 0)) g none = 0 := fun g => by rw [Pi.add_apply, Finsupp.add_apply, hO1 g, oxP_none]
  have hlb : ∀ j : Fin 2, (K (F := F)).lev (bcell d (cr L) (L 1)) (some j) = 8 * j.val + 3 := fun j => by
    rw [(K (F := F)).lev_V_reg d _ _ (show (sc_bar0 : Sem sig) ≠ (K (F := F)).go from sc_bar0_ne_go)]; try rfl
  have hlb' : ∀ (k : Fin 16) (j : Fin 2), (K (F := F)).lev (bcell d (cr L) k) (some j) = 8 * j.val + 3 := fun k j => by
    rw [(K (F := F)).lev_V_reg d _ _ (show (sc_bar0 : Sem sig) ≠ (K (F := F)).go from sc_bar0_ne_go)]; try rfl
  rw [ownBufs_pick, ownSems_pick, bufs_eq, sems_eq, show O + oxV d (cr L) = O + oxP d (cr L) (some 1) + oxP d (cr L) (some 0) from (add_assoc _ _ _).symm]
  unfold bkit GO TD IN
  iintro ⟨#Hlv, ⟨⟨%κ, %κ', #Hinv, #Hesc⟩, Ht0, Ht16, Ht1, #Hrch, Hat, Hav, Hc0, Hc1⟩, ⟨⟨H2, H3, H4, H5⟩, HR8, HR67, HR910, Hr0, Hr1, Hp0, Hp1⟩,
    ⟨⟨H11, H12, H13, H14, H15, H16, H17, H18, H19, H20, H21, -⟩, Hbufs⟩, ⟨⟨Hs0, Hs1, Hs2, Hs3, Hs4, Hs5, Hs6, Hs7, Hs8, Hs9, Hs10, Hs11, Hs12, Hs13, Hs14, Hs15, Hs16, Hs17, -⟩, Hsems⟩, HO⟩
  ihave Hm2 := (show levAts (K (F := F)).L (K (F := F)).lev ⊢ Transfers.MayWaits (thr d L) (none : HIx 2) (O + oxP d (cr L) (some 1) + oxP d (cr L) (some 0)) from
    (K (F := F)).mayWaits_none (thr := thr d L) hO2) $$ Hlv
  ihave Hm1 := (show levAts (K (F := F)).L (K (F := F)).lev ⊢ Transfers.MayWaits (thr d L) (none : HIx 2) (O + oxP d (cr L) (some 1)) from
    (K (F := F)).mayWaits_none (thr := thr d L) hO1) $$ Hlv
  ihave Hm0 := (show levAts (K (F := F)).L (K (F := F)).lev ⊢ Transfers.MayWaits (thr d L) (none : HIx 2) O from
    (K (F := F)).mayWaits_none (thr := thr d L) hO) $$ Hlv
  ihave Hw0 := (show levAts (K (F := F)).L (K (F := F)).lev ⊢ MayWait (thr d L) (.reg sc_bar0) (some 0 : HIx 2) (O + oxP d (cr L) (some 1)) from
    (K (F := F)).mayOwe_of_bound (thr := thr d L) 3 (fun p hp => by
        rw [Finset.mem_singleton] at hp; subst hp
        exact le_of_eq (hlb 0))
      (fun g ι hg => by
        rw [Pi.add_apply, Finsupp.add_apply] at hg
        rcases Nat.eq_zero_or_pos (O g ι) with h | h
        · rw [h, zero_add] at hg
          obtain ⟨j, rfl, rfl⟩ := oxP_apply_pos hg
          rw [hlb' j 1]; decide
        · exact lt_of_lt_of_le (by decide) (hOlev g ι h))) $$ Hlv
  ihave Hw1 := (show levAts (K (F := F)).L (K (F := F)).lev ⊢ MayWait (thr d L) (.reg sc_bar0) (some 1 : HIx 2) O from
    (K (F := F)).mayOwe_of_bound (thr := thr d L) 11 (fun p hp => by
        rw [Finset.mem_singleton] at hp; subst hp
        exact le_of_eq (hlb 1))
      (fun g ι hg => lt_of_lt_of_le (by decide) (hOlev g ι hg))) $$ Hlv
  ihave H4 := (at_two (thr d L) (m := M4) (g := X.OB) (tq (L 0) (L 1))) $$ H4
  icases H4 with ⟨H4a, H4b⟩
  iapply (wp_wand frame (wpE (defs₀ (F := F)) 𝒱₀ (thr d L) none) Set.univ) $$ [H2 H3 H4a H4b H5 H11 H12 H13 H14 H15 H16 H17 H18 H19 H20 H21 Hs0 Hs1 Hs2 Hs3 Hs4 Hs5 Hs6 Hs7 Hs8 Hs9 Hs10 Hs11 Hs12 Hs13 Hs14 Hs15 Hs16 Hs17 Hr0 Hr1 Hp0 Hp1 Ht0 Ht1 Hat Hav Hc0 Ht16 Hc1 HR8 HR67 HR910 HO]
  · iapply (tile_run R d L M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 X.hCS X.hB X.hBT X.hsort X.hlow X.hU X.hOB κ κ' (row_leaves d L) (row_move d L)
      (qa := leaf 1 (tq (L 0) (L 1)) 0) (qb := leaf 1 (tq (L 0) (L 1)) 1) (W := W))
    isplitr; · iexact Hm2
    isplitr; · iexact Hm1
    isplitr; · iexact Hm0
    isplitl [H20 H4a Hs0]
    · unfold Idle; isplitl [H20]; · iexact H20
      isplitl [H4a]; · iexact H4a
      iexact Hs0
    isplitl [H21 H4b Hs1]
    · unfold Idle; isplitl [H21]; · iexact H21
      isplitl [H4b]; · iexact H4b
      iexact Hs1
    isplitl [H2]; · iexact H2
    isplitl [H3]; · iexact H3
    isplitl [H5]; · iexact H5
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hr0]; · iexact Hr0
    isplitl [Hr1]; · iexact Hr1
    isplitl [Hp0]; · iexact Hp0
    isplitl [Hp1]; · iexact Hp1
    isplitl [Ht0 Ht1 Hat Hav Hc0]
    · unfold Kit1
      isplitr; · iexact Hinv
      isplitr; · iexact Hesc
      isplitl [Ht0]; · iexact Ht0
      isplitl [Ht1]; · iexact Ht1
      isplitr; · iexact Hrch
      isplitl [Hat]; · iexact Hat
      isplitl [Hav]; · iexact Hav
      isplitl [Hc0]; · iexact Hc0
      iexact Hw0
    isplitl [Ht16 Hc1]
    · unfold Kit2
      isplitr; · iexact Hinv
      isplitl [Ht16]; · iexact Ht16
      isplitr; · iexact Hrch
      isplitl [Hc1]; · iexact Hc1
      iexact Hw1
    isplitl [HR8]; · iexact HR8
    isplitl [HR67]; · iexact HR67
    isplitl [HR910]; · iexact HR910
    unfold Ow
    iexists W
    isplitr; · ipureintro; exact fun p hp => .inl hp
    iexact HO
  unfold Idle Ow
  iintro %_ ⟨⟨H20, H4a, Hs0⟩, ⟨H21, H4b, Hs1⟩, H2, H3, H5, H11, H12, H13, H14, H15, H16, H17, H18, H19, Hs2, Hs3, Hs4, Hs5, Hs6, Hs7, Hs8, Hs9, Hs10, Hs11, Hs12, Hs13, Hs14, Hs15, Hs16, Hs17, HST, HPO, Hbar, HR8, HR67, HR910, HO⟩
  isplitl [H2 H3 H4a H4b H5 HR8 HR67 HR910 HST HPO Hbar]
  · isplitl [H2 H3 H4a H4b H5]
    · isplitl [H2]; · iexact H2
      isplitl [H3]; · iexact H3
      isplitl [H4a H4b]
      · iapply (at_two_join (thr d L) (m := M4) (g := X.OB) (f := X.OB) rfl (tq (L 0) (L 1)))
        isplitl [H4a]; · iexact H4a
        iexact H4b
      iexact H5
    isplitl [HR8]; · iexact HR8
    isplitl [HR67]; · iexact HR67
    isplitl [HR910]; · iexact HR910
    isplitl [HST]; · iexact HST
    isplitl [HPO]; · iexact HPO
    iexact Hbar
  isplitl [H11 H12 H13 H14 H15 H16 H17 H18 H19 H20 H21 Hbufs]
  · isplitr [Hbufs]; swap; · iexact Hbufs
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iempintro
  isplitl [Hs0 Hs1 Hs2 Hs3 Hs4 Hs5 Hs6 Hs7 Hs8 Hs9 Hs10 Hs11 Hs12 Hs13 Hs14 Hs15 Hs16 Hs17 Hsems]
  · isplitr [Hsems]; swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    iempintro
  iexact HO

end Cert.Proof.Seg

end
-- ==== Proof.Call.lean ====
/-
  What the call takes of each core and gives back.
-/
module

public import proofs.«01_k».proof.Proof.Task

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

attribute [local instance] blocks

/-! ## The pieces the arrays are cut into -/

abbrev segR (p : Fin 16) : Rect S327680 := Rect.unit (s := S327680) ![20480 * p.val] S20480.size (seg20_inb p)
theorem seg_dis (i j : Fin 16) (x : (segR i).shape.Idx) (x' : (segR j).shape.Idx) (h : (segR i).emb x = (segR j).emb x') : i = j := by
  have e := congrArg Fin.val (congrFun h 0)
  rw [unitEmb, unitEmb] at e
  change 20480 * i.val + (x 0).val = 20480 * j.val + (x' 0).val at e
  have h1 : (x 0).val < 20480 := (x 0).isLt
  have h2 : (x' 0).val < 20480 := (x' 0).isLt
  exact Fin.ext (by omega)
theorem seg_cov (y : S327680.Idx) : ∃ (i : Fin 16) (x : (segR i).shape.Idx), (segR i).emb x = y := by
  have hy : (y 0).val < 327680 := (y 0).isLt
  refine ⟨⟨(y 0).val / 20480, by omega⟩, fun a => ⟨(y 0).val % 20480, by obtain rfl := Fin.eq_zero a; exact Nat.mod_lt (y 0).val (show 0 < 20480 by norm_num)⟩, ?_⟩
  funext a
  obtain rfl := Fin.eq_zero a
  apply Fin.ext
  rw [unitEmb]
  show 20480 * ((y 0).val / 20480) + (y 0).val % 20480 = (y 0).val
  omega

abbrev halR (p : Fin 2) : Rect S16384 := Rect.unit (s := S16384) ![8192 * p.val] S8192.size (half_inb p)
theorem hal_dis (i j : Fin 2) (x : (halR i).shape.Idx) (x' : (halR j).shape.Idx) (h : (halR i).emb x = (halR j).emb x') : i = j := by
  have e := congrArg Fin.val (congrFun h 0)
  rw [unitEmb, unitEmb] at e
  change 8192 * i.val + (x 0).val = 8192 * j.val + (x' 0).val at e
  have h1 : (x 0).val < 8192 := (x 0).isLt
  have h2 : (x' 0).val < 8192 := (x' 0).isLt
  exact Fin.ext (by omega)
theorem hal_cov (y : S16384.Idx) : ∃ (i : Fin 2) (x : (halR i).shape.Idx), (halR i).emb x = y := by
  have hy : (y 0).val < 16384 := (y 0).isLt
  refine ⟨⟨(y 0).val / 8192, by omega⟩, fun a => ⟨(y 0).val % 8192, by obtain rfl := Fin.eq_zero a; exact Nat.mod_lt (y 0).val (show 0 < 8192 by norm_num)⟩, ?_⟩
  funext a
  obtain rfl := Fin.eq_zero a
  apply Fin.ext
  rw [unitEmb]
  show 8192 * ((y 0).val / 8192) + (y 0).val % 8192 = (y 0).val
  omega

abbrev sroR (p : Fin 16 × Fin 2) : Rect S40960 := Rect.unit (s := S40960) ![2560 * p.1.val + 1280 * p.2.val] S1280.size (srow_inb p.1 p.2)
theorem sro_dis (i j : Fin 16 × Fin 2) (x : (sroR i).shape.Idx) (x' : (sroR j).shape.Idx) (h : (sroR i).emb x = (sroR j).emb x') : i = j := by
  have e := congrArg Fin.val (congrFun h 0)
  rw [unitEmb, unitEmb] at e
  change 2560 * i.1.val + 1280 * i.2.val + (x 0).val = 2560 * j.1.val + 1280 * j.2.val + (x' 0).val at e
  have h1 : (x 0).val < 1280 := (x 0).isLt
  have h2 : (x' 0).val < 1280 := (x' 0).isLt
  have := i.2.isLt; have := j.2.isLt
  have h1 : i.1.val = j.1.val := by omega
  have h2 : i.2.val = j.2.val := by omega
  exact Prod.ext (Fin.ext h1) (Fin.ext h2)
theorem sro_cov (y : S40960.Idx) : ∃ (i : Fin 16 × Fin 2) (x : (sroR i).shape.Idx), (sroR i).emb x = y := by
  have hy : (y 0).val < 40960 := (y 0).isLt
  refine ⟨(⟨(y 0).val / 2560, by omega⟩, ⟨(y 0).val % 2560 / 1280, by omega⟩), fun a => ⟨(y 0).val % 1280, by obtain rfl := Fin.eq_zero a; exact Nat.mod_lt (y 0).val (show 0 < 1280 by norm_num)⟩, ?_⟩
  funext a
  obtain rfl := Fin.eq_zero a
  apply Fin.ext
  rw [unitEmb]
  show 2560 * ((y 0).val / 2560) + 1280 * ((y 0).val % 2560 / 1280) + (y 0).val % 1280 = (y 0).val
  omega

abbrev proR (p : Fin 16 × Fin 2) : Rect S262144 := Rect.unit (s := S262144) ![16384 * p.1.val + 8192 * p.2.val] S8192.size (prow_inb p.1 p.2)
theorem pro_dis (i j : Fin 16 × Fin 2) (x : (proR i).shape.Idx) (x' : (proR j).shape.Idx) (h : (proR i).emb x = (proR j).emb x') : i = j := by
  have e := congrArg Fin.val (congrFun h 0)
  rw [unitEmb, unitEmb] at e
  change 16384 * i.1.val + 8192 * i.2.val + (x 0).val = 16384 * j.1.val + 8192 * j.2.val + (x' 0).val at e
  have h1 : (x 0).val < 8192 := (x 0).isLt
  have h2 : (x' 0).val < 8192 := (x' 0).isLt
  have := i.2.isLt; have := j.2.isLt
  have h1 : i.1.val = j.1.val := by omega
  have h2 : i.2.val = j.2.val := by omega
  exact Prod.ext (Fin.ext h1) (Fin.ext h2)
theorem pro_cov (y : S262144.Idx) : ∃ (i : Fin 16 × Fin 2) (x : (proR i).shape.Idx), (proR i).emb x = y := by
  have hy : (y 0).val < 262144 := (y 0).isLt
  refine ⟨(⟨(y 0).val / 16384, by omega⟩, ⟨(y 0).val % 16384 / 8192, by omega⟩), fun a => ⟨(y 0).val % 8192, by obtain rfl := Fin.eq_zero a; exact Nat.mod_lt (y 0).val (show 0 < 8192 by norm_num)⟩, ?_⟩
  funext a
  obtain rfl := Fin.eq_zero a
  apply Fin.ext
  rw [unitEmb]
  show 16384 * ((y 0).val / 16384) + 8192 * ((y 0).val % 16384 / 8192) + (y 0).val % 8192 = (y 0).val
  omega

variable {M : Type} [AddCommMonoid M] (R : Rdg F M) (X : Inp R) (d : Dev nD) (c : Fin 2)

/-- The coordinates of tile `(c, i)`. -/
def LL (c : Fin 2) (i : Fin 16) : grid0.Coords :=
  fun | 0 => c | 1 => i | ⟨_ + 2, h⟩ => absurd h (Nat.not_lt.2 (Nat.le_add_left _ _))

/-- The first tile of a core. -/
abbrev t0 (d : Dev nD) (c : Fin 2) : Thread nD τ := thr d (LL c 0)
/-- The core. -/
abbrev co (c : Fin 2) : Fin τ.nSC := c.castLE hcore0

section Pieces

variable [∀ e, Nonempty (Elt F e)]

theorem rows22_deal : (iprop(∃ g, At (t0 d c) M22 fullShare g) : sProp 𝕄)
    ⊢ iprop((bigSep Finset.univ fun i : Fin 16 => iprop(∃ g, At (thr d (LL c i)) (srow M22 i 0) fullShare g))
      ∗ bigSep Finset.univ fun i : Fin 16 => iprop(∃ g, At (thr d (LL c i)) (srow M22 i 1) fullShare g)) := by
  have h : ∀ g : S40960.Idx → Elt F .f32, (At (t0 d c) M22 fullShare g : sProp 𝕄)
      ⊢ bigSep Finset.univ fun p : Fin 16 × Fin 2 => iprop(∃ g, At (thr d (LL c p.1)) (srow M22 p.1 p.2) fullShare g) := fun g =>
    (at_pieces (t0 d c) M22 sroR (fun _ _ => rfl) sro_dis sro_cov).trans (bigSep_mono fun p _ => BI.BIClass.exists_intro
      (Φ := fun g => (At (thr d (LL c p.1)) (srow M22 p.1 p.2) fullShare g : sProp 𝕄)) _)
  have e : (bigSep Finset.univ fun p : Fin 16 × Fin 2 => (iprop(∃ g, At (thr d (LL c p.1)) (srow M22 p.1 p.2) fullShare g) : sProp 𝕄))
      = iprop((bigSep Finset.univ fun i : Fin 16 => iprop(∃ g, At (thr d (LL c i)) (srow M22 i 0) fullShare g))
      ∗ bigSep Finset.univ fun i : Fin 16 => iprop(∃ g, At (thr d (LL c i)) (srow M22 i 1) fullShare g)) := by
    rw [bigSep_univ_prod, ← bigSep_sep']
    exact bigSep_congr fun i _ => bigSep_two _
  iintro ⟨%g, H⟩
  iapply (Entails.of_eq e)
  iapply (h g); iexact H

theorem rows22_join : (iprop((bigSep Finset.univ fun i : Fin 16 => iprop(∃ g, At (t0 d c) (srow M22 i 0) fullShare g))
      ∗ bigSep Finset.univ fun i : Fin 16 => iprop(∃ g, At (t0 d c) (srow M22 i 1) fullShare g)) : sProp 𝕄)
    ⊢ iprop(∃ g, At (t0 d c) M22 fullShare g) := by
  have e : (iprop((bigSep Finset.univ fun i : Fin 16 => iprop(∃ g, At (t0 d c) (srow M22 i 0) fullShare g))
      ∗ bigSep Finset.univ fun i : Fin 16 => iprop(∃ g, At (t0 d c) (srow M22 i 1) fullShare g)) : sProp 𝕄)
      = bigSep Finset.univ fun p : Fin 16 × Fin 2 => (iprop(∃ g, At (t0 d c) (srow M22 p.1 p.2) fullShare g) : sProp 𝕄) := by
    rw [bigSep_univ_prod, ← bigSep_sep']
    exact bigSep_congr fun i _ => (bigSep_two (fun r : Fin 2 => (iprop(∃ g, At (t0 d c) (srow M22 i r) fullShare g) : sProp 𝕄))).symm
  have h1 : (bigSep Finset.univ fun p : Fin 16 × Fin 2 => (iprop(∃ g, At (t0 d c) (srow M22 p.1 p.2) fullShare g) : sProp 𝕄))
      ⊢ bigSep Finset.univ fun p : Fin 16 × Fin 2 => (iprop(∃ g, ⌜True⌝ ∗ At (t0 d c) (M22.slice (sroR p) (fun _ => rfl)) fullShare g) : sProp 𝕄) :=
    bigSep_mono fun p _ => (show (_ : sProp 𝕄) ⊢ (_ : sProp 𝕄) from by
      iintro ⟨%g, H⟩; iexists g; isplitr; · ipureintro; trivial
      iexact H)
  refine (Entails.of_eq e).trans (h1.trans ((at_pieces_join (t0 d c) M22 sroR (fun _ _ => rfl) sro_dis sro_cov (fun _ _ => True)).trans ?_))
  iintro ⟨%g, -, H⟩; iexists g; iexact H

theorem rows23_deal : (iprop(∃ g, At (t0 d c) M23 fullShare g) : sProp 𝕄)
    ⊢ iprop((bigSep Finset.univ fun i : Fin 16 => iprop(∃ g, At (thr d (LL c i)) (prow M23 i 0) fullShare g))
      ∗ bigSep Finset.univ fun i : Fin 16 => iprop(∃ g, At (thr d (LL c i)) (prow M23 i 1) fullShare g)) := by
  have h : ∀ g : S262144.Idx → Elt F .f32, (At (t0 d c) M23 fullShare g : sProp 𝕄)
      ⊢ bigSep Finset.univ fun p : Fin 16 × Fin 2 => iprop(∃ g, At (thr d (LL c p.1)) (prow M23 p.1 p.2) fullShare g) := fun g =>
    (at_pieces (t0 d c) M23 proR (fun _ _ => rfl) pro_dis pro_cov).trans (bigSep_mono fun p _ => BI.BIClass.exists_intro
      (Φ := fun g => (At (thr d (LL c p.1)) (prow M23 p.1 p.2) fullShare g : sProp 𝕄)) _)
  have e : (bigSep Finset.univ fun p : Fin 16 × Fin 2 => (iprop(∃ g, At (thr d (LL c p.1)) (prow M23 p.1 p.2) fullShare g) : sProp 𝕄))
      = iprop((bigSep Finset.univ fun i : Fin 16 => iprop(∃ g, At (thr d (LL c i)) (prow M23 i 0) fullShare g))
      ∗ bigSep Finset.univ fun i : Fin 16 => iprop(∃ g, At (thr d (LL c i)) (prow M23 i 1) fullShare g)) := by
    rw [bigSep_univ_prod, ← bigSep_sep']
    exact bigSep_congr fun i _ => bigSep_two _
  iintro ⟨%g, H⟩
  iapply (Entails.of_eq e)
  iapply (h g); iexact H

theorem rows23_join : (iprop((bigSep Finset.univ fun i : Fin 16 => iprop(∃ g, At (t0 d c) (prow M23 i 0) fullShare g))
      ∗ bigSep Finset.univ fun i : Fin 16 => iprop(∃ g, At (t0 d c) (prow M23 i 1) fullShare g)) : sProp 𝕄)
    ⊢ iprop(∃ g, At (t0 d c) M23 fullShare g) := by
  have e : (iprop((bigSep Finset.univ fun i : Fin 16 => iprop(∃ g, At (t0 d c) (prow M23 i 0) fullShare g))
      ∗ bigSep Finset.univ fun i : Fin 16 => iprop(∃ g, At (t0 d c) (prow M23 i 1) fullShare g)) : sProp 𝕄)
      = bigSep Finset.univ fun p : Fin 16 × Fin 2 => (iprop(∃ g, At (t0 d c) (prow M23 p.1 p.2) fullShare g) : sProp 𝕄) := by
    rw [bigSep_univ_prod, ← bigSep_sep']
    exact bigSep_congr fun i _ => (bigSep_two (fun r : Fin 2 => (iprop(∃ g, At (t0 d c) (prow M23 i r) fullShare g) : sProp 𝕄))).symm
  have h1 : (bigSep Finset.univ fun p : Fin 16 × Fin 2 => (iprop(∃ g, At (t0 d c) (prow M23 p.1 p.2) fullShare g) : sProp 𝕄))
      ⊢ bigSep Finset.univ fun p : Fin 16 × Fin 2 => (iprop(∃ g, ⌜True⌝ ∗ At (t0 d c) (M23.slice (proR p) (fun _ => rfl)) fullShare g) : sProp 𝕄) :=
    bigSep_mono fun p _ => (show (_ : sProp 𝕄) ⊢ (_ : sProp 𝕄) from by
      iintro ⟨%g, H⟩; iexists g; isplitr; · ipureintro; trivial
      iexact H)
  refine (Entails.of_eq e).trans (h1.trans ((at_pieces_join (t0 d c) M23 proR (fun _ _ => rfl) pro_dis pro_cov (fun _ _ => True)).trans ?_))
  iintro ⟨%g, -, H⟩; iexists g; iexact H

theorem seg_deal (m : Memref sig .scVector .hbm S327680 .f32) : (iprop(∃ g, At (t0 d c) m fullShare g) : sProp 𝕄)
    ⊢ bigSep Finset.univ fun i : Fin 16 => iprop(∃ g, At (t0 d c) (seg20 m i) fullShare g) := by
  have h : ∀ g : S327680.Idx → Elt F .f32, (At (t0 d c) m fullShare g : sProp 𝕄)
      ⊢ bigSep Finset.univ fun i : Fin 16 => iprop(∃ g, At (t0 d c) (seg20 m i) fullShare g) := fun g =>
    (at_pieces (t0 d c) m segR (fun _ _ => rfl) seg_dis seg_cov).trans (bigSep_mono fun p _ => BI.BIClass.exists_intro
      (Φ := fun g => (At (t0 d c) (seg20 m p) fullShare g : sProp 𝕄)) _)
  iintro ⟨%g, H⟩
  iapply (h g); iexact H

theorem seg_join (m : Memref sig .scVector .hbm S327680 .f32) (A : ℕ → Elt F .f32 → Prop) :
    (bigSep Finset.univ fun i : Fin 16 => (iprop(∃ g : S20480.Idx → Elt F .f32, ⌜∀ y : S20480.Idx, A (20480 * i.val + (y 0).val) (g y)⌝ ∗ At (t0 d c) (seg20 m i) fullShare g) : sProp 𝕄))
      ⊢ iprop(∃ g : S327680.Idx → Elt F .f32, ⌜∀ y : S327680.Idx, A (y 0).val (g y)⌝ ∗ At (t0 d c) m fullShare g) := by
  refine (at_pieces_join (t0 d c) m segR (fun _ _ => rfl) seg_dis seg_cov (fun i g => ∀ y : S20480.Idx, A (20480 * i.val + (y 0).val) (g y))).trans ?_
  iintro ⟨%g, %h, H⟩
  iexists g
  isplitr
  · ipureintro
    intro y
    obtain ⟨i, x, rfl⟩ := seg_cov y
    have h1 := h i x
    have e : ((segR i).emb x 0).val = 20480 * i.val + (x 0).val := unitEmb _ _ _ _ _
    rw [e]
    exact h1
  iexact H

theorem seg_join_some (m : Memref sig .scVector .hbm S327680 .f32) :
    (bigSep Finset.univ fun i : Fin 16 => (iprop(∃ g : S20480.Idx → Elt F .f32, At (t0 d c) (seg20 m i) fullShare g) : sProp 𝕄))
      ⊢ iprop(∃ g : S327680.Idx → Elt F .f32, At (t0 d c) m fullShare g) := by
  refine (bigSep_mono fun i _ => (show (_ : sProp 𝕄) ⊢ (iprop(∃ g : S20480.Idx → Elt F .f32, ⌜∀ y : S20480.Idx, True⌝ ∗ At (t0 d c) (seg20 m i) fullShare g) : sProp 𝕄) from by
      iintro ⟨%g, H⟩; iexists g; isplitr; · ipureintro; exact fun _ => trivial
      iexact H)).trans ((seg_join d c m (fun _ _ => True)).trans ?_)
  show (_ : sProp 𝕄) ⊢ (_ : sProp 𝕄)
  iintro ⟨%g, -, H⟩; iexists g; iexact H

theorem half_deal (m : Memref sig .scVector .hbm S16384 .f32) : (iprop(∃ g, At (t0 d 0) m fullShare g) : sProp 𝕄)
    ⊢ bigSep Finset.univ fun k : Fin 2 => iprop(∃ g, At (t0 d 0) (half m k) fullShare g) := by
  have h : ∀ g : S16384.Idx → Elt F .f32, (At (t0 d 0) m fullShare g : sProp 𝕄)
      ⊢ bigSep Finset.univ fun k : Fin 2 => iprop(∃ g, At (t0 d 0) (half m k) fullShare g) := fun g =>
    (at_pieces (t0 d 0) m halR (fun _ _ => rfl) hal_dis hal_cov).trans (bigSep_mono fun p _ => BI.BIClass.exists_intro
      (Φ := fun g => (At (t0 d 0) (half m p) fullShare g : sProp 𝕄)) _)
  iintro ⟨%g, H⟩
  iapply (h g); iexact H

theorem half_join (m : Memref sig .scVector .hbm S16384 .f32) (A : ℕ → ℕ → Elt F .f32 → Prop) :
    (bigSep Finset.univ fun k : Fin 2 => (iprop(∃ g : S8192.Idx → Elt F .f32, ⌜∀ y : S8192.Idx, A k.val (y 0).val (g y)⌝ ∗ At (t0 d 0) (half m k) fullShare g) : sProp 𝕄))
      ⊢ iprop(∃ g : S16384.Idx → Elt F .f32, ⌜∀ y : S16384.Idx, A ((y 0).val / 8192) ((y 0).val % 8192) (g y)⌝ ∗ At (t0 d 0) m fullShare g) := by
  refine (at_pieces_join (t0 d 0) m halR (fun _ _ => rfl) hal_dis hal_cov (fun k g => ∀ y : S8192.Idx, A k.val (y 0).val (g y))).trans ?_
  iintro ⟨%g, %h, H⟩
  iexists g
  isplitr
  · ipureintro
    intro y
    obtain ⟨i, x, rfl⟩ := hal_cov y
    have h1 := h i x
    have hx : (x 0).val < 8192 := (x 0).isLt
    have e : ((halR i).emb x 0).val = 8192 * i.val + (x 0).val := unitEmb _ _ _ _ _
    rw [e, show (8192 * i.val + (x 0).val) / 8192 = i.val by omega, show (8192 * i.val + (x 0).val) % 8192 = (x 0).val by omega]
    exact h1
  iexact H

theorem half_join_some (m : Memref sig .scVector .hbm S16384 .f32) :
    (bigSep Finset.univ fun i : Fin 2 => (iprop(∃ g : S8192.Idx → Elt F .f32, At (t0 d 0) (half m i) fullShare g) : sProp 𝕄))
      ⊢ iprop(∃ g : S16384.Idx → Elt F .f32, At (t0 d 0) m fullShare g) := by
  refine (bigSep_mono fun i _ => (show (_ : sProp 𝕄) ⊢ (iprop(∃ g : S8192.Idx → Elt F .f32, ⌜∀ y : S8192.Idx, True⌝ ∗ At (t0 d 0) (half m i) fullShare g) : sProp 𝕄) from by
      iintro ⟨%g, H⟩; iexists g; isplitr; · ipureintro; exact fun _ => trivial
      iexact H)).trans ((half_join d m (fun _ _ _ => True)).trans ?_)
  show (_ : sProp 𝕄) ⊢ (_ : sProp 𝕄)
  iintro ⟨%g, -, H⟩; iexists g; iexact H

/-- The read shares of the shared rows come together. -/
theorem stats_join (BT : ℕ → ℕ) :
    (bigSep Finset.univ fun i : Fin 16 => bigSep Finset.univ fun j : Fin 16 => (STt R BT M22 d (co c) j i : sProp 𝕄)) ⊢ iprop(∃ g, At (t0 d c) M22 fullShare g) := by
  have h1 : ∀ j i : Fin 16, (STt R BT M22 d (co c) j i : sProp 𝕄)
      ⊢ iprop((∃ f : Buf (Elt F) ((srow M22 j 0).view.loc (t0 d c)), (srow M22 j 0).view.loc (t0 d c) ↦[(srow M22 j 0).view.set]{leaf 4 fullShare i} f)
        ∗ (∃ f : Buf (Elt F) ((srow M22 j 1).view.loc (t0 d c)), (srow M22 j 1).view.loc (t0 d c) ↦[(srow M22 j 1).view.set]{leaf 4 fullShare i} f)) := by
    intro j i
    unfold STt StatOf At
    show (_ : sProp 𝕄) ⊢ (_ : sProp 𝕄)
    iintro ⟨⟨%g, -, %f, H, -⟩, ⟨%g', %f', H', -⟩⟩
    isplitl [H]
    · iexists f; iexact H
    iexists f'; iexact H'
  have h2 : ∀ (j : Fin 16) (r : Fin 2), (bigSep Finset.univ fun i : Fin (2 ^ 4) => (iprop(∃ f : Buf (Elt F) ((srow M22 j r).view.loc (t0 d c)), (srow M22 j r).view.loc (t0 d c) ↦[(srow M22 j r).view.set]{leaf 4 fullShare i} f) : sProp 𝕄))
      ⊢ iprop(∃ g, At (t0 d c) (srow M22 j r) fullShare g) := by
    intro j r
    refine (leaves_join _ 4 fullShare).trans ?_
    iintro ⟨%f, H⟩
    iexists (srow M22 j r).view.read (Elt F) f
    iapply (at_intro (t0 d c) rfl rfl); iexact H
  rw [bigSep_univ_comm]
  have h3 : (bigSep Finset.univ fun j : Fin 16 => bigSep Finset.univ fun i : Fin 16 => (STt R BT M22 d (co c) j i : sProp 𝕄))
      ⊢ bigSep Finset.univ fun j : Fin 16 => iprop((∃ g, At (t0 d c) (srow M22 j 0) fullShare g) ∗ (∃ g, At (t0 d c) (srow M22 j 1) fullShare g)) :=
    bigSep_mono fun j _ => ((bigSep_mono fun i _ => h1 j i).trans (Entails.of_eq (bigSep_sep' _ _ _))).trans (BI.sep_mono (h2 j 0) (h2 j 1))
  exact h3.trans ((Entails.of_eq (bigSep_sep' _ _ _)).trans (rows22_join d c))

/-- The table of row sums comes back from the first tile. -/
theorem pools_join (BT : ℕ → ℕ) (obs : ℕ → ℕ → M) :
    (bigSep Finset.univ fun i : Fin 16 => bigSep Finset.univ fun k : Fin 16 => (POt R BT obs M23 d (co c) i k : sProp 𝕄)) ⊢ iprop(∃ g, At (t0 d c) M23 fullShare g) := by
  have h1 : ∀ k : Fin 16, (POt R BT obs M23 d (co c) 0 k : sProp 𝕄)
      ⊢ iprop((∃ g, At (t0 d c) (prow M23 k 0) fullShare g) ∗ (∃ g, At (t0 d c) (prow M23 k 1) fullShare g)) := by
    intro k
    unfold POt
    rw [if_pos rfl]
    unfold PoolOf
    show (_ : sProp 𝕄) ⊢ (_ : sProp 𝕄)
    iintro ⟨⟨%g, -, H⟩, ⟨%g', H'⟩⟩
    isplitl [H]
    · iexists g; iexact H
    iexists g'; iexact H'
  refine (bigSep_elim (Φ := fun i : Fin 16 => bigSep Finset.univ fun k : Fin 16 => (POt R BT obs M23 d (co c) i k : sProp 𝕄)) (Finset.mem_univ (0 : Fin 16))).trans ?_
  exact (bigSep_mono fun k _ => h1 k).trans ((Entails.of_eq (bigSep_sep' _ _ _)).trans (rows23_join d c))

end Pieces

/-! ## What the call takes of each core and gives back -/

/-- A core is handed: its share of the operands, the results it writes. -/
def ST0 : sProp 𝕄 :=
  iprop(IN R X d (LL 0 0) (leaf 1 fullShare c)
    ∗ (if c.val = 0 then iprop(∃ g, At (t0 d 0) M8 fullShare g) else iprop(emp) : sProp 𝕄)
    ∗ (if c.val = 0 then iprop((∃ g, At (t0 d 0) M6 fullShare g) ∗ (∃ g, At (t0 d 0) M7 fullShare g)) else iprop(emp) : sProp 𝕄)
    ∗ (∃ g, At (t0 d 0) (half M9 c) fullShare g) ∗ (∃ g, At (t0 d 0) (half M10 c) fullShare g))

/-- It hands them back at their values, its tiles' barrier semaphores at zero. -/
def DN0 : sProp 𝕄 :=
  iprop(IN R X d (LL 0 0) (leaf 1 fullShare c)
    ∗ (if c.val = 0 then iprop(∃ g : S1280.Idx → Elt F .f32, ⌜∀ y : S1280.Idx, R.v (g y) = ∑ w ∈ Finset.range (16), cntT R X.BT w (y 0).val⌝ ∗ At (t0 d 0) M8 fullShare g) else iprop(emp) : sProp 𝕄)
    ∗ (if c.val = 0 then iprop((∃ g : S327680.Idx → Elt F .f32, ⌜∀ y : S327680.Idx, g y = FloatOps.addf (F := F) (φ := .f32) (X.CS (y 0).val) (X.UN (X.BT (y 0).val))⌝ ∗ At (t0 d 0) M6 fullShare g) ∗ (∃ g, At (t0 d 0) M7 fullShare g)) else iprop(emp) : sProp 𝕄)
    ∗ (∃ g : S8192.Idx → Elt F .f32, ⌜∀ y : S8192.Idx, R.v (g y) = ∑ w ∈ Finset.range (16), accT X.BT X.obs c.val w (y 0).val⌝ ∗ At (t0 d 0) (half M9 c) fullShare g)
    ∗ (∃ g, At (t0 d 0) (half M10 c) fullShare g)
    ∗ bigSep Finset.univ fun i : Fin 16 => semVal (bcell d (co c) i) 0)

instance IN_storable (L : grid0.Coords) (q : PosShare TreeShare) : BI.Storable (upEmb : UEmb _ 𝕄) (IN R X d L q) := by unfold IN; infer_instance
instance GO_storable (L : grid0.Coords) : BI.Storable (upEmb : UEmb _ 𝕄) (GO R X d L) := by unfold GO; infer_instance
instance STt_storable (k : Fin τ.nSC) (j i : Fin 16) : BI.Storable (upEmb : UEmb _ 𝕄) (STt R X.BT M22 d k j i) := by unfold STt StatOf; infer_instance
instance POt_storable (k : Fin τ.nSC) (j i : Fin 16) : BI.Storable (upEmb : UEmb _ 𝕄) (POt R X.BT X.obs M23 d k j i) := by unfold POt PoolOf; infer_instance
theorem STs_storable (k : Fin τ.nSC) (i : Fin 16) : BI.Storable (upEmb : UEmb _ 𝕄) (bigSep Finset.univ fun j : Fin 16 => STt R X.BT M22 d k j i) := inferInstance
theorem POs_storable (k : Fin τ.nSC) (i : Fin 16) : BI.Storable (upEmb : UEmb _ 𝕄) (bigSep Finset.univ fun j : Fin 16 => POt R X.BT X.obs M23 d k i j) := inferInstance
instance TD_storable (L : grid0.Coords) : BI.Storable (upEmb : UEmb _ 𝕄) (TD R X d L) := by
  haveI h1 : BI.Storable (upEmb : UEmb _ 𝕄) (bigSep Finset.univ fun j : Fin 16 => STt R X.BT M22 d (cr L) j (L 1)) := STs_storable R X d _ _
  haveI h2 : BI.Storable (upEmb : UEmb _ 𝕄) (bigSep Finset.univ fun k : Fin 16 => POt R X.BT X.obs M23 d (cr L) (L 1) k) := POs_storable R X d _ _
  unfold TD; exact inferInstance
instance ST0_storable : BI.Storable (upEmb : UEmb _ 𝕄) (ST0 R X d c) := by unfold ST0; infer_instance
instance DN0_storable : BI.Storable (upEmb : UEmb _ 𝕄) (DN0 R X d c) := by unfold DN0; infer_instance

end Cert.Proof.Seg

end
-- ==== Proof.Launch.lean ====
/-
  The call as the launch sees it.
-/
module

public import proofs.«01_k».proof.Proof.Call

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

attribute [local instance] blocks

variable {M : Type} [AddCommMonoid M] (R : Rdg F M) (X : Inp R) (d : Dev nD) (c : Fin 2)

theorem nCore_zero : (K (F := F)).nCore 0 = 2 := rfl

/-! ## A core's share dealt to its tiles, and gathered -/

section Split

variable [∀ e, Nonempty (Elt F e)]

theorem in_deal (q : PosShare TreeShare) : (IN R X d (LL 0 0) q : sProp 𝕄) ⊢ bigSep Finset.univ fun i : Fin 16 => IN R X d (LL c i) (leaf 4 q i) := by
  have e : (bigSep Finset.univ fun i : Fin 16 => (IN R X d (LL c i) (leaf 4 q i) : sProp 𝕄))
      = bigSep Finset.univ fun i : Fin 16 => (iprop(At (thr d (LL 0 0)) M2 (leaf 4 q i) X.gCS ∗ At (thr d (LL 0 0)) M3 (leaf 4 q i) X.gB ∗ At (thr d (LL 0 0)) M4 (leaf 4 q i) X.OB ∗ At (thr d (LL 0 0)) M5 (leaf 4 q i) X.gU) : sProp 𝕄) :=
    bigSep_congr fun i _ => rfl
  rw [e, bigSep_sep', bigSep_sep', bigSep_sep']
  unfold IN
  exact BI.sep_mono (at_leaves _ 4 q) (BI.sep_mono (at_leaves _ 4 q) (BI.sep_mono (at_leaves _ 4 q) (at_leaves _ 4 q)))

theorem whole_join (t : Thread nD τ) (r : Ref sig t.2.kind) (g : Buf (Elt F) (t.loc r)) (n : ℕ) (q : PosShare TreeShare) :
    (bigSep Finset.univ fun j : Fin (2 ^ n) => (At t (Memref.whole r) (leaf n q j) g : sProp 𝕄)) ⊢ At t (Memref.whole r) q g :=
  at_leaves_join t (m := Memref.whole r) (f := g) rfl n q

theorem in_join (q : PosShare TreeShare) : (bigSep Finset.univ fun i : Fin 16 => (IN R X d (LL c i) (leaf 4 q i) : sProp 𝕄)) ⊢ IN R X d (LL 0 0) q := by
  have e : (bigSep Finset.univ fun i : Fin 16 => (IN R X d (LL c i) (leaf 4 q i) : sProp 𝕄))
      = bigSep Finset.univ fun i : Fin 16 => (iprop(At (thr d (LL 0 0)) M2 (leaf 4 q i) X.gCS ∗ At (thr d (LL 0 0)) M3 (leaf 4 q i) X.gB ∗ At (thr d (LL 0 0)) M4 (leaf 4 q i) X.OB ∗ At (thr d (LL 0 0)) M5 (leaf 4 q i) X.gU) : sProp 𝕄) :=
    bigSep_congr fun i _ => rfl
  rw [e, bigSep_sep', bigSep_sep', bigSep_sep']
  unfold IN
  exact BI.sep_mono (whole_join (t0 d 0) main_v1_scv X.gCS 4 q) (BI.sep_mono (whole_join (t0 d 0) main_v3_scv X.gB 4 q) (BI.sep_mono (whole_join (t0 d 0) main_arg2_scv X.OB 4 q) (whole_join (t0 d 0) main_v5_scv X.gU 4 q)))

/-- Only the first tile of the first core writes the counts. -/
theorem only_first (A : sProp 𝕄) :
    (bigSep Finset.univ fun i : Fin 16 => (if c.val = 0 ∧ i.val = 0 then A else iprop(emp) : sProp 𝕄)) = (if c.val = 0 then A else iprop(emp) : sProp 𝕄) := by
  by_cases hc : c.val = 0
  · simp only [hc, true_and, ↓reduceIte]; exact one0 A
  · simp only [hc, false_and, ↓reduceIte]; exact bigSep_emp_const _

theorem if_core (A : Fin 16 → sProp 𝕄) :
    (bigSep Finset.univ fun i : Fin 16 => (if c.val = 0 then A i else iprop(emp) : sProp 𝕄)) = (if c.val = 0 then bigSep Finset.univ A else iprop(emp) : sProp 𝕄) := by
  by_cases hc : c.val = 0
  · simp only [hc, ↓reduceIte]
  · simp only [hc, ↓reduceIte]; exact bigSep_emp_const _

theorem if_mono {p : Prop} [Decidable p] {A B : sProp 𝕄} (h : A ⊢ B) : (if p then A else iprop(emp) : sProp 𝕄) ⊢ (if p then B else iprop(emp) : sProp 𝕄) := by
  split
  · exact h
  · exact .rfl

/-- What the tiles of a core are handed, kind by kind. -/
theorem go_eq : (bigSep Finset.univ fun i : Fin 16 => (GO R X d (LL c i) : sProp 𝕄)) = iprop(
    (bigSep Finset.univ fun i : Fin 16 => IN R X d (LL c i) (leaf 4 (leaf 1 fullShare c) i))
    ∗ (if c.val = 0 then iprop(∃ g, At (t0 d 0) M8 fullShare g) else iprop(emp) : sProp 𝕄)
    ∗ (if c.val = 0 then iprop((bigSep Finset.univ fun i : Fin 16 => iprop(∃ g, At (t0 d 0) (seg20 M6 i) fullShare g)) ∗ (bigSep Finset.univ fun i : Fin 16 => iprop(∃ g, At (t0 d 0) (seg20 M7 i) fullShare g))) else iprop(emp) : sProp 𝕄)
    ∗ iprop((∃ g, At (t0 d 0) (half M9 c) fullShare g) ∗ (∃ g, At (t0 d 0) (half M10 c) fullShare g))
    ∗ (bigSep Finset.univ fun i : Fin 16 => iprop(∃ g, At (thr d (LL c i)) (srow M22 i 0) fullShare g))
    ∗ (bigSep Finset.univ fun i : Fin 16 => iprop(∃ g, At (thr d (LL c i)) (srow M22 i 1) fullShare g))
    ∗ (bigSep Finset.univ fun i : Fin 16 => iprop(∃ g, At (thr d (LL c i)) (prow M23 i 0) fullShare g))
    ∗ (bigSep Finset.univ fun i : Fin 16 => iprop(∃ g, At (thr d (LL c i)) (prow M23 i 1) fullShare g))) := by
  have e : (bigSep Finset.univ fun i : Fin 16 => (GO R X d (LL c i) : sProp 𝕄)) = bigSep Finset.univ fun i : Fin 16 => (iprop(
      IN R X d (LL c i) (leaf 4 (leaf 1 fullShare c) i)
      ∗ (if c.val = 0 ∧ i.val = 0 then iprop(∃ g, At (t0 d 0) M8 fullShare g) else iprop(emp) : sProp 𝕄)
      ∗ (if c.val = 0 then iprop((∃ g, At (t0 d 0) (seg20 M6 i) fullShare g) ∗ (∃ g, At (t0 d 0) (seg20 M7 i) fullShare g)) else iprop(emp) : sProp 𝕄)
      ∗ (if i.val = 0 then iprop((∃ g, At (t0 d 0) (half M9 c) fullShare g) ∗ (∃ g, At (t0 d 0) (half M10 c) fullShare g)) else iprop(emp) : sProp 𝕄)
      ∗ (∃ g, At (thr d (LL c i)) (srow M22 i 0) fullShare g)
      ∗ (∃ g, At (thr d (LL c i)) (srow M22 i 1) fullShare g)
      ∗ (∃ g, At (thr d (LL c i)) (prow M23 i 0) fullShare g)
      ∗ (∃ g, At (thr d (LL c i)) (prow M23 i 1) fullShare g)) : sProp 𝕄) := bigSep_congr fun i _ => rfl
  rw [e, bigSep_sep', bigSep_sep', bigSep_sep', bigSep_sep', bigSep_sep', bigSep_sep', bigSep_sep', only_first, if_core, one0, bigSep_sep']

/-- What they hand back, kind by kind. -/
theorem td_eq : (bigSep Finset.univ fun i : Fin 16 => (TD R X d (LL c i) : sProp 𝕄)) = iprop(
    (bigSep Finset.univ fun i : Fin 16 => IN R X d (LL c i) (leaf 4 (leaf 1 fullShare c) i))
    ∗ (if c.val = 0 then iprop(∃ g : S1280.Idx → Elt F .f32, ⌜∀ y : S1280.Idx, R.v (g y) = ∑ w ∈ Finset.range (16), cntT R X.BT w (y 0).val⌝ ∗ At (t0 d 0) M8 fullShare g) else iprop(emp) : sProp 𝕄)
    ∗ (if c.val = 0 then iprop((bigSep Finset.univ fun i : Fin 16 => iprop(∃ g : S20480.Idx → Elt F .f32, ⌜∀ y : S20480.Idx, g y = FloatOps.addf (F := F) (φ := .f32) (X.CS (20480 * i.val + (y 0).val)) (X.UN (X.BT (20480 * i.val + (y 0).val)))⌝ ∗ At (t0 d 0) (seg20 M6 i) fullShare g))
        ∗ (bigSep Finset.univ fun i : Fin 16 => iprop(∃ g, At (t0 d 0) (seg20 M7 i) fullShare g))) else iprop(emp) : sProp 𝕄)
    ∗ iprop((∃ g : S8192.Idx → Elt F .f32, ⌜∀ y : S8192.Idx, R.v (g y) = ∑ w ∈ Finset.range (16), accT X.BT X.obs c.val w (y 0).val⌝ ∗ At (t0 d 0) (half M9 c) fullShare g)
        ∗ (∃ g, At (t0 d 0) (half M10 c) fullShare g))
    ∗ (bigSep Finset.univ fun i : Fin 16 => bigSep Finset.univ fun j : Fin 16 => STt R X.BT M22 d (co c) j i)
    ∗ (bigSep Finset.univ fun i : Fin 16 => bigSep Finset.univ fun k : Fin 16 => POt R X.BT X.obs M23 d (co c) i k)
    ∗ (bigSep Finset.univ fun i : Fin 16 => semVal (bcell d (co c) i) 0)) := by
  have e : (bigSep Finset.univ fun i : Fin 16 => (TD R X d (LL c i) : sProp 𝕄)) = bigSep Finset.univ fun i : Fin 16 => (iprop(
      IN R X d (LL c i) (leaf 4 (leaf 1 fullShare c) i)
      ∗ (if c.val = 0 ∧ i.val = 0 then iprop(∃ g : S1280.Idx → Elt F .f32, ⌜∀ y : S1280.Idx, R.v (g y) = ∑ w ∈ Finset.range (16), cntT R X.BT w (y 0).val⌝ ∗ At (t0 d 0) M8 fullShare g) else iprop(emp) : sProp 𝕄)
      ∗ (if c.val = 0 then iprop((∃ g : S20480.Idx → Elt F .f32, ⌜∀ y : S20480.Idx, g y = FloatOps.addf (F := F) (φ := .f32) (X.CS (20480 * i.val + (y 0).val)) (X.UN (X.BT (20480 * i.val + (y 0).val)))⌝ ∗ At (t0 d 0) (seg20 M6 i) fullShare g) ∗ (∃ g, At (t0 d 0) (seg20 M7 i) fullShare g)) else iprop(emp) : sProp 𝕄)
      ∗ (if i.val = 0 then iprop((∃ g : S8192.Idx → Elt F .f32, ⌜∀ y : S8192.Idx, R.v (g y) = ∑ w ∈ Finset.range (16), accT X.BT X.obs c.val w (y 0).val⌝ ∗ At (t0 d 0) (half M9 c) fullShare g) ∗ (∃ g, At (t0 d 0) (half M10 c) fullShare g)) else iprop(emp) : sProp 𝕄)
      ∗ (bigSep Finset.univ fun j : Fin 16 => STt R X.BT M22 d (co c) j i)
      ∗ (bigSep Finset.univ fun k : Fin 16 => POt R X.BT X.obs M23 d (co c) i k)
      ∗ semVal (bcell d (co c) i) 0) : sProp 𝕄) := bigSep_congr fun i _ => rfl
  rw [e, bigSep_sep', bigSep_sep', bigSep_sep', bigSep_sep', bigSep_sep', bigSep_sep', only_first, if_core, one0, bigSep_sep']

/-- The shared scratch of a core. -/
def shB : Fin 2 → Ref sig .scVector := ![cc0_scratch11, cc0_scratch12]
theorem shB_injective : Function.Injective shB := by decide
abbrev shBV (k : Fin 2) : DevRef τ sig := (t0 d c).2.devRef (shB k)

theorem ownBufs_S : (SparseCore.Cfg.ownBufs (S d (co c)) : sProp 𝕄)
    = iprop(((∃ g, At (t0 d c) M22 fullShare g) ∗ (∃ g, At (t0 d c) M23 fullShare g))
      ∗ bigSep (SparseCore.Cfg.ownRefs (τ := τ) (.scScalar (co c)) \ Finset.univ.image (shBV d c)) fun b => iprop(∃ f, ((d, b) : Loc nD τ sig) ↦{fullShare} f)) := by
  unfold SparseCore.Cfg.ownBufs
  have hm : ∀ k, shBV d c k ∈ SparseCore.Cfg.ownRefs (τ := τ) (sig := sig) (.scScalar (co c)) := by
    intro k
    fin_cases k
    · exact (SparseCore.Cfg.mem_ownRefs (p := Proc.scScalar (co c)) (b := shBV d c 0)).mpr rfl
    · exact (SparseCore.Cfg.mem_ownRefs (p := Proc.scScalar (co c)) (b := shBV d c 1)).mpr rfl
  rw [bigSep_pick _ (shBV d c) ((Proc.devRef_injective _).comp shB_injective) hm, bigSep_two]
  congr 1
  exact congrArg₂ _ (some_whole (t0 d c) cc0_scratch11) (some_whole (t0 d c) cc0_scratch12)

/-- The deal, and the gathering. -/
theorem split_core : iprop(ST0 R X d c ∗ SparseCore.Cfg.ownBufs (S d (co c))) ⊢ (iprop((bigSep Finset.univ fun i : Fin 16 => GO R X d (LL c i))
      ∗ ((bigSep Finset.univ fun i : Fin 16 => TD R X d (LL c i)) -∗ DN0 R X d c ∗ SparseCore.Cfg.ownBufs (S d (co c)))) : sProp 𝕄) := by
  rw [go_eq, td_eq, ownBufs_S]
  unfold ST0 DN0
  show (_ : sProp 𝕄) ⊢ (_ : sProp 𝕄)
  iintro ⟨⟨Hin, H8, H67, H9, H10⟩, ⟨H22, H23⟩, Hrest⟩
  isplitl [Hin H8 H67 H9 H10 H22 H23]
  · isplitl [Hin]; · iapply (in_deal R X d c _); iexact Hin
    isplitl [H8]; · iexact H8
    isplitl [H67]
    · iapply (if_mono (BI.sep_mono (seg_deal d 0 M6) (seg_deal d 0 M7))); iexact H67
    isplitl [H9 H10]
    · isplitl [H9]; · iexact H9
      iexact H10
    ihave H22 := (rows22_deal d c) $$ H22
    ihave H23 := (rows23_deal d c) $$ H23
    icases H22 with ⟨Ha, Hb⟩
    icases H23 with ⟨Hc, He⟩
    isplitl [Ha]; · iexact Ha
    isplitl [Hb]; · iexact Hb
    isplitl [Hc]; · iexact Hc
    iexact He
  iintro ⟨Hin, H8, H67, ⟨H9, H10⟩, Hst, Hpo, Hsem⟩
  isplitr [Hst Hpo Hrest]
  · isplitl [Hin]; · iapply (in_join R X d c _); iexact Hin
    isplitl [H8]; · iexact H8
    isplitl [H67]
    · iapply (if_mono (BI.sep_mono (seg_join d 0 M6 (fun n a => a = FloatOps.addf (F := F) (φ := .f32) (X.CS n) (X.UN (X.BT n))))
        ((seg_join_some d 0 M7)))); iexact H67
    isplitl [H9]; · iexact H9
    isplitl [H10]; · iexact H10
    iexact Hsem
  isplitr [Hrest]; swap; · iexact Hrest
  isplitl [Hst]
  · iapply (stats_join R d c X.BT); iexact Hst
  iapply (pools_join R d c X.BT X.obs); iexact Hpo

end Split

theorem fupd_intro' (A : sProp 𝕄) : A ⊢ (|={Set.univ}=> A : sProp 𝕄) := by
  iintro H; imodintro; iexact H

/-! ## What the handshakes carry -/

set_option backward.proofsInPublic true in
/-- The one call hands each core its share of the operands and the results it writes, each core its tiles theirs; every tile's
    proof consumes its barrier kit and owes its arrivals of both phases. -/
def P : (K (F := F)).Pay (N := 2) (nD := nD) (Val := Elt F) (Name := ℕ) (U := UU) where
  st := fun q d c => match q with | 0 => ST0 R X d (Fin.cast nCore_zero c)
  dn := fun q d c => match q with | 0 => DN0 R X d (Fin.cast nCore_zero c)
  go := fun q d c i => match q with | 0 => GO R X d (LL (Fin.cast nCore_zero c) (Fin.cast nSub_zero i))
  td := fun q d c i => match q with | 0 => TD R X d (LL (Fin.cast nCore_zero c) (Fin.cast nSub_zero i))
  x := fun _ thr => match thr with
    | (d, .scVector c i) => bkit (STt R X.BT M22) (POt R X.BT X.obs M23) d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, k, rfl, rfl⟩ := oxV_apply_pos h
      rw [(K (F := F)).lev_V_reg d c (tl j) (show (sc_bar0 : Sem sig) ≠ (K (F := F)).go from sc_bar0_ne_go)]
      fin_cases k <;> exact ⟨by decide, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P R X).IsStorable where
  st q d _ := match q with | 0 => ST0_storable R X d _
  dn q d _ := match q with | 0 => DN0_storable R X d _
  go q d c i := match q with | 0 => GO_storable R X d _
  td q d c i := match q with | 0 => TD_storable R X d _

/-! ## The obligations -/

theorem defs₀_vector (c : Fin τ.nSC) (s : Fin τ.nSub) :
    defs₀ (F := F) (.scVector c s) 0 ()
      = SparseCore.onTile hcore0 hsub0 (fun c s => cc0__seg_sc_body (F := F) (LL c s) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

set_option maxRecDepth 16384 in
theorem tileObl [∀ e, Nonempty (Elt F e)] (hF : (K (F := F)).Facts) : (K (F := F)).TileObl (D (F := F)) 𝒱 (P R X) v₀ 0 := by
  intro d c i O W hO hOlev _
  have hci : ((K (F := F)).core 0 c).val < grid0.bound 0 ∧ ((K (F := F)).sub 0 i).val < grid0.bound 1 := ⟨c.isLt, i.isLt⟩
  rw [show (P R X).ox 0 (V d ((K (F := F)).core 0 c) ((K (F := F)).sub 0 i)) = oxV d ((K (F := F)).core 0 c) from rfl,
    show (P R X).x 0 (V d ((K (F := F)).core 0 c) ((K (F := F)).sub 0 i)) = bkit (STt R X.BT M22) (POt R X.BT X.obs M23) d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := (K (F := F)).scopedBufs_V (Ix := HIx 2) (Name := ℕ) (Lvl := ℕ) (Val := Elt F) (U := UU) hF d ((K (F := F)).core 0 c) ((K (F := F)).sub 0 i)
  have hs := SparseCore.Cfg.scopedSems0_V (nD := nD) (τ := τ) (sig := sig) (Ix := HIx 2) (Name := ℕ) (Lvl := ℕ) (Val := Elt F) (U := UU) d ((K (F := F)).core 0 c) ((K (F := F)).sub 0 i)
  rw [hb, hs]
  exact tile_body R X d (LL ⟨_, hci.1⟩ ⟨_, hci.2⟩) O W hO hOlev

theorem vecSplit [∀ e, Nonempty (Elt F e)] : (K (F := F)).VecSplit (P R X) 0 := by
  intro d c
  exact (split_core R X d (Fin.cast nCore_zero c)).trans (fupd_intro' _)

end Cert.Proof.Seg

end
-- ==== Proof.Fund.lean ====
/-
  What the launch hands the tiles for their barrier.
-/
module

public import proofs.«01_k».proof.Proof.Launch

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

attribute [local instance] blocks

variable {M : Type} [AddCommMonoid M] (R : Rdg F M) (X : Inp R)

abbrev DCI : Type := Dev nD × Fin τ.nSC × Fin 16
abbrev bc3 (x : DCI) : GSem nD τ sig := bcell x.1 x.2.1 x.2.2
abbrev vc3 (x : DCI) : GSem nD τ sig := vcell x.1 x.2.1 x.2.2

theorem bc3_injective : Function.Injective bc3 := fun a b e => by
  obtain ⟨h1, h2⟩ := Prod.mk.inj (Prod.mk.inj e).1; obtain ⟨h3, h4⟩ := Proc.scVector.inj h2
  exact Prod.ext h1 (Prod.ext h3 h4)
theorem vc3_injective : Function.Injective vc3 := fun a b e => by
  obtain ⟨h1, h2⟩ := Prod.mk.inj (Prod.mk.inj e).1; obtain ⟨h3, h4⟩ := Proc.scVector.inj h2
  exact Prod.ext h1 (Prod.ext h3 h4)

/-- The barrier cells, and the names of the deposits. -/
def bCells : Finset (GSem nD τ sig) := Finset.univ.image bc3
def vCells : Finset (GSem nD τ sig) := Finset.univ.image vc3

theorem cells_disjoint : Disjoint bCells vCells := by
  rw [Finset.disjoint_left]
  intro g h1 h2
  obtain ⟨x, -, rfl⟩ := Finset.mem_image.mp h1
  obtain ⟨y, -, e⟩ := Finset.mem_image.mp h2
  exact absurd (SemLoc.reg.inj (Prod.mk.inj e).2) (show ¬ (sc_start : Sem sig) = sc_bar0 by decide)

/-- The tokens of a barrier cell: its thirty-two arrivals', and the sixteen the withdrawals leave. -/
def tokOf (x : DCI × (Fin 3 × Fin 16)) : GSem nD τ sig × ℕ × ℕ :=
  (bc3 x.1, if x.2.1.val = 2 then 1 else 0, if x.2.1.val = 1 then 16 + x.2.2.val else x.2.2.val)
def bToks : Finset (GSem nD τ sig × ℕ × ℕ) := Finset.univ.image tokOf

theorem tokOf_injective : Function.Injective tokOf := by
  rintro ⟨x, a, i⟩ ⟨y, b, j⟩ e
  have e1 := bc3_injective (Prod.mk.inj e).1
  have e2 : (if a.val = 2 then 1 else 0) = (if b.val = 2 then 1 else 0) := (Prod.mk.inj (Prod.mk.inj e).2).1
  have e3 : (if a.val = 1 then 16 + i.val else i.val) = (if b.val = 1 then 16 + j.val else j.val) := (Prod.mk.inj (Prod.mk.inj e).2).2
  have hi := i.isLt; have hj := j.isLt; have ha := a.isLt; have hb := b.isLt
  have h : a.val = b.val ∧ i.val = j.val := by
    constructor <;> split_ifs at e2 e3 <;> omega
  obtain rfl := Fin.ext h.1; obtain rfl := Fin.ext h.2
  have e1' : x = y := e1
  rw [e1']

def u₀ : UU := (initOf (K (F := F)).hsCells (K (F := F)).hsToks, (initOf (bCells ∪ vCells) bToks, 1))

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

theorem bCells_eq (Φ : GSem nD τ sig → sProp 𝕄) : bigSep bCells Φ = bigSep Finset.univ fun x : DCI => Φ (bc3 x) := by
  unfold bCells; exact SparseCore.bigSep_image_of_injOn (fun a _ b _ e => bc3_injective e) Φ
theorem vCells_eq (Φ : GSem nD τ sig → sProp 𝕄) : bigSep vCells Φ = bigSep Finset.univ fun x : DCI => Φ (vc3 x) := by
  unfold vCells; exact SparseCore.bigSep_image_of_injOn (fun a _ b _ e => vc3_injective e) Φ

/-- Every barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bc3 (Finset.mem_univ ((dci.1, dci.2.1, dci.2.2) : DCI))⟩)

theorem sum_units (g : GSem nD τ sig) (ι : HIx 2) (n : ℕ) : ∑ _ : Fin n, tallyAt g ι 1 = (tallyAt g ι n : CellTallies nD τ sig (HIx 2)) := by
  induction n with
  | zero => rw [show (∑ _ : Fin 0, tallyAt g ι 1 : CellTallies nD τ sig (HIx 2)) = 0 from Finset.sum_empty, tallyAt_zero]
  | succ n ih => rw [Fin.sum_univ_castSucc, ih, tallyAt_add]

theorem swap2 (A B : sProp 𝕄) : iprop(A ∗ B) ⊢ iprop(B ∗ A) := by
  iintro ⟨H1, H0⟩
  isplitl [H0]; · iexact H0
  iexact H1

theorem cred_turn (d : Dev nD) (c : Fin τ.nSC) (ι : HIx 2) :
    (bigSep Finset.univ fun _ : Fin 16 => (cred (oxP d c ι) : sProp 𝕄)) ⊢ bigSep Finset.univ fun j : Fin 16 => cred (tallyAt (bcell d c j) ι 16) := by
  unfold oxP
  rw [SparseCore.Cfg.cred_finsum, bigSep_univ_comm]
  refine bigSep_mono fun j _ => ?_
  rw [← SparseCore.Cfg.cred_finsum, sum_units]; exact BI.Entails.refl _

/-- The credit for the tiles' debts, regrouped by the cell it is for. -/
theorem creds_b : ((P R X).oxCred : sProp 𝕄) ⊢ bigSep Finset.univ fun x : DCI => iprop(cred (tallyAt (bc3 x) (some 0) 16) ∗ cred (tallyAt (bc3 x) (some 1) 16)) := by
  unfold SparseCore.Cfg.Pay.oxCred
  rw [SparseCore.Cfg.bigSep_threads (fun t : Thread nD τ => (cred ((P R X).oxFrom 0 t) : sProp 𝕄))]
  refine sep_elim_right.trans (sep_elim_right.trans ?_)
  rw [bigSep_univ_prod, bigSep_univ_prod (fun x : DCI => (iprop(cred (tallyAt (bc3 x) (some 0) 16) ∗ cred (tallyAt (bc3 x) (some 1) 16)) : sProp 𝕄))]
  refine bigSep_mono fun d _ => ?_
  rw [bigSep_univ_prod, bigSep_univ_prod (fun ci : Fin τ.nSC × Fin 16 => (iprop(cred (tallyAt (bc3 (d, ci)) (some 0) 16) ∗ cred (tallyAt (bc3 (d, ci)) (some 1) 16)) : sProp 𝕄))]
  refine bigSep_mono fun c _ => ?_
  have hox : ∀ i, (P R X).oxFrom 0 (V d c i) = oxP d c (some 1) + oxP d c (some 0) := fun i => by
    rw [show (0 : ℕ) = (0 : Fin 1).val from rfl, (P R X).oxFrom_step, (P R X).oxFrom_end _ (n := (0 : Fin 1).val + 1) le_rfl, add_zero]; rfl
  have h1 : (bigSep Finset.univ fun i : Fin τ.nSub => (cred ((P R X).oxFrom 0 (V d c i)) : sProp 𝕄))
      = bigSep Finset.univ fun _ : Fin 16 => iprop(cred (oxP d c (some 1)) ∗ cred (oxP d c (some 0))) :=
    bigSep_congr fun i _ => by rw [hox, SparseCore.Cfg.cred_add_eq]
  refine (Entails.of_eq h1).trans ?_
  rw [bigSep_sep', bigSep_sep' _ (fun j : Fin 16 => (cred (tallyAt (bc3 (d, c, j)) (some 0) 16) : sProp 𝕄))]
  refine BI.Entails.trans (BI.sep_mono (cred_turn d c (some 1)) (cred_turn d c (some 0))) ?_
  exact swap2 _ _

theorem emps {I : Type} (s : Finset I) : (bigSep s fun _ => (iprop(emp) : sProp 𝕄)) = iprop(emp) := bigSep_emp_const s

/-- What persists goes to each. -/
theorem bigSep_keep {I : Type} [DecidableEq I] {A : sProp 𝕄} [BI.Persistent A] {s : Finset I} {Φ Ψ : I → sProp 𝕄}
    (h : ∀ i ∈ s, iprop(A ∗ Φ i) ⊢ Ψ i) : iprop(A ∗ bigSep s Φ) ⊢ bigSep s Ψ := by
  induction s using Finset.induction_on with
  | empty => rw [bigSep_empty, bigSep_empty]; exact sep_elim_right
  | insert a s ha ih =>
    rw [bigSep_ins ha, bigSep_ins ha]
    iintro ⟨#HA, H1, H2⟩
    isplitl [H1]
    · iapply (h a (Finset.mem_insert_self _ _)); isplitr; · iexact HA
      iexact H1
    iapply (ih fun i hi => h i (Finset.mem_insert_of_mem hi)); isplitr; · iexact HA
    iexact H2

theorem bigSep_all {I : Type} [DecidableEq I] {A : sProp 𝕄} [BI.Persistent A] {s : Finset I} {Ψ : I → sProp 𝕄} (h : ∀ i ∈ s, A ⊢ Ψ i) : A ⊢ bigSep s Ψ := by
  have := bigSep_keep (A := A) (s := s) (Φ := fun _ => (iprop(emp) : sProp 𝕄)) (Ψ := Ψ) fun i hi => sep_elim_left.trans (h i hi)
  rw [emps] at this
  iintro HA
  iapply this; isplitl; · iexact HA
  iempintro

/-- The tokens, by what they are for. -/
theorem toks_eq : (bigSep bToks fun x => (dutyTok EB x.1 x.2.1 x.2.2 : sProp 𝕄))
    = bigSep Finset.univ fun x : DCI => iprop((bigSep Finset.univ fun j : Fin 16 => dutyTok EB (bc3 x) 0 j.val)
        ∗ (bigSep Finset.univ fun j : Fin 16 => dutyTok EB (bc3 x) 0 (16 + j.val)) ∗ (bigSep Finset.univ fun j : Fin 16 => dutyTok EB (bc3 x) 1 j.val)) := by
  unfold bToks
  rw [SparseCore.bigSep_image_of_injOn (fun a _ b _ e => tokOf_injective e), bigSep_univ_prod]
  refine bigSep_congr fun x _ => ?_
  rw [bigSep_univ_prod, bigSep_fin, bigSep_two]
  rfl

theorem dealt (Φ : Dev nD → Fin τ.nSC → Fin 16 → Fin 16 → sProp 𝕄) :
    (bigSep Finset.univ fun x : DCI => bigSep Finset.univ fun j : Fin 16 => Φ x.1 x.2.1 x.2.2 j)
      = bigSep Finset.univ fun x : DCI => bigSep Finset.univ fun j : Fin 16 => Φ x.1 x.2.1 j x.2.2 := by
  rw [bigSep_univ_prod, bigSep_univ_prod (fun x : DCI => bigSep Finset.univ fun j : Fin 16 => Φ x.1 x.2.1 j x.2.2)]
  refine bigSep_congr fun d _ => ?_
  rw [bigSep_univ_prod, bigSep_univ_prod (fun x : Fin τ.nSC × Fin 16 => bigSep Finset.univ fun j : Fin 16 => Φ d x.1 j x.2)]
  exact bigSep_congr fun c _ => bigSep_univ_comm _

/-- What every tile is handed alike. -/
abbrev alike : sProp 𝕄 :=
  iprop((∃ κ κ' : GSem nD τ sig → ℕ, (bigSep Finset.univ fun x : DCI => cellInv EB (bRd (POt R X.BT X.obs M23)) (κ (bc3 x)) (bc3 x))
      ∗ bigSep Finset.univ fun x : DCI => inv (κ' (vc3 x)) (escBody (STt R X.BT M22) x.1 x.2.1 x.2.2))
    ∗ bigSep Finset.univ fun x : DCI => reached EB (bc3 x) 0)
/-- What is each tile's own. -/
abbrev own1 (x : DCI) : sProp 𝕄 :=
  iprop((bigSep Finset.univ fun j : Fin 16 => dutyTok EB (bcell x.1 x.2.1 j) 0 x.2.2.val)
    ∗ (bigSep Finset.univ fun j : Fin 16 => dutyTok EB (bcell x.1 x.2.1 j) 0 (16 + x.2.2.val))
    ∗ (bigSep Finset.univ fun j : Fin 16 => dutyTok EB (bc3 x) 1 j.val)
    ∗ atPos EB (bc3 x) 0 ∅ 0 ∗ atPos EB (vc3 x) 0 ∅ 0
    ∗ cred (tallyAt (bc3 x) (some 0) 16) ∗ cred (tallyAt (bc3 x) (some 1) 16))

theorem kit_intro (x : DCI) : iprop(alike R X ∗ own1 x) ⊢ (bkit (STt R X.BT M22) (POt R X.BT X.obs M23) x.1 x.2.1 x.2.2 : sProp 𝕄) := by
  obtain ⟨d, c, i⟩ := x
  iintro ⟨⟨#Hinv, #Hr⟩, Ha, Hb, Hc, Hp, Hv, Hc0, Hc1⟩
  unfold bkit
  isplitr
  · icases Hinv with ⟨%κ, %κ', Hi, He⟩
    iexists κ, κ'
    isplitl [Hi]
    · iapply (bigSep_all (s := (Finset.univ : Finset (Fin 16))) (A := bigSep Finset.univ fun x : DCI => cellInv EB (bRd (POt R X.BT X.obs M23)) (κ (bc3 x)) (bc3 x)) fun j _ =>
        bigSep_elim (Φ := fun x : DCI => (cellInv EB (bRd (POt R X.BT X.obs M23)) (κ (bc3 x)) (bc3 x) : sProp 𝕄)) (Finset.mem_univ ((d, c, j) : DCI)))
      iexact Hi
    · iapply (bigSep_all (s := (Finset.univ : Finset (Fin 16))) (A := bigSep Finset.univ fun x : DCI => inv (κ' (vc3 x)) (escBody (STt R X.BT M22) x.1 x.2.1 x.2.2)) fun j _ =>
        bigSep_elim (Φ := fun x : DCI => (inv (κ' (vc3 x)) (escBody (STt R X.BT M22) x.1 x.2.1 x.2.2) : sProp 𝕄)) (Finset.mem_univ ((d, c, j) : DCI)))
      iexact He
  isplitl [Ha]; · iexact Ha
  isplitl [Hb]; · iexact Hb
  isplitl [Hc]; · iexact Hc
  isplitr
  · iapply (bigSep_all (s := (Finset.univ : Finset (Fin 16))) (A := bigSep Finset.univ fun x : DCI => reached EB (bc3 x) 0) fun j _ =>
        bigSep_elim (Φ := fun x : DCI => (reached EB (bc3 x) 0 : sProp 𝕄)) (Finset.mem_univ ((d, c, j) : DCI)))
    iexact Hr
  isplitl [Hp]; · iexact Hp
  isplitl [Hv]; · iexact Hv
  isplitl [Hc0]; · iexact Hc0
  iexact Hc1

theorem Px_T (d : Dev nD) : (bigSep Finset.univ fun q : Fin 1 => (P R X).x q (SparseCore.T d)) = iprop(emp) :=
  bigSep_univ_of_subsingleton (0 : Fin 1)
theorem Px_S (d : Dev nD) (c : Fin τ.nSC) : (bigSep Finset.univ fun q : Fin 1 => (P R X).x q (S d c)) = iprop(emp) :=
  bigSep_univ_of_subsingleton (0 : Fin 1)
theorem Px_V (d : Dev nD) (c : Fin τ.nSC) (i : Fin τ.nSub) :
    (bigSep Finset.univ fun q : Fin 1 => (P R X).x q (V d c i)) = bkit (STt R X.BT M22) (POt R X.BT X.obs M23) d c i :=
  bigSep_univ_of_subsingleton (0 : Fin 1)

/-- Each tile its kit. -/
theorem kits_deal : iprop(alike R X ∗ bigSep Finset.univ fun x : DCI => own1 x)
    ⊢ (bigSep Finset.univ fun t : Thread nD τ => bigSep Finset.univ fun q : Fin 1 => (P R X).x q t : sProp 𝕄) := by
  rw [SparseCore.Cfg.bigSep_threads (fun t : Thread nD τ => bigSep Finset.univ fun q : Fin 1 => (P R X).x q t)]
  simp only [Px_T, Px_S, Px_V, emps]
  iintro ⟨#Hsh, H⟩
  isplitr; · iempintro
  isplitr; · iempintro
  iapply (bigSep_keep (s := (Finset.univ : Finset DCI)) (A := alike R X) (Φ := own1) (Ψ := fun x : DCI => bkit (STt R X.BT M22) (POt R X.BT X.obs M23) x.1 x.2.1 x.2.2) fun x _ => kit_intro R X x)
  isplitr; · iexact Hsh
  iexact H

/-- The barrier cells' invariants. -/
theorem invs_b (Rd : Rounds.Schedule (GSem nD τ sig) ℕ 𝕄) [∀ g r d, BI.Storable (upEmb : UEmb _ 𝕄) (Rd.payload g r d)] :
    iprop((bigSep bCells fun g => (semVal g 0 : sProp 𝕄)) ∗ bigSep bCells fun g => initState EB g)
    ⊢ |={Set.univ}=> iprop(∃ κ : GSem nD τ sig → ℕ, bigSep bCells fun g => cellInv EB Rd (κ g) g) := by
  refine (BI.sep_mono (BI.Entails.refl _) (bigSep_mono fun g _ => roundState_init EB Rd)).trans ((Rounds.bodies_intro EB Rd bCells).trans
    ((inv_alloc_family bCells (Rounds.body EB Rd) ∅ (E := Set.univ)).trans ?_))
  iintro H
  imod H with ⟨%κ, -, Hinv⟩
  imodintro; iexists κ; iexact Hinv

theorem esc_init (x : DCI) : initState EB (vc3 x) ⊢ (escBody (STt R X.BT M22) x.1 x.2.1 x.2.2 : sProp 𝕄) := by
  unfold escBody
  iintro ⟨H, -⟩
  iexists 0
  isplitl; · iexact H
  ileft
  ipureintro; rfl

/-- The deposits' invariants. -/
theorem invs_v : (bigSep vCells fun g => (initState EB g : sProp 𝕄))
    ⊢ |={Set.univ}=> iprop(∃ κ : GSem nD τ sig → ℕ, bigSep Finset.univ fun x : DCI => inv (κ (vc3 x)) (escBody (STt R X.BT M22) x.1 x.2.1 x.2.2)) := by
  rw [vCells_eq]
  refine (bigSep_mono fun x _ => esc_init R X x).trans ((inv_alloc_family (Finset.univ : Finset DCI) (fun x : DCI => escBody (STt R X.BT M22) x.1 x.2.1 x.2.2) ∅ (E := Set.univ)).trans ?_)
  iintro H
  imod H with ⟨%κ, -, Hinv⟩
  imodintro
  iexists fun g => if h : ∃ x : DCI, vc3 x = g then κ h.choose else 0
  have e : ∀ x : DCI, (if h : ∃ y : DCI, vc3 y = vc3 x then κ h.choose else 0) = κ x := fun x => by
    have h : ∃ y : DCI, vc3 y = vc3 x := ⟨x, rfl⟩
    rw [dif_pos h, vc3_injective h.choose_spec]
  iapply (Entails.of_eq (bigSep_congr fun x _ => congrArg (fun n => (inv n (escBody (STt R X.BT M22) x.1 x.2.1 x.2.2) : sProp 𝕄)) (e x).symm :
    (bigSep Finset.univ fun x : DCI => (inv (κ x) (escBody (STt R X.BT M22) x.1 x.2.1 x.2.2) : sProp 𝕄)) = _))
  iexact Hinv

set_option maxHeartbeats 400000 in
theorem hu₀ : iprop(ownU (u₀ (F := F)) ∗ (P R X).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun t : Thread nD τ => bigSep Finset.univ fun q : Fin 1 => (P R X).x q t) : sProp 𝕄) := by
  unfold u₀
  iintro ⟨Hu, Hcred, Hfree⟩
  ihave H := (ownU_split _ _) $$ Hu
  icases H with ⟨HH, HB⟩
  imod (Rounds.fund_init EB (bCells ∪ vCells) bToks) $$ HB with ⟨Hst, Hr, Hat, Htok⟩
  ihave Hst := (Entails.of_eq (SparseCore.bigSep_union' cells_disjoint)) $$ Hst
  icases Hst with ⟨Hsb, Hsv⟩
  ihave Hr := (Entails.of_eq (SparseCore.bigSep_union' cells_disjoint)) $$ Hr
  icases Hr with ⟨Hr, -⟩
  ihave Hat := (Entails.of_eq (SparseCore.bigSep_union' cells_disjoint)) $$ Hat
  icases Hat with ⟨Hab, Hav⟩
  ihave Hsems := (sems_b (F := F)) $$ Hfree
  imod (invs_b (bRd (POt R X.BT X.obs M23))) $$ [Hsems Hsb] with ⟨%κ, Hinv⟩
  · isplitl [Hsems]; · iexact Hsems
    iexact Hsb
  imod (invs_v R X) $$ Hsv with ⟨%κ', Hesc⟩
  ihave Hcred := (creds_b R X) $$ Hcred
  ihave Hinv := (Entails.of_eq (bCells_eq (F := F) fun g => cellInv EB (bRd (POt R X.BT X.obs M23)) (κ g) g)) $$ Hinv
  ihave Hr := (Entails.of_eq (bCells_eq (F := F) fun g => reached EB g 0)) $$ Hr
  ihave Hab := (Entails.of_eq (bCells_eq (F := F) fun g => atPos EB g 0 ∅ 0)) $$ Hab
  ihave Hav := (Entails.of_eq (vCells_eq (F := F) fun g => atPos EB g 0 ∅ 0)) $$ Hav
  ihave Htok := (Entails.of_eq ((toks_eq (F := F)).trans ((bigSep_sep' _ _ _).trans (congrArg₂ _ rfl (bigSep_sep' _ _ _))))) $$ Htok
  icases Htok with ⟨Ht1, Ht2, Ht3⟩
  ihave Hcred := (Entails.of_eq (bigSep_sep' _ _ _)) $$ Hcred
  icases Hcred with ⟨Hc0, Hc1⟩
  ihave Ht1 := (Entails.of_eq (dealt fun d c i j => (dutyTok EB (bcell d c i) 0 j.val : sProp 𝕄))) $$ Ht1
  ihave Ht2 := (Entails.of_eq (dealt fun d c i j => (dutyTok EB (bcell d c i) 0 (16 + j.val) : sProp 𝕄))) $$ Ht2
  imodintro
  isplitl [HH]; · iexact HH
  isplitr; · rw [emps]; iempintro
  iapply (kits_deal R X)
  isplitl [Hinv Hesc Hr]
  · isplitl [Hinv Hesc]
    · iexists κ, κ'
      isplitl [Hinv]; · iexact Hinv
      iexact Hesc
    iexact Hr
  unfold own1
  rw [bigSep_sep', bigSep_sep', bigSep_sep', bigSep_sep', bigSep_sep', bigSep_sep']
  isplitl [Ht1]; · iexact Ht1
  isplitl [Ht2]; · iexact Ht2
  isplitl [Ht3]; · iexact Ht3
  isplitl [Hab]; · iexact Hab
  isplitl [Hav]; · iexact Hav
  isplitl [Hc0]; · iexact Hc0
  iexact Hc1

end Cert.Proof.Seg

end
-- ==== Proof.Host.lean ====
/-
  The host's operations around the call.
-/
module

public import proofs.«01_k».proof.Proof.Fund
public import Idealize.ShloMosaic.Lib.StableHlo.Run

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo

/-! ## The host's operations before and after the call -/

/-- Before the call: the operands padded. -/
abbrev opsA : List (HloOp τ sig (Elt F)) :=
  [ nullary main_cst (constant S_ .f32 0x00000000#32),
    unary main_cst main_v0 (broadcastInDim S7680 ![] bcast_S_S7680 : (⟨S_, .f32⟩ : BufTy).Contents (Elt F) → (⟨S7680, .f32⟩ : BufTy).Contents (Elt F)),
    binary main_arg0 main_v0 main_v1 ((fun a b => concatenate S327680 0 [⟨S320000, a⟩, ⟨S7680, b⟩] concatenates_S320000_S7680_S327680_d0) : (⟨S320000, .f32⟩ : BufTy).Contents (Elt F) → (⟨S7680, .f32⟩ : BufTy).Contents (Elt F) → (⟨S327680, .f32⟩ : BufTy).Contents (Elt F)),
    nullary main_c (constantI S_ 32 64#32),
    unary main_c main_v2 (broadcastInDim S7680 ![] bcast_S_S7680 : (⟨S_, .i32⟩ : BufTy).Contents (Elt F) → (⟨S7680, .i32⟩ : BufTy).Contents (Elt F)),
    binary main_arg1 main_v2 main_v3 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    nullary main_cst_0 (constant S_ .f32 0x00000000#32),
    unary main_cst_0 main_v4 (broadcastInDim S64 ![] bcast_S_S64 : (⟨S_, .f32⟩ : BufTy).Contents (Elt F) → (⟨S64, .f32⟩ : BufTy).Contents (Elt F)),
    binary main_arg3 main_v4 main_v5 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)) ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub ..⟩

theorem opsA_fresh : ∀ op ∈ (opsA : List (HloOp τ sig (Elt F))), op.fresh = ∅ :=
  List.forall_iff_forall_mem.1 (forall_fresh_of_map rfl)

theorem opsA_uc : ∀ op ∈ (opsA : List (HloOp τ sig (Elt F))), op.bufs ⊆ Pipeline.ucRefs τ sig := fun op h =>
  Pipeline.sub_ucRefs op (List.forall_iff_forall_mem.1 opsA_sub op h)

/-- After it: the results cut, and summed over lanes and cores. -/
abbrev opsB : List (HloOp τ sig (Elt F)) :=
  [ unary main_v6_0 main_v7 ((extractStridedSlice S320000 ![0] · slices_S327680_S320000_0) : (⟨S327680, .f32⟩ : BufTy).Contents (Elt F) → (⟨S320000, .f32⟩ : BufTy).Contents (Elt F)),
    unary main_v6_1 main_v8 ((extractStridedSlice S320000 ![0] · slices_S327680_S320000_0) : (⟨S327680, .f32⟩ : BufTy).Contents (Elt F) → (⟨S320000, .f32⟩ : BufTy).Contents (Elt F)),
    unary main_v6_2 main_v9 ((extractStridedSlice S1024 ![0] · slices_S1280_S1024_0) : (⟨S1280, .f32⟩ : BufTy).Contents (Elt F) → (⟨S1024, .f32⟩ : BufTy).Contents (Elt F)),
    reshape main_v9 main_v10 (rfl : (.f32 : EltTy) = .f32) shapeCasts_S1024_S64x16,
    reshape main_v6_3 main_v11 (rfl : (.f32 : EltTy) = .f32) shapeCasts_S16384_S2x64x128,
    reshape main_v6_4 main_v12 (rfl : (.f32 : EltTy) = .f32) shapeCasts_S16384_S2x64x128,
    nullary main_cst_1 (constant S_ .f32 0x00000000#32),
    binary main_v10 main_cst_1 main_v13 ((fun x v => Host.reduceAdd x v reducesTo_S64x16_S64_d1 h_S_) : (⟨S64x16, .f32⟩ : BufTy).Contents (Elt F) → (⟨S_, .f32⟩ : BufTy).Contents (Elt F) → (⟨S64, .f32⟩ : BufTy).Contents (Elt F)),
    unary main_v11 main_v14 ((extractStridedSlice S1x64x128 ![0, 0, 0] · slices_S2x64x128_S1x64x128_0_0_0) : (⟨S2x64x128, .f32⟩ : BufTy).Contents (Elt F) → (⟨S1x64x128, .f32⟩ : BufTy).Contents (Elt F)),
    reshape main_v14 main_v15 (rfl : (.f32 : EltTy) = .f32) shapeCasts_S1x64x128_S64x128,
    unary main_v11 main_v16 ((extractStridedSlice S1x64x128 ![1, 0, 0] · slices_S2x64x128_S1x64x128_1_0_0) : (⟨S2x64x128, .f32⟩ : BufTy).Contents (Elt F) → (⟨S1x64x128, .f32⟩ : BufTy).Contents (Elt F)),
    reshape main_v16 main_v17 (rfl : (.f32 : EltTy) = .f32) shapeCasts_S1x64x128_S64x128,
    binary main_v15 main_v17 main_v18 (addf : (⟨S64x128, .f32⟩ : BufTy).Contents (Elt F) → (⟨S64x128, .f32⟩ : BufTy).Contents (Elt F) → (⟨S64x128, .f32⟩ : BufTy).Contents (Elt F)),
    unary main_v12 main_v19 ((extractStridedSlice S1x64x128 ![0, 0, 0] · slices_S2x64x128_S1x64x128_0_0_0) : (⟨S2x64x128, .f32⟩ : BufTy).Contents (Elt F) → (⟨S1x64x128, .f32⟩ : BufTy).Contents (Elt F)),
    reshape main_v19 main_v20 (rfl : (.f32 : EltTy) = .f32) shapeCasts_S1x64x128_S64x128,
    unary main_v12 main_v21 ((extractStridedSlice S1x64x128 ![1, 0, 0] · slices_S2x64x128_S1x64x128_1_0_0) : (⟨S2x64x128, .f32⟩ : BufTy).Contents (Elt F) → (⟨S1x64x128, .f32⟩ : BufTy).Contents (Elt F)),
    reshape main_v21 main_v22 (rfl : (.f32 : EltTy) = .f32) shapeCasts_S1x64x128_S64x128,
    binary main_v20 main_v22 main_v23 (addf : (⟨S64x128, .f32⟩ : BufTy).Contents (Elt F) → (⟨S64x128, .f32⟩ : BufTy).Contents (Elt F) → (⟨S64x128, .f32⟩ : BufTy).Contents (Elt F)) ]

theorem opsB_sub : (opsB : List (HloOp τ sig (Elt F))).Forall fun op => op.bufs ⊆ tcRefs τ sig :=
  ⟨unary_bufs_sub .., unary_bufs_sub .., unary_bufs_sub .., reshape_bufs_sub .., reshape_bufs_sub .., reshape_bufs_sub .., nullary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩

theorem opsB_fresh : ∀ op ∈ (opsB : List (HloOp τ sig (Elt F))), op.fresh = ∅ :=
  List.forall_iff_forall_mem.1 (forall_fresh_of_map rfl)

theorem opsB_uc : ∀ op ∈ (opsB : List (HloOp τ sig (Elt F))), op.bufs ⊆ Pipeline.ucRefs τ sig := fun op h =>
  Pipeline.sub_ucRefs op (List.forall_iff_forall_mem.1 opsB_sub op h)

theorem main_eq (d : Dev nD) : main (F := F) d = (seq opsA >>= fun _ => (sc.run d 0 >>= fun _ => (seq opsB >>= fun u => pure u))) := by
  simp only [main, seq, bind_assoc, pure_bind]

/-! ## What they leave -/

/-- The padded arrays. -/
abbrev padF (x : S320000.Idx → Elt F .f32) : S327680.Idx → Elt F .f32 :=
  concatenate S327680 0 [⟨S320000, x⟩, ⟨S7680, broadcastInDim S7680 ![] bcast_S_S7680 (constant S_ .f32 0x00000000#32 : S_.Idx → Elt F .f32)⟩] concatenates_S320000_S7680_S327680_d0
abbrev padB (x : S320000.Idx → BitVec 32) : S327680.Idx → BitVec 32 :=
  concatenate S327680 0 [⟨S320000, x⟩, ⟨S7680, broadcastInDim S7680 ![] bcast_S_S7680 (constantI S_ 32 64#32)⟩] concatenates_S320000_S7680_S327680_d0
abbrev padU (x : S64.Idx → Elt F .f32) : S128.Idx → Elt F .f32 :=
  concatenate S128 0 [⟨S64, x⟩, ⟨S64, broadcastInDim S64 ![] bcast_S_S64 (constant S_ .f32 0x00000000#32 : S_.Idx → Elt F .f32)⟩] concatenates_S64_S64_S128_d0

section Read

variable (W : Valuation τ sig (Elt F))

theorem A_v1 : after opsA W (Proc.devRef .tc main_v1) = padF (W (Proc.devRef .tc main_arg0)) := by
  after_results_simp
  try rfl
theorem A_v3 : after opsA W (Proc.devRef .tc main_v3) = padB (W (Proc.devRef .tc main_arg1)) := by
  after_results_simp
  try rfl
theorem A_v5 : after opsA W (Proc.devRef .tc main_v5) = padU (W (Proc.devRef .tc main_arg3)) := by
  after_results_simp
  try rfl
theorem A_arg0 : after opsA W (Proc.devRef .tc main_arg0) = W (Proc.devRef .tc main_arg0) := by
  simp only [after_cons, after_nil]
  rfl
theorem B_arg0 : after opsB W (Proc.devRef .tc main_arg0) = W (Proc.devRef .tc main_arg0) := by
  simp only [after_cons, after_nil]
  rfl
theorem A_arg1 : after opsA W (Proc.devRef .tc main_arg1) = W (Proc.devRef .tc main_arg1) := by
  simp only [after_cons, after_nil]
  rfl
theorem B_arg1 : after opsB W (Proc.devRef .tc main_arg1) = W (Proc.devRef .tc main_arg1) := by
  simp only [after_cons, after_nil]
  rfl
theorem A_arg2 : after opsA W (Proc.devRef .tc main_arg2) = W (Proc.devRef .tc main_arg2) := by
  simp only [after_cons, after_nil]
  rfl
theorem B_arg2 : after opsB W (Proc.devRef .tc main_arg2) = W (Proc.devRef .tc main_arg2) := by
  simp only [after_cons, after_nil]
  rfl
theorem A_arg3 : after opsA W (Proc.devRef .tc main_arg3) = W (Proc.devRef .tc main_arg3) := by
  simp only [after_cons, after_nil]
  rfl
theorem B_arg3 : after opsB W (Proc.devRef .tc main_arg3) = W (Proc.devRef .tc main_arg3) := by
  simp only [after_cons, after_nil]
  rfl

theorem B_v7 : after opsB W (Proc.devRef .tc main_v7) = extractStridedSlice S320000 ![0] (W (Proc.devRef .tc main_v6_0)) slices_S327680_S320000_0 := by
  after_results_simp
  try rfl

theorem B_v13 : after opsB W (Proc.devRef .tc main_v13)
    = Host.reduceAdd (shapeCast S64x16 (extractStridedSlice S1024 ![0] (W (Proc.devRef .tc main_v6_2)) slices_S1280_S1024_0) shapeCasts_S1024_S64x16)
        (constant S_ .f32 0x00000000#32) reducesTo_S64x16_S64_d1 h_S_ := by
  after_results_simp
  try rfl

theorem B_v18 : after opsB W (Proc.devRef .tc main_v18)
    = addf (shapeCast S64x128 (extractStridedSlice S1x64x128 ![0, 0, 0] (shapeCast S2x64x128 (W (Proc.devRef .tc main_v6_3)) shapeCasts_S16384_S2x64x128) slices_S2x64x128_S1x64x128_0_0_0) shapeCasts_S1x64x128_S64x128)
        (shapeCast S64x128 (extractStridedSlice S1x64x128 ![1, 0, 0] (shapeCast S2x64x128 (W (Proc.devRef .tc main_v6_3)) shapeCasts_S16384_S2x64x128) slices_S2x64x128_S1x64x128_1_0_0) shapeCasts_S1x64x128_S64x128) := by
  after_results_simp
  try rfl

end Read

end Cert.Proof.Seg

end
-- ==== Proof.Input.lean ====
/-
  The operands of the call.
-/
module

public import proofs.«01_k».proof.Proof.Host
public import Idealize.ShloMosaic.Lib.Pipeline.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo

attribute [local instance] blocks

/-! ## Places of an array -/

def at1 {n : ℕ} (k : ℕ) (h : k < n) : (⟨1, ![n]⟩ : Shape).Idx := fun a => ⟨k, by obtain rfl := Fin.eq_zero a; exact h⟩
def at2 {n p : ℕ} (k l : ℕ) (h : k < n) (h' : l < p) : (⟨2, ![n, p]⟩ : Shape).Idx := fun | 0 => ⟨k, h⟩ | 1 => ⟨l, h'⟩

theorem at1_eta {n : ℕ} (y : (⟨1, ![n]⟩ : Shape).Idx) (k : ℕ) (h : k < n) (e : (y 0).val = k) : y = at1 k h := by
  funext a
  obtain rfl := Fin.eq_zero a
  exact Fin.ext e

theorem at2_eta {n p : ℕ} (y : (⟨2, ![n, p]⟩ : Shape).Idx) (k l : ℕ) (h : k < n) (h' : l < p) (e : (y 0).val = k) (e' : (y 1).val = l) : y = at2 k l h h' := by
  funext a
  match a with
  | 0 => exact Fin.ext e
  | 1 => exact Fin.ext e'

/-! ## The padded arrays -/

theorem cat_lo {α : Type} (x : S320000.Idx → α) (p : S7680.Idx → α) (y : S327680.Idx) (h : (y 0).val < 320000) :
    concatenate S327680 0 [⟨S320000, x⟩, ⟨S7680, p⟩] concatenates_S320000_S7680_S327680_d0 y = x (at1 (y 0).val h) :=
  concatenate_pair_apply_left 0 x p _ y rfl _ fun b => by
    obtain rfl := Fin.eq_zero b
    rfl

theorem cat_hi {α : Type} (x : S320000.Idx → α) (p : S7680.Idx → α) (y : S327680.Idx) (h : ¬ (y 0).val < 320000) :
    concatenate S327680 0 [⟨S320000, x⟩, ⟨S7680, p⟩] concatenates_S320000_S7680_S327680_d0 y
      = p (at1 ((y 0).val - 320000) (by have : (y 0).val < 327680 := (y 0).isLt; omega)) :=
  concatenate_pair_apply_right 0 x p _ y rfl rfl _ (fun b hb => absurd (by obtain rfl := Fin.eq_zero b; rfl) hb) (by
    show (y 0).val - 320000 + 320000 = (y 0).val
    omega)

theorem catU_lo {α : Type} (x : S64.Idx → α) (p : S64.Idx → α) (y : S128.Idx) (h : (y 0).val < 64) :
    concatenate S128 0 [⟨S64, x⟩, ⟨S64, p⟩] concatenates_S64_S64_S128_d0 y = x (at1 (y 0).val h) :=
  concatenate_pair_apply_left 0 x p _ y rfl _ fun b => by
    obtain rfl := Fin.eq_zero b
    rfl

/-- What is known of the segments: there are 64 of them and they stand in order. -/
structure Segs (b : S320000.Idx → BitVec 32) : Prop where
  lt : ∀ i, (b i).toNat < 64
  le : ∀ i j : S320000.Idx, (i 0).val ≤ (j 0).val → (b i).toNat ≤ (b j).toNat

theorem padB_lo (b : S320000.Idx → BitVec 32) (y : S327680.Idx) (h : (y 0).val < 320000) : padB b y = b (at1 (y 0).val h) := cat_lo b _ y h
theorem padB_hi (b : S320000.Idx → BitVec 32) (y : S327680.Idx) (h : ¬ (y 0).val < 320000) : padB b y = 64#32 := cat_hi b _ y h

/-- The `n`-th entry, counted round. -/
abbrev rd {α : Type} (g : S327680.Idx → α) (n : ℕ) : α := g (at1 (n % 327680) (Nat.mod_lt _ (by decide)))

theorem rd_at {α : Type} (g : S327680.Idx → α) (y : S327680.Idx) : g y = rd g (y 0).val :=
  congrArg g (at1_eta y _ _ (Nat.mod_eq_of_lt (y 0).isLt).symm)

theorem rdB_lo (b : S320000.Idx → BitVec 32) (n : ℕ) (h : n < 320000) : rd (padB b) n = b (at1 n h) := by
  have e : n % 327680 = n := Nat.mod_eq_of_lt (by omega)
  refine (padB_lo b _ (show n % 327680 < 320000 by omega)).trans (congrArg b (at1_eta _ _ _ e))
theorem rdB_hi (b : S320000.Idx → BitVec 32) (n : ℕ) (h : ¬ n < 320000) (h' : n < 327680) : rd (padB b) n = 64#32 :=
  padB_hi b _ (show ¬ n % 327680 < 320000 by rw [Nat.mod_eq_of_lt h']; exact h)

theorem rdF_lo (x : S320000.Idx → Elt F .f32) (n : ℕ) (h : n < 320000) : rd (padF x) n = x (at1 n h) := by
  have e : n % 327680 = n := Nat.mod_eq_of_lt (by omega)
  refine (cat_lo x _ _ (show n % 327680 < 320000 by omega)).trans (congrArg x (at1_eta _ _ _ e))

variable {M : Type} [AddCommMonoid M] (R : Rdg F M)

/-- The call's operands, read as the proof of the kernel reads them. -/
def inp (x : S320000.Idx → Elt F .f32) (b : S320000.Idx → BitVec 32) (o : S320000x128.Idx → Elt F .f32) (u : S64.Idx → Elt F .f32) (hb : Segs b) : Inp R where
  gCS := padF x
  CS := rd (padF x)
  hCS := fun y => rd_at _ y
  gB := padB b
  BT := fun n => (rd (padB b) n).toNat
  hB := fun y => congrArg BitVec.toNat (rd_at (padB b) y)
  hBT := fun n hn => by
    by_cases h : n < 320000
    · rw [rdB_lo b n h]; exact (hb.lt _).le
    · rw [rdB_hi b n h hn]; decide
  hsort := fun n p hnp hp => by
    by_cases h : p < 320000
    · rw [rdB_lo b n (by omega), rdB_lo b p h]; exact hb.le _ _ hnp
    · rw [rdB_hi b p h hp]
      by_cases h' : n < 320000
      · rw [rdB_lo b n h']; exact (hb.lt _).le
      · rw [rdB_hi b n h' (by omega)]
  hlow := fun n hn => by rw [rdB_lo b n hn]; exact hb.lt _
  gU := padU u
  UN := fun n => padU u (at1 (n % 128) (Nat.mod_lt _ (by decide)))
  hU := fun y => congrArg (padU u) (at1_eta y _ _ (Nat.mod_eq_of_lt (y 0).isLt).symm)
  OB := o
  obs := fun n k => R.v (o (at2 (n % 320000) (k % 128) (Nat.mod_lt _ (by decide)) (Nat.mod_lt _ (by decide))))
  hOB := fun y => congrArg (fun z => R.v (o z)) (at2_eta y _ _ _ _ (Nat.mod_eq_of_lt (y 0).isLt).symm (Nat.mod_eq_of_lt (y 1).isLt).symm)

end Cert.Proof.Seg

end
-- ==== Proof.Around.lean ====
/-
  What the host hands the call, and what it gets back.
-/
module

public import proofs.«01_k».proof.Proof.Input
public import Idealize.ShloMosaic.Lib.Pipeline.FrameTail

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo

attribute [local instance] blocks

variable {M : Type} [AddCommMonoid M] (R : Rdg F M) (X : Inp R) (d : Dev nD)

/-! ## The call's operands and results among the host's buffers -/

theorem whole_at (c : Thread nD τ) (r : Ref sig c.2.kind) (f : Buf (Elt F) (c.loc r)) :
    (c.loc r ↦{fullShare} f : sProp 𝕄) = At c (Memref.whole r) fullShare f :=
  BI.Entails.antisymm (at_intro c (m := Memref.whole r) (View.set_whole r).symm rfl) (by
    refine (Entails.of_eq (at_eq c (m := Memref.whole r) (g := f) (f := f) rfl)).trans ?_
    exact Entails.of_eq (congrArg (fun I => (c.loc r ↦[I]{fullShare} f : sProp 𝕄)) (View.set_whole r)))

/-- The arrays the call names. -/
def callRefs : Finset (DevRef τ sig) := {Proc.devRef .tc main_v1, Proc.devRef .tc main_v3, Proc.devRef .tc main_arg2, Proc.devRef .tc main_v5, Proc.devRef .tc main_v6_0, Proc.devRef .tc main_v6_1, Proc.devRef .tc main_v6_2, Proc.devRef .tc main_v6_3, Proc.devRef .tc main_v6_4}

theorem callRefs_sub : callRefs ⊆ Pipeline.ucRefs τ sig := by
  unfold callRefs
  intro b hb
  simp only [Finset.mem_insert, Finset.mem_singleton] at hb
  rcases hb with rfl | rfl | rfl | rfl | rfl | rfl | rfl | rfl | rfl <;> exact Pipeline.devRef_mem_ucRefs rfl

theorem held_call (W : Valuation τ sig (Elt F)) : (held (T d) callRefs W : sProp 𝕄)
    = iprop(At (t0 d 0) M2 fullShare (W (Proc.devRef .tc main_v1)) ∗ At (t0 d 0) M3 fullShare (W (Proc.devRef .tc main_v3))
        ∗ At (t0 d 0) M4 fullShare (W (Proc.devRef .tc main_arg2)) ∗ At (t0 d 0) M5 fullShare (W (Proc.devRef .tc main_v5))
        ∗ At (t0 d 0) M6 fullShare (W (Proc.devRef .tc main_v6_0)) ∗ At (t0 d 0) M7 fullShare (W (Proc.devRef .tc main_v6_1))
        ∗ At (t0 d 0) M8 fullShare (W (Proc.devRef .tc main_v6_2)) ∗ At (t0 d 0) M9 fullShare (W (Proc.devRef .tc main_v6_3))
        ∗ At (t0 d 0) M10 fullShare (W (Proc.devRef .tc main_v6_4))) := by
  unfold held callRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rw [← whole_at (t0 d 0) main_v1_scv, ← whole_at (t0 d 0) main_v3_scv, ← whole_at (t0 d 0) main_arg2_scv, ← whole_at (t0 d 0) main_v5_scv,
    ← whole_at (t0 d 0) main_v6_0_scv, ← whole_at (t0 d 0) main_v6_1_scv, ← whole_at (t0 d 0) main_v6_2_scv, ← whole_at (t0 d 0) main_v6_3_scv,
    ← whole_at (t0 d 0) main_v6_4_scv]

/-- The buffers after the call: its results in theirs. -/
def V1 (W : Valuation τ sig (Elt F)) (f0 f1 : S327680.Idx → Elt F .f32) (f2 : S1280.Idx → Elt F .f32) (f3 f4 : S16384.Idx → Elt F .f32) : Valuation τ sig (Elt F) :=
  Function.update (Function.update (Function.update (Function.update (Function.update W (Proc.devRef .tc main_v6_0) f0) (Proc.devRef .tc main_v6_1) f1)
    (Proc.devRef .tc main_v6_2) f2) (Proc.devRef .tc main_v6_3) f3) (Proc.devRef .tc main_v6_4) f4

section V1

variable (W : Valuation τ sig (Elt F)) (f0 f1 : S327680.Idx → Elt F .f32) (f2 : S1280.Idx → Elt F .f32) (f3 f4 : S16384.Idx → Elt F .f32)

theorem V1_of_ne (r : DevRef τ sig) (h0 : r ≠ Proc.devRef .tc main_v6_0) (h1 : r ≠ Proc.devRef .tc main_v6_1) (h2 : r ≠ Proc.devRef .tc main_v6_2)
    (h3 : r ≠ Proc.devRef .tc main_v6_3) (h4 : r ≠ Proc.devRef .tc main_v6_4) : V1 W f0 f1 f2 f3 f4 r = W r := by
  unfold V1
  rw [Function.update_of_ne h4, Function.update_of_ne h3, Function.update_of_ne h2, Function.update_of_ne h1, Function.update_of_ne h0]

theorem V1_0 : V1 W f0 f1 f2 f3 f4 (Proc.devRef .tc main_v6_0) = f0 := by
  unfold V1
  rw [Function.update_of_ne (by decide), Function.update_of_ne (by decide), Function.update_of_ne (by decide), Function.update_of_ne (by decide), Function.update_self]
theorem V1_1 : V1 W f0 f1 f2 f3 f4 (Proc.devRef .tc main_v6_1) = f1 := by
  unfold V1
  rw [Function.update_of_ne (by decide), Function.update_of_ne (by decide), Function.update_of_ne (by decide), Function.update_self]
theorem V1_2 : V1 W f0 f1 f2 f3 f4 (Proc.devRef .tc main_v6_2) = f2 := by
  unfold V1
  rw [Function.update_of_ne (by decide), Function.update_of_ne (by decide), Function.update_self]
theorem V1_3 : V1 W f0 f1 f2 f3 f4 (Proc.devRef .tc main_v6_3) = f3 := by
  unfold V1
  rw [Function.update_of_ne (by decide), Function.update_self]
theorem V1_4 : V1 W f0 f1 f2 f3 f4 (Proc.devRef .tc main_v6_4) = f4 := by
  unfold V1
  rw [Function.update_self]

theorem held_rest : (held (T d) (Pipeline.ucRefs τ sig \ callRefs) W : sProp 𝕄) = held (T d) (Pipeline.ucRefs τ sig \ callRefs) (V1 W f0 f1 f2 f3 f4) := by
  refine held_congr (T d) fun b hb => (V1_of_ne W f0 f1 f2 f3 f4 b ?_ ?_ ?_ ?_ ?_).symm <;>
    exact fun e => (Finset.mem_sdiff.mp hb).2 (by rw [e]; unfold callRefs; simp)

end V1

/-! ## What the call takes and gives back -/

theorem in_two : (IN R X d (LL 0 0) fullShare : sProp 𝕄) ⊢ iprop(IN R X d (LL 0 0) (leaf 1 fullShare (0 : Fin 2)) ∗ IN R X d (LL 0 0) (leaf 1 fullShare (1 : Fin 2))) := by
  unfold IN
  iintro ⟨H2, H3, H4, H5⟩
  ihave H2 := (at_two (t0 d 0) fullShare) $$ H2
  ihave H3 := (at_two (t0 d 0) fullShare) $$ H3
  ihave H4 := (at_two (t0 d 0) fullShare) $$ H4
  ihave H5 := (at_two (t0 d 0) fullShare) $$ H5
  icases H2 with ⟨A2, B2⟩
  icases H3 with ⟨A3, B3⟩
  icases H4 with ⟨A4, B4⟩
  icases H5 with ⟨A5, B5⟩
  isplitl [A2 A3 A4 A5]
  · isplitl [A2]; · iexact A2
    isplitl [A3]; · iexact A3
    isplitl [A4]; · iexact A4
    iexact A5
  · isplitl [B2]; · iexact B2
    isplitl [B3]; · iexact B3
    isplitl [B4]; · iexact B4
    iexact B5

theorem in_two_join : iprop(IN R X d (LL 0 0) (leaf 1 fullShare (0 : Fin 2)) ∗ IN R X d (LL 0 0) (leaf 1 fullShare (1 : Fin 2))) ⊢ (IN R X d (LL 0 0) fullShare : sProp 𝕄) := by
  unfold IN
  iintro ⟨⟨A2, A3, A4, A5⟩, B2, B3, B4, B5⟩
  isplitl [A2 B2]
  · iapply (at_two_join (t0 d 0) (m := M2) (g := X.gCS) (f := X.gCS) rfl fullShare); isplitl [A2]; · iexact A2
    iexact B2
  isplitl [A3 B3]
  · iapply (at_two_join (t0 d 0) (m := M3) (g := X.gB) (f := X.gB) rfl fullShare); isplitl [A3]; · iexact A3
    iexact B3
  isplitl [A4 B4]
  · iapply (at_two_join (t0 d 0) (m := M4) (g := X.OB) (f := X.OB) rfl fullShare); isplitl [A4]; · iexact A4
    iexact B4
  · iapply (at_two_join (t0 d 0) (m := M5) (g := X.gU) (f := X.gU) rfl fullShare); isplitl [A5]; · iexact A5
    iexact B5

theorem ST0_0 : (ST0 R X d 0 : sProp 𝕄) = iprop(IN R X d (LL 0 0) (leaf 1 fullShare (0 : Fin 2)) ∗ (∃ g, At (t0 d 0) M8 fullShare g)
    ∗ ((∃ g, At (t0 d 0) M6 fullShare g) ∗ (∃ g, At (t0 d 0) M7 fullShare g))
    ∗ (∃ g, At (t0 d 0) (half M9 (0 : Fin 2)) fullShare g) ∗ (∃ g, At (t0 d 0) (half M10 (0 : Fin 2)) fullShare g)) := by
  unfold ST0
  rw [if_pos (show (0 : Fin 2).val = 0 from rfl), if_pos (show (0 : Fin 2).val = 0 from rfl)]

theorem ST0_1 : (ST0 R X d 1 : sProp 𝕄) = iprop(IN R X d (LL 0 0) (leaf 1 fullShare (1 : Fin 2)) ∗ emp ∗ emp
    ∗ (∃ g, At (t0 d 0) (half M9 (1 : Fin 2)) fullShare g) ∗ (∃ g, At (t0 d 0) (half M10 (1 : Fin 2)) fullShare g)) := by
  unfold ST0
  rw [if_neg (show ¬ (1 : Fin 2).val = 0 by decide), if_neg (show ¬ (1 : Fin 2).val = 0 by decide)]

/-- The facts of the results. -/
structure Good (f0 : S327680.Idx → Elt F .f32) (f2 : S1280.Idx → Elt F .f32) (f3 : S16384.Idx → Elt F .f32) : Prop where
  pri : ∀ y : S327680.Idx, f0 y = FloatOps.addf (F := F) (φ := .f32) (X.CS (y 0).val) (X.UN (X.BT (y 0).val))
  cnt : ∀ y : S1280.Idx, R.v (f2 y) = ∑ w ∈ Finset.range (16), cntT R X.BT w (y 0).val
  sum : ∀ y : S16384.Idx, R.v (f3 y) = ∑ w ∈ Finset.range (16), accT X.BT X.obs ((y 0).val / 8192) w ((y 0).val % 8192)

def bars : sProp 𝕄 := bigSep Finset.univ fun c : Fin 2 => bigSep Finset.univ fun i : Fin 16 => semVal (bcell d (co c) i) 0

section Call

variable [∀ e, Nonempty (Elt F e)]

theorem st_deal : iprop(IN R X d (LL 0 0) fullShare ∗ (∃ g, At (t0 d 0) M6 fullShare g) ∗ (∃ g, At (t0 d 0) M7 fullShare g) ∗ (∃ g, At (t0 d 0) M8 fullShare g)
      ∗ (∃ g, At (t0 d 0) M9 fullShare g) ∗ (∃ g, At (t0 d 0) M10 fullShare g))
    ⊢ bigSep Finset.univ fun c : Fin 2 => (ST0 R X d c : sProp 𝕄) := by
  rw [bigSep_two (fun c : Fin 2 => (ST0 R X d c : sProp 𝕄)), ST0_0, ST0_1]
  iintro ⟨HI, H6, H7, H8, H9, H10⟩
  ihave HI := (in_two R X d) $$ HI
  icases HI with ⟨I0, I1⟩
  ihave H9 := ((half_deal d M9).trans (Entails.of_eq (bigSep_two fun k : Fin 2 => iprop(∃ g, At (t0 d 0) (half M9 k) fullShare g)))) $$ H9
  icases H9 with ⟨A9, B9⟩
  ihave H10 := ((half_deal d M10).trans (Entails.of_eq (bigSep_two fun k : Fin 2 => iprop(∃ g, At (t0 d 0) (half M10 k) fullShare g)))) $$ H10
  icases H10 with ⟨A10, B10⟩
  isplitl [I0 H6 H7 H8 A9 A10]
  · isplitl [I0]; · iexact I0
    isplitl [H8]; · iexact H8
    isplitl [H6 H7]
    · isplitl [H6]; · iexact H6
      iexact H7
    isplitl [A9]; · iexact A9
    iexact A10
  · isplitl [I1]; · iexact I1
    isplitr; · iempintro
    isplitr; · iempintro
    isplitl [B9]; · iexact B9
    iexact B10

theorem DN0_0 : (DN0 R X d 0 : sProp 𝕄) = iprop(IN R X d (LL 0 0) (leaf 1 fullShare (0 : Fin 2))
    ∗ (∃ g : S1280.Idx → Elt F .f32, ⌜∀ y : S1280.Idx, R.v (g y) = ∑ w ∈ Finset.range (16), cntT R X.BT w (y 0).val⌝ ∗ At (t0 d 0) M8 fullShare g)
    ∗ ((∃ g : S327680.Idx → Elt F .f32, ⌜∀ y : S327680.Idx, g y = FloatOps.addf (F := F) (φ := .f32) (X.CS (y 0).val) (X.UN (X.BT (y 0).val))⌝ ∗ At (t0 d 0) M6 fullShare g) ∗ (∃ g, At (t0 d 0) M7 fullShare g))
    ∗ (∃ g : S8192.Idx → Elt F .f32, ⌜∀ y : S8192.Idx, R.v (g y) = ∑ w ∈ Finset.range (16), accT X.BT X.obs (0 : Fin 2).val w (y 0).val⌝ ∗ At (t0 d 0) (half M9 (0 : Fin 2)) fullShare g)
    ∗ (∃ g, At (t0 d 0) (half M10 (0 : Fin 2)) fullShare g)
    ∗ bigSep Finset.univ fun i : Fin 16 => semVal (bcell d (co 0) i) 0) := by
  unfold DN0
  rw [if_pos (show (0 : Fin 2).val = 0 from rfl), if_pos (show (0 : Fin 2).val = 0 from rfl)]

theorem DN0_1 : (DN0 R X d 1 : sProp 𝕄) = iprop(IN R X d (LL 0 0) (leaf 1 fullShare (1 : Fin 2)) ∗ emp ∗ emp
    ∗ (∃ g : S8192.Idx → Elt F .f32, ⌜∀ y : S8192.Idx, R.v (g y) = ∑ w ∈ Finset.range (16), accT X.BT X.obs (1 : Fin 2).val w (y 0).val⌝ ∗ At (t0 d 0) (half M9 (1 : Fin 2)) fullShare g)
    ∗ (∃ g, At (t0 d 0) (half M10 (1 : Fin 2)) fullShare g)
    ∗ bigSep Finset.univ fun i : Fin 16 => semVal (bcell d (co 1) i) 0) := by
  unfold DN0
  rw [if_neg (show ¬ (1 : Fin 2).val = 0 by decide), if_neg (show ¬ (1 : Fin 2).val = 0 by decide)]

theorem nine_join : iprop((∃ g : S8192.Idx → Elt F .f32, ⌜∀ y : S8192.Idx, R.v (g y) = ∑ w ∈ Finset.range (16), accT X.BT X.obs (0 : Fin 2).val w (y 0).val⌝ ∗ At (t0 d 0) (half M9 (0 : Fin 2)) fullShare g)
      ∗ (∃ g : S8192.Idx → Elt F .f32, ⌜∀ y : S8192.Idx, R.v (g y) = ∑ w ∈ Finset.range (16), accT X.BT X.obs (1 : Fin 2).val w (y 0).val⌝ ∗ At (t0 d 0) (half M9 (1 : Fin 2)) fullShare g))
    ⊢ (iprop(∃ g : S16384.Idx → Elt F .f32, ⌜∀ y : S16384.Idx, R.v (g y) = ∑ w ∈ Finset.range (16), accT X.BT X.obs ((y 0).val / 8192) w ((y 0).val % 8192)⌝ ∗ At (t0 d 0) M9 fullShare g) : sProp 𝕄) := by
  refine BI.Entails.trans ?_ (half_join d M9 fun k y v => R.v v = ∑ w ∈ Finset.range (16), accT X.BT X.obs k w y)
  rw [bigSep_two (fun k : Fin 2 => (iprop(∃ g : S8192.Idx → Elt F .f32, ⌜∀ y : S8192.Idx, (fun k y v => R.v v = ∑ w ∈ Finset.range (16), accT X.BT X.obs k w y) k.val (y 0).val (g y)⌝ ∗ At (t0 d 0) (half M9 k) fullShare g) : sProp 𝕄))]
  exact BI.Entails.refl _

theorem ten_join : iprop((∃ g, At (t0 d 0) (half M10 (0 : Fin 2)) fullShare g) ∗ (∃ g, At (t0 d 0) (half M10 (1 : Fin 2)) fullShare g))
    ⊢ (iprop(∃ g : S16384.Idx → Elt F .f32, At (t0 d 0) M10 fullShare g) : sProp 𝕄) := by
  refine BI.Entails.trans ?_ (half_join_some d M10)
  rw [bigSep_two (fun k : Fin 2 => (iprop(∃ g : S8192.Idx → Elt F .f32, At (t0 d 0) (half M10 k) fullShare g) : sProp 𝕄))]
  exact BI.Entails.refl _

theorem dn_join : (bigSep Finset.univ fun c : Fin 2 => (DN0 R X d c : sProp 𝕄))
    ⊢ iprop(IN R X d (LL 0 0) fullShare ∗ (∃ f0 f1 : S327680.Idx → Elt F .f32, ∃ f2 : S1280.Idx → Elt F .f32, ∃ f3 f4 : S16384.Idx → Elt F .f32,
        ⌜Good R X f0 f2 f3⌝ ∗ At (t0 d 0) M6 fullShare f0 ∗ At (t0 d 0) M7 fullShare f1 ∗ At (t0 d 0) M8 fullShare f2 ∗ At (t0 d 0) M9 fullShare f3 ∗ At (t0 d 0) M10 fullShare f4)
        ∗ bars d) := by
  unfold bars
  rw [bigSep_two (fun c : Fin 2 => (DN0 R X d c : sProp 𝕄)), DN0_0, DN0_1,
    bigSep_two (fun c : Fin 2 => (bigSep Finset.univ fun i : Fin 16 => semVal (bcell d (co c) i) 0 : sProp 𝕄))]
  iintro ⟨⟨I0, ⟨%f2, %h2, H8⟩, ⟨⟨%f0, %h0, H6⟩, ⟨%f1, H7⟩⟩, A9, A10, A⟩, I1, -, -, B9, B10, B⟩
  ihave HI := (in_two_join R X d) $$ [I0 I1]
  · isplitl [I0]; · iexact I0
    iexact I1
  ihave H9 := (nine_join R X d) $$ [A9 B9]
  · isplitl [A9]; · iexact A9
    iexact B9
  icases H9 with ⟨%f3, %h3, H9⟩
  ihave H10 := (ten_join d) $$ [A10 B10]
  · isplitl [A10]; · iexact A10
    iexact B10
  icases H10 with ⟨%f4, H10⟩
  isplitl [HI]; · iexact HI
  isplitl [H6 H7 H8 H9 H10]
  · iexists f0; iexists f1; iexists f2; iexists f3; iexists f4
    isplitr; · ipureintro; exact ⟨h0, h2, h3⟩
    isplitl [H6]; · iexact H6
    isplitl [H7]; · iexact H7
    isplitl [H8]; · iexact H8
    isplitl [H9]; · iexact H9
    iexact H10
  isplitl [A]; · iexact A
  iexact B

end Call

end Cert.Proof.Seg

end
-- ==== Proof.Run.lean ====
/-
  The run of the whole program.
-/
module

public import proofs.«01_k».proof.Proof.Around

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo

attribute [local instance] blocks

variable {M : Type} [AddCommMonoid M] (R : Rdg F M)
variable (m : (ℓ : Loc nD τ sig) → Buf (Elt F) ℓ) (ρ : Dev nD → PrngReg)

/-- The arguments on a device. -/
abbrev aC (d : Dev nD) : S320000.Idx → Elt F .f32 := m ((d.tc : Thread nD τ).loc main_arg0)
abbrev aB (d : Dev nD) : S320000.Idx → BitVec 32 := m ((d.tc : Thread nD τ).loc main_arg1)
abbrev aO (d : Dev nD) : S320000x128.Idx → Elt F .f32 := m ((d.tc : Thread nD τ).loc main_arg2)
abbrev aU (d : Dev nD) : S64.Idx → Elt F .f32 := m ((d.tc : Thread nD τ).loc main_arg3)

/-- The one device. -/
abbrev dev : Dev nD := 0
theorem dev_eq (d : Dev nD) : d = dev := Subsingleton.elim _ _

variable (hb : ∀ d : Dev nD, Segs (aB m d))

abbrev XX : Inp R := inp R (aC m dev) (aB m dev) (aO m dev) (aU m dev) (hb dev)

/-- The buffers when the call starts. -/
def VA : Valuation τ sig (Elt F) := after opsA (launchContents m dev)

theorem held_call_start : (held (T dev) callRefs (VA m) : sProp 𝕄)
    ⊢ iprop(IN R (XX R m hb) dev (LL 0 0) fullShare ∗ (∃ g, At (t0 dev 0) M6 fullShare g) ∗ (∃ g, At (t0 dev 0) M7 fullShare g) ∗ (∃ g, At (t0 dev 0) M8 fullShare g)
      ∗ (∃ g, At (t0 dev 0) M9 fullShare g) ∗ (∃ g, At (t0 dev 0) M10 fullShare g)) := by
  unfold VA
  rw [held_call, A_v1, A_v3, A_v5, A_arg2]
  unfold IN
  iintro ⟨H2, H3, H4, H5, H6, H7, H8, H9, H10⟩
  isplitl [H2 H3 H4 H5]
  · isplitl [H2]; · iexact H2
    isplitl [H3]; · iexact H3
    isplitl [H4]; · iexact H4
    iexact H5
  isplitl [H6]; · iexists _; iexact H6
  isplitl [H7]; · iexists _; iexact H7
  isplitl [H8]; · iexists _; iexact H8
  isplitl [H9]; · iexists _; iexact H9
  iexists _; iexact H10

theorem held_call_end (f0 f1 : S327680.Idx → Elt F .f32) (f2 : S1280.Idx → Elt F .f32) (f3 f4 : S16384.Idx → Elt F .f32) :
    iprop(IN R (XX R m hb) dev (LL 0 0) fullShare ∗ At (t0 dev 0) M6 fullShare f0 ∗ At (t0 dev 0) M7 fullShare f1 ∗ At (t0 dev 0) M8 fullShare f2 ∗ At (t0 dev 0) M9 fullShare f3 ∗ At (t0 dev 0) M10 fullShare f4)
      ⊢ (held (T dev) callRefs (V1 (VA m) f0 f1 f2 f3 f4) : sProp 𝕄) := by
  rw [held_call, V1_0, V1_1, V1_2, V1_3, V1_4,
    V1_of_ne _ _ _ _ _ _ (Proc.devRef .tc main_v1) (by decide) (by decide) (by decide) (by decide) (by decide),
    V1_of_ne _ _ _ _ _ _ (Proc.devRef .tc main_v3) (by decide) (by decide) (by decide) (by decide) (by decide),
    V1_of_ne _ _ _ _ _ _ (Proc.devRef .tc main_arg2) (by decide) (by decide) (by decide) (by decide) (by decide),
    V1_of_ne _ _ _ _ _ _ (Proc.devRef .tc main_v5) (by decide) (by decide) (by decide) (by decide) (by decide)]
  unfold VA
  rw [A_v1, A_v3, A_v5, A_arg2]
  unfold IN
  iintro ⟨⟨H2, H3, H4, H5⟩, H6, H7, H8, H9, H10⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What the host holds at the end. -/
def FIN (d : Dev nD) : sProp 𝕄 :=
  iprop((∃ f0 f1 : S327680.Idx → Elt F .f32, ∃ f2 : S1280.Idx → Elt F .f32, ∃ f3 f4 : S16384.Idx → Elt F .f32,
    ⌜Good R (XX R m hb) f0 f2 f3⌝ ∗ held (T d) (Pipeline.ucRefs τ sig) (after opsB (V1 (VA m) f0 f1 f2 f3 f4))) ∗ bars d)

theorem held_all (W : Valuation τ sig (Elt F)) (d : Dev nD) : (held (T d) (Pipeline.ucRefs τ sig) W : sProp 𝕄)
    = iprop(held (T d) callRefs W ∗ held (T d) (Pipeline.ucRefs τ sig \ callRefs) W) := held_sub_split (T d) callRefs_sub W

section Run

variable [∀ e, Nonempty (Elt F e)]

theorem st_eq (d : Dev nD) : (bigSep Finset.univ fun c : Fin ((K (F := F)).nCore 0) => (P R (XX R m hb)).st 0 d c)
    = bigSep Finset.univ fun c : Fin 2 => (ST0 R (XX R m hb) d c : sProp 𝕄) := rfl
theorem dn_eq (d : Dev nD) : (bigSep Finset.univ fun c : Fin ((K (F := F)).nCore 0) => (P R (XX R m hb)).dn 0 d c)
    = bigSep Finset.univ fun c : Fin 2 => (DN0 R (XX R m hb) d c : sProp 𝕄) := rfl

/-- The host's program: it pads, calls, cuts and sums. -/
theorem hmain (κ : GSem nD τ sig → ℕ) (d : Dev nD) :
    iprop((K (F := F)).ctx EH (P R (XX R m hb)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN R m hb d ∗ (K (F := F)).tcEnd d) := by
  obtain rfl := dev_eq d
  unfold SparseCore.Cfg.tcRes SparseCore.Cfg.tcEnd
  rw [show (unscopedBufs dev (fun b => m ((SparseCore.T dev).loc b)) : sProp 𝕄) = held (T dev) (Pipeline.ucRefs τ sig) (launchContents m dev)
    from Pipeline.unscopedBufs_held dev (launchContents m dev), main_eq]
  iintro ⟨#Hctx, Hst, ⟨Hb, Hheld, Hts, -⟩, -⟩
  iapply (wp_seq 𝒱 none Set.univ dev (Pipeline.ucRefs τ sig) _ opsA opsA_uc opsA_fresh (launchContents m dev)) $$ [Hb Hheld]
  · isplitl [Hb]; · iexact Hb
    iexact Hheld
  iintro ⟨Hb, Hheld⟩
  rw [wp_bind]
  ihave Hheld := (show (held (dev.tc : Thread nD τ) (Pipeline.ucRefs τ sig) (after opsA (launchContents m dev)) : sProp 𝕄) ⊢ _ from Entails.of_eq (held_all (VA m) dev)) $$ Hheld
  icases Hheld with ⟨Hcall, Hrest⟩
  ihave Hcall := ((held_call_start R m hb).trans (st_deal R (XX R m hb) dev)) $$ Hcall
  iapply ((K (F := F)).wp_run (D (F := F)) 𝒱 (EH := EH) (P := P R (XX R m hb)) κ dev 0) $$ [Hst Hcall Hb Hrest Hts]
  isplitr; · iexact Hctx
  isplitl [Hst]; · iexact Hst
  isplitl [Hcall]
  · rw [st_eq]; iexact Hcall
  iintro ⟨Hst, Hdn⟩
  ihave Hdn := ((Entails.of_eq (dn_eq R m hb dev)).trans (dn_join R (XX R m hb) dev)) $$ Hdn
  icases Hdn with ⟨HI, ⟨%f0, %f1, %f2, %f3, %f4, %hg, H6, H7, H8, H9, H10⟩, Hbars⟩
  ihave Hcall := (held_call_end R m hb f0 f1 f2 f3 f4) $$ [HI H6 H7 H8 H9 H10]
  · isplitl [HI]; · iexact HI
    isplitl [H6]; · iexact H6
    isplitl [H7]; · iexact H7
    isplitl [H8]; · iexact H8
    isplitl [H9]; · iexact H9
    iexact H10
  ihave Hrest := (Entails.of_eq (held_rest dev (VA m) f0 f1 f2 f3 f4)) $$ Hrest
  ihave Hheld := (Entails.of_eq (held_all (V1 (VA m) f0 f1 f2 f3 f4) dev).symm) $$ [Hcall Hrest]
  · isplitl [Hcall]; · iexact Hcall
    iexact Hrest
  iapply (wp_seq 𝒱 none Set.univ dev (Pipeline.ucRefs τ sig) _ opsB opsB_uc opsB_fresh (V1 (VA m) f0 f1 f2 f3 f4)) $$ [Hb Hheld]
  · isplitl [Hb]; · iexact Hb
    iexact Hheld
  iintro ⟨Hb, Hheld⟩
  rw [wp_pure]; imodintro
  isplitl [Hst]; · iexact Hst
  isplitr [Hb Hts]
  · unfold FIN
    isplitl [Hheld]
    · iexists f0; iexists f1; iexists f2; iexists f3; iexists f4
      isplitr; · ipureintro; exact hg
      iexact Hheld
    iexact Hbars
  isplitl [Hb] <;> iassumption

/-- What the memory holds in the end. -/
def fq (d : Dev nD) (s' : Phys nD τ sig (Elt F)) : Prop :=
  (∃ (f0 f1 : S327680.Idx → Elt F .f32) (f2 : S1280.Idx → Elt F .f32) (f3 f4 : S16384.Idx → Elt F .f32), Good R (XX R m hb) f0 f2 f3
    ∧ ∀ b ∈ Pipeline.ucRefs τ sig, s'.mem.mem (d, b) = after opsB (V1 (VA m) f0 f1 f2 f3 f4) b)
  ∧ ∀ (c : Fin 2) (i : Fin 16), s'.mem.sem (bcell d (co c) i) = 0

theorem hfin_bars (d : Dev nD) (s' : Phys nD τ sig (Elt F)) (c : Fin 2) (i : Fin 16) :
    iprop(bars d ∗ SI s') ⊢ (⌜s'.mem.sem (bcell d (co c) i) = 0⌝ : sProp 𝕄) := by
  unfold bars
  exact (sep_mono_left ((SparseCore.ent (bigSep_elim (Finset.mem_univ c))).trans (SparseCore.ent (bigSep_elim (Finset.mem_univ i))))).trans (SparseCore.Cfg.semVal_zero_read _ s')

theorem hfin (d : Dev nD) (s' : Phys nD τ sig (Elt F)) : iprop(FIN R m hb d ∗ SI s') ⊢ (⌜fq R m hb d s'⌝ : sProp 𝕄) := by
  have hbars : iprop(FIN R m hb d ∗ SI s') ⊢ (⌜∀ (c : Fin 2) (i : Fin 16), s'.mem.sem (bcell d (co c) i) = 0⌝ : sProp 𝕄) := fun x hx c i =>
    ((sep_mono_left (show (FIN R m hb d : sProp 𝕄) ⊢ bars d from by unfold FIN; exact sep_elim_right)).trans (hfin_bars d s' c i)) x hx
  have hmem : iprop(FIN R m hb d ∗ SI s') ⊢ (⌜∃ (f0 f1 : S327680.Idx → Elt F .f32) (f2 : S1280.Idx → Elt F .f32) (f3 f4 : S16384.Idx → Elt F .f32), Good R (XX R m hb) f0 f2 f3
      ∧ ∀ b ∈ Pipeline.ucRefs τ sig, s'.mem.mem (d, b) = after opsB (V1 (VA m) f0 f1 f2 f3 f4) b⌝ : sProp 𝕄) := by
    unfold FIN held
    iintro ⟨⟨⟨%f0, %f1, %f2, %f3, %f4, %hg, H⟩, -⟩, HSI⟩
    ihave %h := (SI_pointsTo_bufs_agree (st := s') (c := d) (qs := fun _ => fullShare) (F := after opsB (V1 (VA m) f0 f1 f2 f3 f4)) (Pipeline.ucRefs τ sig)) $$ [HSI H]
    · isplitl [HSI]; · iexact HSI
      iexact H
    ipureintro
    exact ⟨f0, f1, f2, f3, f4, hg, h⟩
  exact fun x hx => ⟨hmem x hx, hbars x hx⟩

theorem hA (s' : Phys nD τ sig (Elt F)) (h : ∀ d, fq R m hb d s') (g : GSem nD τ sig) (hg : g ∈ bCells) : s'.mem.sem g = 0 := by
  obtain ⟨⟨d, c, i⟩, -, rfl⟩ := Finset.mem_image.mp hg
  exact (h d).2 ⟨c.val, c.isLt⟩ i

/-- The run's result, memory by memory. -/
def QC : PUnit × MemSt nD τ sig (Elt F) → Prop := fun r =>
  (∃ (f0 f1 : S327680.Idx → Elt F .f32) (f2 : S1280.Idx → Elt F .f32) (f3 f4 : S16384.Idx → Elt F .f32), Good R (XX R m hb) f0 f2 f3
    ∧ ∀ b ∈ Pipeline.ucRefs τ sig, r.2.mem (dev, b) = after opsB (V1 (VA m) f0 f1 f2 f3 f4) b) ∧ r.2.sem = fun _ => 0

theorem run_main : θ_run (Cert.KernelIdeal.defs (F := F)) (Cert.KernelIdeal.threads (F := F)) ⟨m, fun _ => 0, ρ⟩ (QC R m hb) :=
  SparseCore.Cfg.θ_run_sc_quiescent (K := K (F := F)) (D := D (F := F)) (𝒱 := 𝒱) (EH := EH) (P := P R (XX R m hb)) (hA := hA R m hb) facts v₀
    (fun q hq => match q with | 0 => nomatch hq)
    (fun q _ => match q with | 0 => tileObl R (XX R m hb) facts)
    (fun q _ => match q with | 0 => vecSplit R (XX R m hb))
    m ρ main (fun _ => iprop(emp)) (FIN R m hb) (u₀ (F := F)) (hu₀ R (XX R m hb)) (hmain R m ρ hb) (fq R m hb) (hfin R m hb) (QC R m hb) (fun _ h hz => ⟨(h dev).1, hz⟩)

end Run

end Cert.Proof.Seg

end
-- ==== Proof.Precond.lean ====
/-
  What the precondition says of the segments.
-/
module

public import proofs.«01_k».proof.Proof.Input
public import proofs.«01_k».proof.Proof.Gen.Pre_sorted_segments
public import Idealize.ShloMosaic.Lib.ReduceAll
public import Idealize.ShloMosaic.Lib.WordCmp

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

instance preFacts : Cert.Pre_sorted_segments.Facts := Cert.Pre_sorted_segments.Gen.facts

theorem andi_left {x y : BitVec 1} (h : IntOp.andi x y = 1#1) : x = 1#1 := by
  revert x y; decide
theorem andi_right {x y : BitVec 1} (h : IntOp.andi x y = 1#1) : y = 1#1 := by
  revert x y; decide

theorem ofBool_one {p : Prop} [Decidable p] (h : BitVec.ofBool (decide p) = 1#1) : p := by
  by_contra hp
  rw [decide_eq_false hp] at h
  exact absurd h (by decide)

instance : Subsingleton Cert.Pre_sorted_segments.S_.Idx := ⟨fun a b => funext fun i => i.elim0⟩

/-- The precondition says that there are 64 segments and that they stand in order. -/
theorem segs_of (x : S320000.Idx → Elt F .f32) (b : S320000.Idx → BitVec 32) (o : S320000x128.Idx → Elt F .f32) (u : S64.Idx → Elt F .f32)
    (h : Cert.Pre_sorted_segments.fn (F := F) x b o u = fun _ => 1#1) : Segs b := by
  have h0 := congrFun h (fun i => i.elim0)
  unfold Cert.Pre_sorted_segments.fn at h0
  dsimp only at h0
  have hA := andi_left h0
  have hS := andi_right h0
  have hG := andi_left hA
  have hL := andi_right hA
  have ge : ∀ i, 0 ≤ (b i).toInt := fun i => by
    have e := Host.reduce_andi_all _ _ _ _ _ hG i
    exact ofBool_one ((WordCmp.cmpi_sge_eq (b i) (0#32)).symm.trans e)
  have lt : ∀ i, (b i).toInt < 64 := fun i => by
    have e := Host.reduce_andi_all _ _ _ _ _ hL i
    exact ofBool_one ((WordCmp.cmpi_slt_eq (b i) (64#32)).symm.trans e)
  have nat : ∀ i, (b i).toInt = ((b i).toNat : ℤ) := fun i => by
    have h1 := ge i
    have h2 := (b i).isLt
    rw [BitVec.toInt_eq_toNat_cond] at h1 ⊢
    split_ifs at h1 ⊢ <;> omega
  have step : ∀ n (hn : n + 1 < 320000), (b (at1 n (by omega))).toNat ≤ (b (at1 (n + 1) hn)).toNat := fun n hn => by
    have e := Host.reduce_andi_all _ _ _ _ _ hS (at1 n (show n < 319999 by omega))
    have e' := ofBool_one ((WordCmp.cmpi_sle_eq _ _).symm.trans e)
    have e2 : (b (at1 n (by omega))).toInt ≤ (b (at1 (n + 1) hn)).toInt := by
      refine le_of_eq_of_le ?_ (le_of_le_of_eq e' ?_)
      · exact congrArg (fun i => (b i).toInt) (at1_eta (n := 320000) _ _ _ (show 0 + n = n by omega)).symm
      · exact congrArg (fun i => (b i).toInt) (at1_eta (n := 320000) _ _ _ (show 1 + n = n + 1 by omega))
    rw [nat, nat] at e2
    exact_mod_cast e2
  have mono : ∀ k n (hn : n + k < 320000), (b (at1 n (by omega))).toNat ≤ (b (at1 (n + k) hn)).toNat := by
    intro k
    induction k with
    | zero => exact fun n hn => le_rfl
    | succ k ih => exact fun n hn => (ih n (by omega)).trans (step (n + k) hn)
  refine ⟨fun i => ?_, fun i j hij => ?_⟩
  · have h1 := lt i
    rw [nat] at h1
    exact_mod_cast h1
  · have hj : (j 0).val < 320000 := (j 0).isLt
    have hi : (i 0).val < 320000 := (i 0).isLt
    have e := mono ((j 0).val - (i 0).val) (i 0).val (by omega)
    rw [at1_eta i (i 0).val hi rfl, at1_eta j ((i 0).val + ((j 0).val - (i 0).val)) (by omega) (by omega)]
    exact e

end Cert.Proof.Seg

end
-- ==== Proof.Frames.lean ====
/-
  The frames of the two kernel programs.
-/
module

public import proofs.«01_k».proof.Defs
public import proofs.«01_k».proof.Proof.Run
public import proofs.«01_k».proof.Proof.Precond
public import proofs.«01_k».proof.Proof.Gen.Kernel

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo

attribute [local instance] blocks

/-- The reading that reads nothing. -/
def nilRdg (F : FTy → Type) [FloatOps F] : Rdg F ℕ where
  v := fun _ => 0
  one := 0
  add := fun _ _ => rfl
  idxAdd := fun _ _ => rfl
  zero := rfl
  one_eq := rfl

variable {M : Type} [AddCommMonoid M] (R : Rdg F M)
variable (m : (ℓ : Loc nD τ sig) → Buf (Elt F) ℓ) (ρ : Dev nD → PrngReg) (hb : ∀ d : Dev nD, Segs (aB m d))

/-- The arguments end as they were. -/
theorem args_of (r : PUnit × MemSt nD τ sig (Elt F)) (h : QC R m hb r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨⟨f0, f1, f2, f3, f4, -, hm⟩, -⟩ := h
  obtain rfl := dev_eq c
  refine ⟨(hm _ (Pipeline.devRef_mem_ucRefs rfl)).trans ?_, (hm _ (Pipeline.devRef_mem_ucRefs rfl)).trans ?_,
    (hm _ (Pipeline.devRef_mem_ucRefs rfl)).trans ?_, (hm _ (Pipeline.devRef_mem_ucRefs rfl)).trans ?_⟩
  · refine (B_arg0 _).trans ((V1_of_ne _ _ _ _ _ _ (Proc.devRef .tc main_arg0) (by decide) (by decide) (by decide) (by decide) (by decide)).trans (A_arg0 _))
  · refine (B_arg1 _).trans ((V1_of_ne _ _ _ _ _ _ (Proc.devRef .tc main_arg1) (by decide) (by decide) (by decide) (by decide) (by decide)).trans (A_arg1 _))
  · refine (B_arg2 _).trans ((V1_of_ne _ _ _ _ _ _ (Proc.devRef .tc main_arg2) (by decide) (by decide) (by decide) (by decide) (by decide)).trans (A_arg2 _))
  · refine (B_arg3 _).trans ((V1_of_ne _ _ _ _ _ _ (Proc.devRef .tc main_arg3) (by decide) (by decide) (by decide) (by decide) (by decide)).trans (A_arg3 _))

include hb in
/-- The run, where the segments stand in order: the arguments end unchanged, every counter zero. -/
theorem frame_of [∀ e, Nonempty (Elt F e)] : θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run (Cert.KernelIdeal.defs (F := F)) _ _).mono (fun r h => ⟨args_of (nilRdg F) m hb r h, h.2⟩) (run_main (nilRdg F) m ρ hb)

theorem frame_ideal : Cert.quiescent_KernelIdeal := fun m g hp =>
  frame_of (F := Ideal) m g fun d => segs_of _ _ _ _ (hp d)

theorem frame_kernel : Cert.quiescent_Kernel := fun m g hp =>
  frame_of (F := Bits) m g fun d => segs_of _ _ _ _ (hp d)

end Cert.Proof.Seg

end
-- ==== Proof.Sums.lean ====
/-
  Sums over tiles, lanes and cores as sums over all rows.
-/
module

public import proofs.«01_k».proof.Proof.Own

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Finset

variable {M : Type} [AddCommMonoid M]

/-- A sum cut into stretches. -/
theorem sum_two (f : ℕ → M) (c : ℕ) : ∀ k, ∑ n ∈ range (k * c), f n = ∑ w ∈ range k, ∑ x ∈ range c, f (c * w + x)
  | 0 => by simp
  | k + 1 => by rw [Nat.succ_mul, Finset.sum_range_add, sum_two f c k, Finset.sum_range_succ, Nat.mul_comm k c]

/-- A sum whose terms past a bound are zero. -/
theorem sum_cut (f : ℕ → M) (a n : ℕ) (h : a ≤ n) (hz : ∀ x, a ≤ x → x < n → f x = 0) : ∑ x ∈ range n, f x = ∑ x ∈ range a, f x :=
  (Finset.sum_subset (fun x hx => mem_range.2 (lt_of_lt_of_le (mem_range.1 hx) h)) fun x hx hx' => hz x (not_lt.1 fun h' => hx' (mem_range.2 h')) (mem_range.1 hx)).symm

/-- The counts of all tiles and lanes. -/
theorem counts_all (one : M) (BT : ℕ → ℕ) (s : ℕ) :
    ∑ l ∈ range 16, ∑ w ∈ range 16, keysAdd one (fun r => BT (20480 * w + r)) 20480 (16 * s + l) = ∑ n ∈ range 327680, if BT n = s then one else 0 := by
  rw [show (327680 : ℕ) = 16 * 20480 from rfl, sum_two, Finset.sum_comm]
  refine Finset.sum_congr rfl fun w _ => ?_
  unfold keysAdd
  rw [Finset.sum_comm]
  refine Finset.sum_congr rfl fun x _ => ?_
  by_cases h : BT (20480 * w + x) = s
  · rw [if_pos h, Finset.sum_eq_single (x % 16)]
    · rw [if_pos (by dsimp only; omega)]
    · intro l hl hne
      have := mem_range.1 hl
      rw [if_neg (by dsimp only; omega)]
    · intro hx
      exact absurd (mem_range.2 (Nat.mod_lt x (by decide))) hx
  · rw [if_neg h]
    refine Finset.sum_eq_zero fun l hl => if_neg ?_
    have := mem_range.1 hl
    dsimp only
    omega

/-- The row sums of all cores and tiles. -/
theorem sums_all (BT : ℕ → ℕ) (obs : ℕ → ℕ → M) (s k : ℕ) (hk : k < 128) :
    ∑ c ∈ range 2, ∑ w ∈ range 16, accT BT obs c w (128 * s + k) = ∑ n ∈ range 320000, if BT n = s then obs n k else 0 := by
  have e : ∀ c w, accT BT obs c w (128 * s + k)
      = ∑ r ∈ range 10240, (fun n => if n < 320000 then (if BT n = s then obs n k else 0) else 0) (20480 * w + (10240 * c + r)) := fun c w => by
    unfold accT rowsAdd
    rw [show (128 * s + k) / 128 = s by omega, show (128 * s + k) % 128 = k by omega,
      sum_cut _ (min 10240 (320000 - (20480 * w + 10240 * c))) 10240 (min_le_left _ _) fun x hx hx' => if_neg (by omega)]
    refine Finset.sum_congr rfl fun r hr => ?_
    have := mem_range.1 hr
    dsimp only
    rw [if_pos (show 20480 * w + (10240 * c + r) < 320000 by omega), Nat.add_assoc (20480 * w)]
  rw [Finset.sum_congr rfl fun c _ => Finset.sum_congr rfl fun w _ => e c w, Finset.sum_comm,
    ← Finset.sum_congr rfl fun w _ => sum_two (fun x => (fun n => if n < 320000 then (if BT n = s then obs n k else 0) else 0) (20480 * w + x)) 10240 2,
    show 2 * 10240 = 20480 from rfl]
  refine (sum_two (fun n => if n < 320000 then (if BT n = s then obs n k else 0) else 0) 20480 16).symm.trans ?_
  rw [sum_cut _ 320000 (16 * 20480) (by decide) fun x hx _ => if_neg (by omega)]
  exact Finset.sum_congr rfl fun n hn => if_pos (mem_range.1 hn)

end Cert.Proof.Seg

end
-- ==== Proof.Reference.lean ====
/-
  The reference's run.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.StableHlo Idealize.SL.Sem

variable {F : FTy → Type} [FloatOps F]

/-- The reference's operations. -/
abbrev ops : List (HloOp τ sig (Elt F)) :=
  [ nullary main_cst (constant S_ .f32 0x3F800000#32),
    unary main_cst main_v0 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v1 (broadcastInDim S64 ![] bcast_S_S64 : (⟨S_, .f32⟩ : BufTy).Contents (Elt F) → (⟨S64, .f32⟩ : BufTy).Contents (Elt F)),
    unary main_arg1 main_v2 (broadcastInDim S320000x1 ![0] bcast_S320000_S320000x1_0 : (⟨S320000, .i32⟩ : BufTy).Contents (Elt F) → (⟨S320000x1, .i32⟩ : BufTy).Contents (Elt F)),
    ternary main_v1 main_v2 main_v0 main_v3 ((fun x i u => Host.scatterAdd scatter_S64_S320000x1_S320000_n_0_0_1 x i u) : (⟨S64, .f32⟩ : BufTy).Contents (Elt F) → (⟨S320000x1, .i32⟩ : BufTy).Contents (Elt F) → (⟨S320000, .f32⟩ : BufTy).Contents (Elt F) → (⟨S64, .f32⟩ : BufTy).Contents (Elt F)),
    nullary main_cst_1 (constant S_ .f32 0x00000000#32),
    unary main_cst_1 main_v4 (broadcastInDim S64x128 ![] bcast_S_S64x128 : (⟨S_, .f32⟩ : BufTy).Contents (Elt F) → (⟨S64x128, .f32⟩ : BufTy).Contents (Elt F)),
    unary main_arg1 main_v5 (broadcastInDim S320000x1 ![0] bcast_S320000_S320000x1_0 : (⟨S320000, .i32⟩ : BufTy).Contents (Elt F) → (⟨S320000x1, .i32⟩ : BufTy).Contents (Elt F)),
    ternary main_v4 main_v5 main_arg2 main_v6 ((fun x i u => Host.scatterAdd scatter_S64x128_S320000x1_S320000x128_1_0_0_1 x i u) : (⟨S64x128, .f32⟩ : BufTy).Contents (Elt F) → (⟨S320000x1, .i32⟩ : BufTy).Contents (Elt F) → (⟨S320000x128, .f32⟩ : BufTy).Contents (Elt F) → (⟨S64x128, .f32⟩ : BufTy).Contents (Elt F)),
    nullary main_c (constantI S_ 32 0#32),
    unary main_c main_v7 (broadcastInDim S320000 ![] bcast_S_S320000 : (⟨S_, .i32⟩ : BufTy).Contents (Elt F) → (⟨S320000, .i32⟩ : BufTy).Contents (Elt F)),
    binary main_arg1 main_v7 main_v8 (cmpi .slt : (⟨S320000, .i32⟩ : BufTy).Contents (Elt F) → (⟨S320000, .i32⟩ : BufTy).Contents (Elt F) → (⟨S320000, .i1⟩ : BufTy).Contents (Elt F)),
    nullary main_c_2 (constantI S_ 32 64#32),
    unary main_c_2 main_v9 (broadcastInDim S320000 ![] bcast_S_S320000 : (⟨S_, .i32⟩ : BufTy).Contents (Elt F) → (⟨S320000, .i32⟩ : BufTy).Contents (Elt F)),
    binary main_arg1 main_v9 main_v10 (addi : (⟨S320000, .i32⟩ : BufTy).Contents (Elt F) → (⟨S320000, .i32⟩ : BufTy).Contents (Elt F) → (⟨S320000, .i32⟩ : BufTy).Contents (Elt F)),
    ternary main_v8 main_v10 main_arg1 main_v11 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v11 main_v12 (broadcastInDim S320000x1 ![0] bcast_S320000_S320000x1_0 : (⟨S320000, .i32⟩ : BufTy).Contents (Elt F) → (⟨S320000x1, .i32⟩ : BufTy).Contents (Elt F)),
    binary main_arg3 main_v12 main_v13 ((fun x i => Host.gather gather_S64_S320000x1_S320000_n_0_n_n_0_1_1 x i) : (⟨S64, .f32⟩ : BufTy).Contents (Elt F) → (⟨S320000x1, .i32⟩ : BufTy).Contents (Elt F) → (⟨S320000, .f32⟩ : BufTy).Contents (Elt F)),
    binary main_arg0 main_v13 main_v14 (addf : (⟨S320000, .f32⟩ : BufTy).Contents (Elt F) → (⟨S320000, .f32⟩ : BufTy).Contents (Elt F) → (⟨S320000, .f32⟩ : BufTy).Contents (Elt F)) ]

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem main_eq (c : Dev nD) : main (F := F) c = seq ops := by
  simp only [main, seq, bind_assoc, pure_bind]
  try rfl

theorem scopedRefs_eq : (Finset.univ.filter fun b : Ref sig .tc => b.isScoped) = ∅ := by decide
theorem scopedSems_eq : (Finset.univ.filter fun sm : SemLoc sig => sm.isScoped .tc) = ∅ := by decide

section Read

variable (W : Valuation τ sig (Elt F))

/-- The column of a row's segment. -/
abbrev col (b : S320000.Idx → BitVec 32) : S320000x1.Idx → BitVec 32 := broadcastInDim S320000x1 ![0] bcast_S320000_S320000x1_0 b

/-- A row's segment, wrapped where it is below zero. -/
abbrev wrapped (b : S320000.Idx → BitVec 32) : S320000.Idx → BitVec 32 :=
  select (cmpi .slt b (broadcastInDim S320000 ![] bcast_S_S320000 (constantI S_ 32 0#32))) (addi b (broadcastInDim S320000 ![] bcast_S_S320000 (constantI S_ 32 64#32))) b

theorem v3 : after ops W (Proc.devRef .tc main_v3)
    = Host.scatterAdd (F := F) scatter_S64_S320000x1_S320000_n_0_0_1 (broadcastInDim S64 ![] bcast_S_S64 (constant S_ .f32 0x00000000#32))
        (col (W (Proc.devRef .tc main_arg1))) (broadcastInDim S320000 ![] bcast_S_S320000 (constant S_ .f32 0x3F800000#32)) := by
  after_results_simp
  try rfl

theorem v6 : after ops W (Proc.devRef .tc main_v6)
    = Host.scatterAdd (F := F) scatter_S64x128_S320000x1_S320000x128_1_0_0_1 (broadcastInDim S64x128 ![] bcast_S_S64x128 (constant S_ .f32 0x00000000#32))
        (col (W (Proc.devRef .tc main_arg1))) (W (Proc.devRef .tc main_arg2)) := by
  after_results_simp
  try rfl

theorem v14 : after ops W (Proc.devRef .tc main_v14)
    = addf (W (Proc.devRef .tc main_arg0)) (Host.gather gather_S64_S320000x1_S320000_n_0_n_n_0_1_1 (W (Proc.devRef .tc main_arg3)) (col (wrapped (W (Proc.devRef .tc main_arg1))))) := by
  after_results_simp
  try rfl

theorem arg0 : after ops W (Proc.devRef .tc main_arg0) = W (Proc.devRef .tc main_arg0) := by
  simp only [after_cons, after_nil]
  rfl
theorem arg1 : after ops W (Proc.devRef .tc main_arg1) = W (Proc.devRef .tc main_arg1) := by
  simp only [after_cons, after_nil]
  rfl
theorem arg2 : after ops W (Proc.devRef .tc main_arg2) = W (Proc.devRef .tc main_arg2) := by
  simp only [after_cons, after_nil]
  rfl
theorem arg3 : after ops W (Proc.devRef .tc main_arg3) = W (Proc.devRef .tc main_arg3) := by
  simp only [after_cons, after_nil]
  rfl

end Read

variable (m : (ℓ : Loc nD τ sig) → Buf (Elt F) ℓ) (ρ : Dev nD → PrngReg)

/-- The run ends with every buffer as the operations leave it. -/
theorem run : θ_run (defs (F := F)) (onTc (τ := τ) (main (F := F))) ⟨m, fun _ => 0, ρ⟩
    fun r => ∀ d b, r.2.mem ((d.tc : Thread nD τ).loc b) = after ops (launchContents m d) (Proc.devRef .tc b) :=
  run_seq scopedRefs_eq scopedSems_eq defs main (fun _ => ops) main_eq (fun _ => ops_sub) m ρ

theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨(h c main_arg0).trans (arg0 _), (h c main_arg1).trans (arg1 _), (h c main_arg2).trans (arg2 _), (h c main_arg3).trans (arg3 _)⟩,
    Idealize.ShloMosaic.sem_eq_zero_of_no_sems (by decide) r.2⟩) (run m ρ)

end Cert.Proof.Ref

end
-- ==== Proof.Scatter.lean ====
/-
  What the reference's scatters and its gather give, as sums over rows.
-/
module

public import proofs.«01_k».proof.Proof.Reference
public import proofs.«01_k».proof.Proof.Input
public import Idealize.ShloMosaic.PureOps.Ideal
public import Idealize.ShloMosaic.PureOps.Ideal.Laws
public import Idealize.ShloMosaic.Lib.Routing.OpsPair
public import Idealize.ShloMosaic.Lib.Routing.OpsSet
public import Idealize.ShloMosaic.Lib.Pointwise.Index

@[expose] public section

noncomputable section

namespace Cert.Proof.Ref

open Cert.ReferenceIdeal Cert.ReferenceIdeal.Gen
open Idealize.ShloMosaic Idealize.ShloMosaic.StableHlo Idealize.SL.Sem
open Cert.Proof.Seg (Segs at1 at2 at1_eta at2_eta)

/-- The column at a row. -/
theorem col_at (b : S320000.Idx → BitVec 32) (j : S320000x1.Idx) : col b j = b (at1 (j 0).val (j 0).isLt) := by
  refine congrArg b ?_
  funext a
  obtain rfl := Fin.eq_zero a
  rfl

theorem toInt_of_lt {x : BitVec 32} (h : x.toNat < 64) : x.toInt = (x.toNat : ℤ) := by
  rw [BitVec.toInt_eq_toNat_cond, if_pos (by omega)]

/-- Where the counts' scatter puts row `j`. -/
theorem lands1 (b : S320000.Idx → BitVec 32) (hb : Segs b) (j : S320000.Idx) (i : S64.Idx) :
    scatter_S64_S320000x1_S320000_n_0_0_1.resultIdx? j (col b) = some i ↔ (b j).toNat = (i 0).val := by
  rw [Routing.resultIdx?_eq_some]
  have hw : scatter_S64_S320000x1_S320000_n_0_0_1.window j 0 = 0 := dif_neg (by decide)
  have hs : scatter_S64_S320000x1_S320000_n_0_0_1.start j (col b) 0 = ((b j).toNat : ℤ) := by
    unfold ScatterDims.start
    rw [dif_pos (by decide), col_at, ← toInt_of_lt (hb.lt j)]
    refine congrArg (fun z => (b z).toInt) (at1_eta j _ _ ?_).symm
    rfl
  constructor
  · intro h
    have := h 0
    rw [hs, hw] at this
    omega
  · intro h a
    obtain rfl := Fin.eq_zero a
    rw [hs, hw]
    omega

/-- Where the sums' scatter puts entry `j` of the rows. -/
theorem lands2 (b : S320000.Idx → BitVec 32) (hb : Segs b) (j : S320000x128.Idx) (i : S64x128.Idx) :
    scatter_S64x128_S320000x1_S320000x128_1_0_0_1.resultIdx? j (col b) = some i
      ↔ (b (at1 (j 0).val (j 0).isLt)).toNat = (i 0).val ∧ (j 1).val = (i 1).val := by
  rw [Routing.resultIdx?_eq_some]
  have hw : scatter_S64x128_S320000x1_S320000x128_1_0_0_1.window j 0 = 0 := dif_neg (by decide)
  have hw' : scatter_S64x128_S320000x1_S320000x128_1_0_0_1.window j 1 = (j 1).val := by
    unfold ScatterDims.window
    rw [dif_pos (by decide)]
    rfl
  have hs' : scatter_S64x128_S320000x1_S320000x128_1_0_0_1.start j (col b) 1 = 0 := dif_neg (by decide)
  have hs : scatter_S64x128_S320000x1_S320000x128_1_0_0_1.start j (col b) 0 = ((b (at1 (j 0).val (j 0).isLt)).toNat : ℤ) := by
    unfold ScatterDims.start
    rw [dif_pos (by decide), col_at, ← toInt_of_lt (hb.lt _)]
    refine congrArg (fun z => (b z).toInt) (at1_eta _ _ _ ?_)
    rfl
  constructor
  · intro h
    have h0 := h 0
    have h1 := h 1
    rw [hs, hw] at h0
    rw [hs', hw'] at h1
    omega
  · rintro ⟨h0, h1⟩ a
    match a with
    | 0 => rw [hs, hw]; omega
    | 1 => rw [hs', hw']; omega

/-! ## The three results -/

/-- How many rows a segment has. -/
def cntV (b : S320000.Idx → BitVec 32) : S64.Idx → EReal := fun i =>
  ∑ n : Fin 320000, if (b (at1 n.val n.isLt)).toNat = (i 0).val then (Scalar.ofBits (F := Ideal) .f32 0x3F800000#32 : EReal) else 0

/-- The sum of a segment's rows. -/
def sumV (b : S320000.Idx → BitVec 32) (o : S320000x128.Idx → EReal) : S64x128.Idx → EReal := fun i =>
  ∑ n : Fin 320000, if (b (at1 n.val n.isLt)).toNat = (i 0).val then o (at2 n.val (i 1).val n.isLt (i 1).isLt) else 0

/-- A row's priority: its coherence and its segment's uncertainty. -/
def priV (x : S320000.Idx → EReal) (b : S320000.Idx → BitVec 32) (hb : Segs b) (u : S64.Idx → EReal) : S320000.Idx → EReal := fun y =>
  x y + u (at1 (b y).toNat (hb.lt y))

theorem zero_word : (Scalar.ofBits (F := Ideal) .f32 0x00000000#32 : EReal) = 0 := Ideal.ofBits_zero_f32

theorem cnt_eq (b : S320000.Idx → BitVec 32) (hb : Segs b) :
    Host.scatterAdd (F := Ideal) scatter_S64_S320000x1_S320000_n_0_0_1 (broadcastInDim S64 ![] bcast_S_S64 (constant S_ .f32 0x00000000#32))
        (col b) (broadcastInDim S320000 ![] bcast_S_S320000 (constant S_ .f32 0x3F800000#32)) = cntV b := by
  funext i
  show (Scalar.ofBits (F := Ideal) .f32 0x00000000#32 : EReal)
    + ∑ j ∈ Finset.univ.filter (fun j => scatter_S64_S320000x1_S320000_n_0_0_1.resultIdx? j (col b) = some i), (Scalar.ofBits (F := Ideal) .f32 0x3F800000#32 : EReal) = _
  rw [zero_word, zero_add, Finset.sum_filter, sum_idx1]
  unfold cntV
  refine Finset.sum_congr rfl fun n _ => ?_
  simp only [lands1 b hb]
  rw [at1_eta (ix1 n) n.val n.isLt rfl]

theorem sum_eq (b : S320000.Idx → BitVec 32) (hb : Segs b) (o : S320000x128.Idx → EReal) :
    Host.scatterAdd (F := Ideal) scatter_S64x128_S320000x1_S320000x128_1_0_0_1 (broadcastInDim S64x128 ![] bcast_S_S64x128 (constant S_ .f32 0x00000000#32))
        (col b) (o : FVec Ideal S320000x128 .f32) = sumV b o := by
  funext i
  show (Scalar.ofBits (F := Ideal) .f32 0x00000000#32 : EReal)
    + ∑ j ∈ Finset.univ.filter (fun j => scatter_S64x128_S320000x1_S320000x128_1_0_0_1.resultIdx? j (col b) = some i), o j = _
  rw [zero_word, zero_add, Finset.sum_filter, sum_idx2]
  unfold sumV
  refine Finset.sum_congr rfl fun n _ => ?_
  simp only [lands2 b hb]
  rw [Finset.sum_eq_single ⟨(i 1).val, (i 1).isLt⟩]
  · exact if_congr (and_iff_left rfl) (congrArg o (at2_eta _ n.val (i 1).val n.isLt (i 1).isLt rfl rfl)) rfl
  · intro c _ hc
    exact if_neg fun h => hc (Fin.ext h.2)
  · exact fun h => absurd (Finset.mem_univ _) h

theorem pri_eq (x : S320000.Idx → EReal) (b : S320000.Idx → BitVec 32) (hb : Segs b) (u : S64.Idx → EReal) :
    addf (F := Ideal) (φ := .f32) x (Host.gather gather_S64_S320000x1_S320000_n_0_n_n_0_1_1 u (col (wrapped b))) = priV x b hb u := by
  funext y
  show x y + Host.gather gather_S64_S320000x1_S320000_n_0_n_n_0_1_1 u (col (wrapped b)) y = x y + u (at1 (b y).toNat (hb.lt y))
  refine congrArg (x y + ·) ?_
  have hy : y = ValueIdx.ix1 (y 0) := ValueIdx.eq_ix1 y
  have hlt := hb.lt y
  have e : col (wrapped b) (ValueIdx.ix2 (y 0) (0 : Fin 1)) = BitVec.ofNat 32 (b y).toNat := by
    rw [col_at, ← at1_eta y (y 0).val (y 0).isLt rfl, BitVec.ofNat_toNat, BitVec.setWidth_eq]
    exact Routing.wrap_of_lt (b y) _ (by omega)
  have g := Routing.gather_take1 gather_S64_S320000x1_S320000_n_0_n_n_0_1_1 rfl rfl rfl rfl u (col (wrapped b)) (y 0) ⟨(b y).toNat, hlt⟩ e (by decide)
  exact (congrArg (Host.gather gather_S64_S320000x1_S320000_n_0_n_n_0_1_1 u (col (wrapped b))) hy).trans (g.trans (congrArg u (at1_eta _ _ _ rfl)))

end Cert.Proof.Ref

end
-- ==== Proof.Value.lean ====
/-
  What the host makes of the call's results, at the extended reals.
-/
module

public import proofs.«01_k».proof.Proof.Run
public import proofs.«01_k».proof.Proof.Sums
public import proofs.«01_k».proof.Proof.Scatter
public import Idealize.ShloMosaic.Lib.Pointwise.Reduce

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo
open Cert.Proof.Ref (cntV sumV priV zero_word)

attribute [local instance] blocks

/-- The reading of an extended real: itself. -/
def idRdg : Rdg Ideal EReal where
  v := fun x => x
  one := (Scalar.ofBits (F := Ideal) .f32 0x3F800000#32 : EReal)
  add := fun _ _ => rfl
  idxAdd := fun _ _ => rfl
  zero := zero_word
  one_eq := rfl

variable (x : S320000.Idx → EReal) (b : S320000.Idx → BitVec 32) (o : S320000x128.Idx → EReal) (u : S64.Idx → EReal) (hb : Segs b)

/-- The call's operands at the extended reals. -/
abbrev XI : Inp idRdg := inp idRdg x b o u hb

theorem bt_lo (n : ℕ) (h : n < 320000) : (XI x b o u hb).BT n = (b (at1 n h)).toNat := congrArg BitVec.toNat (rdB_lo b n h)
theorem bt_hi (n : ℕ) (h : ¬ n < 320000) (h' : n < 327680) : (XI x b o u hb).BT n = 64 := congrArg BitVec.toNat (rdB_hi b n h h')
theorem un_lo (n : ℕ) (h : n < 64) : (XI x b o u hb).UN n = u (at1 n h) := by
  have e : n % 128 = n := Nat.mod_eq_of_lt (by omega)
  exact (catU_lo u _ (at1 (n % 128) (Nat.mod_lt _ (by decide))) (show n % 128 < 64 by omega)).trans (congrArg u (at1_eta _ _ _ e))

variable (f0 : S327680.Idx → EReal) (f2 : S1280.Idx → EReal) (f3 : S16384.Idx → EReal) (hg : Good (F := Ideal) idRdg (XI x b o u hb) f0 f2 f3)

include hg in
theorem pri_val : extractStridedSlice S320000 ![0] f0 slices_S327680_S320000_0 = priV x b hb u := by
  funext y
  have hy : (y 0).val < 320000 := (y 0).isLt
  have e0 := hg.pri (fun a => ⟨(![0] : Fin 1 → ℕ) a + (y (a.cast slices_S327680_S320000_0.1.symm)).val, Nat.lt_of_lt_of_le (Nat.add_lt_add_left (y _).isLt _) (slices_S327680_S320000_0.2 a)⟩)
  refine (show extractStridedSlice S320000 ![0] f0 slices_S327680_S320000_0 y = _ from e0).trans ?_
  have k : (0 : ℕ) + (y 0).val = (y 0).val := Nat.zero_add _
  show (XI x b o u hb).CS (0 + (y 0).val) + (XI x b o u hb).UN ((XI x b o u hb).BT (0 + (y 0).val)) = x y + u (at1 (b y).toNat (hb.lt y))
  rw [k, bt_lo x b o u hb _ hy, un_lo x b o u hb _ (hb.lt _)]
  have e1 : (XI x b o u hb).CS (y 0).val = x y := (rdF_lo (F := Ideal) x (y 0).val hy).trans (congrArg x (at1_eta y _ _ rfl).symm)
  rw [e1]
  refine congrArg (x y + ·) (congrArg u (at1_eta _ _ _ ?_))
  exact congrArg (fun z => (b z).toNat) (at1_eta y _ _ rfl).symm

/-- The rows past the last are of no segment. -/
theorem cnt_cut (one : EReal) (s : ℕ) (hs : s < 64) : (∑ n ∈ Finset.range 327680, if (XI x b o u hb).BT n = s then one else 0)
    = ∑ n : Fin 320000, if (b (at1 n.val n.isLt)).toNat = s then one else 0 := by
  rw [sum_cut _ 320000 327680 (by decide) fun n hn hn' => if_neg (by rw [bt_hi x b o u hb n (by omega) hn']; omega), Finset.sum_range]
  exact Finset.sum_congr rfl fun n _ => by rw [bt_lo x b o u hb n.val n.isLt]

include hg in
theorem cnt_val : Host.reduceAdd (F := Ideal) (shapeCast S64x16 (extractStridedSlice S1024 ![0] f2 slices_S1280_S1024_0) shapeCasts_S1024_S64x16)
    (constant S_ .f32 0x00000000#32) reducesTo_S64x16_S64_d1 h_S_ = cntV b := by
  funext i
  have hi : (i 0).val < 64 := (i 0).isLt
  refine (Ideal.hostReduceAdd_r2_a1 reducesTo_S64x16_S64_d1 _ _ i).trans ?_
  show (Scalar.ofBits (F := Ideal) .f32 0x00000000#32 : EReal) + _ = _
  rw [zero_word, zero_add]
  have e : ∀ l : Fin 16, shapeCast S64x16 (extractStridedSlice S1024 ![0] f2 slices_S1280_S1024_0) shapeCasts_S1024_S64x16 (ix2 (i 0) l)
      = ∑ w ∈ Finset.range 16, keysAdd idRdg.one (fun r => (XI x b o u hb).BT (20480 * w + r)) 20480 (16 * (i 0).val + l.val) := fun l => by
    have hl : l.val < 16 := l.isLt
    rw [shapeCast_apply _ _ _ (at1 (16 * (i 0).val + l.val) (by omega)) (by
      rw [Shape.rowMajor_val_one, Shape.rowMajor_val_two]
      show 16 * (i 0).val + l.val = (i 0).val * 16 + l.val
      omega)]
    refine (congrArg f2 (at1_eta (n := 1280) _ (16 * (i 0).val + l.val) (by omega) (show 0 + (16 * (i 0).val + l.val) = _ by omega))).trans ?_
    exact hg.cnt _
  refine (Finset.sum_congr rfl fun l _ => e l).trans ?_
  rw [← Finset.sum_range fun l => ∑ w ∈ Finset.range 16, keysAdd idRdg.one (fun r => (XI x b o u hb).BT (20480 * w + r)) 20480 (16 * (i 0).val + l), counts_all]
  exact cnt_cut x b o u hb _ _ hi

/-- One core's half of the sums. -/
theorem half_val (c : ℕ) (hc : c < 2) (i : S64x128.Idx) (h : S2x64x128.Slices ![c, 0, 0] S1x64x128) :
    shapeCast S64x128 (extractStridedSlice S1x64x128 ![c, 0, 0] (shapeCast S2x64x128 f3 shapeCasts_S16384_S2x64x128) h) shapeCasts_S1x64x128_S64x128 i
      = f3 (at1 (8192 * c + (128 * (i 0).val + (i 1).val)) (by
        have h0 : (i 0).val < 64 := (i 0).isLt
        have h1 : (i 1).val < 128 := (i 1).isLt
        omega)) := by
  have h0 : (i 0).val < 64 := (i 0).isLt
  have h1 : (i 1).val < 128 := (i 1).isLt
  refine (shapeCast_apply (s := S1x64x128) (t := S64x128) _ _ i (ix3 (0 : Fin 1) (i 0) (i 1)) (by
    rw [Shape.rowMajor_val_three, Shape.rowMajor_val_two]
    show (0 * 64 + (i 0).val) * 128 + (i 1).val = (i 0).val * 128 + (i 1).val
    omega)).trans ?_
  unfold extractStridedSlice
  refine shapeCast_apply f3 _ _ _ ?_
  rw [Shape.rowMajor_val_three, Shape.rowMajor_val_one]
  show 8192 * c + (128 * (i 0).val + (i 1).val) = ((c + 0) * 64 + (0 + (i 0).val)) * 128 + (0 + (i 1).val)
  omega

include hg in
theorem sum_val : addf (F := Ideal) (φ := .f32)
      (shapeCast S64x128 (extractStridedSlice S1x64x128 ![0, 0, 0] (shapeCast S2x64x128 f3 shapeCasts_S16384_S2x64x128) slices_S2x64x128_S1x64x128_0_0_0) shapeCasts_S1x64x128_S64x128)
      (shapeCast S64x128 (extractStridedSlice S1x64x128 ![1, 0, 0] (shapeCast S2x64x128 f3 shapeCasts_S16384_S2x64x128) slices_S2x64x128_S1x64x128_1_0_0) shapeCasts_S1x64x128_S64x128)
    = sumV b o := by
  funext i
  have h0 : (i 0).val < 64 := (i 0).isLt
  have h1 : (i 1).val < 128 := (i 1).isLt
  have e : ∀ c (hc : c < 2), f3 (at1 (8192 * c + (128 * (i 0).val + (i 1).val)) (by omega))
      = ∑ w ∈ Finset.range 16, accT (XI x b o u hb).BT (XI x b o u hb).obs c w (128 * (i 0).val + (i 1).val) := fun c hc => by
    refine (hg.sum _).trans ?_
    show (∑ w ∈ Finset.range 16, accT (XI x b o u hb).BT (XI x b o u hb).obs ((8192 * c + (128 * (i 0).val + (i 1).val)) / 8192) w ((8192 * c + (128 * (i 0).val + (i 1).val)) % 8192)) = _
    rw [show (8192 * c + (128 * (i 0).val + (i 1).val)) / 8192 = c by omega, show (8192 * c + (128 * (i 0).val + (i 1).val)) % 8192 = 128 * (i 0).val + (i 1).val by omega]
  refine (congrArg₂ (fun p q : EReal => p + q) ((half_val f3 0 (by decide) i _).trans (e 0 (by decide))) ((half_val f3 1 (by decide) i _).trans (e 1 (by decide)))).trans ?_
  have t := sums_all (XI x b o u hb).BT (XI x b o u hb).obs (i 0).val (i 1).val h1
  rw [Finset.sum_range_succ, Finset.sum_range_succ, Finset.sum_range_zero, zero_add] at t
  refine t.trans ?_
  unfold sumV
  rw [Finset.sum_range]
  refine Finset.sum_congr rfl fun n _ => ?_
  rw [bt_lo x b o u hb n.val n.isLt]
  refine if_congr Iff.rfl ?_ rfl
  exact congrArg o (at2_eta _ _ _ _ _ (Nat.mod_eq_of_lt n.isLt) (Nat.mod_eq_of_lt h1))

end Cert.Proof.Seg

end
-- ==== Proof.Algebra.lean ====
/-
  The value claim.
-/
module

public import proofs.«01_k».proof.Proof.Frames
public import proofs.«01_k».proof.Proof.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 2) (Elt F) ℕ UU ℕ

open Idealize.ShloMosaic.StableHlo
open Cert.Proof.Ref (cntV sumV priV)

attribute [local instance] blocks

theorem pri_congr {x x' : S320000.Idx → EReal} {b b' : S320000.Idx → BitVec 32} {u u' : S64.Idx → EReal} (hx : x = x') (hb : b = b') (hu : u = u') :
    addf (F := Ideal) (φ := .f32) x (Host.gather Cert.ReferenceIdeal.gather_S64_S320000x1_S320000_n_0_n_n_0_1_1 u (Cert.Proof.Ref.col (Cert.Proof.Ref.wrapped b)))
      = addf (F := Ideal) (φ := .f32) x' (Host.gather Cert.ReferenceIdeal.gather_S64_S320000x1_S320000_n_0_n_n_0_1_1 u' (Cert.Proof.Ref.col (Cert.Proof.Ref.wrapped b'))) := by
  rw [hx, hb, hu]

theorem cnt_congr {b b' : S320000.Idx → BitVec 32} {z : S64.Idx → EReal} {w : S320000.Idx → EReal} (hb : b = b') :
    Host.scatterAdd (F := Ideal) (φ := .f32) Cert.ReferenceIdeal.scatter_S64_S320000x1_S320000_n_0_0_1 z (Cert.Proof.Ref.col b) w
      = Host.scatterAdd (F := Ideal) (φ := .f32) Cert.ReferenceIdeal.scatter_S64_S320000x1_S320000_n_0_0_1 z (Cert.Proof.Ref.col b') w := by
  rw [hb]

theorem sum_congr {b b' : S320000.Idx → BitVec 32} {z : S64x128.Idx → EReal} {o o' : S320000x128.Idx → EReal} (hb : b = b') (ho : o = o') :
    Host.scatterAdd (F := Ideal) (φ := .f32) Cert.ReferenceIdeal.scatter_S64x128_S320000x1_S320000x128_1_0_0_1 z (Cert.Proof.Ref.col b) o
      = Host.scatterAdd (F := Ideal) (φ := .f32) Cert.ReferenceIdeal.scatter_S64x128_S320000x1_S320000x128_1_0_0_1 z (Cert.Proof.Ref.col b') o' := by
  rw [hb, ho]

/-- The kernel and the reference, at the extended reals, end with the same results. -/
theorem algebraic : Cert.algebraic_KernelIdeal_ReferenceIdeal := fun m g m' g' hp ha => by
  have hb : ∀ d : Dev nD, Segs (aB (F := Ideal) m d) := fun d => segs_of (F := Ideal) _ _ _ _ (hp d)
  refine ⟨fun _ => priV (aC (F := Ideal) m dev) (aB (F := Ideal) m dev) (hb dev) (aU (F := Ideal) m dev), fun _ => cntV (aB (F := Ideal) m dev), fun _ => sumV (aB (F := Ideal) m dev) (aO (F := Ideal) m dev), ?_, ?_⟩
  · refine (θ_run (Cert.KernelIdeal.defs (F := Ideal)) _ _).mono (fun r h c => ?_) (run_main (F := Ideal) idRdg m g hb)
    have hargs := args_of (F := Ideal) idRdg m hb r h c
    obtain ⟨⟨f0, f1, f2, f3, f4, hg, hm⟩, -⟩ := h
    obtain rfl := dev_eq c
    refine ⟨(hm _ (Pipeline.devRef_mem_ucRefs rfl)).trans ?_, (hm _ (Pipeline.devRef_mem_ucRefs rfl)).trans ?_, (hm _ (Pipeline.devRef_mem_ucRefs rfl)).trans ?_, hargs⟩
    · refine (B_v7 _).trans ?_
      rw [V1_0]
      exact pri_val _ _ _ _ _ f0 f2 f3 hg
    · refine (B_v13 _).trans ?_
      rw [V1_2]
      exact cnt_val _ _ _ _ _ f0 f2 f3 hg
    · refine (B_v18 _).trans ?_
      rw [V1_3]
      exact sum_val _ _ _ _ _ f0 f2 f3 hg
  · refine (θ_run (Cert.ReferenceIdeal.defs (F := Ideal)) _ _).mono (fun r h c => ?_) (Cert.Proof.Ref.run (F := Ideal) m' g')
    obtain rfl := dev_eq c
    obtain ⟨a0, a1, a2, a3⟩ := ha dev
    refine ⟨(h dev _).trans ((Cert.Proof.Ref.v14 _).trans ?_), (h dev _).trans ((Cert.Proof.Ref.v3 _).trans ?_), (h dev _).trans ((Cert.Proof.Ref.v6 _).trans ?_),
      (h dev _).trans (Cert.Proof.Ref.arg0 _), (h dev _).trans (Cert.Proof.Ref.arg1 _), (h dev _).trans (Cert.Proof.Ref.arg2 _), (h dev _).trans (Cert.Proof.Ref.arg3 _)⟩
    · refine Eq.trans ?_ (Cert.Proof.Ref.pri_eq _ _ (hb dev) _)
      exact pri_congr a0 a1 a3
    · refine Eq.trans ?_ (Cert.Proof.Ref.cnt_eq _ (hb dev))
      exact cnt_congr a1
    · refine Eq.trans ?_ (Cert.Proof.Ref.sum_eq _ (hb dev) _)
      exact sum_congr a1 a2

end Cert.Proof.Seg

end
-- ==== Proof.DenseOneStages.lean ====
/-
  The steps of the recurrent cell, as the reference writes them, one by one.
-/
module

public import proofs.«01_k».proof.Reference1Ideal
public import Idealize.ShloMosaic.Lib.Pointwise

@[expose] public section

set_option maxRecDepth 16384

noncomputable section

namespace Cert.Proof.One

open Idealize.ShloMosaic Idealize.SL.Sem Cert.Reference1Ideal

/-- A float array at the extended reals. -/
abbrev A (s : Shape) := FVec Ideal s .f32

variable [Cert.Reference1Ideal.Facts]

/-- A bias of 256 entries as 64 equal rows. -/
def bias (b : A S256) : A S64x256 :=
  broadcastInDim S64x256 ![0, 1] Facts₀.bcast_S1x256_S64x256_0_1 (broadcastInDim S1x256 ![1] Facts₀.bcast_S256_S1x256_1 b)

/-- A bias of 128 entries as 64 equal rows. -/
def bias128 (b : A S128) : A S64x128 :=
  broadcastInDim S64x128 ![0, 1] Facts₀.bcast_S1x128_S64x128_0_1 (broadcastInDim S1x128 ![1] Facts₀.bcast_S128_S1x128_1 b)

/-- One number in every entry. -/
def full (w : BitVec 32) : A S64x256 :=
  broadcastInDim S64x256 ![] Facts₀.bcast_S_S64x256 (constant S_ .f32 w)

/-- The product with a square matrix of 256 rows. -/
def dot (x : A S64x256) (w : A S256x256) : A S64x256 :=
  Host.dotGeneral dot_S64x256_S256x256_S64x256_1_0_0_1_n_n none x w

/-- The first layer. -/
def X (pre : A S64x70) (w : A S70x256) (b : A S256) : A S64x256 :=
  maximumf (addf (Host.dotGeneral dot_S64x70_S70x256_S64x256_1_0_0_1_n_n none pre w) (bias b)) (full 0x00000000#32)

/-- What a gate's function is taken of. -/
def lin (x h : A S64x256) (wx wh : A S256x256) (b : A S256) : A S64x256 :=
  addf (addf (dot x wx) (dot h wh)) (bias b)

/-- A gate. -/
def gate (x h : A S64x256) (wx wh : A S256x256) (b : A S256) : A S64x256 :=
  Host.divf (full 0x3F800000#32) (addf (full 0x3F800000#32) (Host.exp (Host.negf (lin x h wx wh b))))

/-- The new state from the two gates. -/
def state (h x r u : A S64x256) (wx wh : A S256x256) (b : A S256) : A S64x256 :=
  addf (mulf u h) (mulf (subf (full 0x3F800000#32) u) (Host.tanh (lin x (mulf r h) wx wh b)))

/-- The uncertainty of a state. -/
def unc (h : A S64x256) (w₁ : A S256x256) (b₁ : A S256) (w₂ : A S256x128) (b₂ : A S128) : A S64x1 :=
  mulf (broadcastInDim S64x1 ![] Facts₀.bcast_S_S64x1 (constant S_ .f32 0x3F000000#32))
    (broadcastInDim S64x1 ![0] Facts₀.bcast_S64_S64x1_0
      (Host.reduceAdd (addf (extractStridedSlice S64x64 ![0, 64]
        (addf (Host.dotGeneral dot_S64x256_S256x128_S64x128_1_0_0_1_n_n none
          (maximumf (addf (dot h w₁) (bias b₁)) (full 0x00000000#32)) w₂) (bias128 b₂)) Facts₀.slices_S64x128_S64x64_0_64)
        (broadcastInDim S64x64 ![] Facts₀.bcast_S_S64x64 (constant S_ .f32 0x40359FC7#32)))
        (constant S_ .f32 0x00000000#32) Facts₀.reducesTo_S64x64_S64_d1 Facts₀.h_S_))

end Cert.Proof.One

end
-- ==== Proof.DenseOneBody.lean ====
/-
  What the first dense call computes of its blocks, step by step: the steps of the reference.
-/
module

public import proofs.«01_k».proof.Proof.DenseOneStages
public import proofs.«01_k».proof.Proof.Gen.Dense1Ideal.Skeleton
public import Idealize.ShloMosaic.Lib.Pointwise

@[expose] public section

set_option maxRecDepth 16384

noncomputable section

namespace Cert.Proof.One

open Idealize.ShloMosaic Idealize.SL.Sem Cert.Dense1Ideal
open Cert.Dense1Ideal.Gen (k0_pay1 k0_pay2 k0_pay3 k0_pay4 k0_pay5)

variable [Cert.Reference1Ideal.Facts] [Cert.Dense1Ideal.Facts]

theorem pay1 (pre : A S64x70) (w : A S70x256) (b : A S256) :
    k0_pay1 (F := Ideal) pre w (shapeCast S1x256 b Facts₀.shapeCasts_S256_S1x256) = X pre w b := by
  funext j
  idx_vars j
  pointwise [k0_pay1, X, bias, full]

theorem pay2 (pre : A S64x70) (h : A S64x256) (w : A S70x256) (b : A S1x256) (wx wh : A S256x256) (b' : A S256) :
    k0_pay2 (F := Ideal) pre h w b wx wh (shapeCast S1x256 b' Facts₀.shapeCasts_S256_S1x256)
      = gate (k0_pay1 (F := Ideal) pre w b) h wx wh b' := by
  unfold k0_pay2
  generalize k0_pay1 (F := Ideal) pre w b = x
  funext j
  idx_vars j
  pointwise [gate, lin, dot, bias, full, Ideal.logistic]

theorem pay3 (pre : A S64x70) (h : A S64x256) (w : A S70x256) (b : A S1x256) (wx wh : A S256x256) (b' : A S256) :
    k0_pay3 (F := Ideal) pre h w b wx wh (shapeCast S1x256 b' Facts₀.shapeCasts_S256_S1x256)
      = gate (k0_pay1 (F := Ideal) pre w b) h wx wh b' := by
  unfold k0_pay3
  generalize k0_pay1 (F := Ideal) pre w b = x
  funext j
  idx_vars j
  pointwise [gate, lin, dot, bias, full, Ideal.logistic]

theorem pay4 (h x r u : A S64x256) (wx wh : A S256x256) (b : A S256) :
    k0_pay4 (F := Ideal) h x r u wx wh (shapeCast S1x256 b Facts₀.shapeCasts_S256_S1x256) = state h x r u wx wh b := by
  funext j
  idx_vars j
  pointwise [k0_pay4, state, lin, dot, bias, full]

theorem pay5 (h x r u : A S64x256) (wx wh : A S256x256) (b : A S1x256) (w₁ : A S256x256) (b₁ : A S256)
    (w₂ : A S256x128) (b₂ : A S128) :
    k0_pay5 (F := Ideal) h x r u wx wh b w₁ (shapeCast S1x256 b₁ Facts₀.shapeCasts_S256_S1x256) w₂
        (shapeCast S1x128 b₂ Facts₀.shapeCasts_S128_S1x128)
      = unc (k0_pay4 (F := Ideal) h x r u wx wh b) w₁ b₁ w₂ b₂ := by
  unfold k0_pay5
  generalize k0_pay4 (F := Ideal) h x r u wx wh b = s
  funext j
  idx_vars j
  pointwise [unc, dot, bias, bias128, full]

end Cert.Proof.One

end
-- ==== Proof.DenseOneEnd.lean ====
/-
  What the first dense call leaves in its two results, at the extended reals.
-/
module

public import proofs.«01_k».proof.Proof.DenseOneBody
public import proofs.«01_k».proof.Proof.Gen.Dense1Ideal.Value
public import Idealize.ShloMosaic.Lib.Pipeline.ValueKit

@[expose] public section

set_option maxRecDepth 16384

noncomputable section

namespace Cert.Proof.One

open Idealize.ShloMosaic Idealize.ShloMosaic.TcCoe Idealize.SL.Sem Cert.Dense1Ideal Cert.Dense1Ideal.Gen
open Idealize.ShloMosaic.Pipeline (Dat)

variable [Cert.Reference1Ideal.Facts] [Cert.Dense1Ideal.Facts]
variable (m : (ℓ : Loc nD τ sig) → Buf (Elt Ideal) ℓ)

/-- An argument as launched. -/
abbrev arg (c : Dev nD) (b : Ref sig .tc) : Buf (Elt Ideal) ((c : Thread nD τ).loc b) := m ((c : Thread nD τ).loc b)

theorem blk0 (c : Dev nD) (t : Fin cfg0.N) : iblk m c 0 t = V m c main_v0 := by
  unfold iblk
  exact Memref.read_access_unit_zero (Elt Ideal) main_v0 (funext fun a => Nat.zero_mul _) (fun a => by simp) _

theorem blk1 (c : Dev nD) (t : Fin cfg0.N) : iblk m c 1 t = V m c main_arg0 := by
  unfold iblk
  exact Memref.read_access_unit_zero (Elt Ideal) main_arg0 (funext fun a => Nat.zero_mul _) (fun a => by simp) _

theorem blk2 (c : Dev nD) (t : Fin cfg0.N) : iblk m c 2 t = V m c main_arg4 := by
  unfold iblk
  exact Memref.read_access_unit_zero (Elt Ideal) main_arg4 (funext fun a => Nat.zero_mul _) (fun a => by simp) _

theorem blk3 (c : Dev nD) (t : Fin cfg0.N) : iblk m c 3 t = V m c main_v1 := by
  unfold iblk
  exact Memref.read_access_unit_zero (Elt Ideal) main_v1 (funext fun a => Nat.zero_mul _) (fun a => by simp) _

theorem blk4 (c : Dev nD) (t : Fin cfg0.N) : iblk m c 4 t = V m c main_arg6 := by
  unfold iblk
  exact Memref.read_access_unit_zero (Elt Ideal) main_arg6 (funext fun a => Nat.zero_mul _) (fun a => by simp) _

theorem blk5 (c : Dev nD) (t : Fin cfg0.N) : iblk m c 5 t = V m c main_arg7 := by
  unfold iblk
  exact Memref.read_access_unit_zero (Elt Ideal) main_arg7 (funext fun a => Nat.zero_mul _) (fun a => by simp) _

theorem blk6 (c : Dev nD) (t : Fin cfg0.N) : iblk m c 6 t = V m c main_v2 := by
  unfold iblk
  exact Memref.read_access_unit_zero (Elt Ideal) main_v2 (funext fun a => Nat.zero_mul _) (fun a => by simp) _

theorem blk7 (c : Dev nD) (t : Fin cfg0.N) : iblk m c 7 t = V m c main_arg9 := by
  unfold iblk
  exact Memref.read_access_unit_zero (Elt Ideal) main_arg9 (funext fun a => Nat.zero_mul _) (fun a => by simp) _

theorem blk8 (c : Dev nD) (t : Fin cfg0.N) : iblk m c 8 t = V m c main_arg10 := by
  unfold iblk
  exact Memref.read_access_unit_zero (Elt Ideal) main_arg10 (funext fun a => Nat.zero_mul _) (fun a => by simp) _

theorem blk9 (c : Dev nD) (t : Fin cfg0.N) : iblk m c 9 t = V m c main_v3 := by
  unfold iblk
  exact Memref.read_access_unit_zero (Elt Ideal) main_v3 (funext fun a => Nat.zero_mul _) (fun a => by simp) _

theorem blk10 (c : Dev nD) (t : Fin cfg0.N) : iblk m c 10 t = V m c main_arg12 := by
  unfold iblk
  exact Memref.read_access_unit_zero (Elt Ideal) main_arg12 (funext fun a => Nat.zero_mul _) (fun a => by simp) _

theorem blk11 (c : Dev nD) (t : Fin cfg0.N) : iblk m c 11 t = V m c main_arg13 := by
  unfold iblk
  exact Memref.read_access_unit_zero (Elt Ideal) main_arg13 (funext fun a => Nat.zero_mul _) (fun a => by simp) _

theorem blk12 (c : Dev nD) (t : Fin cfg0.N) : iblk m c 12 t = V m c main_v4 := by
  unfold iblk
  exact Memref.read_access_unit_zero (Elt Ideal) main_v4 (funext fun a => Nat.zero_mul _) (fun a => by simp) _

theorem blk13 (c : Dev nD) (t : Fin cfg0.N) : iblk m c 13 t = V m c main_arg15 := by
  unfold iblk
  exact Memref.read_access_unit_zero (Elt Ideal) main_arg15 (funext fun a => Nat.zero_mul _) (fun a => by simp) _

theorem blk14 (c : Dev nD) (t : Fin cfg0.N) : iblk m c 14 t = V m c main_v5 := by
  unfold iblk
  exact Memref.read_access_unit_zero (Elt Ideal) main_v5 (funext fun a => Nat.zero_mul _) (fun a => by simp) _

theorem blk15 (c : Dev nD) (t : Fin cfg0.N) : iblk m c 15 t = V m c main_arg17 := by
  unfold iblk
  exact Memref.read_access_unit_zero (Elt Ideal) main_arg17 (funext fun a => Nat.zero_mul _) (fun a => by simp) _

theorem blk16 (c : Dev nD) (t : Fin cfg0.N) : iblk m c 16 t = V m c main_v6 := by
  unfold iblk
  exact Memref.read_access_unit_zero (Elt Ideal) main_v6 (funext fun a => Nat.zero_mul _) (fun a => by simp) _

theorem V0 (c : Dev nD) : V m c main_v0
    = concatenate S64x70 1 [⟨S64x64, arg m c main_arg1⟩, ⟨S64x5, arg m c main_arg2⟩, ⟨S64x1, arg m c main_arg3⟩]
        Facts₀.concatenates_S64x64_S64x5_S64x1_S64x70_d1 := by
  unfold V hostOps0
  after_results_simp <;> rfl

theorem V1 (c : Dev nD) : V m c main_v1 = shapeCast S1x256 (arg m c main_arg5) Facts₀.shapeCasts_S256_S1x256 := by
  unfold V hostOps0
  after_results_simp <;> rfl

theorem V2 (c : Dev nD) : V m c main_v2 = shapeCast S1x256 (arg m c main_arg8) Facts₀.shapeCasts_S256_S1x256 := by
  unfold V hostOps0
  after_results_simp <;> rfl

theorem V3 (c : Dev nD) : V m c main_v3 = shapeCast S1x256 (arg m c main_arg11) Facts₀.shapeCasts_S256_S1x256 := by
  unfold V hostOps0
  after_results_simp <;> rfl

theorem V4 (c : Dev nD) : V m c main_v4 = shapeCast S1x256 (arg m c main_arg14) Facts₀.shapeCasts_S256_S1x256 := by
  unfold V hostOps0
  after_results_simp <;> rfl

theorem V5 (c : Dev nD) : V m c main_v5 = shapeCast S1x256 (arg m c main_arg16) Facts₀.shapeCasts_S256_S1x256 := by
  unfold V hostOps0
  after_results_simp <;> rfl

theorem V6 (c : Dev nD) : V m c main_v6 = shapeCast S1x128 (arg m c main_arg18) Facts₀.shapeCasts_S128_S1x128 := by
  unfold V hostOps0
  after_results_simp <;> rfl

theorem zero2 : (![0, 0] : Fin 2 → ℕ) = fun _ => 0 :=
  funext fun a => by fin_cases a <;> rfl

theorem out17 (x0 : A S64x70) (x1 : A S64x256) (x2 : A S70x256) (x3 : A S1x256) (x4 : A S256x256) (x5 : A S256x256) (x6 : A S1x256) (x7 : A S256x256) (x8 : A S256x256) (x9 : A S1x256) (x10 : A S256x256) (x11 : A S256x256) (x12 : A S1x256) (x13 : A S256x256) (x14 : A S1x256) (x15 : A S256x128) (x16 : A S1x128) :
    out0_17 (F := Ideal) x0 x1 x2 x3 x4 x5 x6 x7 x8 x9 x10 x11 x12 x13 x14 x15 x16
      = k0_pay4 (F := Ideal) x1 (k0_pay1 (F := Ideal) x0 x2 x3) (k0_pay2 (F := Ideal) x0 x1 x2 x3 x4 x5 x6) (k0_pay3 (F := Ideal) x0 x1 x2 x3 x7 x8 x9) x10 x11 x12 := by
  unfold_out out0_17
  rw [View.canon_unit_zero zero2]
  simp only [View.ld_unit_zero (S := S64x70) zero2, View.ld_unit_zero (S := S64x256) zero2, View.ld_unit_zero (S := S70x256) zero2, View.ld_unit_zero (S := S1x256) zero2, View.ld_unit_zero (S := S256x256) zero2, View.ld_unit_zero (S := S256x128) zero2, View.ld_unit_zero (S := S1x128) zero2]

theorem out18 (x0 : A S64x70) (x1 : A S64x256) (x2 : A S70x256) (x3 : A S1x256) (x4 : A S256x256) (x5 : A S256x256) (x6 : A S1x256) (x7 : A S256x256) (x8 : A S256x256) (x9 : A S1x256) (x10 : A S256x256) (x11 : A S256x256) (x12 : A S1x256) (x13 : A S256x256) (x14 : A S1x256) (x15 : A S256x128) (x16 : A S1x128) :
    out0_18 (F := Ideal) x0 x1 x2 x3 x4 x5 x6 x7 x8 x9 x10 x11 x12 x13 x14 x15 x16
      = k0_pay5 (F := Ideal) x1 (k0_pay1 (F := Ideal) x0 x2 x3) (k0_pay2 (F := Ideal) x0 x1 x2 x3 x4 x5 x6) (k0_pay3 (F := Ideal) x0 x1 x2 x3 x7 x8 x9) x10 x11 x12
          x13 x14 x15 x16 := by
  unfold_out out0_18
  rw [View.canon_unit_zero zero2]
  simp only [View.ld_unit_zero (S := S64x70) zero2, View.ld_unit_zero (S := S64x256) zero2, View.ld_unit_zero (S := S70x256) zero2, View.ld_unit_zero (S := S1x256) zero2, View.ld_unit_zero (S := S256x256) zero2, View.ld_unit_zero (S := S256x128) zero2, View.ld_unit_zero (S := S1x128) zero2]

/-- The first layer of the launched arguments. -/
def x₀ (c : Dev nD) : A S64x256 :=
  X (concatenate S64x70 1 [⟨S64x64, arg m c main_arg1⟩, ⟨S64x5, arg m c main_arg2⟩, ⟨S64x1, arg m c main_arg3⟩]
        Facts₀.concatenates_S64x64_S64x5_S64x1_S64x70_d1) (arg m c main_arg4) (arg m c main_arg5)

/-- The new state of the launched arguments. -/
def h₀ (c : Dev nD) : A S64x256 :=
  state (arg m c main_arg0) (x₀ m c)
    (gate (x₀ m c) (arg m c main_arg0) (arg m c main_arg6) (arg m c main_arg7) (arg m c main_arg8))
    (gate (x₀ m c) (arg m c main_arg0) (arg m c main_arg9) (arg m c main_arg10) (arg m c main_arg11))
    (arg m c main_arg12) (arg m c main_arg13) (arg m c main_arg14)

/-- The uncertainty of the launched arguments. -/
def u₀ (c : Dev nD) : A S64x1 :=
  unc (h₀ m c) (arg m c main_arg15) (arg m c main_arg16) (arg m c main_arg17) (arg m c main_arg18)

theorem left17 (c : Dev nD) (t : Fin cfg0.N) : (dats m 0 c).after 17 t = h₀ m c := by
  rw [after0_17, out17]
  rw [blk0, blk1, blk2, blk3, blk4, blk5, blk6, blk7, blk8, blk9, blk10, blk11, blk12]
  rw [V0, V1, V2, V3, V4, V_main_arg0, V_main_arg4, V_main_arg6, V_main_arg7, V_main_arg9, V_main_arg10, V_main_arg12, V_main_arg13]
  rw [pay1, pay2, pay3, pay4, pay1]
  rfl

theorem left18 (c : Dev nD) (t : Fin cfg0.N) : (dats m 0 c).after 18 t = u₀ m c := by
  rw [after0_18, out18]
  rw [blk0, blk1, blk2, blk3, blk4, blk5, blk6, blk7, blk8, blk9, blk10, blk11, blk12, blk13, blk14, blk15, blk16]
  rw [V0, V1, V2, V3, V4, V5, V6, V_main_arg0, V_main_arg4, V_main_arg6, V_main_arg7, V_main_arg9, V_main_arg10, V_main_arg12, V_main_arg13, V_main_arg15, V_main_arg17]
  rw [pay5, pay1, pay2, pay3, pay4, pay1]
  rfl

theorem end17 (c : Dev nD) : (dats m 0 c).arrAt 17 cfg0.N = h₀ m c := by
  refine (dats m 0 c).arrAt_eq_of_after_last 17 t0_0 (by decide +kernel) _ fun j => ?_
  rw [left17]
  rfl

theorem end18 (c : Dev nD) : (dats m 0 c).arrAt 18 cfg0.N = u₀ m c := by
  refine (dats m 0 c).arrAt_eq_of_after_last 18 t0_0 (by decide +kernel) _ fun j => ?_
  rw [left18]
  rfl

end Cert.Proof.One

end
-- ==== Proof.DenseOneRef.lean ====
/-
  The reference of the first dense call runs and leaves its arguments as they were.
-/
module

public import proofs.«01_k».proof.Proof.Gen.Reference1Ideal.Run
public import Idealize.ShloMosaic.PureOps.Ideal
public import Idealize.ShloMosaic.Lib.Quiescent
public import Idealize.ShloMosaic.Adequacy
public import Idealize.ShloMosaic.Init

@[expose] public section

set_option maxRecDepth 16384

noncomputable section

namespace Cert.Proof.One.Ref

open Idealize.ShloMosaic Idealize.ShloMosaic.TcCoe Idealize.SL.Sem Cert.Reference1Ideal Cert.Reference1Ideal.Gen

/-- The reference ends, its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0 :=
  (θ_run defs _ _).mono (fun r h => ⟨fun c => (h c).2.2, sem_eq_zero_of_no_sems (by decide) r.2⟩) (Value.run m ρ)

end Cert.Proof.One.Ref

end
-- ==== Proof.DenseOne.lean ====
/-
  The value claim of the first dense call.
-/
module

public import proofs.«01_k».proof.Proof.DenseOneEnd
public import proofs.«01_k».proof.Proof.Gen.Dense1Ideal
public import proofs.«01_k».proof.Proof.DenseOneRef
public import proofs.«01_k».proof.Defs

@[expose] public section

set_option maxRecDepth 16384

noncomputable section

namespace Cert.Proof.One

open Idealize.ShloMosaic Idealize.ShloMosaic.TcCoe Idealize.SL.Sem Cert.Reference1Ideal

/-- The new state, of the arguments. -/
def hOf (x0 : A S64x256) (x1 : A S64x64) (x2 : A S64x5) (x3 : A S64x1) (x4 : A S70x256) (x5 : A S256) (x6 : A S256x256) (x7 : A S256x256) (x8 : A S256) (x9 : A S256x256) (x10 : A S256x256) (x11 : A S256) (x12 : A S256x256) (x13 : A S256x256) (x14 : A S256) : A S64x256 :=
  state x0 (X (concatenate S64x70 1 [⟨S64x64, x1⟩, ⟨S64x5, x2⟩, ⟨S64x1, x3⟩] Facts₀.concatenates_S64x64_S64x5_S64x1_S64x70_d1) x4 x5)
    (gate (X (concatenate S64x70 1 [⟨S64x64, x1⟩, ⟨S64x5, x2⟩, ⟨S64x1, x3⟩] Facts₀.concatenates_S64x64_S64x5_S64x1_S64x70_d1) x4 x5) x0 x6 x7 x8)
    (gate (X (concatenate S64x70 1 [⟨S64x64, x1⟩, ⟨S64x5, x2⟩, ⟨S64x1, x3⟩] Facts₀.concatenates_S64x64_S64x5_S64x1_S64x70_d1) x4 x5) x0 x9 x10 x11)
    x12 x13 x14

theorem hOf_congr {x0 y0 : A S64x256} {x1 y1 : A S64x64} {x2 y2 : A S64x5} {x3 y3 : A S64x1} {x4 y4 : A S70x256} {x5 y5 : A S256} {x6 y6 : A S256x256} {x7 y7 : A S256x256} {x8 y8 : A S256} {x9 y9 : A S256x256} {x10 y10 : A S256x256} {x11 y11 : A S256} {x12 y12 : A S256x256} {x13 y13 : A S256x256} {x14 y14 : A S256} (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) :
    hOf x0 x1 x2 x3 x4 x5 x6 x7 x8 x9 x10 x11 x12 x13 x14 = hOf y0 y1 y2 y3 y4 y5 y6 y7 y8 y9 y10 y11 y12 y13 y14 := by
  subst e0 e1 e2 e3 e4 e5 e6 e7 e8 e9 e10 e11 e12 e13 e14
  rfl

/-- The uncertainty, of the arguments. -/
def uOf (x0 : A S64x256) (x1 : A S64x64) (x2 : A S64x5) (x3 : A S64x1) (x4 : A S70x256) (x5 : A S256) (x6 : A S256x256) (x7 : A S256x256) (x8 : A S256) (x9 : A S256x256) (x10 : A S256x256) (x11 : A S256) (x12 : A S256x256) (x13 : A S256x256) (x14 : A S256) (x15 : A S256x256) (x16 : A S256) (x17 : A S256x128) (x18 : A S128) : A S64x1 :=
  unc (hOf x0 x1 x2 x3 x4 x5 x6 x7 x8 x9 x10 x11 x12 x13 x14) x15 x16 x17 x18

theorem uOf_congr {x0 y0 : A S64x256} {x1 y1 : A S64x64} {x2 y2 : A S64x5} {x3 y3 : A S64x1} {x4 y4 : A S70x256} {x5 y5 : A S256} {x6 y6 : A S256x256} {x7 y7 : A S256x256} {x8 y8 : A S256} {x9 y9 : A S256x256} {x10 y10 : A S256x256} {x11 y11 : A S256} {x12 y12 : A S256x256} {x13 y13 : A S256x256} {x14 y14 : A S256} {x15 y15 : A S256x256} {x16 y16 : A S256} {x17 y17 : A S256x128} {x18 y18 : A S128} (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) :
    uOf x0 x1 x2 x3 x4 x5 x6 x7 x8 x9 x10 x11 x12 x13 x14 x15 x16 x17 x18 = uOf y0 y1 y2 y3 y4 y5 y6 y7 y8 y9 y10 y11 y12 y13 y14 y15 y16 y17 y18 := by
  subst e0 e1 e2 e3 e4 e5 e6 e7 e8 e9 e10 e11 e12 e13 e14 e15 e16 e17 e18
  rfl

/-- The first dense call and its reference, at the extended reals, end with the same results. -/
theorem algebraic : Cert.algebraic_Dense1Ideal_Reference1Ideal := fun m g m' g' _ ha =>
  ⟨fun c => h₀ m c, fun c => u₀ m c,
    (θ_run (Cert.Dense1Ideal.defs (F := Ideal)) _ _).mono (fun r h c => by
      obtain ⟨h1, h2, h3⟩ := h c
      exact ⟨h1.trans (end17 m c), h2.trans (end18 m c), h3⟩) (Cert.Dense1Ideal.Value.run_blocks m g),
    (θ_run (Cert.Reference1Ideal.defs (F := Ideal)) _ _).mono (fun r h c => by
      obtain ⟨h1, h2, h3⟩ := h c
      obtain ⟨a0, a1, a2, a3, a4, a5, a6, a7, a8, a9, a10, a11, a12, a13, a14, a15, a16, a17, a18⟩ := ha c
      exact ⟨h1.trans (hOf_congr a0 a1 a2 a3 a4 a5 a6 a7 a8 a9 a10 a11 a12 a13 a14), h2.trans (uOf_congr a0 a1 a2 a3 a4 a5 a6 a7 a8 a9 a10 a11 a12 a13 a14 a15 a16 a17 a18), h3⟩) (Cert.Reference1Ideal.Value.run m' g')⟩

end Cert.Proof.One

end
-- ==== Proof.DenseTwoStages.lean ====
/-
  The steps of the posterior, the encoding and the context, as the reference writes them.
-/
module

public import proofs.«01_k».proof.Reference2Ideal
public import Idealize.ShloMosaic.Lib.Pointwise

@[expose] public section

set_option maxRecDepth 16384

noncomputable section

namespace Cert.Proof.Two

open Idealize.ShloMosaic Idealize.SL.Sem Cert.Reference2Ideal

/-- A float array at the extended reals. -/
abbrev A (s : Shape) := FVec Ideal s .f32

variable [Cert.Reference2Ideal.Facts]

/-- A bias of 256 entries as 64 equal rows. -/
def bias (b : A S256) : A S64x256 :=
  broadcastInDim S64x256 ![0, 1] Facts₀.bcast_S1x256_S64x256_0_1 (broadcastInDim S1x256 ![1] Facts₀.bcast_S256_S1x256_1 b)

/-- A bias of 128 entries as 64 equal rows. -/
def bias128 (b : A S128) : A S64x128 :=
  broadcastInDim S64x128 ![0, 1] Facts₀.bcast_S1x128_S64x128_0_1 (broadcastInDim S1x128 ![1] Facts₀.bcast_S128_S1x128_1 b)

/-- A bias of 512 entries as 64 equal rows. -/
def bias512 (b : A S512) : A S64x512 :=
  broadcastInDim S64x512 ![0, 1] Facts₀.bcast_S1x512_S64x512_0_1 (broadcastInDim S1x512 ![1] Facts₀.bcast_S512_S1x512_1 b)

/-- The two halves of an array added. -/
def both (x : A S2x64x128) : A S64x128 :=
  Host.reduceAdd x (constant S_ .f32 0x00000000#32) Facts₀.reducesTo_S2x64x128_S64x128_d0 Facts₀.h_S_

/-- The mean of each segment. -/
def agg (cnt : A S64x16) (x : A S2x64x128) : A S64x128 :=
  Host.divf (both x) (broadcastInDim S64x128 ![0, 1] Facts₀.bcast_S64x1_S64x128_0_1 (broadcastInDim S64x1 ![0] Facts₀.bcast_S64_S64x1_0
    (maximumf (Host.reduceAdd cnt (constant S_ .f32 0x00000000#32) Facts₀.reducesTo_S64x16_S64_d1 Facts₀.h_S_)
      (broadcastInDim S64 ![] Facts₀.bcast_S_S64 (constant S_ .f32 0x3F800000#32)))))

/-- The hidden layer of the posterior. -/
def hid (h : A S64x256) (a : A S64x128) (w : A S384x256) (b : A S256) : A S64x256 :=
  maximumf (addf (Host.dotGeneral dot_S64x384_S384x256_S64x256_1_0_0_1_n_n none
    (concatenate S64x384 1 [⟨S64x256, h⟩, ⟨S64x128, a⟩] Facts₀.concatenates_S64x256_S64x128_S64x384_d1) w) (bias b))
    (broadcastInDim S64x256 ![] Facts₀.bcast_S_S64x256 (constant S_ .f32 0x00000000#32))

/-- The mean of the posterior. -/
def mean (q : A S64x256) (w : A S256x128) (b : A S128) : A S64x64 :=
  extractStridedSlice S64x64 ![0, 0] (addf (Host.dotGeneral dot_S64x256_S256x128_S64x128_1_0_0_1_n_n none q w) (bias128 b))
    Facts₀.slices_S64x128_S64x64_0_0

/-- The encoding of the attended sums. -/
def enc (a : A S64x128) (w₁ : A S128x256) (b₁ : A S256) (w₂ : A S256x128) (b₂ : A S128) : A S64x128 :=
  addf (Host.dotGeneral dot_S64x256_S256x128_S64x128_1_0_0_1_n_n none
    (maximumf (addf (Host.dotGeneral dot_S64x128_S128x256_S64x256_1_0_0_1_n_n none a w₁) (bias b₁))
      (broadcastInDim S64x256 ![] Facts₀.bcast_S_S64x256 (constant S_ .f32 0x00000000#32))) w₂) (bias128 b₂)

/-- The context. -/
def ctx (h : A S64x256) (z : A S64x64) (e : A S64x128) (w₁ : A S448x512) (b₁ : A S512) (w₂ : A S512x128) (b₂ : A S128) : A S64x128 :=
  addf (Host.dotGeneral dot_S64x512_S512x128_S64x128_1_0_0_1_n_n none
    (maximumf (addf (Host.dotGeneral dot_S64x448_S448x512_S64x512_1_0_0_1_n_n none
      (concatenate S64x448 1 [⟨S64x256, h⟩, ⟨S64x64, z⟩, ⟨S64x128, e⟩] Facts₀.concatenates_S64x256_S64x64_S64x128_S64x448_d1) w₁) (bias512 b₁))
      (broadcastInDim S64x512 ![] Facts₀.bcast_S_S64x512 (constant S_ .f32 0x00000000#32))) w₂) (bias128 b₂)

end Cert.Proof.Two

end
-- ==== Proof.DenseTwoBody.lean ====
/-
  What the second dense call computes of its blocks, step by step: the steps of the reference.
-/
module

public import proofs.«01_k».proof.Proof.DenseTwoStages
public import proofs.«01_k».proof.Proof.Gen.Dense2Ideal.Frame
public import Idealize.ShloMosaic.Lib.Pointwise

@[expose] public section

set_option maxRecDepth 16384

noncomputable section

namespace Cert.Proof.Two

open Idealize.ShloMosaic Idealize.SL.Sem Cert.Dense2Ideal
open Cert.Dense2Ideal.Gen (k0_pay1 k0_pay2 k0_pay3 k0_pay4 k0_pay5 k0_pay6 k0_pay7 r0_2 r0_3)

variable [Cert.Reference2Ideal.Facts] [Cert.Dense2Ideal.Facts]

theorem pay2 (x : A S2x64x128) : k0_pay2 (F := Ideal) (View.ld x r0_2) (View.ld x r0_3) = both x := by
  funext j
  idx_vars j
  pointwise [k0_pay2, both, Fin.sum_univ_two]

theorem pay3 (h : A S64x256) (cnt : A S64x16) (x : A S2x64x128) (w : A S384x256) (b : A S256) :
    k0_pay3 (F := Ideal) h cnt (View.ld x r0_2) (View.ld x r0_3)
        (extractStridedSlice S256x256 ![0, 0] w Facts₀.slices_S384x256_S256x256_0_0)
        (extractStridedSlice S128x256 ![256, 0] w Facts₀.slices_S384x256_S128x256_256_0)
        (shapeCast S1x256 b Facts₀.shapeCasts_S256_S1x256)
      = hid h (agg cnt x) w b := by
  funext j
  idx_vars j
  pointwise [k0_pay3, hid, agg, both, bias, Fin.sum_univ_two]

theorem pay4 (q : A S64x256) (w : A S256x128) (b : A S128) :
    k0_pay4 (F := Ideal) q w (shapeCast S1x128 b Facts₀.shapeCasts_S128_S1x128) = mean q w b := by
  funext j
  idx_vars j
  pointwise [k0_pay4, mean, bias128]

theorem pay5 (a : A S64x128) (w₁ : A S128x256) (b₁ : A S256) (w₂ : A S256x128) (b₂ : A S128) :
    k0_pay5 (F := Ideal) a w₁ (shapeCast S1x256 b₁ Facts₀.shapeCasts_S256_S1x256) w₂ (shapeCast S1x128 b₂ Facts₀.shapeCasts_S128_S1x128)
      = enc a w₁ b₁ w₂ b₂ := by
  funext j
  idx_vars j
  pointwise [k0_pay5, enc, bias, bias128]

/-- A sum of 448 terms in three parts. -/
theorem sum448 (f : Fin 448 → EReal) : ∑ x, f x
    = ∑ x : Fin 256, f ⟨x, by omega⟩ + ∑ x : Fin 64, f ⟨256 + x, by omega⟩ + ∑ x : Fin 128, f ⟨320 + x, by omega⟩ := by
  rw [show (∑ x, f x) = ∑ x : Fin (256 + 64 + 128), f x from rfl, Fin.sum_univ_add, Fin.sum_univ_add]
  rfl

theorem pay1 (h : A S64x256) (a : A S64x128) (q : A S64x256) (w₃ : A S256x128) (b₃ : A S1x128) (w₄ : A S128x256) (b₄ : A S1x256)
    (w₅ : A S256x128) (b₅ : A S1x128) (w : A S448x512) (b : A S512) (w₂ : A S512x128) (b₂ : A S128) :
    k0_pay1 (F := Ideal) (k0_pay6 (F := Ideal) h a q w₃ b₃ w₄ b₄ w₅ b₅
        (extractStridedSlice S256x512 ![0, 0] w Facts₀.slices_S448x512_S256x512_0_0)
        (extractStridedSlice S64x512 ![256, 0] w Facts₀.slices_S448x512_S64x512_256_0)
        (extractStridedSlice S128x512 ![320, 0] w Facts₀.slices_S448x512_S128x512_320_0))
        (k0_pay7 (F := Ideal) (shapeCast S1x512 b Facts₀.shapeCasts_S512_S1x512)) w₂ (shapeCast S1x128 b₂ Facts₀.shapeCasts_S128_S1x128)
      = ctx h (k0_pay4 (F := Ideal) q w₃ b₃) (k0_pay5 (F := Ideal) a w₄ b₄ w₅ b₅) w b w₂ b₂ := by
  unfold k0_pay6
  generalize k0_pay4 (F := Ideal) q w₃ b₃ = z
  generalize k0_pay5 (F := Ideal) a w₄ b₄ w₅ b₅ = e
  funext j
  idx_vars j
  pointwise [k0_pay1, k0_pay7, ctx, bias512, bias128]
  refine congrArg (· + _) (Finset.sum_congr rfl fun x _ => congrArg (fun s => max (s + _) 0 * _) ?_)
  rw [sum448]
  refine congrArg₂ (· + ·) (congrArg₂ (· + ·) ?_ ?_) ?_
  · refine Finset.sum_congr rfl fun k _ => ?_
    rw [dif_pos (show (k : ℕ) < 256 from k.2)]
  · refine Finset.sum_congr rfl fun k _ => ?_
    rw [dif_neg (show ¬ 256 + (k : ℕ) < 256 by omega), dif_pos (show 256 + (k : ℕ) - 256 < 64 by omega)]
    refine congrArg (fun t => z (ix2 j0 t) * _) (Fin.ext ?_)
    show (k : ℕ) = 256 + (k : ℕ) - 256
    omega
  · refine Finset.sum_congr rfl fun k _ => ?_
    rw [dif_neg (show ¬ 320 + (k : ℕ) < 256 by omega), dif_neg (show ¬ 320 + (k : ℕ) - 256 < 64 by omega)]
    refine congrArg (fun t => e (ix2 j0 t) * _) (Fin.ext ?_)
    show (k : ℕ) = 320 + (k : ℕ) - 256 - 64
    omega

end Cert.Proof.Two

end
-- ==== Proof.DenseTwoEnd.lean ====
/-
  What the second dense call leaves in its three results, at the extended reals.
-/
module

public import proofs.«01_k».proof.Proof.DenseTwoBody
public import proofs.«01_k».proof.Proof.Gen.Dense2Ideal.Value
public import Idealize.ShloMosaic.Lib.Pipeline.ValueKit

@[expose] public section

set_option maxRecDepth 16384

noncomputable section

namespace Cert.Proof.Two

open Idealize.ShloMosaic Idealize.ShloMosaic.TcCoe Idealize.SL.Sem Cert.Dense2Ideal Cert.Dense2Ideal.Gen
open Idealize.ShloMosaic.Pipeline (Dat)

variable [Cert.Reference2Ideal.Facts] [Cert.Dense2Ideal.Facts]
variable (m : (ℓ : Loc nD τ sig) → Buf (Elt Ideal) ℓ)

/-- An argument as launched. -/
abbrev arg (c : Dev nD) (b : Ref sig .tc) : Buf (Elt Ideal) ((c : Thread nD τ).loc b) := m ((c : Thread nD τ).loc b)

theorem blk0 (c : Dev nD) (t : Fin cfg0.N) : iblk m c 0 t = V m c main_arg0 := by
  unfold iblk
  exact Memref.read_access_unit_zero (Elt Ideal) main_arg0 (funext fun a => Nat.zero_mul _) (fun a => by simp) _

theorem blk1 (c : Dev nD) (t : Fin cfg0.N) : iblk m c 1 t = V m c main_arg1 := by
  unfold iblk
  exact Memref.read_access_unit_zero (Elt Ideal) main_arg1 (funext fun a => Nat.zero_mul _) (fun a => by simp) _

theorem blk2 (c : Dev nD) (t : Fin cfg0.N) : iblk m c 2 t = V m c main_arg2 := by
  unfold iblk
  exact Memref.read_access_unit_zero (Elt Ideal) main_arg2 (funext fun a => Nat.zero_mul _) (fun a => by simp) _

theorem blk3 (c : Dev nD) (t : Fin cfg0.N) : iblk m c 3 t = V m c main_arg3 := by
  unfold iblk
  exact Memref.read_access_unit_zero (Elt Ideal) main_arg3 (funext fun a => Nat.zero_mul _) (fun a => by simp) _

theorem blk4 (c : Dev nD) (t : Fin cfg0.N) : iblk m c 4 t = V m c main_v0 := by
  unfold iblk
  exact Memref.read_access_unit_zero (Elt Ideal) main_v0 (funext fun a => Nat.zero_mul _) (fun a => by simp) _

theorem blk5 (c : Dev nD) (t : Fin cfg0.N) : iblk m c 5 t = V m c main_v1 := by
  unfold iblk
  exact Memref.read_access_unit_zero (Elt Ideal) main_v1 (funext fun a => Nat.zero_mul _) (fun a => by simp) _

theorem blk6 (c : Dev nD) (t : Fin cfg0.N) : iblk m c 6 t = V m c main_v2 := by
  unfold iblk
  exact Memref.read_access_unit_zero (Elt Ideal) main_v2 (funext fun a => Nat.zero_mul _) (fun a => by simp) _

theorem blk7 (c : Dev nD) (t : Fin cfg0.N) : iblk m c 7 t = V m c main_arg6 := by
  unfold iblk
  exact Memref.read_access_unit_zero (Elt Ideal) main_arg6 (funext fun a => Nat.zero_mul _) (fun a => by simp) _

theorem blk8 (c : Dev nD) (t : Fin cfg0.N) : iblk m c 8 t = V m c main_v3 := by
  unfold iblk
  exact Memref.read_access_unit_zero (Elt Ideal) main_v3 (funext fun a => Nat.zero_mul _) (fun a => by simp) _

theorem blk9 (c : Dev nD) (t : Fin cfg0.N) : iblk m c 9 t = V m c main_arg8 := by
  unfold iblk
  exact Memref.read_access_unit_zero (Elt Ideal) main_arg8 (funext fun a => Nat.zero_mul _) (fun a => by simp) _

theorem blk10 (c : Dev nD) (t : Fin cfg0.N) : iblk m c 10 t = V m c main_v4 := by
  unfold iblk
  exact Memref.read_access_unit_zero (Elt Ideal) main_v4 (funext fun a => Nat.zero_mul _) (fun a => by simp) _

theorem blk11 (c : Dev nD) (t : Fin cfg0.N) : iblk m c 11 t = V m c main_arg10 := by
  unfold iblk
  exact Memref.read_access_unit_zero (Elt Ideal) main_arg10 (funext fun a => Nat.zero_mul _) (fun a => by simp) _

theorem blk12 (c : Dev nD) (t : Fin cfg0.N) : iblk m c 12 t = V m c main_v5 := by
  unfold iblk
  exact Memref.read_access_unit_zero (Elt Ideal) main_v5 (funext fun a => Nat.zero_mul _) (fun a => by simp) _

theorem blk13 (c : Dev nD) (t : Fin cfg0.N) : iblk m c 13 t = V m c main_v6 := by
  unfold iblk
  exact Memref.read_access_unit_zero (Elt Ideal) main_v6 (funext fun a => Nat.zero_mul _) (fun a => by simp) _

theorem blk14 (c : Dev nD) (t : Fin cfg0.N) : iblk m c 14 t = V m c main_v7 := by
  unfold iblk
  exact Memref.read_access_unit_zero (Elt Ideal) main_v7 (funext fun a => Nat.zero_mul _) (fun a => by simp) _

theorem blk15 (c : Dev nD) (t : Fin cfg0.N) : iblk m c 15 t = V m c main_v8 := by
  unfold iblk
  exact Memref.read_access_unit_zero (Elt Ideal) main_v8 (funext fun a => Nat.zero_mul _) (fun a => by simp) _

theorem blk16 (c : Dev nD) (t : Fin cfg0.N) : iblk m c 16 t = V m c main_v9 := by
  unfold iblk
  exact Memref.read_access_unit_zero (Elt Ideal) main_v9 (funext fun a => Nat.zero_mul _) (fun a => by simp) _

theorem blk17 (c : Dev nD) (t : Fin cfg0.N) : iblk m c 17 t = V m c main_arg14 := by
  unfold iblk
  exact Memref.read_access_unit_zero (Elt Ideal) main_arg14 (funext fun a => Nat.zero_mul _) (fun a => by simp) _

theorem blk18 (c : Dev nD) (t : Fin cfg0.N) : iblk m c 18 t = V m c main_v10 := by
  unfold iblk
  exact Memref.read_access_unit_zero (Elt Ideal) main_v10 (funext fun a => Nat.zero_mul _) (fun a => by simp) _

theorem V0 (c : Dev nD) : V m c main_v0 = extractStridedSlice S256x256 ![0, 0] (arg m c main_arg4) Facts₀.slices_S384x256_S256x256_0_0 := by
  unfold V hostOps0
  after_results_simp <;> rfl

theorem V1 (c : Dev nD) : V m c main_v1 = extractStridedSlice S128x256 ![256, 0] (arg m c main_arg4) Facts₀.slices_S384x256_S128x256_256_0 := by
  unfold V hostOps0
  after_results_simp <;> rfl

theorem V2 (c : Dev nD) : V m c main_v2 = shapeCast S1x256 (arg m c main_arg5) Facts₀.shapeCasts_S256_S1x256 := by
  unfold V hostOps0
  after_results_simp <;> rfl

theorem V3 (c : Dev nD) : V m c main_v3 = shapeCast S1x128 (arg m c main_arg7) Facts₀.shapeCasts_S128_S1x128 := by
  unfold V hostOps0
  after_results_simp <;> rfl

theorem V4 (c : Dev nD) : V m c main_v4 = shapeCast S1x256 (arg m c main_arg9) Facts₀.shapeCasts_S256_S1x256 := by
  unfold V hostOps0
  after_results_simp <;> rfl

theorem V5 (c : Dev nD) : V m c main_v5 = shapeCast S1x128 (arg m c main_arg11) Facts₀.shapeCasts_S128_S1x128 := by
  unfold V hostOps0
  after_results_simp <;> rfl

theorem V6 (c : Dev nD) : V m c main_v6 = extractStridedSlice S256x512 ![0, 0] (arg m c main_arg12) Facts₀.slices_S448x512_S256x512_0_0 := by
  unfold V hostOps0
  after_results_simp <;> rfl

theorem V7 (c : Dev nD) : V m c main_v7 = extractStridedSlice S64x512 ![256, 0] (arg m c main_arg12) Facts₀.slices_S448x512_S64x512_256_0 := by
  unfold V hostOps0
  after_results_simp <;> rfl

theorem V8 (c : Dev nD) : V m c main_v8 = extractStridedSlice S128x512 ![320, 0] (arg m c main_arg12) Facts₀.slices_S448x512_S128x512_320_0 := by
  unfold V hostOps0
  after_results_simp <;> rfl

theorem V9 (c : Dev nD) : V m c main_v9 = shapeCast S1x512 (arg m c main_arg13) Facts₀.shapeCasts_S512_S1x512 := by
  unfold V hostOps0
  after_results_simp <;> rfl

theorem V10 (c : Dev nD) : V m c main_v10 = shapeCast S1x128 (arg m c main_arg15) Facts₀.shapeCasts_S128_S1x128 := by
  unfold V hostOps0
  after_results_simp <;> rfl

theorem zero2 : (![0, 0] : Fin 2 → ℕ) = fun _ => 0 :=
  funext fun a => by fin_cases a <;> rfl

theorem out19 (x0 : A S64x256) (x1 : A S64x16) (x2 : A S2x64x128) (x3 : A S2x64x128) (x4 : A S256x256) (x5 : A S128x256) (x6 : A S1x256) (x7 : A S256x128) (x8 : A S1x128) (x9 : A S128x256) (x10 : A S1x256) (x11 : A S256x128) (x12 : A S1x128) (x13 : A S256x512) (x14 : A S64x512) (x15 : A S128x512) (x16 : A S1x512) (x17 : A S512x128) (x18 : A S1x128) :
    out0_19 (F := Ideal) x0 x1 x2 x3 x4 x5 x6 x7 x8 x9 x10 x11 x12 x13 x14 x15 x16 x17 x18
      = k0_pay4 (F := Ideal) (k0_pay3 (F := Ideal) x0 x1 (View.ld x2 r0_2) (View.ld x2 r0_3) x4 x5 x6) x7 x8 := by
  unfold_out out0_19
  rw [View.canon_unit_zero zero2]
  simp only [View.ld_unit_zero (S := S64x256) zero2, View.ld_unit_zero (S := S64x16) zero2, View.ld_unit_zero (S := S256x256) zero2, View.ld_unit_zero (S := S128x256) zero2, View.ld_unit_zero (S := S1x256) zero2, View.ld_unit_zero (S := S256x128) zero2, View.ld_unit_zero (S := S1x128) zero2, View.ld_unit_zero (S := S256x512) zero2, View.ld_unit_zero (S := S64x512) zero2, View.ld_unit_zero (S := S128x512) zero2, View.ld_unit_zero (S := S1x512) zero2, View.ld_unit_zero (S := S512x128) zero2]

theorem out20 (x0 : A S64x256) (x1 : A S64x16) (x2 : A S2x64x128) (x3 : A S2x64x128) (x4 : A S256x256) (x5 : A S128x256) (x6 : A S1x256) (x7 : A S256x128) (x8 : A S1x128) (x9 : A S128x256) (x10 : A S1x256) (x11 : A S256x128) (x12 : A S1x128) (x13 : A S256x512) (x14 : A S64x512) (x15 : A S128x512) (x16 : A S1x512) (x17 : A S512x128) (x18 : A S1x128) :
    out0_20 (F := Ideal) x0 x1 x2 x3 x4 x5 x6 x7 x8 x9 x10 x11 x12 x13 x14 x15 x16 x17 x18
      = k0_pay5 (F := Ideal) (k0_pay2 (F := Ideal) (View.ld x3 r0_2) (View.ld x3 r0_3)) x9 x10 x11 x12 := by
  unfold_out out0_20
  rw [View.canon_unit_zero zero2]
  simp only [View.ld_unit_zero (S := S64x256) zero2, View.ld_unit_zero (S := S64x16) zero2, View.ld_unit_zero (S := S256x256) zero2, View.ld_unit_zero (S := S128x256) zero2, View.ld_unit_zero (S := S1x256) zero2, View.ld_unit_zero (S := S256x128) zero2, View.ld_unit_zero (S := S1x128) zero2, View.ld_unit_zero (S := S256x512) zero2, View.ld_unit_zero (S := S64x512) zero2, View.ld_unit_zero (S := S128x512) zero2, View.ld_unit_zero (S := S1x512) zero2, View.ld_unit_zero (S := S512x128) zero2]

theorem out21 (x0 : A S64x256) (x1 : A S64x16) (x2 : A S2x64x128) (x3 : A S2x64x128) (x4 : A S256x256) (x5 : A S128x256) (x6 : A S1x256) (x7 : A S256x128) (x8 : A S1x128) (x9 : A S128x256) (x10 : A S1x256) (x11 : A S256x128) (x12 : A S1x128) (x13 : A S256x512) (x14 : A S64x512) (x15 : A S128x512) (x16 : A S1x512) (x17 : A S512x128) (x18 : A S1x128) :
    out0_21 (F := Ideal) x0 x1 x2 x3 x4 x5 x6 x7 x8 x9 x10 x11 x12 x13 x14 x15 x16 x17 x18
      = k0_pay1 (F := Ideal) (k0_pay6 (F := Ideal) x0 (k0_pay2 (F := Ideal) (View.ld x3 r0_2) (View.ld x3 r0_3)) (k0_pay3 (F := Ideal) x0 x1 (View.ld x2 r0_2) (View.ld x2 r0_3) x4 x5 x6) x7 x8 x9 x10 x11 x12 x13 x14 x15) (k0_pay7 (F := Ideal) x16) x17 x18 := by
  unfold_out out0_21
  rw [View.canon_unit_zero zero2]
  simp only [View.ld_unit_zero (S := S64x256) zero2, View.ld_unit_zero (S := S64x16) zero2, View.ld_unit_zero (S := S256x256) zero2, View.ld_unit_zero (S := S128x256) zero2, View.ld_unit_zero (S := S1x256) zero2, View.ld_unit_zero (S := S256x128) zero2, View.ld_unit_zero (S := S1x128) zero2, View.ld_unit_zero (S := S256x512) zero2, View.ld_unit_zero (S := S64x512) zero2, View.ld_unit_zero (S := S128x512) zero2, View.ld_unit_zero (S := S1x512) zero2, View.ld_unit_zero (S := S512x128) zero2]

/-- The posterior's hidden layer of the launched arguments. -/
def q₀ (c : Dev nD) : A S64x256 :=
  hid (arg m c main_arg0) (agg (arg m c main_arg1) (arg m c main_arg2)) (arg m c main_arg4) (arg m c main_arg5)

/-- The posterior's mean of the launched arguments. -/
def z₀ (c : Dev nD) : A S64x64 := mean (q₀ m c) (arg m c main_arg6) (arg m c main_arg7)

/-- The encoding of the launched arguments. -/
def e₀ (c : Dev nD) : A S64x128 :=
  enc (both (arg m c main_arg3)) (arg m c main_arg8) (arg m c main_arg9) (arg m c main_arg10) (arg m c main_arg11)

/-- The context of the launched arguments. -/
def c₀ (c : Dev nD) : A S64x128 :=
  ctx (arg m c main_arg0) (z₀ m c) (e₀ m c) (arg m c main_arg12) (arg m c main_arg13) (arg m c main_arg14) (arg m c main_arg15)

theorem left19 (c : Dev nD) (t : Fin cfg0.N) : (dats m 0 c).after 19 t = z₀ m c := by
  rw [after0_19, out19]
  rw [blk0, blk1, blk2, blk4, blk5, blk6, blk7, blk8]
  rw [V0, V1, V2, V3, V_main_arg0, V_main_arg1, V_main_arg2, V_main_arg6]
  rw [pay3, pay4]
  rfl

theorem left20 (c : Dev nD) (t : Fin cfg0.N) : (dats m 0 c).after 20 t = e₀ m c := by
  rw [after0_20, out20]
  rw [blk3, blk9, blk10, blk11, blk12]
  rw [V4, V5, V_main_arg3, V_main_arg8, V_main_arg10]
  rw [pay2, pay5]
  rfl

theorem left21 (c : Dev nD) (t : Fin cfg0.N) : (dats m 0 c).after 21 t = c₀ m c := by
  rw [after0_21, out21]
  rw [blk0, blk1, blk2, blk3, blk4, blk5, blk6, blk7, blk8, blk9, blk10, blk11, blk12, blk13, blk14, blk15, blk16, blk17, blk18]
  rw [V0, V1, V2, V3, V4, V5, V6, V7, V8, V9, V10, V_main_arg0, V_main_arg1, V_main_arg2, V_main_arg3, V_main_arg6, V_main_arg8, V_main_arg10, V_main_arg14]
  rw [pay1, pay2, pay3, pay4, pay5]
  rfl

theorem end19 (c : Dev nD) : (dats m 0 c).arrAt 19 cfg0.N = z₀ m c := by
  refine (dats m 0 c).arrAt_eq_of_after_last 19 t0_0 (by decide +kernel) _ fun j => ?_
  rw [left19]
  rfl

theorem end20 (c : Dev nD) : (dats m 0 c).arrAt 20 cfg0.N = e₀ m c := by
  refine (dats m 0 c).arrAt_eq_of_after_last 20 t0_0 (by decide +kernel) _ fun j => ?_
  rw [left20]
  rfl

theorem end21 (c : Dev nD) : (dats m 0 c).arrAt 21 cfg0.N = c₀ m c := by
  refine (dats m 0 c).arrAt_eq_of_after_last 21 t0_0 (by decide +kernel) _ fun j => ?_
  rw [left21]
  rfl

end Cert.Proof.Two

end
-- ==== Proof.DenseTwoRef.lean ====
/-
  The reference of the second dense call runs and leaves its arguments as they were.
-/
module

public import proofs.«01_k».proof.Proof.Gen.Reference2Ideal.Run
public import Idealize.ShloMosaic.PureOps.Ideal
public import Idealize.ShloMosaic.Lib.Quiescent
public import Idealize.ShloMosaic.Adequacy
public import Idealize.ShloMosaic.Init

@[expose] public section

set_option maxRecDepth 16384

noncomputable section

namespace Cert.Proof.Two.Ref

open Idealize.ShloMosaic Idealize.ShloMosaic.TcCoe Idealize.SL.Sem Cert.Reference2Ideal Cert.Reference2Ideal.Gen

/-- The reference ends, its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0 :=
  (θ_run defs _ _).mono (fun r h => ⟨fun c => (h c).2.2.2, sem_eq_zero_of_no_sems (by decide) r.2⟩) (Value.run m ρ)

end Cert.Proof.Two.Ref

end
-- ==== Proof.DenseTwo.lean ====
/-
  The value claim of the second dense call.
-/
module

public import proofs.«01_k».proof.Proof.DenseTwoEnd
public import proofs.«01_k».proof.Proof.Gen.Dense2Ideal
public import proofs.«01_k».proof.Proof.DenseTwoRef
public import proofs.«01_k».proof.Defs

@[expose] public section

set_option maxRecDepth 16384

noncomputable section

namespace Cert.Proof.Two

open Idealize.ShloMosaic Idealize.ShloMosaic.TcCoe Idealize.SL.Sem Cert.Reference2Ideal

/-- The posterior's mean, of the arguments. -/
def zOf (x0 : A S64x256) (x1 : A S64x16) (x2 : A S2x64x128) (x4 : A S384x256) (x5 : A S256) (x6 : A S256x128) (x7 : A S128) : A S64x64 :=
  mean (hid x0 (agg x1 x2) x4 x5) x6 x7

theorem zOf_congr {x0 y0 : A S64x256} {x1 y1 : A S64x16} {x2 y2 : A S2x64x128} {x4 y4 : A S384x256} {x5 y5 : A S256} {x6 y6 : A S256x128} {x7 y7 : A S128} (e0 : x0 = y0) (e1 : x1 = y1) (e2 : x2 = y2) (e4 : x4 = y4) (e5 : x5 = y5) (e6 : x6 = y6) (e7 : x7 = y7) :
    zOf x0 x1 x2 x4 x5 x6 x7 = zOf y0 y1 y2 y4 y5 y6 y7 := by
  subst e0 e1 e2 e4 e5 e6 e7
  rfl

/-- The encoding, of the arguments. -/
def eOf (x3 : A S2x64x128) (x8 : A S128x256) (x9 : A S256) (x10 : A S256x128) (x11 : A S128) : A S64x128 :=
  enc (both x3) x8 x9 x10 x11

theorem eOf_congr {x3 y3 : A S2x64x128} {x8 y8 : A S128x256} {x9 y9 : A S256} {x10 y10 : A S256x128} {x11 y11 : A S128} (e3 : x3 = y3) (e8 : x8 = y8) (e9 : x9 = y9) (e10 : x10 = y10) (e11 : x11 = y11) :
    eOf x3 x8 x9 x10 x11 = eOf y3 y8 y9 y10 y11 := by
  subst e3 e8 e9 e10 e11
  rfl

/-- The context, of the arguments. -/
def cOf (x0 : A S64x256) (x1 : A S64x16) (x2 : A S2x64x128) (x3 : A S2x64x128) (x4 : A S384x256) (x5 : A S256) (x6 : A S256x128) (x7 : A S128) (x8 : A S128x256) (x9 : A S256) (x10 : A S256x128) (x11 : A S128) (x12 : A S448x512) (x13 : A S512) (x14 : A S512x128) (x15 : A S128) : A S64x128 :=
  ctx x0 (zOf x0 x1 x2 x4 x5 x6 x7) (eOf x3 x8 x9 x10 x11) x12 x13 x14 x15

theorem cOf_congr {x0 y0 : A S64x256} {x1 y1 : A S64x16} {x2 y2 : A S2x64x128} {x3 y3 : A S2x64x128} {x4 y4 : A S384x256} {x5 y5 : A S256} {x6 y6 : A S256x128} {x7 y7 : A S128} {x8 y8 : A S128x256} {x9 y9 : A S256} {x10 y10 : A S256x128} {x11 y11 : A S128} {x12 y12 : A S448x512} {x13 y13 : A S512} {x14 y14 : A S512x128} {x15 y15 : A S128} (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) :
    cOf x0 x1 x2 x3 x4 x5 x6 x7 x8 x9 x10 x11 x12 x13 x14 x15 = cOf y0 y1 y2 y3 y4 y5 y6 y7 y8 y9 y10 y11 y12 y13 y14 y15 := by
  subst e0 e1 e2 e3 e4 e5 e6 e7 e8 e9 e10 e11 e12 e13 e14 e15
  rfl

/-- The second dense call and its reference, at the extended reals, end with the same results. -/
theorem algebraic : Cert.algebraic_Dense2Ideal_Reference2Ideal := fun m g m' g' _ ha =>
  ⟨fun c => z₀ m c, fun c => c₀ m c, fun c => e₀ m c,
    (θ_run (Cert.Dense2Ideal.defs (F := Ideal)) _ _).mono (fun r h c => by
      obtain ⟨h1, h2, h3, h4⟩ := h c
      exact ⟨h1.trans (end19 m c), h3.trans (end21 m c), h2.trans (end20 m c), h4⟩) (Cert.Dense2Ideal.Value.run_blocks m g),
    (θ_run (Cert.Reference2Ideal.defs (F := Ideal)) _ _).mono (fun r h c => by
      obtain ⟨h1, h2, h3, h4⟩ := h c
      obtain ⟨a0, a1, a2, a3, a4, a5, a6, a7, a8, a9, a10, a11, a12, a13, a14, a15⟩ := ha c
      exact ⟨h1.trans (zOf_congr a0 a1 a2 a4 a5 a6 a7), h2.trans (cOf_congr a0 a1 a2 a3 a4 a5 a6 a7 a8 a9 a10 a11 a12 a13 a14 a15), h3.trans (eOf_congr a3 a8 a9 a10 a11), h4⟩) (Cert.Reference2Ideal.Value.run m' g')⟩

end Cert.Proof.Two

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_sorted_segments
public import proofs.«01_k».proof.Proof.Algebra
public import proofs.«01_k».proof.Proof.Gen.Dense1.Frame
public import proofs.«01_k».proof.Proof.Gen.Dense1Ideal.Frame
public import proofs.«01_k».proof.Proof.Gen.Dense2.Frame
public import proofs.«01_k».proof.Proof.Gen.Dense2Ideal.Frame
public import proofs.«01_k».proof.Proof.DenseOne
public import proofs.«01_k».proof.Proof.DenseTwo
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Dense1.Gen.facts, Cert.Dense1Ideal.Gen.facts,
  Cert.Reference1Ideal.Gen.facts, Cert.Dense2.Gen.facts, Cert.Dense2Ideal.Gen.facts, Cert.Reference2Ideal.Gen.facts, Cert.Pre_sorted_segments.Gen.facts,
  Seg.frame_kernel, Seg.frame_ideal, fun m g _ => Ref.frame m g, fun m g _ => Ref.frame m g,
  fun m g _ => Cert.Dense1.Gen.frame m g, fun m g _ => Cert.Dense1Ideal.Gen.frame m g, fun m g _ => One.Ref.frame m g,
  fun m g _ => Cert.Dense2.Gen.frame m g, fun m g _ => Cert.Dense2Ideal.Gen.frame m g, fun m g _ => Two.Ref.frame m g,
  trivial, Seg.algebraic, trivial, One.algebraic, trivial, Two.algebraic⟩

end Cert.Proof

end
